-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x16x4096x128 : Shape := ⟨4, ![1, 16, 4096, 128]⟩
abbrev S64x6 : Shape := ⟨2, ![64, 6]⟩
abbrev S_ : Shape := ⟨0, ![]⟩

class Facts : Prop where
  bcast_S_S1x16x4096x128 : S_.BroadcastsInDim S1x16x4096x128 (![] : Fin 0 → Fin S1x16x4096x128.rank)
  reducesTo_S1x16x4096x128_S_d0_1_2_3 : S1x16x4096x128.ReducesTo [0, 1, 2, 3] S_
  h_S_ : 0 < S_.numel

variable [Facts]

def fn {F : FTy → Type} [FloatOps F] (main_arg0 : FVec F S1x16x4096x128 .f32) (main_arg1 : FVec F S1x16x4096x128 .f32) (main_arg2 : FVec F S1x16x4096x128 .f32) (main_arg3 : IVec S64x6 32) : IVec S_ 1 :=
  let main_v0 : FVec F S1x16x4096x128 .f32 := Host.absf main_arg0
  let main_cst : FVec F S_ .f32 := constant S_ .f32 0x7F800000#32
  let main_v1 : FVec F S1x16x4096x128 .f32 := broadcastInDim S1x16x4096x128 ![] bcast_S_S1x16x4096x128 main_cst
  let main_v2 : IVec S1x16x4096x128 1 := cmpf .olt main_v0 main_v1
  let main_c : IVec S_ 1 := constantI S_ 1 1#1
  let main_v3 : IVec S_ 1 := (fun x v => Host.reduce IntOp.andi x v reducesTo_S1x16x4096x128_S_d0_1_2_3 h_S_) main_v2 main_c
  let main_v4 : FVec F S1x16x4096x128 .f32 := Host.absf main_arg1
  let main_cst_0 : FVec F S_ .f32 := constant S_ .f32 0x7F800000#32
  let main_v5 : FVec F S1x16x4096x128 .f32 := broadcastInDim S1x16x4096x128 ![] bcast_S_S1x16x4096x128 main_cst_0
  let main_v6 : IVec S1x16x4096x128 1 := cmpf .olt main_v4 main_v5
  let main_c_1 : IVec S_ 1 := constantI S_ 1 1#1
  let main_v7 : IVec S_ 1 := (fun x v => Host.reduce IntOp.andi x v reducesTo_S1x16x4096x128_S_d0_1_2_3 h_S_) main_v6 main_c_1
  let main_v8 : IVec S_ 1 := andi main_v3 main_v7
  main_v8
-- ==== Kernel.lean ====
abbrev S1x16x4096x128 : Shape := ⟨4, ![1, 16, 4096, 128]⟩
abbrev S64x6 : Shape := ⟨2, ![64, 6]⟩
abbrev S1x1x4096x128 : Shape := ⟨4, ![1, 1, 4096, 128]⟩
abbrev S4096x128 : Shape := ⟨2, ![4096, 128]⟩
abbrev S4096x64 : Shape := ⟨2, ![4096, 64]⟩
abbrev S64x128 : Shape := ⟨2, ![64, 128]⟩
abbrev S64x4096 : Shape := ⟨2, ![64, 4096]⟩
abbrev S64 : Shape := ⟨1, ![64]⟩
abbrev S64x1 : Shape := ⟨2, ![64, 1]⟩
abbrev S1x1x64x128 : Shape := ⟨4, ![1, 1, 64, 128]⟩
abbrev S1x1 : Shape := ⟨2, ![1, 1]⟩
abbrev S128x128 : Shape := ⟨2, ![128, 128]⟩
abbrev S128 : Shape := ⟨1, ![128]⟩
abbrev S1x128 : Shape := ⟨2, ![1, 128]⟩
abbrev S64x64 : Shape := ⟨2, ![64, 64]⟩

abbrev nBuf : Space → Nat
  | .hbm => 5
  | .vmem => 13
  | .smem => 1
  | _ => 0

abbrev bufTy : (tb : Table) → Fin (tcTables nBuf tb) → BufTy
  | .hbm, ⟨0, _⟩ => ⟨S1x16x4096x128, .f32⟩
  | .hbm, ⟨1, _⟩ => ⟨S1x16x4096x128, .f32⟩
  | .hbm, ⟨2, _⟩ => ⟨S1x16x4096x128, .f32⟩
  | .hbm, ⟨3, _⟩ => ⟨S64x6, .i32⟩
  | .hbm, ⟨4, _⟩ => ⟨S1x16x4096x128, .f32⟩
  | .local _ .vmem, ⟨0, _⟩ => ⟨S1x1x4096x128, .f32⟩
  | .local _ .vmem, ⟨1, _⟩ => ⟨S1x1x4096x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S1x1x4096x128, .f32⟩
  | .local _ .vmem, ⟨5, _⟩ => ⟨S1x1x4096x128, .f32⟩
  | .local _ .vmem, ⟨6, _⟩ => ⟨S1x1x4096x128, .f32⟩
  | .local _ .vmem, ⟨7, _⟩ => ⟨S1x1x4096x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x64, .bf16⟩
  | .local _ .vmem, ⟨12, _⟩ => ⟨S4096x128, .f32⟩
  | .local _ .smem, ⟨0, _⟩ => ⟨S64x6, .i32⟩
  | _, _ => ⟨S1x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def k0_off1 (v47 : BitVec 32) : Fin 2 → Nat :=
  let c63_i32 : BitVec 32 := 63#32
  let c0_i32 : BitVec 32 := 0#32
  let v48 : BitVec 32 := Scalar.maxsi c0_i32 v47
  let v49 : BitVec 32 := Scalar.minsi c63_i32 v48
  let c64_i32 : BitVec 32 := 64#32
  let v52 : BitVec 32 := Scalar.muli v49 c64_i32
  let v84 : Index := Scalar.indexCast v52
  let c0_82 : Index := 0#32
  ![v84.toNat, 0]

def k0_off2 (v53 : BitVec 32) : Fin 2 → Nat :=
  let c63_i32_48 : BitVec 32 := 63#32
  let c0_i32_47 : BitVec 32 := 0#32
  let v54 : BitVec 32 := Scalar.maxsi c0_i32_47 v53
  let v55 : BitVec 32 := Scalar.minsi c63_i32_48 v54
  let c64_i32_52 : BitVec 32 := 64#32
  let v58 : BitVec 32 := Scalar.muli v55 c64_i32_52
  let v86 : Index := Scalar.indexCast v58
  let c0_83 : Index := 0#32
  ![v86.toNat, 0]

def k0_off3 (v59 : BitVec 32) : Fin 2 → Nat :=
  let c63_i32_55 : BitVec 32 := 63#32
  let c0_i32_54 : BitVec 32 := 0#32
  let v60 : BitVec 32 := Scalar.maxsi c0_i32_54 v59
  let v61 : BitVec 32 := Scalar.minsi c63_i32_55 v60
  let c64_i32_59 : BitVec 32 := 64#32
  let v64 : BitVec 32 := Scalar.muli v61 c64_i32_59
  let v96 : Index := Scalar.indexCast v64
  let c0_85 : Index := 0#32
  ![v96.toNat, 0]

def k0_off4 (v65 : BitVec 32) : Fin 2 → Nat :=
  let c63_i32_62 : BitVec 32 := 63#32
  let c0_i32_61 : BitVec 32 := 0#32
  let v66 : BitVec 32 := Scalar.maxsi c0_i32_61 v65
  let v67 : BitVec 32 := Scalar.minsi c63_i32_62 v66
  let c64_i32_66 : BitVec 32 := 64#32
  let v70 : BitVec 32 := Scalar.muli v67 c64_i32_66
  let v98 : Index := Scalar.indexCast v70
  let c0_86 : Index := 0#32
  ![v98.toNat, 0]

def k0_off5 (v71 : BitVec 32) : Fin 2 → Nat :=
  let c63_i32_69 : BitVec 32 := 63#32
  let c0_i32_68 : BitVec 32 := 0#32
  let v72 : BitVec 32 := Scalar.maxsi c0_i32_68 v71
  let v73 : BitVec 32 := Scalar.minsi c63_i32_69 v72
  let c64_i32_73 : BitVec 32 := 64#32
  let v76 : BitVec 32 := Scalar.muli v73 c64_i32_73
  let v108 : Index := Scalar.indexCast v76
  let c0_88 : Index := 0#32
  ![v108.toNat, 0]

def k0_off6 (v77 : BitVec 32) : Fin 2 → Nat :=
  let c63_i32_76 : BitVec 32 := 63#32
  let c0_i32_75 : BitVec 32 := 0#32
  let v78 : BitVec 32 := Scalar.maxsi c0_i32_75 v77
  let v79 : BitVec 32 := Scalar.minsi c63_i32_76 v78
  let c64_i32_80 : BitVec 32 := 64#32
  let v82 : BitVec 32 := Scalar.muli v79 c64_i32_80
  let v110 : Index := Scalar.indexCast v82
  let c0_89 : Index := 0#32
  ![v110.toNat, 0]

def k0_chk6 (v77 : BitVec 32) : Prop :=
  (∀ a, (k0_off6 v77) a + S64x128.size a ≤ S4096x128.size a)
theorem k0_off6_inb : ∀ (v77 : BitVec 32) (k0_hw6 : k0_chk6 v77), ∀ a, (k0_off6 v77) a + S64x128.size a ≤ S4096x128.size a := fun v77 k0_hw6 => k0_hw6

def k0_off7 (v47 : BitVec 32) : Fin 2 → Nat :=
  let c63_i32 : BitVec 32 := 63#32
  let c0_i32 : BitVec 32 := 0#32
  let v48 : BitVec 32 := Scalar.maxsi c0_i32 v47
  let v49 : BitVec 32 := Scalar.minsi c63_i32 v48
  let c64_i32 : BitVec 32 := 64#32
  let v52 : BitVec 32 := Scalar.muli v49 c64_i32
  let v137 : Index := Scalar.indexCast v52
  let c0_99 : Index := 0#32
  ![v137.toNat, 0]

def k0_chk1 (v47 : BitVec 32) : Prop :=
  (∀ a, (k0_off1 v47) a + S64x128.size a ≤ S4096x128.size a) ∧
  (∀ a, (k0_off7 v47) a + S64x128.size a ≤ S4096x128.size a)
theorem k0_off1_inb : ∀ (v47 : BitVec 32) (k0_hw1 : k0_chk1 v47), ∀ a, (k0_off1 v47) a + S64x128.size a ≤ S4096x128.size a := fun v47 k0_hw1 => k0_hw1.1
theorem k0_off7_inb : ∀ (v47 : BitVec 32) (k0_hw1 : k0_chk1 v47), ∀ a, (k0_off7 v47) a + S64x128.size a ≤ S4096x128.size a := fun v47 k0_hw1 => k0_hw1.2

def k0_off8 (v53 : BitVec 32) : Fin 2 → Nat :=
  let c63_i32_48 : BitVec 32 := 63#32
  let c0_i32_47 : BitVec 32 := 0#32
  let v54 : BitVec 32 := Scalar.maxsi c0_i32_47 v53
  let v55 : BitVec 32 := Scalar.minsi c63_i32_48 v54
  let c64_i32_52 : BitVec 32 := 64#32
  let v58 : BitVec 32 := Scalar.muli v55 c64_i32_52
  let v139 : Index := Scalar.indexCast v58
  let c0_100 : Index := 0#32
  ![v139.toNat, 0]

def k0_chk2 (v53 : BitVec 32) : Prop :=
  (∀ a, (k0_off2 v53) a + S64x128.size a ≤ S4096x128.size a) ∧
  (∀ a, (k0_off8 v53) a + S64x128.size a ≤ S4096x128.size a)
theorem k0_off2_inb : ∀ (v53 : BitVec 32) (k0_hw2 : k0_chk2 v53), ∀ a, (k0_off2 v53) a + S64x128.size a ≤ S4096x128.size a := fun v53 k0_hw2 => k0_hw2.1
theorem k0_off8_inb : ∀ (v53 : BitVec 32) (k0_hw2 : k0_chk2 v53), ∀ a, (k0_off8 v53) a + S64x128.size a ≤ S4096x128.size a := fun v53 k0_hw2 => k0_hw2.2

def k0_off9 (v59 : BitVec 32) : Fin 2 → Nat :=
  let c63_i32_55 : BitVec 32 := 63#32
  let c0_i32_54 : BitVec 32 := 0#32
  let v60 : BitVec 32 := Scalar.maxsi c0_i32_54 v59
  let v61 : BitVec 32 := Scalar.minsi c63_i32_55 v60
  let c64_i32_59 : BitVec 32 := 64#32
  let v64 : BitVec 32 := Scalar.muli v61 c64_i32_59
  let v145 : Index := Scalar.indexCast v64
  let c0_102 : Index := 0#32
  ![v145.toNat, 0]

def k0_chk3 (v59 : BitVec 32) : Prop :=
  (∀ a, (k0_off3 v59) a + S64x128.size a ≤ S4096x128.size a) ∧
  (∀ a, (k0_off9 v59) a + S64x128.size a ≤ S4096x128.size a)
theorem k0_off3_inb : ∀ (v59 : BitVec 32) (k0_hw3 : k0_chk3 v59), ∀ a, (k0_off3 v59) a + S64x128.size a ≤ S4096x128.size a := fun v59 k0_hw3 => k0_hw3.1
theorem k0_off9_inb : ∀ (v59 : BitVec 32) (k0_hw3 : k0_chk3 v59), ∀ a, (k0_off9 v59) a + S64x128.size a ≤ S4096x128.size a := fun v59 k0_hw3 => k0_hw3.2

def k0_off10 (v65 : BitVec 32) : Fin 2 → Nat :=
  let c63_i32_62 : BitVec 32 := 63#32
  let c0_i32_61 : BitVec 32 := 0#32
  let v66 : BitVec 32 := Scalar.maxsi c0_i32_61 v65
  let v67 : BitVec 32 := Scalar.minsi c63_i32_62 v66
  let c64_i32_66 : BitVec 32 := 64#32
  let v70 : BitVec 32 := Scalar.muli v67 c64_i32_66
  let v147 : Index := Scalar.indexCast v70
  let c0_103 : Index := 0#32
  ![v147.toNat, 0]

def k0_chk4 (v65 : BitVec 32) : Prop :=
  (∀ a, (k0_off4 v65) a + S64x128.size a ≤ S4096x128.size a) ∧
  (∀ a, (k0_off10 v65) a + S64x128.size a ≤ S4096x128.size a)
theorem k0_off4_inb : ∀ (v65 : BitVec 32) (k0_hw4 : k0_chk4 v65), ∀ a, (k0_off4 v65) a + S64x128.size a ≤ S4096x128.size a := fun v65 k0_hw4 => k0_hw4.1
theorem k0_off10_inb : ∀ (v65 : BitVec 32) (k0_hw4 : k0_chk4 v65), ∀ a, (k0_off10 v65) a + S64x128.size a ≤ S4096x128.size a := fun v65 k0_hw4 => k0_hw4.2

def k0_off11 (v71 : BitVec 32) : Fin 2 → Nat :=
  let c63_i32_69 : BitVec 32 := 63#32
  let c0_i32_68 : BitVec 32 := 0#32
  let v72 : BitVec 32 := Scalar.maxsi c0_i32_68 v71
  let v73 : BitVec 32 := Scalar.minsi c63_i32_69 v72
  let c64_i32_73 : BitVec 32 := 64#32
  let v76 : BitVec 32 := Scalar.muli v73 c64_i32_73
  let v153 : Index := Scalar.indexCast v76
  let c0_105 : Index := 0#32
  ![v153.toNat, 0]

def k0_chk5 (v71 : BitVec 32) : Prop :=
  (∀ a, (k0_off5 v71) a + S64x128.size a ≤ S4096x128.size a) ∧
  (∀ a, (k0_off11 v71) a + S64x128.size a ≤ S4096x128.size a)
theorem k0_off5_inb : ∀ (v71 : BitVec 32) (k0_hw5 : k0_chk5 v71), ∀ a, (k0_off5 v71) a + S64x128.size a ≤ S4096x128.size a := fun v71 k0_hw5 => k0_hw5.1
theorem k0_off11_inb : ∀ (v71 : BitVec 32) (k0_hw5 : k0_chk5 v71), ∀ a, (k0_off11 v71) a + S64x128.size a ≤ S4096x128.size a := fun v71 k0_hw5 => k0_hw5.2

def k0_off12 (v166 : BitVec 32) : Fin 2 → Nat :=
  let c63_i32_115 : BitVec 32 := 63#32
  let c0_i32_114 : BitVec 32 := 0#32
  let v167 : BitVec 32 := Scalar.maxsi c0_i32_114 v166
  let v168 : BitVec 32 := Scalar.minsi c63_i32_115 v167
  let c64_i32_119 : BitVec 32 := 64#32
  let v171 : BitVec 32 := Scalar.muli v168 c64_i32_119
  let v203 : Index := Scalar.indexCast v171
  let c0_161 : Index := 0#32
  ![v203.toNat, 0]

def k0_off13 (v172 : BitVec 32) : Fin 2 → Nat :=
  let c63_i32_123 : BitVec 32 := 63#32
  let c0_i32_122 : BitVec 32 := 0#32
  let v173 : BitVec 32 := Scalar.maxsi c0_i32_122 v172
  let v174 : BitVec 32 := Scalar.minsi c63_i32_123 v173
  let c64_i32_127 : BitVec 32 := 64#32
  let v177 : BitVec 32 := Scalar.muli v174 c64_i32_127
  let v205 : Index := Scalar.indexCast v177
  let c0_162 : Index := 0#32
  ![v205.toNat, 0]

def k0_off14 (v178 : BitVec 32) : Fin 2 → Nat :=
  let c63_i32_131 : BitVec 32 := 63#32
  let c0_i32_130 : BitVec 32 := 0#32
  let v179 : BitVec 32 := Scalar.maxsi c0_i32_130 v178
  let v180 : BitVec 32 := Scalar.minsi c63_i32_131 v179
  let c64_i32_135 : BitVec 32 := 64#32
  let v183 : BitVec 32 := Scalar.muli v180 c64_i32_135
  let v215 : Index := Scalar.indexCast v183
  let c0_164 : Index := 0#32
  ![v215.toNat, 0]

def k0_off15 (v184 : BitVec 32) : Fin 2 → Nat :=
  let c63_i32_139 : BitVec 32 := 63#32
  let c0_i32_138 : BitVec 32 := 0#32
  let v185 : BitVec 32 := Scalar.maxsi c0_i32_138 v184
  let v186 : BitVec 32 := Scalar.minsi c63_i32_139 v185
  let c64_i32_143 : BitVec 32 := 64#32
  let v189 : BitVec 32 := Scalar.muli v186 c64_i32_143
  let v217 : Index := Scalar.indexCast v189
  let c0_165 : Index := 0#32
  ![v217.toNat, 0]

def k0_off16 (v190 : BitVec 32) : Fin 2 → Nat :=
  let c63_i32_147 : BitVec 32 := 63#32
  let c0_i32_146 : BitVec 32 := 0#32
  let v191 : BitVec 32 := Scalar.maxsi c0_i32_146 v190
  let v192 : BitVec 32 := Scalar.minsi c63_i32_147 v191
  let c64_i32_151 : BitVec 32 := 64#32
  let v195 : BitVec 32 := Scalar.muli v192 c64_i32_151
  let v227 : Index := Scalar.indexCast v195
  let c0_167 : Index := 0#32
  ![v227.toNat, 0]

def k0_off17 (v196 : BitVec 32) : Fin 2 → Nat :=
  let c63_i32_155 : BitVec 32 := 63#32
  let c0_i32_154 : BitVec 32 := 0#32
  let v197 : BitVec 32 := Scalar.maxsi c0_i32_154 v196
  let v198 : BitVec 32 := Scalar.minsi c63_i32_155 v197
  let c64_i32_159 : BitVec 32 := 64#32
  let v201 : BitVec 32 := Scalar.muli v198 c64_i32_159
  let v229 : Index := Scalar.indexCast v201
  let c0_168 : Index := 0#32
  ![v229.toNat, 0]

def k0_chk12 (v196 : BitVec 32) : Prop :=
  (∀ a, (k0_off17 v196) a + S64x128.size a ≤ S4096x128.size a)
theorem k0_off17_inb : ∀ (v196 : BitVec 32) (k0_hw12 : k0_chk12 v196), ∀ a, (k0_off17 v196) a + S64x128.size a ≤ S4096x128.size a := fun v196 k0_hw12 => k0_hw12

def k0_off18 (v166 : BitVec 32) : Fin 2 → Nat :=
  let c63_i32_115 : BitVec 32 := 63#32
  let c0_i32_114 : BitVec 32 := 0#32
  let v167 : BitVec 32 := Scalar.maxsi c0_i32_114 v166
  let v168 : BitVec 32 := Scalar.minsi c63_i32_115 v167
  let c64_i32_119 : BitVec 32 := 64#32
  let v171 : BitVec 32 := Scalar.muli v168 c64_i32_119
  let v256 : Index := Scalar.indexCast v171
  let c0_178 : Index := 0#32
  ![v256.toNat, 0]

def k0_chk7 (v166 : BitVec 32) : Prop :=
  (∀ a, (k0_off12 v166) a + S64x128.size a ≤ S4096x128.size a) ∧
  (∀ a, (k0_off18 v166) a + S64x128.size a ≤ S4096x128.size a)
theorem k0_off12_inb : ∀ (v166 : BitVec 32) (k0_hw7 : k0_chk7 v166), ∀ a, (k0_off12 v166) a + S64x128.size a ≤ S4096x128.size a := fun v166 k0_hw7 => k0_hw7.1
theorem k0_off18_inb : ∀ (v166 : BitVec 32) (k0_hw7 : k0_chk7 v166), ∀ a, (k0_off18 v166) a + S64x128.size a ≤ S4096x128.size a := fun v166 k0_hw7 => k0_hw7.2

def k0_off19 (v172 : BitVec 32) : Fin 2 → Nat :=
  let c63_i32_123 : BitVec 32 := 63#32
  let c0_i32_122 : BitVec 32 := 0#32
  let v173 : BitVec 32 := Scalar.maxsi c0_i32_122 v172
  let v174 : BitVec 32 := Scalar.minsi c63_i32_123 v173
  let c64_i32_127 : BitVec 32 := 64#32
  let v177 : BitVec 32 := Scalar.muli v174 c64_i32_127
  let v258 : Index := Scalar.indexCast v177
  let c0_179 : Index := 0#32
  ![v258.toNat, 0]

def k0_chk8 (v172 : BitVec 32) : Prop :=
  (∀ a, (k0_off13 v172) a + S64x128.size a ≤ S4096x128.size a) ∧
  (∀ a, (k0_off19 v172) a + S64x128.size a ≤ S4096x128.size a)
theorem k0_off13_inb : ∀ (v172 : BitVec 32) (k0_hw8 : k0_chk8 v172), ∀ a, (k0_off13 v172) a + S64x128.size a ≤ S4096x128.size a := fun v172 k0_hw8 => k0_hw8.1
theorem k0_off19_inb : ∀ (v172 : BitVec 32) (k0_hw8 : k0_chk8 v172), ∀ a, (k0_off19 v172) a + S64x128.size a ≤ S4096x128.size a := fun v172 k0_hw8 => k0_hw8.2

def k0_off20 (v178 : BitVec 32) : Fin 2 → Nat :=
  let c63_i32_131 : BitVec 32 := 63#32
  let c0_i32_130 : BitVec 32 := 0#32
  let v179 : BitVec 32 := Scalar.maxsi c0_i32_130 v178
  let v180 : BitVec 32 := Scalar.minsi c63_i32_131 v179
  let c64_i32_135 : BitVec 32 := 64#32
  let v183 : BitVec 32 := Scalar.muli v180 c64_i32_135
  let v264 : Index := Scalar.indexCast v183
  let c0_181 : Index := 0#32
  ![v264.toNat, 0]

def k0_chk9 (v178 : BitVec 32) : Prop :=
  (∀ a, (k0_off14 v178) a + S64x128.size a ≤ S4096x128.size a) ∧
  (∀ a, (k0_off20 v178) a + S64x128.size a ≤ S4096x128.size a)
theorem k0_off14_inb : ∀ (v178 : BitVec 32) (k0_hw9 : k0_chk9 v178), ∀ a, (k0_off14 v178) a + S64x128.size a ≤ S4096x128.size a := fun v178 k0_hw9 => k0_hw9.1
theorem k0_off20_inb : ∀ (v178 : BitVec 32) (k0_hw9 : k0_chk9 v178), ∀ a, (k0_off20 v178) a + S64x128.size a ≤ S4096x128.size a := fun v178 k0_hw9 => k0_hw9.2

def k0_off21 (v184 : BitVec 32) : Fin 2 → Nat :=
  let c63_i32_139 : BitVec 32 := 63#32
  let c0_i32_138 : BitVec 32 := 0#32
  let v185 : BitVec 32 := Scalar.maxsi c0_i32_138 v184
  let v186 : BitVec 32 := Scalar.minsi c63_i32_139 v185
  let c64_i32_143 : BitVec 32 := 64#32
  let v189 : BitVec 32 := Scalar.muli v186 c64_i32_143
  let v266 : Index := Scalar.indexCast v189
  let c0_182 : Index := 0#32
  ![v266.toNat, 0]

def k0_chk10 (v184 : BitVec 32) : Prop :=
  (∀ a, (k0_off15 v184) a + S64x128.size a ≤ S4096x128.size a) ∧
  (∀ a, (k0_off21 v184) a + S64x128.size a ≤ S4096x128.size a)
theorem k0_off15_inb : ∀ (v184 : BitVec 32) (k0_hw10 : k0_chk10 v184), ∀ a, (k0_off15 v184) a + S64x128.size a ≤ S4096x128.size a := fun v184 k0_hw10 => k0_hw10.1
theorem k0_off21_inb : ∀ (v184 : BitVec 32) (k0_hw10 : k0_chk10 v184), ∀ a, (k0_off21 v184) a + S64x128.size a ≤ S4096x128.size a := fun v184 k0_hw10 => k0_hw10.2

def k0_off22 (v190 : BitVec 32) : Fin 2 → Nat :=
  let c63_i32_147 : BitVec 32 := 63#32
  let c0_i32_146 : BitVec 32 := 0#32
  let v191 : BitVec 32 := Scalar.maxsi c0_i32_146 v190
  let v192 : BitVec 32 := Scalar.minsi c63_i32_147 v191
  let c64_i32_151 : BitVec 32 := 64#32
  let v195 : BitVec 32 := Scalar.muli v192 c64_i32_151
  let v272 : Index := Scalar.indexCast v195
  let c0_184 : Index := 0#32
  ![v272.toNat, 0]

def k0_chk11 (v190 : BitVec 32) : Prop :=
  (∀ a, (k0_off16 v190) a + S64x128.size a ≤ S4096x128.size a) ∧
  (∀ a, (k0_off22 v190) a + S64x128.size a ≤ S4096x128.size a)
theorem k0_off16_inb : ∀ (v190 : BitVec 32) (k0_hw11 : k0_chk11 v190), ∀ a, (k0_off16 v190) a + S64x128.size a ≤ S4096x128.size a := fun v190 k0_hw11 => k0_hw11.1
theorem k0_off22_inb : ∀ (v190 : BitVec 32) (k0_hw11 : k0_chk11 v190), ∀ a, (k0_off22 v190) a + S64x128.size a ≤ S4096x128.size a := fun v190 k0_hw11 => k0_hw11.2

def k0_off23 (v285 : BitVec 32) : Fin 2 → Nat :=
  let c63_i32_194 : BitVec 32 := 63#32
  let c0_i32_193 : BitVec 32 := 0#32
  let v286 : BitVec 32 := Scalar.maxsi c0_i32_193 v285
  let v287 : BitVec 32 := Scalar.minsi c63_i32_194 v286
  let c64_i32_198 : BitVec 32 := 64#32
  let v290 : BitVec 32 := Scalar.muli v287 c64_i32_198
  let v322 : Index := Scalar.indexCast v290
  let c0_240 : Index := 0#32
  ![v322.toNat, 0]

def k0_off24 (v291 : BitVec 32) : Fin 2 → Nat :=
  let c63_i32_202 : BitVec 32 := 63#32
  let c0_i32_201 : BitVec 32 := 0#32
  let v292 : BitVec 32 := Scalar.maxsi c0_i32_201 v291
  let v293 : BitVec 32 := Scalar.minsi c63_i32_202 v292
  let c64_i32_206 : BitVec 32 := 64#32
  let v296 : BitVec 32 := Scalar.muli v293 c64_i32_206
  let v324 : Index := Scalar.indexCast v296
  let c0_241 : Index := 0#32
  ![v324.toNat, 0]

def k0_off25 (v297 : BitVec 32) : Fin 2 → Nat :=
  let c63_i32_210 : BitVec 32 := 63#32
  let c0_i32_209 : BitVec 32 := 0#32
  let v298 : BitVec 32 := Scalar.maxsi c0_i32_209 v297
  let v299 : BitVec 32 := Scalar.minsi c63_i32_210 v298
  let c64_i32_214 : BitVec 32 := 64#32
  let v302 : BitVec 32 := Scalar.muli v299 c64_i32_214
  let v334 : Index := Scalar.indexCast v302
  let c0_243 : Index := 0#32
  ![v334.toNat, 0]

def k0_off26 (v303 : BitVec 32) : Fin 2 → Nat :=
  let c63_i32_218 : BitVec 32 := 63#32
  let c0_i32_217 : BitVec 32 := 0#32
  let v304 : BitVec 32 := Scalar.maxsi c0_i32_217 v303
  let v305 : BitVec 32 := Scalar.minsi c63_i32_218 v304
  let c64_i32_222 : BitVec 32 := 64#32
  let v308 : BitVec 32 := Scalar.muli v305 c64_i32_222
  let v336 : Index := Scalar.indexCast v308
  let c0_244 : Index := 0#32
  ![v336.toNat, 0]

def k0_off27 (v309 : BitVec 32) : Fin 2 → Nat :=
  let c63_i32_226 : BitVec 32 := 63#32
  let c0_i32_225 : BitVec 32 := 0#32
  let v310 : BitVec 32 := Scalar.maxsi c0_i32_225 v309
  let v311 : BitVec 32 := Scalar.minsi c63_i32_226 v310
  let c64_i32_230 : BitVec 32 := 64#32
  let v314 : BitVec 32 := Scalar.muli v311 c64_i32_230
  let v346 : Index := Scalar.indexCast v314
  let c0_246 : Index := 0#32
  ![v346.toNat, 0]

def k0_off28 (v315 : BitVec 32) : Fin 2 → Nat :=
  let c63_i32_234 : BitVec 32 := 63#32
  let c0_i32_233 : BitVec 32 := 0#32
  let v316 : BitVec 32 := Scalar.maxsi c0_i32_233 v315
  let v317 : BitVec 32 := Scalar.minsi c63_i32_234 v316
  let c64_i32_238 : BitVec 32 := 64#32
  let v320 : BitVec 32 := Scalar.muli v317 c64_i32_238
  let v348 : Index := Scalar.indexCast v320
  let c0_247 : Index := 0#32
  ![v348.toNat, 0]

def k0_chk18 (v315 : BitVec 32) : Prop :=
  (∀ a, (k0_off28 v315) a + S64x128.size a ≤ S4096x128.size a)
theorem k0_off28_inb : ∀ (v315 : BitVec 32) (k0_hw18 : k0_chk18 v315), ∀ a, (k0_off28 v315) a + S64x128.size a ≤ S4096x128.size a := fun v315 k0_hw18 => k0_hw18

def k0_off29 (v285 : BitVec 32) : Fin 2 → Nat :=
  let c63_i32_194 : BitVec 32 := 63#32
  let c0_i32_193 : BitVec 32 := 0#32
  let v286 : BitVec 32 := Scalar.maxsi c0_i32_193 v285
  let v287 : BitVec 32 := Scalar.minsi c63_i32_194 v286
  let c64_i32_198 : BitVec 32 := 64#32
  let v290 : BitVec 32 := Scalar.muli v287 c64_i32_198
  let v375 : Index := Scalar.indexCast v290
  let c0_257 : Index := 0#32
  ![v375.toNat, 0]

def k0_chk13 (v285 : BitVec 32) : Prop :=
  (∀ a, (k0_off23 v285) a + S64x128.size a ≤ S4096x128.size a) ∧
  (∀ a, (k0_off29 v285) a + S64x128.size a ≤ S4096x128.size a)
theorem k0_off23_inb : ∀ (v285 : BitVec 32) (k0_hw13 : k0_chk13 v285), ∀ a, (k0_off23 v285) a + S64x128.size a ≤ S4096x128.size a := fun v285 k0_hw13 => k0_hw13.1
theorem k0_off29_inb : ∀ (v285 : BitVec 32) (k0_hw13 : k0_chk13 v285), ∀ a, (k0_off29 v285) a + S64x128.size a ≤ S4096x128.size a := fun v285 k0_hw13 => k0_hw13.2

def k0_off30 (v291 : BitVec 32) : Fin 2 → Nat :=
  let c63_i32_202 : BitVec 32 := 63#32
  let c0_i32_201 : BitVec 32 := 0#32
  let v292 : BitVec 32 := Scalar.maxsi c0_i32_201 v291
  let v293 : BitVec 32 := Scalar.minsi c63_i32_202 v292
  let c64_i32_206 : BitVec 32 := 64#32
  let v296 : BitVec 32 := Scalar.muli v293 c64_i32_206
  let v377 : Index := Scalar.indexCast v296
  let c0_258 : Index := 0#32
  ![v377.toNat, 0]

def k0_chk14 (v291 : BitVec 32) : Prop :=
  (∀ a, (k0_off24 v291) a + S64x128.size a ≤ S4096x128.size a) ∧
  (∀ a, (k0_off30 v291) a + S64x128.size a ≤ S4096x128.size a)
theorem k0_off24_inb : ∀ (v291 : BitVec 32) (k0_hw14 : k0_chk14 v291), ∀ a, (k0_off24 v291) a + S64x128.size a ≤ S4096x128.size a := fun v291 k0_hw14 => k0_hw14.1
theorem k0_off30_inb : ∀ (v291 : BitVec 32) (k0_hw14 : k0_chk14 v291), ∀ a, (k0_off30 v291) a + S64x128.size a ≤ S4096x128.size a := fun v291 k0_hw14 => k0_hw14.2

def k0_off31 (v297 : BitVec 32) : Fin 2 → Nat :=
  let c63_i32_210 : BitVec 32 := 63#32
  let c0_i32_209 : BitVec 32 := 0#32
  let v298 : BitVec 32 := Scalar.maxsi c0_i32_209 v297
  let v299 : BitVec 32 := Scalar.minsi c63_i32_210 v298
  let c64_i32_214 : BitVec 32 := 64#32
  let v302 : BitVec 32 := Scalar.muli v299 c64_i32_214
  let v383 : Index := Scalar.indexCast v302
  let c0_260 : Index := 0#32
  ![v383.toNat, 0]

def k0_chk15 (v297 : BitVec 32) : Prop :=
  (∀ a, (k0_off25 v297) a + S64x128.size a ≤ S4096x128.size a) ∧
  (∀ a, (k0_off31 v297) a + S64x128.size a ≤ S4096x128.size a)
theorem k0_off25_inb : ∀ (v297 : BitVec 32) (k0_hw15 : k0_chk15 v297), ∀ a, (k0_off25 v297) a + S64x128.size a ≤ S4096x128.size a := fun v297 k0_hw15 => k0_hw15.1
theorem k0_off31_inb : ∀ (v297 : BitVec 32) (k0_hw15 : k0_chk15 v297), ∀ a, (k0_off31 v297) a + S64x128.size a ≤ S4096x128.size a := fun v297 k0_hw15 => k0_hw15.2

def k0_off32 (v303 : BitVec 32) : Fin 2 → Nat :=
  let c63_i32_218 : BitVec 32 := 63#32
  let c0_i32_217 : BitVec 32 := 0#32
  let v304 : BitVec 32 := Scalar.maxsi c0_i32_217 v303
  let v305 : BitVec 32 := Scalar.minsi c63_i32_218 v304
  let c64_i32_222 : BitVec 32 := 64#32
  let v308 : BitVec 32 := Scalar.muli v305 c64_i32_222
  let v385 : Index := Scalar.indexCast v308
  let c0_261 : Index := 0#32
  ![v385.toNat, 0]

def k0_chk16 (v303 : BitVec 32) : Prop :=
  (∀ a, (k0_off26 v303) a + S64x128.size a ≤ S4096x128.size a) ∧
  (∀ a, (k0_off32 v303) a + S64x128.size a ≤ S4096x128.size a)
theorem k0_off26_inb : ∀ (v303 : BitVec 32) (k0_hw16 : k0_chk16 v303), ∀ a, (k0_off26 v303) a + S64x128.size a ≤ S4096x128.size a := fun v303 k0_hw16 => k0_hw16.1
theorem k0_off32_inb : ∀ (v303 : BitVec 32) (k0_hw16 : k0_chk16 v303), ∀ a, (k0_off32 v303) a + S64x128.size a ≤ S4096x128.size a := fun v303 k0_hw16 => k0_hw16.2

def k0_off33 (v309 : BitVec 32) : Fin 2 → Nat :=
  let c63_i32_226 : BitVec 32 := 63#32
  let c0_i32_225 : BitVec 32 := 0#32
  let v310 : BitVec 32 := Scalar.maxsi c0_i32_225 v309
  let v311 : BitVec 32 := Scalar.minsi c63_i32_226 v310
  let c64_i32_230 : BitVec 32 := 64#32
  let v314 : BitVec 32 := Scalar.muli v311 c64_i32_230
  let v391 : Index := Scalar.indexCast v314
  let c0_263 : Index := 0#32
  ![v391.toNat, 0]

def k0_chk17 (v309 : BitVec 32) : Prop :=
  (∀ a, (k0_off27 v309) a + S64x128.size a ≤ S4096x128.size a) ∧
  (∀ a, (k0_off33 v309) a + S64x128.size a ≤ S4096x128.size a)
theorem k0_off27_inb : ∀ (v309 : BitVec 32) (k0_hw17 : k0_chk17 v309), ∀ a, (k0_off27 v309) a + S64x128.size a ≤ S4096x128.size a := fun v309 k0_hw17 => k0_hw17.1
theorem k0_off33_inb : ∀ (v309 : BitVec 32) (k0_hw17 : k0_chk17 v309), ∀ a, (k0_off33 v309) a + S64x128.size a ≤ S4096x128.size a := fun v309 k0_hw17 => k0_hw17.2

def k0_off34 (v404 : BitVec 32) : Fin 2 → Nat :=
  let c63_i32_273 : BitVec 32 := 63#32
  let c0_i32_272 : BitVec 32 := 0#32
  let v405 : BitVec 32 := Scalar.maxsi c0_i32_272 v404
  let v406 : BitVec 32 := Scalar.minsi c63_i32_273 v405
  let c64_i32_277 : BitVec 32 := 64#32
  let v409 : BitVec 32 := Scalar.muli v406 c64_i32_277
  let v441 : Index := Scalar.indexCast v409
  let c0_319 : Index := 0#32
  ![v441.toNat, 0]

def k0_off35 (v410 : BitVec 32) : Fin 2 → Nat :=
  let c63_i32_281 : BitVec 32 := 63#32
  let c0_i32_280 : BitVec 32 := 0#32
  let v411 : BitVec 32 := Scalar.maxsi c0_i32_280 v410
  let v412 : BitVec 32 := Scalar.minsi c63_i32_281 v411
  let c64_i32_285 : BitVec 32 := 64#32
  let v415 : BitVec 32 := Scalar.muli v412 c64_i32_285
  let v443 : Index := Scalar.indexCast v415
  let c0_320 : Index := 0#32
  ![v443.toNat, 0]

def k0_off36 (v416 : BitVec 32) : Fin 2 → Nat :=
  let c63_i32_289 : BitVec 32 := 63#32
  let c0_i32_288 : BitVec 32 := 0#32
  let v417 : BitVec 32 := Scalar.maxsi c0_i32_288 v416
  let v418 : BitVec 32 := Scalar.minsi c63_i32_289 v417
  let c64_i32_293 : BitVec 32 := 64#32
  let v421 : BitVec 32 := Scalar.muli v418 c64_i32_293
  let v453 : Index := Scalar.indexCast v421
  let c0_322 : Index := 0#32
  ![v453.toNat, 0]

def k0_off37 (v422 : BitVec 32) : Fin 2 → Nat :=
  let c63_i32_297 : BitVec 32 := 63#32
  let c0_i32_296 : BitVec 32 := 0#32
  let v423 : BitVec 32 := Scalar.maxsi c0_i32_296 v422
  let v424 : BitVec 32 := Scalar.minsi c63_i32_297 v423
  let c64_i32_301 : BitVec 32 := 64#32
  let v427 : BitVec 32 := Scalar.muli v424 c64_i32_301
  let v455 : Index := Scalar.indexCast v427
  let c0_323 : Index := 0#32
  ![v455.toNat, 0]

def k0_off38 (v428 : BitVec 32) : Fin 2 → Nat :=
  let c63_i32_305 : BitVec 32 := 63#32
  let c0_i32_304 : BitVec 32 := 0#32
  let v429 : BitVec 32 := Scalar.maxsi c0_i32_304 v428
  let v430 : BitVec 32 := Scalar.minsi c63_i32_305 v429
  let c64_i32_309 : BitVec 32 := 64#32
  let v433 : BitVec 32 := Scalar.muli v430 c64_i32_309
  let v465 : Index := Scalar.indexCast v433
  let c0_325 : Index := 0#32
  ![v465.toNat, 0]

def k0_off39 (v434 : BitVec 32) : Fin 2 → Nat :=
  let c63_i32_313 : BitVec 32 := 63#32
  let c0_i32_312 : BitVec 32 := 0#32
  let v435 : BitVec 32 := Scalar.maxsi c0_i32_312 v434
  let v436 : BitVec 32 := Scalar.minsi c63_i32_313 v435
  let c64_i32_317 : BitVec 32 := 64#32
  let v439 : BitVec 32 := Scalar.muli v436 c64_i32_317
  let v467 : Index := Scalar.indexCast v439
  let c0_326 : Index := 0#32
  ![v467.toNat, 0]

def k0_chk24 (v434 : BitVec 32) : Prop :=
  (∀ a, (k0_off39 v434) a + S64x128.size a ≤ S4096x128.size a)
theorem k0_off39_inb : ∀ (v434 : BitVec 32) (k0_hw24 : k0_chk24 v434), ∀ a, (k0_off39 v434) a + S64x128.size a ≤ S4096x128.size a := fun v434 k0_hw24 => k0_hw24

def k0_off40 (v404 : BitVec 32) : Fin 2 → Nat :=
  let c63_i32_273 : BitVec 32 := 63#32
  let c0_i32_272 : BitVec 32 := 0#32
  let v405 : BitVec 32 := Scalar.maxsi c0_i32_272 v404
  let v406 : BitVec 32 := Scalar.minsi c63_i32_273 v405
  let c64_i32_277 : BitVec 32 := 64#32
  let v409 : BitVec 32 := Scalar.muli v406 c64_i32_277
  let v494 : Index := Scalar.indexCast v409
  let c0_336 : Index := 0#32
  ![v494.toNat, 0]

def k0_chk19 (v404 : BitVec 32) : Prop :=
  (∀ a, (k0_off34 v404) a + S64x128.size a ≤ S4096x128.size a) ∧
  (∀ a, (k0_off40 v404) a + S64x128.size a ≤ S4096x128.size a)
theorem k0_off34_inb : ∀ (v404 : BitVec 32) (k0_hw19 : k0_chk19 v404), ∀ a, (k0_off34 v404) a + S64x128.size a ≤ S4096x128.size a := fun v404 k0_hw19 => k0_hw19.1
theorem k0_off40_inb : ∀ (v404 : BitVec 32) (k0_hw19 : k0_chk19 v404), ∀ a, (k0_off40 v404) a + S64x128.size a ≤ S4096x128.size a := fun v404 k0_hw19 => k0_hw19.2

def k0_off41 (v410 : BitVec 32) : Fin 2 → Nat :=
  let c63_i32_281 : BitVec 32 := 63#32
  let c0_i32_280 : BitVec 32 := 0#32
  let v411 : BitVec 32 := Scalar.maxsi c0_i32_280 v410
  let v412 : BitVec 32 := Scalar.minsi c63_i32_281 v411
  let c64_i32_285 : BitVec 32 := 64#32
  let v415 : BitVec 32 := Scalar.muli v412 c64_i32_285
  let v496 : Index := Scalar.indexCast v415
  let c0_337 : Index := 0#32
  ![v496.toNat, 0]

def k0_chk20 (v410 : BitVec 32) : Prop :=
  (∀ a, (k0_off35 v410) a + S64x128.size a ≤ S4096x128.size a) ∧
  (∀ a, (k0_off41 v410) a + S64x128.size a ≤ S4096x128.size a)
theorem k0_off35_inb : ∀ (v410 : BitVec 32) (k0_hw20 : k0_chk20 v410), ∀ a, (k0_off35 v410) a + S64x128.size a ≤ S4096x128.size a := fun v410 k0_hw20 => k0_hw20.1
theorem k0_off41_inb : ∀ (v410 : BitVec 32) (k0_hw20 : k0_chk20 v410), ∀ a, (k0_off41 v410) a + S64x128.size a ≤ S4096x128.size a := fun v410 k0_hw20 => k0_hw20.2

def k0_off42 (v416 : BitVec 32) : Fin 2 → Nat :=
  let c63_i32_289 : BitVec 32 := 63#32
  let c0_i32_288 : BitVec 32 := 0#32
  let v417 : BitVec 32 := Scalar.maxsi c0_i32_288 v416
  let v418 : BitVec 32 := Scalar.minsi c63_i32_289 v417
  let c64_i32_293 : BitVec 32 := 64#32
  let v421 : BitVec 32 := Scalar.muli v418 c64_i32_293
  let v502 : Index := Scalar.indexCast v421
  let c0_339 : Index := 0#32
  ![v502.toNat, 0]

def k0_chk21 (v416 : BitVec 32) : Prop :=
  (∀ a, (k0_off36 v416) a + S64x128.size a ≤ S4096x128.size a) ∧
  (∀ a, (k0_off42 v416) a + S64x128.size a ≤ S4096x128.size a)
theorem k0_off36_inb : ∀ (v416 : BitVec 32) (k0_hw21 : k0_chk21 v416), ∀ a, (k0_off36 v416) a + S64x128.size a ≤ S4096x128.size a := fun v416 k0_hw21 => k0_hw21.1
theorem k0_off42_inb : ∀ (v416 : BitVec 32) (k0_hw21 : k0_chk21 v416), ∀ a, (k0_off42 v416) a + S64x128.size a ≤ S4096x128.size a := fun v416 k0_hw21 => k0_hw21.2

def k0_off43 (v422 : BitVec 32) : Fin 2 → Nat :=
  let c63_i32_297 : BitVec 32 := 63#32
  let c0_i32_296 : BitVec 32 := 0#32
  let v423 : BitVec 32 := Scalar.maxsi c0_i32_296 v422
  let v424 : BitVec 32 := Scalar.minsi c63_i32_297 v423
  let c64_i32_301 : BitVec 32 := 64#32
  let v427 : BitVec 32 := Scalar.muli v424 c64_i32_301
  let v504 : Index := Scalar.indexCast v427
  let c0_340 : Index := 0#32
  ![v504.toNat, 0]

def k0_chk22 (v422 : BitVec 32) : Prop :=
  (∀ a, (k0_off37 v422) a + S64x128.size a ≤ S4096x128.size a) ∧
  (∀ a, (k0_off43 v422) a + S64x128.size a ≤ S4096x128.size a)
theorem k0_off37_inb : ∀ (v422 : BitVec 32) (k0_hw22 : k0_chk22 v422), ∀ a, (k0_off37 v422) a + S64x128.size a ≤ S4096x128.size a := fun v422 k0_hw22 => k0_hw22.1
theorem k0_off43_inb : ∀ (v422 : BitVec 32) (k0_hw22 : k0_chk22 v422), ∀ a, (k0_off43 v422) a + S64x128.size a ≤ S4096x128.size a := fun v422 k0_hw22 => k0_hw22.2

def k0_off44 (v428 : BitVec 32) : Fin 2 → Nat :=
  let c63_i32_305 : BitVec 32 := 63#32
  let c0_i32_304 : BitVec 32 := 0#32
  let v429 : BitVec 32 := Scalar.maxsi c0_i32_304 v428
  let v430 : BitVec 32 := Scalar.minsi c63_i32_305 v429
  let c64_i32_309 : BitVec 32 := 64#32
  let v433 : BitVec 32 := Scalar.muli v430 c64_i32_309
  let v510 : Index := Scalar.indexCast v433
  let c0_342 : Index := 0#32
  ![v510.toNat, 0]

def k0_chk23 (v428 : BitVec 32) : Prop :=
  (∀ a, (k0_off38 v428) a + S64x128.size a ≤ S4096x128.size a) ∧
  (∀ a, (k0_off44 v428) a + S64x128.size a ≤ S4096x128.size a)
theorem k0_off38_inb : ∀ (v428 : BitVec 32) (k0_hw23 : k0_chk23 v428), ∀ a, (k0_off38 v428) a + S64x128.size a ≤ S4096x128.size a := fun v428 k0_hw23 => k0_hw23.1
theorem k0_off44_inb : ∀ (v428 : BitVec 32) (k0_hw23 : k0_chk23 v428), ∀ a, (k0_off44 v428) a + S64x128.size a ≤ S4096x128.size a := fun v428 k0_hw23 => k0_hw23.2

def k0_off45 (v523 : BitVec 32) : Fin 2 → Nat :=
  let c63_i32_352 : BitVec 32 := 63#32
  let c0_i32_351 : BitVec 32 := 0#32
  let v524 : BitVec 32 := Scalar.maxsi c0_i32_351 v523
  let v525 : BitVec 32 := Scalar.minsi c63_i32_352 v524
  let c64_i32_356 : BitVec 32 := 64#32
  let v528 : BitVec 32 := Scalar.muli v525 c64_i32_356
  let v560 : Index := Scalar.indexCast v528
  let c0_398 : Index := 0#32
  ![v560.toNat, 0]

def k0_off46 (v529 : BitVec 32) : Fin 2 → Nat :=
  let c63_i32_360 : BitVec 32 := 63#32
  let c0_i32_359 : BitVec 32 := 0#32
  let v530 : BitVec 32 := Scalar.maxsi c0_i32_359 v529
  let v531 : BitVec 32 := Scalar.minsi c63_i32_360 v530
  let c64_i32_364 : BitVec 32 := 64#32
  let v534 : BitVec 32 := Scalar.muli v531 c64_i32_364
  let v562 : Index := Scalar.indexCast v534
  let c0_399 : Index := 0#32
  ![v562.toNat, 0]

def k0_off47 (v535 : BitVec 32) : Fin 2 → Nat :=
  let c63_i32_368 : BitVec 32 := 63#32
  let c0_i32_367 : BitVec 32 := 0#32
  let v536 : BitVec 32 := Scalar.maxsi c0_i32_367 v535
  let v537 : BitVec 32 := Scalar.minsi c63_i32_368 v536
  let c64_i32_372 : BitVec 32 := 64#32
  let v540 : BitVec 32 := Scalar.muli v537 c64_i32_372
  let v572 : Index := Scalar.indexCast v540
  let c0_401 : Index := 0#32
  ![v572.toNat, 0]

def k0_off48 (v541 : BitVec 32) : Fin 2 → Nat :=
  let c63_i32_376 : BitVec 32 := 63#32
  let c0_i32_375 : BitVec 32 := 0#32
  let v542 : BitVec 32 := Scalar.maxsi c0_i32_375 v541
  let v543 : BitVec 32 := Scalar.minsi c63_i32_376 v542
  let c64_i32_380 : BitVec 32 := 64#32
  let v546 : BitVec 32 := Scalar.muli v543 c64_i32_380
  let v574 : Index := Scalar.indexCast v546
  let c0_402 : Index := 0#32
  ![v574.toNat, 0]

def k0_off49 (v547 : BitVec 32) : Fin 2 → Nat :=
  let c63_i32_384 : BitVec 32 := 63#32
  let c0_i32_383 : BitVec 32 := 0#32
  let v548 : BitVec 32 := Scalar.maxsi c0_i32_383 v547
  let v549 : BitVec 32 := Scalar.minsi c63_i32_384 v548
  let c64_i32_388 : BitVec 32 := 64#32
  let v552 : BitVec 32 := Scalar.muli v549 c64_i32_388
  let v584 : Index := Scalar.indexCast v552
  let c0_404 : Index := 0#32
  ![v584.toNat, 0]

def k0_off50 (v553 : BitVec 32) : Fin 2 → Nat :=
  let c63_i32_392 : BitVec 32 := 63#32
  let c0_i32_391 : BitVec 32 := 0#32
  let v554 : BitVec 32 := Scalar.maxsi c0_i32_391 v553
  let v555 : BitVec 32 := Scalar.minsi c63_i32_392 v554
  let c64_i32_396 : BitVec 32 := 64#32
  let v558 : BitVec 32 := Scalar.muli v555 c64_i32_396
  let v586 : Index := Scalar.indexCast v558
  let c0_405 : Index := 0#32
  ![v586.toNat, 0]

def k0_chk30 (v553 : BitVec 32) : Prop :=
  (∀ a, (k0_off50 v553) a + S64x128.size a ≤ S4096x128.size a)
theorem k0_off50_inb : ∀ (v553 : BitVec 32) (k0_hw30 : k0_chk30 v553), ∀ a, (k0_off50 v553) a + S64x128.size a ≤ S4096x128.size a := fun v553 k0_hw30 => k0_hw30

def k0_off51 (v523 : BitVec 32) : Fin 2 → Nat :=
  let c63_i32_352 : BitVec 32 := 63#32
  let c0_i32_351 : BitVec 32 := 0#32
  let v524 : BitVec 32 := Scalar.maxsi c0_i32_351 v523
  let v525 : BitVec 32 := Scalar.minsi c63_i32_352 v524
  let c64_i32_356 : BitVec 32 := 64#32
  let v528 : BitVec 32 := Scalar.muli v525 c64_i32_356
  let v613 : Index := Scalar.indexCast v528
  let c0_415 : Index := 0#32
  ![v613.toNat, 0]

def k0_chk25 (v523 : BitVec 32) : Prop :=
  (∀ a, (k0_off45 v523) a + S64x128.size a ≤ S4096x128.size a) ∧
  (∀ a, (k0_off51 v523) a + S64x128.size a ≤ S4096x128.size a)
theorem k0_off45_inb : ∀ (v523 : BitVec 32) (k0_hw25 : k0_chk25 v523), ∀ a, (k0_off45 v523) a + S64x128.size a ≤ S4096x128.size a := fun v523 k0_hw25 => k0_hw25.1
theorem k0_off51_inb : ∀ (v523 : BitVec 32) (k0_hw25 : k0_chk25 v523), ∀ a, (k0_off51 v523) a + S64x128.size a ≤ S4096x128.size a := fun v523 k0_hw25 => k0_hw25.2

def k0_off52 (v529 : BitVec 32) : Fin 2 → Nat :=
  let c63_i32_360 : BitVec 32 := 63#32
  let c0_i32_359 : BitVec 32 := 0#32
  let v530 : BitVec 32 := Scalar.maxsi c0_i32_359 v529
  let v531 : BitVec 32 := Scalar.minsi c63_i32_360 v530
  let c64_i32_364 : BitVec 32 := 64#32
  let v534 : BitVec 32 := Scalar.muli v531 c64_i32_364
  let v615 : Index := Scalar.indexCast v534
  let c0_416 : Index := 0#32
  ![v615.toNat, 0]

def k0_chk26 (v529 : BitVec 32) : Prop :=
  (∀ a, (k0_off46 v529) a + S64x128.size a ≤ S4096x128.size a) ∧
  (∀ a, (k0_off52 v529) a + S64x128.size a ≤ S4096x128.size a)
theorem k0_off46_inb : ∀ (v529 : BitVec 32) (k0_hw26 : k0_chk26 v529), ∀ a, (k0_off46 v529) a + S64x128.size a ≤ S4096x128.size a := fun v529 k0_hw26 => k0_hw26.1
theorem k0_off52_inb : ∀ (v529 : BitVec 32) (k0_hw26 : k0_chk26 v529), ∀ a, (k0_off52 v529) a + S64x128.size a ≤ S4096x128.size a := fun v529 k0_hw26 => k0_hw26.2

def k0_off53 (v535 : BitVec 32) : Fin 2 → Nat :=
  let c63_i32_368 : BitVec 32 := 63#32
  let c0_i32_367 : BitVec 32 := 0#32
  let v536 : BitVec 32 := Scalar.maxsi c0_i32_367 v535
  let v537 : BitVec 32 := Scalar.minsi c63_i32_368 v536
  let c64_i32_372 : BitVec 32 := 64#32
  let v540 : BitVec 32 := Scalar.muli v537 c64_i32_372
  let v621 : Index := Scalar.indexCast v540
  let c0_418 : Index := 0#32
  ![v621.toNat, 0]

def k0_chk27 (v535 : BitVec 32) : Prop :=
  (∀ a, (k0_off47 v535) a + S64x128.size a ≤ S4096x128.size a) ∧
  (∀ a, (k0_off53 v535) a + S64x128.size a ≤ S4096x128.size a)
theorem k0_off47_inb : ∀ (v535 : BitVec 32) (k0_hw27 : k0_chk27 v535), ∀ a, (k0_off47 v535) a + S64x128.size a ≤ S4096x128.size a := fun v535 k0_hw27 => k0_hw27.1
theorem k0_off53_inb : ∀ (v535 : BitVec 32) (k0_hw27 : k0_chk27 v535), ∀ a, (k0_off53 v535) a + S64x128.size a ≤ S4096x128.size a := fun v535 k0_hw27 => k0_hw27.2

def k0_off54 (v541 : BitVec 32) : Fin 2 → Nat :=
  let c63_i32_376 : BitVec 32 := 63#32
  let c0_i32_375 : BitVec 32 := 0#32
  let v542 : BitVec 32 := Scalar.maxsi c0_i32_375 v541
  let v543 : BitVec 32 := Scalar.minsi c63_i32_376 v542
  let c64_i32_380 : BitVec 32 := 64#32
  let v546 : BitVec 32 := Scalar.muli v543 c64_i32_380
  let v623 : Index := Scalar.indexCast v546
  let c0_419 : Index := 0#32
  ![v623.toNat, 0]

def k0_chk28 (v541 : BitVec 32) : Prop :=
  (∀ a, (k0_off48 v541) a + S64x128.size a ≤ S4096x128.size a) ∧
  (∀ a, (k0_off54 v541) a + S64x128.size a ≤ S4096x128.size a)
theorem k0_off48_inb : ∀ (v541 : BitVec 32) (k0_hw28 : k0_chk28 v541), ∀ a, (k0_off48 v541) a + S64x128.size a ≤ S4096x128.size a := fun v541 k0_hw28 => k0_hw28.1
theorem k0_off54_inb : ∀ (v541 : BitVec 32) (k0_hw28 : k0_chk28 v541), ∀ a, (k0_off54 v541) a + S64x128.size a ≤ S4096x128.size a := fun v541 k0_hw28 => k0_hw28.2

def k0_off55 (v547 : BitVec 32) : Fin 2 → Nat :=
  let c63_i32_384 : BitVec 32 := 63#32
  let c0_i32_383 : BitVec 32 := 0#32
  let v548 : BitVec 32 := Scalar.maxsi c0_i32_383 v547
  let v549 : BitVec 32 := Scalar.minsi c63_i32_384 v548
  let c64_i32_388 : BitVec 32 := 64#32
  let v552 : BitVec 32 := Scalar.muli v549 c64_i32_388
  let v629 : Index := Scalar.indexCast v552
  let c0_421 : Index := 0#32
  ![v629.toNat, 0]

def k0_chk29 (v547 : BitVec 32) : Prop :=
  (∀ a, (k0_off49 v547) a + S64x128.size a ≤ S4096x128.size a) ∧
  (∀ a, (k0_off55 v547) a + S64x128.size a ≤ S4096x128.size a)
theorem k0_off49_inb : ∀ (v547 : BitVec 32) (k0_hw29 : k0_chk29 v547), ∀ a, (k0_off49 v547) a + S64x128.size a ≤ S4096x128.size a := fun v547 k0_hw29 => k0_hw29.1
theorem k0_off55_inb : ∀ (v547 : BitVec 32) (k0_hw29 : k0_chk29 v547), ∀ a, (k0_off55 v547) a + S64x128.size a ≤ S4096x128.size a := fun v547 k0_hw29 => k0_hw29.2

def k0_off56 (v642 : BitVec 32) : Fin 2 → Nat :=
  let c63_i32_430 : BitVec 32 := 63#32
  let c0_i32_429 : BitVec 32 := 0#32
  let v643 : BitVec 32 := Scalar.maxsi c0_i32_429 v642
  let v644 : BitVec 32 := Scalar.minsi c63_i32_430 v643
  let c64_i32_434 : BitVec 32 := 64#32
  let v647 : BitVec 32 := Scalar.muli v644 c64_i32_434
  let v679 : Index := Scalar.indexCast v647
  let c0_476 : Index := 0#32
  ![v679.toNat, 0]

def k0_off57 (v648 : BitVec 32) : Fin 2 → Nat :=
  let c63_i32_438 : BitVec 32 := 63#32
  let c0_i32_437 : BitVec 32 := 0#32
  let v649 : BitVec 32 := Scalar.maxsi c0_i32_437 v648
  let v650 : BitVec 32 := Scalar.minsi c63_i32_438 v649
  let c64_i32_442 : BitVec 32 := 64#32
  let v653 : BitVec 32 := Scalar.muli v650 c64_i32_442
  let v681 : Index := Scalar.indexCast v653
  let c0_477 : Index := 0#32
  ![v681.toNat, 0]

def k0_off58 (v654 : BitVec 32) : Fin 2 → Nat :=
  let c63_i32_446 : BitVec 32 := 63#32
  let c0_i32_445 : BitVec 32 := 0#32
  let v655 : BitVec 32 := Scalar.maxsi c0_i32_445 v654
  let v656 : BitVec 32 := Scalar.minsi c63_i32_446 v655
  let c64_i32_450 : BitVec 32 := 64#32
  let v659 : BitVec 32 := Scalar.muli v656 c64_i32_450
  let v691 : Index := Scalar.indexCast v659
  let c0_479 : Index := 0#32
  ![v691.toNat, 0]

def k0_off59 (v660 : BitVec 32) : Fin 2 → Nat :=
  let c63_i32_454 : BitVec 32 := 63#32
  let c0_i32_453 : BitVec 32 := 0#32
  let v661 : BitVec 32 := Scalar.maxsi c0_i32_453 v660
  let v662 : BitVec 32 := Scalar.minsi c63_i32_454 v661
  let c64_i32_458 : BitVec 32 := 64#32
  let v665 : BitVec 32 := Scalar.muli v662 c64_i32_458
  let v693 : Index := Scalar.indexCast v665
  let c0_480 : Index := 0#32
  ![v693.toNat, 0]

def k0_off60 (v666 : BitVec 32) : Fin 2 → Nat :=
  let c63_i32_462 : BitVec 32 := 63#32
  let c0_i32_461 : BitVec 32 := 0#32
  let v667 : BitVec 32 := Scalar.maxsi c0_i32_461 v666
  let v668 : BitVec 32 := Scalar.minsi c63_i32_462 v667
  let c64_i32_466 : BitVec 32 := 64#32
  let v671 : BitVec 32 := Scalar.muli v668 c64_i32_466
  let v703 : Index := Scalar.indexCast v671
  let c0_482 : Index := 0#32
  ![v703.toNat, 0]

def k0_off61 (v672 : BitVec 32) : Fin 2 → Nat :=
  let c63_i32_470 : BitVec 32 := 63#32
  let c0_i32_469 : BitVec 32 := 0#32
  let v673 : BitVec 32 := Scalar.maxsi c0_i32_469 v672
  let v674 : BitVec 32 := Scalar.minsi c63_i32_470 v673
  let c64_i32_474 : BitVec 32 := 64#32
  let v677 : BitVec 32 := Scalar.muli v674 c64_i32_474
  let v705 : Index := Scalar.indexCast v677
  let c0_483 : Index := 0#32
  ![v705.toNat, 0]

def k0_chk36 (v672 : BitVec 32) : Prop :=
  (∀ a, (k0_off61 v672) a + S64x128.size a ≤ S4096x128.size a)
theorem k0_off61_inb : ∀ (v672 : BitVec 32) (k0_hw36 : k0_chk36 v672), ∀ a, (k0_off61 v672) a + S64x128.size a ≤ S4096x128.size a := fun v672 k0_hw36 => k0_hw36

def k0_off62 (v642 : BitVec 32) : Fin 2 → Nat :=
  let c63_i32_430 : BitVec 32 := 63#32
  let c0_i32_429 : BitVec 32 := 0#32
  let v643 : BitVec 32 := Scalar.maxsi c0_i32_429 v642
  let v644 : BitVec 32 := Scalar.minsi c63_i32_430 v643
  let c64_i32_434 : BitVec 32 := 64#32
  let v647 : BitVec 32 := Scalar.muli v644 c64_i32_434
  let v732 : Index := Scalar.indexCast v647
  let c0_493 : Index := 0#32
  ![v732.toNat, 0]

def k0_chk31 (v642 : BitVec 32) : Prop :=
  (∀ a, (k0_off56 v642) a + S64x128.size a ≤ S4096x128.size a) ∧
  (∀ a, (k0_off62 v642) a + S64x128.size a ≤ S4096x128.size a)
theorem k0_off56_inb : ∀ (v642 : BitVec 32) (k0_hw31 : k0_chk31 v642), ∀ a, (k0_off56 v642) a + S64x128.size a ≤ S4096x128.size a := fun v642 k0_hw31 => k0_hw31.1
theorem k0_off62_inb : ∀ (v642 : BitVec 32) (k0_hw31 : k0_chk31 v642), ∀ a, (k0_off62 v642) a + S64x128.size a ≤ S4096x128.size a := fun v642 k0_hw31 => k0_hw31.2

def k0_off63 (v648 : BitVec 32) : Fin 2 → Nat :=
  let c63_i32_438 : BitVec 32 := 63#32
  let c0_i32_437 : BitVec 32 := 0#32
  let v649 : BitVec 32 := Scalar.maxsi c0_i32_437 v648
  let v650 : BitVec 32 := Scalar.minsi c63_i32_438 v649
  let c64_i32_442 : BitVec 32 := 64#32
  let v653 : BitVec 32 := Scalar.muli v650 c64_i32_442
  let v734 : Index := Scalar.indexCast v653
  let c0_494 : Index := 0#32
  ![v734.toNat, 0]

def k0_chk32 (v648 : BitVec 32) : Prop :=
  (∀ a, (k0_off57 v648) a + S64x128.size a ≤ S4096x128.size a) ∧
  (∀ a, (k0_off63 v648) a + S64x128.size a ≤ S4096x128.size a)
theorem k0_off57_inb : ∀ (v648 : BitVec 32) (k0_hw32 : k0_chk32 v648), ∀ a, (k0_off57 v648) a + S64x128.size a ≤ S4096x128.size a := fun v648 k0_hw32 => k0_hw32.1
theorem k0_off63_inb : ∀ (v648 : BitVec 32) (k0_hw32 : k0_chk32 v648), ∀ a, (k0_off63 v648) a + S64x128.size a ≤ S4096x128.size a := fun v648 k0_hw32 => k0_hw32.2

def k0_off64 (v654 : BitVec 32) : Fin 2 → Nat :=
  let c63_i32_446 : BitVec 32 := 63#32
  let c0_i32_445 : BitVec 32 := 0#32
  let v655 : BitVec 32 := Scalar.maxsi c0_i32_445 v654
  let v656 : BitVec 32 := Scalar.minsi c63_i32_446 v655
  let c64_i32_450 : BitVec 32 := 64#32
  let v659 : BitVec 32 := Scalar.muli v656 c64_i32_450
  let v740 : Index := Scalar.indexCast v659
  let c0_496 : Index := 0#32
  ![v740.toNat, 0]

def k0_chk33 (v654 : BitVec 32) : Prop :=
  (∀ a, (k0_off58 v654) a + S64x128.size a ≤ S4096x128.size a) ∧
  (∀ a, (k0_off64 v654) a + S64x128.size a ≤ S4096x128.size a)
theorem k0_off58_inb : ∀ (v654 : BitVec 32) (k0_hw33 : k0_chk33 v654), ∀ a, (k0_off58 v654) a + S64x128.size a ≤ S4096x128.size a := fun v654 k0_hw33 => k0_hw33.1
theorem k0_off64_inb : ∀ (v654 : BitVec 32) (k0_hw33 : k0_chk33 v654), ∀ a, (k0_off64 v654) a + S64x128.size a ≤ S4096x128.size a := fun v654 k0_hw33 => k0_hw33.2

def k0_off65 (v660 : BitVec 32) : Fin 2 → Nat :=
  let c63_i32_454 : BitVec 32 := 63#32
  let c0_i32_453 : BitVec 32 := 0#32
  let v661 : BitVec 32 := Scalar.maxsi c0_i32_453 v660
  let v662 : BitVec 32 := Scalar.minsi c63_i32_454 v661
  let c64_i32_458 : BitVec 32 := 64#32
  let v665 : BitVec 32 := Scalar.muli v662 c64_i32_458
  let v742 : Index := Scalar.indexCast v665
  let c0_497 : Index := 0#32
  ![v742.toNat, 0]

def k0_chk34 (v660 : BitVec 32) : Prop :=
  (∀ a, (k0_off59 v660) a + S64x128.size a ≤ S4096x128.size a) ∧
  (∀ a, (k0_off65 v660) a + S64x128.size a ≤ S4096x128.size a)
theorem k0_off59_inb : ∀ (v660 : BitVec 32) (k0_hw34 : k0_chk34 v660), ∀ a, (k0_off59 v660) a + S64x128.size a ≤ S4096x128.size a := fun v660 k0_hw34 => k0_hw34.1
theorem k0_off65_inb : ∀ (v660 : BitVec 32) (k0_hw34 : k0_chk34 v660), ∀ a, (k0_off65 v660) a + S64x128.size a ≤ S4096x128.size a := fun v660 k0_hw34 => k0_hw34.2

def k0_off66 (v666 : BitVec 32) : Fin 2 → Nat :=
  let c63_i32_462 : BitVec 32 := 63#32
  let c0_i32_461 : BitVec 32 := 0#32
  let v667 : BitVec 32 := Scalar.maxsi c0_i32_461 v666
  let v668 : BitVec 32 := Scalar.minsi c63_i32_462 v667
  let c64_i32_466 : BitVec 32 := 64#32
  let v671 : BitVec 32 := Scalar.muli v668 c64_i32_466
  let v748 : Index := Scalar.indexCast v671
  let c0_499 : Index := 0#32
  ![v748.toNat, 0]

def k0_chk35 (v666 : BitVec 32) : Prop :=
  (∀ a, (k0_off60 v666) a + S64x128.size a ≤ S4096x128.size a) ∧
  (∀ a, (k0_off66 v666) a + S64x128.size a ≤ S4096x128.size a)
theorem k0_off60_inb : ∀ (v666 : BitVec 32) (k0_hw35 : k0_chk35 v666), ∀ a, (k0_off60 v666) a + S64x128.size a ≤ S4096x128.size a := fun v666 k0_hw35 => k0_hw35.1
theorem k0_off66_inb : ∀ (v666 : BitVec 32) (k0_hw35 : k0_chk35 v666), ∀ a, (k0_off66 v666) a + S64x128.size a ≤ S4096x128.size a := fun v666 k0_hw35 => k0_hw35.2

def k0_off67 (v761 : BitVec 32) : Fin 2 → Nat :=
  let c63_i32_508 : BitVec 32 := 63#32
  let c0_i32_507 : BitVec 32 := 0#32
  let v762 : BitVec 32 := Scalar.maxsi c0_i32_507 v761
  let v763 : BitVec 32 := Scalar.minsi c63_i32_508 v762
  let c64_i32_512 : BitVec 32 := 64#32
  let v766 : BitVec 32 := Scalar.muli v763 c64_i32_512
  let v798 : Index := Scalar.indexCast v766
  let c0_554 : Index := 0#32
  ![v798.toNat, 0]

def k0_off68 (v767 : BitVec 32) : Fin 2 → Nat :=
  let c63_i32_516 : BitVec 32 := 63#32
  let c0_i32_515 : BitVec 32 := 0#32
  let v768 : BitVec 32 := Scalar.maxsi c0_i32_515 v767
  let v769 : BitVec 32 := Scalar.minsi c63_i32_516 v768
  let c64_i32_520 : BitVec 32 := 64#32
  let v772 : BitVec 32 := Scalar.muli v769 c64_i32_520
  let v800 : Index := Scalar.indexCast v772
  let c0_555 : Index := 0#32
  ![v800.toNat, 0]

def k0_off69 (v773 : BitVec 32) : Fin 2 → Nat :=
  let c63_i32_524 : BitVec 32 := 63#32
  let c0_i32_523 : BitVec 32 := 0#32
  let v774 : BitVec 32 := Scalar.maxsi c0_i32_523 v773
  let v775 : BitVec 32 := Scalar.minsi c63_i32_524 v774
  let c64_i32_528 : BitVec 32 := 64#32
  let v778 : BitVec 32 := Scalar.muli v775 c64_i32_528
  let v810 : Index := Scalar.indexCast v778
  let c0_557 : Index := 0#32
  ![v810.toNat, 0]

def k0_off70 (v779 : BitVec 32) : Fin 2 → Nat :=
  let c63_i32_532 : BitVec 32 := 63#32
  let c0_i32_531 : BitVec 32 := 0#32
  let v780 : BitVec 32 := Scalar.maxsi c0_i32_531 v779
  let v781 : BitVec 32 := Scalar.minsi c63_i32_532 v780
  let c64_i32_536 : BitVec 32 := 64#32
  let v784 : BitVec 32 := Scalar.muli v781 c64_i32_536
  let v812 : Index := Scalar.indexCast v784
  let c0_558 : Index := 0#32
  ![v812.toNat, 0]

def k0_off71 (v785 : BitVec 32) : Fin 2 → Nat :=
  let c63_i32_540 : BitVec 32 := 63#32
  let c0_i32_539 : BitVec 32 := 0#32
  let v786 : BitVec 32 := Scalar.maxsi c0_i32_539 v785
  let v787 : BitVec 32 := Scalar.minsi c63_i32_540 v786
  let c64_i32_544 : BitVec 32 := 64#32
  let v790 : BitVec 32 := Scalar.muli v787 c64_i32_544
  let v822 : Index := Scalar.indexCast v790
  let c0_560 : Index := 0#32
  ![v822.toNat, 0]

def k0_off72 (v791 : BitVec 32) : Fin 2 → Nat :=
  let c63_i32_548 : BitVec 32 := 63#32
  let c0_i32_547 : BitVec 32 := 0#32
  let v792 : BitVec 32 := Scalar.maxsi c0_i32_547 v791
  let v793 : BitVec 32 := Scalar.minsi c63_i32_548 v792
  let c64_i32_552 : BitVec 32 := 64#32
  let v796 : BitVec 32 := Scalar.muli v793 c64_i32_552
  let v824 : Index := Scalar.indexCast v796
  let c0_561 : Index := 0#32
  ![v824.toNat, 0]

def k0_chk42 (v791 : BitVec 32) : Prop :=
  (∀ a, (k0_off72 v791) a + S64x128.size a ≤ S4096x128.size a)
theorem k0_off72_inb : ∀ (v791 : BitVec 32) (k0_hw42 : k0_chk42 v791), ∀ a, (k0_off72 v791) a + S64x128.size a ≤ S4096x128.size a := fun v791 k0_hw42 => k0_hw42

def k0_off73 (v761 : BitVec 32) : Fin 2 → Nat :=
  let c63_i32_508 : BitVec 32 := 63#32
  let c0_i32_507 : BitVec 32 := 0#32
  let v762 : BitVec 32 := Scalar.maxsi c0_i32_507 v761
  let v763 : BitVec 32 := Scalar.minsi c63_i32_508 v762
  let c64_i32_512 : BitVec 32 := 64#32
  let v766 : BitVec 32 := Scalar.muli v763 c64_i32_512
  let v851 : Index := Scalar.indexCast v766
  let c0_571 : Index := 0#32
  ![v851.toNat, 0]

def k0_chk37 (v761 : BitVec 32) : Prop :=
  (∀ a, (k0_off67 v761) a + S64x128.size a ≤ S4096x128.size a) ∧
  (∀ a, (k0_off73 v761) a + S64x128.size a ≤ S4096x128.size a)
theorem k0_off67_inb : ∀ (v761 : BitVec 32) (k0_hw37 : k0_chk37 v761), ∀ a, (k0_off67 v761) a + S64x128.size a ≤ S4096x128.size a := fun v761 k0_hw37 => k0_hw37.1
theorem k0_off73_inb : ∀ (v761 : BitVec 32) (k0_hw37 : k0_chk37 v761), ∀ a, (k0_off73 v761) a + S64x128.size a ≤ S4096x128.size a := fun v761 k0_hw37 => k0_hw37.2

def k0_off74 (v767 : BitVec 32) : Fin 2 → Nat :=
  let c63_i32_516 : BitVec 32 := 63#32
  let c0_i32_515 : BitVec 32 := 0#32
  let v768 : BitVec 32 := Scalar.maxsi c0_i32_515 v767
  let v769 : BitVec 32 := Scalar.minsi c63_i32_516 v768
  let c64_i32_520 : BitVec 32 := 64#32
  let v772 : BitVec 32 := Scalar.muli v769 c64_i32_520
  let v853 : Index := Scalar.indexCast v772
  let c0_572 : Index := 0#32
  ![v853.toNat, 0]

def k0_chk38 (v767 : BitVec 32) : Prop :=
  (∀ a, (k0_off68 v767) a + S64x128.size a ≤ S4096x128.size a) ∧
  (∀ a, (k0_off74 v767) a + S64x128.size a ≤ S4096x128.size a)
theorem k0_off68_inb : ∀ (v767 : BitVec 32) (k0_hw38 : k0_chk38 v767), ∀ a, (k0_off68 v767) a + S64x128.size a ≤ S4096x128.size a := fun v767 k0_hw38 => k0_hw38.1
theorem k0_off74_inb : ∀ (v767 : BitVec 32) (k0_hw38 : k0_chk38 v767), ∀ a, (k0_off74 v767) a + S64x128.size a ≤ S4096x128.size a := fun v767 k0_hw38 => k0_hw38.2

def k0_off75 (v773 : BitVec 32) : Fin 2 → Nat :=
  let c63_i32_524 : BitVec 32 := 63#32
  let c0_i32_523 : BitVec 32 := 0#32
  let v774 : BitVec 32 := Scalar.maxsi c0_i32_523 v773
  let v775 : BitVec 32 := Scalar.minsi c63_i32_524 v774
  let c64_i32_528 : BitVec 32 := 64#32
  let v778 : BitVec 32 := Scalar.muli v775 c64_i32_528
  let v859 : Index := Scalar.indexCast v778
  let c0_574 : Index := 0#32
  ![v859.toNat, 0]

def k0_chk39 (v773 : BitVec 32) : Prop :=
  (∀ a, (k0_off69 v773) a + S64x128.size a ≤ S4096x128.size a) ∧
  (∀ a, (k0_off75 v773) a + S64x128.size a ≤ S4096x128.size a)
theorem k0_off69_inb : ∀ (v773 : BitVec 32) (k0_hw39 : k0_chk39 v773), ∀ a, (k0_off69 v773) a + S64x128.size a ≤ S4096x128.size a := fun v773 k0_hw39 => k0_hw39.1
theorem k0_off75_inb : ∀ (v773 : BitVec 32) (k0_hw39 : k0_chk39 v773), ∀ a, (k0_off75 v773) a + S64x128.size a ≤ S4096x128.size a := fun v773 k0_hw39 => k0_hw39.2

def k0_off76 (v779 : BitVec 32) : Fin 2 → Nat :=
  let c63_i32_532 : BitVec 32 := 63#32
  let c0_i32_531 : BitVec 32 := 0#32
  let v780 : BitVec 32 := Scalar.maxsi c0_i32_531 v779
  let v781 : BitVec 32 := Scalar.minsi c63_i32_532 v780
  let c64_i32_536 : BitVec 32 := 64#32
  let v784 : BitVec 32 := Scalar.muli v781 c64_i32_536
  let v861 : Index := Scalar.indexCast v784
  let c0_575 : Index := 0#32
  ![v861.toNat, 0]

def k0_chk40 (v779 : BitVec 32) : Prop :=
  (∀ a, (k0_off70 v779) a + S64x128.size a ≤ S4096x128.size a) ∧
  (∀ a, (k0_off76 v779) a + S64x128.size a ≤ S4096x128.size a)
theorem k0_off70_inb : ∀ (v779 : BitVec 32) (k0_hw40 : k0_chk40 v779), ∀ a, (k0_off70 v779) a + S64x128.size a ≤ S4096x128.size a := fun v779 k0_hw40 => k0_hw40.1
theorem k0_off76_inb : ∀ (v779 : BitVec 32) (k0_hw40 : k0_chk40 v779), ∀ a, (k0_off76 v779) a + S64x128.size a ≤ S4096x128.size a := fun v779 k0_hw40 => k0_hw40.2

def k0_off77 (v785 : BitVec 32) : Fin 2 → Nat :=
  let c63_i32_540 : BitVec 32 := 63#32
  let c0_i32_539 : BitVec 32 := 0#32
  let v786 : BitVec 32 := Scalar.maxsi c0_i32_539 v785
  let v787 : BitVec 32 := Scalar.minsi c63_i32_540 v786
  let c64_i32_544 : BitVec 32 := 64#32
  let v790 : BitVec 32 := Scalar.muli v787 c64_i32_544
  let v867 : Index := Scalar.indexCast v790
  let c0_577 : Index := 0#32
  ![v867.toNat, 0]

def k0_chk41 (v785 : BitVec 32) : Prop :=
  (∀ a, (k0_off71 v785) a + S64x128.size a ≤ S4096x128.size a) ∧
  (∀ a, (k0_off77 v785) a + S64x128.size a ≤ S4096x128.size a)
theorem k0_off71_inb : ∀ (v785 : BitVec 32) (k0_hw41 : k0_chk41 v785), ∀ a, (k0_off71 v785) a + S64x128.size a ≤ S4096x128.size a := fun v785 k0_hw41 => k0_hw41.1
theorem k0_off77_inb : ∀ (v785 : BitVec 32) (k0_hw41 : k0_chk41 v785), ∀ a, (k0_off77 v785) a + S64x128.size a ≤ S4096x128.size a := fun v785 k0_hw41 => k0_hw41.2

def k0_off78 (v880 : BitVec 32) : Fin 2 → Nat :=
  let c63_i32_586 : BitVec 32 := 63#32
  let c0_i32_585 : BitVec 32 := 0#32
  let v881 : BitVec 32 := Scalar.maxsi c0_i32_585 v880
  let v882 : BitVec 32 := Scalar.minsi c63_i32_586 v881
  let c64_i32_590 : BitVec 32 := 64#32
  let v885 : BitVec 32 := Scalar.muli v882 c64_i32_590
  let v917 : Index := Scalar.indexCast v885
  let c0_632 : Index := 0#32
  ![v917.toNat, 0]

def k0_off79 (v886 : BitVec 32) : Fin 2 → Nat :=
  let c63_i32_594 : BitVec 32 := 63#32
  let c0_i32_593 : BitVec 32 := 0#32
  let v887 : BitVec 32 := Scalar.maxsi c0_i32_593 v886
  let v888 : BitVec 32 := Scalar.minsi c63_i32_594 v887
  let c64_i32_598 : BitVec 32 := 64#32
  let v891 : BitVec 32 := Scalar.muli v888 c64_i32_598
  let v919 : Index := Scalar.indexCast v891
  let c0_633 : Index := 0#32
  ![v919.toNat, 0]

def k0_off80 (v892 : BitVec 32) : Fin 2 → Nat :=
  let c63_i32_602 : BitVec 32 := 63#32
  let c0_i32_601 : BitVec 32 := 0#32
  let v893 : BitVec 32 := Scalar.maxsi c0_i32_601 v892
  let v894 : BitVec 32 := Scalar.minsi c63_i32_602 v893
  let c64_i32_606 : BitVec 32 := 64#32
  let v897 : BitVec 32 := Scalar.muli v894 c64_i32_606
  let v929 : Index := Scalar.indexCast v897
  let c0_635 : Index := 0#32
  ![v929.toNat, 0]

def k0_off81 (v898 : BitVec 32) : Fin 2 → Nat :=
  let c63_i32_610 : BitVec 32 := 63#32
  let c0_i32_609 : BitVec 32 := 0#32
  let v899 : BitVec 32 := Scalar.maxsi c0_i32_609 v898
  let v900 : BitVec 32 := Scalar.minsi c63_i32_610 v899
  let c64_i32_614 : BitVec 32 := 64#32
  let v903 : BitVec 32 := Scalar.muli v900 c64_i32_614
  let v931 : Index := Scalar.indexCast v903
  let c0_636 : Index := 0#32
  ![v931.toNat, 0]

def k0_off82 (v904 : BitVec 32) : Fin 2 → Nat :=
  let c63_i32_618 : BitVec 32 := 63#32
  let c0_i32_617 : BitVec 32 := 0#32
  let v905 : BitVec 32 := Scalar.maxsi c0_i32_617 v904
  let v906 : BitVec 32 := Scalar.minsi c63_i32_618 v905
  let c64_i32_622 : BitVec 32 := 64#32
  let v909 : BitVec 32 := Scalar.muli v906 c64_i32_622
  let v941 : Index := Scalar.indexCast v909
  let c0_638 : Index := 0#32
  ![v941.toNat, 0]

def k0_off83 (v910 : BitVec 32) : Fin 2 → Nat :=
  let c63_i32_626 : BitVec 32 := 63#32
  let c0_i32_625 : BitVec 32 := 0#32
  let v911 : BitVec 32 := Scalar.maxsi c0_i32_625 v910
  let v912 : BitVec 32 := Scalar.minsi c63_i32_626 v911
  let c64_i32_630 : BitVec 32 := 64#32
  let v915 : BitVec 32 := Scalar.muli v912 c64_i32_630
  let v943 : Index := Scalar.indexCast v915
  let c0_639 : Index := 0#32
  ![v943.toNat, 0]

def k0_chk48 (v910 : BitVec 32) : Prop :=
  (∀ a, (k0_off83 v910) a + S64x128.size a ≤ S4096x128.size a)
theorem k0_off83_inb : ∀ (v910 : BitVec 32) (k0_hw48 : k0_chk48 v910), ∀ a, (k0_off83 v910) a + S64x128.size a ≤ S4096x128.size a := fun v910 k0_hw48 => k0_hw48

def k0_off84 (v880 : BitVec 32) : Fin 2 → Nat :=
  let c63_i32_586 : BitVec 32 := 63#32
  let c0_i32_585 : BitVec 32 := 0#32
  let v881 : BitVec 32 := Scalar.maxsi c0_i32_585 v880
  let v882 : BitVec 32 := Scalar.minsi c63_i32_586 v881
  let c64_i32_590 : BitVec 32 := 64#32
  let v885 : BitVec 32 := Scalar.muli v882 c64_i32_590
  let v970 : Index := Scalar.indexCast v885
  let c0_649 : Index := 0#32
  ![v970.toNat, 0]

def k0_chk43 (v880 : BitVec 32) : Prop :=
  (∀ a, (k0_off78 v880) a + S64x128.size a ≤ S4096x128.size a) ∧
  (∀ a, (k0_off84 v880) a + S64x128.size a ≤ S4096x128.size a)
theorem k0_off78_inb : ∀ (v880 : BitVec 32) (k0_hw43 : k0_chk43 v880), ∀ a, (k0_off78 v880) a + S64x128.size a ≤ S4096x128.size a := fun v880 k0_hw43 => k0_hw43.1
theorem k0_off84_inb : ∀ (v880 : BitVec 32) (k0_hw43 : k0_chk43 v880), ∀ a, (k0_off84 v880) a + S64x128.size a ≤ S4096x128.size a := fun v880 k0_hw43 => k0_hw43.2

def k0_off85 (v886 : BitVec 32) : Fin 2 → Nat :=
  let c63_i32_594 : BitVec 32 := 63#32
  let c0_i32_593 : BitVec 32 := 0#32
  let v887 : BitVec 32 := Scalar.maxsi c0_i32_593 v886
  let v888 : BitVec 32 := Scalar.minsi c63_i32_594 v887
  let c64_i32_598 : BitVec 32 := 64#32
  let v891 : BitVec 32 := Scalar.muli v888 c64_i32_598
  let v972 : Index := Scalar.indexCast v891
  let c0_650 : Index := 0#32
  ![v972.toNat, 0]

def k0_chk44 (v886 : BitVec 32) : Prop :=
  (∀ a, (k0_off79 v886) a + S64x128.size a ≤ S4096x128.size a) ∧
  (∀ a, (k0_off85 v886) a + S64x128.size a ≤ S4096x128.size a)
theorem k0_off79_inb : ∀ (v886 : BitVec 32) (k0_hw44 : k0_chk44 v886), ∀ a, (k0_off79 v886) a + S64x128.size a ≤ S4096x128.size a := fun v886 k0_hw44 => k0_hw44.1
theorem k0_off85_inb : ∀ (v886 : BitVec 32) (k0_hw44 : k0_chk44 v886), ∀ a, (k0_off85 v886) a + S64x128.size a ≤ S4096x128.size a := fun v886 k0_hw44 => k0_hw44.2

def k0_off86 (v892 : BitVec 32) : Fin 2 → Nat :=
  let c63_i32_602 : BitVec 32 := 63#32
  let c0_i32_601 : BitVec 32 := 0#32
  let v893 : BitVec 32 := Scalar.maxsi c0_i32_601 v892
  let v894 : BitVec 32 := Scalar.minsi c63_i32_602 v893
  let c64_i32_606 : BitVec 32 := 64#32
  let v897 : BitVec 32 := Scalar.muli v894 c64_i32_606
  let v978 : Index := Scalar.indexCast v897
  let c0_652 : Index := 0#32
  ![v978.toNat, 0]

def k0_chk45 (v892 : BitVec 32) : Prop :=
  (∀ a, (k0_off80 v892) a + S64x128.size a ≤ S4096x128.size a) ∧
  (∀ a, (k0_off86 v892) a + S64x128.size a ≤ S4096x128.size a)
theorem k0_off80_inb : ∀ (v892 : BitVec 32) (k0_hw45 : k0_chk45 v892), ∀ a, (k0_off80 v892) a + S64x128.size a ≤ S4096x128.size a := fun v892 k0_hw45 => k0_hw45.1
theorem k0_off86_inb : ∀ (v892 : BitVec 32) (k0_hw45 : k0_chk45 v892), ∀ a, (k0_off86 v892) a + S64x128.size a ≤ S4096x128.size a := fun v892 k0_hw45 => k0_hw45.2

def k0_off87 (v898 : BitVec 32) : Fin 2 → Nat :=
  let c63_i32_610 : BitVec 32 := 63#32
  let c0_i32_609 : BitVec 32 := 0#32
  let v899 : BitVec 32 := Scalar.maxsi c0_i32_609 v898
  let v900 : BitVec 32 := Scalar.minsi c63_i32_610 v899
  let c64_i32_614 : BitVec 32 := 64#32
  let v903 : BitVec 32 := Scalar.muli v900 c64_i32_614
  let v980 : Index := Scalar.indexCast v903
  let c0_653 : Index := 0#32
  ![v980.toNat, 0]

def k0_chk46 (v898 : BitVec 32) : Prop :=
  (∀ a, (k0_off81 v898) a + S64x128.size a ≤ S4096x128.size a) ∧
  (∀ a, (k0_off87 v898) a + S64x128.size a ≤ S4096x128.size a)
theorem k0_off81_inb : ∀ (v898 : BitVec 32) (k0_hw46 : k0_chk46 v898), ∀ a, (k0_off81 v898) a + S64x128.size a ≤ S4096x128.size a := fun v898 k0_hw46 => k0_hw46.1
theorem k0_off87_inb : ∀ (v898 : BitVec 32) (k0_hw46 : k0_chk46 v898), ∀ a, (k0_off87 v898) a + S64x128.size a ≤ S4096x128.size a := fun v898 k0_hw46 => k0_hw46.2

def k0_off88 (v904 : BitVec 32) : Fin 2 → Nat :=
  let c63_i32_618 : BitVec 32 := 63#32
  let c0_i32_617 : BitVec 32 := 0#32
  let v905 : BitVec 32 := Scalar.maxsi c0_i32_617 v904
  let v906 : BitVec 32 := Scalar.minsi c63_i32_618 v905
  let c64_i32_622 : BitVec 32 := 64#32
  let v909 : BitVec 32 := Scalar.muli v906 c64_i32_622
  let v986 : Index := Scalar.indexCast v909
  let c0_655 : Index := 0#32
  ![v986.toNat, 0]

def k0_chk47 (v904 : BitVec 32) : Prop :=
  (∀ a, (k0_off82 v904) a + S64x128.size a ≤ S4096x128.size a) ∧
  (∀ a, (k0_off88 v904) a + S64x128.size a ≤ S4096x128.size a)
theorem k0_off82_inb : ∀ (v904 : BitVec 32) (k0_hw47 : k0_chk47 v904), ∀ a, (k0_off82 v904) a + S64x128.size a ≤ S4096x128.size a := fun v904 k0_hw47 => k0_hw47.1
theorem k0_off88_inb : ∀ (v904 : BitVec 32) (k0_hw47 : k0_chk47 v904), ∀ a, (k0_off88 v904) a + S64x128.size a ≤ S4096x128.size a := fun v904 k0_hw47 => k0_hw47.2

def k0_off89 (v999 : BitVec 32) : Fin 2 → Nat :=
  let c63_i32_664 : BitVec 32 := 63#32
  let c0_i32_663 : BitVec 32 := 0#32
  let v1000 : BitVec 32 := Scalar.maxsi c0_i32_663 v999
  let v1001 : BitVec 32 := Scalar.minsi c63_i32_664 v1000
  let c64_i32_668 : BitVec 32 := 64#32
  let v1004 : BitVec 32 := Scalar.muli v1001 c64_i32_668
  let v1036 : Index := Scalar.indexCast v1004
  let c0_710 : Index := 0#32
  ![v1036.toNat, 0]

def k0_off90 (v1005 : BitVec 32) : Fin 2 → Nat :=
  let c63_i32_672 : BitVec 32 := 63#32
  let c0_i32_671 : BitVec 32 := 0#32
  let v1006 : BitVec 32 := Scalar.maxsi c0_i32_671 v1005
  let v1007 : BitVec 32 := Scalar.minsi c63_i32_672 v1006
  let c64_i32_676 : BitVec 32 := 64#32
  let v1010 : BitVec 32 := Scalar.muli v1007 c64_i32_676
  let v1038 : Index := Scalar.indexCast v1010
  let c0_711 : Index := 0#32
  ![v1038.toNat, 0]

def k0_off91 (v1011 : BitVec 32) : Fin 2 → Nat :=
  let c63_i32_680 : BitVec 32 := 63#32
  let c0_i32_679 : BitVec 32 := 0#32
  let v1012 : BitVec 32 := Scalar.maxsi c0_i32_679 v1011
  let v1013 : BitVec 32 := Scalar.minsi c63_i32_680 v1012
  let c64_i32_684 : BitVec 32 := 64#32
  let v1016 : BitVec 32 := Scalar.muli v1013 c64_i32_684
  let v1048 : Index := Scalar.indexCast v1016
  let c0_713 : Index := 0#32
  ![v1048.toNat, 0]

def k0_off92 (v1017 : BitVec 32) : Fin 2 → Nat :=
  let c63_i32_688 : BitVec 32 := 63#32
  let c0_i32_687 : BitVec 32 := 0#32
  let v1018 : BitVec 32 := Scalar.maxsi c0_i32_687 v1017
  let v1019 : BitVec 32 := Scalar.minsi c63_i32_688 v1018
  let c64_i32_692 : BitVec 32 := 64#32
  let v1022 : BitVec 32 := Scalar.muli v1019 c64_i32_692
  let v1050 : Index := Scalar.indexCast v1022
  let c0_714 : Index := 0#32
  ![v1050.toNat, 0]

def k0_off93 (v1023 : BitVec 32) : Fin 2 → Nat :=
  let c63_i32_696 : BitVec 32 := 63#32
  let c0_i32_695 : BitVec 32 := 0#32
  let v1024 : BitVec 32 := Scalar.maxsi c0_i32_695 v1023
  let v1025 : BitVec 32 := Scalar.minsi c63_i32_696 v1024
  let c64_i32_700 : BitVec 32 := 64#32
  let v1028 : BitVec 32 := Scalar.muli v1025 c64_i32_700
  let v1060 : Index := Scalar.indexCast v1028
  let c0_716 : Index := 0#32
  ![v1060.toNat, 0]

def k0_off94 (v1029 : BitVec 32) : Fin 2 → Nat :=
  let c63_i32_704 : BitVec 32 := 63#32
  let c0_i32_703 : BitVec 32 := 0#32
  let v1030 : BitVec 32 := Scalar.maxsi c0_i32_703 v1029
  let v1031 : BitVec 32 := Scalar.minsi c63_i32_704 v1030
  let c64_i32_708 : BitVec 32 := 64#32
  let v1034 : BitVec 32 := Scalar.muli v1031 c64_i32_708
  let v1062 : Index := Scalar.indexCast v1034
  let c0_717 : Index := 0#32
  ![v1062.toNat, 0]

def k0_chk54 (v1029 : BitVec 32) : Prop :=
  (∀ a, (k0_off94 v1029) a + S64x128.size a ≤ S4096x128.size a)
theorem k0_off94_inb : ∀ (v1029 : BitVec 32) (k0_hw54 : k0_chk54 v1029), ∀ a, (k0_off94 v1029) a + S64x128.size a ≤ S4096x128.size a := fun v1029 k0_hw54 => k0_hw54

def k0_off95 (v999 : BitVec 32) : Fin 2 → Nat :=
  let c63_i32_664 : BitVec 32 := 63#32
  let c0_i32_663 : BitVec 32 := 0#32
  let v1000 : BitVec 32 := Scalar.maxsi c0_i32_663 v999
  let v1001 : BitVec 32 := Scalar.minsi c63_i32_664 v1000
  let c64_i32_668 : BitVec 32 := 64#32
  let v1004 : BitVec 32 := Scalar.muli v1001 c64_i32_668
  let v1089 : Index := Scalar.indexCast v1004
  let c0_727 : Index := 0#32
  ![v1089.toNat, 0]

def k0_chk49 (v999 : BitVec 32) : Prop :=
  (∀ a, (k0_off89 v999) a + S64x128.size a ≤ S4096x128.size a) ∧
  (∀ a, (k0_off95 v999) a + S64x128.size a ≤ S4096x128.size a)
theorem k0_off89_inb : ∀ (v999 : BitVec 32) (k0_hw49 : k0_chk49 v999), ∀ a, (k0_off89 v999) a + S64x128.size a ≤ S4096x128.size a := fun v999 k0_hw49 => k0_hw49.1
theorem k0_off95_inb : ∀ (v999 : BitVec 32) (k0_hw49 : k0_chk49 v999), ∀ a, (k0_off95 v999) a + S64x128.size a ≤ S4096x128.size a := fun v999 k0_hw49 => k0_hw49.2

def k0_off96 (v1005 : BitVec 32) : Fin 2 → Nat :=
  let c63_i32_672 : BitVec 32 := 63#32
  let c0_i32_671 : BitVec 32 := 0#32
  let v1006 : BitVec 32 := Scalar.maxsi c0_i32_671 v1005
  let v1007 : BitVec 32 := Scalar.minsi c63_i32_672 v1006
  let c64_i32_676 : BitVec 32 := 64#32
  let v1010 : BitVec 32 := Scalar.muli v1007 c64_i32_676
  let v1091 : Index := Scalar.indexCast v1010
  let c0_728 : Index := 0#32
  ![v1091.toNat, 0]

def k0_chk50 (v1005 : BitVec 32) : Prop :=
  (∀ a, (k0_off90 v1005) a + S64x128.size a ≤ S4096x128.size a) ∧
  (∀ a, (k0_off96 v1005) a + S64x128.size a ≤ S4096x128.size a)
theorem k0_off90_inb : ∀ (v1005 : BitVec 32) (k0_hw50 : k0_chk50 v1005), ∀ a, (k0_off90 v1005) a + S64x128.size a ≤ S4096x128.size a := fun v1005 k0_hw50 => k0_hw50.1
theorem k0_off96_inb : ∀ (v1005 : BitVec 32) (k0_hw50 : k0_chk50 v1005), ∀ a, (k0_off96 v1005) a + S64x128.size a ≤ S4096x128.size a := fun v1005 k0_hw50 => k0_hw50.2

def k0_off97 (v1011 : BitVec 32) : Fin 2 → Nat :=
  let c63_i32_680 : BitVec 32 := 63#32
  let c0_i32_679 : BitVec 32 := 0#32
  let v1012 : BitVec 32 := Scalar.maxsi c0_i32_679 v1011
  let v1013 : BitVec 32 := Scalar.minsi c63_i32_680 v1012
  let c64_i32_684 : BitVec 32 := 64#32
  let v1016 : BitVec 32 := Scalar.muli v1013 c64_i32_684
  let v1097 : Index := Scalar.indexCast v1016
  let c0_730 : Index := 0#32
  ![v1097.toNat, 0]

def k0_chk51 (v1011 : BitVec 32) : Prop :=
  (∀ a, (k0_off91 v1011) a + S64x128.size a ≤ S4096x128.size a) ∧
  (∀ a, (k0_off97 v1011) a + S64x128.size a ≤ S4096x128.size a)
theorem k0_off91_inb : ∀ (v1011 : BitVec 32) (k0_hw51 : k0_chk51 v1011), ∀ a, (k0_off91 v1011) a + S64x128.size a ≤ S4096x128.size a := fun v1011 k0_hw51 => k0_hw51.1
theorem k0_off97_inb : ∀ (v1011 : BitVec 32) (k0_hw51 : k0_chk51 v1011), ∀ a, (k0_off97 v1011) a + S64x128.size a ≤ S4096x128.size a := fun v1011 k0_hw51 => k0_hw51.2

def k0_off98 (v1017 : BitVec 32) : Fin 2 → Nat :=
  let c63_i32_688 : BitVec 32 := 63#32
  let c0_i32_687 : BitVec 32 := 0#32
  let v1018 : BitVec 32 := Scalar.maxsi c0_i32_687 v1017
  let v1019 : BitVec 32 := Scalar.minsi c63_i32_688 v1018
  let c64_i32_692 : BitVec 32 := 64#32
  let v1022 : BitVec 32 := Scalar.muli v1019 c64_i32_692
  let v1099 : Index := Scalar.indexCast v1022
  let c0_731 : Index := 0#32
  ![v1099.toNat, 0]

def k0_chk52 (v1017 : BitVec 32) : Prop :=
  (∀ a, (k0_off92 v1017) a + S64x128.size a ≤ S4096x128.size a) ∧
  (∀ a, (k0_off98 v1017) a + S64x128.size a ≤ S4096x128.size a)
theorem k0_off92_inb : ∀ (v1017 : BitVec 32) (k0_hw52 : k0_chk52 v1017), ∀ a, (k0_off92 v1017) a + S64x128.size a ≤ S4096x128.size a := fun v1017 k0_hw52 => k0_hw52.1
theorem k0_off98_inb : ∀ (v1017 : BitVec 32) (k0_hw52 : k0_chk52 v1017), ∀ a, (k0_off98 v1017) a + S64x128.size a ≤ S4096x128.size a := fun v1017 k0_hw52 => k0_hw52.2

def k0_off99 (v1023 : BitVec 32) : Fin 2 → Nat :=
  let c63_i32_696 : BitVec 32 := 63#32
  let c0_i32_695 : BitVec 32 := 0#32
  let v1024 : BitVec 32 := Scalar.maxsi c0_i32_695 v1023
  let v1025 : BitVec 32 := Scalar.minsi c63_i32_696 v1024
  let c64_i32_700 : BitVec 32 := 64#32
  let v1028 : BitVec 32 := Scalar.muli v1025 c64_i32_700
  let v1105 : Index := Scalar.indexCast v1028
  let c0_733 : Index := 0#32
  ![v1105.toNat, 0]

def k0_chk53 (v1023 : BitVec 32) : Prop :=
  (∀ a, (k0_off93 v1023) a + S64x128.size a ≤ S4096x128.size a) ∧
  (∀ a, (k0_off99 v1023) a + S64x128.size a ≤ S4096x128.size a)
theorem k0_off93_inb : ∀ (v1023 : BitVec 32) (k0_hw53 : k0_chk53 v1023), ∀ a, (k0_off93 v1023) a + S64x128.size a ≤ S4096x128.size a := fun v1023 k0_hw53 => k0_hw53.1
theorem k0_off99_inb : ∀ (v1023 : BitVec 32) (k0_hw53 : k0_chk53 v1023), ∀ a, (k0_off99 v1023) a + S64x128.size a ≤ S4096x128.size a := fun v1023 k0_hw53 => k0_hw53.2

def k0_off100 (v1118 : BitVec 32) : Fin 2 → Nat :=
  let c63_i32_742 : BitVec 32 := 63#32
  let c0_i32_741 : BitVec 32 := 0#32
  let v1119 : BitVec 32 := Scalar.maxsi c0_i32_741 v1118
  let v1120 : BitVec 32 := Scalar.minsi c63_i32_742 v1119
  let c64_i32_746 : BitVec 32 := 64#32
  let v1123 : BitVec 32 := Scalar.muli v1120 c64_i32_746
  let v1155 : Index := Scalar.indexCast v1123
  let c0_788 : Index := 0#32
  ![v1155.toNat, 0]

def k0_off101 (v1124 : BitVec 32) : Fin 2 → Nat :=
  let c63_i32_750 : BitVec 32 := 63#32
  let c0_i32_749 : BitVec 32 := 0#32
  let v1125 : BitVec 32 := Scalar.maxsi c0_i32_749 v1124
  let v1126 : BitVec 32 := Scalar.minsi c63_i32_750 v1125
  let c64_i32_754 : BitVec 32 := 64#32
  let v1129 : BitVec 32 := Scalar.muli v1126 c64_i32_754
  let v1157 : Index := Scalar.indexCast v1129
  let c0_789 : Index := 0#32
  ![v1157.toNat, 0]

def k0_off102 (v1130 : BitVec 32) : Fin 2 → Nat :=
  let c63_i32_758 : BitVec 32 := 63#32
  let c0_i32_757 : BitVec 32 := 0#32
  let v1131 : BitVec 32 := Scalar.maxsi c0_i32_757 v1130
  let v1132 : BitVec 32 := Scalar.minsi c63_i32_758 v1131
  let c64_i32_762 : BitVec 32 := 64#32
  let v1135 : BitVec 32 := Scalar.muli v1132 c64_i32_762
  let v1167 : Index := Scalar.indexCast v1135
  let c0_791 : Index := 0#32
  ![v1167.toNat, 0]

def k0_off103 (v1136 : BitVec 32) : Fin 2 → Nat :=
  let c63_i32_766 : BitVec 32 := 63#32
  let c0_i32_765 : BitVec 32 := 0#32
  let v1137 : BitVec 32 := Scalar.maxsi c0_i32_765 v1136
  let v1138 : BitVec 32 := Scalar.minsi c63_i32_766 v1137
  let c64_i32_770 : BitVec 32 := 64#32
  let v1141 : BitVec 32 := Scalar.muli v1138 c64_i32_770
  let v1169 : Index := Scalar.indexCast v1141
  let c0_792 : Index := 0#32
  ![v1169.toNat, 0]

def k0_off104 (v1142 : BitVec 32) : Fin 2 → Nat :=
  let c63_i32_774 : BitVec 32 := 63#32
  let c0_i32_773 : BitVec 32 := 0#32
  let v1143 : BitVec 32 := Scalar.maxsi c0_i32_773 v1142
  let v1144 : BitVec 32 := Scalar.minsi c63_i32_774 v1143
  let c64_i32_778 : BitVec 32 := 64#32
  let v1147 : BitVec 32 := Scalar.muli v1144 c64_i32_778
  let v1179 : Index := Scalar.indexCast v1147
  let c0_794 : Index := 0#32
  ![v1179.toNat, 0]

def k0_off105 (v1148 : BitVec 32) : Fin 2 → Nat :=
  let c63_i32_782 : BitVec 32 := 63#32
  let c0_i32_781 : BitVec 32 := 0#32
  let v1149 : BitVec 32 := Scalar.maxsi c0_i32_781 v1148
  let v1150 : BitVec 32 := Scalar.minsi c63_i32_782 v1149
  let c64_i32_786 : BitVec 32 := 64#32
  let v1153 : BitVec 32 := Scalar.muli v1150 c64_i32_786
  let v1181 : Index := Scalar.indexCast v1153
  let c0_795 : Index := 0#32
  ![v1181.toNat, 0]

def k0_chk60 (v1148 : BitVec 32) : Prop :=
  (∀ a, (k0_off105 v1148) a + S64x128.size a ≤ S4096x128.size a)
theorem k0_off105_inb : ∀ (v1148 : BitVec 32) (k0_hw60 : k0_chk60 v1148), ∀ a, (k0_off105 v1148) a + S64x128.size a ≤ S4096x128.size a := fun v1148 k0_hw60 => k0_hw60

def k0_off106 (v1118 : BitVec 32) : Fin 2 → Nat :=
  let c63_i32_742 : BitVec 32 := 63#32
  let c0_i32_741 : BitVec 32 := 0#32
  let v1119 : BitVec 32 := Scalar.maxsi c0_i32_741 v1118
  let v1120 : BitVec 32 := Scalar.minsi c63_i32_742 v1119
  let c64_i32_746 : BitVec 32 := 64#32
  let v1123 : BitVec 32 := Scalar.muli v1120 c64_i32_746
  let v1208 : Index := Scalar.indexCast v1123
  let c0_805 : Index := 0#32
  ![v1208.toNat, 0]

def k0_chk55 (v1118 : BitVec 32) : Prop :=
  (∀ a, (k0_off100 v1118) a + S64x128.size a ≤ S4096x128.size a) ∧
  (∀ a, (k0_off106 v1118) a + S64x128.size a ≤ S4096x128.size a)
theorem k0_off100_inb : ∀ (v1118 : BitVec 32) (k0_hw55 : k0_chk55 v1118), ∀ a, (k0_off100 v1118) a + S64x128.size a ≤ S4096x128.size a := fun v1118 k0_hw55 => k0_hw55.1
theorem k0_off106_inb : ∀ (v1118 : BitVec 32) (k0_hw55 : k0_chk55 v1118), ∀ a, (k0_off106 v1118) a + S64x128.size a ≤ S4096x128.size a := fun v1118 k0_hw55 => k0_hw55.2

def k0_off107 (v1124 : BitVec 32) : Fin 2 → Nat :=
  let c63_i32_750 : BitVec 32 := 63#32
  let c0_i32_749 : BitVec 32 := 0#32
  let v1125 : BitVec 32 := Scalar.maxsi c0_i32_749 v1124
  let v1126 : BitVec 32 := Scalar.minsi c63_i32_750 v1125
  let c64_i32_754 : BitVec 32 := 64#32
  let v1129 : BitVec 32 := Scalar.muli v1126 c64_i32_754
  let v1210 : Index := Scalar.indexCast v1129
  let c0_806 : Index := 0#32
  ![v1210.toNat, 0]

def k0_chk56 (v1124 : BitVec 32) : Prop :=
  (∀ a, (k0_off101 v1124) a + S64x128.size a ≤ S4096x128.size a) ∧
  (∀ a, (k0_off107 v1124) a + S64x128.size a ≤ S4096x128.size a)
theorem k0_off101_inb : ∀ (v1124 : BitVec 32) (k0_hw56 : k0_chk56 v1124), ∀ a, (k0_off101 v1124) a + S64x128.size a ≤ S4096x128.size a := fun v1124 k0_hw56 => k0_hw56.1
theorem k0_off107_inb : ∀ (v1124 : BitVec 32) (k0_hw56 : k0_chk56 v1124), ∀ a, (k0_off107 v1124) a + S64x128.size a ≤ S4096x128.size a := fun v1124 k0_hw56 => k0_hw56.2

def k0_off108 (v1130 : BitVec 32) : Fin 2 → Nat :=
  let c63_i32_758 : BitVec 32 := 63#32
  let c0_i32_757 : BitVec 32 := 0#32
  let v1131 : BitVec 32 := Scalar.maxsi c0_i32_757 v1130
  let v1132 : BitVec 32 := Scalar.minsi c63_i32_758 v1131
  let c64_i32_762 : BitVec 32 := 64#32
  let v1135 : BitVec 32 := Scalar.muli v1132 c64_i32_762
  let v1216 : Index := Scalar.indexCast v1135
  let c0_808 : Index := 0#32
  ![v1216.toNat, 0]

def k0_chk57 (v1130 : BitVec 32) : Prop :=
  (∀ a, (k0_off102 v1130) a + S64x128.size a ≤ S4096x128.size a) ∧
  (∀ a, (k0_off108 v1130) a + S64x128.size a ≤ S4096x128.size a)
theorem k0_off102_inb : ∀ (v1130 : BitVec 32) (k0_hw57 : k0_chk57 v1130), ∀ a, (k0_off102 v1130) a + S64x128.size a ≤ S4096x128.size a := fun v1130 k0_hw57 => k0_hw57.1
theorem k0_off108_inb : ∀ (v1130 : BitVec 32) (k0_hw57 : k0_chk57 v1130), ∀ a, (k0_off108 v1130) a + S64x128.size a ≤ S4096x128.size a := fun v1130 k0_hw57 => k0_hw57.2

def k0_off109 (v1136 : BitVec 32) : Fin 2 → Nat :=
  let c63_i32_766 : BitVec 32 := 63#32
  let c0_i32_765 : BitVec 32 := 0#32
  let v1137 : BitVec 32 := Scalar.maxsi c0_i32_765 v1136
  let v1138 : BitVec 32 := Scalar.minsi c63_i32_766 v1137
  let c64_i32_770 : BitVec 32 := 64#32
  let v1141 : BitVec 32 := Scalar.muli v1138 c64_i32_770
  let v1218 : Index := Scalar.indexCast v1141
  let c0_809 : Index := 0#32
  ![v1218.toNat, 0]

def k0_chk58 (v1136 : BitVec 32) : Prop :=
  (∀ a, (k0_off103 v1136) a + S64x128.size a ≤ S4096x128.size a) ∧
  (∀ a, (k0_off109 v1136) a + S64x128.size a ≤ S4096x128.size a)
theorem k0_off103_inb : ∀ (v1136 : BitVec 32) (k0_hw58 : k0_chk58 v1136), ∀ a, (k0_off103 v1136) a + S64x128.size a ≤ S4096x128.size a := fun v1136 k0_hw58 => k0_hw58.1
theorem k0_off109_inb : ∀ (v1136 : BitVec 32) (k0_hw58 : k0_chk58 v1136), ∀ a, (k0_off109 v1136) a + S64x128.size a ≤ S4096x128.size a := fun v1136 k0_hw58 => k0_hw58.2

def k0_off110 (v1142 : BitVec 32) : Fin 2 → Nat :=
  let c63_i32_774 : BitVec 32 := 63#32
  let c0_i32_773 : BitVec 32 := 0#32
  let v1143 : BitVec 32 := Scalar.maxsi c0_i32_773 v1142
  let v1144 : BitVec 32 := Scalar.minsi c63_i32_774 v1143
  let c64_i32_778 : BitVec 32 := 64#32
  let v1147 : BitVec 32 := Scalar.muli v1144 c64_i32_778
  let v1224 : Index := Scalar.indexCast v1147
  let c0_811 : Index := 0#32
  ![v1224.toNat, 0]

def k0_chk59 (v1142 : BitVec 32) : Prop :=
  (∀ a, (k0_off104 v1142) a + S64x128.size a ≤ S4096x128.size a) ∧
  (∀ a, (k0_off110 v1142) a + S64x128.size a ≤ S4096x128.size a)
theorem k0_off104_inb : ∀ (v1142 : BitVec 32) (k0_hw59 : k0_chk59 v1142), ∀ a, (k0_off104 v1142) a + S64x128.size a ≤ S4096x128.size a := fun v1142 k0_hw59 => k0_hw59.1
theorem k0_off110_inb : ∀ (v1142 : BitVec 32) (k0_hw59 : k0_chk59 v1142), ∀ a, (k0_off110 v1142) a + S64x128.size a ≤ S4096x128.size a := fun v1142 k0_hw59 => k0_hw59.2

def k0_off111 (v1237 : BitVec 32) : Fin 2 → Nat :=
  let c63_i32_820 : BitVec 32 := 63#32
  let c0_i32_819 : BitVec 32 := 0#32
  let v1238 : BitVec 32 := Scalar.maxsi c0_i32_819 v1237
  let v1239 : BitVec 32 := Scalar.minsi c63_i32_820 v1238
  let c64_i32_824 : BitVec 32 := 64#32
  let v1242 : BitVec 32 := Scalar.muli v1239 c64_i32_824
  let v1274 : Index := Scalar.indexCast v1242
  let c0_866 : Index := 0#32
  ![v1274.toNat, 0]

def k0_off112 (v1243 : BitVec 32) : Fin 2 → Nat :=
  let c63_i32_828 : BitVec 32 := 63#32
  let c0_i32_827 : BitVec 32 := 0#32
  let v1244 : BitVec 32 := Scalar.maxsi c0_i32_827 v1243
  let v1245 : BitVec 32 := Scalar.minsi c63_i32_828 v1244
  let c64_i32_832 : BitVec 32 := 64#32
  let v1248 : BitVec 32 := Scalar.muli v1245 c64_i32_832
  let v1276 : Index := Scalar.indexCast v1248
  let c0_867 : Index := 0#32
  ![v1276.toNat, 0]

def k0_off113 (v1249 : BitVec 32) : Fin 2 → Nat :=
  let c63_i32_836 : BitVec 32 := 63#32
  let c0_i32_835 : BitVec 32 := 0#32
  let v1250 : BitVec 32 := Scalar.maxsi c0_i32_835 v1249
  let v1251 : BitVec 32 := Scalar.minsi c63_i32_836 v1250
  let c64_i32_840 : BitVec 32 := 64#32
  let v1254 : BitVec 32 := Scalar.muli v1251 c64_i32_840
  let v1286 : Index := Scalar.indexCast v1254
  let c0_869 : Index := 0#32
  ![v1286.toNat, 0]

def k0_off114 (v1255 : BitVec 32) : Fin 2 → Nat :=
  let c63_i32_844 : BitVec 32 := 63#32
  let c0_i32_843 : BitVec 32 := 0#32
  let v1256 : BitVec 32 := Scalar.maxsi c0_i32_843 v1255
  let v1257 : BitVec 32 := Scalar.minsi c63_i32_844 v1256
  let c64_i32_848 : BitVec 32 := 64#32
  let v1260 : BitVec 32 := Scalar.muli v1257 c64_i32_848
  let v1288 : Index := Scalar.indexCast v1260
  let c0_870 : Index := 0#32
  ![v1288.toNat, 0]

def k0_off115 (v1261 : BitVec 32) : Fin 2 → Nat :=
  let c63_i32_852 : BitVec 32 := 63#32
  let c0_i32_851 : BitVec 32 := 0#32
  let v1262 : BitVec 32 := Scalar.maxsi c0_i32_851 v1261
  let v1263 : BitVec 32 := Scalar.minsi c63_i32_852 v1262
  let c64_i32_856 : BitVec 32 := 64#32
  let v1266 : BitVec 32 := Scalar.muli v1263 c64_i32_856
  let v1298 : Index := Scalar.indexCast v1266
  let c0_872 : Index := 0#32
  ![v1298.toNat, 0]

def k0_off116 (v1267 : BitVec 32) : Fin 2 → Nat :=
  let c63_i32_860 : BitVec 32 := 63#32
  let c0_i32_859 : BitVec 32 := 0#32
  let v1268 : BitVec 32 := Scalar.maxsi c0_i32_859 v1267
  let v1269 : BitVec 32 := Scalar.minsi c63_i32_860 v1268
  let c64_i32_864 : BitVec 32 := 64#32
  let v1272 : BitVec 32 := Scalar.muli v1269 c64_i32_864
  let v1300 : Index := Scalar.indexCast v1272
  let c0_873 : Index := 0#32
  ![v1300.toNat, 0]

def k0_chk66 (v1267 : BitVec 32) : Prop :=
  (∀ a, (k0_off116 v1267) a + S64x128.size a ≤ S4096x128.size a)
theorem k0_off116_inb : ∀ (v1267 : BitVec 32) (k0_hw66 : k0_chk66 v1267), ∀ a, (k0_off116 v1267) a + S64x128.size a ≤ S4096x128.size a := fun v1267 k0_hw66 => k0_hw66

def k0_off117 (v1237 : BitVec 32) : Fin 2 → Nat :=
  let c63_i32_820 : BitVec 32 := 63#32
  let c0_i32_819 : BitVec 32 := 0#32
  let v1238 : BitVec 32 := Scalar.maxsi c0_i32_819 v1237
  let v1239 : BitVec 32 := Scalar.minsi c63_i32_820 v1238
  let c64_i32_824 : BitVec 32 := 64#32
  let v1242 : BitVec 32 := Scalar.muli v1239 c64_i32_824
  let v1327 : Index := Scalar.indexCast v1242
  let c0_883 : Index := 0#32
  ![v1327.toNat, 0]

def k0_chk61 (v1237 : BitVec 32) : Prop :=
  (∀ a, (k0_off111 v1237) a + S64x128.size a ≤ S4096x128.size a) ∧
  (∀ a, (k0_off117 v1237) a + S64x128.size a ≤ S4096x128.size a)
theorem k0_off111_inb : ∀ (v1237 : BitVec 32) (k0_hw61 : k0_chk61 v1237), ∀ a, (k0_off111 v1237) a + S64x128.size a ≤ S4096x128.size a := fun v1237 k0_hw61 => k0_hw61.1
theorem k0_off117_inb : ∀ (v1237 : BitVec 32) (k0_hw61 : k0_chk61 v1237), ∀ a, (k0_off117 v1237) a + S64x128.size a ≤ S4096x128.size a := fun v1237 k0_hw61 => k0_hw61.2

def k0_off118 (v1243 : BitVec 32) : Fin 2 → Nat :=
  let c63_i32_828 : BitVec 32 := 63#32
  let c0_i32_827 : BitVec 32 := 0#32
  let v1244 : BitVec 32 := Scalar.maxsi c0_i32_827 v1243
  let v1245 : BitVec 32 := Scalar.minsi c63_i32_828 v1244
  let c64_i32_832 : BitVec 32 := 64#32
  let v1248 : BitVec 32 := Scalar.muli v1245 c64_i32_832
  let v1329 : Index := Scalar.indexCast v1248
  let c0_884 : Index := 0#32
  ![v1329.toNat, 0]

def k0_chk62 (v1243 : BitVec 32) : Prop :=
  (∀ a, (k0_off112 v1243) a + S64x128.size a ≤ S4096x128.size a) ∧
  (∀ a, (k0_off118 v1243) a + S64x128.size a ≤ S4096x128.size a)
theorem k0_off112_inb : ∀ (v1243 : BitVec 32) (k0_hw62 : k0_chk62 v1243), ∀ a, (k0_off112 v1243) a + S64x128.size a ≤ S4096x128.size a := fun v1243 k0_hw62 => k0_hw62.1
theorem k0_off118_inb : ∀ (v1243 : BitVec 32) (k0_hw62 : k0_chk62 v1243), ∀ a, (k0_off118 v1243) a + S64x128.size a ≤ S4096x128.size a := fun v1243 k0_hw62 => k0_hw62.2

def k0_off119 (v1249 : BitVec 32) : Fin 2 → Nat :=
  let c63_i32_836 : BitVec 32 := 63#32
  let c0_i32_835 : BitVec 32 := 0#32
  let v1250 : BitVec 32 := Scalar.maxsi c0_i32_835 v1249
  let v1251 : BitVec 32 := Scalar.minsi c63_i32_836 v1250
  let c64_i32_840 : BitVec 32 := 64#32
  let v1254 : BitVec 32 := Scalar.muli v1251 c64_i32_840
  let v1335 : Index := Scalar.indexCast v1254
  let c0_886 : Index := 0#32
  ![v1335.toNat, 0]

def k0_chk63 (v1249 : BitVec 32) : Prop :=
  (∀ a, (k0_off113 v1249) a + S64x128.size a ≤ S4096x128.size a) ∧
  (∀ a, (k0_off119 v1249) a + S64x128.size a ≤ S4096x128.size a)
theorem k0_off113_inb : ∀ (v1249 : BitVec 32) (k0_hw63 : k0_chk63 v1249), ∀ a, (k0_off113 v1249) a + S64x128.size a ≤ S4096x128.size a := fun v1249 k0_hw63 => k0_hw63.1
theorem k0_off119_inb : ∀ (v1249 : BitVec 32) (k0_hw63 : k0_chk63 v1249), ∀ a, (k0_off119 v1249) a + S64x128.size a ≤ S4096x128.size a := fun v1249 k0_hw63 => k0_hw63.2

def k0_off120 (v1255 : BitVec 32) : Fin 2 → Nat :=
  let c63_i32_844 : BitVec 32 := 63#32
  let c0_i32_843 : BitVec 32 := 0#32
  let v1256 : BitVec 32 := Scalar.maxsi c0_i32_843 v1255
  let v1257 : BitVec 32 := Scalar.minsi c63_i32_844 v1256
  let c64_i32_848 : BitVec 32 := 64#32
  let v1260 : BitVec 32 := Scalar.muli v1257 c64_i32_848
  let v1337 : Index := Scalar.indexCast v1260
  let c0_887 : Index := 0#32
  ![v1337.toNat, 0]

def k0_chk64 (v1255 : BitVec 32) : Prop :=
  (∀ a, (k0_off114 v1255) a + S64x128.size a ≤ S4096x128.size a) ∧
  (∀ a, (k0_off120 v1255) a + S64x128.size a ≤ S4096x128.size a)
theorem k0_off114_inb : ∀ (v1255 : BitVec 32) (k0_hw64 : k0_chk64 v1255), ∀ a, (k0_off114 v1255) a + S64x128.size a ≤ S4096x128.size a := fun v1255 k0_hw64 => k0_hw64.1
theorem k0_off120_inb : ∀ (v1255 : BitVec 32) (k0_hw64 : k0_chk64 v1255), ∀ a, (k0_off120 v1255) a + S64x128.size a ≤ S4096x128.size a := fun v1255 k0_hw64 => k0_hw64.2

def k0_off121 (v1261 : BitVec 32) : Fin 2 → Nat :=
  let c63_i32_852 : BitVec 32 := 63#32
  let c0_i32_851 : BitVec 32 := 0#32
  let v1262 : BitVec 32 := Scalar.maxsi c0_i32_851 v1261
  let v1263 : BitVec 32 := Scalar.minsi c63_i32_852 v1262
  let c64_i32_856 : BitVec 32 := 64#32
  let v1266 : BitVec 32 := Scalar.muli v1263 c64_i32_856
  let v1343 : Index := Scalar.indexCast v1266
  let c0_889 : Index := 0#32
  ![v1343.toNat, 0]

def k0_chk65 (v1261 : BitVec 32) : Prop :=
  (∀ a, (k0_off115 v1261) a + S64x128.size a ≤ S4096x128.size a) ∧
  (∀ a, (k0_off121 v1261) a + S64x128.size a ≤ S4096x128.size a)
theorem k0_off115_inb : ∀ (v1261 : BitVec 32) (k0_hw65 : k0_chk65 v1261), ∀ a, (k0_off115 v1261) a + S64x128.size a ≤ S4096x128.size a := fun v1261 k0_hw65 => k0_hw65.1
theorem k0_off121_inb : ∀ (v1261 : BitVec 32) (k0_hw65 : k0_chk65 v1261), ∀ a, (k0_off121 v1261) a + S64x128.size a ≤ S4096x128.size a := fun v1261 k0_hw65 => k0_hw65.2

def k0_off122 (v1356 : BitVec 32) : Fin 2 → Nat :=
  let c63_i32_898 : BitVec 32 := 63#32
  let c0_i32_897 : BitVec 32 := 0#32
  let v1357 : BitVec 32 := Scalar.maxsi c0_i32_897 v1356
  let v1358 : BitVec 32 := Scalar.minsi c63_i32_898 v1357
  let c64_i32_902 : BitVec 32 := 64#32
  let v1361 : BitVec 32 := Scalar.muli v1358 c64_i32_902
  let v1393 : Index := Scalar.indexCast v1361
  let c0_944 : Index := 0#32
  ![v1393.toNat, 0]

def k0_off123 (v1362 : BitVec 32) : Fin 2 → Nat :=
  let c63_i32_906 : BitVec 32 := 63#32
  let c0_i32_905 : BitVec 32 := 0#32
  let v1363 : BitVec 32 := Scalar.maxsi c0_i32_905 v1362
  let v1364 : BitVec 32 := Scalar.minsi c63_i32_906 v1363
  let c64_i32_910 : BitVec 32 := 64#32
  let v1367 : BitVec 32 := Scalar.muli v1364 c64_i32_910
  let v1395 : Index := Scalar.indexCast v1367
  let c0_945 : Index := 0#32
  ![v1395.toNat, 0]

def k0_off124 (v1368 : BitVec 32) : Fin 2 → Nat :=
  let c63_i32_914 : BitVec 32 := 63#32
  let c0_i32_913 : BitVec 32 := 0#32
  let v1369 : BitVec 32 := Scalar.maxsi c0_i32_913 v1368
  let v1370 : BitVec 32 := Scalar.minsi c63_i32_914 v1369
  let c64_i32_918 : BitVec 32 := 64#32
  let v1373 : BitVec 32 := Scalar.muli v1370 c64_i32_918
  let v1405 : Index := Scalar.indexCast v1373
  let c0_947 : Index := 0#32
  ![v1405.toNat, 0]

def k0_off125 (v1374 : BitVec 32) : Fin 2 → Nat :=
  let c63_i32_922 : BitVec 32 := 63#32
  let c0_i32_921 : BitVec 32 := 0#32
  let v1375 : BitVec 32 := Scalar.maxsi c0_i32_921 v1374
  let v1376 : BitVec 32 := Scalar.minsi c63_i32_922 v1375
  let c64_i32_926 : BitVec 32 := 64#32
  let v1379 : BitVec 32 := Scalar.muli v1376 c64_i32_926
  let v1407 : Index := Scalar.indexCast v1379
  let c0_948 : Index := 0#32
  ![v1407.toNat, 0]

def k0_off126 (v1380 : BitVec 32) : Fin 2 → Nat :=
  let c63_i32_930 : BitVec 32 := 63#32
  let c0_i32_929 : BitVec 32 := 0#32
  let v1381 : BitVec 32 := Scalar.maxsi c0_i32_929 v1380
  let v1382 : BitVec 32 := Scalar.minsi c63_i32_930 v1381
  let c64_i32_934 : BitVec 32 := 64#32
  let v1385 : BitVec 32 := Scalar.muli v1382 c64_i32_934
  let v1417 : Index := Scalar.indexCast v1385
  let c0_950 : Index := 0#32
  ![v1417.toNat, 0]

def k0_off127 (v1386 : BitVec 32) : Fin 2 → Nat :=
  let c63_i32_938 : BitVec 32 := 63#32
  let c0_i32_937 : BitVec 32 := 0#32
  let v1387 : BitVec 32 := Scalar.maxsi c0_i32_937 v1386
  let v1388 : BitVec 32 := Scalar.minsi c63_i32_938 v1387
  let c64_i32_942 : BitVec 32 := 64#32
  let v1391 : BitVec 32 := Scalar.muli v1388 c64_i32_942
  let v1419 : Index := Scalar.indexCast v1391
  let c0_951 : Index := 0#32
  ![v1419.toNat, 0]

def k0_chk72 (v1386 : BitVec 32) : Prop :=
  (∀ a, (k0_off127 v1386) a + S64x128.size a ≤ S4096x128.size a)
theorem k0_off127_inb : ∀ (v1386 : BitVec 32) (k0_hw72 : k0_chk72 v1386), ∀ a, (k0_off127 v1386) a + S64x128.size a ≤ S4096x128.size a := fun v1386 k0_hw72 => k0_hw72

def k0_off128 (v1356 : BitVec 32) : Fin 2 → Nat :=
  let c63_i32_898 : BitVec 32 := 63#32
  let c0_i32_897 : BitVec 32 := 0#32
  let v1357 : BitVec 32 := Scalar.maxsi c0_i32_897 v1356
  let v1358 : BitVec 32 := Scalar.minsi c63_i32_898 v1357
  let c64_i32_902 : BitVec 32 := 64#32
  let v1361 : BitVec 32 := Scalar.muli v1358 c64_i32_902
  let v1446 : Index := Scalar.indexCast v1361
  let c0_961 : Index := 0#32
  ![v1446.toNat, 0]

def k0_chk67 (v1356 : BitVec 32) : Prop :=
  (∀ a, (k0_off122 v1356) a + S64x128.size a ≤ S4096x128.size a) ∧
  (∀ a, (k0_off128 v1356) a + S64x128.size a ≤ S4096x128.size a)
theorem k0_off122_inb : ∀ (v1356 : BitVec 32) (k0_hw67 : k0_chk67 v1356), ∀ a, (k0_off122 v1356) a + S64x128.size a ≤ S4096x128.size a := fun v1356 k0_hw67 => k0_hw67.1
theorem k0_off128_inb : ∀ (v1356 : BitVec 32) (k0_hw67 : k0_chk67 v1356), ∀ a, (k0_off128 v1356) a + S64x128.size a ≤ S4096x128.size a := fun v1356 k0_hw67 => k0_hw67.2

def k0_off129 (v1362 : BitVec 32) : Fin 2 → Nat :=
  let c63_i32_906 : BitVec 32 := 63#32
  let c0_i32_905 : BitVec 32 := 0#32
  let v1363 : BitVec 32 := Scalar.maxsi c0_i32_905 v1362
  let v1364 : BitVec 32 := Scalar.minsi c63_i32_906 v1363
  let c64_i32_910 : BitVec 32 := 64#32
  let v1367 : BitVec 32 := Scalar.muli v1364 c64_i32_910
  let v1448 : Index := Scalar.indexCast v1367
  let c0_962 : Index := 0#32
  ![v1448.toNat, 0]

def k0_chk68 (v1362 : BitVec 32) : Prop :=
  (∀ a, (k0_off123 v1362) a + S64x128.size a ≤ S4096x128.size a) ∧
  (∀ a, (k0_off129 v1362) a + S64x128.size a ≤ S4096x128.size a)
theorem k0_off123_inb : ∀ (v1362 : BitVec 32) (k0_hw68 : k0_chk68 v1362), ∀ a, (k0_off123 v1362) a + S64x128.size a ≤ S4096x128.size a := fun v1362 k0_hw68 => k0_hw68.1
theorem k0_off129_inb : ∀ (v1362 : BitVec 32) (k0_hw68 : k0_chk68 v1362), ∀ a, (k0_off129 v1362) a + S64x128.size a ≤ S4096x128.size a := fun v1362 k0_hw68 => k0_hw68.2

def k0_off130 (v1368 : BitVec 32) : Fin 2 → Nat :=
  let c63_i32_914 : BitVec 32 := 63#32
  let c0_i32_913 : BitVec 32 := 0#32
  let v1369 : BitVec 32 := Scalar.maxsi c0_i32_913 v1368
  let v1370 : BitVec 32 := Scalar.minsi c63_i32_914 v1369
  let c64_i32_918 : BitVec 32 := 64#32
  let v1373 : BitVec 32 := Scalar.muli v1370 c64_i32_918
  let v1454 : Index := Scalar.indexCast v1373
  let c0_964 : Index := 0#32
  ![v1454.toNat, 0]

def k0_chk69 (v1368 : BitVec 32) : Prop :=
  (∀ a, (k0_off124 v1368) a + S64x128.size a ≤ S4096x128.size a) ∧
  (∀ a, (k0_off130 v1368) a + S64x128.size a ≤ S4096x128.size a)
theorem k0_off124_inb : ∀ (v1368 : BitVec 32) (k0_hw69 : k0_chk69 v1368), ∀ a, (k0_off124 v1368) a + S64x128.size a ≤ S4096x128.size a := fun v1368 k0_hw69 => k0_hw69.1
theorem k0_off130_inb : ∀ (v1368 : BitVec 32) (k0_hw69 : k0_chk69 v1368), ∀ a, (k0_off130 v1368) a + S64x128.size a ≤ S4096x128.size a := fun v1368 k0_hw69 => k0_hw69.2

def k0_off131 (v1374 : BitVec 32) : Fin 2 → Nat :=
  let c63_i32_922 : BitVec 32 := 63#32
  let c0_i32_921 : BitVec 32 := 0#32
  let v1375 : BitVec 32 := Scalar.maxsi c0_i32_921 v1374
  let v1376 : BitVec 32 := Scalar.minsi c63_i32_922 v1375
  let c64_i32_926 : BitVec 32 := 64#32
  let v1379 : BitVec 32 := Scalar.muli v1376 c64_i32_926
  let v1456 : Index := Scalar.indexCast v1379
  let c0_965 : Index := 0#32
  ![v1456.toNat, 0]

def k0_chk70 (v1374 : BitVec 32) : Prop :=
  (∀ a, (k0_off125 v1374) a + S64x128.size a ≤ S4096x128.size a) ∧
  (∀ a, (k0_off131 v1374) a + S64x128.size a ≤ S4096x128.size a)
theorem k0_off125_inb : ∀ (v1374 : BitVec 32) (k0_hw70 : k0_chk70 v1374), ∀ a, (k0_off125 v1374) a + S64x128.size a ≤ S4096x128.size a := fun v1374 k0_hw70 => k0_hw70.1
theorem k0_off131_inb : ∀ (v1374 : BitVec 32) (k0_hw70 : k0_chk70 v1374), ∀ a, (k0_off131 v1374) a + S64x128.size a ≤ S4096x128.size a := fun v1374 k0_hw70 => k0_hw70.2

def k0_off132 (v1380 : BitVec 32) : Fin 2 → Nat :=
  let c63_i32_930 : BitVec 32 := 63#32
  let c0_i32_929 : BitVec 32 := 0#32
  let v1381 : BitVec 32 := Scalar.maxsi c0_i32_929 v1380
  let v1382 : BitVec 32 := Scalar.minsi c63_i32_930 v1381
  let c64_i32_934 : BitVec 32 := 64#32
  let v1385 : BitVec 32 := Scalar.muli v1382 c64_i32_934
  let v1462 : Index := Scalar.indexCast v1385
  let c0_967 : Index := 0#32
  ![v1462.toNat, 0]

def k0_chk71 (v1380 : BitVec 32) : Prop :=
  (∀ a, (k0_off126 v1380) a + S64x128.size a ≤ S4096x128.size a) ∧
  (∀ a, (k0_off132 v1380) a + S64x128.size a ≤ S4096x128.size a)
theorem k0_off126_inb : ∀ (v1380 : BitVec 32) (k0_hw71 : k0_chk71 v1380), ∀ a, (k0_off126 v1380) a + S64x128.size a ≤ S4096x128.size a := fun v1380 k0_hw71 => k0_hw71.1
theorem k0_off132_inb : ∀ (v1380 : BitVec 32) (k0_hw71 : k0_chk71 v1380), ∀ a, (k0_off132 v1380) a + S64x128.size a ≤ S4096x128.size a := fun v1380 k0_hw71 => k0_hw71.2

def k0_off133 (v1475 : BitVec 32) : Fin 2 → Nat :=
  let c63_i32_976 : BitVec 32 := 63#32
  let c0_i32_975 : BitVec 32 := 0#32
  let v1476 : BitVec 32 := Scalar.maxsi c0_i32_975 v1475
  let v1477 : BitVec 32 := Scalar.minsi c63_i32_976 v1476
  let c64_i32_980 : BitVec 32 := 64#32
  let v1480 : BitVec 32 := Scalar.muli v1477 c64_i32_980
  let v1512 : Index := Scalar.indexCast v1480
  let c0_1022 : Index := 0#32
  ![v1512.toNat, 0]

def k0_off134 (v1481 : BitVec 32) : Fin 2 → Nat :=
  let c63_i32_984 : BitVec 32 := 63#32
  let c0_i32_983 : BitVec 32 := 0#32
  let v1482 : BitVec 32 := Scalar.maxsi c0_i32_983 v1481
  let v1483 : BitVec 32 := Scalar.minsi c63_i32_984 v1482
  let c64_i32_988 : BitVec 32 := 64#32
  let v1486 : BitVec 32 := Scalar.muli v1483 c64_i32_988
  let v1514 : Index := Scalar.indexCast v1486
  let c0_1023 : Index := 0#32
  ![v1514.toNat, 0]

def k0_off135 (v1487 : BitVec 32) : Fin 2 → Nat :=
  let c63_i32_992 : BitVec 32 := 63#32
  let c0_i32_991 : BitVec 32 := 0#32
  let v1488 : BitVec 32 := Scalar.maxsi c0_i32_991 v1487
  let v1489 : BitVec 32 := Scalar.minsi c63_i32_992 v1488
  let c64_i32_996 : BitVec 32 := 64#32
  let v1492 : BitVec 32 := Scalar.muli v1489 c64_i32_996
  let v1524 : Index := Scalar.indexCast v1492
  let c0_1025 : Index := 0#32
  ![v1524.toNat, 0]

def k0_off136 (v1493 : BitVec 32) : Fin 2 → Nat :=
  let c63_i32_1000 : BitVec 32 := 63#32
  let c0_i32_999 : BitVec 32 := 0#32
  let v1494 : BitVec 32 := Scalar.maxsi c0_i32_999 v1493
  let v1495 : BitVec 32 := Scalar.minsi c63_i32_1000 v1494
  let c64_i32_1004 : BitVec 32 := 64#32
  let v1498 : BitVec 32 := Scalar.muli v1495 c64_i32_1004
  let v1526 : Index := Scalar.indexCast v1498
  let c0_1026 : Index := 0#32
  ![v1526.toNat, 0]

def k0_off137 (v1499 : BitVec 32) : Fin 2 → Nat :=
  let c63_i32_1008 : BitVec 32 := 63#32
  let c0_i32_1007 : BitVec 32 := 0#32
  let v1500 : BitVec 32 := Scalar.maxsi c0_i32_1007 v1499
  let v1501 : BitVec 32 := Scalar.minsi c63_i32_1008 v1500
  let c64_i32_1012 : BitVec 32 := 64#32
  let v1504 : BitVec 32 := Scalar.muli v1501 c64_i32_1012
  let v1536 : Index := Scalar.indexCast v1504
  let c0_1028 : Index := 0#32
  ![v1536.toNat, 0]

def k0_off138 (v1505 : BitVec 32) : Fin 2 → Nat :=
  let c63_i32_1016 : BitVec 32 := 63#32
  let c0_i32_1015 : BitVec 32 := 0#32
  let v1506 : BitVec 32 := Scalar.maxsi c0_i32_1015 v1505
  let v1507 : BitVec 32 := Scalar.minsi c63_i32_1016 v1506
  let c64_i32_1020 : BitVec 32 := 64#32
  let v1510 : BitVec 32 := Scalar.muli v1507 c64_i32_1020
  let v1538 : Index := Scalar.indexCast v1510
  let c0_1029 : Index := 0#32
  ![v1538.toNat, 0]

def k0_chk78 (v1505 : BitVec 32) : Prop :=
  (∀ a, (k0_off138 v1505) a + S64x128.size a ≤ S4096x128.size a)
theorem k0_off138_inb : ∀ (v1505 : BitVec 32) (k0_hw78 : k0_chk78 v1505), ∀ a, (k0_off138 v1505) a + S64x128.size a ≤ S4096x128.size a := fun v1505 k0_hw78 => k0_hw78

def k0_off139 (v1475 : BitVec 32) : Fin 2 → Nat :=
  let c63_i32_976 : BitVec 32 := 63#32
  let c0_i32_975 : BitVec 32 := 0#32
  let v1476 : BitVec 32 := Scalar.maxsi c0_i32_975 v1475
  let v1477 : BitVec 32 := Scalar.minsi c63_i32_976 v1476
  let c64_i32_980 : BitVec 32 := 64#32
  let v1480 : BitVec 32 := Scalar.muli v1477 c64_i32_980
  let v1565 : Index := Scalar.indexCast v1480
  let c0_1039 : Index := 0#32
  ![v1565.toNat, 0]

def k0_chk73 (v1475 : BitVec 32) : Prop :=
  (∀ a, (k0_off133 v1475) a + S64x128.size a ≤ S4096x128.size a) ∧
  (∀ a, (k0_off139 v1475) a + S64x128.size a ≤ S4096x128.size a)
theorem k0_off133_inb : ∀ (v1475 : BitVec 32) (k0_hw73 : k0_chk73 v1475), ∀ a, (k0_off133 v1475) a + S64x128.size a ≤ S4096x128.size a := fun v1475 k0_hw73 => k0_hw73.1
theorem k0_off139_inb : ∀ (v1475 : BitVec 32) (k0_hw73 : k0_chk73 v1475), ∀ a, (k0_off139 v1475) a + S64x128.size a ≤ S4096x128.size a := fun v1475 k0_hw73 => k0_hw73.2

def k0_off140 (v1481 : BitVec 32) : Fin 2 → Nat :=
  let c63_i32_984 : BitVec 32 := 63#32
  let c0_i32_983 : BitVec 32 := 0#32
  let v1482 : BitVec 32 := Scalar.maxsi c0_i32_983 v1481
  let v1483 : BitVec 32 := Scalar.minsi c63_i32_984 v1482
  let c64_i32_988 : BitVec 32 := 64#32
  let v1486 : BitVec 32 := Scalar.muli v1483 c64_i32_988
  let v1567 : Index := Scalar.indexCast v1486
  let c0_1040 : Index := 0#32
  ![v1567.toNat, 0]

def k0_chk74 (v1481 : BitVec 32) : Prop :=
  (∀ a, (k0_off134 v1481) a + S64x128.size a ≤ S4096x128.size a) ∧
  (∀ a, (k0_off140 v1481) a + S64x128.size a ≤ S4096x128.size a)
theorem k0_off134_inb : ∀ (v1481 : BitVec 32) (k0_hw74 : k0_chk74 v1481), ∀ a, (k0_off134 v1481) a + S64x128.size a ≤ S4096x128.size a := fun v1481 k0_hw74 => k0_hw74.1
theorem k0_off140_inb : ∀ (v1481 : BitVec 32) (k0_hw74 : k0_chk74 v1481), ∀ a, (k0_off140 v1481) a + S64x128.size a ≤ S4096x128.size a := fun v1481 k0_hw74 => k0_hw74.2

def k0_off141 (v1487 : BitVec 32) : Fin 2 → Nat :=
  let c63_i32_992 : BitVec 32 := 63#32
  let c0_i32_991 : BitVec 32 := 0#32
  let v1488 : BitVec 32 := Scalar.maxsi c0_i32_991 v1487
  let v1489 : BitVec 32 := Scalar.minsi c63_i32_992 v1488
  let c64_i32_996 : BitVec 32 := 64#32
  let v1492 : BitVec 32 := Scalar.muli v1489 c64_i32_996
  let v1573 : Index := Scalar.indexCast v1492
  let c0_1042 : Index := 0#32
  ![v1573.toNat, 0]

def k0_chk75 (v1487 : BitVec 32) : Prop :=
  (∀ a, (k0_off135 v1487) a + S64x128.size a ≤ S4096x128.size a) ∧
  (∀ a, (k0_off141 v1487) a + S64x128.size a ≤ S4096x128.size a)
theorem k0_off135_inb : ∀ (v1487 : BitVec 32) (k0_hw75 : k0_chk75 v1487), ∀ a, (k0_off135 v1487) a + S64x128.size a ≤ S4096x128.size a := fun v1487 k0_hw75 => k0_hw75.1
theorem k0_off141_inb : ∀ (v1487 : BitVec 32) (k0_hw75 : k0_chk75 v1487), ∀ a, (k0_off141 v1487) a + S64x128.size a ≤ S4096x128.size a := fun v1487 k0_hw75 => k0_hw75.2

def k0_off142 (v1493 : BitVec 32) : Fin 2 → Nat :=
  let c63_i32_1000 : BitVec 32 := 63#32
  let c0_i32_999 : BitVec 32 := 0#32
  let v1494 : BitVec 32 := Scalar.maxsi c0_i32_999 v1493
  let v1495 : BitVec 32 := Scalar.minsi c63_i32_1000 v1494
  let c64_i32_1004 : BitVec 32 := 64#32
  let v1498 : BitVec 32 := Scalar.muli v1495 c64_i32_1004
  let v1575 : Index := Scalar.indexCast v1498
  let c0_1043 : Index := 0#32
  ![v1575.toNat, 0]

def k0_chk76 (v1493 : BitVec 32) : Prop :=
  (∀ a, (k0_off136 v1493) a + S64x128.size a ≤ S4096x128.size a) ∧
  (∀ a, (k0_off142 v1493) a + S64x128.size a ≤ S4096x128.size a)
theorem k0_off136_inb : ∀ (v1493 : BitVec 32) (k0_hw76 : k0_chk76 v1493), ∀ a, (k0_off136 v1493) a + S64x128.size a ≤ S4096x128.size a := fun v1493 k0_hw76 => k0_hw76.1
theorem k0_off142_inb : ∀ (v1493 : BitVec 32) (k0_hw76 : k0_chk76 v1493), ∀ a, (k0_off142 v1493) a + S64x128.size a ≤ S4096x128.size a := fun v1493 k0_hw76 => k0_hw76.2

def k0_off143 (v1499 : BitVec 32) : Fin 2 → Nat :=
  let c63_i32_1008 : BitVec 32 := 63#32
  let c0_i32_1007 : BitVec 32 := 0#32
  let v1500 : BitVec 32 := Scalar.maxsi c0_i32_1007 v1499
  let v1501 : BitVec 32 := Scalar.minsi c63_i32_1008 v1500
  let c64_i32_1012 : BitVec 32 := 64#32
  let v1504 : BitVec 32 := Scalar.muli v1501 c64_i32_1012
  let v1581 : Index := Scalar.indexCast v1504
  let c0_1045 : Index := 0#32
  ![v1581.toNat, 0]

def k0_chk77 (v1499 : BitVec 32) : Prop :=
  (∀ a, (k0_off137 v1499) a + S64x128.size a ≤ S4096x128.size a) ∧
  (∀ a, (k0_off143 v1499) a + S64x128.size a ≤ S4096x128.size a)
theorem k0_off137_inb : ∀ (v1499 : BitVec 32) (k0_hw77 : k0_chk77 v1499), ∀ a, (k0_off137 v1499) a + S64x128.size a ≤ S4096x128.size a := fun v1499 k0_hw77 => k0_hw77.1
theorem k0_off143_inb : ∀ (v1499 : BitVec 32) (k0_hw77 : k0_chk77 v1499), ∀ a, (k0_off143 v1499) a + S64x128.size a ≤ S4096x128.size a := fun v1499 k0_hw77 => k0_hw77.2

def k0_off144 (v1594 : BitVec 32) : Fin 2 → Nat :=
  let c63_i32_1054 : BitVec 32 := 63#32
  let c0_i32_1053 : BitVec 32 := 0#32
  let v1595 : BitVec 32 := Scalar.maxsi c0_i32_1053 v1594
  let v1596 : BitVec 32 := Scalar.minsi c63_i32_1054 v1595
  let c64_i32_1058 : BitVec 32 := 64#32
  let v1599 : BitVec 32 := Scalar.muli v1596 c64_i32_1058
  let v1631 : Index := Scalar.indexCast v1599
  let c0_1100 : Index := 0#32
  ![v1631.toNat, 0]

def k0_off145 (v1600 : BitVec 32) : Fin 2 → Nat :=
  let c63_i32_1062 : BitVec 32 := 63#32
  let c0_i32_1061 : BitVec 32 := 0#32
  let v1601 : BitVec 32 := Scalar.maxsi c0_i32_1061 v1600
  let v1602 : BitVec 32 := Scalar.minsi c63_i32_1062 v1601
  let c64_i32_1066 : BitVec 32 := 64#32
  let v1605 : BitVec 32 := Scalar.muli v1602 c64_i32_1066
  let v1633 : Index := Scalar.indexCast v1605
  let c0_1101 : Index := 0#32
  ![v1633.toNat, 0]

def k0_off146 (v1606 : BitVec 32) : Fin 2 → Nat :=
  let c63_i32_1070 : BitVec 32 := 63#32
  let c0_i32_1069 : BitVec 32 := 0#32
  let v1607 : BitVec 32 := Scalar.maxsi c0_i32_1069 v1606
  let v1608 : BitVec 32 := Scalar.minsi c63_i32_1070 v1607
  let c64_i32_1074 : BitVec 32 := 64#32
  let v1611 : BitVec 32 := Scalar.muli v1608 c64_i32_1074
  let v1643 : Index := Scalar.indexCast v1611
  let c0_1103 : Index := 0#32
  ![v1643.toNat, 0]

def k0_off147 (v1612 : BitVec 32) : Fin 2 → Nat :=
  let c63_i32_1078 : BitVec 32 := 63#32
  let c0_i32_1077 : BitVec 32 := 0#32
  let v1613 : BitVec 32 := Scalar.maxsi c0_i32_1077 v1612
  let v1614 : BitVec 32 := Scalar.minsi c63_i32_1078 v1613
  let c64_i32_1082 : BitVec 32 := 64#32
  let v1617 : BitVec 32 := Scalar.muli v1614 c64_i32_1082
  let v1645 : Index := Scalar.indexCast v1617
  let c0_1104 : Index := 0#32
  ![v1645.toNat, 0]

def k0_off148 (v1618 : BitVec 32) : Fin 2 → Nat :=
  let c63_i32_1086 : BitVec 32 := 63#32
  let c0_i32_1085 : BitVec 32 := 0#32
  let v1619 : BitVec 32 := Scalar.maxsi c0_i32_1085 v1618
  let v1620 : BitVec 32 := Scalar.minsi c63_i32_1086 v1619
  let c64_i32_1090 : BitVec 32 := 64#32
  let v1623 : BitVec 32 := Scalar.muli v1620 c64_i32_1090
  let v1655 : Index := Scalar.indexCast v1623
  let c0_1106 : Index := 0#32
  ![v1655.toNat, 0]

def k0_off149 (v1624 : BitVec 32) : Fin 2 → Nat :=
  let c63_i32_1094 : BitVec 32 := 63#32
  let c0_i32_1093 : BitVec 32 := 0#32
  let v1625 : BitVec 32 := Scalar.maxsi c0_i32_1093 v1624
  let v1626 : BitVec 32 := Scalar.minsi c63_i32_1094 v1625
  let c64_i32_1098 : BitVec 32 := 64#32
  let v1629 : BitVec 32 := Scalar.muli v1626 c64_i32_1098
  let v1657 : Index := Scalar.indexCast v1629
  let c0_1107 : Index := 0#32
  ![v1657.toNat, 0]

def k0_chk84 (v1624 : BitVec 32) : Prop :=
  (∀ a, (k0_off149 v1624) a + S64x128.size a ≤ S4096x128.size a)
theorem k0_off149_inb : ∀ (v1624 : BitVec 32) (k0_hw84 : k0_chk84 v1624), ∀ a, (k0_off149 v1624) a + S64x128.size a ≤ S4096x128.size a := fun v1624 k0_hw84 => k0_hw84

def k0_off150 (v1594 : BitVec 32) : Fin 2 → Nat :=
  let c63_i32_1054 : BitVec 32 := 63#32
  let c0_i32_1053 : BitVec 32 := 0#32
  let v1595 : BitVec 32 := Scalar.maxsi c0_i32_1053 v1594
  let v1596 : BitVec 32 := Scalar.minsi c63_i32_1054 v1595
  let c64_i32_1058 : BitVec 32 := 64#32
  let v1599 : BitVec 32 := Scalar.muli v1596 c64_i32_1058
  let v1684 : Index := Scalar.indexCast v1599
  let c0_1117 : Index := 0#32
  ![v1684.toNat, 0]

def k0_chk79 (v1594 : BitVec 32) : Prop :=
  (∀ a, (k0_off144 v1594) a + S64x128.size a ≤ S4096x128.size a) ∧
  (∀ a, (k0_off150 v1594) a + S64x128.size a ≤ S4096x128.size a)
theorem k0_off144_inb : ∀ (v1594 : BitVec 32) (k0_hw79 : k0_chk79 v1594), ∀ a, (k0_off144 v1594) a + S64x128.size a ≤ S4096x128.size a := fun v1594 k0_hw79 => k0_hw79.1
theorem k0_off150_inb : ∀ (v1594 : BitVec 32) (k0_hw79 : k0_chk79 v1594), ∀ a, (k0_off150 v1594) a + S64x128.size a ≤ S4096x128.size a := fun v1594 k0_hw79 => k0_hw79.2

def k0_off151 (v1600 : BitVec 32) : Fin 2 → Nat :=
  let c63_i32_1062 : BitVec 32 := 63#32
  let c0_i32_1061 : BitVec 32 := 0#32
  let v1601 : BitVec 32 := Scalar.maxsi c0_i32_1061 v1600
  let v1602 : BitVec 32 := Scalar.minsi c63_i32_1062 v1601
  let c64_i32_1066 : BitVec 32 := 64#32
  let v1605 : BitVec 32 := Scalar.muli v1602 c64_i32_1066
  let v1686 : Index := Scalar.indexCast v1605
  let c0_1118 : Index := 0#32
  ![v1686.toNat, 0]

def k0_chk80 (v1600 : BitVec 32) : Prop :=
  (∀ a, (k0_off145 v1600) a + S64x128.size a ≤ S4096x128.size a) ∧
  (∀ a, (k0_off151 v1600) a + S64x128.size a ≤ S4096x128.size a)
theorem k0_off145_inb : ∀ (v1600 : BitVec 32) (k0_hw80 : k0_chk80 v1600), ∀ a, (k0_off145 v1600) a + S64x128.size a ≤ S4096x128.size a := fun v1600 k0_hw80 => k0_hw80.1
theorem k0_off151_inb : ∀ (v1600 : BitVec 32) (k0_hw80 : k0_chk80 v1600), ∀ a, (k0_off151 v1600) a + S64x128.size a ≤ S4096x128.size a := fun v1600 k0_hw80 => k0_hw80.2

def k0_off152 (v1606 : BitVec 32) : Fin 2 → Nat :=
  let c63_i32_1070 : BitVec 32 := 63#32
  let c0_i32_1069 : BitVec 32 := 0#32
  let v1607 : BitVec 32 := Scalar.maxsi c0_i32_1069 v1606
  let v1608 : BitVec 32 := Scalar.minsi c63_i32_1070 v1607
  let c64_i32_1074 : BitVec 32 := 64#32
  let v1611 : BitVec 32 := Scalar.muli v1608 c64_i32_1074
  let v1692 : Index := Scalar.indexCast v1611
  let c0_1120 : Index := 0#32
  ![v1692.toNat, 0]

def k0_chk81 (v1606 : BitVec 32) : Prop :=
  (∀ a, (k0_off146 v1606) a + S64x128.size a ≤ S4096x128.size a) ∧
  (∀ a, (k0_off152 v1606) a + S64x128.size a ≤ S4096x128.size a)
theorem k0_off146_inb : ∀ (v1606 : BitVec 32) (k0_hw81 : k0_chk81 v1606), ∀ a, (k0_off146 v1606) a + S64x128.size a ≤ S4096x128.size a := fun v1606 k0_hw81 => k0_hw81.1
theorem k0_off152_inb : ∀ (v1606 : BitVec 32) (k0_hw81 : k0_chk81 v1606), ∀ a, (k0_off152 v1606) a + S64x128.size a ≤ S4096x128.size a := fun v1606 k0_hw81 => k0_hw81.2

def k0_off153 (v1612 : BitVec 32) : Fin 2 → Nat :=
  let c63_i32_1078 : BitVec 32 := 63#32
  let c0_i32_1077 : BitVec 32 := 0#32
  let v1613 : BitVec 32 := Scalar.maxsi c0_i32_1077 v1612
  let v1614 : BitVec 32 := Scalar.minsi c63_i32_1078 v1613
  let c64_i32_1082 : BitVec 32 := 64#32
  let v1617 : BitVec 32 := Scalar.muli v1614 c64_i32_1082
  let v1694 : Index := Scalar.indexCast v1617
  let c0_1121 : Index := 0#32
  ![v1694.toNat, 0]

def k0_chk82 (v1612 : BitVec 32) : Prop :=
  (∀ a, (k0_off147 v1612) a + S64x128.size a ≤ S4096x128.size a) ∧
  (∀ a, (k0_off153 v1612) a + S64x128.size a ≤ S4096x128.size a)
theorem k0_off147_inb : ∀ (v1612 : BitVec 32) (k0_hw82 : k0_chk82 v1612), ∀ a, (k0_off147 v1612) a + S64x128.size a ≤ S4096x128.size a := fun v1612 k0_hw82 => k0_hw82.1
theorem k0_off153_inb : ∀ (v1612 : BitVec 32) (k0_hw82 : k0_chk82 v1612), ∀ a, (k0_off153 v1612) a + S64x128.size a ≤ S4096x128.size a := fun v1612 k0_hw82 => k0_hw82.2

def k0_off154 (v1618 : BitVec 32) : Fin 2 → Nat :=
  let c63_i32_1086 : BitVec 32 := 63#32
  let c0_i32_1085 : BitVec 32 := 0#32
  let v1619 : BitVec 32 := Scalar.maxsi c0_i32_1085 v1618
  let v1620 : BitVec 32 := Scalar.minsi c63_i32_1086 v1619
  let c64_i32_1090 : BitVec 32 := 64#32
  let v1623 : BitVec 32 := Scalar.muli v1620 c64_i32_1090
  let v1700 : Index := Scalar.indexCast v1623
  let c0_1123 : Index := 0#32
  ![v1700.toNat, 0]

def k0_chk83 (v1618 : BitVec 32) : Prop :=
  (∀ a, (k0_off148 v1618) a + S64x128.size a ≤ S4096x128.size a) ∧
  (∀ a, (k0_off154 v1618) a + S64x128.size a ≤ S4096x128.size a)
theorem k0_off148_inb : ∀ (v1618 : BitVec 32) (k0_hw83 : k0_chk83 v1618), ∀ a, (k0_off148 v1618) a + S64x128.size a ≤ S4096x128.size a := fun v1618 k0_hw83 => k0_hw83.1
theorem k0_off154_inb : ∀ (v1618 : BitVec 32) (k0_hw83 : k0_chk83 v1618), ∀ a, (k0_off154 v1618) a + S64x128.size a ≤ S4096x128.size a := fun v1618 k0_hw83 => k0_hw83.2

def k0_off155 (v1713 : BitVec 32) : Fin 2 → Nat :=
  let c63_i32_1132 : BitVec 32 := 63#32
  let c0_i32_1131 : BitVec 32 := 0#32
  let v1714 : BitVec 32 := Scalar.maxsi c0_i32_1131 v1713
  let v1715 : BitVec 32 := Scalar.minsi c63_i32_1132 v1714
  let c64_i32_1136 : BitVec 32 := 64#32
  let v1718 : BitVec 32 := Scalar.muli v1715 c64_i32_1136
  let v1750 : Index := Scalar.indexCast v1718
  let c0_1178 : Index := 0#32
  ![v1750.toNat, 0]

def k0_off156 (v1719 : BitVec 32) : Fin 2 → Nat :=
  let c63_i32_1140 : BitVec 32 := 63#32
  let c0_i32_1139 : BitVec 32 := 0#32
  let v1720 : BitVec 32 := Scalar.maxsi c0_i32_1139 v1719
  let v1721 : BitVec 32 := Scalar.minsi c63_i32_1140 v1720
  let c64_i32_1144 : BitVec 32 := 64#32
  let v1724 : BitVec 32 := Scalar.muli v1721 c64_i32_1144
  let v1752 : Index := Scalar.indexCast v1724
  let c0_1179 : Index := 0#32
  ![v1752.toNat, 0]

def k0_off157 (v1725 : BitVec 32) : Fin 2 → Nat :=
  let c63_i32_1148 : BitVec 32 := 63#32
  let c0_i32_1147 : BitVec 32 := 0#32
  let v1726 : BitVec 32 := Scalar.maxsi c0_i32_1147 v1725
  let v1727 : BitVec 32 := Scalar.minsi c63_i32_1148 v1726
  let c64_i32_1152 : BitVec 32 := 64#32
  let v1730 : BitVec 32 := Scalar.muli v1727 c64_i32_1152
  let v1762 : Index := Scalar.indexCast v1730
  let c0_1181 : Index := 0#32
  ![v1762.toNat, 0]

def k0_off158 (v1731 : BitVec 32) : Fin 2 → Nat :=
  let c63_i32_1156 : BitVec 32 := 63#32
  let c0_i32_1155 : BitVec 32 := 0#32
  let v1732 : BitVec 32 := Scalar.maxsi c0_i32_1155 v1731
  let v1733 : BitVec 32 := Scalar.minsi c63_i32_1156 v1732
  let c64_i32_1160 : BitVec 32 := 64#32
  let v1736 : BitVec 32 := Scalar.muli v1733 c64_i32_1160
  let v1764 : Index := Scalar.indexCast v1736
  let c0_1182 : Index := 0#32
  ![v1764.toNat, 0]

def k0_off159 (v1737 : BitVec 32) : Fin 2 → Nat :=
  let c63_i32_1164 : BitVec 32 := 63#32
  let c0_i32_1163 : BitVec 32 := 0#32
  let v1738 : BitVec 32 := Scalar.maxsi c0_i32_1163 v1737
  let v1739 : BitVec 32 := Scalar.minsi c63_i32_1164 v1738
  let c64_i32_1168 : BitVec 32 := 64#32
  let v1742 : BitVec 32 := Scalar.muli v1739 c64_i32_1168
  let v1774 : Index := Scalar.indexCast v1742
  let c0_1184 : Index := 0#32
  ![v1774.toNat, 0]

def k0_off160 (v1743 : BitVec 32) : Fin 2 → Nat :=
  let c63_i32_1172 : BitVec 32 := 63#32
  let c0_i32_1171 : BitVec 32 := 0#32
  let v1744 : BitVec 32 := Scalar.maxsi c0_i32_1171 v1743
  let v1745 : BitVec 32 := Scalar.minsi c63_i32_1172 v1744
  let c64_i32_1176 : BitVec 32 := 64#32
  let v1748 : BitVec 32 := Scalar.muli v1745 c64_i32_1176
  let v1776 : Index := Scalar.indexCast v1748
  let c0_1185 : Index := 0#32
  ![v1776.toNat, 0]

def k0_chk90 (v1743 : BitVec 32) : Prop :=
  (∀ a, (k0_off160 v1743) a + S64x128.size a ≤ S4096x128.size a)
theorem k0_off160_inb : ∀ (v1743 : BitVec 32) (k0_hw90 : k0_chk90 v1743), ∀ a, (k0_off160 v1743) a + S64x128.size a ≤ S4096x128.size a := fun v1743 k0_hw90 => k0_hw90

def k0_off161 (v1713 : BitVec 32) : Fin 2 → Nat :=
  let c63_i32_1132 : BitVec 32 := 63#32
  let c0_i32_1131 : BitVec 32 := 0#32
  let v1714 : BitVec 32 := Scalar.maxsi c0_i32_1131 v1713
  let v1715 : BitVec 32 := Scalar.minsi c63_i32_1132 v1714
  let c64_i32_1136 : BitVec 32 := 64#32
  let v1718 : BitVec 32 := Scalar.muli v1715 c64_i32_1136
  let v1803 : Index := Scalar.indexCast v1718
  let c0_1195 : Index := 0#32
  ![v1803.toNat, 0]

def k0_chk85 (v1713 : BitVec 32) : Prop :=
  (∀ a, (k0_off155 v1713) a + S64x128.size a ≤ S4096x128.size a) ∧
  (∀ a, (k0_off161 v1713) a + S64x128.size a ≤ S4096x128.size a)
theorem k0_off155_inb : ∀ (v1713 : BitVec 32) (k0_hw85 : k0_chk85 v1713), ∀ a, (k0_off155 v1713) a + S64x128.size a ≤ S4096x128.size a := fun v1713 k0_hw85 => k0_hw85.1
theorem k0_off161_inb : ∀ (v1713 : BitVec 32) (k0_hw85 : k0_chk85 v1713), ∀ a, (k0_off161 v1713) a + S64x128.size a ≤ S4096x128.size a := fun v1713 k0_hw85 => k0_hw85.2

def k0_off162 (v1719 : BitVec 32) : Fin 2 → Nat :=
  let c63_i32_1140 : BitVec 32 := 63#32
  let c0_i32_1139 : BitVec 32 := 0#32
  let v1720 : BitVec 32 := Scalar.maxsi c0_i32_1139 v1719
  let v1721 : BitVec 32 := Scalar.minsi c63_i32_1140 v1720
  let c64_i32_1144 : BitVec 32 := 64#32
  let v1724 : BitVec 32 := Scalar.muli v1721 c64_i32_1144
  let v1805 : Index := Scalar.indexCast v1724
  let c0_1196 : Index := 0#32
  ![v1805.toNat, 0]

def k0_chk86 (v1719 : BitVec 32) : Prop :=
  (∀ a, (k0_off156 v1719) a + S64x128.size a ≤ S4096x128.size a) ∧
  (∀ a, (k0_off162 v1719) a + S64x128.size a ≤ S4096x128.size a)
theorem k0_off156_inb : ∀ (v1719 : BitVec 32) (k0_hw86 : k0_chk86 v1719), ∀ a, (k0_off156 v1719) a + S64x128.size a ≤ S4096x128.size a := fun v1719 k0_hw86 => k0_hw86.1
theorem k0_off162_inb : ∀ (v1719 : BitVec 32) (k0_hw86 : k0_chk86 v1719), ∀ a, (k0_off162 v1719) a + S64x128.size a ≤ S4096x128.size a := fun v1719 k0_hw86 => k0_hw86.2

def k0_off163 (v1725 : BitVec 32) : Fin 2 → Nat :=
  let c63_i32_1148 : BitVec 32 := 63#32
  let c0_i32_1147 : BitVec 32 := 0#32
  let v1726 : BitVec 32 := Scalar.maxsi c0_i32_1147 v1725
  let v1727 : BitVec 32 := Scalar.minsi c63_i32_1148 v1726
  let c64_i32_1152 : BitVec 32 := 64#32
  let v1730 : BitVec 32 := Scalar.muli v1727 c64_i32_1152
  let v1811 : Index := Scalar.indexCast v1730
  let c0_1198 : Index := 0#32
  ![v1811.toNat, 0]

def k0_chk87 (v1725 : BitVec 32) : Prop :=
  (∀ a, (k0_off157 v1725) a + S64x128.size a ≤ S4096x128.size a) ∧
  (∀ a, (k0_off163 v1725) a + S64x128.size a ≤ S4096x128.size a)
theorem k0_off157_inb : ∀ (v1725 : BitVec 32) (k0_hw87 : k0_chk87 v1725), ∀ a, (k0_off157 v1725) a + S64x128.size a ≤ S4096x128.size a := fun v1725 k0_hw87 => k0_hw87.1
theorem k0_off163_inb : ∀ (v1725 : BitVec 32) (k0_hw87 : k0_chk87 v1725), ∀ a, (k0_off163 v1725) a + S64x128.size a ≤ S4096x128.size a := fun v1725 k0_hw87 => k0_hw87.2

def k0_off164 (v1731 : BitVec 32) : Fin 2 → Nat :=
  let c63_i32_1156 : BitVec 32 := 63#32
  let c0_i32_1155 : BitVec 32 := 0#32
  let v1732 : BitVec 32 := Scalar.maxsi c0_i32_1155 v1731
  let v1733 : BitVec 32 := Scalar.minsi c63_i32_1156 v1732
  let c64_i32_1160 : BitVec 32 := 64#32
  let v1736 : BitVec 32 := Scalar.muli v1733 c64_i32_1160
  let v1813 : Index := Scalar.indexCast v1736
  let c0_1199 : Index := 0#32
  ![v1813.toNat, 0]

def k0_chk88 (v1731 : BitVec 32) : Prop :=
  (∀ a, (k0_off158 v1731) a + S64x128.size a ≤ S4096x128.size a) ∧
  (∀ a, (k0_off164 v1731) a + S64x128.size a ≤ S4096x128.size a)
theorem k0_off158_inb : ∀ (v1731 : BitVec 32) (k0_hw88 : k0_chk88 v1731), ∀ a, (k0_off158 v1731) a + S64x128.size a ≤ S4096x128.size a := fun v1731 k0_hw88 => k0_hw88.1
theorem k0_off164_inb : ∀ (v1731 : BitVec 32) (k0_hw88 : k0_chk88 v1731), ∀ a, (k0_off164 v1731) a + S64x128.size a ≤ S4096x128.size a := fun v1731 k0_hw88 => k0_hw88.2

def k0_off165 (v1737 : BitVec 32) : Fin 2 → Nat :=
  let c63_i32_1164 : BitVec 32 := 63#32
  let c0_i32_1163 : BitVec 32 := 0#32
  let v1738 : BitVec 32 := Scalar.maxsi c0_i32_1163 v1737
  let v1739 : BitVec 32 := Scalar.minsi c63_i32_1164 v1738
  let c64_i32_1168 : BitVec 32 := 64#32
  let v1742 : BitVec 32 := Scalar.muli v1739 c64_i32_1168
  let v1819 : Index := Scalar.indexCast v1742
  let c0_1201 : Index := 0#32
  ![v1819.toNat, 0]

def k0_chk89 (v1737 : BitVec 32) : Prop :=
  (∀ a, (k0_off159 v1737) a + S64x128.size a ≤ S4096x128.size a) ∧
  (∀ a, (k0_off165 v1737) a + S64x128.size a ≤ S4096x128.size a)
theorem k0_off159_inb : ∀ (v1737 : BitVec 32) (k0_hw89 : k0_chk89 v1737), ∀ a, (k0_off159 v1737) a + S64x128.size a ≤ S4096x128.size a := fun v1737 k0_hw89 => k0_hw89.1
theorem k0_off165_inb : ∀ (v1737 : BitVec 32) (k0_hw89 : k0_chk89 v1737), ∀ a, (k0_off165 v1737) a + S64x128.size a ≤ S4096x128.size a := fun v1737 k0_hw89 => k0_hw89.2

def k0_off166 (v1832 : BitVec 32) : Fin 2 → Nat :=
  let c63_i32_1210 : BitVec 32 := 63#32
  let c0_i32_1209 : BitVec 32 := 0#32
  let v1833 : BitVec 32 := Scalar.maxsi c0_i32_1209 v1832
  let v1834 : BitVec 32 := Scalar.minsi c63_i32_1210 v1833
  let c64_i32_1214 : BitVec 32 := 64#32
  let v1837 : BitVec 32 := Scalar.muli v1834 c64_i32_1214
  let v1869 : Index := Scalar.indexCast v1837
  let c0_1256 : Index := 0#32
  ![v1869.toNat, 0]

def k0_off167 (v1838 : BitVec 32) : Fin 2 → Nat :=
  let c63_i32_1218 : BitVec 32 := 63#32
  let c0_i32_1217 : BitVec 32 := 0#32
  let v1839 : BitVec 32 := Scalar.maxsi c0_i32_1217 v1838
  let v1840 : BitVec 32 := Scalar.minsi c63_i32_1218 v1839
  let c64_i32_1222 : BitVec 32 := 64#32
  let v1843 : BitVec 32 := Scalar.muli v1840 c64_i32_1222
  let v1871 : Index := Scalar.indexCast v1843
  let c0_1257 : Index := 0#32
  ![v1871.toNat, 0]

def k0_off168 (v1844 : BitVec 32) : Fin 2 → Nat :=
  let c63_i32_1226 : BitVec 32 := 63#32
  let c0_i32_1225 : BitVec 32 := 0#32
  let v1845 : BitVec 32 := Scalar.maxsi c0_i32_1225 v1844
  let v1846 : BitVec 32 := Scalar.minsi c63_i32_1226 v1845
  let c64_i32_1230 : BitVec 32 := 64#32
  let v1849 : BitVec 32 := Scalar.muli v1846 c64_i32_1230
  let v1881 : Index := Scalar.indexCast v1849
  let c0_1259 : Index := 0#32
  ![v1881.toNat, 0]

def k0_off169 (v1850 : BitVec 32) : Fin 2 → Nat :=
  let c63_i32_1234 : BitVec 32 := 63#32
  let c0_i32_1233 : BitVec 32 := 0#32
  let v1851 : BitVec 32 := Scalar.maxsi c0_i32_1233 v1850
  let v1852 : BitVec 32 := Scalar.minsi c63_i32_1234 v1851
  let c64_i32_1238 : BitVec 32 := 64#32
  let v1855 : BitVec 32 := Scalar.muli v1852 c64_i32_1238
  let v1883 : Index := Scalar.indexCast v1855
  let c0_1260 : Index := 0#32
  ![v1883.toNat, 0]

def k0_off170 (v1856 : BitVec 32) : Fin 2 → Nat :=
  let c63_i32_1242 : BitVec 32 := 63#32
  let c0_i32_1241 : BitVec 32 := 0#32
  let v1857 : BitVec 32 := Scalar.maxsi c0_i32_1241 v1856
  let v1858 : BitVec 32 := Scalar.minsi c63_i32_1242 v1857
  let c64_i32_1246 : BitVec 32 := 64#32
  let v1861 : BitVec 32 := Scalar.muli v1858 c64_i32_1246
  let v1893 : Index := Scalar.indexCast v1861
  let c0_1262 : Index := 0#32
  ![v1893.toNat, 0]

def k0_off171 (v1862 : BitVec 32) : Fin 2 → Nat :=
  let c63_i32_1250 : BitVec 32 := 63#32
  let c0_i32_1249 : BitVec 32 := 0#32
  let v1863 : BitVec 32 := Scalar.maxsi c0_i32_1249 v1862
  let v1864 : BitVec 32 := Scalar.minsi c63_i32_1250 v1863
  let c64_i32_1254 : BitVec 32 := 64#32
  let v1867 : BitVec 32 := Scalar.muli v1864 c64_i32_1254
  let v1895 : Index := Scalar.indexCast v1867
  let c0_1263 : Index := 0#32
  ![v1895.toNat, 0]

def k0_chk96 (v1862 : BitVec 32) : Prop :=
  (∀ a, (k0_off171 v1862) a + S64x128.size a ≤ S4096x128.size a)
theorem k0_off171_inb : ∀ (v1862 : BitVec 32) (k0_hw96 : k0_chk96 v1862), ∀ a, (k0_off171 v1862) a + S64x128.size a ≤ S4096x128.size a := fun v1862 k0_hw96 => k0_hw96

def k0_off172 (v1832 : BitVec 32) : Fin 2 → Nat :=
  let c63_i32_1210 : BitVec 32 := 63#32
  let c0_i32_1209 : BitVec 32 := 0#32
  let v1833 : BitVec 32 := Scalar.maxsi c0_i32_1209 v1832
  let v1834 : BitVec 32 := Scalar.minsi c63_i32_1210 v1833
  let c64_i32_1214 : BitVec 32 := 64#32
  let v1837 : BitVec 32 := Scalar.muli v1834 c64_i32_1214
  let v1922 : Index := Scalar.indexCast v1837
  let c0_1273 : Index := 0#32
  ![v1922.toNat, 0]

def k0_chk91 (v1832 : BitVec 32) : Prop :=
  (∀ a, (k0_off166 v1832) a + S64x128.size a ≤ S4096x128.size a) ∧
  (∀ a, (k0_off172 v1832) a + S64x128.size a ≤ S4096x128.size a)
theorem k0_off166_inb : ∀ (v1832 : BitVec 32) (k0_hw91 : k0_chk91 v1832), ∀ a, (k0_off166 v1832) a + S64x128.size a ≤ S4096x128.size a := fun v1832 k0_hw91 => k0_hw91.1
theorem k0_off172_inb : ∀ (v1832 : BitVec 32) (k0_hw91 : k0_chk91 v1832), ∀ a, (k0_off172 v1832) a + S64x128.size a ≤ S4096x128.size a := fun v1832 k0_hw91 => k0_hw91.2

def k0_off173 (v1838 : BitVec 32) : Fin 2 → Nat :=
  let c63_i32_1218 : BitVec 32 := 63#32
  let c0_i32_1217 : BitVec 32 := 0#32
  let v1839 : BitVec 32 := Scalar.maxsi c0_i32_1217 v1838
  let v1840 : BitVec 32 := Scalar.minsi c63_i32_1218 v1839
  let c64_i32_1222 : BitVec 32 := 64#32
  let v1843 : BitVec 32 := Scalar.muli v1840 c64_i32_1222
  let v1924 : Index := Scalar.indexCast v1843
  let c0_1274 : Index := 0#32
  ![v1924.toNat, 0]

def k0_chk92 (v1838 : BitVec 32) : Prop :=
  (∀ a, (k0_off167 v1838) a + S64x128.size a ≤ S4096x128.size a) ∧
  (∀ a, (k0_off173 v1838) a + S64x128.size a ≤ S4096x128.size a)
theorem k0_off167_inb : ∀ (v1838 : BitVec 32) (k0_hw92 : k0_chk92 v1838), ∀ a, (k0_off167 v1838) a + S64x128.size a ≤ S4096x128.size a := fun v1838 k0_hw92 => k0_hw92.1
theorem k0_off173_inb : ∀ (v1838 : BitVec 32) (k0_hw92 : k0_chk92 v1838), ∀ a, (k0_off173 v1838) a + S64x128.size a ≤ S4096x128.size a := fun v1838 k0_hw92 => k0_hw92.2

def k0_off174 (v1844 : BitVec 32) : Fin 2 → Nat :=
  let c63_i32_1226 : BitVec 32 := 63#32
  let c0_i32_1225 : BitVec 32 := 0#32
  let v1845 : BitVec 32 := Scalar.maxsi c0_i32_1225 v1844
  let v1846 : BitVec 32 := Scalar.minsi c63_i32_1226 v1845
  let c64_i32_1230 : BitVec 32 := 64#32
  let v1849 : BitVec 32 := Scalar.muli v1846 c64_i32_1230
  let v1930 : Index := Scalar.indexCast v1849
  let c0_1276 : Index := 0#32
  ![v1930.toNat, 0]

def k0_chk93 (v1844 : BitVec 32) : Prop :=
  (∀ a, (k0_off168 v1844) a + S64x128.size a ≤ S4096x128.size a) ∧
  (∀ a, (k0_off174 v1844) a + S64x128.size a ≤ S4096x128.size a)
theorem k0_off168_inb : ∀ (v1844 : BitVec 32) (k0_hw93 : k0_chk93 v1844), ∀ a, (k0_off168 v1844) a + S64x128.size a ≤ S4096x128.size a := fun v1844 k0_hw93 => k0_hw93.1
theorem k0_off174_inb : ∀ (v1844 : BitVec 32) (k0_hw93 : k0_chk93 v1844), ∀ a, (k0_off174 v1844) a + S64x128.size a ≤ S4096x128.size a := fun v1844 k0_hw93 => k0_hw93.2

def k0_off175 (v1850 : BitVec 32) : Fin 2 → Nat :=
  let c63_i32_1234 : BitVec 32 := 63#32
  let c0_i32_1233 : BitVec 32 := 0#32
  let v1851 : BitVec 32 := Scalar.maxsi c0_i32_1233 v1850
  let v1852 : BitVec 32 := Scalar.minsi c63_i32_1234 v1851
  let c64_i32_1238 : BitVec 32 := 64#32
  let v1855 : BitVec 32 := Scalar.muli v1852 c64_i32_1238
  let v1932 : Index := Scalar.indexCast v1855
  let c0_1277 : Index := 0#32
  ![v1932.toNat, 0]

def k0_chk94 (v1850 : BitVec 32) : Prop :=
  (∀ a, (k0_off169 v1850) a + S64x128.size a ≤ S4096x128.size a) ∧
  (∀ a, (k0_off175 v1850) a + S64x128.size a ≤ S4096x128.size a)
theorem k0_off169_inb : ∀ (v1850 : BitVec 32) (k0_hw94 : k0_chk94 v1850), ∀ a, (k0_off169 v1850) a + S64x128.size a ≤ S4096x128.size a := fun v1850 k0_hw94 => k0_hw94.1
theorem k0_off175_inb : ∀ (v1850 : BitVec 32) (k0_hw94 : k0_chk94 v1850), ∀ a, (k0_off175 v1850) a + S64x128.size a ≤ S4096x128.size a := fun v1850 k0_hw94 => k0_hw94.2

def k0_off176 (v1856 : BitVec 32) : Fin 2 → Nat :=
  let c63_i32_1242 : BitVec 32 := 63#32
  let c0_i32_1241 : BitVec 32 := 0#32
  let v1857 : BitVec 32 := Scalar.maxsi c0_i32_1241 v1856
  let v1858 : BitVec 32 := Scalar.minsi c63_i32_1242 v1857
  let c64_i32_1246 : BitVec 32 := 64#32
  let v1861 : BitVec 32 := Scalar.muli v1858 c64_i32_1246
  let v1938 : Index := Scalar.indexCast v1861
  let c0_1279 : Index := 0#32
  ![v1938.toNat, 0]

def k0_chk95 (v1856 : BitVec 32) : Prop :=
  (∀ a, (k0_off170 v1856) a + S64x128.size a ≤ S4096x128.size a) ∧
  (∀ a, (k0_off176 v1856) a + S64x128.size a ≤ S4096x128.size a)
theorem k0_off170_inb : ∀ (v1856 : BitVec 32) (k0_hw95 : k0_chk95 v1856), ∀ a, (k0_off170 v1856) a + S64x128.size a ≤ S4096x128.size a := fun v1856 k0_hw95 => k0_hw95.1
theorem k0_off176_inb : ∀ (v1856 : BitVec 32) (k0_hw95 : k0_chk95 v1856), ∀ a, (k0_off176 v1856) a + S64x128.size a ≤ S4096x128.size a := fun v1856 k0_hw95 => k0_hw95.2

def k0_off177 (v1951 : BitVec 32) : Fin 2 → Nat :=
  let c63_i32_1288 : BitVec 32 := 63#32
  let c0_i32_1287 : BitVec 32 := 0#32
  let v1952 : BitVec 32 := Scalar.maxsi c0_i32_1287 v1951
  let v1953 : BitVec 32 := Scalar.minsi c63_i32_1288 v1952
  let c64_i32_1292 : BitVec 32 := 64#32
  let v1956 : BitVec 32 := Scalar.muli v1953 c64_i32_1292
  let v1988 : Index := Scalar.indexCast v1956
  let c0_1334 : Index := 0#32
  ![v1988.toNat, 0]

def k0_off178 (v1957 : BitVec 32) : Fin 2 → Nat :=
  let c63_i32_1296 : BitVec 32 := 63#32
  let c0_i32_1295 : BitVec 32 := 0#32
  let v1958 : BitVec 32 := Scalar.maxsi c0_i32_1295 v1957
  let v1959 : BitVec 32 := Scalar.minsi c63_i32_1296 v1958
  let c64_i32_1300 : BitVec 32 := 64#32
  let v1962 : BitVec 32 := Scalar.muli v1959 c64_i32_1300
  let v1990 : Index := Scalar.indexCast v1962
  let c0_1335 : Index := 0#32
  ![v1990.toNat, 0]

def k0_off179 (v1963 : BitVec 32) : Fin 2 → Nat :=
  let c63_i32_1304 : BitVec 32 := 63#32
  let c0_i32_1303 : BitVec 32 := 0#32
  let v1964 : BitVec 32 := Scalar.maxsi c0_i32_1303 v1963
  let v1965 : BitVec 32 := Scalar.minsi c63_i32_1304 v1964
  let c64_i32_1308 : BitVec 32 := 64#32
  let v1968 : BitVec 32 := Scalar.muli v1965 c64_i32_1308
  let v2000 : Index := Scalar.indexCast v1968
  let c0_1337 : Index := 0#32
  ![v2000.toNat, 0]

def k0_off180 (v1969 : BitVec 32) : Fin 2 → Nat :=
  let c63_i32_1312 : BitVec 32 := 63#32
  let c0_i32_1311 : BitVec 32 := 0#32
  let v1970 : BitVec 32 := Scalar.maxsi c0_i32_1311 v1969
  let v1971 : BitVec 32 := Scalar.minsi c63_i32_1312 v1970
  let c64_i32_1316 : BitVec 32 := 64#32
  let v1974 : BitVec 32 := Scalar.muli v1971 c64_i32_1316
  let v2002 : Index := Scalar.indexCast v1974
  let c0_1338 : Index := 0#32
  ![v2002.toNat, 0]

def k0_off181 (v1975 : BitVec 32) : Fin 2 → Nat :=
  let c63_i32_1320 : BitVec 32 := 63#32
  let c0_i32_1319 : BitVec 32 := 0#32
  let v1976 : BitVec 32 := Scalar.maxsi c0_i32_1319 v1975
  let v1977 : BitVec 32 := Scalar.minsi c63_i32_1320 v1976
  let c64_i32_1324 : BitVec 32 := 64#32
  let v1980 : BitVec 32 := Scalar.muli v1977 c64_i32_1324
  let v2012 : Index := Scalar.indexCast v1980
  let c0_1340 : Index := 0#32
  ![v2012.toNat, 0]

def k0_off182 (v1981 : BitVec 32) : Fin 2 → Nat :=
  let c63_i32_1328 : BitVec 32 := 63#32
  let c0_i32_1327 : BitVec 32 := 0#32
  let v1982 : BitVec 32 := Scalar.maxsi c0_i32_1327 v1981
  let v1983 : BitVec 32 := Scalar.minsi c63_i32_1328 v1982
  let c64_i32_1332 : BitVec 32 := 64#32
  let v1986 : BitVec 32 := Scalar.muli v1983 c64_i32_1332
  let v2014 : Index := Scalar.indexCast v1986
  let c0_1341 : Index := 0#32
  ![v2014.toNat, 0]

def k0_chk102 (v1981 : BitVec 32) : Prop :=
  (∀ a, (k0_off182 v1981) a + S64x128.size a ≤ S4096x128.size a)
theorem k0_off182_inb : ∀ (v1981 : BitVec 32) (k0_hw102 : k0_chk102 v1981), ∀ a, (k0_off182 v1981) a + S64x128.size a ≤ S4096x128.size a := fun v1981 k0_hw102 => k0_hw102

def k0_off183 (v1951 : BitVec 32) : Fin 2 → Nat :=
  let c63_i32_1288 : BitVec 32 := 63#32
  let c0_i32_1287 : BitVec 32 := 0#32
  let v1952 : BitVec 32 := Scalar.maxsi c0_i32_1287 v1951
  let v1953 : BitVec 32 := Scalar.minsi c63_i32_1288 v1952
  let c64_i32_1292 : BitVec 32 := 64#32
  let v1956 : BitVec 32 := Scalar.muli v1953 c64_i32_1292
  let v2041 : Index := Scalar.indexCast v1956
  let c0_1351 : Index := 0#32
  ![v2041.toNat, 0]

def k0_chk97 (v1951 : BitVec 32) : Prop :=
  (∀ a, (k0_off177 v1951) a + S64x128.size a ≤ S4096x128.size a) ∧
  (∀ a, (k0_off183 v1951) a + S64x128.size a ≤ S4096x128.size a)
theorem k0_off177_inb : ∀ (v1951 : BitVec 32) (k0_hw97 : k0_chk97 v1951), ∀ a, (k0_off177 v1951) a + S64x128.size a ≤ S4096x128.size a := fun v1951 k0_hw97 => k0_hw97.1
theorem k0_off183_inb : ∀ (v1951 : BitVec 32) (k0_hw97 : k0_chk97 v1951), ∀ a, (k0_off183 v1951) a + S64x128.size a ≤ S4096x128.size a := fun v1951 k0_hw97 => k0_hw97.2

def k0_off184 (v1957 : BitVec 32) : Fin 2 → Nat :=
  let c63_i32_1296 : BitVec 32 := 63#32
  let c0_i32_1295 : BitVec 32 := 0#32
  let v1958 : BitVec 32 := Scalar.maxsi c0_i32_1295 v1957
  let v1959 : BitVec 32 := Scalar.minsi c63_i32_1296 v1958
  let c64_i32_1300 : BitVec 32 := 64#32
  let v1962 : BitVec 32 := Scalar.muli v1959 c64_i32_1300
  let v2043 : Index := Scalar.indexCast v1962
  let c0_1352 : Index := 0#32
  ![v2043.toNat, 0]

def k0_chk98 (v1957 : BitVec 32) : Prop :=
  (∀ a, (k0_off178 v1957) a + S64x128.size a ≤ S4096x128.size a) ∧
  (∀ a, (k0_off184 v1957) a + S64x128.size a ≤ S4096x128.size a)
theorem k0_off178_inb : ∀ (v1957 : BitVec 32) (k0_hw98 : k0_chk98 v1957), ∀ a, (k0_off178 v1957) a + S64x128.size a ≤ S4096x128.size a := fun v1957 k0_hw98 => k0_hw98.1
theorem k0_off184_inb : ∀ (v1957 : BitVec 32) (k0_hw98 : k0_chk98 v1957), ∀ a, (k0_off184 v1957) a + S64x128.size a ≤ S4096x128.size a := fun v1957 k0_hw98 => k0_hw98.2

def k0_off185 (v1963 : BitVec 32) : Fin 2 → Nat :=
  let c63_i32_1304 : BitVec 32 := 63#32
  let c0_i32_1303 : BitVec 32 := 0#32
  let v1964 : BitVec 32 := Scalar.maxsi c0_i32_1303 v1963
  let v1965 : BitVec 32 := Scalar.minsi c63_i32_1304 v1964
  let c64_i32_1308 : BitVec 32 := 64#32
  let v1968 : BitVec 32 := Scalar.muli v1965 c64_i32_1308
  let v2049 : Index := Scalar.indexCast v1968
  let c0_1354 : Index := 0#32
  ![v2049.toNat, 0]

def k0_chk99 (v1963 : BitVec 32) : Prop :=
  (∀ a, (k0_off179 v1963) a + S64x128.size a ≤ S4096x128.size a) ∧
  (∀ a, (k0_off185 v1963) a + S64x128.size a ≤ S4096x128.size a)
theorem k0_off179_inb : ∀ (v1963 : BitVec 32) (k0_hw99 : k0_chk99 v1963), ∀ a, (k0_off179 v1963) a + S64x128.size a ≤ S4096x128.size a := fun v1963 k0_hw99 => k0_hw99.1
theorem k0_off185_inb : ∀ (v1963 : BitVec 32) (k0_hw99 : k0_chk99 v1963), ∀ a, (k0_off185 v1963) a + S64x128.size a ≤ S4096x128.size a := fun v1963 k0_hw99 => k0_hw99.2

def k0_off186 (v1969 : BitVec 32) : Fin 2 → Nat :=
  let c63_i32_1312 : BitVec 32 := 63#32
  let c0_i32_1311 : BitVec 32 := 0#32
  let v1970 : BitVec 32 := Scalar.maxsi c0_i32_1311 v1969
  let v1971 : BitVec 32 := Scalar.minsi c63_i32_1312 v1970
  let c64_i32_1316 : BitVec 32 := 64#32
  let v1974 : BitVec 32 := Scalar.muli v1971 c64_i32_1316
  let v2051 : Index := Scalar.indexCast v1974
  let c0_1355 : Index := 0#32
  ![v2051.toNat, 0]

def k0_chk100 (v1969 : BitVec 32) : Prop :=
  (∀ a, (k0_off180 v1969) a + S64x128.size a ≤ S4096x128.size a) ∧
  (∀ a, (k0_off186 v1969) a + S64x128.size a ≤ S4096x128.size a)
theorem k0_off180_inb : ∀ (v1969 : BitVec 32) (k0_hw100 : k0_chk100 v1969), ∀ a, (k0_off180 v1969) a + S64x128.size a ≤ S4096x128.size a := fun v1969 k0_hw100 => k0_hw100.1
theorem k0_off186_inb : ∀ (v1969 : BitVec 32) (k0_hw100 : k0_chk100 v1969), ∀ a, (k0_off186 v1969) a + S64x128.size a ≤ S4096x128.size a := fun v1969 k0_hw100 => k0_hw100.2

def k0_off187 (v1975 : BitVec 32) : Fin 2 → Nat :=
  let c63_i32_1320 : BitVec 32 := 63#32
  let c0_i32_1319 : BitVec 32 := 0#32
  let v1976 : BitVec 32 := Scalar.maxsi c0_i32_1319 v1975
  let v1977 : BitVec 32 := Scalar.minsi c63_i32_1320 v1976
  let c64_i32_1324 : BitVec 32 := 64#32
  let v1980 : BitVec 32 := Scalar.muli v1977 c64_i32_1324
  let v2057 : Index := Scalar.indexCast v1980
  let c0_1357 : Index := 0#32
  ![v2057.toNat, 0]

def k0_chk101 (v1975 : BitVec 32) : Prop :=
  (∀ a, (k0_off181 v1975) a + S64x128.size a ≤ S4096x128.size a) ∧
  (∀ a, (k0_off187 v1975) a + S64x128.size a ≤ S4096x128.size a)
theorem k0_off181_inb : ∀ (v1975 : BitVec 32) (k0_hw101 : k0_chk101 v1975), ∀ a, (k0_off181 v1975) a + S64x128.size a ≤ S4096x128.size a := fun v1975 k0_hw101 => k0_hw101.1
theorem k0_off187_inb : ∀ (v1975 : BitVec 32) (k0_hw101 : k0_chk101 v1975), ∀ a, (k0_off187 v1975) a + S64x128.size a ≤ S4096x128.size a := fun v1975 k0_hw101 => k0_hw101.2

def k0_off188 (v2070 : BitVec 32) : Fin 2 → Nat :=
  let c63_i32_1366 : BitVec 32 := 63#32
  let c0_i32_1365 : BitVec 32 := 0#32
  let v2071 : BitVec 32 := Scalar.maxsi c0_i32_1365 v2070
  let v2072 : BitVec 32 := Scalar.minsi c63_i32_1366 v2071
  let c64_i32_1370 : BitVec 32 := 64#32
  let v2075 : BitVec 32 := Scalar.muli v2072 c64_i32_1370
  let v2107 : Index := Scalar.indexCast v2075
  let c0_1412 : Index := 0#32
  ![v2107.toNat, 0]

def k0_off189 (v2076 : BitVec 32) : Fin 2 → Nat :=
  let c63_i32_1374 : BitVec 32 := 63#32
  let c0_i32_1373 : BitVec 32 := 0#32
  let v2077 : BitVec 32 := Scalar.maxsi c0_i32_1373 v2076
  let v2078 : BitVec 32 := Scalar.minsi c63_i32_1374 v2077
  let c64_i32_1378 : BitVec 32 := 64#32
  let v2081 : BitVec 32 := Scalar.muli v2078 c64_i32_1378
  let v2109 : Index := Scalar.indexCast v2081
  let c0_1413 : Index := 0#32
  ![v2109.toNat, 0]

def k0_off190 (v2082 : BitVec 32) : Fin 2 → Nat :=
  let c63_i32_1382 : BitVec 32 := 63#32
  let c0_i32_1381 : BitVec 32 := 0#32
  let v2083 : BitVec 32 := Scalar.maxsi c0_i32_1381 v2082
  let v2084 : BitVec 32 := Scalar.minsi c63_i32_1382 v2083
  let c64_i32_1386 : BitVec 32 := 64#32
  let v2087 : BitVec 32 := Scalar.muli v2084 c64_i32_1386
  let v2119 : Index := Scalar.indexCast v2087
  let c0_1415 : Index := 0#32
  ![v2119.toNat, 0]

def k0_off191 (v2088 : BitVec 32) : Fin 2 → Nat :=
  let c63_i32_1390 : BitVec 32 := 63#32
  let c0_i32_1389 : BitVec 32 := 0#32
  let v2089 : BitVec 32 := Scalar.maxsi c0_i32_1389 v2088
  let v2090 : BitVec 32 := Scalar.minsi c63_i32_1390 v2089
  let c64_i32_1394 : BitVec 32 := 64#32
  let v2093 : BitVec 32 := Scalar.muli v2090 c64_i32_1394
  let v2121 : Index := Scalar.indexCast v2093
  let c0_1416 : Index := 0#32
  ![v2121.toNat, 0]

def k0_off192 (v2094 : BitVec 32) : Fin 2 → Nat :=
  let c63_i32_1398 : BitVec 32 := 63#32
  let c0_i32_1397 : BitVec 32 := 0#32
  let v2095 : BitVec 32 := Scalar.maxsi c0_i32_1397 v2094
  let v2096 : BitVec 32 := Scalar.minsi c63_i32_1398 v2095
  let c64_i32_1402 : BitVec 32 := 64#32
  let v2099 : BitVec 32 := Scalar.muli v2096 c64_i32_1402
  let v2131 : Index := Scalar.indexCast v2099
  let c0_1418 : Index := 0#32
  ![v2131.toNat, 0]

def k0_off193 (v2100 : BitVec 32) : Fin 2 → Nat :=
  let c63_i32_1406 : BitVec 32 := 63#32
  let c0_i32_1405 : BitVec 32 := 0#32
  let v2101 : BitVec 32 := Scalar.maxsi c0_i32_1405 v2100
  let v2102 : BitVec 32 := Scalar.minsi c63_i32_1406 v2101
  let c64_i32_1410 : BitVec 32 := 64#32
  let v2105 : BitVec 32 := Scalar.muli v2102 c64_i32_1410
  let v2133 : Index := Scalar.indexCast v2105
  let c0_1419 : Index := 0#32
  ![v2133.toNat, 0]

def k0_chk108 (v2100 : BitVec 32) : Prop :=
  (∀ a, (k0_off193 v2100) a + S64x128.size a ≤ S4096x128.size a)
theorem k0_off193_inb : ∀ (v2100 : BitVec 32) (k0_hw108 : k0_chk108 v2100), ∀ a, (k0_off193 v2100) a + S64x128.size a ≤ S4096x128.size a := fun v2100 k0_hw108 => k0_hw108

def k0_off194 (v2070 : BitVec 32) : Fin 2 → Nat :=
  let c63_i32_1366 : BitVec 32 := 63#32
  let c0_i32_1365 : BitVec 32 := 0#32
  let v2071 : BitVec 32 := Scalar.maxsi c0_i32_1365 v2070
  let v2072 : BitVec 32 := Scalar.minsi c63_i32_1366 v2071
  let c64_i32_1370 : BitVec 32 := 64#32
  let v2075 : BitVec 32 := Scalar.muli v2072 c64_i32_1370
  let v2160 : Index := Scalar.indexCast v2075
  let c0_1429 : Index := 0#32
  ![v2160.toNat, 0]

def k0_chk103 (v2070 : BitVec 32) : Prop :=
  (∀ a, (k0_off188 v2070) a + S64x128.size a ≤ S4096x128.size a) ∧
  (∀ a, (k0_off194 v2070) a + S64x128.size a ≤ S4096x128.size a)
theorem k0_off188_inb : ∀ (v2070 : BitVec 32) (k0_hw103 : k0_chk103 v2070), ∀ a, (k0_off188 v2070) a + S64x128.size a ≤ S4096x128.size a := fun v2070 k0_hw103 => k0_hw103.1
theorem k0_off194_inb : ∀ (v2070 : BitVec 32) (k0_hw103 : k0_chk103 v2070), ∀ a, (k0_off194 v2070) a + S64x128.size a ≤ S4096x128.size a := fun v2070 k0_hw103 => k0_hw103.2

def k0_off195 (v2076 : BitVec 32) : Fin 2 → Nat :=
  let c63_i32_1374 : BitVec 32 := 63#32
  let c0_i32_1373 : BitVec 32 := 0#32
  let v2077 : BitVec 32 := Scalar.maxsi c0_i32_1373 v2076
  let v2078 : BitVec 32 := Scalar.minsi c63_i32_1374 v2077
  let c64_i32_1378 : BitVec 32 := 64#32
  let v2081 : BitVec 32 := Scalar.muli v2078 c64_i32_1378
  let v2162 : Index := Scalar.indexCast v2081
  let c0_1430 : Index := 0#32
  ![v2162.toNat, 0]

def k0_chk104 (v2076 : BitVec 32) : Prop :=
  (∀ a, (k0_off189 v2076) a + S64x128.size a ≤ S4096x128.size a) ∧
  (∀ a, (k0_off195 v2076) a + S64x128.size a ≤ S4096x128.size a)
theorem k0_off189_inb : ∀ (v2076 : BitVec 32) (k0_hw104 : k0_chk104 v2076), ∀ a, (k0_off189 v2076) a + S64x128.size a ≤ S4096x128.size a := fun v2076 k0_hw104 => k0_hw104.1
theorem k0_off195_inb : ∀ (v2076 : BitVec 32) (k0_hw104 : k0_chk104 v2076), ∀ a, (k0_off195 v2076) a + S64x128.size a ≤ S4096x128.size a := fun v2076 k0_hw104 => k0_hw104.2

def k0_off196 (v2082 : BitVec 32) : Fin 2 → Nat :=
  let c63_i32_1382 : BitVec 32 := 63#32
  let c0_i32_1381 : BitVec 32 := 0#32
  let v2083 : BitVec 32 := Scalar.maxsi c0_i32_1381 v2082
  let v2084 : BitVec 32 := Scalar.minsi c63_i32_1382 v2083
  let c64_i32_1386 : BitVec 32 := 64#32
  let v2087 : BitVec 32 := Scalar.muli v2084 c64_i32_1386
  let v2168 : Index := Scalar.indexCast v2087
  let c0_1432 : Index := 0#32
  ![v2168.toNat, 0]

def k0_chk105 (v2082 : BitVec 32) : Prop :=
  (∀ a, (k0_off190 v2082) a + S64x128.size a ≤ S4096x128.size a) ∧
  (∀ a, (k0_off196 v2082) a + S64x128.size a ≤ S4096x128.size a)
theorem k0_off190_inb : ∀ (v2082 : BitVec 32) (k0_hw105 : k0_chk105 v2082), ∀ a, (k0_off190 v2082) a + S64x128.size a ≤ S4096x128.size a := fun v2082 k0_hw105 => k0_hw105.1
theorem k0_off196_inb : ∀ (v2082 : BitVec 32) (k0_hw105 : k0_chk105 v2082), ∀ a, (k0_off196 v2082) a + S64x128.size a ≤ S4096x128.size a := fun v2082 k0_hw105 => k0_hw105.2

def k0_off197 (v2088 : BitVec 32) : Fin 2 → Nat :=
  let c63_i32_1390 : BitVec 32 := 63#32
  let c0_i32_1389 : BitVec 32 := 0#32
  let v2089 : BitVec 32 := Scalar.maxsi c0_i32_1389 v2088
  let v2090 : BitVec 32 := Scalar.minsi c63_i32_1390 v2089
  let c64_i32_1394 : BitVec 32 := 64#32
  let v2093 : BitVec 32 := Scalar.muli v2090 c64_i32_1394
  let v2170 : Index := Scalar.indexCast v2093
  let c0_1433 : Index := 0#32
  ![v2170.toNat, 0]

def k0_chk106 (v2088 : BitVec 32) : Prop :=
  (∀ a, (k0_off191 v2088) a + S64x128.size a ≤ S4096x128.size a) ∧
  (∀ a, (k0_off197 v2088) a + S64x128.size a ≤ S4096x128.size a)
theorem k0_off191_inb : ∀ (v2088 : BitVec 32) (k0_hw106 : k0_chk106 v2088), ∀ a, (k0_off191 v2088) a + S64x128.size a ≤ S4096x128.size a := fun v2088 k0_hw106 => k0_hw106.1
theorem k0_off197_inb : ∀ (v2088 : BitVec 32) (k0_hw106 : k0_chk106 v2088), ∀ a, (k0_off197 v2088) a + S64x128.size a ≤ S4096x128.size a := fun v2088 k0_hw106 => k0_hw106.2

def k0_off198 (v2094 : BitVec 32) : Fin 2 → Nat :=
  let c63_i32_1398 : BitVec 32 := 63#32
  let c0_i32_1397 : BitVec 32 := 0#32
  let v2095 : BitVec 32 := Scalar.maxsi c0_i32_1397 v2094
  let v2096 : BitVec 32 := Scalar.minsi c63_i32_1398 v2095
  let c64_i32_1402 : BitVec 32 := 64#32
  let v2099 : BitVec 32 := Scalar.muli v2096 c64_i32_1402
  let v2176 : Index := Scalar.indexCast v2099
  let c0_1435 : Index := 0#32
  ![v2176.toNat, 0]

def k0_chk107 (v2094 : BitVec 32) : Prop :=
  (∀ a, (k0_off192 v2094) a + S64x128.size a ≤ S4096x128.size a) ∧
  (∀ a, (k0_off198 v2094) a + S64x128.size a ≤ S4096x128.size a)
theorem k0_off192_inb : ∀ (v2094 : BitVec 32) (k0_hw107 : k0_chk107 v2094), ∀ a, (k0_off192 v2094) a + S64x128.size a ≤ S4096x128.size a := fun v2094 k0_hw107 => k0_hw107.1
theorem k0_off198_inb : ∀ (v2094 : BitVec 32) (k0_hw107 : k0_chk107 v2094), ∀ a, (k0_off198 v2094) a + S64x128.size a ≤ S4096x128.size a := fun v2094 k0_hw107 => k0_hw107.2

def k0_off199 (v2189 : BitVec 32) : Fin 2 → Nat :=
  let c63_i32_1444 : BitVec 32 := 63#32
  let c0_i32_1443 : BitVec 32 := 0#32
  let v2190 : BitVec 32 := Scalar.maxsi c0_i32_1443 v2189
  let v2191 : BitVec 32 := Scalar.minsi c63_i32_1444 v2190
  let c64_i32_1448 : BitVec 32 := 64#32
  let v2194 : BitVec 32 := Scalar.muli v2191 c64_i32_1448
  let v2226 : Index := Scalar.indexCast v2194
  let c0_1490 : Index := 0#32
  ![v2226.toNat, 0]

def k0_off200 (v2195 : BitVec 32) : Fin 2 → Nat :=
  let c63_i32_1452 : BitVec 32 := 63#32
  let c0_i32_1451 : BitVec 32 := 0#32
  let v2196 : BitVec 32 := Scalar.maxsi c0_i32_1451 v2195
  let v2197 : BitVec 32 := Scalar.minsi c63_i32_1452 v2196
  let c64_i32_1456 : BitVec 32 := 64#32
  let v2200 : BitVec 32 := Scalar.muli v2197 c64_i32_1456
  let v2228 : Index := Scalar.indexCast v2200
  let c0_1491 : Index := 0#32
  ![v2228.toNat, 0]

def k0_off201 (v2201 : BitVec 32) : Fin 2 → Nat :=
  let c63_i32_1460 : BitVec 32 := 63#32
  let c0_i32_1459 : BitVec 32 := 0#32
  let v2202 : BitVec 32 := Scalar.maxsi c0_i32_1459 v2201
  let v2203 : BitVec 32 := Scalar.minsi c63_i32_1460 v2202
  let c64_i32_1464 : BitVec 32 := 64#32
  let v2206 : BitVec 32 := Scalar.muli v2203 c64_i32_1464
  let v2238 : Index := Scalar.indexCast v2206
  let c0_1493 : Index := 0#32
  ![v2238.toNat, 0]

def k0_off202 (v2207 : BitVec 32) : Fin 2 → Nat :=
  let c63_i32_1468 : BitVec 32 := 63#32
  let c0_i32_1467 : BitVec 32 := 0#32
  let v2208 : BitVec 32 := Scalar.maxsi c0_i32_1467 v2207
  let v2209 : BitVec 32 := Scalar.minsi c63_i32_1468 v2208
  let c64_i32_1472 : BitVec 32 := 64#32
  let v2212 : BitVec 32 := Scalar.muli v2209 c64_i32_1472
  let v2240 : Index := Scalar.indexCast v2212
  let c0_1494 : Index := 0#32
  ![v2240.toNat, 0]

def k0_off203 (v2213 : BitVec 32) : Fin 2 → Nat :=
  let c63_i32_1476 : BitVec 32 := 63#32
  let c0_i32_1475 : BitVec 32 := 0#32
  let v2214 : BitVec 32 := Scalar.maxsi c0_i32_1475 v2213
  let v2215 : BitVec 32 := Scalar.minsi c63_i32_1476 v2214
  let c64_i32_1480 : BitVec 32 := 64#32
  let v2218 : BitVec 32 := Scalar.muli v2215 c64_i32_1480
  let v2250 : Index := Scalar.indexCast v2218
  let c0_1496 : Index := 0#32
  ![v2250.toNat, 0]

def k0_off204 (v2219 : BitVec 32) : Fin 2 → Nat :=
  let c63_i32_1484 : BitVec 32 := 63#32
  let c0_i32_1483 : BitVec 32 := 0#32
  let v2220 : BitVec 32 := Scalar.maxsi c0_i32_1483 v2219
  let v2221 : BitVec 32 := Scalar.minsi c63_i32_1484 v2220
  let c64_i32_1488 : BitVec 32 := 64#32
  let v2224 : BitVec 32 := Scalar.muli v2221 c64_i32_1488
  let v2252 : Index := Scalar.indexCast v2224
  let c0_1497 : Index := 0#32
  ![v2252.toNat, 0]

def k0_chk114 (v2219 : BitVec 32) : Prop :=
  (∀ a, (k0_off204 v2219) a + S64x128.size a ≤ S4096x128.size a)
theorem k0_off204_inb : ∀ (v2219 : BitVec 32) (k0_hw114 : k0_chk114 v2219), ∀ a, (k0_off204 v2219) a + S64x128.size a ≤ S4096x128.size a := fun v2219 k0_hw114 => k0_hw114

def k0_off205 (v2189 : BitVec 32) : Fin 2 → Nat :=
  let c63_i32_1444 : BitVec 32 := 63#32
  let c0_i32_1443 : BitVec 32 := 0#32
  let v2190 : BitVec 32 := Scalar.maxsi c0_i32_1443 v2189
  let v2191 : BitVec 32 := Scalar.minsi c63_i32_1444 v2190
  let c64_i32_1448 : BitVec 32 := 64#32
  let v2194 : BitVec 32 := Scalar.muli v2191 c64_i32_1448
  let v2279 : Index := Scalar.indexCast v2194
  let c0_1507 : Index := 0#32
  ![v2279.toNat, 0]

def k0_chk109 (v2189 : BitVec 32) : Prop :=
  (∀ a, (k0_off199 v2189) a + S64x128.size a ≤ S4096x128.size a) ∧
  (∀ a, (k0_off205 v2189) a + S64x128.size a ≤ S4096x128.size a)
theorem k0_off199_inb : ∀ (v2189 : BitVec 32) (k0_hw109 : k0_chk109 v2189), ∀ a, (k0_off199 v2189) a + S64x128.size a ≤ S4096x128.size a := fun v2189 k0_hw109 => k0_hw109.1
theorem k0_off205_inb : ∀ (v2189 : BitVec 32) (k0_hw109 : k0_chk109 v2189), ∀ a, (k0_off205 v2189) a + S64x128.size a ≤ S4096x128.size a := fun v2189 k0_hw109 => k0_hw109.2

def k0_off206 (v2195 : BitVec 32) : Fin 2 → Nat :=
  let c63_i32_1452 : BitVec 32 := 63#32
  let c0_i32_1451 : BitVec 32 := 0#32
  let v2196 : BitVec 32 := Scalar.maxsi c0_i32_1451 v2195
  let v2197 : BitVec 32 := Scalar.minsi c63_i32_1452 v2196
  let c64_i32_1456 : BitVec 32 := 64#32
  let v2200 : BitVec 32 := Scalar.muli v2197 c64_i32_1456
  let v2281 : Index := Scalar.indexCast v2200
  let c0_1508 : Index := 0#32
  ![v2281.toNat, 0]

def k0_chk110 (v2195 : BitVec 32) : Prop :=
  (∀ a, (k0_off200 v2195) a + S64x128.size a ≤ S4096x128.size a) ∧
  (∀ a, (k0_off206 v2195) a + S64x128.size a ≤ S4096x128.size a)
theorem k0_off200_inb : ∀ (v2195 : BitVec 32) (k0_hw110 : k0_chk110 v2195), ∀ a, (k0_off200 v2195) a + S64x128.size a ≤ S4096x128.size a := fun v2195 k0_hw110 => k0_hw110.1
theorem k0_off206_inb : ∀ (v2195 : BitVec 32) (k0_hw110 : k0_chk110 v2195), ∀ a, (k0_off206 v2195) a + S64x128.size a ≤ S4096x128.size a := fun v2195 k0_hw110 => k0_hw110.2

def k0_off207 (v2201 : BitVec 32) : Fin 2 → Nat :=
  let c63_i32_1460 : BitVec 32 := 63#32
  let c0_i32_1459 : BitVec 32 := 0#32
  let v2202 : BitVec 32 := Scalar.maxsi c0_i32_1459 v2201
  let v2203 : BitVec 32 := Scalar.minsi c63_i32_1460 v2202
  let c64_i32_1464 : BitVec 32 := 64#32
  let v2206 : BitVec 32 := Scalar.muli v2203 c64_i32_1464
  let v2287 : Index := Scalar.indexCast v2206
  let c0_1510 : Index := 0#32
  ![v2287.toNat, 0]

def k0_chk111 (v2201 : BitVec 32) : Prop :=
  (∀ a, (k0_off201 v2201) a + S64x128.size a ≤ S4096x128.size a) ∧
  (∀ a, (k0_off207 v2201) a + S64x128.size a ≤ S4096x128.size a)
theorem k0_off201_inb : ∀ (v2201 : BitVec 32) (k0_hw111 : k0_chk111 v2201), ∀ a, (k0_off201 v2201) a + S64x128.size a ≤ S4096x128.size a := fun v2201 k0_hw111 => k0_hw111.1
theorem k0_off207_inb : ∀ (v2201 : BitVec 32) (k0_hw111 : k0_chk111 v2201), ∀ a, (k0_off207 v2201) a + S64x128.size a ≤ S4096x128.size a := fun v2201 k0_hw111 => k0_hw111.2

def k0_off208 (v2207 : BitVec 32) : Fin 2 → Nat :=
  let c63_i32_1468 : BitVec 32 := 63#32
  let c0_i32_1467 : BitVec 32 := 0#32
  let v2208 : BitVec 32 := Scalar.maxsi c0_i32_1467 v2207
  let v2209 : BitVec 32 := Scalar.minsi c63_i32_1468 v2208
  let c64_i32_1472 : BitVec 32 := 64#32
  let v2212 : BitVec 32 := Scalar.muli v2209 c64_i32_1472
  let v2289 : Index := Scalar.indexCast v2212
  let c0_1511 : Index := 0#32
  ![v2289.toNat, 0]

def k0_chk112 (v2207 : BitVec 32) : Prop :=
  (∀ a, (k0_off202 v2207) a + S64x128.size a ≤ S4096x128.size a) ∧
  (∀ a, (k0_off208 v2207) a + S64x128.size a ≤ S4096x128.size a)
theorem k0_off202_inb : ∀ (v2207 : BitVec 32) (k0_hw112 : k0_chk112 v2207), ∀ a, (k0_off202 v2207) a + S64x128.size a ≤ S4096x128.size a := fun v2207 k0_hw112 => k0_hw112.1
theorem k0_off208_inb : ∀ (v2207 : BitVec 32) (k0_hw112 : k0_chk112 v2207), ∀ a, (k0_off208 v2207) a + S64x128.size a ≤ S4096x128.size a := fun v2207 k0_hw112 => k0_hw112.2

def k0_off209 (v2213 : BitVec 32) : Fin 2 → Nat :=
  let c63_i32_1476 : BitVec 32 := 63#32
  let c0_i32_1475 : BitVec 32 := 0#32
  let v2214 : BitVec 32 := Scalar.maxsi c0_i32_1475 v2213
  let v2215 : BitVec 32 := Scalar.minsi c63_i32_1476 v2214
  let c64_i32_1480 : BitVec 32 := 64#32
  let v2218 : BitVec 32 := Scalar.muli v2215 c64_i32_1480
  let v2295 : Index := Scalar.indexCast v2218
  let c0_1513 : Index := 0#32
  ![v2295.toNat, 0]

def k0_chk113 (v2213 : BitVec 32) : Prop :=
  (∀ a, (k0_off203 v2213) a + S64x128.size a ≤ S4096x128.size a) ∧
  (∀ a, (k0_off209 v2213) a + S64x128.size a ≤ S4096x128.size a)
theorem k0_off203_inb : ∀ (v2213 : BitVec 32) (k0_hw113 : k0_chk113 v2213), ∀ a, (k0_off203 v2213) a + S64x128.size a ≤ S4096x128.size a := fun v2213 k0_hw113 => k0_hw113.1
theorem k0_off209_inb : ∀ (v2213 : BitVec 32) (k0_hw113 : k0_chk113 v2213), ∀ a, (k0_off209 v2213) a + S64x128.size a ≤ S4096x128.size a := fun v2213 k0_hw113 => k0_hw113.2

def k0_off210 (v2308 : BitVec 32) : Fin 2 → Nat :=
  let c63_i32_1522 : BitVec 32 := 63#32
  let c0_i32_1521 : BitVec 32 := 0#32
  let v2309 : BitVec 32 := Scalar.maxsi c0_i32_1521 v2308
  let v2310 : BitVec 32 := Scalar.minsi c63_i32_1522 v2309
  let c64_i32_1526 : BitVec 32 := 64#32
  let v2313 : BitVec 32 := Scalar.muli v2310 c64_i32_1526
  let v2345 : Index := Scalar.indexCast v2313
  let c0_1568 : Index := 0#32
  ![v2345.toNat, 0]

def k0_off211 (v2314 : BitVec 32) : Fin 2 → Nat :=
  let c63_i32_1530 : BitVec 32 := 63#32
  let c0_i32_1529 : BitVec 32 := 0#32
  let v2315 : BitVec 32 := Scalar.maxsi c0_i32_1529 v2314
  let v2316 : BitVec 32 := Scalar.minsi c63_i32_1530 v2315
  let c64_i32_1534 : BitVec 32 := 64#32
  let v2319 : BitVec 32 := Scalar.muli v2316 c64_i32_1534
  let v2347 : Index := Scalar.indexCast v2319
  let c0_1569 : Index := 0#32
  ![v2347.toNat, 0]

def k0_off212 (v2320 : BitVec 32) : Fin 2 → Nat :=
  let c63_i32_1538 : BitVec 32 := 63#32
  let c0_i32_1537 : BitVec 32 := 0#32
  let v2321 : BitVec 32 := Scalar.maxsi c0_i32_1537 v2320
  let v2322 : BitVec 32 := Scalar.minsi c63_i32_1538 v2321
  let c64_i32_1542 : BitVec 32 := 64#32
  let v2325 : BitVec 32 := Scalar.muli v2322 c64_i32_1542
  let v2357 : Index := Scalar.indexCast v2325
  let c0_1571 : Index := 0#32
  ![v2357.toNat, 0]

def k0_off213 (v2326 : BitVec 32) : Fin 2 → Nat :=
  let c63_i32_1546 : BitVec 32 := 63#32
  let c0_i32_1545 : BitVec 32 := 0#32
  let v2327 : BitVec 32 := Scalar.maxsi c0_i32_1545 v2326
  let v2328 : BitVec 32 := Scalar.minsi c63_i32_1546 v2327
  let c64_i32_1550 : BitVec 32 := 64#32
  let v2331 : BitVec 32 := Scalar.muli v2328 c64_i32_1550
  let v2359 : Index := Scalar.indexCast v2331
  let c0_1572 : Index := 0#32
  ![v2359.toNat, 0]

def k0_off214 (v2332 : BitVec 32) : Fin 2 → Nat :=
  let c63_i32_1554 : BitVec 32 := 63#32
  let c0_i32_1553 : BitVec 32 := 0#32
  let v2333 : BitVec 32 := Scalar.maxsi c0_i32_1553 v2332
  let v2334 : BitVec 32 := Scalar.minsi c63_i32_1554 v2333
  let c64_i32_1558 : BitVec 32 := 64#32
  let v2337 : BitVec 32 := Scalar.muli v2334 c64_i32_1558
  let v2369 : Index := Scalar.indexCast v2337
  let c0_1574 : Index := 0#32
  ![v2369.toNat, 0]

def k0_off215 (v2338 : BitVec 32) : Fin 2 → Nat :=
  let c63_i32_1562 : BitVec 32 := 63#32
  let c0_i32_1561 : BitVec 32 := 0#32
  let v2339 : BitVec 32 := Scalar.maxsi c0_i32_1561 v2338
  let v2340 : BitVec 32 := Scalar.minsi c63_i32_1562 v2339
  let c64_i32_1566 : BitVec 32 := 64#32
  let v2343 : BitVec 32 := Scalar.muli v2340 c64_i32_1566
  let v2371 : Index := Scalar.indexCast v2343
  let c0_1575 : Index := 0#32
  ![v2371.toNat, 0]

def k0_chk120 (v2338 : BitVec 32) : Prop :=
  (∀ a, (k0_off215 v2338) a + S64x128.size a ≤ S4096x128.size a)
theorem k0_off215_inb : ∀ (v2338 : BitVec 32) (k0_hw120 : k0_chk120 v2338), ∀ a, (k0_off215 v2338) a + S64x128.size a ≤ S4096x128.size a := fun v2338 k0_hw120 => k0_hw120

def k0_off216 (v2308 : BitVec 32) : Fin 2 → Nat :=
  let c63_i32_1522 : BitVec 32 := 63#32
  let c0_i32_1521 : BitVec 32 := 0#32
  let v2309 : BitVec 32 := Scalar.maxsi c0_i32_1521 v2308
  let v2310 : BitVec 32 := Scalar.minsi c63_i32_1522 v2309
  let c64_i32_1526 : BitVec 32 := 64#32
  let v2313 : BitVec 32 := Scalar.muli v2310 c64_i32_1526
  let v2398 : Index := Scalar.indexCast v2313
  let c0_1585 : Index := 0#32
  ![v2398.toNat, 0]

def k0_chk115 (v2308 : BitVec 32) : Prop :=
  (∀ a, (k0_off210 v2308) a + S64x128.size a ≤ S4096x128.size a) ∧
  (∀ a, (k0_off216 v2308) a + S64x128.size a ≤ S4096x128.size a)
theorem k0_off210_inb : ∀ (v2308 : BitVec 32) (k0_hw115 : k0_chk115 v2308), ∀ a, (k0_off210 v2308) a + S64x128.size a ≤ S4096x128.size a := fun v2308 k0_hw115 => k0_hw115.1
theorem k0_off216_inb : ∀ (v2308 : BitVec 32) (k0_hw115 : k0_chk115 v2308), ∀ a, (k0_off216 v2308) a + S64x128.size a ≤ S4096x128.size a := fun v2308 k0_hw115 => k0_hw115.2

def k0_off217 (v2314 : BitVec 32) : Fin 2 → Nat :=
  let c63_i32_1530 : BitVec 32 := 63#32
  let c0_i32_1529 : BitVec 32 := 0#32
  let v2315 : BitVec 32 := Scalar.maxsi c0_i32_1529 v2314
  let v2316 : BitVec 32 := Scalar.minsi c63_i32_1530 v2315
  let c64_i32_1534 : BitVec 32 := 64#32
  let v2319 : BitVec 32 := Scalar.muli v2316 c64_i32_1534
  let v2400 : Index := Scalar.indexCast v2319
  let c0_1586 : Index := 0#32
  ![v2400.toNat, 0]

def k0_chk116 (v2314 : BitVec 32) : Prop :=
  (∀ a, (k0_off211 v2314) a + S64x128.size a ≤ S4096x128.size a) ∧
  (∀ a, (k0_off217 v2314) a + S64x128.size a ≤ S4096x128.size a)
theorem k0_off211_inb : ∀ (v2314 : BitVec 32) (k0_hw116 : k0_chk116 v2314), ∀ a, (k0_off211 v2314) a + S64x128.size a ≤ S4096x128.size a := fun v2314 k0_hw116 => k0_hw116.1
theorem k0_off217_inb : ∀ (v2314 : BitVec 32) (k0_hw116 : k0_chk116 v2314), ∀ a, (k0_off217 v2314) a + S64x128.size a ≤ S4096x128.size a := fun v2314 k0_hw116 => k0_hw116.2

def k0_off218 (v2320 : BitVec 32) : Fin 2 → Nat :=
  let c63_i32_1538 : BitVec 32 := 63#32
  let c0_i32_1537 : BitVec 32 := 0#32
  let v2321 : BitVec 32 := Scalar.maxsi c0_i32_1537 v2320
  let v2322 : BitVec 32 := Scalar.minsi c63_i32_1538 v2321
  let c64_i32_1542 : BitVec 32 := 64#32
  let v2325 : BitVec 32 := Scalar.muli v2322 c64_i32_1542
  let v2406 : Index := Scalar.indexCast v2325
  let c0_1588 : Index := 0#32
  ![v2406.toNat, 0]

def k0_chk117 (v2320 : BitVec 32) : Prop :=
  (∀ a, (k0_off212 v2320) a + S64x128.size a ≤ S4096x128.size a) ∧
  (∀ a, (k0_off218 v2320) a + S64x128.size a ≤ S4096x128.size a)
theorem k0_off212_inb : ∀ (v2320 : BitVec 32) (k0_hw117 : k0_chk117 v2320), ∀ a, (k0_off212 v2320) a + S64x128.size a ≤ S4096x128.size a := fun v2320 k0_hw117 => k0_hw117.1
theorem k0_off218_inb : ∀ (v2320 : BitVec 32) (k0_hw117 : k0_chk117 v2320), ∀ a, (k0_off218 v2320) a + S64x128.size a ≤ S4096x128.size a := fun v2320 k0_hw117 => k0_hw117.2

def k0_off219 (v2326 : BitVec 32) : Fin 2 → Nat :=
  let c63_i32_1546 : BitVec 32 := 63#32
  let c0_i32_1545 : BitVec 32 := 0#32
  let v2327 : BitVec 32 := Scalar.maxsi c0_i32_1545 v2326
  let v2328 : BitVec 32 := Scalar.minsi c63_i32_1546 v2327
  let c64_i32_1550 : BitVec 32 := 64#32
  let v2331 : BitVec 32 := Scalar.muli v2328 c64_i32_1550
  let v2408 : Index := Scalar.indexCast v2331
  let c0_1589 : Index := 0#32
  ![v2408.toNat, 0]

def k0_chk118 (v2326 : BitVec 32) : Prop :=
  (∀ a, (k0_off213 v2326) a + S64x128.size a ≤ S4096x128.size a) ∧
  (∀ a, (k0_off219 v2326) a + S64x128.size a ≤ S4096x128.size a)
theorem k0_off213_inb : ∀ (v2326 : BitVec 32) (k0_hw118 : k0_chk118 v2326), ∀ a, (k0_off213 v2326) a + S64x128.size a ≤ S4096x128.size a := fun v2326 k0_hw118 => k0_hw118.1
theorem k0_off219_inb : ∀ (v2326 : BitVec 32) (k0_hw118 : k0_chk118 v2326), ∀ a, (k0_off219 v2326) a + S64x128.size a ≤ S4096x128.size a := fun v2326 k0_hw118 => k0_hw118.2

def k0_off220 (v2332 : BitVec 32) : Fin 2 → Nat :=
  let c63_i32_1554 : BitVec 32 := 63#32
  let c0_i32_1553 : BitVec 32 := 0#32
  let v2333 : BitVec 32 := Scalar.maxsi c0_i32_1553 v2332
  let v2334 : BitVec 32 := Scalar.minsi c63_i32_1554 v2333
  let c64_i32_1558 : BitVec 32 := 64#32
  let v2337 : BitVec 32 := Scalar.muli v2334 c64_i32_1558
  let v2414 : Index := Scalar.indexCast v2337
  let c0_1591 : Index := 0#32
  ![v2414.toNat, 0]

def k0_chk119 (v2332 : BitVec 32) : Prop :=
  (∀ a, (k0_off214 v2332) a + S64x128.size a ≤ S4096x128.size a) ∧
  (∀ a, (k0_off220 v2332) a + S64x128.size a ≤ S4096x128.size a)
theorem k0_off214_inb : ∀ (v2332 : BitVec 32) (k0_hw119 : k0_chk119 v2332), ∀ a, (k0_off214 v2332) a + S64x128.size a ≤ S4096x128.size a := fun v2332 k0_hw119 => k0_hw119.1
theorem k0_off220_inb : ∀ (v2332 : BitVec 32) (k0_hw119 : k0_chk119 v2332), ∀ a, (k0_off220 v2332) a + S64x128.size a ≤ S4096x128.size a := fun v2332 k0_hw119 => k0_hw119.2

def k0_off221 (v2427 : BitVec 32) : Fin 2 → Nat :=
  let c63_i32_1600 : BitVec 32 := 63#32
  let c0_i32_1599 : BitVec 32 := 0#32
  let v2428 : BitVec 32 := Scalar.maxsi c0_i32_1599 v2427
  let v2429 : BitVec 32 := Scalar.minsi c63_i32_1600 v2428
  let c64_i32_1604 : BitVec 32 := 64#32
  let v2432 : BitVec 32 := Scalar.muli v2429 c64_i32_1604
  let v2464 : Index := Scalar.indexCast v2432
  let c0_1646 : Index := 0#32
  ![v2464.toNat, 0]

def k0_off222 (v2433 : BitVec 32) : Fin 2 → Nat :=
  let c63_i32_1608 : BitVec 32 := 63#32
  let c0_i32_1607 : BitVec 32 := 0#32
  let v2434 : BitVec 32 := Scalar.maxsi c0_i32_1607 v2433
  let v2435 : BitVec 32 := Scalar.minsi c63_i32_1608 v2434
  let c64_i32_1612 : BitVec 32 := 64#32
  let v2438 : BitVec 32 := Scalar.muli v2435 c64_i32_1612
  let v2466 : Index := Scalar.indexCast v2438
  let c0_1647 : Index := 0#32
  ![v2466.toNat, 0]

def k0_off223 (v2439 : BitVec 32) : Fin 2 → Nat :=
  let c63_i32_1616 : BitVec 32 := 63#32
  let c0_i32_1615 : BitVec 32 := 0#32
  let v2440 : BitVec 32 := Scalar.maxsi c0_i32_1615 v2439
  let v2441 : BitVec 32 := Scalar.minsi c63_i32_1616 v2440
  let c64_i32_1620 : BitVec 32 := 64#32
  let v2444 : BitVec 32 := Scalar.muli v2441 c64_i32_1620
  let v2476 : Index := Scalar.indexCast v2444
  let c0_1649 : Index := 0#32
  ![v2476.toNat, 0]

def k0_off224 (v2445 : BitVec 32) : Fin 2 → Nat :=
  let c63_i32_1624 : BitVec 32 := 63#32
  let c0_i32_1623 : BitVec 32 := 0#32
  let v2446 : BitVec 32 := Scalar.maxsi c0_i32_1623 v2445
  let v2447 : BitVec 32 := Scalar.minsi c63_i32_1624 v2446
  let c64_i32_1628 : BitVec 32 := 64#32
  let v2450 : BitVec 32 := Scalar.muli v2447 c64_i32_1628
  let v2478 : Index := Scalar.indexCast v2450
  let c0_1650 : Index := 0#32
  ![v2478.toNat, 0]

def k0_off225 (v2451 : BitVec 32) : Fin 2 → Nat :=
  let c63_i32_1632 : BitVec 32 := 63#32
  let c0_i32_1631 : BitVec 32 := 0#32
  let v2452 : BitVec 32 := Scalar.maxsi c0_i32_1631 v2451
  let v2453 : BitVec 32 := Scalar.minsi c63_i32_1632 v2452
  let c64_i32_1636 : BitVec 32 := 64#32
  let v2456 : BitVec 32 := Scalar.muli v2453 c64_i32_1636
  let v2488 : Index := Scalar.indexCast v2456
  let c0_1652 : Index := 0#32
  ![v2488.toNat, 0]

def k0_off226 (v2457 : BitVec 32) : Fin 2 → Nat :=
  let c63_i32_1640 : BitVec 32 := 63#32
  let c0_i32_1639 : BitVec 32 := 0#32
  let v2458 : BitVec 32 := Scalar.maxsi c0_i32_1639 v2457
  let v2459 : BitVec 32 := Scalar.minsi c63_i32_1640 v2458
  let c64_i32_1644 : BitVec 32 := 64#32
  let v2462 : BitVec 32 := Scalar.muli v2459 c64_i32_1644
  let v2490 : Index := Scalar.indexCast v2462
  let c0_1653 : Index := 0#32
  ![v2490.toNat, 0]

def k0_chk126 (v2457 : BitVec 32) : Prop :=
  (∀ a, (k0_off226 v2457) a + S64x128.size a ≤ S4096x128.size a)
theorem k0_off226_inb : ∀ (v2457 : BitVec 32) (k0_hw126 : k0_chk126 v2457), ∀ a, (k0_off226 v2457) a + S64x128.size a ≤ S4096x128.size a := fun v2457 k0_hw126 => k0_hw126

def k0_off227 (v2427 : BitVec 32) : Fin 2 → Nat :=
  let c63_i32_1600 : BitVec 32 := 63#32
  let c0_i32_1599 : BitVec 32 := 0#32
  let v2428 : BitVec 32 := Scalar.maxsi c0_i32_1599 v2427
  let v2429 : BitVec 32 := Scalar.minsi c63_i32_1600 v2428
  let c64_i32_1604 : BitVec 32 := 64#32
  let v2432 : BitVec 32 := Scalar.muli v2429 c64_i32_1604
  let v2517 : Index := Scalar.indexCast v2432
  let c0_1663 : Index := 0#32
  ![v2517.toNat, 0]

def k0_chk121 (v2427 : BitVec 32) : Prop :=
  (∀ a, (k0_off221 v2427) a + S64x128.size a ≤ S4096x128.size a) ∧
  (∀ a, (k0_off227 v2427) a + S64x128.size a ≤ S4096x128.size a)
theorem k0_off221_inb : ∀ (v2427 : BitVec 32) (k0_hw121 : k0_chk121 v2427), ∀ a, (k0_off221 v2427) a + S64x128.size a ≤ S4096x128.size a := fun v2427 k0_hw121 => k0_hw121.1
theorem k0_off227_inb : ∀ (v2427 : BitVec 32) (k0_hw121 : k0_chk121 v2427), ∀ a, (k0_off227 v2427) a + S64x128.size a ≤ S4096x128.size a := fun v2427 k0_hw121 => k0_hw121.2

def k0_off228 (v2433 : BitVec 32) : Fin 2 → Nat :=
  let c63_i32_1608 : BitVec 32 := 63#32
  let c0_i32_1607 : BitVec 32 := 0#32
  let v2434 : BitVec 32 := Scalar.maxsi c0_i32_1607 v2433
  let v2435 : BitVec 32 := Scalar.minsi c63_i32_1608 v2434
  let c64_i32_1612 : BitVec 32 := 64#32
  let v2438 : BitVec 32 := Scalar.muli v2435 c64_i32_1612
  let v2519 : Index := Scalar.indexCast v2438
  let c0_1664 : Index := 0#32
  ![v2519.toNat, 0]

def k0_chk122 (v2433 : BitVec 32) : Prop :=
  (∀ a, (k0_off222 v2433) a + S64x128.size a ≤ S4096x128.size a) ∧
  (∀ a, (k0_off228 v2433) a + S64x128.size a ≤ S4096x128.size a)
theorem k0_off222_inb : ∀ (v2433 : BitVec 32) (k0_hw122 : k0_chk122 v2433), ∀ a, (k0_off222 v2433) a + S64x128.size a ≤ S4096x128.size a := fun v2433 k0_hw122 => k0_hw122.1
theorem k0_off228_inb : ∀ (v2433 : BitVec 32) (k0_hw122 : k0_chk122 v2433), ∀ a, (k0_off228 v2433) a + S64x128.size a ≤ S4096x128.size a := fun v2433 k0_hw122 => k0_hw122.2

def k0_off229 (v2439 : BitVec 32) : Fin 2 → Nat :=
  let c63_i32_1616 : BitVec 32 := 63#32
  let c0_i32_1615 : BitVec 32 := 0#32
  let v2440 : BitVec 32 := Scalar.maxsi c0_i32_1615 v2439
  let v2441 : BitVec 32 := Scalar.minsi c63_i32_1616 v2440
  let c64_i32_1620 : BitVec 32 := 64#32
  let v2444 : BitVec 32 := Scalar.muli v2441 c64_i32_1620
  let v2525 : Index := Scalar.indexCast v2444
  let c0_1666 : Index := 0#32
  ![v2525.toNat, 0]

def k0_chk123 (v2439 : BitVec 32) : Prop :=
  (∀ a, (k0_off223 v2439) a + S64x128.size a ≤ S4096x128.size a) ∧
  (∀ a, (k0_off229 v2439) a + S64x128.size a ≤ S4096x128.size a)
theorem k0_off223_inb : ∀ (v2439 : BitVec 32) (k0_hw123 : k0_chk123 v2439), ∀ a, (k0_off223 v2439) a + S64x128.size a ≤ S4096x128.size a := fun v2439 k0_hw123 => k0_hw123.1
theorem k0_off229_inb : ∀ (v2439 : BitVec 32) (k0_hw123 : k0_chk123 v2439), ∀ a, (k0_off229 v2439) a + S64x128.size a ≤ S4096x128.size a := fun v2439 k0_hw123 => k0_hw123.2

def k0_off230 (v2445 : BitVec 32) : Fin 2 → Nat :=
  let c63_i32_1624 : BitVec 32 := 63#32
  let c0_i32_1623 : BitVec 32 := 0#32
  let v2446 : BitVec 32 := Scalar.maxsi c0_i32_1623 v2445
  let v2447 : BitVec 32 := Scalar.minsi c63_i32_1624 v2446
  let c64_i32_1628 : BitVec 32 := 64#32
  let v2450 : BitVec 32 := Scalar.muli v2447 c64_i32_1628
  let v2527 : Index := Scalar.indexCast v2450
  let c0_1667 : Index := 0#32
  ![v2527.toNat, 0]

def k0_chk124 (v2445 : BitVec 32) : Prop :=
  (∀ a, (k0_off224 v2445) a + S64x128.size a ≤ S4096x128.size a) ∧
  (∀ a, (k0_off230 v2445) a + S64x128.size a ≤ S4096x128.size a)
theorem k0_off224_inb : ∀ (v2445 : BitVec 32) (k0_hw124 : k0_chk124 v2445), ∀ a, (k0_off224 v2445) a + S64x128.size a ≤ S4096x128.size a := fun v2445 k0_hw124 => k0_hw124.1
theorem k0_off230_inb : ∀ (v2445 : BitVec 32) (k0_hw124 : k0_chk124 v2445), ∀ a, (k0_off230 v2445) a + S64x128.size a ≤ S4096x128.size a := fun v2445 k0_hw124 => k0_hw124.2

def k0_off231 (v2451 : BitVec 32) : Fin 2 → Nat :=
  let c63_i32_1632 : BitVec 32 := 63#32
  let c0_i32_1631 : BitVec 32 := 0#32
  let v2452 : BitVec 32 := Scalar.maxsi c0_i32_1631 v2451
  let v2453 : BitVec 32 := Scalar.minsi c63_i32_1632 v2452
  let c64_i32_1636 : BitVec 32 := 64#32
  let v2456 : BitVec 32 := Scalar.muli v2453 c64_i32_1636
  let v2533 : Index := Scalar.indexCast v2456
  let c0_1669 : Index := 0#32
  ![v2533.toNat, 0]

def k0_chk125 (v2451 : BitVec 32) : Prop :=
  (∀ a, (k0_off225 v2451) a + S64x128.size a ≤ S4096x128.size a) ∧
  (∀ a, (k0_off231 v2451) a + S64x128.size a ≤ S4096x128.size a)
theorem k0_off225_inb : ∀ (v2451 : BitVec 32) (k0_hw125 : k0_chk125 v2451), ∀ a, (k0_off225 v2451) a + S64x128.size a ≤ S4096x128.size a := fun v2451 k0_hw125 => k0_hw125.1
theorem k0_off231_inb : ∀ (v2451 : BitVec 32) (k0_hw125 : k0_chk125 v2451), ∀ a, (k0_off231 v2451) a + S64x128.size a ≤ S4096x128.size a := fun v2451 k0_hw125 => k0_hw125.2

def k0_off232 (v2546 : BitVec 32) : Fin 2 → Nat :=
  let c63_i32_1678 : BitVec 32 := 63#32
  let c0_i32_1677 : BitVec 32 := 0#32
  let v2547 : BitVec 32 := Scalar.maxsi c0_i32_1677 v2546
  let v2548 : BitVec 32 := Scalar.minsi c63_i32_1678 v2547
  let c64_i32_1682 : BitVec 32 := 64#32
  let v2551 : BitVec 32 := Scalar.muli v2548 c64_i32_1682
  let v2583 : Index := Scalar.indexCast v2551
  let c0_1724 : Index := 0#32
  ![v2583.toNat, 0]

def k0_off233 (v2552 : BitVec 32) : Fin 2 → Nat :=
  let c63_i32_1686 : BitVec 32 := 63#32
  let c0_i32_1685 : BitVec 32 := 0#32
  let v2553 : BitVec 32 := Scalar.maxsi c0_i32_1685 v2552
  let v2554 : BitVec 32 := Scalar.minsi c63_i32_1686 v2553
  let c64_i32_1690 : BitVec 32 := 64#32
  let v2557 : BitVec 32 := Scalar.muli v2554 c64_i32_1690
  let v2585 : Index := Scalar.indexCast v2557
  let c0_1725 : Index := 0#32
  ![v2585.toNat, 0]

def k0_off234 (v2558 : BitVec 32) : Fin 2 → Nat :=
  let c63_i32_1694 : BitVec 32 := 63#32
  let c0_i32_1693 : BitVec 32 := 0#32
  let v2559 : BitVec 32 := Scalar.maxsi c0_i32_1693 v2558
  let v2560 : BitVec 32 := Scalar.minsi c63_i32_1694 v2559
  let c64_i32_1698 : BitVec 32 := 64#32
  let v2563 : BitVec 32 := Scalar.muli v2560 c64_i32_1698
  let v2595 : Index := Scalar.indexCast v2563
  let c0_1727 : Index := 0#32
  ![v2595.toNat, 0]

def k0_off235 (v2564 : BitVec 32) : Fin 2 → Nat :=
  let c63_i32_1702 : BitVec 32 := 63#32
  let c0_i32_1701 : BitVec 32 := 0#32
  let v2565 : BitVec 32 := Scalar.maxsi c0_i32_1701 v2564
  let v2566 : BitVec 32 := Scalar.minsi c63_i32_1702 v2565
  let c64_i32_1706 : BitVec 32 := 64#32
  let v2569 : BitVec 32 := Scalar.muli v2566 c64_i32_1706
  let v2597 : Index := Scalar.indexCast v2569
  let c0_1728 : Index := 0#32
  ![v2597.toNat, 0]

def k0_off236 (v2570 : BitVec 32) : Fin 2 → Nat :=
  let c63_i32_1710 : BitVec 32 := 63#32
  let c0_i32_1709 : BitVec 32 := 0#32
  let v2571 : BitVec 32 := Scalar.maxsi c0_i32_1709 v2570
  let v2572 : BitVec 32 := Scalar.minsi c63_i32_1710 v2571
  let c64_i32_1714 : BitVec 32 := 64#32
  let v2575 : BitVec 32 := Scalar.muli v2572 c64_i32_1714
  let v2607 : Index := Scalar.indexCast v2575
  let c0_1730 : Index := 0#32
  ![v2607.toNat, 0]

def k0_off237 (v2576 : BitVec 32) : Fin 2 → Nat :=
  let c63_i32_1718 : BitVec 32 := 63#32
  let c0_i32_1717 : BitVec 32 := 0#32
  let v2577 : BitVec 32 := Scalar.maxsi c0_i32_1717 v2576
  let v2578 : BitVec 32 := Scalar.minsi c63_i32_1718 v2577
  let c64_i32_1722 : BitVec 32 := 64#32
  let v2581 : BitVec 32 := Scalar.muli v2578 c64_i32_1722
  let v2609 : Index := Scalar.indexCast v2581
  let c0_1731 : Index := 0#32
  ![v2609.toNat, 0]

def k0_chk132 (v2576 : BitVec 32) : Prop :=
  (∀ a, (k0_off237 v2576) a + S64x128.size a ≤ S4096x128.size a)
theorem k0_off237_inb : ∀ (v2576 : BitVec 32) (k0_hw132 : k0_chk132 v2576), ∀ a, (k0_off237 v2576) a + S64x128.size a ≤ S4096x128.size a := fun v2576 k0_hw132 => k0_hw132

def k0_off238 (v2546 : BitVec 32) : Fin 2 → Nat :=
  let c63_i32_1678 : BitVec 32 := 63#32
  let c0_i32_1677 : BitVec 32 := 0#32
  let v2547 : BitVec 32 := Scalar.maxsi c0_i32_1677 v2546
  let v2548 : BitVec 32 := Scalar.minsi c63_i32_1678 v2547
  let c64_i32_1682 : BitVec 32 := 64#32
  let v2551 : BitVec 32 := Scalar.muli v2548 c64_i32_1682
  let v2636 : Index := Scalar.indexCast v2551
  let c0_1741 : Index := 0#32
  ![v2636.toNat, 0]

def k0_chk127 (v2546 : BitVec 32) : Prop :=
  (∀ a, (k0_off232 v2546) a + S64x128.size a ≤ S4096x128.size a) ∧
  (∀ a, (k0_off238 v2546) a + S64x128.size a ≤ S4096x128.size a)
theorem k0_off232_inb : ∀ (v2546 : BitVec 32) (k0_hw127 : k0_chk127 v2546), ∀ a, (k0_off232 v2546) a + S64x128.size a ≤ S4096x128.size a := fun v2546 k0_hw127 => k0_hw127.1
theorem k0_off238_inb : ∀ (v2546 : BitVec 32) (k0_hw127 : k0_chk127 v2546), ∀ a, (k0_off238 v2546) a + S64x128.size a ≤ S4096x128.size a := fun v2546 k0_hw127 => k0_hw127.2

def k0_off239 (v2552 : BitVec 32) : Fin 2 → Nat :=
  let c63_i32_1686 : BitVec 32 := 63#32
  let c0_i32_1685 : BitVec 32 := 0#32
  let v2553 : BitVec 32 := Scalar.maxsi c0_i32_1685 v2552
  let v2554 : BitVec 32 := Scalar.minsi c63_i32_1686 v2553
  let c64_i32_1690 : BitVec 32 := 64#32
  let v2557 : BitVec 32 := Scalar.muli v2554 c64_i32_1690
  let v2638 : Index := Scalar.indexCast v2557
  let c0_1742 : Index := 0#32
  ![v2638.toNat, 0]

def k0_chk128 (v2552 : BitVec 32) : Prop :=
  (∀ a, (k0_off233 v2552) a + S64x128.size a ≤ S4096x128.size a) ∧
  (∀ a, (k0_off239 v2552) a + S64x128.size a ≤ S4096x128.size a)
theorem k0_off233_inb : ∀ (v2552 : BitVec 32) (k0_hw128 : k0_chk128 v2552), ∀ a, (k0_off233 v2552) a + S64x128.size a ≤ S4096x128.size a := fun v2552 k0_hw128 => k0_hw128.1
theorem k0_off239_inb : ∀ (v2552 : BitVec 32) (k0_hw128 : k0_chk128 v2552), ∀ a, (k0_off239 v2552) a + S64x128.size a ≤ S4096x128.size a := fun v2552 k0_hw128 => k0_hw128.2

def k0_off240 (v2558 : BitVec 32) : Fin 2 → Nat :=
  let c63_i32_1694 : BitVec 32 := 63#32
  let c0_i32_1693 : BitVec 32 := 0#32
  let v2559 : BitVec 32 := Scalar.maxsi c0_i32_1693 v2558
  let v2560 : BitVec 32 := Scalar.minsi c63_i32_1694 v2559
  let c64_i32_1698 : BitVec 32 := 64#32
  let v2563 : BitVec 32 := Scalar.muli v2560 c64_i32_1698
  let v2644 : Index := Scalar.indexCast v2563
  let c0_1744 : Index := 0#32
  ![v2644.toNat, 0]

def k0_chk129 (v2558 : BitVec 32) : Prop :=
  (∀ a, (k0_off234 v2558) a + S64x128.size a ≤ S4096x128.size a) ∧
  (∀ a, (k0_off240 v2558) a + S64x128.size a ≤ S4096x128.size a)
theorem k0_off234_inb : ∀ (v2558 : BitVec 32) (k0_hw129 : k0_chk129 v2558), ∀ a, (k0_off234 v2558) a + S64x128.size a ≤ S4096x128.size a := fun v2558 k0_hw129 => k0_hw129.1
theorem k0_off240_inb : ∀ (v2558 : BitVec 32) (k0_hw129 : k0_chk129 v2558), ∀ a, (k0_off240 v2558) a + S64x128.size a ≤ S4096x128.size a := fun v2558 k0_hw129 => k0_hw129.2

def k0_off241 (v2564 : BitVec 32) : Fin 2 → Nat :=
  let c63_i32_1702 : BitVec 32 := 63#32
  let c0_i32_1701 : BitVec 32 := 0#32
  let v2565 : BitVec 32 := Scalar.maxsi c0_i32_1701 v2564
  let v2566 : BitVec 32 := Scalar.minsi c63_i32_1702 v2565
  let c64_i32_1706 : BitVec 32 := 64#32
  let v2569 : BitVec 32 := Scalar.muli v2566 c64_i32_1706
  let v2646 : Index := Scalar.indexCast v2569
  let c0_1745 : Index := 0#32
  ![v2646.toNat, 0]

def k0_chk130 (v2564 : BitVec 32) : Prop :=
  (∀ a, (k0_off235 v2564) a + S64x128.size a ≤ S4096x128.size a) ∧
  (∀ a, (k0_off241 v2564) a + S64x128.size a ≤ S4096x128.size a)
theorem k0_off235_inb : ∀ (v2564 : BitVec 32) (k0_hw130 : k0_chk130 v2564), ∀ a, (k0_off235 v2564) a + S64x128.size a ≤ S4096x128.size a := fun v2564 k0_hw130 => k0_hw130.1
theorem k0_off241_inb : ∀ (v2564 : BitVec 32) (k0_hw130 : k0_chk130 v2564), ∀ a, (k0_off241 v2564) a + S64x128.size a ≤ S4096x128.size a := fun v2564 k0_hw130 => k0_hw130.2

def k0_off242 (v2570 : BitVec 32) : Fin 2 → Nat :=
  let c63_i32_1710 : BitVec 32 := 63#32
  let c0_i32_1709 : BitVec 32 := 0#32
  let v2571 : BitVec 32 := Scalar.maxsi c0_i32_1709 v2570
  let v2572 : BitVec 32 := Scalar.minsi c63_i32_1710 v2571
  let c64_i32_1714 : BitVec 32 := 64#32
  let v2575 : BitVec 32 := Scalar.muli v2572 c64_i32_1714
  let v2652 : Index := Scalar.indexCast v2575
  let c0_1747 : Index := 0#32
  ![v2652.toNat, 0]

def k0_chk131 (v2570 : BitVec 32) : Prop :=
  (∀ a, (k0_off236 v2570) a + S64x128.size a ≤ S4096x128.size a) ∧
  (∀ a, (k0_off242 v2570) a + S64x128.size a ≤ S4096x128.size a)
theorem k0_off236_inb : ∀ (v2570 : BitVec 32) (k0_hw131 : k0_chk131 v2570), ∀ a, (k0_off236 v2570) a + S64x128.size a ≤ S4096x128.size a := fun v2570 k0_hw131 => k0_hw131.1
theorem k0_off242_inb : ∀ (v2570 : BitVec 32) (k0_hw131 : k0_chk131 v2570), ∀ a, (k0_off242 v2570) a + S64x128.size a ≤ S4096x128.size a := fun v2570 k0_hw131 => k0_hw131.2

def k0_off243 (v2665 : BitVec 32) : Fin 2 → Nat :=
  let c63_i32_1756 : BitVec 32 := 63#32
  let c0_i32_1755 : BitVec 32 := 0#32
  let v2666 : BitVec 32 := Scalar.maxsi c0_i32_1755 v2665
  let v2667 : BitVec 32 := Scalar.minsi c63_i32_1756 v2666
  let c64_i32_1760 : BitVec 32 := 64#32
  let v2670 : BitVec 32 := Scalar.muli v2667 c64_i32_1760
  let v2702 : Index := Scalar.indexCast v2670
  let c0_1802 : Index := 0#32
  ![v2702.toNat, 0]

def k0_off244 (v2671 : BitVec 32) : Fin 2 → Nat :=
  let c63_i32_1764 : BitVec 32 := 63#32
  let c0_i32_1763 : BitVec 32 := 0#32
  let v2672 : BitVec 32 := Scalar.maxsi c0_i32_1763 v2671
  let v2673 : BitVec 32 := Scalar.minsi c63_i32_1764 v2672
  let c64_i32_1768 : BitVec 32 := 64#32
  let v2676 : BitVec 32 := Scalar.muli v2673 c64_i32_1768
  let v2704 : Index := Scalar.indexCast v2676
  let c0_1803 : Index := 0#32
  ![v2704.toNat, 0]

def k0_off245 (v2677 : BitVec 32) : Fin 2 → Nat :=
  let c63_i32_1772 : BitVec 32 := 63#32
  let c0_i32_1771 : BitVec 32 := 0#32
  let v2678 : BitVec 32 := Scalar.maxsi c0_i32_1771 v2677
  let v2679 : BitVec 32 := Scalar.minsi c63_i32_1772 v2678
  let c64_i32_1776 : BitVec 32 := 64#32
  let v2682 : BitVec 32 := Scalar.muli v2679 c64_i32_1776
  let v2714 : Index := Scalar.indexCast v2682
  let c0_1805 : Index := 0#32
  ![v2714.toNat, 0]

def k0_off246 (v2683 : BitVec 32) : Fin 2 → Nat :=
  let c63_i32_1780 : BitVec 32 := 63#32
  let c0_i32_1779 : BitVec 32 := 0#32
  let v2684 : BitVec 32 := Scalar.maxsi c0_i32_1779 v2683
  let v2685 : BitVec 32 := Scalar.minsi c63_i32_1780 v2684
  let c64_i32_1784 : BitVec 32 := 64#32
  let v2688 : BitVec 32 := Scalar.muli v2685 c64_i32_1784
  let v2716 : Index := Scalar.indexCast v2688
  let c0_1806 : Index := 0#32
  ![v2716.toNat, 0]

def k0_off247 (v2689 : BitVec 32) : Fin 2 → Nat :=
  let c63_i32_1788 : BitVec 32 := 63#32
  let c0_i32_1787 : BitVec 32 := 0#32
  let v2690 : BitVec 32 := Scalar.maxsi c0_i32_1787 v2689
  let v2691 : BitVec 32 := Scalar.minsi c63_i32_1788 v2690
  let c64_i32_1792 : BitVec 32 := 64#32
  let v2694 : BitVec 32 := Scalar.muli v2691 c64_i32_1792
  let v2726 : Index := Scalar.indexCast v2694
  let c0_1808 : Index := 0#32
  ![v2726.toNat, 0]

def k0_off248 (v2695 : BitVec 32) : Fin 2 → Nat :=
  let c63_i32_1796 : BitVec 32 := 63#32
  let c0_i32_1795 : BitVec 32 := 0#32
  let v2696 : BitVec 32 := Scalar.maxsi c0_i32_1795 v2695
  let v2697 : BitVec 32 := Scalar.minsi c63_i32_1796 v2696
  let c64_i32_1800 : BitVec 32 := 64#32
  let v2700 : BitVec 32 := Scalar.muli v2697 c64_i32_1800
  let v2728 : Index := Scalar.indexCast v2700
  let c0_1809 : Index := 0#32
  ![v2728.toNat, 0]

def k0_chk138 (v2695 : BitVec 32) : Prop :=
  (∀ a, (k0_off248 v2695) a + S64x128.size a ≤ S4096x128.size a)
theorem k0_off248_inb : ∀ (v2695 : BitVec 32) (k0_hw138 : k0_chk138 v2695), ∀ a, (k0_off248 v2695) a + S64x128.size a ≤ S4096x128.size a := fun v2695 k0_hw138 => k0_hw138

def k0_off249 (v2665 : BitVec 32) : Fin 2 → Nat :=
  let c63_i32_1756 : BitVec 32 := 63#32
  let c0_i32_1755 : BitVec 32 := 0#32
  let v2666 : BitVec 32 := Scalar.maxsi c0_i32_1755 v2665
  let v2667 : BitVec 32 := Scalar.minsi c63_i32_1756 v2666
  let c64_i32_1760 : BitVec 32 := 64#32
  let v2670 : BitVec 32 := Scalar.muli v2667 c64_i32_1760
  let v2755 : Index := Scalar.indexCast v2670
  let c0_1819 : Index := 0#32
  ![v2755.toNat, 0]

def k0_chk133 (v2665 : BitVec 32) : Prop :=
  (∀ a, (k0_off243 v2665) a + S64x128.size a ≤ S4096x128.size a) ∧
  (∀ a, (k0_off249 v2665) a + S64x128.size a ≤ S4096x128.size a)
theorem k0_off243_inb : ∀ (v2665 : BitVec 32) (k0_hw133 : k0_chk133 v2665), ∀ a, (k0_off243 v2665) a + S64x128.size a ≤ S4096x128.size a := fun v2665 k0_hw133 => k0_hw133.1
theorem k0_off249_inb : ∀ (v2665 : BitVec 32) (k0_hw133 : k0_chk133 v2665), ∀ a, (k0_off249 v2665) a + S64x128.size a ≤ S4096x128.size a := fun v2665 k0_hw133 => k0_hw133.2

def k0_off250 (v2671 : BitVec 32) : Fin 2 → Nat :=
  let c63_i32_1764 : BitVec 32 := 63#32
  let c0_i32_1763 : BitVec 32 := 0#32
  let v2672 : BitVec 32 := Scalar.maxsi c0_i32_1763 v2671
  let v2673 : BitVec 32 := Scalar.minsi c63_i32_1764 v2672
  let c64_i32_1768 : BitVec 32 := 64#32
  let v2676 : BitVec 32 := Scalar.muli v2673 c64_i32_1768
  let v2757 : Index := Scalar.indexCast v2676
  let c0_1820 : Index := 0#32
  ![v2757.toNat, 0]

def k0_chk134 (v2671 : BitVec 32) : Prop :=
  (∀ a, (k0_off244 v2671) a + S64x128.size a ≤ S4096x128.size a) ∧
  (∀ a, (k0_off250 v2671) a + S64x128.size a ≤ S4096x128.size a)
theorem k0_off244_inb : ∀ (v2671 : BitVec 32) (k0_hw134 : k0_chk134 v2671), ∀ a, (k0_off244 v2671) a + S64x128.size a ≤ S4096x128.size a := fun v2671 k0_hw134 => k0_hw134.1
theorem k0_off250_inb : ∀ (v2671 : BitVec 32) (k0_hw134 : k0_chk134 v2671), ∀ a, (k0_off250 v2671) a + S64x128.size a ≤ S4096x128.size a := fun v2671 k0_hw134 => k0_hw134.2

def k0_off251 (v2677 : BitVec 32) : Fin 2 → Nat :=
  let c63_i32_1772 : BitVec 32 := 63#32
  let c0_i32_1771 : BitVec 32 := 0#32
  let v2678 : BitVec 32 := Scalar.maxsi c0_i32_1771 v2677
  let v2679 : BitVec 32 := Scalar.minsi c63_i32_1772 v2678
  let c64_i32_1776 : BitVec 32 := 64#32
  let v2682 : BitVec 32 := Scalar.muli v2679 c64_i32_1776
  let v2763 : Index := Scalar.indexCast v2682
  let c0_1822 : Index := 0#32
  ![v2763.toNat, 0]

def k0_chk135 (v2677 : BitVec 32) : Prop :=
  (∀ a, (k0_off245 v2677) a + S64x128.size a ≤ S4096x128.size a) ∧
  (∀ a, (k0_off251 v2677) a + S64x128.size a ≤ S4096x128.size a)
theorem k0_off245_inb : ∀ (v2677 : BitVec 32) (k0_hw135 : k0_chk135 v2677), ∀ a, (k0_off245 v2677) a + S64x128.size a ≤ S4096x128.size a := fun v2677 k0_hw135 => k0_hw135.1
theorem k0_off251_inb : ∀ (v2677 : BitVec 32) (k0_hw135 : k0_chk135 v2677), ∀ a, (k0_off251 v2677) a + S64x128.size a ≤ S4096x128.size a := fun v2677 k0_hw135 => k0_hw135.2

def k0_off252 (v2683 : BitVec 32) : Fin 2 → Nat :=
  let c63_i32_1780 : BitVec 32 := 63#32
  let c0_i32_1779 : BitVec 32 := 0#32
  let v2684 : BitVec 32 := Scalar.maxsi c0_i32_1779 v2683
  let v2685 : BitVec 32 := Scalar.minsi c63_i32_1780 v2684
  let c64_i32_1784 : BitVec 32 := 64#32
  let v2688 : BitVec 32 := Scalar.muli v2685 c64_i32_1784
  let v2765 : Index := Scalar.indexCast v2688
  let c0_1823 : Index := 0#32
  ![v2765.toNat, 0]

def k0_chk136 (v2683 : BitVec 32) : Prop :=
  (∀ a, (k0_off246 v2683) a + S64x128.size a ≤ S4096x128.size a) ∧
  (∀ a, (k0_off252 v2683) a + S64x128.size a ≤ S4096x128.size a)
theorem k0_off246_inb : ∀ (v2683 : BitVec 32) (k0_hw136 : k0_chk136 v2683), ∀ a, (k0_off246 v2683) a + S64x128.size a ≤ S4096x128.size a := fun v2683 k0_hw136 => k0_hw136.1
theorem k0_off252_inb : ∀ (v2683 : BitVec 32) (k0_hw136 : k0_chk136 v2683), ∀ a, (k0_off252 v2683) a + S64x128.size a ≤ S4096x128.size a := fun v2683 k0_hw136 => k0_hw136.2

def k0_off253 (v2689 : BitVec 32) : Fin 2 → Nat :=
  let c63_i32_1788 : BitVec 32 := 63#32
  let c0_i32_1787 : BitVec 32 := 0#32
  let v2690 : BitVec 32 := Scalar.maxsi c0_i32_1787 v2689
  let v2691 : BitVec 32 := Scalar.minsi c63_i32_1788 v2690
  let c64_i32_1792 : BitVec 32 := 64#32
  let v2694 : BitVec 32 := Scalar.muli v2691 c64_i32_1792
  let v2771 : Index := Scalar.indexCast v2694
  let c0_1825 : Index := 0#32
  ![v2771.toNat, 0]

def k0_chk137 (v2689 : BitVec 32) : Prop :=
  (∀ a, (k0_off247 v2689) a + S64x128.size a ≤ S4096x128.size a) ∧
  (∀ a, (k0_off253 v2689) a + S64x128.size a ≤ S4096x128.size a)
theorem k0_off247_inb : ∀ (v2689 : BitVec 32) (k0_hw137 : k0_chk137 v2689), ∀ a, (k0_off247 v2689) a + S64x128.size a ≤ S4096x128.size a := fun v2689 k0_hw137 => k0_hw137.1
theorem k0_off253_inb : ∀ (v2689 : BitVec 32) (k0_hw137 : k0_chk137 v2689), ∀ a, (k0_off253 v2689) a + S64x128.size a ≤ S4096x128.size a := fun v2689 k0_hw137 => k0_hw137.2

def k0_off254 (v2784 : BitVec 32) : Fin 2 → Nat :=
  let c63_i32_1834 : BitVec 32 := 63#32
  let c0_i32_1833 : BitVec 32 := 0#32
  let v2785 : BitVec 32 := Scalar.maxsi c0_i32_1833 v2784
  let v2786 : BitVec 32 := Scalar.minsi c63_i32_1834 v2785
  let c64_i32_1838 : BitVec 32 := 64#32
  let v2789 : BitVec 32 := Scalar.muli v2786 c64_i32_1838
  let v2821 : Index := Scalar.indexCast v2789
  let c0_1880 : Index := 0#32
  ![v2821.toNat, 0]

def k0_off255 (v2790 : BitVec 32) : Fin 2 → Nat :=
  let c63_i32_1842 : BitVec 32 := 63#32
  let c0_i32_1841 : BitVec 32 := 0#32
  let v2791 : BitVec 32 := Scalar.maxsi c0_i32_1841 v2790
  let v2792 : BitVec 32 := Scalar.minsi c63_i32_1842 v2791
  let c64_i32_1846 : BitVec 32 := 64#32
  let v2795 : BitVec 32 := Scalar.muli v2792 c64_i32_1846
  let v2823 : Index := Scalar.indexCast v2795
  let c0_1881 : Index := 0#32
  ![v2823.toNat, 0]

def k0_off256 (v2796 : BitVec 32) : Fin 2 → Nat :=
  let c63_i32_1850 : BitVec 32 := 63#32
  let c0_i32_1849 : BitVec 32 := 0#32
  let v2797 : BitVec 32 := Scalar.maxsi c0_i32_1849 v2796
  let v2798 : BitVec 32 := Scalar.minsi c63_i32_1850 v2797
  let c64_i32_1854 : BitVec 32 := 64#32
  let v2801 : BitVec 32 := Scalar.muli v2798 c64_i32_1854
  let v2833 : Index := Scalar.indexCast v2801
  let c0_1883 : Index := 0#32
  ![v2833.toNat, 0]

def k0_off257 (v2802 : BitVec 32) : Fin 2 → Nat :=
  let c63_i32_1858 : BitVec 32 := 63#32
  let c0_i32_1857 : BitVec 32 := 0#32
  let v2803 : BitVec 32 := Scalar.maxsi c0_i32_1857 v2802
  let v2804 : BitVec 32 := Scalar.minsi c63_i32_1858 v2803
  let c64_i32_1862 : BitVec 32 := 64#32
  let v2807 : BitVec 32 := Scalar.muli v2804 c64_i32_1862
  let v2835 : Index := Scalar.indexCast v2807
  let c0_1884 : Index := 0#32
  ![v2835.toNat, 0]

def k0_off258 (v2808 : BitVec 32) : Fin 2 → Nat :=
  let c63_i32_1866 : BitVec 32 := 63#32
  let c0_i32_1865 : BitVec 32 := 0#32
  let v2809 : BitVec 32 := Scalar.maxsi c0_i32_1865 v2808
  let v2810 : BitVec 32 := Scalar.minsi c63_i32_1866 v2809
  let c64_i32_1870 : BitVec 32 := 64#32
  let v2813 : BitVec 32 := Scalar.muli v2810 c64_i32_1870
  let v2845 : Index := Scalar.indexCast v2813
  let c0_1886 : Index := 0#32
  ![v2845.toNat, 0]

def k0_off259 (v2814 : BitVec 32) : Fin 2 → Nat :=
  let c63_i32_1874 : BitVec 32 := 63#32
  let c0_i32_1873 : BitVec 32 := 0#32
  let v2815 : BitVec 32 := Scalar.maxsi c0_i32_1873 v2814
  let v2816 : BitVec 32 := Scalar.minsi c63_i32_1874 v2815
  let c64_i32_1878 : BitVec 32 := 64#32
  let v2819 : BitVec 32 := Scalar.muli v2816 c64_i32_1878
  let v2847 : Index := Scalar.indexCast v2819
  let c0_1887 : Index := 0#32
  ![v2847.toNat, 0]

def k0_chk144 (v2814 : BitVec 32) : Prop :=
  (∀ a, (k0_off259 v2814) a + S64x128.size a ≤ S4096x128.size a)
theorem k0_off259_inb : ∀ (v2814 : BitVec 32) (k0_hw144 : k0_chk144 v2814), ∀ a, (k0_off259 v2814) a + S64x128.size a ≤ S4096x128.size a := fun v2814 k0_hw144 => k0_hw144

def k0_off260 (v2784 : BitVec 32) : Fin 2 → Nat :=
  let c63_i32_1834 : BitVec 32 := 63#32
  let c0_i32_1833 : BitVec 32 := 0#32
  let v2785 : BitVec 32 := Scalar.maxsi c0_i32_1833 v2784
  let v2786 : BitVec 32 := Scalar.minsi c63_i32_1834 v2785
  let c64_i32_1838 : BitVec 32 := 64#32
  let v2789 : BitVec 32 := Scalar.muli v2786 c64_i32_1838
  let v2874 : Index := Scalar.indexCast v2789
  let c0_1897 : Index := 0#32
  ![v2874.toNat, 0]

def k0_chk139 (v2784 : BitVec 32) : Prop :=
  (∀ a, (k0_off254 v2784) a + S64x128.size a ≤ S4096x128.size a) ∧
  (∀ a, (k0_off260 v2784) a + S64x128.size a ≤ S4096x128.size a)
theorem k0_off254_inb : ∀ (v2784 : BitVec 32) (k0_hw139 : k0_chk139 v2784), ∀ a, (k0_off254 v2784) a + S64x128.size a ≤ S4096x128.size a := fun v2784 k0_hw139 => k0_hw139.1
theorem k0_off260_inb : ∀ (v2784 : BitVec 32) (k0_hw139 : k0_chk139 v2784), ∀ a, (k0_off260 v2784) a + S64x128.size a ≤ S4096x128.size a := fun v2784 k0_hw139 => k0_hw139.2

def k0_off261 (v2790 : BitVec 32) : Fin 2 → Nat :=
  let c63_i32_1842 : BitVec 32 := 63#32
  let c0_i32_1841 : BitVec 32 := 0#32
  let v2791 : BitVec 32 := Scalar.maxsi c0_i32_1841 v2790
  let v2792 : BitVec 32 := Scalar.minsi c63_i32_1842 v2791
  let c64_i32_1846 : BitVec 32 := 64#32
  let v2795 : BitVec 32 := Scalar.muli v2792 c64_i32_1846
  let v2876 : Index := Scalar.indexCast v2795
  let c0_1898 : Index := 0#32
  ![v2876.toNat, 0]

def k0_chk140 (v2790 : BitVec 32) : Prop :=
  (∀ a, (k0_off255 v2790) a + S64x128.size a ≤ S4096x128.size a) ∧
  (∀ a, (k0_off261 v2790) a + S64x128.size a ≤ S4096x128.size a)
theorem k0_off255_inb : ∀ (v2790 : BitVec 32) (k0_hw140 : k0_chk140 v2790), ∀ a, (k0_off255 v2790) a + S64x128.size a ≤ S4096x128.size a := fun v2790 k0_hw140 => k0_hw140.1
theorem k0_off261_inb : ∀ (v2790 : BitVec 32) (k0_hw140 : k0_chk140 v2790), ∀ a, (k0_off261 v2790) a + S64x128.size a ≤ S4096x128.size a := fun v2790 k0_hw140 => k0_hw140.2

def k0_off262 (v2796 : BitVec 32) : Fin 2 → Nat :=
  let c63_i32_1850 : BitVec 32 := 63#32
  let c0_i32_1849 : BitVec 32 := 0#32
  let v2797 : BitVec 32 := Scalar.maxsi c0_i32_1849 v2796
  let v2798 : BitVec 32 := Scalar.minsi c63_i32_1850 v2797
  let c64_i32_1854 : BitVec 32 := 64#32
  let v2801 : BitVec 32 := Scalar.muli v2798 c64_i32_1854
  let v2882 : Index := Scalar.indexCast v2801
  let c0_1900 : Index := 0#32
  ![v2882.toNat, 0]

def k0_chk141 (v2796 : BitVec 32) : Prop :=
  (∀ a, (k0_off256 v2796) a + S64x128.size a ≤ S4096x128.size a) ∧
  (∀ a, (k0_off262 v2796) a + S64x128.size a ≤ S4096x128.size a)
theorem k0_off256_inb : ∀ (v2796 : BitVec 32) (k0_hw141 : k0_chk141 v2796), ∀ a, (k0_off256 v2796) a + S64x128.size a ≤ S4096x128.size a := fun v2796 k0_hw141 => k0_hw141.1
theorem k0_off262_inb : ∀ (v2796 : BitVec 32) (k0_hw141 : k0_chk141 v2796), ∀ a, (k0_off262 v2796) a + S64x128.size a ≤ S4096x128.size a := fun v2796 k0_hw141 => k0_hw141.2

def k0_off263 (v2802 : BitVec 32) : Fin 2 → Nat :=
  let c63_i32_1858 : BitVec 32 := 63#32
  let c0_i32_1857 : BitVec 32 := 0#32
  let v2803 : BitVec 32 := Scalar.maxsi c0_i32_1857 v2802
  let v2804 : BitVec 32 := Scalar.minsi c63_i32_1858 v2803
  let c64_i32_1862 : BitVec 32 := 64#32
  let v2807 : BitVec 32 := Scalar.muli v2804 c64_i32_1862
  let v2884 : Index := Scalar.indexCast v2807
  let c0_1901 : Index := 0#32
  ![v2884.toNat, 0]

def k0_chk142 (v2802 : BitVec 32) : Prop :=
  (∀ a, (k0_off257 v2802) a + S64x128.size a ≤ S4096x128.size a) ∧
  (∀ a, (k0_off263 v2802) a + S64x128.size a ≤ S4096x128.size a)
theorem k0_off257_inb : ∀ (v2802 : BitVec 32) (k0_hw142 : k0_chk142 v2802), ∀ a, (k0_off257 v2802) a + S64x128.size a ≤ S4096x128.size a := fun v2802 k0_hw142 => k0_hw142.1
theorem k0_off263_inb : ∀ (v2802 : BitVec 32) (k0_hw142 : k0_chk142 v2802), ∀ a, (k0_off263 v2802) a + S64x128.size a ≤ S4096x128.size a := fun v2802 k0_hw142 => k0_hw142.2

def k0_off264 (v2808 : BitVec 32) : Fin 2 → Nat :=
  let c63_i32_1866 : BitVec 32 := 63#32
  let c0_i32_1865 : BitVec 32 := 0#32
  let v2809 : BitVec 32 := Scalar.maxsi c0_i32_1865 v2808
  let v2810 : BitVec 32 := Scalar.minsi c63_i32_1866 v2809
  let c64_i32_1870 : BitVec 32 := 64#32
  let v2813 : BitVec 32 := Scalar.muli v2810 c64_i32_1870
  let v2890 : Index := Scalar.indexCast v2813
  let c0_1903 : Index := 0#32
  ![v2890.toNat, 0]

def k0_chk143 (v2808 : BitVec 32) : Prop :=
  (∀ a, (k0_off258 v2808) a + S64x128.size a ≤ S4096x128.size a) ∧
  (∀ a, (k0_off264 v2808) a + S64x128.size a ≤ S4096x128.size a)
theorem k0_off258_inb : ∀ (v2808 : BitVec 32) (k0_hw143 : k0_chk143 v2808), ∀ a, (k0_off258 v2808) a + S64x128.size a ≤ S4096x128.size a := fun v2808 k0_hw143 => k0_hw143.1
theorem k0_off264_inb : ∀ (v2808 : BitVec 32) (k0_hw143 : k0_chk143 v2808), ∀ a, (k0_off264 v2808) a + S64x128.size a ≤ S4096x128.size a := fun v2808 k0_hw143 => k0_hw143.2

def k0_off265 (v2903 : BitVec 32) : Fin 2 → Nat :=
  let c63_i32_1912 : BitVec 32 := 63#32
  let c0_i32_1911 : BitVec 32 := 0#32
  let v2904 : BitVec 32 := Scalar.maxsi c0_i32_1911 v2903
  let v2905 : BitVec 32 := Scalar.minsi c63_i32_1912 v2904
  let c64_i32_1916 : BitVec 32 := 64#32
  let v2908 : BitVec 32 := Scalar.muli v2905 c64_i32_1916
  let v2940 : Index := Scalar.indexCast v2908
  let c0_1958 : Index := 0#32
  ![v2940.toNat, 0]

def k0_off266 (v2909 : BitVec 32) : Fin 2 → Nat :=
  let c63_i32_1920 : BitVec 32 := 63#32
  let c0_i32_1919 : BitVec 32 := 0#32
  let v2910 : BitVec 32 := Scalar.maxsi c0_i32_1919 v2909
  let v2911 : BitVec 32 := Scalar.minsi c63_i32_1920 v2910
  let c64_i32_1924 : BitVec 32 := 64#32
  let v2914 : BitVec 32 := Scalar.muli v2911 c64_i32_1924
  let v2942 : Index := Scalar.indexCast v2914
  let c0_1959 : Index := 0#32
  ![v2942.toNat, 0]

def k0_off267 (v2915 : BitVec 32) : Fin 2 → Nat :=
  let c63_i32_1928 : BitVec 32 := 63#32
  let c0_i32_1927 : BitVec 32 := 0#32
  let v2916 : BitVec 32 := Scalar.maxsi c0_i32_1927 v2915
  let v2917 : BitVec 32 := Scalar.minsi c63_i32_1928 v2916
  let c64_i32_1932 : BitVec 32 := 64#32
  let v2920 : BitVec 32 := Scalar.muli v2917 c64_i32_1932
  let v2952 : Index := Scalar.indexCast v2920
  let c0_1961 : Index := 0#32
  ![v2952.toNat, 0]

def k0_off268 (v2921 : BitVec 32) : Fin 2 → Nat :=
  let c63_i32_1936 : BitVec 32 := 63#32
  let c0_i32_1935 : BitVec 32 := 0#32
  let v2922 : BitVec 32 := Scalar.maxsi c0_i32_1935 v2921
  let v2923 : BitVec 32 := Scalar.minsi c63_i32_1936 v2922
  let c64_i32_1940 : BitVec 32 := 64#32
  let v2926 : BitVec 32 := Scalar.muli v2923 c64_i32_1940
  let v2954 : Index := Scalar.indexCast v2926
  let c0_1962 : Index := 0#32
  ![v2954.toNat, 0]

def k0_off269 (v2927 : BitVec 32) : Fin 2 → Nat :=
  let c63_i32_1944 : BitVec 32 := 63#32
  let c0_i32_1943 : BitVec 32 := 0#32
  let v2928 : BitVec 32 := Scalar.maxsi c0_i32_1943 v2927
  let v2929 : BitVec 32 := Scalar.minsi c63_i32_1944 v2928
  let c64_i32_1948 : BitVec 32 := 64#32
  let v2932 : BitVec 32 := Scalar.muli v2929 c64_i32_1948
  let v2964 : Index := Scalar.indexCast v2932
  let c0_1964 : Index := 0#32
  ![v2964.toNat, 0]

def k0_off270 (v2933 : BitVec 32) : Fin 2 → Nat :=
  let c63_i32_1952 : BitVec 32 := 63#32
  let c0_i32_1951 : BitVec 32 := 0#32
  let v2934 : BitVec 32 := Scalar.maxsi c0_i32_1951 v2933
  let v2935 : BitVec 32 := Scalar.minsi c63_i32_1952 v2934
  let c64_i32_1956 : BitVec 32 := 64#32
  let v2938 : BitVec 32 := Scalar.muli v2935 c64_i32_1956
  let v2966 : Index := Scalar.indexCast v2938
  let c0_1965 : Index := 0#32
  ![v2966.toNat, 0]

def k0_chk150 (v2933 : BitVec 32) : Prop :=
  (∀ a, (k0_off270 v2933) a + S64x128.size a ≤ S4096x128.size a)
theorem k0_off270_inb : ∀ (v2933 : BitVec 32) (k0_hw150 : k0_chk150 v2933), ∀ a, (k0_off270 v2933) a + S64x128.size a ≤ S4096x128.size a := fun v2933 k0_hw150 => k0_hw150

def k0_off271 (v2903 : BitVec 32) : Fin 2 → Nat :=
  let c63_i32_1912 : BitVec 32 := 63#32
  let c0_i32_1911 : BitVec 32 := 0#32
  let v2904 : BitVec 32 := Scalar.maxsi c0_i32_1911 v2903
  let v2905 : BitVec 32 := Scalar.minsi c63_i32_1912 v2904
  let c64_i32_1916 : BitVec 32 := 64#32
  let v2908 : BitVec 32 := Scalar.muli v2905 c64_i32_1916
  let v2993 : Index := Scalar.indexCast v2908
  let c0_1975 : Index := 0#32
  ![v2993.toNat, 0]

def k0_chk145 (v2903 : BitVec 32) : Prop :=
  (∀ a, (k0_off265 v2903) a + S64x128.size a ≤ S4096x128.size a) ∧
  (∀ a, (k0_off271 v2903) a + S64x128.size a ≤ S4096x128.size a)
theorem k0_off265_inb : ∀ (v2903 : BitVec 32) (k0_hw145 : k0_chk145 v2903), ∀ a, (k0_off265 v2903) a + S64x128.size a ≤ S4096x128.size a := fun v2903 k0_hw145 => k0_hw145.1
theorem k0_off271_inb : ∀ (v2903 : BitVec 32) (k0_hw145 : k0_chk145 v2903), ∀ a, (k0_off271 v2903) a + S64x128.size a ≤ S4096x128.size a := fun v2903 k0_hw145 => k0_hw145.2

def k0_off272 (v2909 : BitVec 32) : Fin 2 → Nat :=
  let c63_i32_1920 : BitVec 32 := 63#32
  let c0_i32_1919 : BitVec 32 := 0#32
  let v2910 : BitVec 32 := Scalar.maxsi c0_i32_1919 v2909
  let v2911 : BitVec 32 := Scalar.minsi c63_i32_1920 v2910
  let c64_i32_1924 : BitVec 32 := 64#32
  let v2914 : BitVec 32 := Scalar.muli v2911 c64_i32_1924
  let v2995 : Index := Scalar.indexCast v2914
  let c0_1976 : Index := 0#32
  ![v2995.toNat, 0]

def k0_chk146 (v2909 : BitVec 32) : Prop :=
  (∀ a, (k0_off266 v2909) a + S64x128.size a ≤ S4096x128.size a) ∧
  (∀ a, (k0_off272 v2909) a + S64x128.size a ≤ S4096x128.size a)
theorem k0_off266_inb : ∀ (v2909 : BitVec 32) (k0_hw146 : k0_chk146 v2909), ∀ a, (k0_off266 v2909) a + S64x128.size a ≤ S4096x128.size a := fun v2909 k0_hw146 => k0_hw146.1
theorem k0_off272_inb : ∀ (v2909 : BitVec 32) (k0_hw146 : k0_chk146 v2909), ∀ a, (k0_off272 v2909) a + S64x128.size a ≤ S4096x128.size a := fun v2909 k0_hw146 => k0_hw146.2

def k0_off273 (v2915 : BitVec 32) : Fin 2 → Nat :=
  let c63_i32_1928 : BitVec 32 := 63#32
  let c0_i32_1927 : BitVec 32 := 0#32
  let v2916 : BitVec 32 := Scalar.maxsi c0_i32_1927 v2915
  let v2917 : BitVec 32 := Scalar.minsi c63_i32_1928 v2916
  let c64_i32_1932 : BitVec 32 := 64#32
  let v2920 : BitVec 32 := Scalar.muli v2917 c64_i32_1932
  let v3001 : Index := Scalar.indexCast v2920
  let c0_1978 : Index := 0#32
  ![v3001.toNat, 0]

def k0_chk147 (v2915 : BitVec 32) : Prop :=
  (∀ a, (k0_off267 v2915) a + S64x128.size a ≤ S4096x128.size a) ∧
  (∀ a, (k0_off273 v2915) a + S64x128.size a ≤ S4096x128.size a)
theorem k0_off267_inb : ∀ (v2915 : BitVec 32) (k0_hw147 : k0_chk147 v2915), ∀ a, (k0_off267 v2915) a + S64x128.size a ≤ S4096x128.size a := fun v2915 k0_hw147 => k0_hw147.1
theorem k0_off273_inb : ∀ (v2915 : BitVec 32) (k0_hw147 : k0_chk147 v2915), ∀ a, (k0_off273 v2915) a + S64x128.size a ≤ S4096x128.size a := fun v2915 k0_hw147 => k0_hw147.2

def k0_off274 (v2921 : BitVec 32) : Fin 2 → Nat :=
  let c63_i32_1936 : BitVec 32 := 63#32
  let c0_i32_1935 : BitVec 32 := 0#32
  let v2922 : BitVec 32 := Scalar.maxsi c0_i32_1935 v2921
  let v2923 : BitVec 32 := Scalar.minsi c63_i32_1936 v2922
  let c64_i32_1940 : BitVec 32 := 64#32
  let v2926 : BitVec 32 := Scalar.muli v2923 c64_i32_1940
  let v3003 : Index := Scalar.indexCast v2926
  let c0_1979 : Index := 0#32
  ![v3003.toNat, 0]

def k0_chk148 (v2921 : BitVec 32) : Prop :=
  (∀ a, (k0_off268 v2921) a + S64x128.size a ≤ S4096x128.size a) ∧
  (∀ a, (k0_off274 v2921) a + S64x128.size a ≤ S4096x128.size a)
theorem k0_off268_inb : ∀ (v2921 : BitVec 32) (k0_hw148 : k0_chk148 v2921), ∀ a, (k0_off268 v2921) a + S64x128.size a ≤ S4096x128.size a := fun v2921 k0_hw148 => k0_hw148.1
theorem k0_off274_inb : ∀ (v2921 : BitVec 32) (k0_hw148 : k0_chk148 v2921), ∀ a, (k0_off274 v2921) a + S64x128.size a ≤ S4096x128.size a := fun v2921 k0_hw148 => k0_hw148.2

def k0_off275 (v2927 : BitVec 32) : Fin 2 → Nat :=
  let c63_i32_1944 : BitVec 32 := 63#32
  let c0_i32_1943 : BitVec 32 := 0#32
  let v2928 : BitVec 32 := Scalar.maxsi c0_i32_1943 v2927
  let v2929 : BitVec 32 := Scalar.minsi c63_i32_1944 v2928
  let c64_i32_1948 : BitVec 32 := 64#32
  let v2932 : BitVec 32 := Scalar.muli v2929 c64_i32_1948
  let v3009 : Index := Scalar.indexCast v2932
  let c0_1981 : Index := 0#32
  ![v3009.toNat, 0]

def k0_chk149 (v2927 : BitVec 32) : Prop :=
  (∀ a, (k0_off269 v2927) a + S64x128.size a ≤ S4096x128.size a) ∧
  (∀ a, (k0_off275 v2927) a + S64x128.size a ≤ S4096x128.size a)
theorem k0_off269_inb : ∀ (v2927 : BitVec 32) (k0_hw149 : k0_chk149 v2927), ∀ a, (k0_off269 v2927) a + S64x128.size a ≤ S4096x128.size a := fun v2927 k0_hw149 => k0_hw149.1
theorem k0_off275_inb : ∀ (v2927 : BitVec 32) (k0_hw149 : k0_chk149 v2927), ∀ a, (k0_off275 v2927) a + S64x128.size a ≤ S4096x128.size a := fun v2927 k0_hw149 => k0_hw149.2

def k0_off276 (v3022 : BitVec 32) : Fin 2 → Nat :=
  let c63_i32_1990 : BitVec 32 := 63#32
  let c0_i32_1989 : BitVec 32 := 0#32
  let v3023 : BitVec 32 := Scalar.maxsi c0_i32_1989 v3022
  let v3024 : BitVec 32 := Scalar.minsi c63_i32_1990 v3023
  let c64_i32_1994 : BitVec 32 := 64#32
  let v3027 : BitVec 32 := Scalar.muli v3024 c64_i32_1994
  let v3059 : Index := Scalar.indexCast v3027
  let c0_2036 : Index := 0#32
  ![v3059.toNat, 0]

def k0_off277 (v3028 : BitVec 32) : Fin 2 → Nat :=
  let c63_i32_1998 : BitVec 32 := 63#32
  let c0_i32_1997 : BitVec 32 := 0#32
  let v3029 : BitVec 32 := Scalar.maxsi c0_i32_1997 v3028
  let v3030 : BitVec 32 := Scalar.minsi c63_i32_1998 v3029
  let c64_i32_2002 : BitVec 32 := 64#32
  let v3033 : BitVec 32 := Scalar.muli v3030 c64_i32_2002
  let v3061 : Index := Scalar.indexCast v3033
  let c0_2037 : Index := 0#32
  ![v3061.toNat, 0]

def k0_off278 (v3034 : BitVec 32) : Fin 2 → Nat :=
  let c63_i32_2006 : BitVec 32 := 63#32
  let c0_i32_2005 : BitVec 32 := 0#32
  let v3035 : BitVec 32 := Scalar.maxsi c0_i32_2005 v3034
  let v3036 : BitVec 32 := Scalar.minsi c63_i32_2006 v3035
  let c64_i32_2010 : BitVec 32 := 64#32
  let v3039 : BitVec 32 := Scalar.muli v3036 c64_i32_2010
  let v3071 : Index := Scalar.indexCast v3039
  let c0_2039 : Index := 0#32
  ![v3071.toNat, 0]

def k0_off279 (v3040 : BitVec 32) : Fin 2 → Nat :=
  let c63_i32_2014 : BitVec 32 := 63#32
  let c0_i32_2013 : BitVec 32 := 0#32
  let v3041 : BitVec 32 := Scalar.maxsi c0_i32_2013 v3040
  let v3042 : BitVec 32 := Scalar.minsi c63_i32_2014 v3041
  let c64_i32_2018 : BitVec 32 := 64#32
  let v3045 : BitVec 32 := Scalar.muli v3042 c64_i32_2018
  let v3073 : Index := Scalar.indexCast v3045
  let c0_2040 : Index := 0#32
  ![v3073.toNat, 0]

def k0_off280 (v3046 : BitVec 32) : Fin 2 → Nat :=
  let c63_i32_2022 : BitVec 32 := 63#32
  let c0_i32_2021 : BitVec 32 := 0#32
  let v3047 : BitVec 32 := Scalar.maxsi c0_i32_2021 v3046
  let v3048 : BitVec 32 := Scalar.minsi c63_i32_2022 v3047
  let c64_i32_2026 : BitVec 32 := 64#32
  let v3051 : BitVec 32 := Scalar.muli v3048 c64_i32_2026
  let v3083 : Index := Scalar.indexCast v3051
  let c0_2042 : Index := 0#32
  ![v3083.toNat, 0]

def k0_off281 (v3052 : BitVec 32) : Fin 2 → Nat :=
  let c63_i32_2030 : BitVec 32 := 63#32
  let c0_i32_2029 : BitVec 32 := 0#32
  let v3053 : BitVec 32 := Scalar.maxsi c0_i32_2029 v3052
  let v3054 : BitVec 32 := Scalar.minsi c63_i32_2030 v3053
  let c64_i32_2034 : BitVec 32 := 64#32
  let v3057 : BitVec 32 := Scalar.muli v3054 c64_i32_2034
  let v3085 : Index := Scalar.indexCast v3057
  let c0_2043 : Index := 0#32
  ![v3085.toNat, 0]

def k0_chk156 (v3052 : BitVec 32) : Prop :=
  (∀ a, (k0_off281 v3052) a + S64x128.size a ≤ S4096x128.size a)
theorem k0_off281_inb : ∀ (v3052 : BitVec 32) (k0_hw156 : k0_chk156 v3052), ∀ a, (k0_off281 v3052) a + S64x128.size a ≤ S4096x128.size a := fun v3052 k0_hw156 => k0_hw156

def k0_off282 (v3022 : BitVec 32) : Fin 2 → Nat :=
  let c63_i32_1990 : BitVec 32 := 63#32
  let c0_i32_1989 : BitVec 32 := 0#32
  let v3023 : BitVec 32 := Scalar.maxsi c0_i32_1989 v3022
  let v3024 : BitVec 32 := Scalar.minsi c63_i32_1990 v3023
  let c64_i32_1994 : BitVec 32 := 64#32
  let v3027 : BitVec 32 := Scalar.muli v3024 c64_i32_1994
  let v3112 : Index := Scalar.indexCast v3027
  let c0_2053 : Index := 0#32
  ![v3112.toNat, 0]

def k0_chk151 (v3022 : BitVec 32) : Prop :=
  (∀ a, (k0_off276 v3022) a + S64x128.size a ≤ S4096x128.size a) ∧
  (∀ a, (k0_off282 v3022) a + S64x128.size a ≤ S4096x128.size a)
theorem k0_off276_inb : ∀ (v3022 : BitVec 32) (k0_hw151 : k0_chk151 v3022), ∀ a, (k0_off276 v3022) a + S64x128.size a ≤ S4096x128.size a := fun v3022 k0_hw151 => k0_hw151.1
theorem k0_off282_inb : ∀ (v3022 : BitVec 32) (k0_hw151 : k0_chk151 v3022), ∀ a, (k0_off282 v3022) a + S64x128.size a ≤ S4096x128.size a := fun v3022 k0_hw151 => k0_hw151.2

def k0_off283 (v3028 : BitVec 32) : Fin 2 → Nat :=
  let c63_i32_1998 : BitVec 32 := 63#32
  let c0_i32_1997 : BitVec 32 := 0#32
  let v3029 : BitVec 32 := Scalar.maxsi c0_i32_1997 v3028
  let v3030 : BitVec 32 := Scalar.minsi c63_i32_1998 v3029
  let c64_i32_2002 : BitVec 32 := 64#32
  let v3033 : BitVec 32 := Scalar.muli v3030 c64_i32_2002
  let v3114 : Index := Scalar.indexCast v3033
  let c0_2054 : Index := 0#32
  ![v3114.toNat, 0]

def k0_chk152 (v3028 : BitVec 32) : Prop :=
  (∀ a, (k0_off277 v3028) a + S64x128.size a ≤ S4096x128.size a) ∧
  (∀ a, (k0_off283 v3028) a + S64x128.size a ≤ S4096x128.size a)
theorem k0_off277_inb : ∀ (v3028 : BitVec 32) (k0_hw152 : k0_chk152 v3028), ∀ a, (k0_off277 v3028) a + S64x128.size a ≤ S4096x128.size a := fun v3028 k0_hw152 => k0_hw152.1
theorem k0_off283_inb : ∀ (v3028 : BitVec 32) (k0_hw152 : k0_chk152 v3028), ∀ a, (k0_off283 v3028) a + S64x128.size a ≤ S4096x128.size a := fun v3028 k0_hw152 => k0_hw152.2

def k0_off284 (v3034 : BitVec 32) : Fin 2 → Nat :=
  let c63_i32_2006 : BitVec 32 := 63#32
  let c0_i32_2005 : BitVec 32 := 0#32
  let v3035 : BitVec 32 := Scalar.maxsi c0_i32_2005 v3034
  let v3036 : BitVec 32 := Scalar.minsi c63_i32_2006 v3035
  let c64_i32_2010 : BitVec 32 := 64#32
  let v3039 : BitVec 32 := Scalar.muli v3036 c64_i32_2010
  let v3120 : Index := Scalar.indexCast v3039
  let c0_2056 : Index := 0#32
  ![v3120.toNat, 0]

def k0_chk153 (v3034 : BitVec 32) : Prop :=
  (∀ a, (k0_off278 v3034) a + S64x128.size a ≤ S4096x128.size a) ∧
  (∀ a, (k0_off284 v3034) a + S64x128.size a ≤ S4096x128.size a)
theorem k0_off278_inb : ∀ (v3034 : BitVec 32) (k0_hw153 : k0_chk153 v3034), ∀ a, (k0_off278 v3034) a + S64x128.size a ≤ S4096x128.size a := fun v3034 k0_hw153 => k0_hw153.1
theorem k0_off284_inb : ∀ (v3034 : BitVec 32) (k0_hw153 : k0_chk153 v3034), ∀ a, (k0_off284 v3034) a + S64x128.size a ≤ S4096x128.size a := fun v3034 k0_hw153 => k0_hw153.2

def k0_off285 (v3040 : BitVec 32) : Fin 2 → Nat :=
  let c63_i32_2014 : BitVec 32 := 63#32
  let c0_i32_2013 : BitVec 32 := 0#32
  let v3041 : BitVec 32 := Scalar.maxsi c0_i32_2013 v3040
  let v3042 : BitVec 32 := Scalar.minsi c63_i32_2014 v3041
  let c64_i32_2018 : BitVec 32 := 64#32
  let v3045 : BitVec 32 := Scalar.muli v3042 c64_i32_2018
  let v3122 : Index := Scalar.indexCast v3045
  let c0_2057 : Index := 0#32
  ![v3122.toNat, 0]

def k0_chk154 (v3040 : BitVec 32) : Prop :=
  (∀ a, (k0_off279 v3040) a + S64x128.size a ≤ S4096x128.size a) ∧
  (∀ a, (k0_off285 v3040) a + S64x128.size a ≤ S4096x128.size a)
theorem k0_off279_inb : ∀ (v3040 : BitVec 32) (k0_hw154 : k0_chk154 v3040), ∀ a, (k0_off279 v3040) a + S64x128.size a ≤ S4096x128.size a := fun v3040 k0_hw154 => k0_hw154.1
theorem k0_off285_inb : ∀ (v3040 : BitVec 32) (k0_hw154 : k0_chk154 v3040), ∀ a, (k0_off285 v3040) a + S64x128.size a ≤ S4096x128.size a := fun v3040 k0_hw154 => k0_hw154.2

def k0_off286 (v3046 : BitVec 32) : Fin 2 → Nat :=
  let c63_i32_2022 : BitVec 32 := 63#32
  let c0_i32_2021 : BitVec 32 := 0#32
  let v3047 : BitVec 32 := Scalar.maxsi c0_i32_2021 v3046
  let v3048 : BitVec 32 := Scalar.minsi c63_i32_2022 v3047
  let c64_i32_2026 : BitVec 32 := 64#32
  let v3051 : BitVec 32 := Scalar.muli v3048 c64_i32_2026
  let v3128 : Index := Scalar.indexCast v3051
  let c0_2059 : Index := 0#32
  ![v3128.toNat, 0]

def k0_chk155 (v3046 : BitVec 32) : Prop :=
  (∀ a, (k0_off280 v3046) a + S64x128.size a ≤ S4096x128.size a) ∧
  (∀ a, (k0_off286 v3046) a + S64x128.size a ≤ S4096x128.size a)
theorem k0_off280_inb : ∀ (v3046 : BitVec 32) (k0_hw155 : k0_chk155 v3046), ∀ a, (k0_off280 v3046) a + S64x128.size a ≤ S4096x128.size a := fun v3046 k0_hw155 => k0_hw155.1
theorem k0_off286_inb : ∀ (v3046 : BitVec 32) (k0_hw155 : k0_chk155 v3046), ∀ a, (k0_off286 v3046) a + S64x128.size a ≤ S4096x128.size a := fun v3046 k0_hw155 => k0_hw155.2

def k0_off287 (v3141 : BitVec 32) : Fin 2 → Nat :=
  let c63_i32_2068 : BitVec 32 := 63#32
  let c0_i32_2067 : BitVec 32 := 0#32
  let v3142 : BitVec 32 := Scalar.maxsi c0_i32_2067 v3141
  let v3143 : BitVec 32 := Scalar.minsi c63_i32_2068 v3142
  let c64_i32_2072 : BitVec 32 := 64#32
  let v3146 : BitVec 32 := Scalar.muli v3143 c64_i32_2072
  let v3178 : Index := Scalar.indexCast v3146
  let c0_2114 : Index := 0#32
  ![v3178.toNat, 0]

def k0_off288 (v3147 : BitVec 32) : Fin 2 → Nat :=
  let c63_i32_2076 : BitVec 32 := 63#32
  let c0_i32_2075 : BitVec 32 := 0#32
  let v3148 : BitVec 32 := Scalar.maxsi c0_i32_2075 v3147
  let v3149 : BitVec 32 := Scalar.minsi c63_i32_2076 v3148
  let c64_i32_2080 : BitVec 32 := 64#32
  let v3152 : BitVec 32 := Scalar.muli v3149 c64_i32_2080
  let v3180 : Index := Scalar.indexCast v3152
  let c0_2115 : Index := 0#32
  ![v3180.toNat, 0]

def k0_off289 (v3153 : BitVec 32) : Fin 2 → Nat :=
  let c63_i32_2084 : BitVec 32 := 63#32
  let c0_i32_2083 : BitVec 32 := 0#32
  let v3154 : BitVec 32 := Scalar.maxsi c0_i32_2083 v3153
  let v3155 : BitVec 32 := Scalar.minsi c63_i32_2084 v3154
  let c64_i32_2088 : BitVec 32 := 64#32
  let v3158 : BitVec 32 := Scalar.muli v3155 c64_i32_2088
  let v3190 : Index := Scalar.indexCast v3158
  let c0_2117 : Index := 0#32
  ![v3190.toNat, 0]

def k0_off290 (v3159 : BitVec 32) : Fin 2 → Nat :=
  let c63_i32_2092 : BitVec 32 := 63#32
  let c0_i32_2091 : BitVec 32 := 0#32
  let v3160 : BitVec 32 := Scalar.maxsi c0_i32_2091 v3159
  let v3161 : BitVec 32 := Scalar.minsi c63_i32_2092 v3160
  let c64_i32_2096 : BitVec 32 := 64#32
  let v3164 : BitVec 32 := Scalar.muli v3161 c64_i32_2096
  let v3192 : Index := Scalar.indexCast v3164
  let c0_2118 : Index := 0#32
  ![v3192.toNat, 0]

def k0_off291 (v3165 : BitVec 32) : Fin 2 → Nat :=
  let c63_i32_2100 : BitVec 32 := 63#32
  let c0_i32_2099 : BitVec 32 := 0#32
  let v3166 : BitVec 32 := Scalar.maxsi c0_i32_2099 v3165
  let v3167 : BitVec 32 := Scalar.minsi c63_i32_2100 v3166
  let c64_i32_2104 : BitVec 32 := 64#32
  let v3170 : BitVec 32 := Scalar.muli v3167 c64_i32_2104
  let v3202 : Index := Scalar.indexCast v3170
  let c0_2120 : Index := 0#32
  ![v3202.toNat, 0]

def k0_off292 (v3171 : BitVec 32) : Fin 2 → Nat :=
  let c63_i32_2108 : BitVec 32 := 63#32
  let c0_i32_2107 : BitVec 32 := 0#32
  let v3172 : BitVec 32 := Scalar.maxsi c0_i32_2107 v3171
  let v3173 : BitVec 32 := Scalar.minsi c63_i32_2108 v3172
  let c64_i32_2112 : BitVec 32 := 64#32
  let v3176 : BitVec 32 := Scalar.muli v3173 c64_i32_2112
  let v3204 : Index := Scalar.indexCast v3176
  let c0_2121 : Index := 0#32
  ![v3204.toNat, 0]

def k0_chk162 (v3171 : BitVec 32) : Prop :=
  (∀ a, (k0_off292 v3171) a + S64x128.size a ≤ S4096x128.size a)
theorem k0_off292_inb : ∀ (v3171 : BitVec 32) (k0_hw162 : k0_chk162 v3171), ∀ a, (k0_off292 v3171) a + S64x128.size a ≤ S4096x128.size a := fun v3171 k0_hw162 => k0_hw162

def k0_off293 (v3141 : BitVec 32) : Fin 2 → Nat :=
  let c63_i32_2068 : BitVec 32 := 63#32
  let c0_i32_2067 : BitVec 32 := 0#32
  let v3142 : BitVec 32 := Scalar.maxsi c0_i32_2067 v3141
  let v3143 : BitVec 32 := Scalar.minsi c63_i32_2068 v3142
  let c64_i32_2072 : BitVec 32 := 64#32
  let v3146 : BitVec 32 := Scalar.muli v3143 c64_i32_2072
  let v3231 : Index := Scalar.indexCast v3146
  let c0_2131 : Index := 0#32
  ![v3231.toNat, 0]

def k0_chk157 (v3141 : BitVec 32) : Prop :=
  (∀ a, (k0_off287 v3141) a + S64x128.size a ≤ S4096x128.size a) ∧
  (∀ a, (k0_off293 v3141) a + S64x128.size a ≤ S4096x128.size a)
theorem k0_off287_inb : ∀ (v3141 : BitVec 32) (k0_hw157 : k0_chk157 v3141), ∀ a, (k0_off287 v3141) a + S64x128.size a ≤ S4096x128.size a := fun v3141 k0_hw157 => k0_hw157.1
theorem k0_off293_inb : ∀ (v3141 : BitVec 32) (k0_hw157 : k0_chk157 v3141), ∀ a, (k0_off293 v3141) a + S64x128.size a ≤ S4096x128.size a := fun v3141 k0_hw157 => k0_hw157.2

def k0_off294 (v3147 : BitVec 32) : Fin 2 → Nat :=
  let c63_i32_2076 : BitVec 32 := 63#32
  let c0_i32_2075 : BitVec 32 := 0#32
  let v3148 : BitVec 32 := Scalar.maxsi c0_i32_2075 v3147
  let v3149 : BitVec 32 := Scalar.minsi c63_i32_2076 v3148
  let c64_i32_2080 : BitVec 32 := 64#32
  let v3152 : BitVec 32 := Scalar.muli v3149 c64_i32_2080
  let v3233 : Index := Scalar.indexCast v3152
  let c0_2132 : Index := 0#32
  ![v3233.toNat, 0]

def k0_chk158 (v3147 : BitVec 32) : Prop :=
  (∀ a, (k0_off288 v3147) a + S64x128.size a ≤ S4096x128.size a) ∧
  (∀ a, (k0_off294 v3147) a + S64x128.size a ≤ S4096x128.size a)
theorem k0_off288_inb : ∀ (v3147 : BitVec 32) (k0_hw158 : k0_chk158 v3147), ∀ a, (k0_off288 v3147) a + S64x128.size a ≤ S4096x128.size a := fun v3147 k0_hw158 => k0_hw158.1
theorem k0_off294_inb : ∀ (v3147 : BitVec 32) (k0_hw158 : k0_chk158 v3147), ∀ a, (k0_off294 v3147) a + S64x128.size a ≤ S4096x128.size a := fun v3147 k0_hw158 => k0_hw158.2

def k0_off295 (v3153 : BitVec 32) : Fin 2 → Nat :=
  let c63_i32_2084 : BitVec 32 := 63#32
  let c0_i32_2083 : BitVec 32 := 0#32
  let v3154 : BitVec 32 := Scalar.maxsi c0_i32_2083 v3153
  let v3155 : BitVec 32 := Scalar.minsi c63_i32_2084 v3154
  let c64_i32_2088 : BitVec 32 := 64#32
  let v3158 : BitVec 32 := Scalar.muli v3155 c64_i32_2088
  let v3239 : Index := Scalar.indexCast v3158
  let c0_2134 : Index := 0#32
  ![v3239.toNat, 0]

def k0_chk159 (v3153 : BitVec 32) : Prop :=
  (∀ a, (k0_off289 v3153) a + S64x128.size a ≤ S4096x128.size a) ∧
  (∀ a, (k0_off295 v3153) a + S64x128.size a ≤ S4096x128.size a)
theorem k0_off289_inb : ∀ (v3153 : BitVec 32) (k0_hw159 : k0_chk159 v3153), ∀ a, (k0_off289 v3153) a + S64x128.size a ≤ S4096x128.size a := fun v3153 k0_hw159 => k0_hw159.1
theorem k0_off295_inb : ∀ (v3153 : BitVec 32) (k0_hw159 : k0_chk159 v3153), ∀ a, (k0_off295 v3153) a + S64x128.size a ≤ S4096x128.size a := fun v3153 k0_hw159 => k0_hw159.2

def k0_off296 (v3159 : BitVec 32) : Fin 2 → Nat :=
  let c63_i32_2092 : BitVec 32 := 63#32
  let c0_i32_2091 : BitVec 32 := 0#32
  let v3160 : BitVec 32 := Scalar.maxsi c0_i32_2091 v3159
  let v3161 : BitVec 32 := Scalar.minsi c63_i32_2092 v3160
  let c64_i32_2096 : BitVec 32 := 64#32
  let v3164 : BitVec 32 := Scalar.muli v3161 c64_i32_2096
  let v3241 : Index := Scalar.indexCast v3164
  let c0_2135 : Index := 0#32
  ![v3241.toNat, 0]

def k0_chk160 (v3159 : BitVec 32) : Prop :=
  (∀ a, (k0_off290 v3159) a + S64x128.size a ≤ S4096x128.size a) ∧
  (∀ a, (k0_off296 v3159) a + S64x128.size a ≤ S4096x128.size a)
theorem k0_off290_inb : ∀ (v3159 : BitVec 32) (k0_hw160 : k0_chk160 v3159), ∀ a, (k0_off290 v3159) a + S64x128.size a ≤ S4096x128.size a := fun v3159 k0_hw160 => k0_hw160.1
theorem k0_off296_inb : ∀ (v3159 : BitVec 32) (k0_hw160 : k0_chk160 v3159), ∀ a, (k0_off296 v3159) a + S64x128.size a ≤ S4096x128.size a := fun v3159 k0_hw160 => k0_hw160.2

def k0_off297 (v3165 : BitVec 32) : Fin 2 → Nat :=
  let c63_i32_2100 : BitVec 32 := 63#32
  let c0_i32_2099 : BitVec 32 := 0#32
  let v3166 : BitVec 32 := Scalar.maxsi c0_i32_2099 v3165
  let v3167 : BitVec 32 := Scalar.minsi c63_i32_2100 v3166
  let c64_i32_2104 : BitVec 32 := 64#32
  let v3170 : BitVec 32 := Scalar.muli v3167 c64_i32_2104
  let v3247 : Index := Scalar.indexCast v3170
  let c0_2137 : Index := 0#32
  ![v3247.toNat, 0]

def k0_chk161 (v3165 : BitVec 32) : Prop :=
  (∀ a, (k0_off291 v3165) a + S64x128.size a ≤ S4096x128.size a) ∧
  (∀ a, (k0_off297 v3165) a + S64x128.size a ≤ S4096x128.size a)
theorem k0_off291_inb : ∀ (v3165 : BitVec 32) (k0_hw161 : k0_chk161 v3165), ∀ a, (k0_off291 v3165) a + S64x128.size a ≤ S4096x128.size a := fun v3165 k0_hw161 => k0_hw161.1
theorem k0_off297_inb : ∀ (v3165 : BitVec 32) (k0_hw161 : k0_chk161 v3165), ∀ a, (k0_off297 v3165) a + S64x128.size a ≤ S4096x128.size a := fun v3165 k0_hw161 => k0_hw161.2

def k0_off298 (v3260 : BitVec 32) : Fin 2 → Nat :=
  let c63_i32_2146 : BitVec 32 := 63#32
  let c0_i32_2145 : BitVec 32 := 0#32
  let v3261 : BitVec 32 := Scalar.maxsi c0_i32_2145 v3260
  let v3262 : BitVec 32 := Scalar.minsi c63_i32_2146 v3261
  let c64_i32_2150 : BitVec 32 := 64#32
  let v3265 : BitVec 32 := Scalar.muli v3262 c64_i32_2150
  let v3297 : Index := Scalar.indexCast v3265
  let c0_2192 : Index := 0#32
  ![v3297.toNat, 0]

def k0_off299 (v3266 : BitVec 32) : Fin 2 → Nat :=
  let c63_i32_2154 : BitVec 32 := 63#32
  let c0_i32_2153 : BitVec 32 := 0#32
  let v3267 : BitVec 32 := Scalar.maxsi c0_i32_2153 v3266
  let v3268 : BitVec 32 := Scalar.minsi c63_i32_2154 v3267
  let c64_i32_2158 : BitVec 32 := 64#32
  let v3271 : BitVec 32 := Scalar.muli v3268 c64_i32_2158
  let v3299 : Index := Scalar.indexCast v3271
  let c0_2193 : Index := 0#32
  ![v3299.toNat, 0]

def k0_off300 (v3272 : BitVec 32) : Fin 2 → Nat :=
  let c63_i32_2162 : BitVec 32 := 63#32
  let c0_i32_2161 : BitVec 32 := 0#32
  let v3273 : BitVec 32 := Scalar.maxsi c0_i32_2161 v3272
  let v3274 : BitVec 32 := Scalar.minsi c63_i32_2162 v3273
  let c64_i32_2166 : BitVec 32 := 64#32
  let v3277 : BitVec 32 := Scalar.muli v3274 c64_i32_2166
  let v3309 : Index := Scalar.indexCast v3277
  let c0_2195 : Index := 0#32
  ![v3309.toNat, 0]

def k0_off301 (v3278 : BitVec 32) : Fin 2 → Nat :=
  let c63_i32_2170 : BitVec 32 := 63#32
  let c0_i32_2169 : BitVec 32 := 0#32
  let v3279 : BitVec 32 := Scalar.maxsi c0_i32_2169 v3278
  let v3280 : BitVec 32 := Scalar.minsi c63_i32_2170 v3279
  let c64_i32_2174 : BitVec 32 := 64#32
  let v3283 : BitVec 32 := Scalar.muli v3280 c64_i32_2174
  let v3311 : Index := Scalar.indexCast v3283
  let c0_2196 : Index := 0#32
  ![v3311.toNat, 0]

def k0_off302 (v3284 : BitVec 32) : Fin 2 → Nat :=
  let c63_i32_2178 : BitVec 32 := 63#32
  let c0_i32_2177 : BitVec 32 := 0#32
  let v3285 : BitVec 32 := Scalar.maxsi c0_i32_2177 v3284
  let v3286 : BitVec 32 := Scalar.minsi c63_i32_2178 v3285
  let c64_i32_2182 : BitVec 32 := 64#32
  let v3289 : BitVec 32 := Scalar.muli v3286 c64_i32_2182
  let v3321 : Index := Scalar.indexCast v3289
  let c0_2198 : Index := 0#32
  ![v3321.toNat, 0]

def k0_off303 (v3290 : BitVec 32) : Fin 2 → Nat :=
  let c63_i32_2186 : BitVec 32 := 63#32
  let c0_i32_2185 : BitVec 32 := 0#32
  let v3291 : BitVec 32 := Scalar.maxsi c0_i32_2185 v3290
  let v3292 : BitVec 32 := Scalar.minsi c63_i32_2186 v3291
  let c64_i32_2190 : BitVec 32 := 64#32
  let v3295 : BitVec 32 := Scalar.muli v3292 c64_i32_2190
  let v3323 : Index := Scalar.indexCast v3295
  let c0_2199 : Index := 0#32
  ![v3323.toNat, 0]

def k0_chk168 (v3290 : BitVec 32) : Prop :=
  (∀ a, (k0_off303 v3290) a + S64x128.size a ≤ S4096x128.size a)
theorem k0_off303_inb : ∀ (v3290 : BitVec 32) (k0_hw168 : k0_chk168 v3290), ∀ a, (k0_off303 v3290) a + S64x128.size a ≤ S4096x128.size a := fun v3290 k0_hw168 => k0_hw168

def k0_off304 (v3260 : BitVec 32) : Fin 2 → Nat :=
  let c63_i32_2146 : BitVec 32 := 63#32
  let c0_i32_2145 : BitVec 32 := 0#32
  let v3261 : BitVec 32 := Scalar.maxsi c0_i32_2145 v3260
  let v3262 : BitVec 32 := Scalar.minsi c63_i32_2146 v3261
  let c64_i32_2150 : BitVec 32 := 64#32
  let v3265 : BitVec 32 := Scalar.muli v3262 c64_i32_2150
  let v3350 : Index := Scalar.indexCast v3265
  let c0_2209 : Index := 0#32
  ![v3350.toNat, 0]

def k0_chk163 (v3260 : BitVec 32) : Prop :=
  (∀ a, (k0_off298 v3260) a + S64x128.size a ≤ S4096x128.size a) ∧
  (∀ a, (k0_off304 v3260) a + S64x128.size a ≤ S4096x128.size a)
theorem k0_off298_inb : ∀ (v3260 : BitVec 32) (k0_hw163 : k0_chk163 v3260), ∀ a, (k0_off298 v3260) a + S64x128.size a ≤ S4096x128.size a := fun v3260 k0_hw163 => k0_hw163.1
theorem k0_off304_inb : ∀ (v3260 : BitVec 32) (k0_hw163 : k0_chk163 v3260), ∀ a, (k0_off304 v3260) a + S64x128.size a ≤ S4096x128.size a := fun v3260 k0_hw163 => k0_hw163.2

def k0_off305 (v3266 : BitVec 32) : Fin 2 → Nat :=
  let c63_i32_2154 : BitVec 32 := 63#32
  let c0_i32_2153 : BitVec 32 := 0#32
  let v3267 : BitVec 32 := Scalar.maxsi c0_i32_2153 v3266
  let v3268 : BitVec 32 := Scalar.minsi c63_i32_2154 v3267
  let c64_i32_2158 : BitVec 32 := 64#32
  let v3271 : BitVec 32 := Scalar.muli v3268 c64_i32_2158
  let v3352 : Index := Scalar.indexCast v3271
  let c0_2210 : Index := 0#32
  ![v3352.toNat, 0]

def k0_chk164 (v3266 : BitVec 32) : Prop :=
  (∀ a, (k0_off299 v3266) a + S64x128.size a ≤ S4096x128.size a) ∧
  (∀ a, (k0_off305 v3266) a + S64x128.size a ≤ S4096x128.size a)
theorem k0_off299_inb : ∀ (v3266 : BitVec 32) (k0_hw164 : k0_chk164 v3266), ∀ a, (k0_off299 v3266) a + S64x128.size a ≤ S4096x128.size a := fun v3266 k0_hw164 => k0_hw164.1
theorem k0_off305_inb : ∀ (v3266 : BitVec 32) (k0_hw164 : k0_chk164 v3266), ∀ a, (k0_off305 v3266) a + S64x128.size a ≤ S4096x128.size a := fun v3266 k0_hw164 => k0_hw164.2

def k0_off306 (v3272 : BitVec 32) : Fin 2 → Nat :=
  let c63_i32_2162 : BitVec 32 := 63#32
  let c0_i32_2161 : BitVec 32 := 0#32
  let v3273 : BitVec 32 := Scalar.maxsi c0_i32_2161 v3272
  let v3274 : BitVec 32 := Scalar.minsi c63_i32_2162 v3273
  let c64_i32_2166 : BitVec 32 := 64#32
  let v3277 : BitVec 32 := Scalar.muli v3274 c64_i32_2166
  let v3358 : Index := Scalar.indexCast v3277
  let c0_2212 : Index := 0#32
  ![v3358.toNat, 0]

def k0_chk165 (v3272 : BitVec 32) : Prop :=
  (∀ a, (k0_off300 v3272) a + S64x128.size a ≤ S4096x128.size a) ∧
  (∀ a, (k0_off306 v3272) a + S64x128.size a ≤ S4096x128.size a)
theorem k0_off300_inb : ∀ (v3272 : BitVec 32) (k0_hw165 : k0_chk165 v3272), ∀ a, (k0_off300 v3272) a + S64x128.size a ≤ S4096x128.size a := fun v3272 k0_hw165 => k0_hw165.1
theorem k0_off306_inb : ∀ (v3272 : BitVec 32) (k0_hw165 : k0_chk165 v3272), ∀ a, (k0_off306 v3272) a + S64x128.size a ≤ S4096x128.size a := fun v3272 k0_hw165 => k0_hw165.2

def k0_off307 (v3278 : BitVec 32) : Fin 2 → Nat :=
  let c63_i32_2170 : BitVec 32 := 63#32
  let c0_i32_2169 : BitVec 32 := 0#32
  let v3279 : BitVec 32 := Scalar.maxsi c0_i32_2169 v3278
  let v3280 : BitVec 32 := Scalar.minsi c63_i32_2170 v3279
  let c64_i32_2174 : BitVec 32 := 64#32
  let v3283 : BitVec 32 := Scalar.muli v3280 c64_i32_2174
  let v3360 : Index := Scalar.indexCast v3283
  let c0_2213 : Index := 0#32
  ![v3360.toNat, 0]

def k0_chk166 (v3278 : BitVec 32) : Prop :=
  (∀ a, (k0_off301 v3278) a + S64x128.size a ≤ S4096x128.size a) ∧
  (∀ a, (k0_off307 v3278) a + S64x128.size a ≤ S4096x128.size a)
theorem k0_off301_inb : ∀ (v3278 : BitVec 32) (k0_hw166 : k0_chk166 v3278), ∀ a, (k0_off301 v3278) a + S64x128.size a ≤ S4096x128.size a := fun v3278 k0_hw166 => k0_hw166.1
theorem k0_off307_inb : ∀ (v3278 : BitVec 32) (k0_hw166 : k0_chk166 v3278), ∀ a, (k0_off307 v3278) a + S64x128.size a ≤ S4096x128.size a := fun v3278 k0_hw166 => k0_hw166.2

def k0_off308 (v3284 : BitVec 32) : Fin 2 → Nat :=
  let c63_i32_2178 : BitVec 32 := 63#32
  let c0_i32_2177 : BitVec 32 := 0#32
  let v3285 : BitVec 32 := Scalar.maxsi c0_i32_2177 v3284
  let v3286 : BitVec 32 := Scalar.minsi c63_i32_2178 v3285
  let c64_i32_2182 : BitVec 32 := 64#32
  let v3289 : BitVec 32 := Scalar.muli v3286 c64_i32_2182
  let v3366 : Index := Scalar.indexCast v3289
  let c0_2215 : Index := 0#32
  ![v3366.toNat, 0]

def k0_chk167 (v3284 : BitVec 32) : Prop :=
  (∀ a, (k0_off302 v3284) a + S64x128.size a ≤ S4096x128.size a) ∧
  (∀ a, (k0_off308 v3284) a + S64x128.size a ≤ S4096x128.size a)
theorem k0_off302_inb : ∀ (v3284 : BitVec 32) (k0_hw167 : k0_chk167 v3284), ∀ a, (k0_off302 v3284) a + S64x128.size a ≤ S4096x128.size a := fun v3284 k0_hw167 => k0_hw167.1
theorem k0_off308_inb : ∀ (v3284 : BitVec 32) (k0_hw167 : k0_chk167 v3284), ∀ a, (k0_off308 v3284) a + S64x128.size a ≤ S4096x128.size a := fun v3284 k0_hw167 => k0_hw167.2

def k0_off309 (v3379 : BitVec 32) : Fin 2 → Nat :=
  let c63_i32_2224 : BitVec 32 := 63#32
  let c0_i32_2223 : BitVec 32 := 0#32
  let v3380 : BitVec 32 := Scalar.maxsi c0_i32_2223 v3379
  let v3381 : BitVec 32 := Scalar.minsi c63_i32_2224 v3380
  let c64_i32_2228 : BitVec 32 := 64#32
  let v3384 : BitVec 32 := Scalar.muli v3381 c64_i32_2228
  let v3416 : Index := Scalar.indexCast v3384
  let c0_2270 : Index := 0#32
  ![v3416.toNat, 0]

def k0_off310 (v3385 : BitVec 32) : Fin 2 → Nat :=
  let c63_i32_2232 : BitVec 32 := 63#32
  let c0_i32_2231 : BitVec 32 := 0#32
  let v3386 : BitVec 32 := Scalar.maxsi c0_i32_2231 v3385
  let v3387 : BitVec 32 := Scalar.minsi c63_i32_2232 v3386
  let c64_i32_2236 : BitVec 32 := 64#32
  let v3390 : BitVec 32 := Scalar.muli v3387 c64_i32_2236
  let v3418 : Index := Scalar.indexCast v3390
  let c0_2271 : Index := 0#32
  ![v3418.toNat, 0]

def k0_off311 (v3391 : BitVec 32) : Fin 2 → Nat :=
  let c63_i32_2240 : BitVec 32 := 63#32
  let c0_i32_2239 : BitVec 32 := 0#32
  let v3392 : BitVec 32 := Scalar.maxsi c0_i32_2239 v3391
  let v3393 : BitVec 32 := Scalar.minsi c63_i32_2240 v3392
  let c64_i32_2244 : BitVec 32 := 64#32
  let v3396 : BitVec 32 := Scalar.muli v3393 c64_i32_2244
  let v3428 : Index := Scalar.indexCast v3396
  let c0_2273 : Index := 0#32
  ![v3428.toNat, 0]

def k0_off312 (v3397 : BitVec 32) : Fin 2 → Nat :=
  let c63_i32_2248 : BitVec 32 := 63#32
  let c0_i32_2247 : BitVec 32 := 0#32
  let v3398 : BitVec 32 := Scalar.maxsi c0_i32_2247 v3397
  let v3399 : BitVec 32 := Scalar.minsi c63_i32_2248 v3398
  let c64_i32_2252 : BitVec 32 := 64#32
  let v3402 : BitVec 32 := Scalar.muli v3399 c64_i32_2252
  let v3430 : Index := Scalar.indexCast v3402
  let c0_2274 : Index := 0#32
  ![v3430.toNat, 0]

def k0_off313 (v3403 : BitVec 32) : Fin 2 → Nat :=
  let c63_i32_2256 : BitVec 32 := 63#32
  let c0_i32_2255 : BitVec 32 := 0#32
  let v3404 : BitVec 32 := Scalar.maxsi c0_i32_2255 v3403
  let v3405 : BitVec 32 := Scalar.minsi c63_i32_2256 v3404
  let c64_i32_2260 : BitVec 32 := 64#32
  let v3408 : BitVec 32 := Scalar.muli v3405 c64_i32_2260
  let v3440 : Index := Scalar.indexCast v3408
  let c0_2276 : Index := 0#32
  ![v3440.toNat, 0]

def k0_off314 (v3409 : BitVec 32) : Fin 2 → Nat :=
  let c63_i32_2264 : BitVec 32 := 63#32
  let c0_i32_2263 : BitVec 32 := 0#32
  let v3410 : BitVec 32 := Scalar.maxsi c0_i32_2263 v3409
  let v3411 : BitVec 32 := Scalar.minsi c63_i32_2264 v3410
  let c64_i32_2268 : BitVec 32 := 64#32
  let v3414 : BitVec 32 := Scalar.muli v3411 c64_i32_2268
  let v3442 : Index := Scalar.indexCast v3414
  let c0_2277 : Index := 0#32
  ![v3442.toNat, 0]

def k0_chk174 (v3409 : BitVec 32) : Prop :=
  (∀ a, (k0_off314 v3409) a + S64x128.size a ≤ S4096x128.size a)
theorem k0_off314_inb : ∀ (v3409 : BitVec 32) (k0_hw174 : k0_chk174 v3409), ∀ a, (k0_off314 v3409) a + S64x128.size a ≤ S4096x128.size a := fun v3409 k0_hw174 => k0_hw174

def k0_off315 (v3379 : BitVec 32) : Fin 2 → Nat :=
  let c63_i32_2224 : BitVec 32 := 63#32
  let c0_i32_2223 : BitVec 32 := 0#32
  let v3380 : BitVec 32 := Scalar.maxsi c0_i32_2223 v3379
  let v3381 : BitVec 32 := Scalar.minsi c63_i32_2224 v3380
  let c64_i32_2228 : BitVec 32 := 64#32
  let v3384 : BitVec 32 := Scalar.muli v3381 c64_i32_2228
  let v3469 : Index := Scalar.indexCast v3384
  let c0_2287 : Index := 0#32
  ![v3469.toNat, 0]

def k0_chk169 (v3379 : BitVec 32) : Prop :=
  (∀ a, (k0_off309 v3379) a + S64x128.size a ≤ S4096x128.size a) ∧
  (∀ a, (k0_off315 v3379) a + S64x128.size a ≤ S4096x128.size a)
theorem k0_off309_inb : ∀ (v3379 : BitVec 32) (k0_hw169 : k0_chk169 v3379), ∀ a, (k0_off309 v3379) a + S64x128.size a ≤ S4096x128.size a := fun v3379 k0_hw169 => k0_hw169.1
theorem k0_off315_inb : ∀ (v3379 : BitVec 32) (k0_hw169 : k0_chk169 v3379), ∀ a, (k0_off315 v3379) a + S64x128.size a ≤ S4096x128.size a := fun v3379 k0_hw169 => k0_hw169.2

def k0_off316 (v3385 : BitVec 32) : Fin 2 → Nat :=
  let c63_i32_2232 : BitVec 32 := 63#32
  let c0_i32_2231 : BitVec 32 := 0#32
  let v3386 : BitVec 32 := Scalar.maxsi c0_i32_2231 v3385
  let v3387 : BitVec 32 := Scalar.minsi c63_i32_2232 v3386
  let c64_i32_2236 : BitVec 32 := 64#32
  let v3390 : BitVec 32 := Scalar.muli v3387 c64_i32_2236
  let v3471 : Index := Scalar.indexCast v3390
  let c0_2288 : Index := 0#32
  ![v3471.toNat, 0]

def k0_chk170 (v3385 : BitVec 32) : Prop :=
  (∀ a, (k0_off310 v3385) a + S64x128.size a ≤ S4096x128.size a) ∧
  (∀ a, (k0_off316 v3385) a + S64x128.size a ≤ S4096x128.size a)
theorem k0_off310_inb : ∀ (v3385 : BitVec 32) (k0_hw170 : k0_chk170 v3385), ∀ a, (k0_off310 v3385) a + S64x128.size a ≤ S4096x128.size a := fun v3385 k0_hw170 => k0_hw170.1
theorem k0_off316_inb : ∀ (v3385 : BitVec 32) (k0_hw170 : k0_chk170 v3385), ∀ a, (k0_off316 v3385) a + S64x128.size a ≤ S4096x128.size a := fun v3385 k0_hw170 => k0_hw170.2

def k0_off317 (v3391 : BitVec 32) : Fin 2 → Nat :=
  let c63_i32_2240 : BitVec 32 := 63#32
  let c0_i32_2239 : BitVec 32 := 0#32
  let v3392 : BitVec 32 := Scalar.maxsi c0_i32_2239 v3391
  let v3393 : BitVec 32 := Scalar.minsi c63_i32_2240 v3392
  let c64_i32_2244 : BitVec 32 := 64#32
  let v3396 : BitVec 32 := Scalar.muli v3393 c64_i32_2244
  let v3477 : Index := Scalar.indexCast v3396
  let c0_2290 : Index := 0#32
  ![v3477.toNat, 0]

def k0_chk171 (v3391 : BitVec 32) : Prop :=
  (∀ a, (k0_off311 v3391) a + S64x128.size a ≤ S4096x128.size a) ∧
  (∀ a, (k0_off317 v3391) a + S64x128.size a ≤ S4096x128.size a)
theorem k0_off311_inb : ∀ (v3391 : BitVec 32) (k0_hw171 : k0_chk171 v3391), ∀ a, (k0_off311 v3391) a + S64x128.size a ≤ S4096x128.size a := fun v3391 k0_hw171 => k0_hw171.1
theorem k0_off317_inb : ∀ (v3391 : BitVec 32) (k0_hw171 : k0_chk171 v3391), ∀ a, (k0_off317 v3391) a + S64x128.size a ≤ S4096x128.size a := fun v3391 k0_hw171 => k0_hw171.2

def k0_off318 (v3397 : BitVec 32) : Fin 2 → Nat :=
  let c63_i32_2248 : BitVec 32 := 63#32
  let c0_i32_2247 : BitVec 32 := 0#32
  let v3398 : BitVec 32 := Scalar.maxsi c0_i32_2247 v3397
  let v3399 : BitVec 32 := Scalar.minsi c63_i32_2248 v3398
  let c64_i32_2252 : BitVec 32 := 64#32
  let v3402 : BitVec 32 := Scalar.muli v3399 c64_i32_2252
  let v3479 : Index := Scalar.indexCast v3402
  let c0_2291 : Index := 0#32
  ![v3479.toNat, 0]

def k0_chk172 (v3397 : BitVec 32) : Prop :=
  (∀ a, (k0_off312 v3397) a + S64x128.size a ≤ S4096x128.size a) ∧
  (∀ a, (k0_off318 v3397) a + S64x128.size a ≤ S4096x128.size a)
theorem k0_off312_inb : ∀ (v3397 : BitVec 32) (k0_hw172 : k0_chk172 v3397), ∀ a, (k0_off312 v3397) a + S64x128.size a ≤ S4096x128.size a := fun v3397 k0_hw172 => k0_hw172.1
theorem k0_off318_inb : ∀ (v3397 : BitVec 32) (k0_hw172 : k0_chk172 v3397), ∀ a, (k0_off318 v3397) a + S64x128.size a ≤ S4096x128.size a := fun v3397 k0_hw172 => k0_hw172.2

def k0_off319 (v3403 : BitVec 32) : Fin 2 → Nat :=
  let c63_i32_2256 : BitVec 32 := 63#32
  let c0_i32_2255 : BitVec 32 := 0#32
  let v3404 : BitVec 32 := Scalar.maxsi c0_i32_2255 v3403
  let v3405 : BitVec 32 := Scalar.minsi c63_i32_2256 v3404
  let c64_i32_2260 : BitVec 32 := 64#32
  let v3408 : BitVec 32 := Scalar.muli v3405 c64_i32_2260
  let v3485 : Index := Scalar.indexCast v3408
  let c0_2293 : Index := 0#32
  ![v3485.toNat, 0]

def k0_chk173 (v3403 : BitVec 32) : Prop :=
  (∀ a, (k0_off313 v3403) a + S64x128.size a ≤ S4096x128.size a) ∧
  (∀ a, (k0_off319 v3403) a + S64x128.size a ≤ S4096x128.size a)
theorem k0_off313_inb : ∀ (v3403 : BitVec 32) (k0_hw173 : k0_chk173 v3403), ∀ a, (k0_off313 v3403) a + S64x128.size a ≤ S4096x128.size a := fun v3403 k0_hw173 => k0_hw173.1
theorem k0_off319_inb : ∀ (v3403 : BitVec 32) (k0_hw173 : k0_chk173 v3403), ∀ a, (k0_off319 v3403) a + S64x128.size a ≤ S4096x128.size a := fun v3403 k0_hw173 => k0_hw173.2

def k0_off320 (v3498 : BitVec 32) : Fin 2 → Nat :=
  let c63_i32_2302 : BitVec 32 := 63#32
  let c0_i32_2301 : BitVec 32 := 0#32
  let v3499 : BitVec 32 := Scalar.maxsi c0_i32_2301 v3498
  let v3500 : BitVec 32 := Scalar.minsi c63_i32_2302 v3499
  let c64_i32_2306 : BitVec 32 := 64#32
  let v3503 : BitVec 32 := Scalar.muli v3500 c64_i32_2306
  let v3535 : Index := Scalar.indexCast v3503
  let c0_2348 : Index := 0#32
  ![v3535.toNat, 0]

def k0_off321 (v3504 : BitVec 32) : Fin 2 → Nat :=
  let c63_i32_2310 : BitVec 32 := 63#32
  let c0_i32_2309 : BitVec 32 := 0#32
  let v3505 : BitVec 32 := Scalar.maxsi c0_i32_2309 v3504
  let v3506 : BitVec 32 := Scalar.minsi c63_i32_2310 v3505
  let c64_i32_2314 : BitVec 32 := 64#32
  let v3509 : BitVec 32 := Scalar.muli v3506 c64_i32_2314
  let v3537 : Index := Scalar.indexCast v3509
  let c0_2349 : Index := 0#32
  ![v3537.toNat, 0]

def k0_off322 (v3510 : BitVec 32) : Fin 2 → Nat :=
  let c63_i32_2318 : BitVec 32 := 63#32
  let c0_i32_2317 : BitVec 32 := 0#32
  let v3511 : BitVec 32 := Scalar.maxsi c0_i32_2317 v3510
  let v3512 : BitVec 32 := Scalar.minsi c63_i32_2318 v3511
  let c64_i32_2322 : BitVec 32 := 64#32
  let v3515 : BitVec 32 := Scalar.muli v3512 c64_i32_2322
  let v3547 : Index := Scalar.indexCast v3515
  let c0_2351 : Index := 0#32
  ![v3547.toNat, 0]

def k0_off323 (v3516 : BitVec 32) : Fin 2 → Nat :=
  let c63_i32_2326 : BitVec 32 := 63#32
  let c0_i32_2325 : BitVec 32 := 0#32
  let v3517 : BitVec 32 := Scalar.maxsi c0_i32_2325 v3516
  let v3518 : BitVec 32 := Scalar.minsi c63_i32_2326 v3517
  let c64_i32_2330 : BitVec 32 := 64#32
  let v3521 : BitVec 32 := Scalar.muli v3518 c64_i32_2330
  let v3549 : Index := Scalar.indexCast v3521
  let c0_2352 : Index := 0#32
  ![v3549.toNat, 0]

def k0_off324 (v3522 : BitVec 32) : Fin 2 → Nat :=
  let c63_i32_2334 : BitVec 32 := 63#32
  let c0_i32_2333 : BitVec 32 := 0#32
  let v3523 : BitVec 32 := Scalar.maxsi c0_i32_2333 v3522
  let v3524 : BitVec 32 := Scalar.minsi c63_i32_2334 v3523
  let c64_i32_2338 : BitVec 32 := 64#32
  let v3527 : BitVec 32 := Scalar.muli v3524 c64_i32_2338
  let v3559 : Index := Scalar.indexCast v3527
  let c0_2354 : Index := 0#32
  ![v3559.toNat, 0]

def k0_off325 (v3528 : BitVec 32) : Fin 2 → Nat :=
  let c63_i32_2342 : BitVec 32 := 63#32
  let c0_i32_2341 : BitVec 32 := 0#32
  let v3529 : BitVec 32 := Scalar.maxsi c0_i32_2341 v3528
  let v3530 : BitVec 32 := Scalar.minsi c63_i32_2342 v3529
  let c64_i32_2346 : BitVec 32 := 64#32
  let v3533 : BitVec 32 := Scalar.muli v3530 c64_i32_2346
  let v3561 : Index := Scalar.indexCast v3533
  let c0_2355 : Index := 0#32
  ![v3561.toNat, 0]

def k0_chk180 (v3528 : BitVec 32) : Prop :=
  (∀ a, (k0_off325 v3528) a + S64x128.size a ≤ S4096x128.size a)
theorem k0_off325_inb : ∀ (v3528 : BitVec 32) (k0_hw180 : k0_chk180 v3528), ∀ a, (k0_off325 v3528) a + S64x128.size a ≤ S4096x128.size a := fun v3528 k0_hw180 => k0_hw180

def k0_off326 (v3498 : BitVec 32) : Fin 2 → Nat :=
  let c63_i32_2302 : BitVec 32 := 63#32
  let c0_i32_2301 : BitVec 32 := 0#32
  let v3499 : BitVec 32 := Scalar.maxsi c0_i32_2301 v3498
  let v3500 : BitVec 32 := Scalar.minsi c63_i32_2302 v3499
  let c64_i32_2306 : BitVec 32 := 64#32
  let v3503 : BitVec 32 := Scalar.muli v3500 c64_i32_2306
  let v3588 : Index := Scalar.indexCast v3503
  let c0_2365 : Index := 0#32
  ![v3588.toNat, 0]

def k0_chk175 (v3498 : BitVec 32) : Prop :=
  (∀ a, (k0_off320 v3498) a + S64x128.size a ≤ S4096x128.size a) ∧
  (∀ a, (k0_off326 v3498) a + S64x128.size a ≤ S4096x128.size a)
theorem k0_off320_inb : ∀ (v3498 : BitVec 32) (k0_hw175 : k0_chk175 v3498), ∀ a, (k0_off320 v3498) a + S64x128.size a ≤ S4096x128.size a := fun v3498 k0_hw175 => k0_hw175.1
theorem k0_off326_inb : ∀ (v3498 : BitVec 32) (k0_hw175 : k0_chk175 v3498), ∀ a, (k0_off326 v3498) a + S64x128.size a ≤ S4096x128.size a := fun v3498 k0_hw175 => k0_hw175.2

def k0_off327 (v3504 : BitVec 32) : Fin 2 → Nat :=
  let c63_i32_2310 : BitVec 32 := 63#32
  let c0_i32_2309 : BitVec 32 := 0#32
  let v3505 : BitVec 32 := Scalar.maxsi c0_i32_2309 v3504
  let v3506 : BitVec 32 := Scalar.minsi c63_i32_2310 v3505
  let c64_i32_2314 : BitVec 32 := 64#32
  let v3509 : BitVec 32 := Scalar.muli v3506 c64_i32_2314
  let v3590 : Index := Scalar.indexCast v3509
  let c0_2366 : Index := 0#32
  ![v3590.toNat, 0]

def k0_chk176 (v3504 : BitVec 32) : Prop :=
  (∀ a, (k0_off321 v3504) a + S64x128.size a ≤ S4096x128.size a) ∧
  (∀ a, (k0_off327 v3504) a + S64x128.size a ≤ S4096x128.size a)
theorem k0_off321_inb : ∀ (v3504 : BitVec 32) (k0_hw176 : k0_chk176 v3504), ∀ a, (k0_off321 v3504) a + S64x128.size a ≤ S4096x128.size a := fun v3504 k0_hw176 => k0_hw176.1
theorem k0_off327_inb : ∀ (v3504 : BitVec 32) (k0_hw176 : k0_chk176 v3504), ∀ a, (k0_off327 v3504) a + S64x128.size a ≤ S4096x128.size a := fun v3504 k0_hw176 => k0_hw176.2

def k0_off328 (v3510 : BitVec 32) : Fin 2 → Nat :=
  let c63_i32_2318 : BitVec 32 := 63#32
  let c0_i32_2317 : BitVec 32 := 0#32
  let v3511 : BitVec 32 := Scalar.maxsi c0_i32_2317 v3510
  let v3512 : BitVec 32 := Scalar.minsi c63_i32_2318 v3511
  let c64_i32_2322 : BitVec 32 := 64#32
  let v3515 : BitVec 32 := Scalar.muli v3512 c64_i32_2322
  let v3596 : Index := Scalar.indexCast v3515
  let c0_2368 : Index := 0#32
  ![v3596.toNat, 0]

def k0_chk177 (v3510 : BitVec 32) : Prop :=
  (∀ a, (k0_off322 v3510) a + S64x128.size a ≤ S4096x128.size a) ∧
  (∀ a, (k0_off328 v3510) a + S64x128.size a ≤ S4096x128.size a)
theorem k0_off322_inb : ∀ (v3510 : BitVec 32) (k0_hw177 : k0_chk177 v3510), ∀ a, (k0_off322 v3510) a + S64x128.size a ≤ S4096x128.size a := fun v3510 k0_hw177 => k0_hw177.1
theorem k0_off328_inb : ∀ (v3510 : BitVec 32) (k0_hw177 : k0_chk177 v3510), ∀ a, (k0_off328 v3510) a + S64x128.size a ≤ S4096x128.size a := fun v3510 k0_hw177 => k0_hw177.2

def k0_off329 (v3516 : BitVec 32) : Fin 2 → Nat :=
  let c63_i32_2326 : BitVec 32 := 63#32
  let c0_i32_2325 : BitVec 32 := 0#32
  let v3517 : BitVec 32 := Scalar.maxsi c0_i32_2325 v3516
  let v3518 : BitVec 32 := Scalar.minsi c63_i32_2326 v3517
  let c64_i32_2330 : BitVec 32 := 64#32
  let v3521 : BitVec 32 := Scalar.muli v3518 c64_i32_2330
  let v3598 : Index := Scalar.indexCast v3521
  let c0_2369 : Index := 0#32
  ![v3598.toNat, 0]

def k0_chk178 (v3516 : BitVec 32) : Prop :=
  (∀ a, (k0_off323 v3516) a + S64x128.size a ≤ S4096x128.size a) ∧
  (∀ a, (k0_off329 v3516) a + S64x128.size a ≤ S4096x128.size a)
theorem k0_off323_inb : ∀ (v3516 : BitVec 32) (k0_hw178 : k0_chk178 v3516), ∀ a, (k0_off323 v3516) a + S64x128.size a ≤ S4096x128.size a := fun v3516 k0_hw178 => k0_hw178.1
theorem k0_off329_inb : ∀ (v3516 : BitVec 32) (k0_hw178 : k0_chk178 v3516), ∀ a, (k0_off329 v3516) a + S64x128.size a ≤ S4096x128.size a := fun v3516 k0_hw178 => k0_hw178.2

def k0_off330 (v3522 : BitVec 32) : Fin 2 → Nat :=
  let c63_i32_2334 : BitVec 32 := 63#32
  let c0_i32_2333 : BitVec 32 := 0#32
  let v3523 : BitVec 32 := Scalar.maxsi c0_i32_2333 v3522
  let v3524 : BitVec 32 := Scalar.minsi c63_i32_2334 v3523
  let c64_i32_2338 : BitVec 32 := 64#32
  let v3527 : BitVec 32 := Scalar.muli v3524 c64_i32_2338
  let v3604 : Index := Scalar.indexCast v3527
  let c0_2371 : Index := 0#32
  ![v3604.toNat, 0]

def k0_chk179 (v3522 : BitVec 32) : Prop :=
  (∀ a, (k0_off324 v3522) a + S64x128.size a ≤ S4096x128.size a) ∧
  (∀ a, (k0_off330 v3522) a + S64x128.size a ≤ S4096x128.size a)
theorem k0_off324_inb : ∀ (v3522 : BitVec 32) (k0_hw179 : k0_chk179 v3522), ∀ a, (k0_off324 v3522) a + S64x128.size a ≤ S4096x128.size a := fun v3522 k0_hw179 => k0_hw179.1
theorem k0_off330_inb : ∀ (v3522 : BitVec 32) (k0_hw179 : k0_chk179 v3522), ∀ a, (k0_off330 v3522) a + S64x128.size a ≤ S4096x128.size a := fun v3522 k0_hw179 => k0_hw179.2

def k0_off331 (v3617 : BitVec 32) : Fin 2 → Nat :=
  let c63_i32_2380 : BitVec 32 := 63#32
  let c0_i32_2379 : BitVec 32 := 0#32
  let v3618 : BitVec 32 := Scalar.maxsi c0_i32_2379 v3617
  let v3619 : BitVec 32 := Scalar.minsi c63_i32_2380 v3618
  let c64_i32_2384 : BitVec 32 := 64#32
  let v3622 : BitVec 32 := Scalar.muli v3619 c64_i32_2384
  let v3654 : Index := Scalar.indexCast v3622
  let c0_2426 : Index := 0#32
  ![v3654.toNat, 0]

def k0_off332 (v3623 : BitVec 32) : Fin 2 → Nat :=
  let c63_i32_2388 : BitVec 32 := 63#32
  let c0_i32_2387 : BitVec 32 := 0#32
  let v3624 : BitVec 32 := Scalar.maxsi c0_i32_2387 v3623
  let v3625 : BitVec 32 := Scalar.minsi c63_i32_2388 v3624
  let c64_i32_2392 : BitVec 32 := 64#32
  let v3628 : BitVec 32 := Scalar.muli v3625 c64_i32_2392
  let v3656 : Index := Scalar.indexCast v3628
  let c0_2427 : Index := 0#32
  ![v3656.toNat, 0]

def k0_off333 (v3629 : BitVec 32) : Fin 2 → Nat :=
  let c63_i32_2396 : BitVec 32 := 63#32
  let c0_i32_2395 : BitVec 32 := 0#32
  let v3630 : BitVec 32 := Scalar.maxsi c0_i32_2395 v3629
  let v3631 : BitVec 32 := Scalar.minsi c63_i32_2396 v3630
  let c64_i32_2400 : BitVec 32 := 64#32
  let v3634 : BitVec 32 := Scalar.muli v3631 c64_i32_2400
  let v3666 : Index := Scalar.indexCast v3634
  let c0_2429 : Index := 0#32
  ![v3666.toNat, 0]

def k0_off334 (v3635 : BitVec 32) : Fin 2 → Nat :=
  let c63_i32_2404 : BitVec 32 := 63#32
  let c0_i32_2403 : BitVec 32 := 0#32
  let v3636 : BitVec 32 := Scalar.maxsi c0_i32_2403 v3635
  let v3637 : BitVec 32 := Scalar.minsi c63_i32_2404 v3636
  let c64_i32_2408 : BitVec 32 := 64#32
  let v3640 : BitVec 32 := Scalar.muli v3637 c64_i32_2408
  let v3668 : Index := Scalar.indexCast v3640
  let c0_2430 : Index := 0#32
  ![v3668.toNat, 0]

def k0_off335 (v3641 : BitVec 32) : Fin 2 → Nat :=
  let c63_i32_2412 : BitVec 32 := 63#32
  let c0_i32_2411 : BitVec 32 := 0#32
  let v3642 : BitVec 32 := Scalar.maxsi c0_i32_2411 v3641
  let v3643 : BitVec 32 := Scalar.minsi c63_i32_2412 v3642
  let c64_i32_2416 : BitVec 32 := 64#32
  let v3646 : BitVec 32 := Scalar.muli v3643 c64_i32_2416
  let v3678 : Index := Scalar.indexCast v3646
  let c0_2432 : Index := 0#32
  ![v3678.toNat, 0]

def k0_off336 (v3647 : BitVec 32) : Fin 2 → Nat :=
  let c63_i32_2420 : BitVec 32 := 63#32
  let c0_i32_2419 : BitVec 32 := 0#32
  let v3648 : BitVec 32 := Scalar.maxsi c0_i32_2419 v3647
  let v3649 : BitVec 32 := Scalar.minsi c63_i32_2420 v3648
  let c64_i32_2424 : BitVec 32 := 64#32
  let v3652 : BitVec 32 := Scalar.muli v3649 c64_i32_2424
  let v3680 : Index := Scalar.indexCast v3652
  let c0_2433 : Index := 0#32
  ![v3680.toNat, 0]

def k0_chk186 (v3647 : BitVec 32) : Prop :=
  (∀ a, (k0_off336 v3647) a + S64x128.size a ≤ S4096x128.size a)
theorem k0_off336_inb : ∀ (v3647 : BitVec 32) (k0_hw186 : k0_chk186 v3647), ∀ a, (k0_off336 v3647) a + S64x128.size a ≤ S4096x128.size a := fun v3647 k0_hw186 => k0_hw186

def k0_off337 (v3617 : BitVec 32) : Fin 2 → Nat :=
  let c63_i32_2380 : BitVec 32 := 63#32
  let c0_i32_2379 : BitVec 32 := 0#32
  let v3618 : BitVec 32 := Scalar.maxsi c0_i32_2379 v3617
  let v3619 : BitVec 32 := Scalar.minsi c63_i32_2380 v3618
  let c64_i32_2384 : BitVec 32 := 64#32
  let v3622 : BitVec 32 := Scalar.muli v3619 c64_i32_2384
  let v3707 : Index := Scalar.indexCast v3622
  let c0_2443 : Index := 0#32
  ![v3707.toNat, 0]

def k0_chk181 (v3617 : BitVec 32) : Prop :=
  (∀ a, (k0_off331 v3617) a + S64x128.size a ≤ S4096x128.size a) ∧
  (∀ a, (k0_off337 v3617) a + S64x128.size a ≤ S4096x128.size a)
theorem k0_off331_inb : ∀ (v3617 : BitVec 32) (k0_hw181 : k0_chk181 v3617), ∀ a, (k0_off331 v3617) a + S64x128.size a ≤ S4096x128.size a := fun v3617 k0_hw181 => k0_hw181.1
theorem k0_off337_inb : ∀ (v3617 : BitVec 32) (k0_hw181 : k0_chk181 v3617), ∀ a, (k0_off337 v3617) a + S64x128.size a ≤ S4096x128.size a := fun v3617 k0_hw181 => k0_hw181.2

def k0_off338 (v3623 : BitVec 32) : Fin 2 → Nat :=
  let c63_i32_2388 : BitVec 32 := 63#32
  let c0_i32_2387 : BitVec 32 := 0#32
  let v3624 : BitVec 32 := Scalar.maxsi c0_i32_2387 v3623
  let v3625 : BitVec 32 := Scalar.minsi c63_i32_2388 v3624
  let c64_i32_2392 : BitVec 32 := 64#32
  let v3628 : BitVec 32 := Scalar.muli v3625 c64_i32_2392
  let v3709 : Index := Scalar.indexCast v3628
  let c0_2444 : Index := 0#32
  ![v3709.toNat, 0]

def k0_chk182 (v3623 : BitVec 32) : Prop :=
  (∀ a, (k0_off332 v3623) a + S64x128.size a ≤ S4096x128.size a) ∧
  (∀ a, (k0_off338 v3623) a + S64x128.size a ≤ S4096x128.size a)
theorem k0_off332_inb : ∀ (v3623 : BitVec 32) (k0_hw182 : k0_chk182 v3623), ∀ a, (k0_off332 v3623) a + S64x128.size a ≤ S4096x128.size a := fun v3623 k0_hw182 => k0_hw182.1
theorem k0_off338_inb : ∀ (v3623 : BitVec 32) (k0_hw182 : k0_chk182 v3623), ∀ a, (k0_off338 v3623) a + S64x128.size a ≤ S4096x128.size a := fun v3623 k0_hw182 => k0_hw182.2

def k0_off339 (v3629 : BitVec 32) : Fin 2 → Nat :=
  let c63_i32_2396 : BitVec 32 := 63#32
  let c0_i32_2395 : BitVec 32 := 0#32
  let v3630 : BitVec 32 := Scalar.maxsi c0_i32_2395 v3629
  let v3631 : BitVec 32 := Scalar.minsi c63_i32_2396 v3630
  let c64_i32_2400 : BitVec 32 := 64#32
  let v3634 : BitVec 32 := Scalar.muli v3631 c64_i32_2400
  let v3715 : Index := Scalar.indexCast v3634
  let c0_2446 : Index := 0#32
  ![v3715.toNat, 0]

def k0_chk183 (v3629 : BitVec 32) : Prop :=
  (∀ a, (k0_off333 v3629) a + S64x128.size a ≤ S4096x128.size a) ∧
  (∀ a, (k0_off339 v3629) a + S64x128.size a ≤ S4096x128.size a)
theorem k0_off333_inb : ∀ (v3629 : BitVec 32) (k0_hw183 : k0_chk183 v3629), ∀ a, (k0_off333 v3629) a + S64x128.size a ≤ S4096x128.size a := fun v3629 k0_hw183 => k0_hw183.1
theorem k0_off339_inb : ∀ (v3629 : BitVec 32) (k0_hw183 : k0_chk183 v3629), ∀ a, (k0_off339 v3629) a + S64x128.size a ≤ S4096x128.size a := fun v3629 k0_hw183 => k0_hw183.2

def k0_off340 (v3635 : BitVec 32) : Fin 2 → Nat :=
  let c63_i32_2404 : BitVec 32 := 63#32
  let c0_i32_2403 : BitVec 32 := 0#32
  let v3636 : BitVec 32 := Scalar.maxsi c0_i32_2403 v3635
  let v3637 : BitVec 32 := Scalar.minsi c63_i32_2404 v3636
  let c64_i32_2408 : BitVec 32 := 64#32
  let v3640 : BitVec 32 := Scalar.muli v3637 c64_i32_2408
  let v3717 : Index := Scalar.indexCast v3640
  let c0_2447 : Index := 0#32
  ![v3717.toNat, 0]

def k0_chk184 (v3635 : BitVec 32) : Prop :=
  (∀ a, (k0_off334 v3635) a + S64x128.size a ≤ S4096x128.size a) ∧
  (∀ a, (k0_off340 v3635) a + S64x128.size a ≤ S4096x128.size a)
theorem k0_off334_inb : ∀ (v3635 : BitVec 32) (k0_hw184 : k0_chk184 v3635), ∀ a, (k0_off334 v3635) a + S64x128.size a ≤ S4096x128.size a := fun v3635 k0_hw184 => k0_hw184.1
theorem k0_off340_inb : ∀ (v3635 : BitVec 32) (k0_hw184 : k0_chk184 v3635), ∀ a, (k0_off340 v3635) a + S64x128.size a ≤ S4096x128.size a := fun v3635 k0_hw184 => k0_hw184.2

def k0_off341 (v3641 : BitVec 32) : Fin 2 → Nat :=
  let c63_i32_2412 : BitVec 32 := 63#32
  let c0_i32_2411 : BitVec 32 := 0#32
  let v3642 : BitVec 32 := Scalar.maxsi c0_i32_2411 v3641
  let v3643 : BitVec 32 := Scalar.minsi c63_i32_2412 v3642
  let c64_i32_2416 : BitVec 32 := 64#32
  let v3646 : BitVec 32 := Scalar.muli v3643 c64_i32_2416
  let v3723 : Index := Scalar.indexCast v3646
  let c0_2449 : Index := 0#32
  ![v3723.toNat, 0]

def k0_chk185 (v3641 : BitVec 32) : Prop :=
  (∀ a, (k0_off335 v3641) a + S64x128.size a ≤ S4096x128.size a) ∧
  (∀ a, (k0_off341 v3641) a + S64x128.size a ≤ S4096x128.size a)
theorem k0_off335_inb : ∀ (v3641 : BitVec 32) (k0_hw185 : k0_chk185 v3641), ∀ a, (k0_off335 v3641) a + S64x128.size a ≤ S4096x128.size a := fun v3641 k0_hw185 => k0_hw185.1
theorem k0_off341_inb : ∀ (v3641 : BitVec 32) (k0_hw185 : k0_chk185 v3641), ∀ a, (k0_off341 v3641) a + S64x128.size a ≤ S4096x128.size a := fun v3641 k0_hw185 => k0_hw185.2

def k0_off342 (v3736 : BitVec 32) : Fin 2 → Nat :=
  let c63_i32_2458 : BitVec 32 := 63#32
  let c0_i32_2457 : BitVec 32 := 0#32
  let v3737 : BitVec 32 := Scalar.maxsi c0_i32_2457 v3736
  let v3738 : BitVec 32 := Scalar.minsi c63_i32_2458 v3737
  let c64_i32_2462 : BitVec 32 := 64#32
  let v3741 : BitVec 32 := Scalar.muli v3738 c64_i32_2462
  let v3773 : Index := Scalar.indexCast v3741
  let c0_2504 : Index := 0#32
  ![v3773.toNat, 0]

def k0_off343 (v3742 : BitVec 32) : Fin 2 → Nat :=
  let c63_i32_2466 : BitVec 32 := 63#32
  let c0_i32_2465 : BitVec 32 := 0#32
  let v3743 : BitVec 32 := Scalar.maxsi c0_i32_2465 v3742
  let v3744 : BitVec 32 := Scalar.minsi c63_i32_2466 v3743
  let c64_i32_2470 : BitVec 32 := 64#32
  let v3747 : BitVec 32 := Scalar.muli v3744 c64_i32_2470
  let v3775 : Index := Scalar.indexCast v3747
  let c0_2505 : Index := 0#32
  ![v3775.toNat, 0]

def k0_off344 (v3748 : BitVec 32) : Fin 2 → Nat :=
  let c63_i32_2474 : BitVec 32 := 63#32
  let c0_i32_2473 : BitVec 32 := 0#32
  let v3749 : BitVec 32 := Scalar.maxsi c0_i32_2473 v3748
  let v3750 : BitVec 32 := Scalar.minsi c63_i32_2474 v3749
  let c64_i32_2478 : BitVec 32 := 64#32
  let v3753 : BitVec 32 := Scalar.muli v3750 c64_i32_2478
  let v3785 : Index := Scalar.indexCast v3753
  let c0_2507 : Index := 0#32
  ![v3785.toNat, 0]

def k0_off345 (v3754 : BitVec 32) : Fin 2 → Nat :=
  let c63_i32_2482 : BitVec 32 := 63#32
  let c0_i32_2481 : BitVec 32 := 0#32
  let v3755 : BitVec 32 := Scalar.maxsi c0_i32_2481 v3754
  let v3756 : BitVec 32 := Scalar.minsi c63_i32_2482 v3755
  let c64_i32_2486 : BitVec 32 := 64#32
  let v3759 : BitVec 32 := Scalar.muli v3756 c64_i32_2486
  let v3787 : Index := Scalar.indexCast v3759
  let c0_2508 : Index := 0#32
  ![v3787.toNat, 0]

def k0_off346 (v3760 : BitVec 32) : Fin 2 → Nat :=
  let c63_i32_2490 : BitVec 32 := 63#32
  let c0_i32_2489 : BitVec 32 := 0#32
  let v3761 : BitVec 32 := Scalar.maxsi c0_i32_2489 v3760
  let v3762 : BitVec 32 := Scalar.minsi c63_i32_2490 v3761
  let c64_i32_2494 : BitVec 32 := 64#32
  let v3765 : BitVec 32 := Scalar.muli v3762 c64_i32_2494
  let v3797 : Index := Scalar.indexCast v3765
  let c0_2510 : Index := 0#32
  ![v3797.toNat, 0]

def k0_off347 (v3766 : BitVec 32) : Fin 2 → Nat :=
  let c63_i32_2498 : BitVec 32 := 63#32
  let c0_i32_2497 : BitVec 32 := 0#32
  let v3767 : BitVec 32 := Scalar.maxsi c0_i32_2497 v3766
  let v3768 : BitVec 32 := Scalar.minsi c63_i32_2498 v3767
  let c64_i32_2502 : BitVec 32 := 64#32
  let v3771 : BitVec 32 := Scalar.muli v3768 c64_i32_2502
  let v3799 : Index := Scalar.indexCast v3771
  let c0_2511 : Index := 0#32
  ![v3799.toNat, 0]

def k0_chk192 (v3766 : BitVec 32) : Prop :=
  (∀ a, (k0_off347 v3766) a + S64x128.size a ≤ S4096x128.size a)
theorem k0_off347_inb : ∀ (v3766 : BitVec 32) (k0_hw192 : k0_chk192 v3766), ∀ a, (k0_off347 v3766) a + S64x128.size a ≤ S4096x128.size a := fun v3766 k0_hw192 => k0_hw192

def k0_off348 (v3736 : BitVec 32) : Fin 2 → Nat :=
  let c63_i32_2458 : BitVec 32 := 63#32
  let c0_i32_2457 : BitVec 32 := 0#32
  let v3737 : BitVec 32 := Scalar.maxsi c0_i32_2457 v3736
  let v3738 : BitVec 32 := Scalar.minsi c63_i32_2458 v3737
  let c64_i32_2462 : BitVec 32 := 64#32
  let v3741 : BitVec 32 := Scalar.muli v3738 c64_i32_2462
  let v3826 : Index := Scalar.indexCast v3741
  let c0_2521 : Index := 0#32
  ![v3826.toNat, 0]

def k0_chk187 (v3736 : BitVec 32) : Prop :=
  (∀ a, (k0_off342 v3736) a + S64x128.size a ≤ S4096x128.size a) ∧
  (∀ a, (k0_off348 v3736) a + S64x128.size a ≤ S4096x128.size a)
theorem k0_off342_inb : ∀ (v3736 : BitVec 32) (k0_hw187 : k0_chk187 v3736), ∀ a, (k0_off342 v3736) a + S64x128.size a ≤ S4096x128.size a := fun v3736 k0_hw187 => k0_hw187.1
theorem k0_off348_inb : ∀ (v3736 : BitVec 32) (k0_hw187 : k0_chk187 v3736), ∀ a, (k0_off348 v3736) a + S64x128.size a ≤ S4096x128.size a := fun v3736 k0_hw187 => k0_hw187.2

def k0_off349 (v3742 : BitVec 32) : Fin 2 → Nat :=
  let c63_i32_2466 : BitVec 32 := 63#32
  let c0_i32_2465 : BitVec 32 := 0#32
  let v3743 : BitVec 32 := Scalar.maxsi c0_i32_2465 v3742
  let v3744 : BitVec 32 := Scalar.minsi c63_i32_2466 v3743
  let c64_i32_2470 : BitVec 32 := 64#32
  let v3747 : BitVec 32 := Scalar.muli v3744 c64_i32_2470
  let v3828 : Index := Scalar.indexCast v3747
  let c0_2522 : Index := 0#32
  ![v3828.toNat, 0]

def k0_chk188 (v3742 : BitVec 32) : Prop :=
  (∀ a, (k0_off343 v3742) a + S64x128.size a ≤ S4096x128.size a) ∧
  (∀ a, (k0_off349 v3742) a + S64x128.size a ≤ S4096x128.size a)
theorem k0_off343_inb : ∀ (v3742 : BitVec 32) (k0_hw188 : k0_chk188 v3742), ∀ a, (k0_off343 v3742) a + S64x128.size a ≤ S4096x128.size a := fun v3742 k0_hw188 => k0_hw188.1
theorem k0_off349_inb : ∀ (v3742 : BitVec 32) (k0_hw188 : k0_chk188 v3742), ∀ a, (k0_off349 v3742) a + S64x128.size a ≤ S4096x128.size a := fun v3742 k0_hw188 => k0_hw188.2

def k0_off350 (v3748 : BitVec 32) : Fin 2 → Nat :=
  let c63_i32_2474 : BitVec 32 := 63#32
  let c0_i32_2473 : BitVec 32 := 0#32
  let v3749 : BitVec 32 := Scalar.maxsi c0_i32_2473 v3748
  let v3750 : BitVec 32 := Scalar.minsi c63_i32_2474 v3749
  let c64_i32_2478 : BitVec 32 := 64#32
  let v3753 : BitVec 32 := Scalar.muli v3750 c64_i32_2478
  let v3834 : Index := Scalar.indexCast v3753
  let c0_2524 : Index := 0#32
  ![v3834.toNat, 0]

def k0_chk189 (v3748 : BitVec 32) : Prop :=
  (∀ a, (k0_off344 v3748) a + S64x128.size a ≤ S4096x128.size a) ∧
  (∀ a, (k0_off350 v3748) a + S64x128.size a ≤ S4096x128.size a)
theorem k0_off344_inb : ∀ (v3748 : BitVec 32) (k0_hw189 : k0_chk189 v3748), ∀ a, (k0_off344 v3748) a + S64x128.size a ≤ S4096x128.size a := fun v3748 k0_hw189 => k0_hw189.1
theorem k0_off350_inb : ∀ (v3748 : BitVec 32) (k0_hw189 : k0_chk189 v3748), ∀ a, (k0_off350 v3748) a + S64x128.size a ≤ S4096x128.size a := fun v3748 k0_hw189 => k0_hw189.2

def k0_off351 (v3754 : BitVec 32) : Fin 2 → Nat :=
  let c63_i32_2482 : BitVec 32 := 63#32
  let c0_i32_2481 : BitVec 32 := 0#32
  let v3755 : BitVec 32 := Scalar.maxsi c0_i32_2481 v3754
  let v3756 : BitVec 32 := Scalar.minsi c63_i32_2482 v3755
  let c64_i32_2486 : BitVec 32 := 64#32
  let v3759 : BitVec 32 := Scalar.muli v3756 c64_i32_2486
  let v3836 : Index := Scalar.indexCast v3759
  let c0_2525 : Index := 0#32
  ![v3836.toNat, 0]

def k0_chk190 (v3754 : BitVec 32) : Prop :=
  (∀ a, (k0_off345 v3754) a + S64x128.size a ≤ S4096x128.size a) ∧
  (∀ a, (k0_off351 v3754) a + S64x128.size a ≤ S4096x128.size a)
theorem k0_off345_inb : ∀ (v3754 : BitVec 32) (k0_hw190 : k0_chk190 v3754), ∀ a, (k0_off345 v3754) a + S64x128.size a ≤ S4096x128.size a := fun v3754 k0_hw190 => k0_hw190.1
theorem k0_off351_inb : ∀ (v3754 : BitVec 32) (k0_hw190 : k0_chk190 v3754), ∀ a, (k0_off351 v3754) a + S64x128.size a ≤ S4096x128.size a := fun v3754 k0_hw190 => k0_hw190.2

def k0_off352 (v3760 : BitVec 32) : Fin 2 → Nat :=
  let c63_i32_2490 : BitVec 32 := 63#32
  let c0_i32_2489 : BitVec 32 := 0#32
  let v3761 : BitVec 32 := Scalar.maxsi c0_i32_2489 v3760
  let v3762 : BitVec 32 := Scalar.minsi c63_i32_2490 v3761
  let c64_i32_2494 : BitVec 32 := 64#32
  let v3765 : BitVec 32 := Scalar.muli v3762 c64_i32_2494
  let v3842 : Index := Scalar.indexCast v3765
  let c0_2527 : Index := 0#32
  ![v3842.toNat, 0]

def k0_chk191 (v3760 : BitVec 32) : Prop :=
  (∀ a, (k0_off346 v3760) a + S64x128.size a ≤ S4096x128.size a) ∧
  (∀ a, (k0_off352 v3760) a + S64x128.size a ≤ S4096x128.size a)
theorem k0_off346_inb : ∀ (v3760 : BitVec 32) (k0_hw191 : k0_chk191 v3760), ∀ a, (k0_off346 v3760) a + S64x128.size a ≤ S4096x128.size a := fun v3760 k0_hw191 => k0_hw191.1
theorem k0_off352_inb : ∀ (v3760 : BitVec 32) (k0_hw191 : k0_chk191 v3760), ∀ a, (k0_off352 v3760) a + S64x128.size a ≤ S4096x128.size a := fun v3760 k0_hw191 => k0_hw191.2

def k0_off353 (v3855 : BitVec 32) : Fin 2 → Nat :=
  let c63_i32_2536 : BitVec 32 := 63#32
  let c0_i32_2535 : BitVec 32 := 0#32
  let v3856 : BitVec 32 := Scalar.maxsi c0_i32_2535 v3855
  let v3857 : BitVec 32 := Scalar.minsi c63_i32_2536 v3856
  let c64_i32_2540 : BitVec 32 := 64#32
  let v3860 : BitVec 32 := Scalar.muli v3857 c64_i32_2540
  let v3892 : Index := Scalar.indexCast v3860
  let c0_2582 : Index := 0#32
  ![v3892.toNat, 0]

def k0_off354 (v3861 : BitVec 32) : Fin 2 → Nat :=
  let c63_i32_2544 : BitVec 32 := 63#32
  let c0_i32_2543 : BitVec 32 := 0#32
  let v3862 : BitVec 32 := Scalar.maxsi c0_i32_2543 v3861
  let v3863 : BitVec 32 := Scalar.minsi c63_i32_2544 v3862
  let c64_i32_2548 : BitVec 32 := 64#32
  let v3866 : BitVec 32 := Scalar.muli v3863 c64_i32_2548
  let v3894 : Index := Scalar.indexCast v3866
  let c0_2583 : Index := 0#32
  ![v3894.toNat, 0]

def k0_off355 (v3867 : BitVec 32) : Fin 2 → Nat :=
  let c63_i32_2552 : BitVec 32 := 63#32
  let c0_i32_2551 : BitVec 32 := 0#32
  let v3868 : BitVec 32 := Scalar.maxsi c0_i32_2551 v3867
  let v3869 : BitVec 32 := Scalar.minsi c63_i32_2552 v3868
  let c64_i32_2556 : BitVec 32 := 64#32
  let v3872 : BitVec 32 := Scalar.muli v3869 c64_i32_2556
  let v3904 : Index := Scalar.indexCast v3872
  let c0_2585 : Index := 0#32
  ![v3904.toNat, 0]

def k0_off356 (v3873 : BitVec 32) : Fin 2 → Nat :=
  let c63_i32_2560 : BitVec 32 := 63#32
  let c0_i32_2559 : BitVec 32 := 0#32
  let v3874 : BitVec 32 := Scalar.maxsi c0_i32_2559 v3873
  let v3875 : BitVec 32 := Scalar.minsi c63_i32_2560 v3874
  let c64_i32_2564 : BitVec 32 := 64#32
  let v3878 : BitVec 32 := Scalar.muli v3875 c64_i32_2564
  let v3906 : Index := Scalar.indexCast v3878
  let c0_2586 : Index := 0#32
  ![v3906.toNat, 0]

def k0_off357 (v3879 : BitVec 32) : Fin 2 → Nat :=
  let c63_i32_2568 : BitVec 32 := 63#32
  let c0_i32_2567 : BitVec 32 := 0#32
  let v3880 : BitVec 32 := Scalar.maxsi c0_i32_2567 v3879
  let v3881 : BitVec 32 := Scalar.minsi c63_i32_2568 v3880
  let c64_i32_2572 : BitVec 32 := 64#32
  let v3884 : BitVec 32 := Scalar.muli v3881 c64_i32_2572
  let v3916 : Index := Scalar.indexCast v3884
  let c0_2588 : Index := 0#32
  ![v3916.toNat, 0]

def k0_off358 (v3885 : BitVec 32) : Fin 2 → Nat :=
  let c63_i32_2576 : BitVec 32 := 63#32
  let c0_i32_2575 : BitVec 32 := 0#32
  let v3886 : BitVec 32 := Scalar.maxsi c0_i32_2575 v3885
  let v3887 : BitVec 32 := Scalar.minsi c63_i32_2576 v3886
  let c64_i32_2580 : BitVec 32 := 64#32
  let v3890 : BitVec 32 := Scalar.muli v3887 c64_i32_2580
  let v3918 : Index := Scalar.indexCast v3890
  let c0_2589 : Index := 0#32
  ![v3918.toNat, 0]

def k0_chk198 (v3885 : BitVec 32) : Prop :=
  (∀ a, (k0_off358 v3885) a + S64x128.size a ≤ S4096x128.size a)
theorem k0_off358_inb : ∀ (v3885 : BitVec 32) (k0_hw198 : k0_chk198 v3885), ∀ a, (k0_off358 v3885) a + S64x128.size a ≤ S4096x128.size a := fun v3885 k0_hw198 => k0_hw198

def k0_off359 (v3855 : BitVec 32) : Fin 2 → Nat :=
  let c63_i32_2536 : BitVec 32 := 63#32
  let c0_i32_2535 : BitVec 32 := 0#32
  let v3856 : BitVec 32 := Scalar.maxsi c0_i32_2535 v3855
  let v3857 : BitVec 32 := Scalar.minsi c63_i32_2536 v3856
  let c64_i32_2540 : BitVec 32 := 64#32
  let v3860 : BitVec 32 := Scalar.muli v3857 c64_i32_2540
  let v3945 : Index := Scalar.indexCast v3860
  let c0_2599 : Index := 0#32
  ![v3945.toNat, 0]

def k0_chk193 (v3855 : BitVec 32) : Prop :=
  (∀ a, (k0_off353 v3855) a + S64x128.size a ≤ S4096x128.size a) ∧
  (∀ a, (k0_off359 v3855) a + S64x128.size a ≤ S4096x128.size a)
theorem k0_off353_inb : ∀ (v3855 : BitVec 32) (k0_hw193 : k0_chk193 v3855), ∀ a, (k0_off353 v3855) a + S64x128.size a ≤ S4096x128.size a := fun v3855 k0_hw193 => k0_hw193.1
theorem k0_off359_inb : ∀ (v3855 : BitVec 32) (k0_hw193 : k0_chk193 v3855), ∀ a, (k0_off359 v3855) a + S64x128.size a ≤ S4096x128.size a := fun v3855 k0_hw193 => k0_hw193.2

def k0_off360 (v3861 : BitVec 32) : Fin 2 → Nat :=
  let c63_i32_2544 : BitVec 32 := 63#32
  let c0_i32_2543 : BitVec 32 := 0#32
  let v3862 : BitVec 32 := Scalar.maxsi c0_i32_2543 v3861
  let v3863 : BitVec 32 := Scalar.minsi c63_i32_2544 v3862
  let c64_i32_2548 : BitVec 32 := 64#32
  let v3866 : BitVec 32 := Scalar.muli v3863 c64_i32_2548
  let v3947 : Index := Scalar.indexCast v3866
  let c0_2600 : Index := 0#32
  ![v3947.toNat, 0]

def k0_chk194 (v3861 : BitVec 32) : Prop :=
  (∀ a, (k0_off354 v3861) a + S64x128.size a ≤ S4096x128.size a) ∧
  (∀ a, (k0_off360 v3861) a + S64x128.size a ≤ S4096x128.size a)
theorem k0_off354_inb : ∀ (v3861 : BitVec 32) (k0_hw194 : k0_chk194 v3861), ∀ a, (k0_off354 v3861) a + S64x128.size a ≤ S4096x128.size a := fun v3861 k0_hw194 => k0_hw194.1
theorem k0_off360_inb : ∀ (v3861 : BitVec 32) (k0_hw194 : k0_chk194 v3861), ∀ a, (k0_off360 v3861) a + S64x128.size a ≤ S4096x128.size a := fun v3861 k0_hw194 => k0_hw194.2

def k0_off361 (v3867 : BitVec 32) : Fin 2 → Nat :=
  let c63_i32_2552 : BitVec 32 := 63#32
  let c0_i32_2551 : BitVec 32 := 0#32
  let v3868 : BitVec 32 := Scalar.maxsi c0_i32_2551 v3867
  let v3869 : BitVec 32 := Scalar.minsi c63_i32_2552 v3868
  let c64_i32_2556 : BitVec 32 := 64#32
  let v3872 : BitVec 32 := Scalar.muli v3869 c64_i32_2556
  let v3953 : Index := Scalar.indexCast v3872
  let c0_2602 : Index := 0#32
  ![v3953.toNat, 0]

def k0_chk195 (v3867 : BitVec 32) : Prop :=
  (∀ a, (k0_off355 v3867) a + S64x128.size a ≤ S4096x128.size a) ∧
  (∀ a, (k0_off361 v3867) a + S64x128.size a ≤ S4096x128.size a)
theorem k0_off355_inb : ∀ (v3867 : BitVec 32) (k0_hw195 : k0_chk195 v3867), ∀ a, (k0_off355 v3867) a + S64x128.size a ≤ S4096x128.size a := fun v3867 k0_hw195 => k0_hw195.1
theorem k0_off361_inb : ∀ (v3867 : BitVec 32) (k0_hw195 : k0_chk195 v3867), ∀ a, (k0_off361 v3867) a + S64x128.size a ≤ S4096x128.size a := fun v3867 k0_hw195 => k0_hw195.2

def k0_off362 (v3873 : BitVec 32) : Fin 2 → Nat :=
  let c63_i32_2560 : BitVec 32 := 63#32
  let c0_i32_2559 : BitVec 32 := 0#32
  let v3874 : BitVec 32 := Scalar.maxsi c0_i32_2559 v3873
  let v3875 : BitVec 32 := Scalar.minsi c63_i32_2560 v3874
  let c64_i32_2564 : BitVec 32 := 64#32
  let v3878 : BitVec 32 := Scalar.muli v3875 c64_i32_2564
  let v3955 : Index := Scalar.indexCast v3878
  let c0_2603 : Index := 0#32
  ![v3955.toNat, 0]

def k0_chk196 (v3873 : BitVec 32) : Prop :=
  (∀ a, (k0_off356 v3873) a + S64x128.size a ≤ S4096x128.size a) ∧
  (∀ a, (k0_off362 v3873) a + S64x128.size a ≤ S4096x128.size a)
theorem k0_off356_inb : ∀ (v3873 : BitVec 32) (k0_hw196 : k0_chk196 v3873), ∀ a, (k0_off356 v3873) a + S64x128.size a ≤ S4096x128.size a := fun v3873 k0_hw196 => k0_hw196.1
theorem k0_off362_inb : ∀ (v3873 : BitVec 32) (k0_hw196 : k0_chk196 v3873), ∀ a, (k0_off362 v3873) a + S64x128.size a ≤ S4096x128.size a := fun v3873 k0_hw196 => k0_hw196.2

def k0_off363 (v3879 : BitVec 32) : Fin 2 → Nat :=
  let c63_i32_2568 : BitVec 32 := 63#32
  let c0_i32_2567 : BitVec 32 := 0#32
  let v3880 : BitVec 32 := Scalar.maxsi c0_i32_2567 v3879
  let v3881 : BitVec 32 := Scalar.minsi c63_i32_2568 v3880
  let c64_i32_2572 : BitVec 32 := 64#32
  let v3884 : BitVec 32 := Scalar.muli v3881 c64_i32_2572
  let v3961 : Index := Scalar.indexCast v3884
  let c0_2605 : Index := 0#32
  ![v3961.toNat, 0]

def k0_chk197 (v3879 : BitVec 32) : Prop :=
  (∀ a, (k0_off357 v3879) a + S64x128.size a ≤ S4096x128.size a) ∧
  (∀ a, (k0_off363 v3879) a + S64x128.size a ≤ S4096x128.size a)
theorem k0_off357_inb : ∀ (v3879 : BitVec 32) (k0_hw197 : k0_chk197 v3879), ∀ a, (k0_off357 v3879) a + S64x128.size a ≤ S4096x128.size a := fun v3879 k0_hw197 => k0_hw197.1
theorem k0_off363_inb : ∀ (v3879 : BitVec 32) (k0_hw197 : k0_chk197 v3879), ∀ a, (k0_off363 v3879) a + S64x128.size a ≤ S4096x128.size a := fun v3879 k0_hw197 => k0_hw197.2

def k0_off364 (v3974 : BitVec 32) : Fin 2 → Nat :=
  let c63_i32_2614 : BitVec 32 := 63#32
  let c0_i32_2613 : BitVec 32 := 0#32
  let v3975 : BitVec 32 := Scalar.maxsi c0_i32_2613 v3974
  let v3976 : BitVec 32 := Scalar.minsi c63_i32_2614 v3975
  let c64_i32_2618 : BitVec 32 := 64#32
  let v3979 : BitVec 32 := Scalar.muli v3976 c64_i32_2618
  let v4011 : Index := Scalar.indexCast v3979
  let c0_2660 : Index := 0#32
  ![v4011.toNat, 0]

def k0_off365 (v3980 : BitVec 32) : Fin 2 → Nat :=
  let c63_i32_2622 : BitVec 32 := 63#32
  let c0_i32_2621 : BitVec 32 := 0#32
  let v3981 : BitVec 32 := Scalar.maxsi c0_i32_2621 v3980
  let v3982 : BitVec 32 := Scalar.minsi c63_i32_2622 v3981
  let c64_i32_2626 : BitVec 32 := 64#32
  let v3985 : BitVec 32 := Scalar.muli v3982 c64_i32_2626
  let v4013 : Index := Scalar.indexCast v3985
  let c0_2661 : Index := 0#32
  ![v4013.toNat, 0]

def k0_off366 (v3986 : BitVec 32) : Fin 2 → Nat :=
  let c63_i32_2630 : BitVec 32 := 63#32
  let c0_i32_2629 : BitVec 32 := 0#32
  let v3987 : BitVec 32 := Scalar.maxsi c0_i32_2629 v3986
  let v3988 : BitVec 32 := Scalar.minsi c63_i32_2630 v3987
  let c64_i32_2634 : BitVec 32 := 64#32
  let v3991 : BitVec 32 := Scalar.muli v3988 c64_i32_2634
  let v4023 : Index := Scalar.indexCast v3991
  let c0_2663 : Index := 0#32
  ![v4023.toNat, 0]

def k0_off367 (v3992 : BitVec 32) : Fin 2 → Nat :=
  let c63_i32_2638 : BitVec 32 := 63#32
  let c0_i32_2637 : BitVec 32 := 0#32
  let v3993 : BitVec 32 := Scalar.maxsi c0_i32_2637 v3992
  let v3994 : BitVec 32 := Scalar.minsi c63_i32_2638 v3993
  let c64_i32_2642 : BitVec 32 := 64#32
  let v3997 : BitVec 32 := Scalar.muli v3994 c64_i32_2642
  let v4025 : Index := Scalar.indexCast v3997
  let c0_2664 : Index := 0#32
  ![v4025.toNat, 0]

def k0_off368 (v3998 : BitVec 32) : Fin 2 → Nat :=
  let c63_i32_2646 : BitVec 32 := 63#32
  let c0_i32_2645 : BitVec 32 := 0#32
  let v3999 : BitVec 32 := Scalar.maxsi c0_i32_2645 v3998
  let v4000 : BitVec 32 := Scalar.minsi c63_i32_2646 v3999
  let c64_i32_2650 : BitVec 32 := 64#32
  let v4003 : BitVec 32 := Scalar.muli v4000 c64_i32_2650
  let v4035 : Index := Scalar.indexCast v4003
  let c0_2666 : Index := 0#32
  ![v4035.toNat, 0]

def k0_off369 (v4004 : BitVec 32) : Fin 2 → Nat :=
  let c63_i32_2654 : BitVec 32 := 63#32
  let c0_i32_2653 : BitVec 32 := 0#32
  let v4005 : BitVec 32 := Scalar.maxsi c0_i32_2653 v4004
  let v4006 : BitVec 32 := Scalar.minsi c63_i32_2654 v4005
  let c64_i32_2658 : BitVec 32 := 64#32
  let v4009 : BitVec 32 := Scalar.muli v4006 c64_i32_2658
  let v4037 : Index := Scalar.indexCast v4009
  let c0_2667 : Index := 0#32
  ![v4037.toNat, 0]

def k0_chk204 (v4004 : BitVec 32) : Prop :=
  (∀ a, (k0_off369 v4004) a + S64x128.size a ≤ S4096x128.size a)
theorem k0_off369_inb : ∀ (v4004 : BitVec 32) (k0_hw204 : k0_chk204 v4004), ∀ a, (k0_off369 v4004) a + S64x128.size a ≤ S4096x128.size a := fun v4004 k0_hw204 => k0_hw204

def k0_off370 (v3974 : BitVec 32) : Fin 2 → Nat :=
  let c63_i32_2614 : BitVec 32 := 63#32
  let c0_i32_2613 : BitVec 32 := 0#32
  let v3975 : BitVec 32 := Scalar.maxsi c0_i32_2613 v3974
  let v3976 : BitVec 32 := Scalar.minsi c63_i32_2614 v3975
  let c64_i32_2618 : BitVec 32 := 64#32
  let v3979 : BitVec 32 := Scalar.muli v3976 c64_i32_2618
  let v4064 : Index := Scalar.indexCast v3979
  let c0_2677 : Index := 0#32
  ![v4064.toNat, 0]

def k0_chk199 (v3974 : BitVec 32) : Prop :=
  (∀ a, (k0_off364 v3974) a + S64x128.size a ≤ S4096x128.size a) ∧
  (∀ a, (k0_off370 v3974) a + S64x128.size a ≤ S4096x128.size a)
theorem k0_off364_inb : ∀ (v3974 : BitVec 32) (k0_hw199 : k0_chk199 v3974), ∀ a, (k0_off364 v3974) a + S64x128.size a ≤ S4096x128.size a := fun v3974 k0_hw199 => k0_hw199.1
theorem k0_off370_inb : ∀ (v3974 : BitVec 32) (k0_hw199 : k0_chk199 v3974), ∀ a, (k0_off370 v3974) a + S64x128.size a ≤ S4096x128.size a := fun v3974 k0_hw199 => k0_hw199.2

def k0_off371 (v3980 : BitVec 32) : Fin 2 → Nat :=
  let c63_i32_2622 : BitVec 32 := 63#32
  let c0_i32_2621 : BitVec 32 := 0#32
  let v3981 : BitVec 32 := Scalar.maxsi c0_i32_2621 v3980
  let v3982 : BitVec 32 := Scalar.minsi c63_i32_2622 v3981
  let c64_i32_2626 : BitVec 32 := 64#32
  let v3985 : BitVec 32 := Scalar.muli v3982 c64_i32_2626
  let v4066 : Index := Scalar.indexCast v3985
  let c0_2678 : Index := 0#32
  ![v4066.toNat, 0]

def k0_chk200 (v3980 : BitVec 32) : Prop :=
  (∀ a, (k0_off365 v3980) a + S64x128.size a ≤ S4096x128.size a) ∧
  (∀ a, (k0_off371 v3980) a + S64x128.size a ≤ S4096x128.size a)
theorem k0_off365_inb : ∀ (v3980 : BitVec 32) (k0_hw200 : k0_chk200 v3980), ∀ a, (k0_off365 v3980) a + S64x128.size a ≤ S4096x128.size a := fun v3980 k0_hw200 => k0_hw200.1
theorem k0_off371_inb : ∀ (v3980 : BitVec 32) (k0_hw200 : k0_chk200 v3980), ∀ a, (k0_off371 v3980) a + S64x128.size a ≤ S4096x128.size a := fun v3980 k0_hw200 => k0_hw200.2

def k0_off372 (v3986 : BitVec 32) : Fin 2 → Nat :=
  let c63_i32_2630 : BitVec 32 := 63#32
  let c0_i32_2629 : BitVec 32 := 0#32
  let v3987 : BitVec 32 := Scalar.maxsi c0_i32_2629 v3986
  let v3988 : BitVec 32 := Scalar.minsi c63_i32_2630 v3987
  let c64_i32_2634 : BitVec 32 := 64#32
  let v3991 : BitVec 32 := Scalar.muli v3988 c64_i32_2634
  let v4072 : Index := Scalar.indexCast v3991
  let c0_2680 : Index := 0#32
  ![v4072.toNat, 0]

def k0_chk201 (v3986 : BitVec 32) : Prop :=
  (∀ a, (k0_off366 v3986) a + S64x128.size a ≤ S4096x128.size a) ∧
  (∀ a, (k0_off372 v3986) a + S64x128.size a ≤ S4096x128.size a)
theorem k0_off366_inb : ∀ (v3986 : BitVec 32) (k0_hw201 : k0_chk201 v3986), ∀ a, (k0_off366 v3986) a + S64x128.size a ≤ S4096x128.size a := fun v3986 k0_hw201 => k0_hw201.1
theorem k0_off372_inb : ∀ (v3986 : BitVec 32) (k0_hw201 : k0_chk201 v3986), ∀ a, (k0_off372 v3986) a + S64x128.size a ≤ S4096x128.size a := fun v3986 k0_hw201 => k0_hw201.2

def k0_off373 (v3992 : BitVec 32) : Fin 2 → Nat :=
  let c63_i32_2638 : BitVec 32 := 63#32
  let c0_i32_2637 : BitVec 32 := 0#32
  let v3993 : BitVec 32 := Scalar.maxsi c0_i32_2637 v3992
  let v3994 : BitVec 32 := Scalar.minsi c63_i32_2638 v3993
  let c64_i32_2642 : BitVec 32 := 64#32
  let v3997 : BitVec 32 := Scalar.muli v3994 c64_i32_2642
  let v4074 : Index := Scalar.indexCast v3997
  let c0_2681 : Index := 0#32
  ![v4074.toNat, 0]

def k0_chk202 (v3992 : BitVec 32) : Prop :=
  (∀ a, (k0_off367 v3992) a + S64x128.size a ≤ S4096x128.size a) ∧
  (∀ a, (k0_off373 v3992) a + S64x128.size a ≤ S4096x128.size a)
theorem k0_off367_inb : ∀ (v3992 : BitVec 32) (k0_hw202 : k0_chk202 v3992), ∀ a, (k0_off367 v3992) a + S64x128.size a ≤ S4096x128.size a := fun v3992 k0_hw202 => k0_hw202.1
theorem k0_off373_inb : ∀ (v3992 : BitVec 32) (k0_hw202 : k0_chk202 v3992), ∀ a, (k0_off373 v3992) a + S64x128.size a ≤ S4096x128.size a := fun v3992 k0_hw202 => k0_hw202.2

def k0_off374 (v3998 : BitVec 32) : Fin 2 → Nat :=
  let c63_i32_2646 : BitVec 32 := 63#32
  let c0_i32_2645 : BitVec 32 := 0#32
  let v3999 : BitVec 32 := Scalar.maxsi c0_i32_2645 v3998
  let v4000 : BitVec 32 := Scalar.minsi c63_i32_2646 v3999
  let c64_i32_2650 : BitVec 32 := 64#32
  let v4003 : BitVec 32 := Scalar.muli v4000 c64_i32_2650
  let v4080 : Index := Scalar.indexCast v4003
  let c0_2683 : Index := 0#32
  ![v4080.toNat, 0]

def k0_chk203 (v3998 : BitVec 32) : Prop :=
  (∀ a, (k0_off368 v3998) a + S64x128.size a ≤ S4096x128.size a) ∧
  (∀ a, (k0_off374 v3998) a + S64x128.size a ≤ S4096x128.size a)
theorem k0_off368_inb : ∀ (v3998 : BitVec 32) (k0_hw203 : k0_chk203 v3998), ∀ a, (k0_off368 v3998) a + S64x128.size a ≤ S4096x128.size a := fun v3998 k0_hw203 => k0_hw203.1
theorem k0_off374_inb : ∀ (v3998 : BitVec 32) (k0_hw203 : k0_chk203 v3998), ∀ a, (k0_off374 v3998) a + S64x128.size a ≤ S4096x128.size a := fun v3998 k0_hw203 => k0_hw203.2

def k0_off375 (v4093 : BitVec 32) : Fin 2 → Nat :=
  let c63_i32_2692 : BitVec 32 := 63#32
  let c0_i32_2691 : BitVec 32 := 0#32
  let v4094 : BitVec 32 := Scalar.maxsi c0_i32_2691 v4093
  let v4095 : BitVec 32 := Scalar.minsi c63_i32_2692 v4094
  let c64_i32_2696 : BitVec 32 := 64#32
  let v4098 : BitVec 32 := Scalar.muli v4095 c64_i32_2696
  let v4130 : Index := Scalar.indexCast v4098
  let c0_2738 : Index := 0#32
  ![v4130.toNat, 0]

def k0_off376 (v4099 : BitVec 32) : Fin 2 → Nat :=
  let c63_i32_2700 : BitVec 32 := 63#32
  let c0_i32_2699 : BitVec 32 := 0#32
  let v4100 : BitVec 32 := Scalar.maxsi c0_i32_2699 v4099
  let v4101 : BitVec 32 := Scalar.minsi c63_i32_2700 v4100
  let c64_i32_2704 : BitVec 32 := 64#32
  let v4104 : BitVec 32 := Scalar.muli v4101 c64_i32_2704
  let v4132 : Index := Scalar.indexCast v4104
  let c0_2739 : Index := 0#32
  ![v4132.toNat, 0]

def k0_off377 (v4105 : BitVec 32) : Fin 2 → Nat :=
  let c63_i32_2708 : BitVec 32 := 63#32
  let c0_i32_2707 : BitVec 32 := 0#32
  let v4106 : BitVec 32 := Scalar.maxsi c0_i32_2707 v4105
  let v4107 : BitVec 32 := Scalar.minsi c63_i32_2708 v4106
  let c64_i32_2712 : BitVec 32 := 64#32
  let v4110 : BitVec 32 := Scalar.muli v4107 c64_i32_2712
  let v4142 : Index := Scalar.indexCast v4110
  let c0_2741 : Index := 0#32
  ![v4142.toNat, 0]

def k0_off378 (v4111 : BitVec 32) : Fin 2 → Nat :=
  let c63_i32_2716 : BitVec 32 := 63#32
  let c0_i32_2715 : BitVec 32 := 0#32
  let v4112 : BitVec 32 := Scalar.maxsi c0_i32_2715 v4111
  let v4113 : BitVec 32 := Scalar.minsi c63_i32_2716 v4112
  let c64_i32_2720 : BitVec 32 := 64#32
  let v4116 : BitVec 32 := Scalar.muli v4113 c64_i32_2720
  let v4144 : Index := Scalar.indexCast v4116
  let c0_2742 : Index := 0#32
  ![v4144.toNat, 0]

def k0_off379 (v4117 : BitVec 32) : Fin 2 → Nat :=
  let c63_i32_2724 : BitVec 32 := 63#32
  let c0_i32_2723 : BitVec 32 := 0#32
  let v4118 : BitVec 32 := Scalar.maxsi c0_i32_2723 v4117
  let v4119 : BitVec 32 := Scalar.minsi c63_i32_2724 v4118
  let c64_i32_2728 : BitVec 32 := 64#32
  let v4122 : BitVec 32 := Scalar.muli v4119 c64_i32_2728
  let v4154 : Index := Scalar.indexCast v4122
  let c0_2744 : Index := 0#32
  ![v4154.toNat, 0]

def k0_off380 (v4123 : BitVec 32) : Fin 2 → Nat :=
  let c63_i32_2732 : BitVec 32 := 63#32
  let c0_i32_2731 : BitVec 32 := 0#32
  let v4124 : BitVec 32 := Scalar.maxsi c0_i32_2731 v4123
  let v4125 : BitVec 32 := Scalar.minsi c63_i32_2732 v4124
  let c64_i32_2736 : BitVec 32 := 64#32
  let v4128 : BitVec 32 := Scalar.muli v4125 c64_i32_2736
  let v4156 : Index := Scalar.indexCast v4128
  let c0_2745 : Index := 0#32
  ![v4156.toNat, 0]

def k0_chk210 (v4123 : BitVec 32) : Prop :=
  (∀ a, (k0_off380 v4123) a + S64x128.size a ≤ S4096x128.size a)
theorem k0_off380_inb : ∀ (v4123 : BitVec 32) (k0_hw210 : k0_chk210 v4123), ∀ a, (k0_off380 v4123) a + S64x128.size a ≤ S4096x128.size a := fun v4123 k0_hw210 => k0_hw210

def k0_off381 (v4093 : BitVec 32) : Fin 2 → Nat :=
  let c63_i32_2692 : BitVec 32 := 63#32
  let c0_i32_2691 : BitVec 32 := 0#32
  let v4094 : BitVec 32 := Scalar.maxsi c0_i32_2691 v4093
  let v4095 : BitVec 32 := Scalar.minsi c63_i32_2692 v4094
  let c64_i32_2696 : BitVec 32 := 64#32
  let v4098 : BitVec 32 := Scalar.muli v4095 c64_i32_2696
  let v4183 : Index := Scalar.indexCast v4098
  let c0_2755 : Index := 0#32
  ![v4183.toNat, 0]

def k0_chk205 (v4093 : BitVec 32) : Prop :=
  (∀ a, (k0_off375 v4093) a + S64x128.size a ≤ S4096x128.size a) ∧
  (∀ a, (k0_off381 v4093) a + S64x128.size a ≤ S4096x128.size a)
theorem k0_off375_inb : ∀ (v4093 : BitVec 32) (k0_hw205 : k0_chk205 v4093), ∀ a, (k0_off375 v4093) a + S64x128.size a ≤ S4096x128.size a := fun v4093 k0_hw205 => k0_hw205.1
theorem k0_off381_inb : ∀ (v4093 : BitVec 32) (k0_hw205 : k0_chk205 v4093), ∀ a, (k0_off381 v4093) a + S64x128.size a ≤ S4096x128.size a := fun v4093 k0_hw205 => k0_hw205.2

def k0_off382 (v4099 : BitVec 32) : Fin 2 → Nat :=
  let c63_i32_2700 : BitVec 32 := 63#32
  let c0_i32_2699 : BitVec 32 := 0#32
  let v4100 : BitVec 32 := Scalar.maxsi c0_i32_2699 v4099
  let v4101 : BitVec 32 := Scalar.minsi c63_i32_2700 v4100
  let c64_i32_2704 : BitVec 32 := 64#32
  let v4104 : BitVec 32 := Scalar.muli v4101 c64_i32_2704
  let v4185 : Index := Scalar.indexCast v4104
  let c0_2756 : Index := 0#32
  ![v4185.toNat, 0]

def k0_chk206 (v4099 : BitVec 32) : Prop :=
  (∀ a, (k0_off376 v4099) a + S64x128.size a ≤ S4096x128.size a) ∧
  (∀ a, (k0_off382 v4099) a + S64x128.size a ≤ S4096x128.size a)
theorem k0_off376_inb : ∀ (v4099 : BitVec 32) (k0_hw206 : k0_chk206 v4099), ∀ a, (k0_off376 v4099) a + S64x128.size a ≤ S4096x128.size a := fun v4099 k0_hw206 => k0_hw206.1
theorem k0_off382_inb : ∀ (v4099 : BitVec 32) (k0_hw206 : k0_chk206 v4099), ∀ a, (k0_off382 v4099) a + S64x128.size a ≤ S4096x128.size a := fun v4099 k0_hw206 => k0_hw206.2

def k0_off383 (v4105 : BitVec 32) : Fin 2 → Nat :=
  let c63_i32_2708 : BitVec 32 := 63#32
  let c0_i32_2707 : BitVec 32 := 0#32
  let v4106 : BitVec 32 := Scalar.maxsi c0_i32_2707 v4105
  let v4107 : BitVec 32 := Scalar.minsi c63_i32_2708 v4106
  let c64_i32_2712 : BitVec 32 := 64#32
  let v4110 : BitVec 32 := Scalar.muli v4107 c64_i32_2712
  let v4191 : Index := Scalar.indexCast v4110
  let c0_2758 : Index := 0#32
  ![v4191.toNat, 0]

def k0_chk207 (v4105 : BitVec 32) : Prop :=
  (∀ a, (k0_off377 v4105) a + S64x128.size a ≤ S4096x128.size a) ∧
  (∀ a, (k0_off383 v4105) a + S64x128.size a ≤ S4096x128.size a)
theorem k0_off377_inb : ∀ (v4105 : BitVec 32) (k0_hw207 : k0_chk207 v4105), ∀ a, (k0_off377 v4105) a + S64x128.size a ≤ S4096x128.size a := fun v4105 k0_hw207 => k0_hw207.1
theorem k0_off383_inb : ∀ (v4105 : BitVec 32) (k0_hw207 : k0_chk207 v4105), ∀ a, (k0_off383 v4105) a + S64x128.size a ≤ S4096x128.size a := fun v4105 k0_hw207 => k0_hw207.2

def k0_off384 (v4111 : BitVec 32) : Fin 2 → Nat :=
  let c63_i32_2716 : BitVec 32 := 63#32
  let c0_i32_2715 : BitVec 32 := 0#32
  let v4112 : BitVec 32 := Scalar.maxsi c0_i32_2715 v4111
  let v4113 : BitVec 32 := Scalar.minsi c63_i32_2716 v4112
  let c64_i32_2720 : BitVec 32 := 64#32
  let v4116 : BitVec 32 := Scalar.muli v4113 c64_i32_2720
  let v4193 : Index := Scalar.indexCast v4116
  let c0_2759 : Index := 0#32
  ![v4193.toNat, 0]

def k0_chk208 (v4111 : BitVec 32) : Prop :=
  (∀ a, (k0_off378 v4111) a + S64x128.size a ≤ S4096x128.size a) ∧
  (∀ a, (k0_off384 v4111) a + S64x128.size a ≤ S4096x128.size a)
theorem k0_off378_inb : ∀ (v4111 : BitVec 32) (k0_hw208 : k0_chk208 v4111), ∀ a, (k0_off378 v4111) a + S64x128.size a ≤ S4096x128.size a := fun v4111 k0_hw208 => k0_hw208.1
theorem k0_off384_inb : ∀ (v4111 : BitVec 32) (k0_hw208 : k0_chk208 v4111), ∀ a, (k0_off384 v4111) a + S64x128.size a ≤ S4096x128.size a := fun v4111 k0_hw208 => k0_hw208.2

def k0_off385 (v4117 : BitVec 32) : Fin 2 → Nat :=
  let c63_i32_2724 : BitVec 32 := 63#32
  let c0_i32_2723 : BitVec 32 := 0#32
  let v4118 : BitVec 32 := Scalar.maxsi c0_i32_2723 v4117
  let v4119 : BitVec 32 := Scalar.minsi c63_i32_2724 v4118
  let c64_i32_2728 : BitVec 32 := 64#32
  let v4122 : BitVec 32 := Scalar.muli v4119 c64_i32_2728
  let v4199 : Index := Scalar.indexCast v4122
  let c0_2761 : Index := 0#32
  ![v4199.toNat, 0]

def k0_chk209 (v4117 : BitVec 32) : Prop :=
  (∀ a, (k0_off379 v4117) a + S64x128.size a ≤ S4096x128.size a) ∧
  (∀ a, (k0_off385 v4117) a + S64x128.size a ≤ S4096x128.size a)
theorem k0_off379_inb : ∀ (v4117 : BitVec 32) (k0_hw209 : k0_chk209 v4117), ∀ a, (k0_off379 v4117) a + S64x128.size a ≤ S4096x128.size a := fun v4117 k0_hw209 => k0_hw209.1
theorem k0_off385_inb : ∀ (v4117 : BitVec 32) (k0_hw209 : k0_chk209 v4117), ∀ a, (k0_off385 v4117) a + S64x128.size a ≤ S4096x128.size a := fun v4117 k0_hw209 => k0_hw209.2

def k0_off386 (v4212 : BitVec 32) : Fin 2 → Nat :=
  let c63_i32_2770 : BitVec 32 := 63#32
  let c0_i32_2769 : BitVec 32 := 0#32
  let v4213 : BitVec 32 := Scalar.maxsi c0_i32_2769 v4212
  let v4214 : BitVec 32 := Scalar.minsi c63_i32_2770 v4213
  let c64_i32_2774 : BitVec 32 := 64#32
  let v4217 : BitVec 32 := Scalar.muli v4214 c64_i32_2774
  let v4249 : Index := Scalar.indexCast v4217
  let c0_2816 : Index := 0#32
  ![v4249.toNat, 0]

def k0_off387 (v4218 : BitVec 32) : Fin 2 → Nat :=
  let c63_i32_2778 : BitVec 32 := 63#32
  let c0_i32_2777 : BitVec 32 := 0#32
  let v4219 : BitVec 32 := Scalar.maxsi c0_i32_2777 v4218
  let v4220 : BitVec 32 := Scalar.minsi c63_i32_2778 v4219
  let c64_i32_2782 : BitVec 32 := 64#32
  let v4223 : BitVec 32 := Scalar.muli v4220 c64_i32_2782
  let v4251 : Index := Scalar.indexCast v4223
  let c0_2817 : Index := 0#32
  ![v4251.toNat, 0]

def k0_off388 (v4224 : BitVec 32) : Fin 2 → Nat :=
  let c63_i32_2786 : BitVec 32 := 63#32
  let c0_i32_2785 : BitVec 32 := 0#32
  let v4225 : BitVec 32 := Scalar.maxsi c0_i32_2785 v4224
  let v4226 : BitVec 32 := Scalar.minsi c63_i32_2786 v4225
  let c64_i32_2790 : BitVec 32 := 64#32
  let v4229 : BitVec 32 := Scalar.muli v4226 c64_i32_2790
  let v4261 : Index := Scalar.indexCast v4229
  let c0_2819 : Index := 0#32
  ![v4261.toNat, 0]

def k0_off389 (v4230 : BitVec 32) : Fin 2 → Nat :=
  let c63_i32_2794 : BitVec 32 := 63#32
  let c0_i32_2793 : BitVec 32 := 0#32
  let v4231 : BitVec 32 := Scalar.maxsi c0_i32_2793 v4230
  let v4232 : BitVec 32 := Scalar.minsi c63_i32_2794 v4231
  let c64_i32_2798 : BitVec 32 := 64#32
  let v4235 : BitVec 32 := Scalar.muli v4232 c64_i32_2798
  let v4263 : Index := Scalar.indexCast v4235
  let c0_2820 : Index := 0#32
  ![v4263.toNat, 0]

def k0_off390 (v4236 : BitVec 32) : Fin 2 → Nat :=
  let c63_i32_2802 : BitVec 32 := 63#32
  let c0_i32_2801 : BitVec 32 := 0#32
  let v4237 : BitVec 32 := Scalar.maxsi c0_i32_2801 v4236
  let v4238 : BitVec 32 := Scalar.minsi c63_i32_2802 v4237
  let c64_i32_2806 : BitVec 32 := 64#32
  let v4241 : BitVec 32 := Scalar.muli v4238 c64_i32_2806
  let v4273 : Index := Scalar.indexCast v4241
  let c0_2822 : Index := 0#32
  ![v4273.toNat, 0]

def k0_off391 (v4242 : BitVec 32) : Fin 2 → Nat :=
  let c63_i32_2810 : BitVec 32 := 63#32
  let c0_i32_2809 : BitVec 32 := 0#32
  let v4243 : BitVec 32 := Scalar.maxsi c0_i32_2809 v4242
  let v4244 : BitVec 32 := Scalar.minsi c63_i32_2810 v4243
  let c64_i32_2814 : BitVec 32 := 64#32
  let v4247 : BitVec 32 := Scalar.muli v4244 c64_i32_2814
  let v4275 : Index := Scalar.indexCast v4247
  let c0_2823 : Index := 0#32
  ![v4275.toNat, 0]

def k0_chk216 (v4242 : BitVec 32) : Prop :=
  (∀ a, (k0_off391 v4242) a + S64x128.size a ≤ S4096x128.size a)
theorem k0_off391_inb : ∀ (v4242 : BitVec 32) (k0_hw216 : k0_chk216 v4242), ∀ a, (k0_off391 v4242) a + S64x128.size a ≤ S4096x128.size a := fun v4242 k0_hw216 => k0_hw216

def k0_off392 (v4212 : BitVec 32) : Fin 2 → Nat :=
  let c63_i32_2770 : BitVec 32 := 63#32
  let c0_i32_2769 : BitVec 32 := 0#32
  let v4213 : BitVec 32 := Scalar.maxsi c0_i32_2769 v4212
  let v4214 : BitVec 32 := Scalar.minsi c63_i32_2770 v4213
  let c64_i32_2774 : BitVec 32 := 64#32
  let v4217 : BitVec 32 := Scalar.muli v4214 c64_i32_2774
  let v4302 : Index := Scalar.indexCast v4217
  let c0_2833 : Index := 0#32
  ![v4302.toNat, 0]

def k0_chk211 (v4212 : BitVec 32) : Prop :=
  (∀ a, (k0_off386 v4212) a + S64x128.size a ≤ S4096x128.size a) ∧
  (∀ a, (k0_off392 v4212) a + S64x128.size a ≤ S4096x128.size a)
theorem k0_off386_inb : ∀ (v4212 : BitVec 32) (k0_hw211 : k0_chk211 v4212), ∀ a, (k0_off386 v4212) a + S64x128.size a ≤ S4096x128.size a := fun v4212 k0_hw211 => k0_hw211.1
theorem k0_off392_inb : ∀ (v4212 : BitVec 32) (k0_hw211 : k0_chk211 v4212), ∀ a, (k0_off392 v4212) a + S64x128.size a ≤ S4096x128.size a := fun v4212 k0_hw211 => k0_hw211.2

def k0_off393 (v4218 : BitVec 32) : Fin 2 → Nat :=
  let c63_i32_2778 : BitVec 32 := 63#32
  let c0_i32_2777 : BitVec 32 := 0#32
  let v4219 : BitVec 32 := Scalar.maxsi c0_i32_2777 v4218
  let v4220 : BitVec 32 := Scalar.minsi c63_i32_2778 v4219
  let c64_i32_2782 : BitVec 32 := 64#32
  let v4223 : BitVec 32 := Scalar.muli v4220 c64_i32_2782
  let v4304 : Index := Scalar.indexCast v4223
  let c0_2834 : Index := 0#32
  ![v4304.toNat, 0]

def k0_chk212 (v4218 : BitVec 32) : Prop :=
  (∀ a, (k0_off387 v4218) a + S64x128.size a ≤ S4096x128.size a) ∧
  (∀ a, (k0_off393 v4218) a + S64x128.size a ≤ S4096x128.size a)
theorem k0_off387_inb : ∀ (v4218 : BitVec 32) (k0_hw212 : k0_chk212 v4218), ∀ a, (k0_off387 v4218) a + S64x128.size a ≤ S4096x128.size a := fun v4218 k0_hw212 => k0_hw212.1
theorem k0_off393_inb : ∀ (v4218 : BitVec 32) (k0_hw212 : k0_chk212 v4218), ∀ a, (k0_off393 v4218) a + S64x128.size a ≤ S4096x128.size a := fun v4218 k0_hw212 => k0_hw212.2

def k0_off394 (v4224 : BitVec 32) : Fin 2 → Nat :=
  let c63_i32_2786 : BitVec 32 := 63#32
  let c0_i32_2785 : BitVec 32 := 0#32
  let v4225 : BitVec 32 := Scalar.maxsi c0_i32_2785 v4224
  let v4226 : BitVec 32 := Scalar.minsi c63_i32_2786 v4225
  let c64_i32_2790 : BitVec 32 := 64#32
  let v4229 : BitVec 32 := Scalar.muli v4226 c64_i32_2790
  let v4310 : Index := Scalar.indexCast v4229
  let c0_2836 : Index := 0#32
  ![v4310.toNat, 0]

def k0_chk213 (v4224 : BitVec 32) : Prop :=
  (∀ a, (k0_off388 v4224) a + S64x128.size a ≤ S4096x128.size a) ∧
  (∀ a, (k0_off394 v4224) a + S64x128.size a ≤ S4096x128.size a)
theorem k0_off388_inb : ∀ (v4224 : BitVec 32) (k0_hw213 : k0_chk213 v4224), ∀ a, (k0_off388 v4224) a + S64x128.size a ≤ S4096x128.size a := fun v4224 k0_hw213 => k0_hw213.1
theorem k0_off394_inb : ∀ (v4224 : BitVec 32) (k0_hw213 : k0_chk213 v4224), ∀ a, (k0_off394 v4224) a + S64x128.size a ≤ S4096x128.size a := fun v4224 k0_hw213 => k0_hw213.2

def k0_off395 (v4230 : BitVec 32) : Fin 2 → Nat :=
  let c63_i32_2794 : BitVec 32 := 63#32
  let c0_i32_2793 : BitVec 32 := 0#32
  let v4231 : BitVec 32 := Scalar.maxsi c0_i32_2793 v4230
  let v4232 : BitVec 32 := Scalar.minsi c63_i32_2794 v4231
  let c64_i32_2798 : BitVec 32 := 64#32
  let v4235 : BitVec 32 := Scalar.muli v4232 c64_i32_2798
  let v4312 : Index := Scalar.indexCast v4235
  let c0_2837 : Index := 0#32
  ![v4312.toNat, 0]

def k0_chk214 (v4230 : BitVec 32) : Prop :=
  (∀ a, (k0_off389 v4230) a + S64x128.size a ≤ S4096x128.size a) ∧
  (∀ a, (k0_off395 v4230) a + S64x128.size a ≤ S4096x128.size a)
theorem k0_off389_inb : ∀ (v4230 : BitVec 32) (k0_hw214 : k0_chk214 v4230), ∀ a, (k0_off389 v4230) a + S64x128.size a ≤ S4096x128.size a := fun v4230 k0_hw214 => k0_hw214.1
theorem k0_off395_inb : ∀ (v4230 : BitVec 32) (k0_hw214 : k0_chk214 v4230), ∀ a, (k0_off395 v4230) a + S64x128.size a ≤ S4096x128.size a := fun v4230 k0_hw214 => k0_hw214.2

def k0_off396 (v4236 : BitVec 32) : Fin 2 → Nat :=
  let c63_i32_2802 : BitVec 32 := 63#32
  let c0_i32_2801 : BitVec 32 := 0#32
  let v4237 : BitVec 32 := Scalar.maxsi c0_i32_2801 v4236
  let v4238 : BitVec 32 := Scalar.minsi c63_i32_2802 v4237
  let c64_i32_2806 : BitVec 32 := 64#32
  let v4241 : BitVec 32 := Scalar.muli v4238 c64_i32_2806
  let v4318 : Index := Scalar.indexCast v4241
  let c0_2839 : Index := 0#32
  ![v4318.toNat, 0]

def k0_chk215 (v4236 : BitVec 32) : Prop :=
  (∀ a, (k0_off390 v4236) a + S64x128.size a ≤ S4096x128.size a) ∧
  (∀ a, (k0_off396 v4236) a + S64x128.size a ≤ S4096x128.size a)
theorem k0_off390_inb : ∀ (v4236 : BitVec 32) (k0_hw215 : k0_chk215 v4236), ∀ a, (k0_off390 v4236) a + S64x128.size a ≤ S4096x128.size a := fun v4236 k0_hw215 => k0_hw215.1
theorem k0_off396_inb : ∀ (v4236 : BitVec 32) (k0_hw215 : k0_chk215 v4236), ∀ a, (k0_off396 v4236) a + S64x128.size a ≤ S4096x128.size a := fun v4236 k0_hw215 => k0_hw215.2

def k0_off397 (v4331 : BitVec 32) : Fin 2 → Nat :=
  let c63_i32_2848 : BitVec 32 := 63#32
  let c0_i32_2847 : BitVec 32 := 0#32
  let v4332 : BitVec 32 := Scalar.maxsi c0_i32_2847 v4331
  let v4333 : BitVec 32 := Scalar.minsi c63_i32_2848 v4332
  let c64_i32_2852 : BitVec 32 := 64#32
  let v4336 : BitVec 32 := Scalar.muli v4333 c64_i32_2852
  let v4368 : Index := Scalar.indexCast v4336
  let c0_2894 : Index := 0#32
  ![v4368.toNat, 0]

def k0_off398 (v4337 : BitVec 32) : Fin 2 → Nat :=
  let c63_i32_2856 : BitVec 32 := 63#32
  let c0_i32_2855 : BitVec 32 := 0#32
  let v4338 : BitVec 32 := Scalar.maxsi c0_i32_2855 v4337
  let v4339 : BitVec 32 := Scalar.minsi c63_i32_2856 v4338
  let c64_i32_2860 : BitVec 32 := 64#32
  let v4342 : BitVec 32 := Scalar.muli v4339 c64_i32_2860
  let v4370 : Index := Scalar.indexCast v4342
  let c0_2895 : Index := 0#32
  ![v4370.toNat, 0]

def k0_off399 (v4343 : BitVec 32) : Fin 2 → Nat :=
  let c63_i32_2864 : BitVec 32 := 63#32
  let c0_i32_2863 : BitVec 32 := 0#32
  let v4344 : BitVec 32 := Scalar.maxsi c0_i32_2863 v4343
  let v4345 : BitVec 32 := Scalar.minsi c63_i32_2864 v4344
  let c64_i32_2868 : BitVec 32 := 64#32
  let v4348 : BitVec 32 := Scalar.muli v4345 c64_i32_2868
  let v4380 : Index := Scalar.indexCast v4348
  let c0_2897 : Index := 0#32
  ![v4380.toNat, 0]

def k0_off400 (v4349 : BitVec 32) : Fin 2 → Nat :=
  let c63_i32_2872 : BitVec 32 := 63#32
  let c0_i32_2871 : BitVec 32 := 0#32
  let v4350 : BitVec 32 := Scalar.maxsi c0_i32_2871 v4349
  let v4351 : BitVec 32 := Scalar.minsi c63_i32_2872 v4350
  let c64_i32_2876 : BitVec 32 := 64#32
  let v4354 : BitVec 32 := Scalar.muli v4351 c64_i32_2876
  let v4382 : Index := Scalar.indexCast v4354
  let c0_2898 : Index := 0#32
  ![v4382.toNat, 0]

def k0_off401 (v4355 : BitVec 32) : Fin 2 → Nat :=
  let c63_i32_2880 : BitVec 32 := 63#32
  let c0_i32_2879 : BitVec 32 := 0#32
  let v4356 : BitVec 32 := Scalar.maxsi c0_i32_2879 v4355
  let v4357 : BitVec 32 := Scalar.minsi c63_i32_2880 v4356
  let c64_i32_2884 : BitVec 32 := 64#32
  let v4360 : BitVec 32 := Scalar.muli v4357 c64_i32_2884
  let v4392 : Index := Scalar.indexCast v4360
  let c0_2900 : Index := 0#32
  ![v4392.toNat, 0]

def k0_off402 (v4361 : BitVec 32) : Fin 2 → Nat :=
  let c63_i32_2888 : BitVec 32 := 63#32
  let c0_i32_2887 : BitVec 32 := 0#32
  let v4362 : BitVec 32 := Scalar.maxsi c0_i32_2887 v4361
  let v4363 : BitVec 32 := Scalar.minsi c63_i32_2888 v4362
  let c64_i32_2892 : BitVec 32 := 64#32
  let v4366 : BitVec 32 := Scalar.muli v4363 c64_i32_2892
  let v4394 : Index := Scalar.indexCast v4366
  let c0_2901 : Index := 0#32
  ![v4394.toNat, 0]

def k0_chk222 (v4361 : BitVec 32) : Prop :=
  (∀ a, (k0_off402 v4361) a + S64x128.size a ≤ S4096x128.size a)
theorem k0_off402_inb : ∀ (v4361 : BitVec 32) (k0_hw222 : k0_chk222 v4361), ∀ a, (k0_off402 v4361) a + S64x128.size a ≤ S4096x128.size a := fun v4361 k0_hw222 => k0_hw222

def k0_off403 (v4331 : BitVec 32) : Fin 2 → Nat :=
  let c63_i32_2848 : BitVec 32 := 63#32
  let c0_i32_2847 : BitVec 32 := 0#32
  let v4332 : BitVec 32 := Scalar.maxsi c0_i32_2847 v4331
  let v4333 : BitVec 32 := Scalar.minsi c63_i32_2848 v4332
  let c64_i32_2852 : BitVec 32 := 64#32
  let v4336 : BitVec 32 := Scalar.muli v4333 c64_i32_2852
  let v4421 : Index := Scalar.indexCast v4336
  let c0_2911 : Index := 0#32
  ![v4421.toNat, 0]

def k0_chk217 (v4331 : BitVec 32) : Prop :=
  (∀ a, (k0_off397 v4331) a + S64x128.size a ≤ S4096x128.size a) ∧
  (∀ a, (k0_off403 v4331) a + S64x128.size a ≤ S4096x128.size a)
theorem k0_off397_inb : ∀ (v4331 : BitVec 32) (k0_hw217 : k0_chk217 v4331), ∀ a, (k0_off397 v4331) a + S64x128.size a ≤ S4096x128.size a := fun v4331 k0_hw217 => k0_hw217.1
theorem k0_off403_inb : ∀ (v4331 : BitVec 32) (k0_hw217 : k0_chk217 v4331), ∀ a, (k0_off403 v4331) a + S64x128.size a ≤ S4096x128.size a := fun v4331 k0_hw217 => k0_hw217.2

def k0_off404 (v4337 : BitVec 32) : Fin 2 → Nat :=
  let c63_i32_2856 : BitVec 32 := 63#32
  let c0_i32_2855 : BitVec 32 := 0#32
  let v4338 : BitVec 32 := Scalar.maxsi c0_i32_2855 v4337
  let v4339 : BitVec 32 := Scalar.minsi c63_i32_2856 v4338
  let c64_i32_2860 : BitVec 32 := 64#32
  let v4342 : BitVec 32 := Scalar.muli v4339 c64_i32_2860
  let v4423 : Index := Scalar.indexCast v4342
  let c0_2912 : Index := 0#32
  ![v4423.toNat, 0]

def k0_chk218 (v4337 : BitVec 32) : Prop :=
  (∀ a, (k0_off398 v4337) a + S64x128.size a ≤ S4096x128.size a) ∧
  (∀ a, (k0_off404 v4337) a + S64x128.size a ≤ S4096x128.size a)
theorem k0_off398_inb : ∀ (v4337 : BitVec 32) (k0_hw218 : k0_chk218 v4337), ∀ a, (k0_off398 v4337) a + S64x128.size a ≤ S4096x128.size a := fun v4337 k0_hw218 => k0_hw218.1
theorem k0_off404_inb : ∀ (v4337 : BitVec 32) (k0_hw218 : k0_chk218 v4337), ∀ a, (k0_off404 v4337) a + S64x128.size a ≤ S4096x128.size a := fun v4337 k0_hw218 => k0_hw218.2

def k0_off405 (v4343 : BitVec 32) : Fin 2 → Nat :=
  let c63_i32_2864 : BitVec 32 := 63#32
  let c0_i32_2863 : BitVec 32 := 0#32
  let v4344 : BitVec 32 := Scalar.maxsi c0_i32_2863 v4343
  let v4345 : BitVec 32 := Scalar.minsi c63_i32_2864 v4344
  let c64_i32_2868 : BitVec 32 := 64#32
  let v4348 : BitVec 32 := Scalar.muli v4345 c64_i32_2868
  let v4429 : Index := Scalar.indexCast v4348
  let c0_2914 : Index := 0#32
  ![v4429.toNat, 0]

def k0_chk219 (v4343 : BitVec 32) : Prop :=
  (∀ a, (k0_off399 v4343) a + S64x128.size a ≤ S4096x128.size a) ∧
  (∀ a, (k0_off405 v4343) a + S64x128.size a ≤ S4096x128.size a)
theorem k0_off399_inb : ∀ (v4343 : BitVec 32) (k0_hw219 : k0_chk219 v4343), ∀ a, (k0_off399 v4343) a + S64x128.size a ≤ S4096x128.size a := fun v4343 k0_hw219 => k0_hw219.1
theorem k0_off405_inb : ∀ (v4343 : BitVec 32) (k0_hw219 : k0_chk219 v4343), ∀ a, (k0_off405 v4343) a + S64x128.size a ≤ S4096x128.size a := fun v4343 k0_hw219 => k0_hw219.2

def k0_off406 (v4349 : BitVec 32) : Fin 2 → Nat :=
  let c63_i32_2872 : BitVec 32 := 63#32
  let c0_i32_2871 : BitVec 32 := 0#32
  let v4350 : BitVec 32 := Scalar.maxsi c0_i32_2871 v4349
  let v4351 : BitVec 32 := Scalar.minsi c63_i32_2872 v4350
  let c64_i32_2876 : BitVec 32 := 64#32
  let v4354 : BitVec 32 := Scalar.muli v4351 c64_i32_2876
  let v4431 : Index := Scalar.indexCast v4354
  let c0_2915 : Index := 0#32
  ![v4431.toNat, 0]

def k0_chk220 (v4349 : BitVec 32) : Prop :=
  (∀ a, (k0_off400 v4349) a + S64x128.size a ≤ S4096x128.size a) ∧
  (∀ a, (k0_off406 v4349) a + S64x128.size a ≤ S4096x128.size a)
theorem k0_off400_inb : ∀ (v4349 : BitVec 32) (k0_hw220 : k0_chk220 v4349), ∀ a, (k0_off400 v4349) a + S64x128.size a ≤ S4096x128.size a := fun v4349 k0_hw220 => k0_hw220.1
theorem k0_off406_inb : ∀ (v4349 : BitVec 32) (k0_hw220 : k0_chk220 v4349), ∀ a, (k0_off406 v4349) a + S64x128.size a ≤ S4096x128.size a := fun v4349 k0_hw220 => k0_hw220.2

def k0_off407 (v4355 : BitVec 32) : Fin 2 → Nat :=
  let c63_i32_2880 : BitVec 32 := 63#32
  let c0_i32_2879 : BitVec 32 := 0#32
  let v4356 : BitVec 32 := Scalar.maxsi c0_i32_2879 v4355
  let v4357 : BitVec 32 := Scalar.minsi c63_i32_2880 v4356
  let c64_i32_2884 : BitVec 32 := 64#32
  let v4360 : BitVec 32 := Scalar.muli v4357 c64_i32_2884
  let v4437 : Index := Scalar.indexCast v4360
  let c0_2917 : Index := 0#32
  ![v4437.toNat, 0]

def k0_chk221 (v4355 : BitVec 32) : Prop :=
  (∀ a, (k0_off401 v4355) a + S64x128.size a ≤ S4096x128.size a) ∧
  (∀ a, (k0_off407 v4355) a + S64x128.size a ≤ S4096x128.size a)
theorem k0_off401_inb : ∀ (v4355 : BitVec 32) (k0_hw221 : k0_chk221 v4355), ∀ a, (k0_off401 v4355) a + S64x128.size a ≤ S4096x128.size a := fun v4355 k0_hw221 => k0_hw221.1
theorem k0_off407_inb : ∀ (v4355 : BitVec 32) (k0_hw221 : k0_chk221 v4355), ∀ a, (k0_off407 v4355) a + S64x128.size a ≤ S4096x128.size a := fun v4355 k0_hw221 => k0_hw221.2

def k0_off408 (v4450 : BitVec 32) : Fin 2 → Nat :=
  let c63_i32_2926 : BitVec 32 := 63#32
  let c0_i32_2925 : BitVec 32 := 0#32
  let v4451 : BitVec 32 := Scalar.maxsi c0_i32_2925 v4450
  let v4452 : BitVec 32 := Scalar.minsi c63_i32_2926 v4451
  let c64_i32_2930 : BitVec 32 := 64#32
  let v4455 : BitVec 32 := Scalar.muli v4452 c64_i32_2930
  let v4487 : Index := Scalar.indexCast v4455
  let c0_2972 : Index := 0#32
  ![v4487.toNat, 0]

def k0_off409 (v4456 : BitVec 32) : Fin 2 → Nat :=
  let c63_i32_2934 : BitVec 32 := 63#32
  let c0_i32_2933 : BitVec 32 := 0#32
  let v4457 : BitVec 32 := Scalar.maxsi c0_i32_2933 v4456
  let v4458 : BitVec 32 := Scalar.minsi c63_i32_2934 v4457
  let c64_i32_2938 : BitVec 32 := 64#32
  let v4461 : BitVec 32 := Scalar.muli v4458 c64_i32_2938
  let v4489 : Index := Scalar.indexCast v4461
  let c0_2973 : Index := 0#32
  ![v4489.toNat, 0]

def k0_off410 (v4462 : BitVec 32) : Fin 2 → Nat :=
  let c63_i32_2942 : BitVec 32 := 63#32
  let c0_i32_2941 : BitVec 32 := 0#32
  let v4463 : BitVec 32 := Scalar.maxsi c0_i32_2941 v4462
  let v4464 : BitVec 32 := Scalar.minsi c63_i32_2942 v4463
  let c64_i32_2946 : BitVec 32 := 64#32
  let v4467 : BitVec 32 := Scalar.muli v4464 c64_i32_2946
  let v4499 : Index := Scalar.indexCast v4467
  let c0_2975 : Index := 0#32
  ![v4499.toNat, 0]

def k0_off411 (v4468 : BitVec 32) : Fin 2 → Nat :=
  let c63_i32_2950 : BitVec 32 := 63#32
  let c0_i32_2949 : BitVec 32 := 0#32
  let v4469 : BitVec 32 := Scalar.maxsi c0_i32_2949 v4468
  let v4470 : BitVec 32 := Scalar.minsi c63_i32_2950 v4469
  let c64_i32_2954 : BitVec 32 := 64#32
  let v4473 : BitVec 32 := Scalar.muli v4470 c64_i32_2954
  let v4501 : Index := Scalar.indexCast v4473
  let c0_2976 : Index := 0#32
  ![v4501.toNat, 0]

def k0_off412 (v4474 : BitVec 32) : Fin 2 → Nat :=
  let c63_i32_2958 : BitVec 32 := 63#32
  let c0_i32_2957 : BitVec 32 := 0#32
  let v4475 : BitVec 32 := Scalar.maxsi c0_i32_2957 v4474
  let v4476 : BitVec 32 := Scalar.minsi c63_i32_2958 v4475
  let c64_i32_2962 : BitVec 32 := 64#32
  let v4479 : BitVec 32 := Scalar.muli v4476 c64_i32_2962
  let v4511 : Index := Scalar.indexCast v4479
  let c0_2978 : Index := 0#32
  ![v4511.toNat, 0]

def k0_off413 (v4480 : BitVec 32) : Fin 2 → Nat :=
  let c63_i32_2966 : BitVec 32 := 63#32
  let c0_i32_2965 : BitVec 32 := 0#32
  let v4481 : BitVec 32 := Scalar.maxsi c0_i32_2965 v4480
  let v4482 : BitVec 32 := Scalar.minsi c63_i32_2966 v4481
  let c64_i32_2970 : BitVec 32 := 64#32
  let v4485 : BitVec 32 := Scalar.muli v4482 c64_i32_2970
  let v4513 : Index := Scalar.indexCast v4485
  let c0_2979 : Index := 0#32
  ![v4513.toNat, 0]

def k0_chk228 (v4480 : BitVec 32) : Prop :=
  (∀ a, (k0_off413 v4480) a + S64x128.size a ≤ S4096x128.size a)
theorem k0_off413_inb : ∀ (v4480 : BitVec 32) (k0_hw228 : k0_chk228 v4480), ∀ a, (k0_off413 v4480) a + S64x128.size a ≤ S4096x128.size a := fun v4480 k0_hw228 => k0_hw228

def k0_off414 (v4450 : BitVec 32) : Fin 2 → Nat :=
  let c63_i32_2926 : BitVec 32 := 63#32
  let c0_i32_2925 : BitVec 32 := 0#32
  let v4451 : BitVec 32 := Scalar.maxsi c0_i32_2925 v4450
  let v4452 : BitVec 32 := Scalar.minsi c63_i32_2926 v4451
  let c64_i32_2930 : BitVec 32 := 64#32
  let v4455 : BitVec 32 := Scalar.muli v4452 c64_i32_2930
  let v4540 : Index := Scalar.indexCast v4455
  let c0_2989 : Index := 0#32
  ![v4540.toNat, 0]

def k0_chk223 (v4450 : BitVec 32) : Prop :=
  (∀ a, (k0_off408 v4450) a + S64x128.size a ≤ S4096x128.size a) ∧
  (∀ a, (k0_off414 v4450) a + S64x128.size a ≤ S4096x128.size a)
theorem k0_off408_inb : ∀ (v4450 : BitVec 32) (k0_hw223 : k0_chk223 v4450), ∀ a, (k0_off408 v4450) a + S64x128.size a ≤ S4096x128.size a := fun v4450 k0_hw223 => k0_hw223.1
theorem k0_off414_inb : ∀ (v4450 : BitVec 32) (k0_hw223 : k0_chk223 v4450), ∀ a, (k0_off414 v4450) a + S64x128.size a ≤ S4096x128.size a := fun v4450 k0_hw223 => k0_hw223.2

def k0_off415 (v4456 : BitVec 32) : Fin 2 → Nat :=
  let c63_i32_2934 : BitVec 32 := 63#32
  let c0_i32_2933 : BitVec 32 := 0#32
  let v4457 : BitVec 32 := Scalar.maxsi c0_i32_2933 v4456
  let v4458 : BitVec 32 := Scalar.minsi c63_i32_2934 v4457
  let c64_i32_2938 : BitVec 32 := 64#32
  let v4461 : BitVec 32 := Scalar.muli v4458 c64_i32_2938
  let v4542 : Index := Scalar.indexCast v4461
  let c0_2990 : Index := 0#32
  ![v4542.toNat, 0]

def k0_chk224 (v4456 : BitVec 32) : Prop :=
  (∀ a, (k0_off409 v4456) a + S64x128.size a ≤ S4096x128.size a) ∧
  (∀ a, (k0_off415 v4456) a + S64x128.size a ≤ S4096x128.size a)
theorem k0_off409_inb : ∀ (v4456 : BitVec 32) (k0_hw224 : k0_chk224 v4456), ∀ a, (k0_off409 v4456) a + S64x128.size a ≤ S4096x128.size a := fun v4456 k0_hw224 => k0_hw224.1
theorem k0_off415_inb : ∀ (v4456 : BitVec 32) (k0_hw224 : k0_chk224 v4456), ∀ a, (k0_off415 v4456) a + S64x128.size a ≤ S4096x128.size a := fun v4456 k0_hw224 => k0_hw224.2

def k0_off416 (v4462 : BitVec 32) : Fin 2 → Nat :=
  let c63_i32_2942 : BitVec 32 := 63#32
  let c0_i32_2941 : BitVec 32 := 0#32
  let v4463 : BitVec 32 := Scalar.maxsi c0_i32_2941 v4462
  let v4464 : BitVec 32 := Scalar.minsi c63_i32_2942 v4463
  let c64_i32_2946 : BitVec 32 := 64#32
  let v4467 : BitVec 32 := Scalar.muli v4464 c64_i32_2946
  let v4548 : Index := Scalar.indexCast v4467
  let c0_2992 : Index := 0#32
  ![v4548.toNat, 0]

def k0_chk225 (v4462 : BitVec 32) : Prop :=
  (∀ a, (k0_off410 v4462) a + S64x128.size a ≤ S4096x128.size a) ∧
  (∀ a, (k0_off416 v4462) a + S64x128.size a ≤ S4096x128.size a)
theorem k0_off410_inb : ∀ (v4462 : BitVec 32) (k0_hw225 : k0_chk225 v4462), ∀ a, (k0_off410 v4462) a + S64x128.size a ≤ S4096x128.size a := fun v4462 k0_hw225 => k0_hw225.1
theorem k0_off416_inb : ∀ (v4462 : BitVec 32) (k0_hw225 : k0_chk225 v4462), ∀ a, (k0_off416 v4462) a + S64x128.size a ≤ S4096x128.size a := fun v4462 k0_hw225 => k0_hw225.2

def k0_off417 (v4468 : BitVec 32) : Fin 2 → Nat :=
  let c63_i32_2950 : BitVec 32 := 63#32
  let c0_i32_2949 : BitVec 32 := 0#32
  let v4469 : BitVec 32 := Scalar.maxsi c0_i32_2949 v4468
  let v4470 : BitVec 32 := Scalar.minsi c63_i32_2950 v4469
  let c64_i32_2954 : BitVec 32 := 64#32
  let v4473 : BitVec 32 := Scalar.muli v4470 c64_i32_2954
  let v4550 : Index := Scalar.indexCast v4473
  let c0_2993 : Index := 0#32
  ![v4550.toNat, 0]

def k0_chk226 (v4468 : BitVec 32) : Prop :=
  (∀ a, (k0_off411 v4468) a + S64x128.size a ≤ S4096x128.size a) ∧
  (∀ a, (k0_off417 v4468) a + S64x128.size a ≤ S4096x128.size a)
theorem k0_off411_inb : ∀ (v4468 : BitVec 32) (k0_hw226 : k0_chk226 v4468), ∀ a, (k0_off411 v4468) a + S64x128.size a ≤ S4096x128.size a := fun v4468 k0_hw226 => k0_hw226.1
theorem k0_off417_inb : ∀ (v4468 : BitVec 32) (k0_hw226 : k0_chk226 v4468), ∀ a, (k0_off417 v4468) a + S64x128.size a ≤ S4096x128.size a := fun v4468 k0_hw226 => k0_hw226.2

def k0_off418 (v4474 : BitVec 32) : Fin 2 → Nat :=
  let c63_i32_2958 : BitVec 32 := 63#32
  let c0_i32_2957 : BitVec 32 := 0#32
  let v4475 : BitVec 32 := Scalar.maxsi c0_i32_2957 v4474
  let v4476 : BitVec 32 := Scalar.minsi c63_i32_2958 v4475
  let c64_i32_2962 : BitVec 32 := 64#32
  let v4479 : BitVec 32 := Scalar.muli v4476 c64_i32_2962
  let v4556 : Index := Scalar.indexCast v4479
  let c0_2995 : Index := 0#32
  ![v4556.toNat, 0]

def k0_chk227 (v4474 : BitVec 32) : Prop :=
  (∀ a, (k0_off412 v4474) a + S64x128.size a ≤ S4096x128.size a) ∧
  (∀ a, (k0_off418 v4474) a + S64x128.size a ≤ S4096x128.size a)
theorem k0_off412_inb : ∀ (v4474 : BitVec 32) (k0_hw227 : k0_chk227 v4474), ∀ a, (k0_off412 v4474) a + S64x128.size a ≤ S4096x128.size a := fun v4474 k0_hw227 => k0_hw227.1
theorem k0_off418_inb : ∀ (v4474 : BitVec 32) (k0_hw227 : k0_chk227 v4474), ∀ a, (k0_off418 v4474) a + S64x128.size a ≤ S4096x128.size a := fun v4474 k0_hw227 => k0_hw227.2

def k0_off419 (v4569 : BitVec 32) : Fin 2 → Nat :=
  let c63_i32_3004 : BitVec 32 := 63#32
  let c0_i32_3003 : BitVec 32 := 0#32
  let v4570 : BitVec 32 := Scalar.maxsi c0_i32_3003 v4569
  let v4571 : BitVec 32 := Scalar.minsi c63_i32_3004 v4570
  let c64_i32_3008 : BitVec 32 := 64#32
  let v4574 : BitVec 32 := Scalar.muli v4571 c64_i32_3008
  let v4606 : Index := Scalar.indexCast v4574
  let c0_3050 : Index := 0#32
  ![v4606.toNat, 0]

def k0_off420 (v4575 : BitVec 32) : Fin 2 → Nat :=
  let c63_i32_3012 : BitVec 32 := 63#32
  let c0_i32_3011 : BitVec 32 := 0#32
  let v4576 : BitVec 32 := Scalar.maxsi c0_i32_3011 v4575
  let v4577 : BitVec 32 := Scalar.minsi c63_i32_3012 v4576
  let c64_i32_3016 : BitVec 32 := 64#32
  let v4580 : BitVec 32 := Scalar.muli v4577 c64_i32_3016
  let v4608 : Index := Scalar.indexCast v4580
  let c0_3051 : Index := 0#32
  ![v4608.toNat, 0]

def k0_off421 (v4581 : BitVec 32) : Fin 2 → Nat :=
  let c63_i32_3020 : BitVec 32 := 63#32
  let c0_i32_3019 : BitVec 32 := 0#32
  let v4582 : BitVec 32 := Scalar.maxsi c0_i32_3019 v4581
  let v4583 : BitVec 32 := Scalar.minsi c63_i32_3020 v4582
  let c64_i32_3024 : BitVec 32 := 64#32
  let v4586 : BitVec 32 := Scalar.muli v4583 c64_i32_3024
  let v4618 : Index := Scalar.indexCast v4586
  let c0_3053 : Index := 0#32
  ![v4618.toNat, 0]

def k0_off422 (v4587 : BitVec 32) : Fin 2 → Nat :=
  let c63_i32_3028 : BitVec 32 := 63#32
  let c0_i32_3027 : BitVec 32 := 0#32
  let v4588 : BitVec 32 := Scalar.maxsi c0_i32_3027 v4587
  let v4589 : BitVec 32 := Scalar.minsi c63_i32_3028 v4588
  let c64_i32_3032 : BitVec 32 := 64#32
  let v4592 : BitVec 32 := Scalar.muli v4589 c64_i32_3032
  let v4620 : Index := Scalar.indexCast v4592
  let c0_3054 : Index := 0#32
  ![v4620.toNat, 0]

def k0_off423 (v4593 : BitVec 32) : Fin 2 → Nat :=
  let c63_i32_3036 : BitVec 32 := 63#32
  let c0_i32_3035 : BitVec 32 := 0#32
  let v4594 : BitVec 32 := Scalar.maxsi c0_i32_3035 v4593
  let v4595 : BitVec 32 := Scalar.minsi c63_i32_3036 v4594
  let c64_i32_3040 : BitVec 32 := 64#32
  let v4598 : BitVec 32 := Scalar.muli v4595 c64_i32_3040
  let v4630 : Index := Scalar.indexCast v4598
  let c0_3056 : Index := 0#32
  ![v4630.toNat, 0]

def k0_off424 (v4599 : BitVec 32) : Fin 2 → Nat :=
  let c63_i32_3044 : BitVec 32 := 63#32
  let c0_i32_3043 : BitVec 32 := 0#32
  let v4600 : BitVec 32 := Scalar.maxsi c0_i32_3043 v4599
  let v4601 : BitVec 32 := Scalar.minsi c63_i32_3044 v4600
  let c64_i32_3048 : BitVec 32 := 64#32
  let v4604 : BitVec 32 := Scalar.muli v4601 c64_i32_3048
  let v4632 : Index := Scalar.indexCast v4604
  let c0_3057 : Index := 0#32
  ![v4632.toNat, 0]

def k0_chk234 (v4599 : BitVec 32) : Prop :=
  (∀ a, (k0_off424 v4599) a + S64x128.size a ≤ S4096x128.size a)
theorem k0_off424_inb : ∀ (v4599 : BitVec 32) (k0_hw234 : k0_chk234 v4599), ∀ a, (k0_off424 v4599) a + S64x128.size a ≤ S4096x128.size a := fun v4599 k0_hw234 => k0_hw234

def k0_off425 (v4569 : BitVec 32) : Fin 2 → Nat :=
  let c63_i32_3004 : BitVec 32 := 63#32
  let c0_i32_3003 : BitVec 32 := 0#32
  let v4570 : BitVec 32 := Scalar.maxsi c0_i32_3003 v4569
  let v4571 : BitVec 32 := Scalar.minsi c63_i32_3004 v4570
  let c64_i32_3008 : BitVec 32 := 64#32
  let v4574 : BitVec 32 := Scalar.muli v4571 c64_i32_3008
  let v4659 : Index := Scalar.indexCast v4574
  let c0_3067 : Index := 0#32
  ![v4659.toNat, 0]

def k0_chk229 (v4569 : BitVec 32) : Prop :=
  (∀ a, (k0_off419 v4569) a + S64x128.size a ≤ S4096x128.size a) ∧
  (∀ a, (k0_off425 v4569) a + S64x128.size a ≤ S4096x128.size a)
theorem k0_off419_inb : ∀ (v4569 : BitVec 32) (k0_hw229 : k0_chk229 v4569), ∀ a, (k0_off419 v4569) a + S64x128.size a ≤ S4096x128.size a := fun v4569 k0_hw229 => k0_hw229.1
theorem k0_off425_inb : ∀ (v4569 : BitVec 32) (k0_hw229 : k0_chk229 v4569), ∀ a, (k0_off425 v4569) a + S64x128.size a ≤ S4096x128.size a := fun v4569 k0_hw229 => k0_hw229.2

def k0_off426 (v4575 : BitVec 32) : Fin 2 → Nat :=
  let c63_i32_3012 : BitVec 32 := 63#32
  let c0_i32_3011 : BitVec 32 := 0#32
  let v4576 : BitVec 32 := Scalar.maxsi c0_i32_3011 v4575
  let v4577 : BitVec 32 := Scalar.minsi c63_i32_3012 v4576
  let c64_i32_3016 : BitVec 32 := 64#32
  let v4580 : BitVec 32 := Scalar.muli v4577 c64_i32_3016
  let v4661 : Index := Scalar.indexCast v4580
  let c0_3068 : Index := 0#32
  ![v4661.toNat, 0]

def k0_chk230 (v4575 : BitVec 32) : Prop :=
  (∀ a, (k0_off420 v4575) a + S64x128.size a ≤ S4096x128.size a) ∧
  (∀ a, (k0_off426 v4575) a + S64x128.size a ≤ S4096x128.size a)
theorem k0_off420_inb : ∀ (v4575 : BitVec 32) (k0_hw230 : k0_chk230 v4575), ∀ a, (k0_off420 v4575) a + S64x128.size a ≤ S4096x128.size a := fun v4575 k0_hw230 => k0_hw230.1
theorem k0_off426_inb : ∀ (v4575 : BitVec 32) (k0_hw230 : k0_chk230 v4575), ∀ a, (k0_off426 v4575) a + S64x128.size a ≤ S4096x128.size a := fun v4575 k0_hw230 => k0_hw230.2

def k0_off427 (v4581 : BitVec 32) : Fin 2 → Nat :=
  let c63_i32_3020 : BitVec 32 := 63#32
  let c0_i32_3019 : BitVec 32 := 0#32
  let v4582 : BitVec 32 := Scalar.maxsi c0_i32_3019 v4581
  let v4583 : BitVec 32 := Scalar.minsi c63_i32_3020 v4582
  let c64_i32_3024 : BitVec 32 := 64#32
  let v4586 : BitVec 32 := Scalar.muli v4583 c64_i32_3024
  let v4667 : Index := Scalar.indexCast v4586
  let c0_3070 : Index := 0#32
  ![v4667.toNat, 0]

def k0_chk231 (v4581 : BitVec 32) : Prop :=
  (∀ a, (k0_off421 v4581) a + S64x128.size a ≤ S4096x128.size a) ∧
  (∀ a, (k0_off427 v4581) a + S64x128.size a ≤ S4096x128.size a)
theorem k0_off421_inb : ∀ (v4581 : BitVec 32) (k0_hw231 : k0_chk231 v4581), ∀ a, (k0_off421 v4581) a + S64x128.size a ≤ S4096x128.size a := fun v4581 k0_hw231 => k0_hw231.1
theorem k0_off427_inb : ∀ (v4581 : BitVec 32) (k0_hw231 : k0_chk231 v4581), ∀ a, (k0_off427 v4581) a + S64x128.size a ≤ S4096x128.size a := fun v4581 k0_hw231 => k0_hw231.2

def k0_off428 (v4587 : BitVec 32) : Fin 2 → Nat :=
  let c63_i32_3028 : BitVec 32 := 63#32
  let c0_i32_3027 : BitVec 32 := 0#32
  let v4588 : BitVec 32 := Scalar.maxsi c0_i32_3027 v4587
  let v4589 : BitVec 32 := Scalar.minsi c63_i32_3028 v4588
  let c64_i32_3032 : BitVec 32 := 64#32
  let v4592 : BitVec 32 := Scalar.muli v4589 c64_i32_3032
  let v4669 : Index := Scalar.indexCast v4592
  let c0_3071 : Index := 0#32
  ![v4669.toNat, 0]

def k0_chk232 (v4587 : BitVec 32) : Prop :=
  (∀ a, (k0_off422 v4587) a + S64x128.size a ≤ S4096x128.size a) ∧
  (∀ a, (k0_off428 v4587) a + S64x128.size a ≤ S4096x128.size a)
theorem k0_off422_inb : ∀ (v4587 : BitVec 32) (k0_hw232 : k0_chk232 v4587), ∀ a, (k0_off422 v4587) a + S64x128.size a ≤ S4096x128.size a := fun v4587 k0_hw232 => k0_hw232.1
theorem k0_off428_inb : ∀ (v4587 : BitVec 32) (k0_hw232 : k0_chk232 v4587), ∀ a, (k0_off428 v4587) a + S64x128.size a ≤ S4096x128.size a := fun v4587 k0_hw232 => k0_hw232.2

def k0_off429 (v4593 : BitVec 32) : Fin 2 → Nat :=
  let c63_i32_3036 : BitVec 32 := 63#32
  let c0_i32_3035 : BitVec 32 := 0#32
  let v4594 : BitVec 32 := Scalar.maxsi c0_i32_3035 v4593
  let v4595 : BitVec 32 := Scalar.minsi c63_i32_3036 v4594
  let c64_i32_3040 : BitVec 32 := 64#32
  let v4598 : BitVec 32 := Scalar.muli v4595 c64_i32_3040
  let v4675 : Index := Scalar.indexCast v4598
  let c0_3073 : Index := 0#32
  ![v4675.toNat, 0]

def k0_chk233 (v4593 : BitVec 32) : Prop :=
  (∀ a, (k0_off423 v4593) a + S64x128.size a ≤ S4096x128.size a) ∧
  (∀ a, (k0_off429 v4593) a + S64x128.size a ≤ S4096x128.size a)
theorem k0_off423_inb : ∀ (v4593 : BitVec 32) (k0_hw233 : k0_chk233 v4593), ∀ a, (k0_off423 v4593) a + S64x128.size a ≤ S4096x128.size a := fun v4593 k0_hw233 => k0_hw233.1
theorem k0_off429_inb : ∀ (v4593 : BitVec 32) (k0_hw233 : k0_chk233 v4593), ∀ a, (k0_off429 v4593) a + S64x128.size a ≤ S4096x128.size a := fun v4593 k0_hw233 => k0_hw233.2

def k0_off430 (v4688 : BitVec 32) : Fin 2 → Nat :=
  let c63_i32_3082 : BitVec 32 := 63#32
  let c0_i32_3081 : BitVec 32 := 0#32
  let v4689 : BitVec 32 := Scalar.maxsi c0_i32_3081 v4688
  let v4690 : BitVec 32 := Scalar.minsi c63_i32_3082 v4689
  let c64_i32_3086 : BitVec 32 := 64#32
  let v4693 : BitVec 32 := Scalar.muli v4690 c64_i32_3086
  let v4725 : Index := Scalar.indexCast v4693
  let c0_3128 : Index := 0#32
  ![v4725.toNat, 0]

def k0_off431 (v4694 : BitVec 32) : Fin 2 → Nat :=
  let c63_i32_3090 : BitVec 32 := 63#32
  let c0_i32_3089 : BitVec 32 := 0#32
  let v4695 : BitVec 32 := Scalar.maxsi c0_i32_3089 v4694
  let v4696 : BitVec 32 := Scalar.minsi c63_i32_3090 v4695
  let c64_i32_3094 : BitVec 32 := 64#32
  let v4699 : BitVec 32 := Scalar.muli v4696 c64_i32_3094
  let v4727 : Index := Scalar.indexCast v4699
  let c0_3129 : Index := 0#32
  ![v4727.toNat, 0]

def k0_off432 (v4700 : BitVec 32) : Fin 2 → Nat :=
  let c63_i32_3098 : BitVec 32 := 63#32
  let c0_i32_3097 : BitVec 32 := 0#32
  let v4701 : BitVec 32 := Scalar.maxsi c0_i32_3097 v4700
  let v4702 : BitVec 32 := Scalar.minsi c63_i32_3098 v4701
  let c64_i32_3102 : BitVec 32 := 64#32
  let v4705 : BitVec 32 := Scalar.muli v4702 c64_i32_3102
  let v4737 : Index := Scalar.indexCast v4705
  let c0_3131 : Index := 0#32
  ![v4737.toNat, 0]

def k0_off433 (v4706 : BitVec 32) : Fin 2 → Nat :=
  let c63_i32_3106 : BitVec 32 := 63#32
  let c0_i32_3105 : BitVec 32 := 0#32
  let v4707 : BitVec 32 := Scalar.maxsi c0_i32_3105 v4706
  let v4708 : BitVec 32 := Scalar.minsi c63_i32_3106 v4707
  let c64_i32_3110 : BitVec 32 := 64#32
  let v4711 : BitVec 32 := Scalar.muli v4708 c64_i32_3110
  let v4739 : Index := Scalar.indexCast v4711
  let c0_3132 : Index := 0#32
  ![v4739.toNat, 0]

def k0_off434 (v4712 : BitVec 32) : Fin 2 → Nat :=
  let c63_i32_3114 : BitVec 32 := 63#32
  let c0_i32_3113 : BitVec 32 := 0#32
  let v4713 : BitVec 32 := Scalar.maxsi c0_i32_3113 v4712
  let v4714 : BitVec 32 := Scalar.minsi c63_i32_3114 v4713
  let c64_i32_3118 : BitVec 32 := 64#32
  let v4717 : BitVec 32 := Scalar.muli v4714 c64_i32_3118
  let v4749 : Index := Scalar.indexCast v4717
  let c0_3134 : Index := 0#32
  ![v4749.toNat, 0]

def k0_off435 (v4718 : BitVec 32) : Fin 2 → Nat :=
  let c63_i32_3122 : BitVec 32 := 63#32
  let c0_i32_3121 : BitVec 32 := 0#32
  let v4719 : BitVec 32 := Scalar.maxsi c0_i32_3121 v4718
  let v4720 : BitVec 32 := Scalar.minsi c63_i32_3122 v4719
  let c64_i32_3126 : BitVec 32 := 64#32
  let v4723 : BitVec 32 := Scalar.muli v4720 c64_i32_3126
  let v4751 : Index := Scalar.indexCast v4723
  let c0_3135 : Index := 0#32
  ![v4751.toNat, 0]

def k0_chk240 (v4718 : BitVec 32) : Prop :=
  (∀ a, (k0_off435 v4718) a + S64x128.size a ≤ S4096x128.size a)
theorem k0_off435_inb : ∀ (v4718 : BitVec 32) (k0_hw240 : k0_chk240 v4718), ∀ a, (k0_off435 v4718) a + S64x128.size a ≤ S4096x128.size a := fun v4718 k0_hw240 => k0_hw240

def k0_off436 (v4688 : BitVec 32) : Fin 2 → Nat :=
  let c63_i32_3082 : BitVec 32 := 63#32
  let c0_i32_3081 : BitVec 32 := 0#32
  let v4689 : BitVec 32 := Scalar.maxsi c0_i32_3081 v4688
  let v4690 : BitVec 32 := Scalar.minsi c63_i32_3082 v4689
  let c64_i32_3086 : BitVec 32 := 64#32
  let v4693 : BitVec 32 := Scalar.muli v4690 c64_i32_3086
  let v4778 : Index := Scalar.indexCast v4693
  let c0_3145 : Index := 0#32
  ![v4778.toNat, 0]

def k0_chk235 (v4688 : BitVec 32) : Prop :=
  (∀ a, (k0_off430 v4688) a + S64x128.size a ≤ S4096x128.size a) ∧
  (∀ a, (k0_off436 v4688) a + S64x128.size a ≤ S4096x128.size a)
theorem k0_off430_inb : ∀ (v4688 : BitVec 32) (k0_hw235 : k0_chk235 v4688), ∀ a, (k0_off430 v4688) a + S64x128.size a ≤ S4096x128.size a := fun v4688 k0_hw235 => k0_hw235.1
theorem k0_off436_inb : ∀ (v4688 : BitVec 32) (k0_hw235 : k0_chk235 v4688), ∀ a, (k0_off436 v4688) a + S64x128.size a ≤ S4096x128.size a := fun v4688 k0_hw235 => k0_hw235.2

def k0_off437 (v4694 : BitVec 32) : Fin 2 → Nat :=
  let c63_i32_3090 : BitVec 32 := 63#32
  let c0_i32_3089 : BitVec 32 := 0#32
  let v4695 : BitVec 32 := Scalar.maxsi c0_i32_3089 v4694
  let v4696 : BitVec 32 := Scalar.minsi c63_i32_3090 v4695
  let c64_i32_3094 : BitVec 32 := 64#32
  let v4699 : BitVec 32 := Scalar.muli v4696 c64_i32_3094
  let v4780 : Index := Scalar.indexCast v4699
  let c0_3146 : Index := 0#32
  ![v4780.toNat, 0]

def k0_chk236 (v4694 : BitVec 32) : Prop :=
  (∀ a, (k0_off431 v4694) a + S64x128.size a ≤ S4096x128.size a) ∧
  (∀ a, (k0_off437 v4694) a + S64x128.size a ≤ S4096x128.size a)
theorem k0_off431_inb : ∀ (v4694 : BitVec 32) (k0_hw236 : k0_chk236 v4694), ∀ a, (k0_off431 v4694) a + S64x128.size a ≤ S4096x128.size a := fun v4694 k0_hw236 => k0_hw236.1
theorem k0_off437_inb : ∀ (v4694 : BitVec 32) (k0_hw236 : k0_chk236 v4694), ∀ a, (k0_off437 v4694) a + S64x128.size a ≤ S4096x128.size a := fun v4694 k0_hw236 => k0_hw236.2

def k0_off438 (v4700 : BitVec 32) : Fin 2 → Nat :=
  let c63_i32_3098 : BitVec 32 := 63#32
  let c0_i32_3097 : BitVec 32 := 0#32
  let v4701 : BitVec 32 := Scalar.maxsi c0_i32_3097 v4700
  let v4702 : BitVec 32 := Scalar.minsi c63_i32_3098 v4701
  let c64_i32_3102 : BitVec 32 := 64#32
  let v4705 : BitVec 32 := Scalar.muli v4702 c64_i32_3102
  let v4786 : Index := Scalar.indexCast v4705
  let c0_3148 : Index := 0#32
  ![v4786.toNat, 0]

def k0_chk237 (v4700 : BitVec 32) : Prop :=
  (∀ a, (k0_off432 v4700) a + S64x128.size a ≤ S4096x128.size a) ∧
  (∀ a, (k0_off438 v4700) a + S64x128.size a ≤ S4096x128.size a)
theorem k0_off432_inb : ∀ (v4700 : BitVec 32) (k0_hw237 : k0_chk237 v4700), ∀ a, (k0_off432 v4700) a + S64x128.size a ≤ S4096x128.size a := fun v4700 k0_hw237 => k0_hw237.1
theorem k0_off438_inb : ∀ (v4700 : BitVec 32) (k0_hw237 : k0_chk237 v4700), ∀ a, (k0_off438 v4700) a + S64x128.size a ≤ S4096x128.size a := fun v4700 k0_hw237 => k0_hw237.2

def k0_off439 (v4706 : BitVec 32) : Fin 2 → Nat :=
  let c63_i32_3106 : BitVec 32 := 63#32
  let c0_i32_3105 : BitVec 32 := 0#32
  let v4707 : BitVec 32 := Scalar.maxsi c0_i32_3105 v4706
  let v4708 : BitVec 32 := Scalar.minsi c63_i32_3106 v4707
  let c64_i32_3110 : BitVec 32 := 64#32
  let v4711 : BitVec 32 := Scalar.muli v4708 c64_i32_3110
  let v4788 : Index := Scalar.indexCast v4711
  let c0_3149 : Index := 0#32
  ![v4788.toNat, 0]

def k0_chk238 (v4706 : BitVec 32) : Prop :=
  (∀ a, (k0_off433 v4706) a + S64x128.size a ≤ S4096x128.size a) ∧
  (∀ a, (k0_off439 v4706) a + S64x128.size a ≤ S4096x128.size a)
theorem k0_off433_inb : ∀ (v4706 : BitVec 32) (k0_hw238 : k0_chk238 v4706), ∀ a, (k0_off433 v4706) a + S64x128.size a ≤ S4096x128.size a := fun v4706 k0_hw238 => k0_hw238.1
theorem k0_off439_inb : ∀ (v4706 : BitVec 32) (k0_hw238 : k0_chk238 v4706), ∀ a, (k0_off439 v4706) a + S64x128.size a ≤ S4096x128.size a := fun v4706 k0_hw238 => k0_hw238.2

def k0_off440 (v4712 : BitVec 32) : Fin 2 → Nat :=
  let c63_i32_3114 : BitVec 32 := 63#32
  let c0_i32_3113 : BitVec 32 := 0#32
  let v4713 : BitVec 32 := Scalar.maxsi c0_i32_3113 v4712
  let v4714 : BitVec 32 := Scalar.minsi c63_i32_3114 v4713
  let c64_i32_3118 : BitVec 32 := 64#32
  let v4717 : BitVec 32 := Scalar.muli v4714 c64_i32_3118
  let v4794 : Index := Scalar.indexCast v4717
  let c0_3151 : Index := 0#32
  ![v4794.toNat, 0]

def k0_chk239 (v4712 : BitVec 32) : Prop :=
  (∀ a, (k0_off434 v4712) a + S64x128.size a ≤ S4096x128.size a) ∧
  (∀ a, (k0_off440 v4712) a + S64x128.size a ≤ S4096x128.size a)
theorem k0_off434_inb : ∀ (v4712 : BitVec 32) (k0_hw239 : k0_chk239 v4712), ∀ a, (k0_off434 v4712) a + S64x128.size a ≤ S4096x128.size a := fun v4712 k0_hw239 => k0_hw239.1
theorem k0_off440_inb : ∀ (v4712 : BitVec 32) (k0_hw239 : k0_chk239 v4712), ∀ a, (k0_off440 v4712) a + S64x128.size a ≤ S4096x128.size a := fun v4712 k0_hw239 => k0_hw239.2

def k0_off441 (v4807 : BitVec 32) : Fin 2 → Nat :=
  let c63_i32_3160 : BitVec 32 := 63#32
  let c0_i32_3159 : BitVec 32 := 0#32
  let v4808 : BitVec 32 := Scalar.maxsi c0_i32_3159 v4807
  let v4809 : BitVec 32 := Scalar.minsi c63_i32_3160 v4808
  let c64_i32_3164 : BitVec 32 := 64#32
  let v4812 : BitVec 32 := Scalar.muli v4809 c64_i32_3164
  let v4844 : Index := Scalar.indexCast v4812
  let c0_3206 : Index := 0#32
  ![v4844.toNat, 0]

def k0_off442 (v4813 : BitVec 32) : Fin 2 → Nat :=
  let c63_i32_3168 : BitVec 32 := 63#32
  let c0_i32_3167 : BitVec 32 := 0#32
  let v4814 : BitVec 32 := Scalar.maxsi c0_i32_3167 v4813
  let v4815 : BitVec 32 := Scalar.minsi c63_i32_3168 v4814
  let c64_i32_3172 : BitVec 32 := 64#32
  let v4818 : BitVec 32 := Scalar.muli v4815 c64_i32_3172
  let v4846 : Index := Scalar.indexCast v4818
  let c0_3207 : Index := 0#32
  ![v4846.toNat, 0]

def k0_off443 (v4819 : BitVec 32) : Fin 2 → Nat :=
  let c63_i32_3176 : BitVec 32 := 63#32
  let c0_i32_3175 : BitVec 32 := 0#32
  let v4820 : BitVec 32 := Scalar.maxsi c0_i32_3175 v4819
  let v4821 : BitVec 32 := Scalar.minsi c63_i32_3176 v4820
  let c64_i32_3180 : BitVec 32 := 64#32
  let v4824 : BitVec 32 := Scalar.muli v4821 c64_i32_3180
  let v4856 : Index := Scalar.indexCast v4824
  let c0_3209 : Index := 0#32
  ![v4856.toNat, 0]

def k0_off444 (v4825 : BitVec 32) : Fin 2 → Nat :=
  let c63_i32_3184 : BitVec 32 := 63#32
  let c0_i32_3183 : BitVec 32 := 0#32
  let v4826 : BitVec 32 := Scalar.maxsi c0_i32_3183 v4825
  let v4827 : BitVec 32 := Scalar.minsi c63_i32_3184 v4826
  let c64_i32_3188 : BitVec 32 := 64#32
  let v4830 : BitVec 32 := Scalar.muli v4827 c64_i32_3188
  let v4858 : Index := Scalar.indexCast v4830
  let c0_3210 : Index := 0#32
  ![v4858.toNat, 0]

def k0_off445 (v4831 : BitVec 32) : Fin 2 → Nat :=
  let c63_i32_3192 : BitVec 32 := 63#32
  let c0_i32_3191 : BitVec 32 := 0#32
  let v4832 : BitVec 32 := Scalar.maxsi c0_i32_3191 v4831
  let v4833 : BitVec 32 := Scalar.minsi c63_i32_3192 v4832
  let c64_i32_3196 : BitVec 32 := 64#32
  let v4836 : BitVec 32 := Scalar.muli v4833 c64_i32_3196
  let v4868 : Index := Scalar.indexCast v4836
  let c0_3212 : Index := 0#32
  ![v4868.toNat, 0]

def k0_off446 (v4837 : BitVec 32) : Fin 2 → Nat :=
  let c63_i32_3200 : BitVec 32 := 63#32
  let c0_i32_3199 : BitVec 32 := 0#32
  let v4838 : BitVec 32 := Scalar.maxsi c0_i32_3199 v4837
  let v4839 : BitVec 32 := Scalar.minsi c63_i32_3200 v4838
  let c64_i32_3204 : BitVec 32 := 64#32
  let v4842 : BitVec 32 := Scalar.muli v4839 c64_i32_3204
  let v4870 : Index := Scalar.indexCast v4842
  let c0_3213 : Index := 0#32
  ![v4870.toNat, 0]

def k0_chk246 (v4837 : BitVec 32) : Prop :=
  (∀ a, (k0_off446 v4837) a + S64x128.size a ≤ S4096x128.size a)
theorem k0_off446_inb : ∀ (v4837 : BitVec 32) (k0_hw246 : k0_chk246 v4837), ∀ a, (k0_off446 v4837) a + S64x128.size a ≤ S4096x128.size a := fun v4837 k0_hw246 => k0_hw246

def k0_off447 (v4807 : BitVec 32) : Fin 2 → Nat :=
  let c63_i32_3160 : BitVec 32 := 63#32
  let c0_i32_3159 : BitVec 32 := 0#32
  let v4808 : BitVec 32 := Scalar.maxsi c0_i32_3159 v4807
  let v4809 : BitVec 32 := Scalar.minsi c63_i32_3160 v4808
  let c64_i32_3164 : BitVec 32 := 64#32
  let v4812 : BitVec 32 := Scalar.muli v4809 c64_i32_3164
  let v4897 : Index := Scalar.indexCast v4812
  let c0_3223 : Index := 0#32
  ![v4897.toNat, 0]

def k0_chk241 (v4807 : BitVec 32) : Prop :=
  (∀ a, (k0_off441 v4807) a + S64x128.size a ≤ S4096x128.size a) ∧
  (∀ a, (k0_off447 v4807) a + S64x128.size a ≤ S4096x128.size a)
theorem k0_off441_inb : ∀ (v4807 : BitVec 32) (k0_hw241 : k0_chk241 v4807), ∀ a, (k0_off441 v4807) a + S64x128.size a ≤ S4096x128.size a := fun v4807 k0_hw241 => k0_hw241.1
theorem k0_off447_inb : ∀ (v4807 : BitVec 32) (k0_hw241 : k0_chk241 v4807), ∀ a, (k0_off447 v4807) a + S64x128.size a ≤ S4096x128.size a := fun v4807 k0_hw241 => k0_hw241.2

def k0_off448 (v4813 : BitVec 32) : Fin 2 → Nat :=
  let c63_i32_3168 : BitVec 32 := 63#32
  let c0_i32_3167 : BitVec 32 := 0#32
  let v4814 : BitVec 32 := Scalar.maxsi c0_i32_3167 v4813
  let v4815 : BitVec 32 := Scalar.minsi c63_i32_3168 v4814
  let c64_i32_3172 : BitVec 32 := 64#32
  let v4818 : BitVec 32 := Scalar.muli v4815 c64_i32_3172
  let v4899 : Index := Scalar.indexCast v4818
  let c0_3224 : Index := 0#32
  ![v4899.toNat, 0]

def k0_chk242 (v4813 : BitVec 32) : Prop :=
  (∀ a, (k0_off442 v4813) a + S64x128.size a ≤ S4096x128.size a) ∧
  (∀ a, (k0_off448 v4813) a + S64x128.size a ≤ S4096x128.size a)
theorem k0_off442_inb : ∀ (v4813 : BitVec 32) (k0_hw242 : k0_chk242 v4813), ∀ a, (k0_off442 v4813) a + S64x128.size a ≤ S4096x128.size a := fun v4813 k0_hw242 => k0_hw242.1
theorem k0_off448_inb : ∀ (v4813 : BitVec 32) (k0_hw242 : k0_chk242 v4813), ∀ a, (k0_off448 v4813) a + S64x128.size a ≤ S4096x128.size a := fun v4813 k0_hw242 => k0_hw242.2

def k0_off449 (v4819 : BitVec 32) : Fin 2 → Nat :=
  let c63_i32_3176 : BitVec 32 := 63#32
  let c0_i32_3175 : BitVec 32 := 0#32
  let v4820 : BitVec 32 := Scalar.maxsi c0_i32_3175 v4819
  let v4821 : BitVec 32 := Scalar.minsi c63_i32_3176 v4820
  let c64_i32_3180 : BitVec 32 := 64#32
  let v4824 : BitVec 32 := Scalar.muli v4821 c64_i32_3180
  let v4905 : Index := Scalar.indexCast v4824
  let c0_3226 : Index := 0#32
  ![v4905.toNat, 0]

def k0_chk243 (v4819 : BitVec 32) : Prop :=
  (∀ a, (k0_off443 v4819) a + S64x128.size a ≤ S4096x128.size a) ∧
  (∀ a, (k0_off449 v4819) a + S64x128.size a ≤ S4096x128.size a)
theorem k0_off443_inb : ∀ (v4819 : BitVec 32) (k0_hw243 : k0_chk243 v4819), ∀ a, (k0_off443 v4819) a + S64x128.size a ≤ S4096x128.size a := fun v4819 k0_hw243 => k0_hw243.1
theorem k0_off449_inb : ∀ (v4819 : BitVec 32) (k0_hw243 : k0_chk243 v4819), ∀ a, (k0_off449 v4819) a + S64x128.size a ≤ S4096x128.size a := fun v4819 k0_hw243 => k0_hw243.2

def k0_off450 (v4825 : BitVec 32) : Fin 2 → Nat :=
  let c63_i32_3184 : BitVec 32 := 63#32
  let c0_i32_3183 : BitVec 32 := 0#32
  let v4826 : BitVec 32 := Scalar.maxsi c0_i32_3183 v4825
  let v4827 : BitVec 32 := Scalar.minsi c63_i32_3184 v4826
  let c64_i32_3188 : BitVec 32 := 64#32
  let v4830 : BitVec 32 := Scalar.muli v4827 c64_i32_3188
  let v4907 : Index := Scalar.indexCast v4830
  let c0_3227 : Index := 0#32
  ![v4907.toNat, 0]

def k0_chk244 (v4825 : BitVec 32) : Prop :=
  (∀ a, (k0_off444 v4825) a + S64x128.size a ≤ S4096x128.size a) ∧
  (∀ a, (k0_off450 v4825) a + S64x128.size a ≤ S4096x128.size a)
theorem k0_off444_inb : ∀ (v4825 : BitVec 32) (k0_hw244 : k0_chk244 v4825), ∀ a, (k0_off444 v4825) a + S64x128.size a ≤ S4096x128.size a := fun v4825 k0_hw244 => k0_hw244.1
theorem k0_off450_inb : ∀ (v4825 : BitVec 32) (k0_hw244 : k0_chk244 v4825), ∀ a, (k0_off450 v4825) a + S64x128.size a ≤ S4096x128.size a := fun v4825 k0_hw244 => k0_hw244.2

def k0_off451 (v4831 : BitVec 32) : Fin 2 → Nat :=
  let c63_i32_3192 : BitVec 32 := 63#32
  let c0_i32_3191 : BitVec 32 := 0#32
  let v4832 : BitVec 32 := Scalar.maxsi c0_i32_3191 v4831
  let v4833 : BitVec 32 := Scalar.minsi c63_i32_3192 v4832
  let c64_i32_3196 : BitVec 32 := 64#32
  let v4836 : BitVec 32 := Scalar.muli v4833 c64_i32_3196
  let v4913 : Index := Scalar.indexCast v4836
  let c0_3229 : Index := 0#32
  ![v4913.toNat, 0]

def k0_chk245 (v4831 : BitVec 32) : Prop :=
  (∀ a, (k0_off445 v4831) a + S64x128.size a ≤ S4096x128.size a) ∧
  (∀ a, (k0_off451 v4831) a + S64x128.size a ≤ S4096x128.size a)
theorem k0_off445_inb : ∀ (v4831 : BitVec 32) (k0_hw245 : k0_chk245 v4831), ∀ a, (k0_off445 v4831) a + S64x128.size a ≤ S4096x128.size a := fun v4831 k0_hw245 => k0_hw245.1
theorem k0_off451_inb : ∀ (v4831 : BitVec 32) (k0_hw245 : k0_chk245 v4831), ∀ a, (k0_off451 v4831) a + S64x128.size a ≤ S4096x128.size a := fun v4831 k0_hw245 => k0_hw245.2

def k0_off452 (v4926 : BitVec 32) : Fin 2 → Nat :=
  let c63_i32_3238 : BitVec 32 := 63#32
  let c0_i32_3237 : BitVec 32 := 0#32
  let v4927 : BitVec 32 := Scalar.maxsi c0_i32_3237 v4926
  let v4928 : BitVec 32 := Scalar.minsi c63_i32_3238 v4927
  let c64_i32_3242 : BitVec 32 := 64#32
  let v4931 : BitVec 32 := Scalar.muli v4928 c64_i32_3242
  let v4963 : Index := Scalar.indexCast v4931
  let c0_3284 : Index := 0#32
  ![v4963.toNat, 0]

def k0_off453 (v4932 : BitVec 32) : Fin 2 → Nat :=
  let c63_i32_3246 : BitVec 32 := 63#32
  let c0_i32_3245 : BitVec 32 := 0#32
  let v4933 : BitVec 32 := Scalar.maxsi c0_i32_3245 v4932
  let v4934 : BitVec 32 := Scalar.minsi c63_i32_3246 v4933
  let c64_i32_3250 : BitVec 32 := 64#32
  let v4937 : BitVec 32 := Scalar.muli v4934 c64_i32_3250
  let v4965 : Index := Scalar.indexCast v4937
  let c0_3285 : Index := 0#32
  ![v4965.toNat, 0]

def k0_off454 (v4938 : BitVec 32) : Fin 2 → Nat :=
  let c63_i32_3254 : BitVec 32 := 63#32
  let c0_i32_3253 : BitVec 32 := 0#32
  let v4939 : BitVec 32 := Scalar.maxsi c0_i32_3253 v4938
  let v4940 : BitVec 32 := Scalar.minsi c63_i32_3254 v4939
  let c64_i32_3258 : BitVec 32 := 64#32
  let v4943 : BitVec 32 := Scalar.muli v4940 c64_i32_3258
  let v4975 : Index := Scalar.indexCast v4943
  let c0_3287 : Index := 0#32
  ![v4975.toNat, 0]

def k0_off455 (v4944 : BitVec 32) : Fin 2 → Nat :=
  let c63_i32_3262 : BitVec 32 := 63#32
  let c0_i32_3261 : BitVec 32 := 0#32
  let v4945 : BitVec 32 := Scalar.maxsi c0_i32_3261 v4944
  let v4946 : BitVec 32 := Scalar.minsi c63_i32_3262 v4945
  let c64_i32_3266 : BitVec 32 := 64#32
  let v4949 : BitVec 32 := Scalar.muli v4946 c64_i32_3266
  let v4977 : Index := Scalar.indexCast v4949
  let c0_3288 : Index := 0#32
  ![v4977.toNat, 0]

def k0_off456 (v4950 : BitVec 32) : Fin 2 → Nat :=
  let c63_i32_3270 : BitVec 32 := 63#32
  let c0_i32_3269 : BitVec 32 := 0#32
  let v4951 : BitVec 32 := Scalar.maxsi c0_i32_3269 v4950
  let v4952 : BitVec 32 := Scalar.minsi c63_i32_3270 v4951
  let c64_i32_3274 : BitVec 32 := 64#32
  let v4955 : BitVec 32 := Scalar.muli v4952 c64_i32_3274
  let v4987 : Index := Scalar.indexCast v4955
  let c0_3290 : Index := 0#32
  ![v4987.toNat, 0]

def k0_off457 (v4956 : BitVec 32) : Fin 2 → Nat :=
  let c63_i32_3278 : BitVec 32 := 63#32
  let c0_i32_3277 : BitVec 32 := 0#32
  let v4957 : BitVec 32 := Scalar.maxsi c0_i32_3277 v4956
  let v4958 : BitVec 32 := Scalar.minsi c63_i32_3278 v4957
  let c64_i32_3282 : BitVec 32 := 64#32
  let v4961 : BitVec 32 := Scalar.muli v4958 c64_i32_3282
  let v4989 : Index := Scalar.indexCast v4961
  let c0_3291 : Index := 0#32
  ![v4989.toNat, 0]

def k0_chk252 (v4956 : BitVec 32) : Prop :=
  (∀ a, (k0_off457 v4956) a + S64x128.size a ≤ S4096x128.size a)
theorem k0_off457_inb : ∀ (v4956 : BitVec 32) (k0_hw252 : k0_chk252 v4956), ∀ a, (k0_off457 v4956) a + S64x128.size a ≤ S4096x128.size a := fun v4956 k0_hw252 => k0_hw252

def k0_off458 (v4926 : BitVec 32) : Fin 2 → Nat :=
  let c63_i32_3238 : BitVec 32 := 63#32
  let c0_i32_3237 : BitVec 32 := 0#32
  let v4927 : BitVec 32 := Scalar.maxsi c0_i32_3237 v4926
  let v4928 : BitVec 32 := Scalar.minsi c63_i32_3238 v4927
  let c64_i32_3242 : BitVec 32 := 64#32
  let v4931 : BitVec 32 := Scalar.muli v4928 c64_i32_3242
  let v5016 : Index := Scalar.indexCast v4931
  let c0_3301 : Index := 0#32
  ![v5016.toNat, 0]

def k0_chk247 (v4926 : BitVec 32) : Prop :=
  (∀ a, (k0_off452 v4926) a + S64x128.size a ≤ S4096x128.size a) ∧
  (∀ a, (k0_off458 v4926) a + S64x128.size a ≤ S4096x128.size a)
theorem k0_off452_inb : ∀ (v4926 : BitVec 32) (k0_hw247 : k0_chk247 v4926), ∀ a, (k0_off452 v4926) a + S64x128.size a ≤ S4096x128.size a := fun v4926 k0_hw247 => k0_hw247.1
theorem k0_off458_inb : ∀ (v4926 : BitVec 32) (k0_hw247 : k0_chk247 v4926), ∀ a, (k0_off458 v4926) a + S64x128.size a ≤ S4096x128.size a := fun v4926 k0_hw247 => k0_hw247.2

def k0_off459 (v4932 : BitVec 32) : Fin 2 → Nat :=
  let c63_i32_3246 : BitVec 32 := 63#32
  let c0_i32_3245 : BitVec 32 := 0#32
  let v4933 : BitVec 32 := Scalar.maxsi c0_i32_3245 v4932
  let v4934 : BitVec 32 := Scalar.minsi c63_i32_3246 v4933
  let c64_i32_3250 : BitVec 32 := 64#32
  let v4937 : BitVec 32 := Scalar.muli v4934 c64_i32_3250
  let v5018 : Index := Scalar.indexCast v4937
  let c0_3302 : Index := 0#32
  ![v5018.toNat, 0]

def k0_chk248 (v4932 : BitVec 32) : Prop :=
  (∀ a, (k0_off453 v4932) a + S64x128.size a ≤ S4096x128.size a) ∧
  (∀ a, (k0_off459 v4932) a + S64x128.size a ≤ S4096x128.size a)
theorem k0_off453_inb : ∀ (v4932 : BitVec 32) (k0_hw248 : k0_chk248 v4932), ∀ a, (k0_off453 v4932) a + S64x128.size a ≤ S4096x128.size a := fun v4932 k0_hw248 => k0_hw248.1
theorem k0_off459_inb : ∀ (v4932 : BitVec 32) (k0_hw248 : k0_chk248 v4932), ∀ a, (k0_off459 v4932) a + S64x128.size a ≤ S4096x128.size a := fun v4932 k0_hw248 => k0_hw248.2

def k0_off460 (v4938 : BitVec 32) : Fin 2 → Nat :=
  let c63_i32_3254 : BitVec 32 := 63#32
  let c0_i32_3253 : BitVec 32 := 0#32
  let v4939 : BitVec 32 := Scalar.maxsi c0_i32_3253 v4938
  let v4940 : BitVec 32 := Scalar.minsi c63_i32_3254 v4939
  let c64_i32_3258 : BitVec 32 := 64#32
  let v4943 : BitVec 32 := Scalar.muli v4940 c64_i32_3258
  let v5024 : Index := Scalar.indexCast v4943
  let c0_3304 : Index := 0#32
  ![v5024.toNat, 0]

def k0_chk249 (v4938 : BitVec 32) : Prop :=
  (∀ a, (k0_off454 v4938) a + S64x128.size a ≤ S4096x128.size a) ∧
  (∀ a, (k0_off460 v4938) a + S64x128.size a ≤ S4096x128.size a)
theorem k0_off454_inb : ∀ (v4938 : BitVec 32) (k0_hw249 : k0_chk249 v4938), ∀ a, (k0_off454 v4938) a + S64x128.size a ≤ S4096x128.size a := fun v4938 k0_hw249 => k0_hw249.1
theorem k0_off460_inb : ∀ (v4938 : BitVec 32) (k0_hw249 : k0_chk249 v4938), ∀ a, (k0_off460 v4938) a + S64x128.size a ≤ S4096x128.size a := fun v4938 k0_hw249 => k0_hw249.2

def k0_off461 (v4944 : BitVec 32) : Fin 2 → Nat :=
  let c63_i32_3262 : BitVec 32 := 63#32
  let c0_i32_3261 : BitVec 32 := 0#32
  let v4945 : BitVec 32 := Scalar.maxsi c0_i32_3261 v4944
  let v4946 : BitVec 32 := Scalar.minsi c63_i32_3262 v4945
  let c64_i32_3266 : BitVec 32 := 64#32
  let v4949 : BitVec 32 := Scalar.muli v4946 c64_i32_3266
  let v5026 : Index := Scalar.indexCast v4949
  let c0_3305 : Index := 0#32
  ![v5026.toNat, 0]

def k0_chk250 (v4944 : BitVec 32) : Prop :=
  (∀ a, (k0_off455 v4944) a + S64x128.size a ≤ S4096x128.size a) ∧
  (∀ a, (k0_off461 v4944) a + S64x128.size a ≤ S4096x128.size a)
theorem k0_off455_inb : ∀ (v4944 : BitVec 32) (k0_hw250 : k0_chk250 v4944), ∀ a, (k0_off455 v4944) a + S64x128.size a ≤ S4096x128.size a := fun v4944 k0_hw250 => k0_hw250.1
theorem k0_off461_inb : ∀ (v4944 : BitVec 32) (k0_hw250 : k0_chk250 v4944), ∀ a, (k0_off461 v4944) a + S64x128.size a ≤ S4096x128.size a := fun v4944 k0_hw250 => k0_hw250.2

def k0_off462 (v4950 : BitVec 32) : Fin 2 → Nat :=
  let c63_i32_3270 : BitVec 32 := 63#32
  let c0_i32_3269 : BitVec 32 := 0#32
  let v4951 : BitVec 32 := Scalar.maxsi c0_i32_3269 v4950
  let v4952 : BitVec 32 := Scalar.minsi c63_i32_3270 v4951
  let c64_i32_3274 : BitVec 32 := 64#32
  let v4955 : BitVec 32 := Scalar.muli v4952 c64_i32_3274
  let v5032 : Index := Scalar.indexCast v4955
  let c0_3307 : Index := 0#32
  ![v5032.toNat, 0]

def k0_chk251 (v4950 : BitVec 32) : Prop :=
  (∀ a, (k0_off456 v4950) a + S64x128.size a ≤ S4096x128.size a) ∧
  (∀ a, (k0_off462 v4950) a + S64x128.size a ≤ S4096x128.size a)
theorem k0_off456_inb : ∀ (v4950 : BitVec 32) (k0_hw251 : k0_chk251 v4950), ∀ a, (k0_off456 v4950) a + S64x128.size a ≤ S4096x128.size a := fun v4950 k0_hw251 => k0_hw251.1
theorem k0_off462_inb : ∀ (v4950 : BitVec 32) (k0_hw251 : k0_chk251 v4950), ∀ a, (k0_off462 v4950) a + S64x128.size a ≤ S4096x128.size a := fun v4950 k0_hw251 => k0_hw251.2

def k0_off463 (v5045 : BitVec 32) : Fin 2 → Nat :=
  let c63_i32_3316 : BitVec 32 := 63#32
  let c0_i32_3315 : BitVec 32 := 0#32
  let v5046 : BitVec 32 := Scalar.maxsi c0_i32_3315 v5045
  let v5047 : BitVec 32 := Scalar.minsi c63_i32_3316 v5046
  let c64_i32_3320 : BitVec 32 := 64#32
  let v5050 : BitVec 32 := Scalar.muli v5047 c64_i32_3320
  let v5082 : Index := Scalar.indexCast v5050
  let c0_3362 : Index := 0#32
  ![v5082.toNat, 0]

def k0_off464 (v5051 : BitVec 32) : Fin 2 → Nat :=
  let c63_i32_3324 : BitVec 32 := 63#32
  let c0_i32_3323 : BitVec 32 := 0#32
  let v5052 : BitVec 32 := Scalar.maxsi c0_i32_3323 v5051
  let v5053 : BitVec 32 := Scalar.minsi c63_i32_3324 v5052
  let c64_i32_3328 : BitVec 32 := 64#32
  let v5056 : BitVec 32 := Scalar.muli v5053 c64_i32_3328
  let v5084 : Index := Scalar.indexCast v5056
  let c0_3363 : Index := 0#32
  ![v5084.toNat, 0]

def k0_off465 (v5057 : BitVec 32) : Fin 2 → Nat :=
  let c63_i32_3332 : BitVec 32 := 63#32
  let c0_i32_3331 : BitVec 32 := 0#32
  let v5058 : BitVec 32 := Scalar.maxsi c0_i32_3331 v5057
  let v5059 : BitVec 32 := Scalar.minsi c63_i32_3332 v5058
  let c64_i32_3336 : BitVec 32 := 64#32
  let v5062 : BitVec 32 := Scalar.muli v5059 c64_i32_3336
  let v5094 : Index := Scalar.indexCast v5062
  let c0_3365 : Index := 0#32
  ![v5094.toNat, 0]

def k0_off466 (v5063 : BitVec 32) : Fin 2 → Nat :=
  let c63_i32_3340 : BitVec 32 := 63#32
  let c0_i32_3339 : BitVec 32 := 0#32
  let v5064 : BitVec 32 := Scalar.maxsi c0_i32_3339 v5063
  let v5065 : BitVec 32 := Scalar.minsi c63_i32_3340 v5064
  let c64_i32_3344 : BitVec 32 := 64#32
  let v5068 : BitVec 32 := Scalar.muli v5065 c64_i32_3344
  let v5096 : Index := Scalar.indexCast v5068
  let c0_3366 : Index := 0#32
  ![v5096.toNat, 0]

def k0_off467 (v5069 : BitVec 32) : Fin 2 → Nat :=
  let c63_i32_3348 : BitVec 32 := 63#32
  let c0_i32_3347 : BitVec 32 := 0#32
  let v5070 : BitVec 32 := Scalar.maxsi c0_i32_3347 v5069
  let v5071 : BitVec 32 := Scalar.minsi c63_i32_3348 v5070
  let c64_i32_3352 : BitVec 32 := 64#32
  let v5074 : BitVec 32 := Scalar.muli v5071 c64_i32_3352
  let v5106 : Index := Scalar.indexCast v5074
  let c0_3368 : Index := 0#32
  ![v5106.toNat, 0]

def k0_off468 (v5075 : BitVec 32) : Fin 2 → Nat :=
  let c63_i32_3356 : BitVec 32 := 63#32
  let c0_i32_3355 : BitVec 32 := 0#32
  let v5076 : BitVec 32 := Scalar.maxsi c0_i32_3355 v5075
  let v5077 : BitVec 32 := Scalar.minsi c63_i32_3356 v5076
  let c64_i32_3360 : BitVec 32 := 64#32
  let v5080 : BitVec 32 := Scalar.muli v5077 c64_i32_3360
  let v5108 : Index := Scalar.indexCast v5080
  let c0_3369 : Index := 0#32
  ![v5108.toNat, 0]

def k0_chk258 (v5075 : BitVec 32) : Prop :=
  (∀ a, (k0_off468 v5075) a + S64x128.size a ≤ S4096x128.size a)
theorem k0_off468_inb : ∀ (v5075 : BitVec 32) (k0_hw258 : k0_chk258 v5075), ∀ a, (k0_off468 v5075) a + S64x128.size a ≤ S4096x128.size a := fun v5075 k0_hw258 => k0_hw258

def k0_off469 (v5045 : BitVec 32) : Fin 2 → Nat :=
  let c63_i32_3316 : BitVec 32 := 63#32
  let c0_i32_3315 : BitVec 32 := 0#32
  let v5046 : BitVec 32 := Scalar.maxsi c0_i32_3315 v5045
  let v5047 : BitVec 32 := Scalar.minsi c63_i32_3316 v5046
  let c64_i32_3320 : BitVec 32 := 64#32
  let v5050 : BitVec 32 := Scalar.muli v5047 c64_i32_3320
  let v5135 : Index := Scalar.indexCast v5050
  let c0_3379 : Index := 0#32
  ![v5135.toNat, 0]

def k0_chk253 (v5045 : BitVec 32) : Prop :=
  (∀ a, (k0_off463 v5045) a + S64x128.size a ≤ S4096x128.size a) ∧
  (∀ a, (k0_off469 v5045) a + S64x128.size a ≤ S4096x128.size a)
theorem k0_off463_inb : ∀ (v5045 : BitVec 32) (k0_hw253 : k0_chk253 v5045), ∀ a, (k0_off463 v5045) a + S64x128.size a ≤ S4096x128.size a := fun v5045 k0_hw253 => k0_hw253.1
theorem k0_off469_inb : ∀ (v5045 : BitVec 32) (k0_hw253 : k0_chk253 v5045), ∀ a, (k0_off469 v5045) a + S64x128.size a ≤ S4096x128.size a := fun v5045 k0_hw253 => k0_hw253.2

def k0_off470 (v5051 : BitVec 32) : Fin 2 → Nat :=
  let c63_i32_3324 : BitVec 32 := 63#32
  let c0_i32_3323 : BitVec 32 := 0#32
  let v5052 : BitVec 32 := Scalar.maxsi c0_i32_3323 v5051
  let v5053 : BitVec 32 := Scalar.minsi c63_i32_3324 v5052
  let c64_i32_3328 : BitVec 32 := 64#32
  let v5056 : BitVec 32 := Scalar.muli v5053 c64_i32_3328
  let v5137 : Index := Scalar.indexCast v5056
  let c0_3380 : Index := 0#32
  ![v5137.toNat, 0]

def k0_chk254 (v5051 : BitVec 32) : Prop :=
  (∀ a, (k0_off464 v5051) a + S64x128.size a ≤ S4096x128.size a) ∧
  (∀ a, (k0_off470 v5051) a + S64x128.size a ≤ S4096x128.size a)
theorem k0_off464_inb : ∀ (v5051 : BitVec 32) (k0_hw254 : k0_chk254 v5051), ∀ a, (k0_off464 v5051) a + S64x128.size a ≤ S4096x128.size a := fun v5051 k0_hw254 => k0_hw254.1
theorem k0_off470_inb : ∀ (v5051 : BitVec 32) (k0_hw254 : k0_chk254 v5051), ∀ a, (k0_off470 v5051) a + S64x128.size a ≤ S4096x128.size a := fun v5051 k0_hw254 => k0_hw254.2

def k0_off471 (v5057 : BitVec 32) : Fin 2 → Nat :=
  let c63_i32_3332 : BitVec 32 := 63#32
  let c0_i32_3331 : BitVec 32 := 0#32
  let v5058 : BitVec 32 := Scalar.maxsi c0_i32_3331 v5057
  let v5059 : BitVec 32 := Scalar.minsi c63_i32_3332 v5058
  let c64_i32_3336 : BitVec 32 := 64#32
  let v5062 : BitVec 32 := Scalar.muli v5059 c64_i32_3336
  let v5143 : Index := Scalar.indexCast v5062
  let c0_3382 : Index := 0#32
  ![v5143.toNat, 0]

def k0_chk255 (v5057 : BitVec 32) : Prop :=
  (∀ a, (k0_off465 v5057) a + S64x128.size a ≤ S4096x128.size a) ∧
  (∀ a, (k0_off471 v5057) a + S64x128.size a ≤ S4096x128.size a)
theorem k0_off465_inb : ∀ (v5057 : BitVec 32) (k0_hw255 : k0_chk255 v5057), ∀ a, (k0_off465 v5057) a + S64x128.size a ≤ S4096x128.size a := fun v5057 k0_hw255 => k0_hw255.1
theorem k0_off471_inb : ∀ (v5057 : BitVec 32) (k0_hw255 : k0_chk255 v5057), ∀ a, (k0_off471 v5057) a + S64x128.size a ≤ S4096x128.size a := fun v5057 k0_hw255 => k0_hw255.2

def k0_off472 (v5063 : BitVec 32) : Fin 2 → Nat :=
  let c63_i32_3340 : BitVec 32 := 63#32
  let c0_i32_3339 : BitVec 32 := 0#32
  let v5064 : BitVec 32 := Scalar.maxsi c0_i32_3339 v5063
  let v5065 : BitVec 32 := Scalar.minsi c63_i32_3340 v5064
  let c64_i32_3344 : BitVec 32 := 64#32
  let v5068 : BitVec 32 := Scalar.muli v5065 c64_i32_3344
  let v5145 : Index := Scalar.indexCast v5068
  let c0_3383 : Index := 0#32
  ![v5145.toNat, 0]

def k0_chk256 (v5063 : BitVec 32) : Prop :=
  (∀ a, (k0_off466 v5063) a + S64x128.size a ≤ S4096x128.size a) ∧
  (∀ a, (k0_off472 v5063) a + S64x128.size a ≤ S4096x128.size a)
theorem k0_off466_inb : ∀ (v5063 : BitVec 32) (k0_hw256 : k0_chk256 v5063), ∀ a, (k0_off466 v5063) a + S64x128.size a ≤ S4096x128.size a := fun v5063 k0_hw256 => k0_hw256.1
theorem k0_off472_inb : ∀ (v5063 : BitVec 32) (k0_hw256 : k0_chk256 v5063), ∀ a, (k0_off472 v5063) a + S64x128.size a ≤ S4096x128.size a := fun v5063 k0_hw256 => k0_hw256.2

def k0_off473 (v5069 : BitVec 32) : Fin 2 → Nat :=
  let c63_i32_3348 : BitVec 32 := 63#32
  let c0_i32_3347 : BitVec 32 := 0#32
  let v5070 : BitVec 32 := Scalar.maxsi c0_i32_3347 v5069
  let v5071 : BitVec 32 := Scalar.minsi c63_i32_3348 v5070
  let c64_i32_3352 : BitVec 32 := 64#32
  let v5074 : BitVec 32 := Scalar.muli v5071 c64_i32_3352
  let v5151 : Index := Scalar.indexCast v5074
  let c0_3385 : Index := 0#32
  ![v5151.toNat, 0]

def k0_chk257 (v5069 : BitVec 32) : Prop :=
  (∀ a, (k0_off467 v5069) a + S64x128.size a ≤ S4096x128.size a) ∧
  (∀ a, (k0_off473 v5069) a + S64x128.size a ≤ S4096x128.size a)
theorem k0_off467_inb : ∀ (v5069 : BitVec 32) (k0_hw257 : k0_chk257 v5069), ∀ a, (k0_off467 v5069) a + S64x128.size a ≤ S4096x128.size a := fun v5069 k0_hw257 => k0_hw257.1
theorem k0_off473_inb : ∀ (v5069 : BitVec 32) (k0_hw257 : k0_chk257 v5069), ∀ a, (k0_off473 v5069) a + S64x128.size a ≤ S4096x128.size a := fun v5069 k0_hw257 => k0_hw257.2

def k0_off474 (v5164 : BitVec 32) : Fin 2 → Nat :=
  let c63_i32_3394 : BitVec 32 := 63#32
  let c0_i32_3393 : BitVec 32 := 0#32
  let v5165 : BitVec 32 := Scalar.maxsi c0_i32_3393 v5164
  let v5166 : BitVec 32 := Scalar.minsi c63_i32_3394 v5165
  let c64_i32_3398 : BitVec 32 := 64#32
  let v5169 : BitVec 32 := Scalar.muli v5166 c64_i32_3398
  let v5201 : Index := Scalar.indexCast v5169
  let c0_3440 : Index := 0#32
  ![v5201.toNat, 0]

def k0_off475 (v5170 : BitVec 32) : Fin 2 → Nat :=
  let c63_i32_3402 : BitVec 32 := 63#32
  let c0_i32_3401 : BitVec 32 := 0#32
  let v5171 : BitVec 32 := Scalar.maxsi c0_i32_3401 v5170
  let v5172 : BitVec 32 := Scalar.minsi c63_i32_3402 v5171
  let c64_i32_3406 : BitVec 32 := 64#32
  let v5175 : BitVec 32 := Scalar.muli v5172 c64_i32_3406
  let v5203 : Index := Scalar.indexCast v5175
  let c0_3441 : Index := 0#32
  ![v5203.toNat, 0]

def k0_off476 (v5176 : BitVec 32) : Fin 2 → Nat :=
  let c63_i32_3410 : BitVec 32 := 63#32
  let c0_i32_3409 : BitVec 32 := 0#32
  let v5177 : BitVec 32 := Scalar.maxsi c0_i32_3409 v5176
  let v5178 : BitVec 32 := Scalar.minsi c63_i32_3410 v5177
  let c64_i32_3414 : BitVec 32 := 64#32
  let v5181 : BitVec 32 := Scalar.muli v5178 c64_i32_3414
  let v5213 : Index := Scalar.indexCast v5181
  let c0_3443 : Index := 0#32
  ![v5213.toNat, 0]

def k0_off477 (v5182 : BitVec 32) : Fin 2 → Nat :=
  let c63_i32_3418 : BitVec 32 := 63#32
  let c0_i32_3417 : BitVec 32 := 0#32
  let v5183 : BitVec 32 := Scalar.maxsi c0_i32_3417 v5182
  let v5184 : BitVec 32 := Scalar.minsi c63_i32_3418 v5183
  let c64_i32_3422 : BitVec 32 := 64#32
  let v5187 : BitVec 32 := Scalar.muli v5184 c64_i32_3422
  let v5215 : Index := Scalar.indexCast v5187
  let c0_3444 : Index := 0#32
  ![v5215.toNat, 0]

def k0_off478 (v5188 : BitVec 32) : Fin 2 → Nat :=
  let c63_i32_3426 : BitVec 32 := 63#32
  let c0_i32_3425 : BitVec 32 := 0#32
  let v5189 : BitVec 32 := Scalar.maxsi c0_i32_3425 v5188
  let v5190 : BitVec 32 := Scalar.minsi c63_i32_3426 v5189
  let c64_i32_3430 : BitVec 32 := 64#32
  let v5193 : BitVec 32 := Scalar.muli v5190 c64_i32_3430
  let v5225 : Index := Scalar.indexCast v5193
  let c0_3446 : Index := 0#32
  ![v5225.toNat, 0]

def k0_off479 (v5194 : BitVec 32) : Fin 2 → Nat :=
  let c63_i32_3434 : BitVec 32 := 63#32
  let c0_i32_3433 : BitVec 32 := 0#32
  let v5195 : BitVec 32 := Scalar.maxsi c0_i32_3433 v5194
  let v5196 : BitVec 32 := Scalar.minsi c63_i32_3434 v5195
  let c64_i32_3438 : BitVec 32 := 64#32
  let v5199 : BitVec 32 := Scalar.muli v5196 c64_i32_3438
  let v5227 : Index := Scalar.indexCast v5199
  let c0_3447 : Index := 0#32
  ![v5227.toNat, 0]

def k0_chk264 (v5194 : BitVec 32) : Prop :=
  (∀ a, (k0_off479 v5194) a + S64x128.size a ≤ S4096x128.size a)
theorem k0_off479_inb : ∀ (v5194 : BitVec 32) (k0_hw264 : k0_chk264 v5194), ∀ a, (k0_off479 v5194) a + S64x128.size a ≤ S4096x128.size a := fun v5194 k0_hw264 => k0_hw264

def k0_off480 (v5164 : BitVec 32) : Fin 2 → Nat :=
  let c63_i32_3394 : BitVec 32 := 63#32
  let c0_i32_3393 : BitVec 32 := 0#32
  let v5165 : BitVec 32 := Scalar.maxsi c0_i32_3393 v5164
  let v5166 : BitVec 32 := Scalar.minsi c63_i32_3394 v5165
  let c64_i32_3398 : BitVec 32 := 64#32
  let v5169 : BitVec 32 := Scalar.muli v5166 c64_i32_3398
  let v5254 : Index := Scalar.indexCast v5169
  let c0_3457 : Index := 0#32
  ![v5254.toNat, 0]

def k0_chk259 (v5164 : BitVec 32) : Prop :=
  (∀ a, (k0_off474 v5164) a + S64x128.size a ≤ S4096x128.size a) ∧
  (∀ a, (k0_off480 v5164) a + S64x128.size a ≤ S4096x128.size a)
theorem k0_off474_inb : ∀ (v5164 : BitVec 32) (k0_hw259 : k0_chk259 v5164), ∀ a, (k0_off474 v5164) a + S64x128.size a ≤ S4096x128.size a := fun v5164 k0_hw259 => k0_hw259.1
theorem k0_off480_inb : ∀ (v5164 : BitVec 32) (k0_hw259 : k0_chk259 v5164), ∀ a, (k0_off480 v5164) a + S64x128.size a ≤ S4096x128.size a := fun v5164 k0_hw259 => k0_hw259.2

def k0_off481 (v5170 : BitVec 32) : Fin 2 → Nat :=
  let c63_i32_3402 : BitVec 32 := 63#32
  let c0_i32_3401 : BitVec 32 := 0#32
  let v5171 : BitVec 32 := Scalar.maxsi c0_i32_3401 v5170
  let v5172 : BitVec 32 := Scalar.minsi c63_i32_3402 v5171
  let c64_i32_3406 : BitVec 32 := 64#32
  let v5175 : BitVec 32 := Scalar.muli v5172 c64_i32_3406
  let v5256 : Index := Scalar.indexCast v5175
  let c0_3458 : Index := 0#32
  ![v5256.toNat, 0]

def k0_chk260 (v5170 : BitVec 32) : Prop :=
  (∀ a, (k0_off475 v5170) a + S64x128.size a ≤ S4096x128.size a) ∧
  (∀ a, (k0_off481 v5170) a + S64x128.size a ≤ S4096x128.size a)
theorem k0_off475_inb : ∀ (v5170 : BitVec 32) (k0_hw260 : k0_chk260 v5170), ∀ a, (k0_off475 v5170) a + S64x128.size a ≤ S4096x128.size a := fun v5170 k0_hw260 => k0_hw260.1
theorem k0_off481_inb : ∀ (v5170 : BitVec 32) (k0_hw260 : k0_chk260 v5170), ∀ a, (k0_off481 v5170) a + S64x128.size a ≤ S4096x128.size a := fun v5170 k0_hw260 => k0_hw260.2

def k0_off482 (v5176 : BitVec 32) : Fin 2 → Nat :=
  let c63_i32_3410 : BitVec 32 := 63#32
  let c0_i32_3409 : BitVec 32 := 0#32
  let v5177 : BitVec 32 := Scalar.maxsi c0_i32_3409 v5176
  let v5178 : BitVec 32 := Scalar.minsi c63_i32_3410 v5177
  let c64_i32_3414 : BitVec 32 := 64#32
  let v5181 : BitVec 32 := Scalar.muli v5178 c64_i32_3414
  let v5262 : Index := Scalar.indexCast v5181
  let c0_3460 : Index := 0#32
  ![v5262.toNat, 0]

def k0_chk261 (v5176 : BitVec 32) : Prop :=
  (∀ a, (k0_off476 v5176) a + S64x128.size a ≤ S4096x128.size a) ∧
  (∀ a, (k0_off482 v5176) a + S64x128.size a ≤ S4096x128.size a)
theorem k0_off476_inb : ∀ (v5176 : BitVec 32) (k0_hw261 : k0_chk261 v5176), ∀ a, (k0_off476 v5176) a + S64x128.size a ≤ S4096x128.size a := fun v5176 k0_hw261 => k0_hw261.1
theorem k0_off482_inb : ∀ (v5176 : BitVec 32) (k0_hw261 : k0_chk261 v5176), ∀ a, (k0_off482 v5176) a + S64x128.size a ≤ S4096x128.size a := fun v5176 k0_hw261 => k0_hw261.2

def k0_off483 (v5182 : BitVec 32) : Fin 2 → Nat :=
  let c63_i32_3418 : BitVec 32 := 63#32
  let c0_i32_3417 : BitVec 32 := 0#32
  let v5183 : BitVec 32 := Scalar.maxsi c0_i32_3417 v5182
  let v5184 : BitVec 32 := Scalar.minsi c63_i32_3418 v5183
  let c64_i32_3422 : BitVec 32 := 64#32
  let v5187 : BitVec 32 := Scalar.muli v5184 c64_i32_3422
  let v5264 : Index := Scalar.indexCast v5187
  let c0_3461 : Index := 0#32
  ![v5264.toNat, 0]

def k0_chk262 (v5182 : BitVec 32) : Prop :=
  (∀ a, (k0_off477 v5182) a + S64x128.size a ≤ S4096x128.size a) ∧
  (∀ a, (k0_off483 v5182) a + S64x128.size a ≤ S4096x128.size a)
theorem k0_off477_inb : ∀ (v5182 : BitVec 32) (k0_hw262 : k0_chk262 v5182), ∀ a, (k0_off477 v5182) a + S64x128.size a ≤ S4096x128.size a := fun v5182 k0_hw262 => k0_hw262.1
theorem k0_off483_inb : ∀ (v5182 : BitVec 32) (k0_hw262 : k0_chk262 v5182), ∀ a, (k0_off483 v5182) a + S64x128.size a ≤ S4096x128.size a := fun v5182 k0_hw262 => k0_hw262.2

def k0_off484 (v5188 : BitVec 32) : Fin 2 → Nat :=
  let c63_i32_3426 : BitVec 32 := 63#32
  let c0_i32_3425 : BitVec 32 := 0#32
  let v5189 : BitVec 32 := Scalar.maxsi c0_i32_3425 v5188
  let v5190 : BitVec 32 := Scalar.minsi c63_i32_3426 v5189
  let c64_i32_3430 : BitVec 32 := 64#32
  let v5193 : BitVec 32 := Scalar.muli v5190 c64_i32_3430
  let v5270 : Index := Scalar.indexCast v5193
  let c0_3463 : Index := 0#32
  ![v5270.toNat, 0]

def k0_chk263 (v5188 : BitVec 32) : Prop :=
  (∀ a, (k0_off478 v5188) a + S64x128.size a ≤ S4096x128.size a) ∧
  (∀ a, (k0_off484 v5188) a + S64x128.size a ≤ S4096x128.size a)
theorem k0_off478_inb : ∀ (v5188 : BitVec 32) (k0_hw263 : k0_chk263 v5188), ∀ a, (k0_off478 v5188) a + S64x128.size a ≤ S4096x128.size a := fun v5188 k0_hw263 => k0_hw263.1
theorem k0_off484_inb : ∀ (v5188 : BitVec 32) (k0_hw263 : k0_chk263 v5188), ∀ a, (k0_off484 v5188) a + S64x128.size a ≤ S4096x128.size a := fun v5188 k0_hw263 => k0_hw263.2

def k0_off485 (v5283 : BitVec 32) : Fin 2 → Nat :=
  let c63_i32_3472 : BitVec 32 := 63#32
  let c0_i32_3471 : BitVec 32 := 0#32
  let v5284 : BitVec 32 := Scalar.maxsi c0_i32_3471 v5283
  let v5285 : BitVec 32 := Scalar.minsi c63_i32_3472 v5284
  let c64_i32_3476 : BitVec 32 := 64#32
  let v5288 : BitVec 32 := Scalar.muli v5285 c64_i32_3476
  let v5320 : Index := Scalar.indexCast v5288
  let c0_3518 : Index := 0#32
  ![v5320.toNat, 0]

def k0_off486 (v5289 : BitVec 32) : Fin 2 → Nat :=
  let c63_i32_3480 : BitVec 32 := 63#32
  let c0_i32_3479 : BitVec 32 := 0#32
  let v5290 : BitVec 32 := Scalar.maxsi c0_i32_3479 v5289
  let v5291 : BitVec 32 := Scalar.minsi c63_i32_3480 v5290
  let c64_i32_3484 : BitVec 32 := 64#32
  let v5294 : BitVec 32 := Scalar.muli v5291 c64_i32_3484
  let v5322 : Index := Scalar.indexCast v5294
  let c0_3519 : Index := 0#32
  ![v5322.toNat, 0]

def k0_off487 (v5295 : BitVec 32) : Fin 2 → Nat :=
  let c63_i32_3488 : BitVec 32 := 63#32
  let c0_i32_3487 : BitVec 32 := 0#32
  let v5296 : BitVec 32 := Scalar.maxsi c0_i32_3487 v5295
  let v5297 : BitVec 32 := Scalar.minsi c63_i32_3488 v5296
  let c64_i32_3492 : BitVec 32 := 64#32
  let v5300 : BitVec 32 := Scalar.muli v5297 c64_i32_3492
  let v5332 : Index := Scalar.indexCast v5300
  let c0_3521 : Index := 0#32
  ![v5332.toNat, 0]

def k0_off488 (v5301 : BitVec 32) : Fin 2 → Nat :=
  let c63_i32_3496 : BitVec 32 := 63#32
  let c0_i32_3495 : BitVec 32 := 0#32
  let v5302 : BitVec 32 := Scalar.maxsi c0_i32_3495 v5301
  let v5303 : BitVec 32 := Scalar.minsi c63_i32_3496 v5302
  let c64_i32_3500 : BitVec 32 := 64#32
  let v5306 : BitVec 32 := Scalar.muli v5303 c64_i32_3500
  let v5334 : Index := Scalar.indexCast v5306
  let c0_3522 : Index := 0#32
  ![v5334.toNat, 0]

def k0_off489 (v5307 : BitVec 32) : Fin 2 → Nat :=
  let c63_i32_3504 : BitVec 32 := 63#32
  let c0_i32_3503 : BitVec 32 := 0#32
  let v5308 : BitVec 32 := Scalar.maxsi c0_i32_3503 v5307
  let v5309 : BitVec 32 := Scalar.minsi c63_i32_3504 v5308
  let c64_i32_3508 : BitVec 32 := 64#32
  let v5312 : BitVec 32 := Scalar.muli v5309 c64_i32_3508
  let v5344 : Index := Scalar.indexCast v5312
  let c0_3524 : Index := 0#32
  ![v5344.toNat, 0]

def k0_off490 (v5313 : BitVec 32) : Fin 2 → Nat :=
  let c63_i32_3512 : BitVec 32 := 63#32
  let c0_i32_3511 : BitVec 32 := 0#32
  let v5314 : BitVec 32 := Scalar.maxsi c0_i32_3511 v5313
  let v5315 : BitVec 32 := Scalar.minsi c63_i32_3512 v5314
  let c64_i32_3516 : BitVec 32 := 64#32
  let v5318 : BitVec 32 := Scalar.muli v5315 c64_i32_3516
  let v5346 : Index := Scalar.indexCast v5318
  let c0_3525 : Index := 0#32
  ![v5346.toNat, 0]

def k0_chk270 (v5313 : BitVec 32) : Prop :=
  (∀ a, (k0_off490 v5313) a + S64x128.size a ≤ S4096x128.size a)
theorem k0_off490_inb : ∀ (v5313 : BitVec 32) (k0_hw270 : k0_chk270 v5313), ∀ a, (k0_off490 v5313) a + S64x128.size a ≤ S4096x128.size a := fun v5313 k0_hw270 => k0_hw270

def k0_off491 (v5283 : BitVec 32) : Fin 2 → Nat :=
  let c63_i32_3472 : BitVec 32 := 63#32
  let c0_i32_3471 : BitVec 32 := 0#32
  let v5284 : BitVec 32 := Scalar.maxsi c0_i32_3471 v5283
  let v5285 : BitVec 32 := Scalar.minsi c63_i32_3472 v5284
  let c64_i32_3476 : BitVec 32 := 64#32
  let v5288 : BitVec 32 := Scalar.muli v5285 c64_i32_3476
  let v5373 : Index := Scalar.indexCast v5288
  let c0_3535 : Index := 0#32
  ![v5373.toNat, 0]

def k0_chk265 (v5283 : BitVec 32) : Prop :=
  (∀ a, (k0_off485 v5283) a + S64x128.size a ≤ S4096x128.size a) ∧
  (∀ a, (k0_off491 v5283) a + S64x128.size a ≤ S4096x128.size a)
theorem k0_off485_inb : ∀ (v5283 : BitVec 32) (k0_hw265 : k0_chk265 v5283), ∀ a, (k0_off485 v5283) a + S64x128.size a ≤ S4096x128.size a := fun v5283 k0_hw265 => k0_hw265.1
theorem k0_off491_inb : ∀ (v5283 : BitVec 32) (k0_hw265 : k0_chk265 v5283), ∀ a, (k0_off491 v5283) a + S64x128.size a ≤ S4096x128.size a := fun v5283 k0_hw265 => k0_hw265.2

def k0_off492 (v5289 : BitVec 32) : Fin 2 → Nat :=
  let c63_i32_3480 : BitVec 32 := 63#32
  let c0_i32_3479 : BitVec 32 := 0#32
  let v5290 : BitVec 32 := Scalar.maxsi c0_i32_3479 v5289
  let v5291 : BitVec 32 := Scalar.minsi c63_i32_3480 v5290
  let c64_i32_3484 : BitVec 32 := 64#32
  let v5294 : BitVec 32 := Scalar.muli v5291 c64_i32_3484
  let v5375 : Index := Scalar.indexCast v5294
  let c0_3536 : Index := 0#32
  ![v5375.toNat, 0]

def k0_chk266 (v5289 : BitVec 32) : Prop :=
  (∀ a, (k0_off486 v5289) a + S64x128.size a ≤ S4096x128.size a) ∧
  (∀ a, (k0_off492 v5289) a + S64x128.size a ≤ S4096x128.size a)
theorem k0_off486_inb : ∀ (v5289 : BitVec 32) (k0_hw266 : k0_chk266 v5289), ∀ a, (k0_off486 v5289) a + S64x128.size a ≤ S4096x128.size a := fun v5289 k0_hw266 => k0_hw266.1
theorem k0_off492_inb : ∀ (v5289 : BitVec 32) (k0_hw266 : k0_chk266 v5289), ∀ a, (k0_off492 v5289) a + S64x128.size a ≤ S4096x128.size a := fun v5289 k0_hw266 => k0_hw266.2

def k0_off493 (v5295 : BitVec 32) : Fin 2 → Nat :=
  let c63_i32_3488 : BitVec 32 := 63#32
  let c0_i32_3487 : BitVec 32 := 0#32
  let v5296 : BitVec 32 := Scalar.maxsi c0_i32_3487 v5295
  let v5297 : BitVec 32 := Scalar.minsi c63_i32_3488 v5296
  let c64_i32_3492 : BitVec 32 := 64#32
  let v5300 : BitVec 32 := Scalar.muli v5297 c64_i32_3492
  let v5381 : Index := Scalar.indexCast v5300
  let c0_3538 : Index := 0#32
  ![v5381.toNat, 0]

def k0_chk267 (v5295 : BitVec 32) : Prop :=
  (∀ a, (k0_off487 v5295) a + S64x128.size a ≤ S4096x128.size a) ∧
  (∀ a, (k0_off493 v5295) a + S64x128.size a ≤ S4096x128.size a)
theorem k0_off487_inb : ∀ (v5295 : BitVec 32) (k0_hw267 : k0_chk267 v5295), ∀ a, (k0_off487 v5295) a + S64x128.size a ≤ S4096x128.size a := fun v5295 k0_hw267 => k0_hw267.1
theorem k0_off493_inb : ∀ (v5295 : BitVec 32) (k0_hw267 : k0_chk267 v5295), ∀ a, (k0_off493 v5295) a + S64x128.size a ≤ S4096x128.size a := fun v5295 k0_hw267 => k0_hw267.2

def k0_off494 (v5301 : BitVec 32) : Fin 2 → Nat :=
  let c63_i32_3496 : BitVec 32 := 63#32
  let c0_i32_3495 : BitVec 32 := 0#32
  let v5302 : BitVec 32 := Scalar.maxsi c0_i32_3495 v5301
  let v5303 : BitVec 32 := Scalar.minsi c63_i32_3496 v5302
  let c64_i32_3500 : BitVec 32 := 64#32
  let v5306 : BitVec 32 := Scalar.muli v5303 c64_i32_3500
  let v5383 : Index := Scalar.indexCast v5306
  let c0_3539 : Index := 0#32
  ![v5383.toNat, 0]

def k0_chk268 (v5301 : BitVec 32) : Prop :=
  (∀ a, (k0_off488 v5301) a + S64x128.size a ≤ S4096x128.size a) ∧
  (∀ a, (k0_off494 v5301) a + S64x128.size a ≤ S4096x128.size a)
theorem k0_off488_inb : ∀ (v5301 : BitVec 32) (k0_hw268 : k0_chk268 v5301), ∀ a, (k0_off488 v5301) a + S64x128.size a ≤ S4096x128.size a := fun v5301 k0_hw268 => k0_hw268.1
theorem k0_off494_inb : ∀ (v5301 : BitVec 32) (k0_hw268 : k0_chk268 v5301), ∀ a, (k0_off494 v5301) a + S64x128.size a ≤ S4096x128.size a := fun v5301 k0_hw268 => k0_hw268.2

def k0_off495 (v5307 : BitVec 32) : Fin 2 → Nat :=
  let c63_i32_3504 : BitVec 32 := 63#32
  let c0_i32_3503 : BitVec 32 := 0#32
  let v5308 : BitVec 32 := Scalar.maxsi c0_i32_3503 v5307
  let v5309 : BitVec 32 := Scalar.minsi c63_i32_3504 v5308
  let c64_i32_3508 : BitVec 32 := 64#32
  let v5312 : BitVec 32 := Scalar.muli v5309 c64_i32_3508
  let v5389 : Index := Scalar.indexCast v5312
  let c0_3541 : Index := 0#32
  ![v5389.toNat, 0]

def k0_chk269 (v5307 : BitVec 32) : Prop :=
  (∀ a, (k0_off489 v5307) a + S64x128.size a ≤ S4096x128.size a) ∧
  (∀ a, (k0_off495 v5307) a + S64x128.size a ≤ S4096x128.size a)
theorem k0_off489_inb : ∀ (v5307 : BitVec 32) (k0_hw269 : k0_chk269 v5307), ∀ a, (k0_off489 v5307) a + S64x128.size a ≤ S4096x128.size a := fun v5307 k0_hw269 => k0_hw269.1
theorem k0_off495_inb : ∀ (v5307 : BitVec 32) (k0_hw269 : k0_chk269 v5307), ∀ a, (k0_off495 v5307) a + S64x128.size a ≤ S4096x128.size a := fun v5307 k0_hw269 => k0_hw269.2

def k0_off496 (v5402 : BitVec 32) : Fin 2 → Nat :=
  let c63_i32_3550 : BitVec 32 := 63#32
  let c0_i32_3549 : BitVec 32 := 0#32
  let v5403 : BitVec 32 := Scalar.maxsi c0_i32_3549 v5402
  let v5404 : BitVec 32 := Scalar.minsi c63_i32_3550 v5403
  let c64_i32_3554 : BitVec 32 := 64#32
  let v5407 : BitVec 32 := Scalar.muli v5404 c64_i32_3554
  let v5439 : Index := Scalar.indexCast v5407
  let c0_3596 : Index := 0#32
  ![v5439.toNat, 0]

def k0_off497 (v5408 : BitVec 32) : Fin 2 → Nat :=
  let c63_i32_3558 : BitVec 32 := 63#32
  let c0_i32_3557 : BitVec 32 := 0#32
  let v5409 : BitVec 32 := Scalar.maxsi c0_i32_3557 v5408
  let v5410 : BitVec 32 := Scalar.minsi c63_i32_3558 v5409
  let c64_i32_3562 : BitVec 32 := 64#32
  let v5413 : BitVec 32 := Scalar.muli v5410 c64_i32_3562
  let v5441 : Index := Scalar.indexCast v5413
  let c0_3597 : Index := 0#32
  ![v5441.toNat, 0]

def k0_off498 (v5414 : BitVec 32) : Fin 2 → Nat :=
  let c63_i32_3566 : BitVec 32 := 63#32
  let c0_i32_3565 : BitVec 32 := 0#32
  let v5415 : BitVec 32 := Scalar.maxsi c0_i32_3565 v5414
  let v5416 : BitVec 32 := Scalar.minsi c63_i32_3566 v5415
  let c64_i32_3570 : BitVec 32 := 64#32
  let v5419 : BitVec 32 := Scalar.muli v5416 c64_i32_3570
  let v5451 : Index := Scalar.indexCast v5419
  let c0_3599 : Index := 0#32
  ![v5451.toNat, 0]

def k0_off499 (v5420 : BitVec 32) : Fin 2 → Nat :=
  let c63_i32_3574 : BitVec 32 := 63#32
  let c0_i32_3573 : BitVec 32 := 0#32
  let v5421 : BitVec 32 := Scalar.maxsi c0_i32_3573 v5420
  let v5422 : BitVec 32 := Scalar.minsi c63_i32_3574 v5421
  let c64_i32_3578 : BitVec 32 := 64#32
  let v5425 : BitVec 32 := Scalar.muli v5422 c64_i32_3578
  let v5453 : Index := Scalar.indexCast v5425
  let c0_3600 : Index := 0#32
  ![v5453.toNat, 0]

def k0_off500 (v5426 : BitVec 32) : Fin 2 → Nat :=
  let c63_i32_3582 : BitVec 32 := 63#32
  let c0_i32_3581 : BitVec 32 := 0#32
  let v5427 : BitVec 32 := Scalar.maxsi c0_i32_3581 v5426
  let v5428 : BitVec 32 := Scalar.minsi c63_i32_3582 v5427
  let c64_i32_3586 : BitVec 32 := 64#32
  let v5431 : BitVec 32 := Scalar.muli v5428 c64_i32_3586
  let v5463 : Index := Scalar.indexCast v5431
  let c0_3602 : Index := 0#32
  ![v5463.toNat, 0]

def k0_off501 (v5432 : BitVec 32) : Fin 2 → Nat :=
  let c63_i32_3590 : BitVec 32 := 63#32
  let c0_i32_3589 : BitVec 32 := 0#32
  let v5433 : BitVec 32 := Scalar.maxsi c0_i32_3589 v5432
  let v5434 : BitVec 32 := Scalar.minsi c63_i32_3590 v5433
  let c64_i32_3594 : BitVec 32 := 64#32
  let v5437 : BitVec 32 := Scalar.muli v5434 c64_i32_3594
  let v5465 : Index := Scalar.indexCast v5437
  let c0_3603 : Index := 0#32
  ![v5465.toNat, 0]

def k0_chk276 (v5432 : BitVec 32) : Prop :=
  (∀ a, (k0_off501 v5432) a + S64x128.size a ≤ S4096x128.size a)
theorem k0_off501_inb : ∀ (v5432 : BitVec 32) (k0_hw276 : k0_chk276 v5432), ∀ a, (k0_off501 v5432) a + S64x128.size a ≤ S4096x128.size a := fun v5432 k0_hw276 => k0_hw276

def k0_off502 (v5402 : BitVec 32) : Fin 2 → Nat :=
  let c63_i32_3550 : BitVec 32 := 63#32
  let c0_i32_3549 : BitVec 32 := 0#32
  let v5403 : BitVec 32 := Scalar.maxsi c0_i32_3549 v5402
  let v5404 : BitVec 32 := Scalar.minsi c63_i32_3550 v5403
  let c64_i32_3554 : BitVec 32 := 64#32
  let v5407 : BitVec 32 := Scalar.muli v5404 c64_i32_3554
  let v5492 : Index := Scalar.indexCast v5407
  let c0_3613 : Index := 0#32
  ![v5492.toNat, 0]

def k0_chk271 (v5402 : BitVec 32) : Prop :=
  (∀ a, (k0_off496 v5402) a + S64x128.size a ≤ S4096x128.size a) ∧
  (∀ a, (k0_off502 v5402) a + S64x128.size a ≤ S4096x128.size a)
theorem k0_off496_inb : ∀ (v5402 : BitVec 32) (k0_hw271 : k0_chk271 v5402), ∀ a, (k0_off496 v5402) a + S64x128.size a ≤ S4096x128.size a := fun v5402 k0_hw271 => k0_hw271.1
theorem k0_off502_inb : ∀ (v5402 : BitVec 32) (k0_hw271 : k0_chk271 v5402), ∀ a, (k0_off502 v5402) a + S64x128.size a ≤ S4096x128.size a := fun v5402 k0_hw271 => k0_hw271.2

def k0_off503 (v5408 : BitVec 32) : Fin 2 → Nat :=
  let c63_i32_3558 : BitVec 32 := 63#32
  let c0_i32_3557 : BitVec 32 := 0#32
  let v5409 : BitVec 32 := Scalar.maxsi c0_i32_3557 v5408
  let v5410 : BitVec 32 := Scalar.minsi c63_i32_3558 v5409
  let c64_i32_3562 : BitVec 32 := 64#32
  let v5413 : BitVec 32 := Scalar.muli v5410 c64_i32_3562
  let v5494 : Index := Scalar.indexCast v5413
  let c0_3614 : Index := 0#32
  ![v5494.toNat, 0]

def k0_chk272 (v5408 : BitVec 32) : Prop :=
  (∀ a, (k0_off497 v5408) a + S64x128.size a ≤ S4096x128.size a) ∧
  (∀ a, (k0_off503 v5408) a + S64x128.size a ≤ S4096x128.size a)
theorem k0_off497_inb : ∀ (v5408 : BitVec 32) (k0_hw272 : k0_chk272 v5408), ∀ a, (k0_off497 v5408) a + S64x128.size a ≤ S4096x128.size a := fun v5408 k0_hw272 => k0_hw272.1
theorem k0_off503_inb : ∀ (v5408 : BitVec 32) (k0_hw272 : k0_chk272 v5408), ∀ a, (k0_off503 v5408) a + S64x128.size a ≤ S4096x128.size a := fun v5408 k0_hw272 => k0_hw272.2

def k0_off504 (v5414 : BitVec 32) : Fin 2 → Nat :=
  let c63_i32_3566 : BitVec 32 := 63#32
  let c0_i32_3565 : BitVec 32 := 0#32
  let v5415 : BitVec 32 := Scalar.maxsi c0_i32_3565 v5414
  let v5416 : BitVec 32 := Scalar.minsi c63_i32_3566 v5415
  let c64_i32_3570 : BitVec 32 := 64#32
  let v5419 : BitVec 32 := Scalar.muli v5416 c64_i32_3570
  let v5500 : Index := Scalar.indexCast v5419
  let c0_3616 : Index := 0#32
  ![v5500.toNat, 0]

def k0_chk273 (v5414 : BitVec 32) : Prop :=
  (∀ a, (k0_off498 v5414) a + S64x128.size a ≤ S4096x128.size a) ∧
  (∀ a, (k0_off504 v5414) a + S64x128.size a ≤ S4096x128.size a)
theorem k0_off498_inb : ∀ (v5414 : BitVec 32) (k0_hw273 : k0_chk273 v5414), ∀ a, (k0_off498 v5414) a + S64x128.size a ≤ S4096x128.size a := fun v5414 k0_hw273 => k0_hw273.1
theorem k0_off504_inb : ∀ (v5414 : BitVec 32) (k0_hw273 : k0_chk273 v5414), ∀ a, (k0_off504 v5414) a + S64x128.size a ≤ S4096x128.size a := fun v5414 k0_hw273 => k0_hw273.2

def k0_off505 (v5420 : BitVec 32) : Fin 2 → Nat :=
  let c63_i32_3574 : BitVec 32 := 63#32
  let c0_i32_3573 : BitVec 32 := 0#32
  let v5421 : BitVec 32 := Scalar.maxsi c0_i32_3573 v5420
  let v5422 : BitVec 32 := Scalar.minsi c63_i32_3574 v5421
  let c64_i32_3578 : BitVec 32 := 64#32
  let v5425 : BitVec 32 := Scalar.muli v5422 c64_i32_3578
  let v5502 : Index := Scalar.indexCast v5425
  let c0_3617 : Index := 0#32
  ![v5502.toNat, 0]

def k0_chk274 (v5420 : BitVec 32) : Prop :=
  (∀ a, (k0_off499 v5420) a + S64x128.size a ≤ S4096x128.size a) ∧
  (∀ a, (k0_off505 v5420) a + S64x128.size a ≤ S4096x128.size a)
theorem k0_off499_inb : ∀ (v5420 : BitVec 32) (k0_hw274 : k0_chk274 v5420), ∀ a, (k0_off499 v5420) a + S64x128.size a ≤ S4096x128.size a := fun v5420 k0_hw274 => k0_hw274.1
theorem k0_off505_inb : ∀ (v5420 : BitVec 32) (k0_hw274 : k0_chk274 v5420), ∀ a, (k0_off505 v5420) a + S64x128.size a ≤ S4096x128.size a := fun v5420 k0_hw274 => k0_hw274.2

def k0_off506 (v5426 : BitVec 32) : Fin 2 → Nat :=
  let c63_i32_3582 : BitVec 32 := 63#32
  let c0_i32_3581 : BitVec 32 := 0#32
  let v5427 : BitVec 32 := Scalar.maxsi c0_i32_3581 v5426
  let v5428 : BitVec 32 := Scalar.minsi c63_i32_3582 v5427
  let c64_i32_3586 : BitVec 32 := 64#32
  let v5431 : BitVec 32 := Scalar.muli v5428 c64_i32_3586
  let v5508 : Index := Scalar.indexCast v5431
  let c0_3619 : Index := 0#32
  ![v5508.toNat, 0]

def k0_chk275 (v5426 : BitVec 32) : Prop :=
  (∀ a, (k0_off500 v5426) a + S64x128.size a ≤ S4096x128.size a) ∧
  (∀ a, (k0_off506 v5426) a + S64x128.size a ≤ S4096x128.size a)
theorem k0_off500_inb : ∀ (v5426 : BitVec 32) (k0_hw275 : k0_chk275 v5426), ∀ a, (k0_off500 v5426) a + S64x128.size a ≤ S4096x128.size a := fun v5426 k0_hw275 => k0_hw275.1
theorem k0_off506_inb : ∀ (v5426 : BitVec 32) (k0_hw275 : k0_chk275 v5426), ∀ a, (k0_off506 v5426) a + S64x128.size a ≤ S4096x128.size a := fun v5426 k0_hw275 => k0_hw275.2

def k0_off507 (v5521 : BitVec 32) : Fin 2 → Nat :=
  let c63_i32_3628 : BitVec 32 := 63#32
  let c0_i32_3627 : BitVec 32 := 0#32
  let v5522 : BitVec 32 := Scalar.maxsi c0_i32_3627 v5521
  let v5523 : BitVec 32 := Scalar.minsi c63_i32_3628 v5522
  let c64_i32_3632 : BitVec 32 := 64#32
  let v5526 : BitVec 32 := Scalar.muli v5523 c64_i32_3632
  let v5558 : Index := Scalar.indexCast v5526
  let c0_3674 : Index := 0#32
  ![v5558.toNat, 0]

def k0_off508 (v5527 : BitVec 32) : Fin 2 → Nat :=
  let c63_i32_3636 : BitVec 32 := 63#32
  let c0_i32_3635 : BitVec 32 := 0#32
  let v5528 : BitVec 32 := Scalar.maxsi c0_i32_3635 v5527
  let v5529 : BitVec 32 := Scalar.minsi c63_i32_3636 v5528
  let c64_i32_3640 : BitVec 32 := 64#32
  let v5532 : BitVec 32 := Scalar.muli v5529 c64_i32_3640
  let v5560 : Index := Scalar.indexCast v5532
  let c0_3675 : Index := 0#32
  ![v5560.toNat, 0]

def k0_off509 (v5533 : BitVec 32) : Fin 2 → Nat :=
  let c63_i32_3644 : BitVec 32 := 63#32
  let c0_i32_3643 : BitVec 32 := 0#32
  let v5534 : BitVec 32 := Scalar.maxsi c0_i32_3643 v5533
  let v5535 : BitVec 32 := Scalar.minsi c63_i32_3644 v5534
  let c64_i32_3648 : BitVec 32 := 64#32
  let v5538 : BitVec 32 := Scalar.muli v5535 c64_i32_3648
  let v5570 : Index := Scalar.indexCast v5538
  let c0_3677 : Index := 0#32
  ![v5570.toNat, 0]

def k0_off510 (v5539 : BitVec 32) : Fin 2 → Nat :=
  let c63_i32_3652 : BitVec 32 := 63#32
  let c0_i32_3651 : BitVec 32 := 0#32
  let v5540 : BitVec 32 := Scalar.maxsi c0_i32_3651 v5539
  let v5541 : BitVec 32 := Scalar.minsi c63_i32_3652 v5540
  let c64_i32_3656 : BitVec 32 := 64#32
  let v5544 : BitVec 32 := Scalar.muli v5541 c64_i32_3656
  let v5572 : Index := Scalar.indexCast v5544
  let c0_3678 : Index := 0#32
  ![v5572.toNat, 0]

def k0_off511 (v5545 : BitVec 32) : Fin 2 → Nat :=
  let c63_i32_3660 : BitVec 32 := 63#32
  let c0_i32_3659 : BitVec 32 := 0#32
  let v5546 : BitVec 32 := Scalar.maxsi c0_i32_3659 v5545
  let v5547 : BitVec 32 := Scalar.minsi c63_i32_3660 v5546
  let c64_i32_3664 : BitVec 32 := 64#32
  let v5550 : BitVec 32 := Scalar.muli v5547 c64_i32_3664
  let v5582 : Index := Scalar.indexCast v5550
  let c0_3680 : Index := 0#32
  ![v5582.toNat, 0]

def k0_off512 (v5551 : BitVec 32) : Fin 2 → Nat :=
  let c63_i32_3668 : BitVec 32 := 63#32
  let c0_i32_3667 : BitVec 32 := 0#32
  let v5552 : BitVec 32 := Scalar.maxsi c0_i32_3667 v5551
  let v5553 : BitVec 32 := Scalar.minsi c63_i32_3668 v5552
  let c64_i32_3672 : BitVec 32 := 64#32
  let v5556 : BitVec 32 := Scalar.muli v5553 c64_i32_3672
  let v5584 : Index := Scalar.indexCast v5556
  let c0_3681 : Index := 0#32
  ![v5584.toNat, 0]

def k0_chk282 (v5551 : BitVec 32) : Prop :=
  (∀ a, (k0_off512 v5551) a + S64x128.size a ≤ S4096x128.size a)
theorem k0_off512_inb : ∀ (v5551 : BitVec 32) (k0_hw282 : k0_chk282 v5551), ∀ a, (k0_off512 v5551) a + S64x128.size a ≤ S4096x128.size a := fun v5551 k0_hw282 => k0_hw282

def k0_off513 (v5521 : BitVec 32) : Fin 2 → Nat :=
  let c63_i32_3628 : BitVec 32 := 63#32
  let c0_i32_3627 : BitVec 32 := 0#32
  let v5522 : BitVec 32 := Scalar.maxsi c0_i32_3627 v5521
  let v5523 : BitVec 32 := Scalar.minsi c63_i32_3628 v5522
  let c64_i32_3632 : BitVec 32 := 64#32
  let v5526 : BitVec 32 := Scalar.muli v5523 c64_i32_3632
  let v5611 : Index := Scalar.indexCast v5526
  let c0_3691 : Index := 0#32
  ![v5611.toNat, 0]

def k0_chk277 (v5521 : BitVec 32) : Prop :=
  (∀ a, (k0_off507 v5521) a + S64x128.size a ≤ S4096x128.size a) ∧
  (∀ a, (k0_off513 v5521) a + S64x128.size a ≤ S4096x128.size a)
theorem k0_off507_inb : ∀ (v5521 : BitVec 32) (k0_hw277 : k0_chk277 v5521), ∀ a, (k0_off507 v5521) a + S64x128.size a ≤ S4096x128.size a := fun v5521 k0_hw277 => k0_hw277.1
theorem k0_off513_inb : ∀ (v5521 : BitVec 32) (k0_hw277 : k0_chk277 v5521), ∀ a, (k0_off513 v5521) a + S64x128.size a ≤ S4096x128.size a := fun v5521 k0_hw277 => k0_hw277.2

def k0_off514 (v5527 : BitVec 32) : Fin 2 → Nat :=
  let c63_i32_3636 : BitVec 32 := 63#32
  let c0_i32_3635 : BitVec 32 := 0#32
  let v5528 : BitVec 32 := Scalar.maxsi c0_i32_3635 v5527
  let v5529 : BitVec 32 := Scalar.minsi c63_i32_3636 v5528
  let c64_i32_3640 : BitVec 32 := 64#32
  let v5532 : BitVec 32 := Scalar.muli v5529 c64_i32_3640
  let v5613 : Index := Scalar.indexCast v5532
  let c0_3692 : Index := 0#32
  ![v5613.toNat, 0]

def k0_chk278 (v5527 : BitVec 32) : Prop :=
  (∀ a, (k0_off508 v5527) a + S64x128.size a ≤ S4096x128.size a) ∧
  (∀ a, (k0_off514 v5527) a + S64x128.size a ≤ S4096x128.size a)
theorem k0_off508_inb : ∀ (v5527 : BitVec 32) (k0_hw278 : k0_chk278 v5527), ∀ a, (k0_off508 v5527) a + S64x128.size a ≤ S4096x128.size a := fun v5527 k0_hw278 => k0_hw278.1
theorem k0_off514_inb : ∀ (v5527 : BitVec 32) (k0_hw278 : k0_chk278 v5527), ∀ a, (k0_off514 v5527) a + S64x128.size a ≤ S4096x128.size a := fun v5527 k0_hw278 => k0_hw278.2

def k0_off515 (v5533 : BitVec 32) : Fin 2 → Nat :=
  let c63_i32_3644 : BitVec 32 := 63#32
  let c0_i32_3643 : BitVec 32 := 0#32
  let v5534 : BitVec 32 := Scalar.maxsi c0_i32_3643 v5533
  let v5535 : BitVec 32 := Scalar.minsi c63_i32_3644 v5534
  let c64_i32_3648 : BitVec 32 := 64#32
  let v5538 : BitVec 32 := Scalar.muli v5535 c64_i32_3648
  let v5619 : Index := Scalar.indexCast v5538
  let c0_3694 : Index := 0#32
  ![v5619.toNat, 0]

def k0_chk279 (v5533 : BitVec 32) : Prop :=
  (∀ a, (k0_off509 v5533) a + S64x128.size a ≤ S4096x128.size a) ∧
  (∀ a, (k0_off515 v5533) a + S64x128.size a ≤ S4096x128.size a)
theorem k0_off509_inb : ∀ (v5533 : BitVec 32) (k0_hw279 : k0_chk279 v5533), ∀ a, (k0_off509 v5533) a + S64x128.size a ≤ S4096x128.size a := fun v5533 k0_hw279 => k0_hw279.1
theorem k0_off515_inb : ∀ (v5533 : BitVec 32) (k0_hw279 : k0_chk279 v5533), ∀ a, (k0_off515 v5533) a + S64x128.size a ≤ S4096x128.size a := fun v5533 k0_hw279 => k0_hw279.2

def k0_off516 (v5539 : BitVec 32) : Fin 2 → Nat :=
  let c63_i32_3652 : BitVec 32 := 63#32
  let c0_i32_3651 : BitVec 32 := 0#32
  let v5540 : BitVec 32 := Scalar.maxsi c0_i32_3651 v5539
  let v5541 : BitVec 32 := Scalar.minsi c63_i32_3652 v5540
  let c64_i32_3656 : BitVec 32 := 64#32
  let v5544 : BitVec 32 := Scalar.muli v5541 c64_i32_3656
  let v5621 : Index := Scalar.indexCast v5544
  let c0_3695 : Index := 0#32
  ![v5621.toNat, 0]

def k0_chk280 (v5539 : BitVec 32) : Prop :=
  (∀ a, (k0_off510 v5539) a + S64x128.size a ≤ S4096x128.size a) ∧
  (∀ a, (k0_off516 v5539) a + S64x128.size a ≤ S4096x128.size a)
theorem k0_off510_inb : ∀ (v5539 : BitVec 32) (k0_hw280 : k0_chk280 v5539), ∀ a, (k0_off510 v5539) a + S64x128.size a ≤ S4096x128.size a := fun v5539 k0_hw280 => k0_hw280.1
theorem k0_off516_inb : ∀ (v5539 : BitVec 32) (k0_hw280 : k0_chk280 v5539), ∀ a, (k0_off516 v5539) a + S64x128.size a ≤ S4096x128.size a := fun v5539 k0_hw280 => k0_hw280.2

def k0_off517 (v5545 : BitVec 32) : Fin 2 → Nat :=
  let c63_i32_3660 : BitVec 32 := 63#32
  let c0_i32_3659 : BitVec 32 := 0#32
  let v5546 : BitVec 32 := Scalar.maxsi c0_i32_3659 v5545
  let v5547 : BitVec 32 := Scalar.minsi c63_i32_3660 v5546
  let c64_i32_3664 : BitVec 32 := 64#32
  let v5550 : BitVec 32 := Scalar.muli v5547 c64_i32_3664
  let v5627 : Index := Scalar.indexCast v5550
  let c0_3697 : Index := 0#32
  ![v5627.toNat, 0]

def k0_chk281 (v5545 : BitVec 32) : Prop :=
  (∀ a, (k0_off511 v5545) a + S64x128.size a ≤ S4096x128.size a) ∧
  (∀ a, (k0_off517 v5545) a + S64x128.size a ≤ S4096x128.size a)
theorem k0_off511_inb : ∀ (v5545 : BitVec 32) (k0_hw281 : k0_chk281 v5545), ∀ a, (k0_off511 v5545) a + S64x128.size a ≤ S4096x128.size a := fun v5545 k0_hw281 => k0_hw281.1
theorem k0_off517_inb : ∀ (v5545 : BitVec 32) (k0_hw281 : k0_chk281 v5545), ∀ a, (k0_off517 v5545) a + S64x128.size a ≤ S4096x128.size a := fun v5545 k0_hw281 => k0_hw281.2

def k0_off518 (v5640 : BitVec 32) : Fin 2 → Nat :=
  let c63_i32_3706 : BitVec 32 := 63#32
  let c0_i32_3705 : BitVec 32 := 0#32
  let v5641 : BitVec 32 := Scalar.maxsi c0_i32_3705 v5640
  let v5642 : BitVec 32 := Scalar.minsi c63_i32_3706 v5641
  let c64_i32_3710 : BitVec 32 := 64#32
  let v5645 : BitVec 32 := Scalar.muli v5642 c64_i32_3710
  let v5677 : Index := Scalar.indexCast v5645
  let c0_3752 : Index := 0#32
  ![v5677.toNat, 0]

def k0_off519 (v5646 : BitVec 32) : Fin 2 → Nat :=
  let c63_i32_3714 : BitVec 32 := 63#32
  let c0_i32_3713 : BitVec 32 := 0#32
  let v5647 : BitVec 32 := Scalar.maxsi c0_i32_3713 v5646
  let v5648 : BitVec 32 := Scalar.minsi c63_i32_3714 v5647
  let c64_i32_3718 : BitVec 32 := 64#32
  let v5651 : BitVec 32 := Scalar.muli v5648 c64_i32_3718
  let v5679 : Index := Scalar.indexCast v5651
  let c0_3753 : Index := 0#32
  ![v5679.toNat, 0]

def k0_off520 (v5652 : BitVec 32) : Fin 2 → Nat :=
  let c63_i32_3722 : BitVec 32 := 63#32
  let c0_i32_3721 : BitVec 32 := 0#32
  let v5653 : BitVec 32 := Scalar.maxsi c0_i32_3721 v5652
  let v5654 : BitVec 32 := Scalar.minsi c63_i32_3722 v5653
  let c64_i32_3726 : BitVec 32 := 64#32
  let v5657 : BitVec 32 := Scalar.muli v5654 c64_i32_3726
  let v5689 : Index := Scalar.indexCast v5657
  let c0_3755 : Index := 0#32
  ![v5689.toNat, 0]

def k0_off521 (v5658 : BitVec 32) : Fin 2 → Nat :=
  let c63_i32_3730 : BitVec 32 := 63#32
  let c0_i32_3729 : BitVec 32 := 0#32
  let v5659 : BitVec 32 := Scalar.maxsi c0_i32_3729 v5658
  let v5660 : BitVec 32 := Scalar.minsi c63_i32_3730 v5659
  let c64_i32_3734 : BitVec 32 := 64#32
  let v5663 : BitVec 32 := Scalar.muli v5660 c64_i32_3734
  let v5691 : Index := Scalar.indexCast v5663
  let c0_3756 : Index := 0#32
  ![v5691.toNat, 0]

def k0_off522 (v5664 : BitVec 32) : Fin 2 → Nat :=
  let c63_i32_3738 : BitVec 32 := 63#32
  let c0_i32_3737 : BitVec 32 := 0#32
  let v5665 : BitVec 32 := Scalar.maxsi c0_i32_3737 v5664
  let v5666 : BitVec 32 := Scalar.minsi c63_i32_3738 v5665
  let c64_i32_3742 : BitVec 32 := 64#32
  let v5669 : BitVec 32 := Scalar.muli v5666 c64_i32_3742
  let v5701 : Index := Scalar.indexCast v5669
  let c0_3758 : Index := 0#32
  ![v5701.toNat, 0]

def k0_off523 (v5670 : BitVec 32) : Fin 2 → Nat :=
  let c63_i32_3746 : BitVec 32 := 63#32
  let c0_i32_3745 : BitVec 32 := 0#32
  let v5671 : BitVec 32 := Scalar.maxsi c0_i32_3745 v5670
  let v5672 : BitVec 32 := Scalar.minsi c63_i32_3746 v5671
  let c64_i32_3750 : BitVec 32 := 64#32
  let v5675 : BitVec 32 := Scalar.muli v5672 c64_i32_3750
  let v5703 : Index := Scalar.indexCast v5675
  let c0_3759 : Index := 0#32
  ![v5703.toNat, 0]

def k0_chk288 (v5670 : BitVec 32) : Prop :=
  (∀ a, (k0_off523 v5670) a + S64x128.size a ≤ S4096x128.size a)
theorem k0_off523_inb : ∀ (v5670 : BitVec 32) (k0_hw288 : k0_chk288 v5670), ∀ a, (k0_off523 v5670) a + S64x128.size a ≤ S4096x128.size a := fun v5670 k0_hw288 => k0_hw288

def k0_off524 (v5640 : BitVec 32) : Fin 2 → Nat :=
  let c63_i32_3706 : BitVec 32 := 63#32
  let c0_i32_3705 : BitVec 32 := 0#32
  let v5641 : BitVec 32 := Scalar.maxsi c0_i32_3705 v5640
  let v5642 : BitVec 32 := Scalar.minsi c63_i32_3706 v5641
  let c64_i32_3710 : BitVec 32 := 64#32
  let v5645 : BitVec 32 := Scalar.muli v5642 c64_i32_3710
  let v5730 : Index := Scalar.indexCast v5645
  let c0_3769 : Index := 0#32
  ![v5730.toNat, 0]

def k0_chk283 (v5640 : BitVec 32) : Prop :=
  (∀ a, (k0_off518 v5640) a + S64x128.size a ≤ S4096x128.size a) ∧
  (∀ a, (k0_off524 v5640) a + S64x128.size a ≤ S4096x128.size a)
theorem k0_off518_inb : ∀ (v5640 : BitVec 32) (k0_hw283 : k0_chk283 v5640), ∀ a, (k0_off518 v5640) a + S64x128.size a ≤ S4096x128.size a := fun v5640 k0_hw283 => k0_hw283.1
theorem k0_off524_inb : ∀ (v5640 : BitVec 32) (k0_hw283 : k0_chk283 v5640), ∀ a, (k0_off524 v5640) a + S64x128.size a ≤ S4096x128.size a := fun v5640 k0_hw283 => k0_hw283.2

def k0_off525 (v5646 : BitVec 32) : Fin 2 → Nat :=
  let c63_i32_3714 : BitVec 32 := 63#32
  let c0_i32_3713 : BitVec 32 := 0#32
  let v5647 : BitVec 32 := Scalar.maxsi c0_i32_3713 v5646
  let v5648 : BitVec 32 := Scalar.minsi c63_i32_3714 v5647
  let c64_i32_3718 : BitVec 32 := 64#32
  let v5651 : BitVec 32 := Scalar.muli v5648 c64_i32_3718
  let v5732 : Index := Scalar.indexCast v5651
  let c0_3770 : Index := 0#32
  ![v5732.toNat, 0]

def k0_chk284 (v5646 : BitVec 32) : Prop :=
  (∀ a, (k0_off519 v5646) a + S64x128.size a ≤ S4096x128.size a) ∧
  (∀ a, (k0_off525 v5646) a + S64x128.size a ≤ S4096x128.size a)
theorem k0_off519_inb : ∀ (v5646 : BitVec 32) (k0_hw284 : k0_chk284 v5646), ∀ a, (k0_off519 v5646) a + S64x128.size a ≤ S4096x128.size a := fun v5646 k0_hw284 => k0_hw284.1
theorem k0_off525_inb : ∀ (v5646 : BitVec 32) (k0_hw284 : k0_chk284 v5646), ∀ a, (k0_off525 v5646) a + S64x128.size a ≤ S4096x128.size a := fun v5646 k0_hw284 => k0_hw284.2

def k0_off526 (v5652 : BitVec 32) : Fin 2 → Nat :=
  let c63_i32_3722 : BitVec 32 := 63#32
  let c0_i32_3721 : BitVec 32 := 0#32
  let v5653 : BitVec 32 := Scalar.maxsi c0_i32_3721 v5652
  let v5654 : BitVec 32 := Scalar.minsi c63_i32_3722 v5653
  let c64_i32_3726 : BitVec 32 := 64#32
  let v5657 : BitVec 32 := Scalar.muli v5654 c64_i32_3726
  let v5738 : Index := Scalar.indexCast v5657
  let c0_3772 : Index := 0#32
  ![v5738.toNat, 0]

def k0_chk285 (v5652 : BitVec 32) : Prop :=
  (∀ a, (k0_off520 v5652) a + S64x128.size a ≤ S4096x128.size a) ∧
  (∀ a, (k0_off526 v5652) a + S64x128.size a ≤ S4096x128.size a)
theorem k0_off520_inb : ∀ (v5652 : BitVec 32) (k0_hw285 : k0_chk285 v5652), ∀ a, (k0_off520 v5652) a + S64x128.size a ≤ S4096x128.size a := fun v5652 k0_hw285 => k0_hw285.1
theorem k0_off526_inb : ∀ (v5652 : BitVec 32) (k0_hw285 : k0_chk285 v5652), ∀ a, (k0_off526 v5652) a + S64x128.size a ≤ S4096x128.size a := fun v5652 k0_hw285 => k0_hw285.2

def k0_off527 (v5658 : BitVec 32) : Fin 2 → Nat :=
  let c63_i32_3730 : BitVec 32 := 63#32
  let c0_i32_3729 : BitVec 32 := 0#32
  let v5659 : BitVec 32 := Scalar.maxsi c0_i32_3729 v5658
  let v5660 : BitVec 32 := Scalar.minsi c63_i32_3730 v5659
  let c64_i32_3734 : BitVec 32 := 64#32
  let v5663 : BitVec 32 := Scalar.muli v5660 c64_i32_3734
  let v5740 : Index := Scalar.indexCast v5663
  let c0_3773 : Index := 0#32
  ![v5740.toNat, 0]

def k0_chk286 (v5658 : BitVec 32) : Prop :=
  (∀ a, (k0_off521 v5658) a + S64x128.size a ≤ S4096x128.size a) ∧
  (∀ a, (k0_off527 v5658) a + S64x128.size a ≤ S4096x128.size a)
theorem k0_off521_inb : ∀ (v5658 : BitVec 32) (k0_hw286 : k0_chk286 v5658), ∀ a, (k0_off521 v5658) a + S64x128.size a ≤ S4096x128.size a := fun v5658 k0_hw286 => k0_hw286.1
theorem k0_off527_inb : ∀ (v5658 : BitVec 32) (k0_hw286 : k0_chk286 v5658), ∀ a, (k0_off527 v5658) a + S64x128.size a ≤ S4096x128.size a := fun v5658 k0_hw286 => k0_hw286.2

def k0_off528 (v5664 : BitVec 32) : Fin 2 → Nat :=
  let c63_i32_3738 : BitVec 32 := 63#32
  let c0_i32_3737 : BitVec 32 := 0#32
  let v5665 : BitVec 32 := Scalar.maxsi c0_i32_3737 v5664
  let v5666 : BitVec 32 := Scalar.minsi c63_i32_3738 v5665
  let c64_i32_3742 : BitVec 32 := 64#32
  let v5669 : BitVec 32 := Scalar.muli v5666 c64_i32_3742
  let v5746 : Index := Scalar.indexCast v5669
  let c0_3775 : Index := 0#32
  ![v5746.toNat, 0]

def k0_chk287 (v5664 : BitVec 32) : Prop :=
  (∀ a, (k0_off522 v5664) a + S64x128.size a ≤ S4096x128.size a) ∧
  (∀ a, (k0_off528 v5664) a + S64x128.size a ≤ S4096x128.size a)
theorem k0_off522_inb : ∀ (v5664 : BitVec 32) (k0_hw287 : k0_chk287 v5664), ∀ a, (k0_off522 v5664) a + S64x128.size a ≤ S4096x128.size a := fun v5664 k0_hw287 => k0_hw287.1
theorem k0_off528_inb : ∀ (v5664 : BitVec 32) (k0_hw287 : k0_chk287 v5664), ∀ a, (k0_off528 v5664) a + S64x128.size a ≤ S4096x128.size a := fun v5664 k0_hw287 => k0_hw287.2

def k0_off529 (v5759 : BitVec 32) : Fin 2 → Nat :=
  let c63_i32_3784 : BitVec 32 := 63#32
  let c0_i32_3783 : BitVec 32 := 0#32
  let v5760 : BitVec 32 := Scalar.maxsi c0_i32_3783 v5759
  let v5761 : BitVec 32 := Scalar.minsi c63_i32_3784 v5760
  let c64_i32_3788 : BitVec 32 := 64#32
  let v5764 : BitVec 32 := Scalar.muli v5761 c64_i32_3788
  let v5796 : Index := Scalar.indexCast v5764
  let c0_3830 : Index := 0#32
  ![v5796.toNat, 0]

def k0_off530 (v5765 : BitVec 32) : Fin 2 → Nat :=
  let c63_i32_3792 : BitVec 32 := 63#32
  let c0_i32_3791 : BitVec 32 := 0#32
  let v5766 : BitVec 32 := Scalar.maxsi c0_i32_3791 v5765
  let v5767 : BitVec 32 := Scalar.minsi c63_i32_3792 v5766
  let c64_i32_3796 : BitVec 32 := 64#32
  let v5770 : BitVec 32 := Scalar.muli v5767 c64_i32_3796
  let v5798 : Index := Scalar.indexCast v5770
  let c0_3831 : Index := 0#32
  ![v5798.toNat, 0]

def k0_off531 (v5771 : BitVec 32) : Fin 2 → Nat :=
  let c63_i32_3800 : BitVec 32 := 63#32
  let c0_i32_3799 : BitVec 32 := 0#32
  let v5772 : BitVec 32 := Scalar.maxsi c0_i32_3799 v5771
  let v5773 : BitVec 32 := Scalar.minsi c63_i32_3800 v5772
  let c64_i32_3804 : BitVec 32 := 64#32
  let v5776 : BitVec 32 := Scalar.muli v5773 c64_i32_3804
  let v5808 : Index := Scalar.indexCast v5776
  let c0_3833 : Index := 0#32
  ![v5808.toNat, 0]

def k0_off532 (v5777 : BitVec 32) : Fin 2 → Nat :=
  let c63_i32_3808 : BitVec 32 := 63#32
  let c0_i32_3807 : BitVec 32 := 0#32
  let v5778 : BitVec 32 := Scalar.maxsi c0_i32_3807 v5777
  let v5779 : BitVec 32 := Scalar.minsi c63_i32_3808 v5778
  let c64_i32_3812 : BitVec 32 := 64#32
  let v5782 : BitVec 32 := Scalar.muli v5779 c64_i32_3812
  let v5810 : Index := Scalar.indexCast v5782
  let c0_3834 : Index := 0#32
  ![v5810.toNat, 0]

def k0_off533 (v5783 : BitVec 32) : Fin 2 → Nat :=
  let c63_i32_3816 : BitVec 32 := 63#32
  let c0_i32_3815 : BitVec 32 := 0#32
  let v5784 : BitVec 32 := Scalar.maxsi c0_i32_3815 v5783
  let v5785 : BitVec 32 := Scalar.minsi c63_i32_3816 v5784
  let c64_i32_3820 : BitVec 32 := 64#32
  let v5788 : BitVec 32 := Scalar.muli v5785 c64_i32_3820
  let v5820 : Index := Scalar.indexCast v5788
  let c0_3836 : Index := 0#32
  ![v5820.toNat, 0]

def k0_off534 (v5789 : BitVec 32) : Fin 2 → Nat :=
  let c63_i32_3824 : BitVec 32 := 63#32
  let c0_i32_3823 : BitVec 32 := 0#32
  let v5790 : BitVec 32 := Scalar.maxsi c0_i32_3823 v5789
  let v5791 : BitVec 32 := Scalar.minsi c63_i32_3824 v5790
  let c64_i32_3828 : BitVec 32 := 64#32
  let v5794 : BitVec 32 := Scalar.muli v5791 c64_i32_3828
  let v5822 : Index := Scalar.indexCast v5794
  let c0_3837 : Index := 0#32
  ![v5822.toNat, 0]

def k0_chk294 (v5789 : BitVec 32) : Prop :=
  (∀ a, (k0_off534 v5789) a + S64x128.size a ≤ S4096x128.size a)
theorem k0_off534_inb : ∀ (v5789 : BitVec 32) (k0_hw294 : k0_chk294 v5789), ∀ a, (k0_off534 v5789) a + S64x128.size a ≤ S4096x128.size a := fun v5789 k0_hw294 => k0_hw294

def k0_off535 (v5759 : BitVec 32) : Fin 2 → Nat :=
  let c63_i32_3784 : BitVec 32 := 63#32
  let c0_i32_3783 : BitVec 32 := 0#32
  let v5760 : BitVec 32 := Scalar.maxsi c0_i32_3783 v5759
  let v5761 : BitVec 32 := Scalar.minsi c63_i32_3784 v5760
  let c64_i32_3788 : BitVec 32 := 64#32
  let v5764 : BitVec 32 := Scalar.muli v5761 c64_i32_3788
  let v5849 : Index := Scalar.indexCast v5764
  let c0_3847 : Index := 0#32
  ![v5849.toNat, 0]

def k0_chk289 (v5759 : BitVec 32) : Prop :=
  (∀ a, (k0_off529 v5759) a + S64x128.size a ≤ S4096x128.size a) ∧
  (∀ a, (k0_off535 v5759) a + S64x128.size a ≤ S4096x128.size a)
theorem k0_off529_inb : ∀ (v5759 : BitVec 32) (k0_hw289 : k0_chk289 v5759), ∀ a, (k0_off529 v5759) a + S64x128.size a ≤ S4096x128.size a := fun v5759 k0_hw289 => k0_hw289.1
theorem k0_off535_inb : ∀ (v5759 : BitVec 32) (k0_hw289 : k0_chk289 v5759), ∀ a, (k0_off535 v5759) a + S64x128.size a ≤ S4096x128.size a := fun v5759 k0_hw289 => k0_hw289.2

def k0_off536 (v5765 : BitVec 32) : Fin 2 → Nat :=
  let c63_i32_3792 : BitVec 32 := 63#32
  let c0_i32_3791 : BitVec 32 := 0#32
  let v5766 : BitVec 32 := Scalar.maxsi c0_i32_3791 v5765
  let v5767 : BitVec 32 := Scalar.minsi c63_i32_3792 v5766
  let c64_i32_3796 : BitVec 32 := 64#32
  let v5770 : BitVec 32 := Scalar.muli v5767 c64_i32_3796
  let v5851 : Index := Scalar.indexCast v5770
  let c0_3848 : Index := 0#32
  ![v5851.toNat, 0]

def k0_chk290 (v5765 : BitVec 32) : Prop :=
  (∀ a, (k0_off530 v5765) a + S64x128.size a ≤ S4096x128.size a) ∧
  (∀ a, (k0_off536 v5765) a + S64x128.size a ≤ S4096x128.size a)
theorem k0_off530_inb : ∀ (v5765 : BitVec 32) (k0_hw290 : k0_chk290 v5765), ∀ a, (k0_off530 v5765) a + S64x128.size a ≤ S4096x128.size a := fun v5765 k0_hw290 => k0_hw290.1
theorem k0_off536_inb : ∀ (v5765 : BitVec 32) (k0_hw290 : k0_chk290 v5765), ∀ a, (k0_off536 v5765) a + S64x128.size a ≤ S4096x128.size a := fun v5765 k0_hw290 => k0_hw290.2

def k0_off537 (v5771 : BitVec 32) : Fin 2 → Nat :=
  let c63_i32_3800 : BitVec 32 := 63#32
  let c0_i32_3799 : BitVec 32 := 0#32
  let v5772 : BitVec 32 := Scalar.maxsi c0_i32_3799 v5771
  let v5773 : BitVec 32 := Scalar.minsi c63_i32_3800 v5772
  let c64_i32_3804 : BitVec 32 := 64#32
  let v5776 : BitVec 32 := Scalar.muli v5773 c64_i32_3804
  let v5857 : Index := Scalar.indexCast v5776
  let c0_3850 : Index := 0#32
  ![v5857.toNat, 0]

def k0_chk291 (v5771 : BitVec 32) : Prop :=
  (∀ a, (k0_off531 v5771) a + S64x128.size a ≤ S4096x128.size a) ∧
  (∀ a, (k0_off537 v5771) a + S64x128.size a ≤ S4096x128.size a)
theorem k0_off531_inb : ∀ (v5771 : BitVec 32) (k0_hw291 : k0_chk291 v5771), ∀ a, (k0_off531 v5771) a + S64x128.size a ≤ S4096x128.size a := fun v5771 k0_hw291 => k0_hw291.1
theorem k0_off537_inb : ∀ (v5771 : BitVec 32) (k0_hw291 : k0_chk291 v5771), ∀ a, (k0_off537 v5771) a + S64x128.size a ≤ S4096x128.size a := fun v5771 k0_hw291 => k0_hw291.2

def k0_off538 (v5777 : BitVec 32) : Fin 2 → Nat :=
  let c63_i32_3808 : BitVec 32 := 63#32
  let c0_i32_3807 : BitVec 32 := 0#32
  let v5778 : BitVec 32 := Scalar.maxsi c0_i32_3807 v5777
  let v5779 : BitVec 32 := Scalar.minsi c63_i32_3808 v5778
  let c64_i32_3812 : BitVec 32 := 64#32
  let v5782 : BitVec 32 := Scalar.muli v5779 c64_i32_3812
  let v5859 : Index := Scalar.indexCast v5782
  let c0_3851 : Index := 0#32
  ![v5859.toNat, 0]

def k0_chk292 (v5777 : BitVec 32) : Prop :=
  (∀ a, (k0_off532 v5777) a + S64x128.size a ≤ S4096x128.size a) ∧
  (∀ a, (k0_off538 v5777) a + S64x128.size a ≤ S4096x128.size a)
theorem k0_off532_inb : ∀ (v5777 : BitVec 32) (k0_hw292 : k0_chk292 v5777), ∀ a, (k0_off532 v5777) a + S64x128.size a ≤ S4096x128.size a := fun v5777 k0_hw292 => k0_hw292.1
theorem k0_off538_inb : ∀ (v5777 : BitVec 32) (k0_hw292 : k0_chk292 v5777), ∀ a, (k0_off538 v5777) a + S64x128.size a ≤ S4096x128.size a := fun v5777 k0_hw292 => k0_hw292.2

def k0_off539 (v5783 : BitVec 32) : Fin 2 → Nat :=
  let c63_i32_3816 : BitVec 32 := 63#32
  let c0_i32_3815 : BitVec 32 := 0#32
  let v5784 : BitVec 32 := Scalar.maxsi c0_i32_3815 v5783
  let v5785 : BitVec 32 := Scalar.minsi c63_i32_3816 v5784
  let c64_i32_3820 : BitVec 32 := 64#32
  let v5788 : BitVec 32 := Scalar.muli v5785 c64_i32_3820
  let v5865 : Index := Scalar.indexCast v5788
  let c0_3853 : Index := 0#32
  ![v5865.toNat, 0]

def k0_chk293 (v5783 : BitVec 32) : Prop :=
  (∀ a, (k0_off533 v5783) a + S64x128.size a ≤ S4096x128.size a) ∧
  (∀ a, (k0_off539 v5783) a + S64x128.size a ≤ S4096x128.size a)
theorem k0_off533_inb : ∀ (v5783 : BitVec 32) (k0_hw293 : k0_chk293 v5783), ∀ a, (k0_off533 v5783) a + S64x128.size a ≤ S4096x128.size a := fun v5783 k0_hw293 => k0_hw293.1
theorem k0_off539_inb : ∀ (v5783 : BitVec 32) (k0_hw293 : k0_chk293 v5783), ∀ a, (k0_off539 v5783) a + S64x128.size a ≤ S4096x128.size a := fun v5783 k0_hw293 => k0_hw293.2

def k0_off540 (v5878 : BitVec 32) : Fin 2 → Nat :=
  let c63_i32_3862 : BitVec 32 := 63#32
  let c0_i32_3861 : BitVec 32 := 0#32
  let v5879 : BitVec 32 := Scalar.maxsi c0_i32_3861 v5878
  let v5880 : BitVec 32 := Scalar.minsi c63_i32_3862 v5879
  let c64_i32_3866 : BitVec 32 := 64#32
  let v5883 : BitVec 32 := Scalar.muli v5880 c64_i32_3866
  let v5915 : Index := Scalar.indexCast v5883
  let c0_3908 : Index := 0#32
  ![v5915.toNat, 0]

def k0_off541 (v5884 : BitVec 32) : Fin 2 → Nat :=
  let c63_i32_3870 : BitVec 32 := 63#32
  let c0_i32_3869 : BitVec 32 := 0#32
  let v5885 : BitVec 32 := Scalar.maxsi c0_i32_3869 v5884
  let v5886 : BitVec 32 := Scalar.minsi c63_i32_3870 v5885
  let c64_i32_3874 : BitVec 32 := 64#32
  let v5889 : BitVec 32 := Scalar.muli v5886 c64_i32_3874
  let v5917 : Index := Scalar.indexCast v5889
  let c0_3909 : Index := 0#32
  ![v5917.toNat, 0]

def k0_off542 (v5890 : BitVec 32) : Fin 2 → Nat :=
  let c63_i32_3878 : BitVec 32 := 63#32
  let c0_i32_3877 : BitVec 32 := 0#32
  let v5891 : BitVec 32 := Scalar.maxsi c0_i32_3877 v5890
  let v5892 : BitVec 32 := Scalar.minsi c63_i32_3878 v5891
  let c64_i32_3882 : BitVec 32 := 64#32
  let v5895 : BitVec 32 := Scalar.muli v5892 c64_i32_3882
  let v5927 : Index := Scalar.indexCast v5895
  let c0_3911 : Index := 0#32
  ![v5927.toNat, 0]

def k0_off543 (v5896 : BitVec 32) : Fin 2 → Nat :=
  let c63_i32_3886 : BitVec 32 := 63#32
  let c0_i32_3885 : BitVec 32 := 0#32
  let v5897 : BitVec 32 := Scalar.maxsi c0_i32_3885 v5896
  let v5898 : BitVec 32 := Scalar.minsi c63_i32_3886 v5897
  let c64_i32_3890 : BitVec 32 := 64#32
  let v5901 : BitVec 32 := Scalar.muli v5898 c64_i32_3890
  let v5929 : Index := Scalar.indexCast v5901
  let c0_3912 : Index := 0#32
  ![v5929.toNat, 0]

def k0_off544 (v5902 : BitVec 32) : Fin 2 → Nat :=
  let c63_i32_3894 : BitVec 32 := 63#32
  let c0_i32_3893 : BitVec 32 := 0#32
  let v5903 : BitVec 32 := Scalar.maxsi c0_i32_3893 v5902
  let v5904 : BitVec 32 := Scalar.minsi c63_i32_3894 v5903
  let c64_i32_3898 : BitVec 32 := 64#32
  let v5907 : BitVec 32 := Scalar.muli v5904 c64_i32_3898
  let v5939 : Index := Scalar.indexCast v5907
  let c0_3914 : Index := 0#32
  ![v5939.toNat, 0]

def k0_off545 (v5908 : BitVec 32) : Fin 2 → Nat :=
  let c63_i32_3902 : BitVec 32 := 63#32
  let c0_i32_3901 : BitVec 32 := 0#32
  let v5909 : BitVec 32 := Scalar.maxsi c0_i32_3901 v5908
  let v5910 : BitVec 32 := Scalar.minsi c63_i32_3902 v5909
  let c64_i32_3906 : BitVec 32 := 64#32
  let v5913 : BitVec 32 := Scalar.muli v5910 c64_i32_3906
  let v5941 : Index := Scalar.indexCast v5913
  let c0_3915 : Index := 0#32
  ![v5941.toNat, 0]

def k0_chk300 (v5908 : BitVec 32) : Prop :=
  (∀ a, (k0_off545 v5908) a + S64x128.size a ≤ S4096x128.size a)
theorem k0_off545_inb : ∀ (v5908 : BitVec 32) (k0_hw300 : k0_chk300 v5908), ∀ a, (k0_off545 v5908) a + S64x128.size a ≤ S4096x128.size a := fun v5908 k0_hw300 => k0_hw300

def k0_off546 (v5878 : BitVec 32) : Fin 2 → Nat :=
  let c63_i32_3862 : BitVec 32 := 63#32
  let c0_i32_3861 : BitVec 32 := 0#32
  let v5879 : BitVec 32 := Scalar.maxsi c0_i32_3861 v5878
  let v5880 : BitVec 32 := Scalar.minsi c63_i32_3862 v5879
  let c64_i32_3866 : BitVec 32 := 64#32
  let v5883 : BitVec 32 := Scalar.muli v5880 c64_i32_3866
  let v5968 : Index := Scalar.indexCast v5883
  let c0_3925 : Index := 0#32
  ![v5968.toNat, 0]

def k0_chk295 (v5878 : BitVec 32) : Prop :=
  (∀ a, (k0_off540 v5878) a + S64x128.size a ≤ S4096x128.size a) ∧
  (∀ a, (k0_off546 v5878) a + S64x128.size a ≤ S4096x128.size a)
theorem k0_off540_inb : ∀ (v5878 : BitVec 32) (k0_hw295 : k0_chk295 v5878), ∀ a, (k0_off540 v5878) a + S64x128.size a ≤ S4096x128.size a := fun v5878 k0_hw295 => k0_hw295.1
theorem k0_off546_inb : ∀ (v5878 : BitVec 32) (k0_hw295 : k0_chk295 v5878), ∀ a, (k0_off546 v5878) a + S64x128.size a ≤ S4096x128.size a := fun v5878 k0_hw295 => k0_hw295.2

def k0_off547 (v5884 : BitVec 32) : Fin 2 → Nat :=
  let c63_i32_3870 : BitVec 32 := 63#32
  let c0_i32_3869 : BitVec 32 := 0#32
  let v5885 : BitVec 32 := Scalar.maxsi c0_i32_3869 v5884
  let v5886 : BitVec 32 := Scalar.minsi c63_i32_3870 v5885
  let c64_i32_3874 : BitVec 32 := 64#32
  let v5889 : BitVec 32 := Scalar.muli v5886 c64_i32_3874
  let v5970 : Index := Scalar.indexCast v5889
  let c0_3926 : Index := 0#32
  ![v5970.toNat, 0]

def k0_chk296 (v5884 : BitVec 32) : Prop :=
  (∀ a, (k0_off541 v5884) a + S64x128.size a ≤ S4096x128.size a) ∧
  (∀ a, (k0_off547 v5884) a + S64x128.size a ≤ S4096x128.size a)
theorem k0_off541_inb : ∀ (v5884 : BitVec 32) (k0_hw296 : k0_chk296 v5884), ∀ a, (k0_off541 v5884) a + S64x128.size a ≤ S4096x128.size a := fun v5884 k0_hw296 => k0_hw296.1
theorem k0_off547_inb : ∀ (v5884 : BitVec 32) (k0_hw296 : k0_chk296 v5884), ∀ a, (k0_off547 v5884) a + S64x128.size a ≤ S4096x128.size a := fun v5884 k0_hw296 => k0_hw296.2

def k0_off548 (v5890 : BitVec 32) : Fin 2 → Nat :=
  let c63_i32_3878 : BitVec 32 := 63#32
  let c0_i32_3877 : BitVec 32 := 0#32
  let v5891 : BitVec 32 := Scalar.maxsi c0_i32_3877 v5890
  let v5892 : BitVec 32 := Scalar.minsi c63_i32_3878 v5891
  let c64_i32_3882 : BitVec 32 := 64#32
  let v5895 : BitVec 32 := Scalar.muli v5892 c64_i32_3882
  let v5976 : Index := Scalar.indexCast v5895
  let c0_3928 : Index := 0#32
  ![v5976.toNat, 0]

def k0_chk297 (v5890 : BitVec 32) : Prop :=
  (∀ a, (k0_off542 v5890) a + S64x128.size a ≤ S4096x128.size a) ∧
  (∀ a, (k0_off548 v5890) a + S64x128.size a ≤ S4096x128.size a)
theorem k0_off542_inb : ∀ (v5890 : BitVec 32) (k0_hw297 : k0_chk297 v5890), ∀ a, (k0_off542 v5890) a + S64x128.size a ≤ S4096x128.size a := fun v5890 k0_hw297 => k0_hw297.1
theorem k0_off548_inb : ∀ (v5890 : BitVec 32) (k0_hw297 : k0_chk297 v5890), ∀ a, (k0_off548 v5890) a + S64x128.size a ≤ S4096x128.size a := fun v5890 k0_hw297 => k0_hw297.2

def k0_off549 (v5896 : BitVec 32) : Fin 2 → Nat :=
  let c63_i32_3886 : BitVec 32 := 63#32
  let c0_i32_3885 : BitVec 32 := 0#32
  let v5897 : BitVec 32 := Scalar.maxsi c0_i32_3885 v5896
  let v5898 : BitVec 32 := Scalar.minsi c63_i32_3886 v5897
  let c64_i32_3890 : BitVec 32 := 64#32
  let v5901 : BitVec 32 := Scalar.muli v5898 c64_i32_3890
  let v5978 : Index := Scalar.indexCast v5901
  let c0_3929 : Index := 0#32
  ![v5978.toNat, 0]

def k0_chk298 (v5896 : BitVec 32) : Prop :=
  (∀ a, (k0_off543 v5896) a + S64x128.size a ≤ S4096x128.size a) ∧
  (∀ a, (k0_off549 v5896) a + S64x128.size a ≤ S4096x128.size a)
theorem k0_off543_inb : ∀ (v5896 : BitVec 32) (k0_hw298 : k0_chk298 v5896), ∀ a, (k0_off543 v5896) a + S64x128.size a ≤ S4096x128.size a := fun v5896 k0_hw298 => k0_hw298.1
theorem k0_off549_inb : ∀ (v5896 : BitVec 32) (k0_hw298 : k0_chk298 v5896), ∀ a, (k0_off549 v5896) a + S64x128.size a ≤ S4096x128.size a := fun v5896 k0_hw298 => k0_hw298.2

def k0_off550 (v5902 : BitVec 32) : Fin 2 → Nat :=
  let c63_i32_3894 : BitVec 32 := 63#32
  let c0_i32_3893 : BitVec 32 := 0#32
  let v5903 : BitVec 32 := Scalar.maxsi c0_i32_3893 v5902
  let v5904 : BitVec 32 := Scalar.minsi c63_i32_3894 v5903
  let c64_i32_3898 : BitVec 32 := 64#32
  let v5907 : BitVec 32 := Scalar.muli v5904 c64_i32_3898
  let v5984 : Index := Scalar.indexCast v5907
  let c0_3931 : Index := 0#32
  ![v5984.toNat, 0]

def k0_chk299 (v5902 : BitVec 32) : Prop :=
  (∀ a, (k0_off544 v5902) a + S64x128.size a ≤ S4096x128.size a) ∧
  (∀ a, (k0_off550 v5902) a + S64x128.size a ≤ S4096x128.size a)
theorem k0_off544_inb : ∀ (v5902 : BitVec 32) (k0_hw299 : k0_chk299 v5902), ∀ a, (k0_off544 v5902) a + S64x128.size a ≤ S4096x128.size a := fun v5902 k0_hw299 => k0_hw299.1
theorem k0_off550_inb : ∀ (v5902 : BitVec 32) (k0_hw299 : k0_chk299 v5902), ∀ a, (k0_off550 v5902) a + S64x128.size a ≤ S4096x128.size a := fun v5902 k0_hw299 => k0_hw299.2

def k0_off551 (v5997 : BitVec 32) : Fin 2 → Nat :=
  let c63_i32_3940 : BitVec 32 := 63#32
  let c0_i32_3939 : BitVec 32 := 0#32
  let v5998 : BitVec 32 := Scalar.maxsi c0_i32_3939 v5997
  let v5999 : BitVec 32 := Scalar.minsi c63_i32_3940 v5998
  let c64_i32_3944 : BitVec 32 := 64#32
  let v6002 : BitVec 32 := Scalar.muli v5999 c64_i32_3944
  let v6034 : Index := Scalar.indexCast v6002
  let c0_3986 : Index := 0#32
  ![v6034.toNat, 0]

def k0_off552 (v6003 : BitVec 32) : Fin 2 → Nat :=
  let c63_i32_3948 : BitVec 32 := 63#32
  let c0_i32_3947 : BitVec 32 := 0#32
  let v6004 : BitVec 32 := Scalar.maxsi c0_i32_3947 v6003
  let v6005 : BitVec 32 := Scalar.minsi c63_i32_3948 v6004
  let c64_i32_3952 : BitVec 32 := 64#32
  let v6008 : BitVec 32 := Scalar.muli v6005 c64_i32_3952
  let v6036 : Index := Scalar.indexCast v6008
  let c0_3987 : Index := 0#32
  ![v6036.toNat, 0]

def k0_off553 (v6009 : BitVec 32) : Fin 2 → Nat :=
  let c63_i32_3956 : BitVec 32 := 63#32
  let c0_i32_3955 : BitVec 32 := 0#32
  let v6010 : BitVec 32 := Scalar.maxsi c0_i32_3955 v6009
  let v6011 : BitVec 32 := Scalar.minsi c63_i32_3956 v6010
  let c64_i32_3960 : BitVec 32 := 64#32
  let v6014 : BitVec 32 := Scalar.muli v6011 c64_i32_3960
  let v6046 : Index := Scalar.indexCast v6014
  let c0_3989 : Index := 0#32
  ![v6046.toNat, 0]

def k0_off554 (v6015 : BitVec 32) : Fin 2 → Nat :=
  let c63_i32_3964 : BitVec 32 := 63#32
  let c0_i32_3963 : BitVec 32 := 0#32
  let v6016 : BitVec 32 := Scalar.maxsi c0_i32_3963 v6015
  let v6017 : BitVec 32 := Scalar.minsi c63_i32_3964 v6016
  let c64_i32_3968 : BitVec 32 := 64#32
  let v6020 : BitVec 32 := Scalar.muli v6017 c64_i32_3968
  let v6048 : Index := Scalar.indexCast v6020
  let c0_3990 : Index := 0#32
  ![v6048.toNat, 0]

def k0_off555 (v6021 : BitVec 32) : Fin 2 → Nat :=
  let c63_i32_3972 : BitVec 32 := 63#32
  let c0_i32_3971 : BitVec 32 := 0#32
  let v6022 : BitVec 32 := Scalar.maxsi c0_i32_3971 v6021
  let v6023 : BitVec 32 := Scalar.minsi c63_i32_3972 v6022
  let c64_i32_3976 : BitVec 32 := 64#32
  let v6026 : BitVec 32 := Scalar.muli v6023 c64_i32_3976
  let v6058 : Index := Scalar.indexCast v6026
  let c0_3992 : Index := 0#32
  ![v6058.toNat, 0]

def k0_off556 (v6027 : BitVec 32) : Fin 2 → Nat :=
  let c63_i32_3980 : BitVec 32 := 63#32
  let c0_i32_3979 : BitVec 32 := 0#32
  let v6028 : BitVec 32 := Scalar.maxsi c0_i32_3979 v6027
  let v6029 : BitVec 32 := Scalar.minsi c63_i32_3980 v6028
  let c64_i32_3984 : BitVec 32 := 64#32
  let v6032 : BitVec 32 := Scalar.muli v6029 c64_i32_3984
  let v6060 : Index := Scalar.indexCast v6032
  let c0_3993 : Index := 0#32
  ![v6060.toNat, 0]

def k0_chk306 (v6027 : BitVec 32) : Prop :=
  (∀ a, (k0_off556 v6027) a + S64x128.size a ≤ S4096x128.size a)
theorem k0_off556_inb : ∀ (v6027 : BitVec 32) (k0_hw306 : k0_chk306 v6027), ∀ a, (k0_off556 v6027) a + S64x128.size a ≤ S4096x128.size a := fun v6027 k0_hw306 => k0_hw306

def k0_off557 (v5997 : BitVec 32) : Fin 2 → Nat :=
  let c63_i32_3940 : BitVec 32 := 63#32
  let c0_i32_3939 : BitVec 32 := 0#32
  let v5998 : BitVec 32 := Scalar.maxsi c0_i32_3939 v5997
  let v5999 : BitVec 32 := Scalar.minsi c63_i32_3940 v5998
  let c64_i32_3944 : BitVec 32 := 64#32
  let v6002 : BitVec 32 := Scalar.muli v5999 c64_i32_3944
  let v6087 : Index := Scalar.indexCast v6002
  let c0_4003 : Index := 0#32
  ![v6087.toNat, 0]

def k0_chk301 (v5997 : BitVec 32) : Prop :=
  (∀ a, (k0_off551 v5997) a + S64x128.size a ≤ S4096x128.size a) ∧
  (∀ a, (k0_off557 v5997) a + S64x128.size a ≤ S4096x128.size a)
theorem k0_off551_inb : ∀ (v5997 : BitVec 32) (k0_hw301 : k0_chk301 v5997), ∀ a, (k0_off551 v5997) a + S64x128.size a ≤ S4096x128.size a := fun v5997 k0_hw301 => k0_hw301.1
theorem k0_off557_inb : ∀ (v5997 : BitVec 32) (k0_hw301 : k0_chk301 v5997), ∀ a, (k0_off557 v5997) a + S64x128.size a ≤ S4096x128.size a := fun v5997 k0_hw301 => k0_hw301.2

def k0_off558 (v6003 : BitVec 32) : Fin 2 → Nat :=
  let c63_i32_3948 : BitVec 32 := 63#32
  let c0_i32_3947 : BitVec 32 := 0#32
  let v6004 : BitVec 32 := Scalar.maxsi c0_i32_3947 v6003
  let v6005 : BitVec 32 := Scalar.minsi c63_i32_3948 v6004
  let c64_i32_3952 : BitVec 32 := 64#32
  let v6008 : BitVec 32 := Scalar.muli v6005 c64_i32_3952
  let v6089 : Index := Scalar.indexCast v6008
  let c0_4004 : Index := 0#32
  ![v6089.toNat, 0]

def k0_chk302 (v6003 : BitVec 32) : Prop :=
  (∀ a, (k0_off552 v6003) a + S64x128.size a ≤ S4096x128.size a) ∧
  (∀ a, (k0_off558 v6003) a + S64x128.size a ≤ S4096x128.size a)
theorem k0_off552_inb : ∀ (v6003 : BitVec 32) (k0_hw302 : k0_chk302 v6003), ∀ a, (k0_off552 v6003) a + S64x128.size a ≤ S4096x128.size a := fun v6003 k0_hw302 => k0_hw302.1
theorem k0_off558_inb : ∀ (v6003 : BitVec 32) (k0_hw302 : k0_chk302 v6003), ∀ a, (k0_off558 v6003) a + S64x128.size a ≤ S4096x128.size a := fun v6003 k0_hw302 => k0_hw302.2

def k0_off559 (v6009 : BitVec 32) : Fin 2 → Nat :=
  let c63_i32_3956 : BitVec 32 := 63#32
  let c0_i32_3955 : BitVec 32 := 0#32
  let v6010 : BitVec 32 := Scalar.maxsi c0_i32_3955 v6009
  let v6011 : BitVec 32 := Scalar.minsi c63_i32_3956 v6010
  let c64_i32_3960 : BitVec 32 := 64#32
  let v6014 : BitVec 32 := Scalar.muli v6011 c64_i32_3960
  let v6095 : Index := Scalar.indexCast v6014
  let c0_4006 : Index := 0#32
  ![v6095.toNat, 0]

def k0_chk303 (v6009 : BitVec 32) : Prop :=
  (∀ a, (k0_off553 v6009) a + S64x128.size a ≤ S4096x128.size a) ∧
  (∀ a, (k0_off559 v6009) a + S64x128.size a ≤ S4096x128.size a)
theorem k0_off553_inb : ∀ (v6009 : BitVec 32) (k0_hw303 : k0_chk303 v6009), ∀ a, (k0_off553 v6009) a + S64x128.size a ≤ S4096x128.size a := fun v6009 k0_hw303 => k0_hw303.1
theorem k0_off559_inb : ∀ (v6009 : BitVec 32) (k0_hw303 : k0_chk303 v6009), ∀ a, (k0_off559 v6009) a + S64x128.size a ≤ S4096x128.size a := fun v6009 k0_hw303 => k0_hw303.2

def k0_off560 (v6015 : BitVec 32) : Fin 2 → Nat :=
  let c63_i32_3964 : BitVec 32 := 63#32
  let c0_i32_3963 : BitVec 32 := 0#32
  let v6016 : BitVec 32 := Scalar.maxsi c0_i32_3963 v6015
  let v6017 : BitVec 32 := Scalar.minsi c63_i32_3964 v6016
  let c64_i32_3968 : BitVec 32 := 64#32
  let v6020 : BitVec 32 := Scalar.muli v6017 c64_i32_3968
  let v6097 : Index := Scalar.indexCast v6020
  let c0_4007 : Index := 0#32
  ![v6097.toNat, 0]

def k0_chk304 (v6015 : BitVec 32) : Prop :=
  (∀ a, (k0_off554 v6015) a + S64x128.size a ≤ S4096x128.size a) ∧
  (∀ a, (k0_off560 v6015) a + S64x128.size a ≤ S4096x128.size a)
theorem k0_off554_inb : ∀ (v6015 : BitVec 32) (k0_hw304 : k0_chk304 v6015), ∀ a, (k0_off554 v6015) a + S64x128.size a ≤ S4096x128.size a := fun v6015 k0_hw304 => k0_hw304.1
theorem k0_off560_inb : ∀ (v6015 : BitVec 32) (k0_hw304 : k0_chk304 v6015), ∀ a, (k0_off560 v6015) a + S64x128.size a ≤ S4096x128.size a := fun v6015 k0_hw304 => k0_hw304.2

def k0_off561 (v6021 : BitVec 32) : Fin 2 → Nat :=
  let c63_i32_3972 : BitVec 32 := 63#32
  let c0_i32_3971 : BitVec 32 := 0#32
  let v6022 : BitVec 32 := Scalar.maxsi c0_i32_3971 v6021
  let v6023 : BitVec 32 := Scalar.minsi c63_i32_3972 v6022
  let c64_i32_3976 : BitVec 32 := 64#32
  let v6026 : BitVec 32 := Scalar.muli v6023 c64_i32_3976
  let v6103 : Index := Scalar.indexCast v6026
  let c0_4009 : Index := 0#32
  ![v6103.toNat, 0]

def k0_chk305 (v6021 : BitVec 32) : Prop :=
  (∀ a, (k0_off555 v6021) a + S64x128.size a ≤ S4096x128.size a) ∧
  (∀ a, (k0_off561 v6021) a + S64x128.size a ≤ S4096x128.size a)
theorem k0_off555_inb : ∀ (v6021 : BitVec 32) (k0_hw305 : k0_chk305 v6021), ∀ a, (k0_off555 v6021) a + S64x128.size a ≤ S4096x128.size a := fun v6021 k0_hw305 => k0_hw305.1
theorem k0_off561_inb : ∀ (v6021 : BitVec 32) (k0_hw305 : k0_chk305 v6021), ∀ a, (k0_off561 v6021) a + S64x128.size a ≤ S4096x128.size a := fun v6021 k0_hw305 => k0_hw305.2

def k0_off562 (v6116 : BitVec 32) : Fin 2 → Nat :=
  let c63_i32_4018 : BitVec 32 := 63#32
  let c0_i32_4017 : BitVec 32 := 0#32
  let v6117 : BitVec 32 := Scalar.maxsi c0_i32_4017 v6116
  let v6118 : BitVec 32 := Scalar.minsi c63_i32_4018 v6117
  let c64_i32_4022 : BitVec 32 := 64#32
  let v6121 : BitVec 32 := Scalar.muli v6118 c64_i32_4022
  let v6153 : Index := Scalar.indexCast v6121
  let c0_4064 : Index := 0#32
  ![v6153.toNat, 0]

def k0_off563 (v6122 : BitVec 32) : Fin 2 → Nat :=
  let c63_i32_4026 : BitVec 32 := 63#32
  let c0_i32_4025 : BitVec 32 := 0#32
  let v6123 : BitVec 32 := Scalar.maxsi c0_i32_4025 v6122
  let v6124 : BitVec 32 := Scalar.minsi c63_i32_4026 v6123
  let c64_i32_4030 : BitVec 32 := 64#32
  let v6127 : BitVec 32 := Scalar.muli v6124 c64_i32_4030
  let v6155 : Index := Scalar.indexCast v6127
  let c0_4065 : Index := 0#32
  ![v6155.toNat, 0]

def k0_off564 (v6128 : BitVec 32) : Fin 2 → Nat :=
  let c63_i32_4034 : BitVec 32 := 63#32
  let c0_i32_4033 : BitVec 32 := 0#32
  let v6129 : BitVec 32 := Scalar.maxsi c0_i32_4033 v6128
  let v6130 : BitVec 32 := Scalar.minsi c63_i32_4034 v6129
  let c64_i32_4038 : BitVec 32 := 64#32
  let v6133 : BitVec 32 := Scalar.muli v6130 c64_i32_4038
  let v6165 : Index := Scalar.indexCast v6133
  let c0_4067 : Index := 0#32
  ![v6165.toNat, 0]

def k0_off565 (v6134 : BitVec 32) : Fin 2 → Nat :=
  let c63_i32_4042 : BitVec 32 := 63#32
  let c0_i32_4041 : BitVec 32 := 0#32
  let v6135 : BitVec 32 := Scalar.maxsi c0_i32_4041 v6134
  let v6136 : BitVec 32 := Scalar.minsi c63_i32_4042 v6135
  let c64_i32_4046 : BitVec 32 := 64#32
  let v6139 : BitVec 32 := Scalar.muli v6136 c64_i32_4046
  let v6167 : Index := Scalar.indexCast v6139
  let c0_4068 : Index := 0#32
  ![v6167.toNat, 0]

def k0_off566 (v6140 : BitVec 32) : Fin 2 → Nat :=
  let c63_i32_4050 : BitVec 32 := 63#32
  let c0_i32_4049 : BitVec 32 := 0#32
  let v6141 : BitVec 32 := Scalar.maxsi c0_i32_4049 v6140
  let v6142 : BitVec 32 := Scalar.minsi c63_i32_4050 v6141
  let c64_i32_4054 : BitVec 32 := 64#32
  let v6145 : BitVec 32 := Scalar.muli v6142 c64_i32_4054
  let v6177 : Index := Scalar.indexCast v6145
  let c0_4070 : Index := 0#32
  ![v6177.toNat, 0]

def k0_off567 (v6146 : BitVec 32) : Fin 2 → Nat :=
  let c63_i32_4058 : BitVec 32 := 63#32
  let c0_i32_4057 : BitVec 32 := 0#32
  let v6147 : BitVec 32 := Scalar.maxsi c0_i32_4057 v6146
  let v6148 : BitVec 32 := Scalar.minsi c63_i32_4058 v6147
  let c64_i32_4062 : BitVec 32 := 64#32
  let v6151 : BitVec 32 := Scalar.muli v6148 c64_i32_4062
  let v6179 : Index := Scalar.indexCast v6151
  let c0_4071 : Index := 0#32
  ![v6179.toNat, 0]

def k0_chk312 (v6146 : BitVec 32) : Prop :=
  (∀ a, (k0_off567 v6146) a + S64x128.size a ≤ S4096x128.size a)
theorem k0_off567_inb : ∀ (v6146 : BitVec 32) (k0_hw312 : k0_chk312 v6146), ∀ a, (k0_off567 v6146) a + S64x128.size a ≤ S4096x128.size a := fun v6146 k0_hw312 => k0_hw312

def k0_off568 (v6116 : BitVec 32) : Fin 2 → Nat :=
  let c63_i32_4018 : BitVec 32 := 63#32
  let c0_i32_4017 : BitVec 32 := 0#32
  let v6117 : BitVec 32 := Scalar.maxsi c0_i32_4017 v6116
  let v6118 : BitVec 32 := Scalar.minsi c63_i32_4018 v6117
  let c64_i32_4022 : BitVec 32 := 64#32
  let v6121 : BitVec 32 := Scalar.muli v6118 c64_i32_4022
  let v6206 : Index := Scalar.indexCast v6121
  let c0_4081 : Index := 0#32
  ![v6206.toNat, 0]

def k0_chk307 (v6116 : BitVec 32) : Prop :=
  (∀ a, (k0_off562 v6116) a + S64x128.size a ≤ S4096x128.size a) ∧
  (∀ a, (k0_off568 v6116) a + S64x128.size a ≤ S4096x128.size a)
theorem k0_off562_inb : ∀ (v6116 : BitVec 32) (k0_hw307 : k0_chk307 v6116), ∀ a, (k0_off562 v6116) a + S64x128.size a ≤ S4096x128.size a := fun v6116 k0_hw307 => k0_hw307.1
theorem k0_off568_inb : ∀ (v6116 : BitVec 32) (k0_hw307 : k0_chk307 v6116), ∀ a, (k0_off568 v6116) a + S64x128.size a ≤ S4096x128.size a := fun v6116 k0_hw307 => k0_hw307.2

def k0_off569 (v6122 : BitVec 32) : Fin 2 → Nat :=
  let c63_i32_4026 : BitVec 32 := 63#32
  let c0_i32_4025 : BitVec 32 := 0#32
  let v6123 : BitVec 32 := Scalar.maxsi c0_i32_4025 v6122
  let v6124 : BitVec 32 := Scalar.minsi c63_i32_4026 v6123
  let c64_i32_4030 : BitVec 32 := 64#32
  let v6127 : BitVec 32 := Scalar.muli v6124 c64_i32_4030
  let v6208 : Index := Scalar.indexCast v6127
  let c0_4082 : Index := 0#32
  ![v6208.toNat, 0]

def k0_chk308 (v6122 : BitVec 32) : Prop :=
  (∀ a, (k0_off563 v6122) a + S64x128.size a ≤ S4096x128.size a) ∧
  (∀ a, (k0_off569 v6122) a + S64x128.size a ≤ S4096x128.size a)
theorem k0_off563_inb : ∀ (v6122 : BitVec 32) (k0_hw308 : k0_chk308 v6122), ∀ a, (k0_off563 v6122) a + S64x128.size a ≤ S4096x128.size a := fun v6122 k0_hw308 => k0_hw308.1
theorem k0_off569_inb : ∀ (v6122 : BitVec 32) (k0_hw308 : k0_chk308 v6122), ∀ a, (k0_off569 v6122) a + S64x128.size a ≤ S4096x128.size a := fun v6122 k0_hw308 => k0_hw308.2

def k0_off570 (v6128 : BitVec 32) : Fin 2 → Nat :=
  let c63_i32_4034 : BitVec 32 := 63#32
  let c0_i32_4033 : BitVec 32 := 0#32
  let v6129 : BitVec 32 := Scalar.maxsi c0_i32_4033 v6128
  let v6130 : BitVec 32 := Scalar.minsi c63_i32_4034 v6129
  let c64_i32_4038 : BitVec 32 := 64#32
  let v6133 : BitVec 32 := Scalar.muli v6130 c64_i32_4038
  let v6214 : Index := Scalar.indexCast v6133
  let c0_4084 : Index := 0#32
  ![v6214.toNat, 0]

def k0_chk309 (v6128 : BitVec 32) : Prop :=
  (∀ a, (k0_off564 v6128) a + S64x128.size a ≤ S4096x128.size a) ∧
  (∀ a, (k0_off570 v6128) a + S64x128.size a ≤ S4096x128.size a)
theorem k0_off564_inb : ∀ (v6128 : BitVec 32) (k0_hw309 : k0_chk309 v6128), ∀ a, (k0_off564 v6128) a + S64x128.size a ≤ S4096x128.size a := fun v6128 k0_hw309 => k0_hw309.1
theorem k0_off570_inb : ∀ (v6128 : BitVec 32) (k0_hw309 : k0_chk309 v6128), ∀ a, (k0_off570 v6128) a + S64x128.size a ≤ S4096x128.size a := fun v6128 k0_hw309 => k0_hw309.2

def k0_off571 (v6134 : BitVec 32) : Fin 2 → Nat :=
  let c63_i32_4042 : BitVec 32 := 63#32
  let c0_i32_4041 : BitVec 32 := 0#32
  let v6135 : BitVec 32 := Scalar.maxsi c0_i32_4041 v6134
  let v6136 : BitVec 32 := Scalar.minsi c63_i32_4042 v6135
  let c64_i32_4046 : BitVec 32 := 64#32
  let v6139 : BitVec 32 := Scalar.muli v6136 c64_i32_4046
  let v6216 : Index := Scalar.indexCast v6139
  let c0_4085 : Index := 0#32
  ![v6216.toNat, 0]

def k0_chk310 (v6134 : BitVec 32) : Prop :=
  (∀ a, (k0_off565 v6134) a + S64x128.size a ≤ S4096x128.size a) ∧
  (∀ a, (k0_off571 v6134) a + S64x128.size a ≤ S4096x128.size a)
theorem k0_off565_inb : ∀ (v6134 : BitVec 32) (k0_hw310 : k0_chk310 v6134), ∀ a, (k0_off565 v6134) a + S64x128.size a ≤ S4096x128.size a := fun v6134 k0_hw310 => k0_hw310.1
theorem k0_off571_inb : ∀ (v6134 : BitVec 32) (k0_hw310 : k0_chk310 v6134), ∀ a, (k0_off571 v6134) a + S64x128.size a ≤ S4096x128.size a := fun v6134 k0_hw310 => k0_hw310.2

def k0_off572 (v6140 : BitVec 32) : Fin 2 → Nat :=
  let c63_i32_4050 : BitVec 32 := 63#32
  let c0_i32_4049 : BitVec 32 := 0#32
  let v6141 : BitVec 32 := Scalar.maxsi c0_i32_4049 v6140
  let v6142 : BitVec 32 := Scalar.minsi c63_i32_4050 v6141
  let c64_i32_4054 : BitVec 32 := 64#32
  let v6145 : BitVec 32 := Scalar.muli v6142 c64_i32_4054
  let v6222 : Index := Scalar.indexCast v6145
  let c0_4087 : Index := 0#32
  ![v6222.toNat, 0]

def k0_chk311 (v6140 : BitVec 32) : Prop :=
  (∀ a, (k0_off566 v6140) a + S64x128.size a ≤ S4096x128.size a) ∧
  (∀ a, (k0_off572 v6140) a + S64x128.size a ≤ S4096x128.size a)
theorem k0_off566_inb : ∀ (v6140 : BitVec 32) (k0_hw311 : k0_chk311 v6140), ∀ a, (k0_off566 v6140) a + S64x128.size a ≤ S4096x128.size a := fun v6140 k0_hw311 => k0_hw311.1
theorem k0_off572_inb : ∀ (v6140 : BitVec 32) (k0_hw311 : k0_chk311 v6140), ∀ a, (k0_off572 v6140) a + S64x128.size a ≤ S4096x128.size a := fun v6140 k0_hw311 => k0_hw311.2

def k0_off573 (v6235 : BitVec 32) : Fin 2 → Nat :=
  let c63_i32_4096 : BitVec 32 := 63#32
  let c0_i32_4095 : BitVec 32 := 0#32
  let v6236 : BitVec 32 := Scalar.maxsi c0_i32_4095 v6235
  let v6237 : BitVec 32 := Scalar.minsi c63_i32_4096 v6236
  let c64_i32_4100 : BitVec 32 := 64#32
  let v6240 : BitVec 32 := Scalar.muli v6237 c64_i32_4100
  let v6272 : Index := Scalar.indexCast v6240
  let c0_4142 : Index := 0#32
  ![v6272.toNat, 0]

def k0_off574 (v6241 : BitVec 32) : Fin 2 → Nat :=
  let c63_i32_4104 : BitVec 32 := 63#32
  let c0_i32_4103 : BitVec 32 := 0#32
  let v6242 : BitVec 32 := Scalar.maxsi c0_i32_4103 v6241
  let v6243 : BitVec 32 := Scalar.minsi c63_i32_4104 v6242
  let c64_i32_4108 : BitVec 32 := 64#32
  let v6246 : BitVec 32 := Scalar.muli v6243 c64_i32_4108
  let v6274 : Index := Scalar.indexCast v6246
  let c0_4143 : Index := 0#32
  ![v6274.toNat, 0]

def k0_off575 (v6247 : BitVec 32) : Fin 2 → Nat :=
  let c63_i32_4112 : BitVec 32 := 63#32
  let c0_i32_4111 : BitVec 32 := 0#32
  let v6248 : BitVec 32 := Scalar.maxsi c0_i32_4111 v6247
  let v6249 : BitVec 32 := Scalar.minsi c63_i32_4112 v6248
  let c64_i32_4116 : BitVec 32 := 64#32
  let v6252 : BitVec 32 := Scalar.muli v6249 c64_i32_4116
  let v6284 : Index := Scalar.indexCast v6252
  let c0_4145 : Index := 0#32
  ![v6284.toNat, 0]

def k0_off576 (v6253 : BitVec 32) : Fin 2 → Nat :=
  let c63_i32_4120 : BitVec 32 := 63#32
  let c0_i32_4119 : BitVec 32 := 0#32
  let v6254 : BitVec 32 := Scalar.maxsi c0_i32_4119 v6253
  let v6255 : BitVec 32 := Scalar.minsi c63_i32_4120 v6254
  let c64_i32_4124 : BitVec 32 := 64#32
  let v6258 : BitVec 32 := Scalar.muli v6255 c64_i32_4124
  let v6286 : Index := Scalar.indexCast v6258
  let c0_4146 : Index := 0#32
  ![v6286.toNat, 0]

def k0_off577 (v6259 : BitVec 32) : Fin 2 → Nat :=
  let c63_i32_4128 : BitVec 32 := 63#32
  let c0_i32_4127 : BitVec 32 := 0#32
  let v6260 : BitVec 32 := Scalar.maxsi c0_i32_4127 v6259
  let v6261 : BitVec 32 := Scalar.minsi c63_i32_4128 v6260
  let c64_i32_4132 : BitVec 32 := 64#32
  let v6264 : BitVec 32 := Scalar.muli v6261 c64_i32_4132
  let v6296 : Index := Scalar.indexCast v6264
  let c0_4148 : Index := 0#32
  ![v6296.toNat, 0]

def k0_off578 (v6265 : BitVec 32) : Fin 2 → Nat :=
  let c63_i32_4136 : BitVec 32 := 63#32
  let c0_i32_4135 : BitVec 32 := 0#32
  let v6266 : BitVec 32 := Scalar.maxsi c0_i32_4135 v6265
  let v6267 : BitVec 32 := Scalar.minsi c63_i32_4136 v6266
  let c64_i32_4140 : BitVec 32 := 64#32
  let v6270 : BitVec 32 := Scalar.muli v6267 c64_i32_4140
  let v6298 : Index := Scalar.indexCast v6270
  let c0_4149 : Index := 0#32
  ![v6298.toNat, 0]

def k0_chk318 (v6265 : BitVec 32) : Prop :=
  (∀ a, (k0_off578 v6265) a + S64x128.size a ≤ S4096x128.size a)
theorem k0_off578_inb : ∀ (v6265 : BitVec 32) (k0_hw318 : k0_chk318 v6265), ∀ a, (k0_off578 v6265) a + S64x128.size a ≤ S4096x128.size a := fun v6265 k0_hw318 => k0_hw318

def k0_off579 (v6235 : BitVec 32) : Fin 2 → Nat :=
  let c63_i32_4096 : BitVec 32 := 63#32
  let c0_i32_4095 : BitVec 32 := 0#32
  let v6236 : BitVec 32 := Scalar.maxsi c0_i32_4095 v6235
  let v6237 : BitVec 32 := Scalar.minsi c63_i32_4096 v6236
  let c64_i32_4100 : BitVec 32 := 64#32
  let v6240 : BitVec 32 := Scalar.muli v6237 c64_i32_4100
  let v6325 : Index := Scalar.indexCast v6240
  let c0_4159 : Index := 0#32
  ![v6325.toNat, 0]

def k0_chk313 (v6235 : BitVec 32) : Prop :=
  (∀ a, (k0_off573 v6235) a + S64x128.size a ≤ S4096x128.size a) ∧
  (∀ a, (k0_off579 v6235) a + S64x128.size a ≤ S4096x128.size a)
theorem k0_off573_inb : ∀ (v6235 : BitVec 32) (k0_hw313 : k0_chk313 v6235), ∀ a, (k0_off573 v6235) a + S64x128.size a ≤ S4096x128.size a := fun v6235 k0_hw313 => k0_hw313.1
theorem k0_off579_inb : ∀ (v6235 : BitVec 32) (k0_hw313 : k0_chk313 v6235), ∀ a, (k0_off579 v6235) a + S64x128.size a ≤ S4096x128.size a := fun v6235 k0_hw313 => k0_hw313.2

def k0_off580 (v6241 : BitVec 32) : Fin 2 → Nat :=
  let c63_i32_4104 : BitVec 32 := 63#32
  let c0_i32_4103 : BitVec 32 := 0#32
  let v6242 : BitVec 32 := Scalar.maxsi c0_i32_4103 v6241
  let v6243 : BitVec 32 := Scalar.minsi c63_i32_4104 v6242
  let c64_i32_4108 : BitVec 32 := 64#32
  let v6246 : BitVec 32 := Scalar.muli v6243 c64_i32_4108
  let v6327 : Index := Scalar.indexCast v6246
  let c0_4160 : Index := 0#32
  ![v6327.toNat, 0]

def k0_chk314 (v6241 : BitVec 32) : Prop :=
  (∀ a, (k0_off574 v6241) a + S64x128.size a ≤ S4096x128.size a) ∧
  (∀ a, (k0_off580 v6241) a + S64x128.size a ≤ S4096x128.size a)
theorem k0_off574_inb : ∀ (v6241 : BitVec 32) (k0_hw314 : k0_chk314 v6241), ∀ a, (k0_off574 v6241) a + S64x128.size a ≤ S4096x128.size a := fun v6241 k0_hw314 => k0_hw314.1
theorem k0_off580_inb : ∀ (v6241 : BitVec 32) (k0_hw314 : k0_chk314 v6241), ∀ a, (k0_off580 v6241) a + S64x128.size a ≤ S4096x128.size a := fun v6241 k0_hw314 => k0_hw314.2

def k0_off581 (v6247 : BitVec 32) : Fin 2 → Nat :=
  let c63_i32_4112 : BitVec 32 := 63#32
  let c0_i32_4111 : BitVec 32 := 0#32
  let v6248 : BitVec 32 := Scalar.maxsi c0_i32_4111 v6247
  let v6249 : BitVec 32 := Scalar.minsi c63_i32_4112 v6248
  let c64_i32_4116 : BitVec 32 := 64#32
  let v6252 : BitVec 32 := Scalar.muli v6249 c64_i32_4116
  let v6333 : Index := Scalar.indexCast v6252
  let c0_4162 : Index := 0#32
  ![v6333.toNat, 0]

def k0_chk315 (v6247 : BitVec 32) : Prop :=
  (∀ a, (k0_off575 v6247) a + S64x128.size a ≤ S4096x128.size a) ∧
  (∀ a, (k0_off581 v6247) a + S64x128.size a ≤ S4096x128.size a)
theorem k0_off575_inb : ∀ (v6247 : BitVec 32) (k0_hw315 : k0_chk315 v6247), ∀ a, (k0_off575 v6247) a + S64x128.size a ≤ S4096x128.size a := fun v6247 k0_hw315 => k0_hw315.1
theorem k0_off581_inb : ∀ (v6247 : BitVec 32) (k0_hw315 : k0_chk315 v6247), ∀ a, (k0_off581 v6247) a + S64x128.size a ≤ S4096x128.size a := fun v6247 k0_hw315 => k0_hw315.2

def k0_off582 (v6253 : BitVec 32) : Fin 2 → Nat :=
  let c63_i32_4120 : BitVec 32 := 63#32
  let c0_i32_4119 : BitVec 32 := 0#32
  let v6254 : BitVec 32 := Scalar.maxsi c0_i32_4119 v6253
  let v6255 : BitVec 32 := Scalar.minsi c63_i32_4120 v6254
  let c64_i32_4124 : BitVec 32 := 64#32
  let v6258 : BitVec 32 := Scalar.muli v6255 c64_i32_4124
  let v6335 : Index := Scalar.indexCast v6258
  let c0_4163 : Index := 0#32
  ![v6335.toNat, 0]

def k0_chk316 (v6253 : BitVec 32) : Prop :=
  (∀ a, (k0_off576 v6253) a + S64x128.size a ≤ S4096x128.size a) ∧
  (∀ a, (k0_off582 v6253) a + S64x128.size a ≤ S4096x128.size a)
theorem k0_off576_inb : ∀ (v6253 : BitVec 32) (k0_hw316 : k0_chk316 v6253), ∀ a, (k0_off576 v6253) a + S64x128.size a ≤ S4096x128.size a := fun v6253 k0_hw316 => k0_hw316.1
theorem k0_off582_inb : ∀ (v6253 : BitVec 32) (k0_hw316 : k0_chk316 v6253), ∀ a, (k0_off582 v6253) a + S64x128.size a ≤ S4096x128.size a := fun v6253 k0_hw316 => k0_hw316.2

def k0_off583 (v6259 : BitVec 32) : Fin 2 → Nat :=
  let c63_i32_4128 : BitVec 32 := 63#32
  let c0_i32_4127 : BitVec 32 := 0#32
  let v6260 : BitVec 32 := Scalar.maxsi c0_i32_4127 v6259
  let v6261 : BitVec 32 := Scalar.minsi c63_i32_4128 v6260
  let c64_i32_4132 : BitVec 32 := 64#32
  let v6264 : BitVec 32 := Scalar.muli v6261 c64_i32_4132
  let v6341 : Index := Scalar.indexCast v6264
  let c0_4165 : Index := 0#32
  ![v6341.toNat, 0]

def k0_chk317 (v6259 : BitVec 32) : Prop :=
  (∀ a, (k0_off577 v6259) a + S64x128.size a ≤ S4096x128.size a) ∧
  (∀ a, (k0_off583 v6259) a + S64x128.size a ≤ S4096x128.size a)
theorem k0_off577_inb : ∀ (v6259 : BitVec 32) (k0_hw317 : k0_chk317 v6259), ∀ a, (k0_off577 v6259) a + S64x128.size a ≤ S4096x128.size a := fun v6259 k0_hw317 => k0_hw317.1
theorem k0_off583_inb : ∀ (v6259 : BitVec 32) (k0_hw317 : k0_chk317 v6259), ∀ a, (k0_off583 v6259) a + S64x128.size a ≤ S4096x128.size a := fun v6259 k0_hw317 => k0_hw317.2

def k0_off584 (v6354 : BitVec 32) : Fin 2 → Nat :=
  let c63_i32_4174 : BitVec 32 := 63#32
  let c0_i32_4173 : BitVec 32 := 0#32
  let v6355 : BitVec 32 := Scalar.maxsi c0_i32_4173 v6354
  let v6356 : BitVec 32 := Scalar.minsi c63_i32_4174 v6355
  let c64_i32_4178 : BitVec 32 := 64#32
  let v6359 : BitVec 32 := Scalar.muli v6356 c64_i32_4178
  let v6391 : Index := Scalar.indexCast v6359
  let c0_4220 : Index := 0#32
  ![v6391.toNat, 0]

def k0_off585 (v6360 : BitVec 32) : Fin 2 → Nat :=
  let c63_i32_4182 : BitVec 32 := 63#32
  let c0_i32_4181 : BitVec 32 := 0#32
  let v6361 : BitVec 32 := Scalar.maxsi c0_i32_4181 v6360
  let v6362 : BitVec 32 := Scalar.minsi c63_i32_4182 v6361
  let c64_i32_4186 : BitVec 32 := 64#32
  let v6365 : BitVec 32 := Scalar.muli v6362 c64_i32_4186
  let v6393 : Index := Scalar.indexCast v6365
  let c0_4221 : Index := 0#32
  ![v6393.toNat, 0]

def k0_off586 (v6366 : BitVec 32) : Fin 2 → Nat :=
  let c63_i32_4190 : BitVec 32 := 63#32
  let c0_i32_4189 : BitVec 32 := 0#32
  let v6367 : BitVec 32 := Scalar.maxsi c0_i32_4189 v6366
  let v6368 : BitVec 32 := Scalar.minsi c63_i32_4190 v6367
  let c64_i32_4194 : BitVec 32 := 64#32
  let v6371 : BitVec 32 := Scalar.muli v6368 c64_i32_4194
  let v6403 : Index := Scalar.indexCast v6371
  let c0_4223 : Index := 0#32
  ![v6403.toNat, 0]

def k0_off587 (v6372 : BitVec 32) : Fin 2 → Nat :=
  let c63_i32_4198 : BitVec 32 := 63#32
  let c0_i32_4197 : BitVec 32 := 0#32
  let v6373 : BitVec 32 := Scalar.maxsi c0_i32_4197 v6372
  let v6374 : BitVec 32 := Scalar.minsi c63_i32_4198 v6373
  let c64_i32_4202 : BitVec 32 := 64#32
  let v6377 : BitVec 32 := Scalar.muli v6374 c64_i32_4202
  let v6405 : Index := Scalar.indexCast v6377
  let c0_4224 : Index := 0#32
  ![v6405.toNat, 0]

def k0_off588 (v6378 : BitVec 32) : Fin 2 → Nat :=
  let c63_i32_4206 : BitVec 32 := 63#32
  let c0_i32_4205 : BitVec 32 := 0#32
  let v6379 : BitVec 32 := Scalar.maxsi c0_i32_4205 v6378
  let v6380 : BitVec 32 := Scalar.minsi c63_i32_4206 v6379
  let c64_i32_4210 : BitVec 32 := 64#32
  let v6383 : BitVec 32 := Scalar.muli v6380 c64_i32_4210
  let v6415 : Index := Scalar.indexCast v6383
  let c0_4226 : Index := 0#32
  ![v6415.toNat, 0]

def k0_off589 (v6384 : BitVec 32) : Fin 2 → Nat :=
  let c63_i32_4214 : BitVec 32 := 63#32
  let c0_i32_4213 : BitVec 32 := 0#32
  let v6385 : BitVec 32 := Scalar.maxsi c0_i32_4213 v6384
  let v6386 : BitVec 32 := Scalar.minsi c63_i32_4214 v6385
  let c64_i32_4218 : BitVec 32 := 64#32
  let v6389 : BitVec 32 := Scalar.muli v6386 c64_i32_4218
  let v6417 : Index := Scalar.indexCast v6389
  let c0_4227 : Index := 0#32
  ![v6417.toNat, 0]

def k0_chk324 (v6384 : BitVec 32) : Prop :=
  (∀ a, (k0_off589 v6384) a + S64x128.size a ≤ S4096x128.size a)
theorem k0_off589_inb : ∀ (v6384 : BitVec 32) (k0_hw324 : k0_chk324 v6384), ∀ a, (k0_off589 v6384) a + S64x128.size a ≤ S4096x128.size a := fun v6384 k0_hw324 => k0_hw324

def k0_off590 (v6354 : BitVec 32) : Fin 2 → Nat :=
  let c63_i32_4174 : BitVec 32 := 63#32
  let c0_i32_4173 : BitVec 32 := 0#32
  let v6355 : BitVec 32 := Scalar.maxsi c0_i32_4173 v6354
  let v6356 : BitVec 32 := Scalar.minsi c63_i32_4174 v6355
  let c64_i32_4178 : BitVec 32 := 64#32
  let v6359 : BitVec 32 := Scalar.muli v6356 c64_i32_4178
  let v6444 : Index := Scalar.indexCast v6359
  let c0_4237 : Index := 0#32
  ![v6444.toNat, 0]

def k0_chk319 (v6354 : BitVec 32) : Prop :=
  (∀ a, (k0_off584 v6354) a + S64x128.size a ≤ S4096x128.size a) ∧
  (∀ a, (k0_off590 v6354) a + S64x128.size a ≤ S4096x128.size a)
theorem k0_off584_inb : ∀ (v6354 : BitVec 32) (k0_hw319 : k0_chk319 v6354), ∀ a, (k0_off584 v6354) a + S64x128.size a ≤ S4096x128.size a := fun v6354 k0_hw319 => k0_hw319.1
theorem k0_off590_inb : ∀ (v6354 : BitVec 32) (k0_hw319 : k0_chk319 v6354), ∀ a, (k0_off590 v6354) a + S64x128.size a ≤ S4096x128.size a := fun v6354 k0_hw319 => k0_hw319.2

def k0_off591 (v6360 : BitVec 32) : Fin 2 → Nat :=
  let c63_i32_4182 : BitVec 32 := 63#32
  let c0_i32_4181 : BitVec 32 := 0#32
  let v6361 : BitVec 32 := Scalar.maxsi c0_i32_4181 v6360
  let v6362 : BitVec 32 := Scalar.minsi c63_i32_4182 v6361
  let c64_i32_4186 : BitVec 32 := 64#32
  let v6365 : BitVec 32 := Scalar.muli v6362 c64_i32_4186
  let v6446 : Index := Scalar.indexCast v6365
  let c0_4238 : Index := 0#32
  ![v6446.toNat, 0]

def k0_chk320 (v6360 : BitVec 32) : Prop :=
  (∀ a, (k0_off585 v6360) a + S64x128.size a ≤ S4096x128.size a) ∧
  (∀ a, (k0_off591 v6360) a + S64x128.size a ≤ S4096x128.size a)
theorem k0_off585_inb : ∀ (v6360 : BitVec 32) (k0_hw320 : k0_chk320 v6360), ∀ a, (k0_off585 v6360) a + S64x128.size a ≤ S4096x128.size a := fun v6360 k0_hw320 => k0_hw320.1
theorem k0_off591_inb : ∀ (v6360 : BitVec 32) (k0_hw320 : k0_chk320 v6360), ∀ a, (k0_off591 v6360) a + S64x128.size a ≤ S4096x128.size a := fun v6360 k0_hw320 => k0_hw320.2

def k0_off592 (v6366 : BitVec 32) : Fin 2 → Nat :=
  let c63_i32_4190 : BitVec 32 := 63#32
  let c0_i32_4189 : BitVec 32 := 0#32
  let v6367 : BitVec 32 := Scalar.maxsi c0_i32_4189 v6366
  let v6368 : BitVec 32 := Scalar.minsi c63_i32_4190 v6367
  let c64_i32_4194 : BitVec 32 := 64#32
  let v6371 : BitVec 32 := Scalar.muli v6368 c64_i32_4194
  let v6452 : Index := Scalar.indexCast v6371
  let c0_4240 : Index := 0#32
  ![v6452.toNat, 0]

def k0_chk321 (v6366 : BitVec 32) : Prop :=
  (∀ a, (k0_off586 v6366) a + S64x128.size a ≤ S4096x128.size a) ∧
  (∀ a, (k0_off592 v6366) a + S64x128.size a ≤ S4096x128.size a)
theorem k0_off586_inb : ∀ (v6366 : BitVec 32) (k0_hw321 : k0_chk321 v6366), ∀ a, (k0_off586 v6366) a + S64x128.size a ≤ S4096x128.size a := fun v6366 k0_hw321 => k0_hw321.1
theorem k0_off592_inb : ∀ (v6366 : BitVec 32) (k0_hw321 : k0_chk321 v6366), ∀ a, (k0_off592 v6366) a + S64x128.size a ≤ S4096x128.size a := fun v6366 k0_hw321 => k0_hw321.2

def k0_off593 (v6372 : BitVec 32) : Fin 2 → Nat :=
  let c63_i32_4198 : BitVec 32 := 63#32
  let c0_i32_4197 : BitVec 32 := 0#32
  let v6373 : BitVec 32 := Scalar.maxsi c0_i32_4197 v6372
  let v6374 : BitVec 32 := Scalar.minsi c63_i32_4198 v6373
  let c64_i32_4202 : BitVec 32 := 64#32
  let v6377 : BitVec 32 := Scalar.muli v6374 c64_i32_4202
  let v6454 : Index := Scalar.indexCast v6377
  let c0_4241 : Index := 0#32
  ![v6454.toNat, 0]

def k0_chk322 (v6372 : BitVec 32) : Prop :=
  (∀ a, (k0_off587 v6372) a + S64x128.size a ≤ S4096x128.size a) ∧
  (∀ a, (k0_off593 v6372) a + S64x128.size a ≤ S4096x128.size a)
theorem k0_off587_inb : ∀ (v6372 : BitVec 32) (k0_hw322 : k0_chk322 v6372), ∀ a, (k0_off587 v6372) a + S64x128.size a ≤ S4096x128.size a := fun v6372 k0_hw322 => k0_hw322.1
theorem k0_off593_inb : ∀ (v6372 : BitVec 32) (k0_hw322 : k0_chk322 v6372), ∀ a, (k0_off593 v6372) a + S64x128.size a ≤ S4096x128.size a := fun v6372 k0_hw322 => k0_hw322.2

def k0_off594 (v6378 : BitVec 32) : Fin 2 → Nat :=
  let c63_i32_4206 : BitVec 32 := 63#32
  let c0_i32_4205 : BitVec 32 := 0#32
  let v6379 : BitVec 32 := Scalar.maxsi c0_i32_4205 v6378
  let v6380 : BitVec 32 := Scalar.minsi c63_i32_4206 v6379
  let c64_i32_4210 : BitVec 32 := 64#32
  let v6383 : BitVec 32 := Scalar.muli v6380 c64_i32_4210
  let v6460 : Index := Scalar.indexCast v6383
  let c0_4243 : Index := 0#32
  ![v6460.toNat, 0]

def k0_chk323 (v6378 : BitVec 32) : Prop :=
  (∀ a, (k0_off588 v6378) a + S64x128.size a ≤ S4096x128.size a) ∧
  (∀ a, (k0_off594 v6378) a + S64x128.size a ≤ S4096x128.size a)
theorem k0_off588_inb : ∀ (v6378 : BitVec 32) (k0_hw323 : k0_chk323 v6378), ∀ a, (k0_off588 v6378) a + S64x128.size a ≤ S4096x128.size a := fun v6378 k0_hw323 => k0_hw323.1
theorem k0_off594_inb : ∀ (v6378 : BitVec 32) (k0_hw323 : k0_chk323 v6378), ∀ a, (k0_off594 v6378) a + S64x128.size a ≤ S4096x128.size a := fun v6378 k0_hw323 => k0_hw323.2

def k0_off595 (v6473 : BitVec 32) : Fin 2 → Nat :=
  let c63_i32_4252 : BitVec 32 := 63#32
  let c0_i32_4251 : BitVec 32 := 0#32
  let v6474 : BitVec 32 := Scalar.maxsi c0_i32_4251 v6473
  let v6475 : BitVec 32 := Scalar.minsi c63_i32_4252 v6474
  let c64_i32_4256 : BitVec 32 := 64#32
  let v6478 : BitVec 32 := Scalar.muli v6475 c64_i32_4256
  let v6510 : Index := Scalar.indexCast v6478
  let c0_4298 : Index := 0#32
  ![v6510.toNat, 0]

def k0_off596 (v6479 : BitVec 32) : Fin 2 → Nat :=
  let c63_i32_4260 : BitVec 32 := 63#32
  let c0_i32_4259 : BitVec 32 := 0#32
  let v6480 : BitVec 32 := Scalar.maxsi c0_i32_4259 v6479
  let v6481 : BitVec 32 := Scalar.minsi c63_i32_4260 v6480
  let c64_i32_4264 : BitVec 32 := 64#32
  let v6484 : BitVec 32 := Scalar.muli v6481 c64_i32_4264
  let v6512 : Index := Scalar.indexCast v6484
  let c0_4299 : Index := 0#32
  ![v6512.toNat, 0]

def k0_off597 (v6485 : BitVec 32) : Fin 2 → Nat :=
  let c63_i32_4268 : BitVec 32 := 63#32
  let c0_i32_4267 : BitVec 32 := 0#32
  let v6486 : BitVec 32 := Scalar.maxsi c0_i32_4267 v6485
  let v6487 : BitVec 32 := Scalar.minsi c63_i32_4268 v6486
  let c64_i32_4272 : BitVec 32 := 64#32
  let v6490 : BitVec 32 := Scalar.muli v6487 c64_i32_4272
  let v6522 : Index := Scalar.indexCast v6490
  let c0_4301 : Index := 0#32
  ![v6522.toNat, 0]

def k0_off598 (v6491 : BitVec 32) : Fin 2 → Nat :=
  let c63_i32_4276 : BitVec 32 := 63#32
  let c0_i32_4275 : BitVec 32 := 0#32
  let v6492 : BitVec 32 := Scalar.maxsi c0_i32_4275 v6491
  let v6493 : BitVec 32 := Scalar.minsi c63_i32_4276 v6492
  let c64_i32_4280 : BitVec 32 := 64#32
  let v6496 : BitVec 32 := Scalar.muli v6493 c64_i32_4280
  let v6524 : Index := Scalar.indexCast v6496
  let c0_4302 : Index := 0#32
  ![v6524.toNat, 0]

def k0_off599 (v6497 : BitVec 32) : Fin 2 → Nat :=
  let c63_i32_4284 : BitVec 32 := 63#32
  let c0_i32_4283 : BitVec 32 := 0#32
  let v6498 : BitVec 32 := Scalar.maxsi c0_i32_4283 v6497
  let v6499 : BitVec 32 := Scalar.minsi c63_i32_4284 v6498
  let c64_i32_4288 : BitVec 32 := 64#32
  let v6502 : BitVec 32 := Scalar.muli v6499 c64_i32_4288
  let v6534 : Index := Scalar.indexCast v6502
  let c0_4304 : Index := 0#32
  ![v6534.toNat, 0]

def k0_off600 (v6503 : BitVec 32) : Fin 2 → Nat :=
  let c63_i32_4292 : BitVec 32 := 63#32
  let c0_i32_4291 : BitVec 32 := 0#32
  let v6504 : BitVec 32 := Scalar.maxsi c0_i32_4291 v6503
  let v6505 : BitVec 32 := Scalar.minsi c63_i32_4292 v6504
  let c64_i32_4296 : BitVec 32 := 64#32
  let v6508 : BitVec 32 := Scalar.muli v6505 c64_i32_4296
  let v6536 : Index := Scalar.indexCast v6508
  let c0_4305 : Index := 0#32
  ![v6536.toNat, 0]

def k0_chk330 (v6503 : BitVec 32) : Prop :=
  (∀ a, (k0_off600 v6503) a + S64x128.size a ≤ S4096x128.size a)
theorem k0_off600_inb : ∀ (v6503 : BitVec 32) (k0_hw330 : k0_chk330 v6503), ∀ a, (k0_off600 v6503) a + S64x128.size a ≤ S4096x128.size a := fun v6503 k0_hw330 => k0_hw330

def k0_off601 (v6473 : BitVec 32) : Fin 2 → Nat :=
  let c63_i32_4252 : BitVec 32 := 63#32
  let c0_i32_4251 : BitVec 32 := 0#32
  let v6474 : BitVec 32 := Scalar.maxsi c0_i32_4251 v6473
  let v6475 : BitVec 32 := Scalar.minsi c63_i32_4252 v6474
  let c64_i32_4256 : BitVec 32 := 64#32
  let v6478 : BitVec 32 := Scalar.muli v6475 c64_i32_4256
  let v6563 : Index := Scalar.indexCast v6478
  let c0_4315 : Index := 0#32
  ![v6563.toNat, 0]

def k0_chk325 (v6473 : BitVec 32) : Prop :=
  (∀ a, (k0_off595 v6473) a + S64x128.size a ≤ S4096x128.size a) ∧
  (∀ a, (k0_off601 v6473) a + S64x128.size a ≤ S4096x128.size a)
theorem k0_off595_inb : ∀ (v6473 : BitVec 32) (k0_hw325 : k0_chk325 v6473), ∀ a, (k0_off595 v6473) a + S64x128.size a ≤ S4096x128.size a := fun v6473 k0_hw325 => k0_hw325.1
theorem k0_off601_inb : ∀ (v6473 : BitVec 32) (k0_hw325 : k0_chk325 v6473), ∀ a, (k0_off601 v6473) a + S64x128.size a ≤ S4096x128.size a := fun v6473 k0_hw325 => k0_hw325.2

def k0_off602 (v6479 : BitVec 32) : Fin 2 → Nat :=
  let c63_i32_4260 : BitVec 32 := 63#32
  let c0_i32_4259 : BitVec 32 := 0#32
  let v6480 : BitVec 32 := Scalar.maxsi c0_i32_4259 v6479
  let v6481 : BitVec 32 := Scalar.minsi c63_i32_4260 v6480
  let c64_i32_4264 : BitVec 32 := 64#32
  let v6484 : BitVec 32 := Scalar.muli v6481 c64_i32_4264
  let v6565 : Index := Scalar.indexCast v6484
  let c0_4316 : Index := 0#32
  ![v6565.toNat, 0]

def k0_chk326 (v6479 : BitVec 32) : Prop :=
  (∀ a, (k0_off596 v6479) a + S64x128.size a ≤ S4096x128.size a) ∧
  (∀ a, (k0_off602 v6479) a + S64x128.size a ≤ S4096x128.size a)
theorem k0_off596_inb : ∀ (v6479 : BitVec 32) (k0_hw326 : k0_chk326 v6479), ∀ a, (k0_off596 v6479) a + S64x128.size a ≤ S4096x128.size a := fun v6479 k0_hw326 => k0_hw326.1
theorem k0_off602_inb : ∀ (v6479 : BitVec 32) (k0_hw326 : k0_chk326 v6479), ∀ a, (k0_off602 v6479) a + S64x128.size a ≤ S4096x128.size a := fun v6479 k0_hw326 => k0_hw326.2

def k0_off603 (v6485 : BitVec 32) : Fin 2 → Nat :=
  let c63_i32_4268 : BitVec 32 := 63#32
  let c0_i32_4267 : BitVec 32 := 0#32
  let v6486 : BitVec 32 := Scalar.maxsi c0_i32_4267 v6485
  let v6487 : BitVec 32 := Scalar.minsi c63_i32_4268 v6486
  let c64_i32_4272 : BitVec 32 := 64#32
  let v6490 : BitVec 32 := Scalar.muli v6487 c64_i32_4272
  let v6571 : Index := Scalar.indexCast v6490
  let c0_4318 : Index := 0#32
  ![v6571.toNat, 0]

def k0_chk327 (v6485 : BitVec 32) : Prop :=
  (∀ a, (k0_off597 v6485) a + S64x128.size a ≤ S4096x128.size a) ∧
  (∀ a, (k0_off603 v6485) a + S64x128.size a ≤ S4096x128.size a)
theorem k0_off597_inb : ∀ (v6485 : BitVec 32) (k0_hw327 : k0_chk327 v6485), ∀ a, (k0_off597 v6485) a + S64x128.size a ≤ S4096x128.size a := fun v6485 k0_hw327 => k0_hw327.1
theorem k0_off603_inb : ∀ (v6485 : BitVec 32) (k0_hw327 : k0_chk327 v6485), ∀ a, (k0_off603 v6485) a + S64x128.size a ≤ S4096x128.size a := fun v6485 k0_hw327 => k0_hw327.2

def k0_off604 (v6491 : BitVec 32) : Fin 2 → Nat :=
  let c63_i32_4276 : BitVec 32 := 63#32
  let c0_i32_4275 : BitVec 32 := 0#32
  let v6492 : BitVec 32 := Scalar.maxsi c0_i32_4275 v6491
  let v6493 : BitVec 32 := Scalar.minsi c63_i32_4276 v6492
  let c64_i32_4280 : BitVec 32 := 64#32
  let v6496 : BitVec 32 := Scalar.muli v6493 c64_i32_4280
  let v6573 : Index := Scalar.indexCast v6496
  let c0_4319 : Index := 0#32
  ![v6573.toNat, 0]

def k0_chk328 (v6491 : BitVec 32) : Prop :=
  (∀ a, (k0_off598 v6491) a + S64x128.size a ≤ S4096x128.size a) ∧
  (∀ a, (k0_off604 v6491) a + S64x128.size a ≤ S4096x128.size a)
theorem k0_off598_inb : ∀ (v6491 : BitVec 32) (k0_hw328 : k0_chk328 v6491), ∀ a, (k0_off598 v6491) a + S64x128.size a ≤ S4096x128.size a := fun v6491 k0_hw328 => k0_hw328.1
theorem k0_off604_inb : ∀ (v6491 : BitVec 32) (k0_hw328 : k0_chk328 v6491), ∀ a, (k0_off604 v6491) a + S64x128.size a ≤ S4096x128.size a := fun v6491 k0_hw328 => k0_hw328.2

def k0_off605 (v6497 : BitVec 32) : Fin 2 → Nat :=
  let c63_i32_4284 : BitVec 32 := 63#32
  let c0_i32_4283 : BitVec 32 := 0#32
  let v6498 : BitVec 32 := Scalar.maxsi c0_i32_4283 v6497
  let v6499 : BitVec 32 := Scalar.minsi c63_i32_4284 v6498
  let c64_i32_4288 : BitVec 32 := 64#32
  let v6502 : BitVec 32 := Scalar.muli v6499 c64_i32_4288
  let v6579 : Index := Scalar.indexCast v6502
  let c0_4321 : Index := 0#32
  ![v6579.toNat, 0]

def k0_chk329 (v6497 : BitVec 32) : Prop :=
  (∀ a, (k0_off599 v6497) a + S64x128.size a ≤ S4096x128.size a) ∧
  (∀ a, (k0_off605 v6497) a + S64x128.size a ≤ S4096x128.size a)
theorem k0_off599_inb : ∀ (v6497 : BitVec 32) (k0_hw329 : k0_chk329 v6497), ∀ a, (k0_off599 v6497) a + S64x128.size a ≤ S4096x128.size a := fun v6497 k0_hw329 => k0_hw329.1
theorem k0_off605_inb : ∀ (v6497 : BitVec 32) (k0_hw329 : k0_chk329 v6497), ∀ a, (k0_off605 v6497) a + S64x128.size a ≤ S4096x128.size a := fun v6497 k0_hw329 => k0_hw329.2

def k0_off606 (v6592 : BitVec 32) : Fin 2 → Nat :=
  let c63_i32_4330 : BitVec 32 := 63#32
  let c0_i32_4329 : BitVec 32 := 0#32
  let v6593 : BitVec 32 := Scalar.maxsi c0_i32_4329 v6592
  let v6594 : BitVec 32 := Scalar.minsi c63_i32_4330 v6593
  let c64_i32_4334 : BitVec 32 := 64#32
  let v6597 : BitVec 32 := Scalar.muli v6594 c64_i32_4334
  let v6629 : Index := Scalar.indexCast v6597
  let c0_4376 : Index := 0#32
  ![v6629.toNat, 0]

def k0_off607 (v6598 : BitVec 32) : Fin 2 → Nat :=
  let c63_i32_4338 : BitVec 32 := 63#32
  let c0_i32_4337 : BitVec 32 := 0#32
  let v6599 : BitVec 32 := Scalar.maxsi c0_i32_4337 v6598
  let v6600 : BitVec 32 := Scalar.minsi c63_i32_4338 v6599
  let c64_i32_4342 : BitVec 32 := 64#32
  let v6603 : BitVec 32 := Scalar.muli v6600 c64_i32_4342
  let v6631 : Index := Scalar.indexCast v6603
  let c0_4377 : Index := 0#32
  ![v6631.toNat, 0]

def k0_off608 (v6604 : BitVec 32) : Fin 2 → Nat :=
  let c63_i32_4346 : BitVec 32 := 63#32
  let c0_i32_4345 : BitVec 32 := 0#32
  let v6605 : BitVec 32 := Scalar.maxsi c0_i32_4345 v6604
  let v6606 : BitVec 32 := Scalar.minsi c63_i32_4346 v6605
  let c64_i32_4350 : BitVec 32 := 64#32
  let v6609 : BitVec 32 := Scalar.muli v6606 c64_i32_4350
  let v6641 : Index := Scalar.indexCast v6609
  let c0_4379 : Index := 0#32
  ![v6641.toNat, 0]

def k0_off609 (v6610 : BitVec 32) : Fin 2 → Nat :=
  let c63_i32_4354 : BitVec 32 := 63#32
  let c0_i32_4353 : BitVec 32 := 0#32
  let v6611 : BitVec 32 := Scalar.maxsi c0_i32_4353 v6610
  let v6612 : BitVec 32 := Scalar.minsi c63_i32_4354 v6611
  let c64_i32_4358 : BitVec 32 := 64#32
  let v6615 : BitVec 32 := Scalar.muli v6612 c64_i32_4358
  let v6643 : Index := Scalar.indexCast v6615
  let c0_4380 : Index := 0#32
  ![v6643.toNat, 0]

def k0_off610 (v6616 : BitVec 32) : Fin 2 → Nat :=
  let c63_i32_4362 : BitVec 32 := 63#32
  let c0_i32_4361 : BitVec 32 := 0#32
  let v6617 : BitVec 32 := Scalar.maxsi c0_i32_4361 v6616
  let v6618 : BitVec 32 := Scalar.minsi c63_i32_4362 v6617
  let c64_i32_4366 : BitVec 32 := 64#32
  let v6621 : BitVec 32 := Scalar.muli v6618 c64_i32_4366
  let v6653 : Index := Scalar.indexCast v6621
  let c0_4382 : Index := 0#32
  ![v6653.toNat, 0]

def k0_off611 (v6622 : BitVec 32) : Fin 2 → Nat :=
  let c63_i32_4370 : BitVec 32 := 63#32
  let c0_i32_4369 : BitVec 32 := 0#32
  let v6623 : BitVec 32 := Scalar.maxsi c0_i32_4369 v6622
  let v6624 : BitVec 32 := Scalar.minsi c63_i32_4370 v6623
  let c64_i32_4374 : BitVec 32 := 64#32
  let v6627 : BitVec 32 := Scalar.muli v6624 c64_i32_4374
  let v6655 : Index := Scalar.indexCast v6627
  let c0_4383 : Index := 0#32
  ![v6655.toNat, 0]

def k0_chk336 (v6622 : BitVec 32) : Prop :=
  (∀ a, (k0_off611 v6622) a + S64x128.size a ≤ S4096x128.size a)
theorem k0_off611_inb : ∀ (v6622 : BitVec 32) (k0_hw336 : k0_chk336 v6622), ∀ a, (k0_off611 v6622) a + S64x128.size a ≤ S4096x128.size a := fun v6622 k0_hw336 => k0_hw336

def k0_off612 (v6592 : BitVec 32) : Fin 2 → Nat :=
  let c63_i32_4330 : BitVec 32 := 63#32
  let c0_i32_4329 : BitVec 32 := 0#32
  let v6593 : BitVec 32 := Scalar.maxsi c0_i32_4329 v6592
  let v6594 : BitVec 32 := Scalar.minsi c63_i32_4330 v6593
  let c64_i32_4334 : BitVec 32 := 64#32
  let v6597 : BitVec 32 := Scalar.muli v6594 c64_i32_4334
  let v6682 : Index := Scalar.indexCast v6597
  let c0_4393 : Index := 0#32
  ![v6682.toNat, 0]

def k0_chk331 (v6592 : BitVec 32) : Prop :=
  (∀ a, (k0_off606 v6592) a + S64x128.size a ≤ S4096x128.size a) ∧
  (∀ a, (k0_off612 v6592) a + S64x128.size a ≤ S4096x128.size a)
theorem k0_off606_inb : ∀ (v6592 : BitVec 32) (k0_hw331 : k0_chk331 v6592), ∀ a, (k0_off606 v6592) a + S64x128.size a ≤ S4096x128.size a := fun v6592 k0_hw331 => k0_hw331.1
theorem k0_off612_inb : ∀ (v6592 : BitVec 32) (k0_hw331 : k0_chk331 v6592), ∀ a, (k0_off612 v6592) a + S64x128.size a ≤ S4096x128.size a := fun v6592 k0_hw331 => k0_hw331.2

def k0_off613 (v6598 : BitVec 32) : Fin 2 → Nat :=
  let c63_i32_4338 : BitVec 32 := 63#32
  let c0_i32_4337 : BitVec 32 := 0#32
  let v6599 : BitVec 32 := Scalar.maxsi c0_i32_4337 v6598
  let v6600 : BitVec 32 := Scalar.minsi c63_i32_4338 v6599
  let c64_i32_4342 : BitVec 32 := 64#32
  let v6603 : BitVec 32 := Scalar.muli v6600 c64_i32_4342
  let v6684 : Index := Scalar.indexCast v6603
  let c0_4394 : Index := 0#32
  ![v6684.toNat, 0]

def k0_chk332 (v6598 : BitVec 32) : Prop :=
  (∀ a, (k0_off607 v6598) a + S64x128.size a ≤ S4096x128.size a) ∧
  (∀ a, (k0_off613 v6598) a + S64x128.size a ≤ S4096x128.size a)
theorem k0_off607_inb : ∀ (v6598 : BitVec 32) (k0_hw332 : k0_chk332 v6598), ∀ a, (k0_off607 v6598) a + S64x128.size a ≤ S4096x128.size a := fun v6598 k0_hw332 => k0_hw332.1
theorem k0_off613_inb : ∀ (v6598 : BitVec 32) (k0_hw332 : k0_chk332 v6598), ∀ a, (k0_off613 v6598) a + S64x128.size a ≤ S4096x128.size a := fun v6598 k0_hw332 => k0_hw332.2

def k0_off614 (v6604 : BitVec 32) : Fin 2 → Nat :=
  let c63_i32_4346 : BitVec 32 := 63#32
  let c0_i32_4345 : BitVec 32 := 0#32
  let v6605 : BitVec 32 := Scalar.maxsi c0_i32_4345 v6604
  let v6606 : BitVec 32 := Scalar.minsi c63_i32_4346 v6605
  let c64_i32_4350 : BitVec 32 := 64#32
  let v6609 : BitVec 32 := Scalar.muli v6606 c64_i32_4350
  let v6690 : Index := Scalar.indexCast v6609
  let c0_4396 : Index := 0#32
  ![v6690.toNat, 0]

def k0_chk333 (v6604 : BitVec 32) : Prop :=
  (∀ a, (k0_off608 v6604) a + S64x128.size a ≤ S4096x128.size a) ∧
  (∀ a, (k0_off614 v6604) a + S64x128.size a ≤ S4096x128.size a)
theorem k0_off608_inb : ∀ (v6604 : BitVec 32) (k0_hw333 : k0_chk333 v6604), ∀ a, (k0_off608 v6604) a + S64x128.size a ≤ S4096x128.size a := fun v6604 k0_hw333 => k0_hw333.1
theorem k0_off614_inb : ∀ (v6604 : BitVec 32) (k0_hw333 : k0_chk333 v6604), ∀ a, (k0_off614 v6604) a + S64x128.size a ≤ S4096x128.size a := fun v6604 k0_hw333 => k0_hw333.2

def k0_off615 (v6610 : BitVec 32) : Fin 2 → Nat :=
  let c63_i32_4354 : BitVec 32 := 63#32
  let c0_i32_4353 : BitVec 32 := 0#32
  let v6611 : BitVec 32 := Scalar.maxsi c0_i32_4353 v6610
  let v6612 : BitVec 32 := Scalar.minsi c63_i32_4354 v6611
  let c64_i32_4358 : BitVec 32 := 64#32
  let v6615 : BitVec 32 := Scalar.muli v6612 c64_i32_4358
  let v6692 : Index := Scalar.indexCast v6615
  let c0_4397 : Index := 0#32
  ![v6692.toNat, 0]

def k0_chk334 (v6610 : BitVec 32) : Prop :=
  (∀ a, (k0_off609 v6610) a + S64x128.size a ≤ S4096x128.size a) ∧
  (∀ a, (k0_off615 v6610) a + S64x128.size a ≤ S4096x128.size a)
theorem k0_off609_inb : ∀ (v6610 : BitVec 32) (k0_hw334 : k0_chk334 v6610), ∀ a, (k0_off609 v6610) a + S64x128.size a ≤ S4096x128.size a := fun v6610 k0_hw334 => k0_hw334.1
theorem k0_off615_inb : ∀ (v6610 : BitVec 32) (k0_hw334 : k0_chk334 v6610), ∀ a, (k0_off615 v6610) a + S64x128.size a ≤ S4096x128.size a := fun v6610 k0_hw334 => k0_hw334.2

def k0_off616 (v6616 : BitVec 32) : Fin 2 → Nat :=
  let c63_i32_4362 : BitVec 32 := 63#32
  let c0_i32_4361 : BitVec 32 := 0#32
  let v6617 : BitVec 32 := Scalar.maxsi c0_i32_4361 v6616
  let v6618 : BitVec 32 := Scalar.minsi c63_i32_4362 v6617
  let c64_i32_4366 : BitVec 32 := 64#32
  let v6621 : BitVec 32 := Scalar.muli v6618 c64_i32_4366
  let v6698 : Index := Scalar.indexCast v6621
  let c0_4399 : Index := 0#32
  ![v6698.toNat, 0]

def k0_chk335 (v6616 : BitVec 32) : Prop :=
  (∀ a, (k0_off610 v6616) a + S64x128.size a ≤ S4096x128.size a) ∧
  (∀ a, (k0_off616 v6616) a + S64x128.size a ≤ S4096x128.size a)
theorem k0_off610_inb : ∀ (v6616 : BitVec 32) (k0_hw335 : k0_chk335 v6616), ∀ a, (k0_off610 v6616) a + S64x128.size a ≤ S4096x128.size a := fun v6616 k0_hw335 => k0_hw335.1
theorem k0_off616_inb : ∀ (v6616 : BitVec 32) (k0_hw335 : k0_chk335 v6616), ∀ a, (k0_off616 v6616) a + S64x128.size a ≤ S4096x128.size a := fun v6616 k0_hw335 => k0_hw335.2

def k0_off617 (v6711 : BitVec 32) : Fin 2 → Nat :=
  let c63_i32_4408 : BitVec 32 := 63#32
  let c0_i32_4407 : BitVec 32 := 0#32
  let v6712 : BitVec 32 := Scalar.maxsi c0_i32_4407 v6711
  let v6713 : BitVec 32 := Scalar.minsi c63_i32_4408 v6712
  let c64_i32_4412 : BitVec 32 := 64#32
  let v6716 : BitVec 32 := Scalar.muli v6713 c64_i32_4412
  let v6748 : Index := Scalar.indexCast v6716
  let c0_4454 : Index := 0#32
  ![v6748.toNat, 0]

def k0_off618 (v6717 : BitVec 32) : Fin 2 → Nat :=
  let c63_i32_4416 : BitVec 32 := 63#32
  let c0_i32_4415 : BitVec 32 := 0#32
  let v6718 : BitVec 32 := Scalar.maxsi c0_i32_4415 v6717
  let v6719 : BitVec 32 := Scalar.minsi c63_i32_4416 v6718
  let c64_i32_4420 : BitVec 32 := 64#32
  let v6722 : BitVec 32 := Scalar.muli v6719 c64_i32_4420
  let v6750 : Index := Scalar.indexCast v6722
  let c0_4455 : Index := 0#32
  ![v6750.toNat, 0]

def k0_off619 (v6723 : BitVec 32) : Fin 2 → Nat :=
  let c63_i32_4424 : BitVec 32 := 63#32
  let c0_i32_4423 : BitVec 32 := 0#32
  let v6724 : BitVec 32 := Scalar.maxsi c0_i32_4423 v6723
  let v6725 : BitVec 32 := Scalar.minsi c63_i32_4424 v6724
  let c64_i32_4428 : BitVec 32 := 64#32
  let v6728 : BitVec 32 := Scalar.muli v6725 c64_i32_4428
  let v6760 : Index := Scalar.indexCast v6728
  let c0_4457 : Index := 0#32
  ![v6760.toNat, 0]

def k0_off620 (v6729 : BitVec 32) : Fin 2 → Nat :=
  let c63_i32_4432 : BitVec 32 := 63#32
  let c0_i32_4431 : BitVec 32 := 0#32
  let v6730 : BitVec 32 := Scalar.maxsi c0_i32_4431 v6729
  let v6731 : BitVec 32 := Scalar.minsi c63_i32_4432 v6730
  let c64_i32_4436 : BitVec 32 := 64#32
  let v6734 : BitVec 32 := Scalar.muli v6731 c64_i32_4436
  let v6762 : Index := Scalar.indexCast v6734
  let c0_4458 : Index := 0#32
  ![v6762.toNat, 0]

def k0_off621 (v6735 : BitVec 32) : Fin 2 → Nat :=
  let c63_i32_4440 : BitVec 32 := 63#32
  let c0_i32_4439 : BitVec 32 := 0#32
  let v6736 : BitVec 32 := Scalar.maxsi c0_i32_4439 v6735
  let v6737 : BitVec 32 := Scalar.minsi c63_i32_4440 v6736
  let c64_i32_4444 : BitVec 32 := 64#32
  let v6740 : BitVec 32 := Scalar.muli v6737 c64_i32_4444
  let v6772 : Index := Scalar.indexCast v6740
  let c0_4460 : Index := 0#32
  ![v6772.toNat, 0]

def k0_off622 (v6741 : BitVec 32) : Fin 2 → Nat :=
  let c63_i32_4448 : BitVec 32 := 63#32
  let c0_i32_4447 : BitVec 32 := 0#32
  let v6742 : BitVec 32 := Scalar.maxsi c0_i32_4447 v6741
  let v6743 : BitVec 32 := Scalar.minsi c63_i32_4448 v6742
  let c64_i32_4452 : BitVec 32 := 64#32
  let v6746 : BitVec 32 := Scalar.muli v6743 c64_i32_4452
  let v6774 : Index := Scalar.indexCast v6746
  let c0_4461 : Index := 0#32
  ![v6774.toNat, 0]

def k0_chk342 (v6741 : BitVec 32) : Prop :=
  (∀ a, (k0_off622 v6741) a + S64x128.size a ≤ S4096x128.size a)
theorem k0_off622_inb : ∀ (v6741 : BitVec 32) (k0_hw342 : k0_chk342 v6741), ∀ a, (k0_off622 v6741) a + S64x128.size a ≤ S4096x128.size a := fun v6741 k0_hw342 => k0_hw342

def k0_off623 (v6711 : BitVec 32) : Fin 2 → Nat :=
  let c63_i32_4408 : BitVec 32 := 63#32
  let c0_i32_4407 : BitVec 32 := 0#32
  let v6712 : BitVec 32 := Scalar.maxsi c0_i32_4407 v6711
  let v6713 : BitVec 32 := Scalar.minsi c63_i32_4408 v6712
  let c64_i32_4412 : BitVec 32 := 64#32
  let v6716 : BitVec 32 := Scalar.muli v6713 c64_i32_4412
  let v6801 : Index := Scalar.indexCast v6716
  let c0_4471 : Index := 0#32
  ![v6801.toNat, 0]

def k0_chk337 (v6711 : BitVec 32) : Prop :=
  (∀ a, (k0_off617 v6711) a + S64x128.size a ≤ S4096x128.size a) ∧
  (∀ a, (k0_off623 v6711) a + S64x128.size a ≤ S4096x128.size a)
theorem k0_off617_inb : ∀ (v6711 : BitVec 32) (k0_hw337 : k0_chk337 v6711), ∀ a, (k0_off617 v6711) a + S64x128.size a ≤ S4096x128.size a := fun v6711 k0_hw337 => k0_hw337.1
theorem k0_off623_inb : ∀ (v6711 : BitVec 32) (k0_hw337 : k0_chk337 v6711), ∀ a, (k0_off623 v6711) a + S64x128.size a ≤ S4096x128.size a := fun v6711 k0_hw337 => k0_hw337.2

def k0_off624 (v6717 : BitVec 32) : Fin 2 → Nat :=
  let c63_i32_4416 : BitVec 32 := 63#32
  let c0_i32_4415 : BitVec 32 := 0#32
  let v6718 : BitVec 32 := Scalar.maxsi c0_i32_4415 v6717
  let v6719 : BitVec 32 := Scalar.minsi c63_i32_4416 v6718
  let c64_i32_4420 : BitVec 32 := 64#32
  let v6722 : BitVec 32 := Scalar.muli v6719 c64_i32_4420
  let v6803 : Index := Scalar.indexCast v6722
  let c0_4472 : Index := 0#32
  ![v6803.toNat, 0]

def k0_chk338 (v6717 : BitVec 32) : Prop :=
  (∀ a, (k0_off618 v6717) a + S64x128.size a ≤ S4096x128.size a) ∧
  (∀ a, (k0_off624 v6717) a + S64x128.size a ≤ S4096x128.size a)
theorem k0_off618_inb : ∀ (v6717 : BitVec 32) (k0_hw338 : k0_chk338 v6717), ∀ a, (k0_off618 v6717) a + S64x128.size a ≤ S4096x128.size a := fun v6717 k0_hw338 => k0_hw338.1
theorem k0_off624_inb : ∀ (v6717 : BitVec 32) (k0_hw338 : k0_chk338 v6717), ∀ a, (k0_off624 v6717) a + S64x128.size a ≤ S4096x128.size a := fun v6717 k0_hw338 => k0_hw338.2

def k0_off625 (v6723 : BitVec 32) : Fin 2 → Nat :=
  let c63_i32_4424 : BitVec 32 := 63#32
  let c0_i32_4423 : BitVec 32 := 0#32
  let v6724 : BitVec 32 := Scalar.maxsi c0_i32_4423 v6723
  let v6725 : BitVec 32 := Scalar.minsi c63_i32_4424 v6724
  let c64_i32_4428 : BitVec 32 := 64#32
  let v6728 : BitVec 32 := Scalar.muli v6725 c64_i32_4428
  let v6809 : Index := Scalar.indexCast v6728
  let c0_4474 : Index := 0#32
  ![v6809.toNat, 0]

def k0_chk339 (v6723 : BitVec 32) : Prop :=
  (∀ a, (k0_off619 v6723) a + S64x128.size a ≤ S4096x128.size a) ∧
  (∀ a, (k0_off625 v6723) a + S64x128.size a ≤ S4096x128.size a)
theorem k0_off619_inb : ∀ (v6723 : BitVec 32) (k0_hw339 : k0_chk339 v6723), ∀ a, (k0_off619 v6723) a + S64x128.size a ≤ S4096x128.size a := fun v6723 k0_hw339 => k0_hw339.1
theorem k0_off625_inb : ∀ (v6723 : BitVec 32) (k0_hw339 : k0_chk339 v6723), ∀ a, (k0_off625 v6723) a + S64x128.size a ≤ S4096x128.size a := fun v6723 k0_hw339 => k0_hw339.2

def k0_off626 (v6729 : BitVec 32) : Fin 2 → Nat :=
  let c63_i32_4432 : BitVec 32 := 63#32
  let c0_i32_4431 : BitVec 32 := 0#32
  let v6730 : BitVec 32 := Scalar.maxsi c0_i32_4431 v6729
  let v6731 : BitVec 32 := Scalar.minsi c63_i32_4432 v6730
  let c64_i32_4436 : BitVec 32 := 64#32
  let v6734 : BitVec 32 := Scalar.muli v6731 c64_i32_4436
  let v6811 : Index := Scalar.indexCast v6734
  let c0_4475 : Index := 0#32
  ![v6811.toNat, 0]

def k0_chk340 (v6729 : BitVec 32) : Prop :=
  (∀ a, (k0_off620 v6729) a + S64x128.size a ≤ S4096x128.size a) ∧
  (∀ a, (k0_off626 v6729) a + S64x128.size a ≤ S4096x128.size a)
theorem k0_off620_inb : ∀ (v6729 : BitVec 32) (k0_hw340 : k0_chk340 v6729), ∀ a, (k0_off620 v6729) a + S64x128.size a ≤ S4096x128.size a := fun v6729 k0_hw340 => k0_hw340.1
theorem k0_off626_inb : ∀ (v6729 : BitVec 32) (k0_hw340 : k0_chk340 v6729), ∀ a, (k0_off626 v6729) a + S64x128.size a ≤ S4096x128.size a := fun v6729 k0_hw340 => k0_hw340.2

def k0_off627 (v6735 : BitVec 32) : Fin 2 → Nat :=
  let c63_i32_4440 : BitVec 32 := 63#32
  let c0_i32_4439 : BitVec 32 := 0#32
  let v6736 : BitVec 32 := Scalar.maxsi c0_i32_4439 v6735
  let v6737 : BitVec 32 := Scalar.minsi c63_i32_4440 v6736
  let c64_i32_4444 : BitVec 32 := 64#32
  let v6740 : BitVec 32 := Scalar.muli v6737 c64_i32_4444
  let v6817 : Index := Scalar.indexCast v6740
  let c0_4477 : Index := 0#32
  ![v6817.toNat, 0]

def k0_chk341 (v6735 : BitVec 32) : Prop :=
  (∀ a, (k0_off621 v6735) a + S64x128.size a ≤ S4096x128.size a) ∧
  (∀ a, (k0_off627 v6735) a + S64x128.size a ≤ S4096x128.size a)
theorem k0_off621_inb : ∀ (v6735 : BitVec 32) (k0_hw341 : k0_chk341 v6735), ∀ a, (k0_off621 v6735) a + S64x128.size a ≤ S4096x128.size a := fun v6735 k0_hw341 => k0_hw341.1
theorem k0_off627_inb : ∀ (v6735 : BitVec 32) (k0_hw341 : k0_chk341 v6735), ∀ a, (k0_off627 v6735) a + S64x128.size a ≤ S4096x128.size a := fun v6735 k0_hw341 => k0_hw341.2

def k0_off628 (v6830 : BitVec 32) : Fin 2 → Nat :=
  let c63_i32_4486 : BitVec 32 := 63#32
  let c0_i32_4485 : BitVec 32 := 0#32
  let v6831 : BitVec 32 := Scalar.maxsi c0_i32_4485 v6830
  let v6832 : BitVec 32 := Scalar.minsi c63_i32_4486 v6831
  let c64_i32_4490 : BitVec 32 := 64#32
  let v6835 : BitVec 32 := Scalar.muli v6832 c64_i32_4490
  let v6867 : Index := Scalar.indexCast v6835
  let c0_4532 : Index := 0#32
  ![v6867.toNat, 0]

def k0_off629 (v6836 : BitVec 32) : Fin 2 → Nat :=
  let c63_i32_4494 : BitVec 32 := 63#32
  let c0_i32_4493 : BitVec 32 := 0#32
  let v6837 : BitVec 32 := Scalar.maxsi c0_i32_4493 v6836
  let v6838 : BitVec 32 := Scalar.minsi c63_i32_4494 v6837
  let c64_i32_4498 : BitVec 32 := 64#32
  let v6841 : BitVec 32 := Scalar.muli v6838 c64_i32_4498
  let v6869 : Index := Scalar.indexCast v6841
  let c0_4533 : Index := 0#32
  ![v6869.toNat, 0]

def k0_off630 (v6842 : BitVec 32) : Fin 2 → Nat :=
  let c63_i32_4502 : BitVec 32 := 63#32
  let c0_i32_4501 : BitVec 32 := 0#32
  let v6843 : BitVec 32 := Scalar.maxsi c0_i32_4501 v6842
  let v6844 : BitVec 32 := Scalar.minsi c63_i32_4502 v6843
  let c64_i32_4506 : BitVec 32 := 64#32
  let v6847 : BitVec 32 := Scalar.muli v6844 c64_i32_4506
  let v6879 : Index := Scalar.indexCast v6847
  let c0_4535 : Index := 0#32
  ![v6879.toNat, 0]

def k0_off631 (v6848 : BitVec 32) : Fin 2 → Nat :=
  let c63_i32_4510 : BitVec 32 := 63#32
  let c0_i32_4509 : BitVec 32 := 0#32
  let v6849 : BitVec 32 := Scalar.maxsi c0_i32_4509 v6848
  let v6850 : BitVec 32 := Scalar.minsi c63_i32_4510 v6849
  let c64_i32_4514 : BitVec 32 := 64#32
  let v6853 : BitVec 32 := Scalar.muli v6850 c64_i32_4514
  let v6881 : Index := Scalar.indexCast v6853
  let c0_4536 : Index := 0#32
  ![v6881.toNat, 0]

def k0_off632 (v6854 : BitVec 32) : Fin 2 → Nat :=
  let c63_i32_4518 : BitVec 32 := 63#32
  let c0_i32_4517 : BitVec 32 := 0#32
  let v6855 : BitVec 32 := Scalar.maxsi c0_i32_4517 v6854
  let v6856 : BitVec 32 := Scalar.minsi c63_i32_4518 v6855
  let c64_i32_4522 : BitVec 32 := 64#32
  let v6859 : BitVec 32 := Scalar.muli v6856 c64_i32_4522
  let v6891 : Index := Scalar.indexCast v6859
  let c0_4538 : Index := 0#32
  ![v6891.toNat, 0]

def k0_off633 (v6860 : BitVec 32) : Fin 2 → Nat :=
  let c63_i32_4526 : BitVec 32 := 63#32
  let c0_i32_4525 : BitVec 32 := 0#32
  let v6861 : BitVec 32 := Scalar.maxsi c0_i32_4525 v6860
  let v6862 : BitVec 32 := Scalar.minsi c63_i32_4526 v6861
  let c64_i32_4530 : BitVec 32 := 64#32
  let v6865 : BitVec 32 := Scalar.muli v6862 c64_i32_4530
  let v6893 : Index := Scalar.indexCast v6865
  let c0_4539 : Index := 0#32
  ![v6893.toNat, 0]

def k0_chk348 (v6860 : BitVec 32) : Prop :=
  (∀ a, (k0_off633 v6860) a + S64x128.size a ≤ S4096x128.size a)
theorem k0_off633_inb : ∀ (v6860 : BitVec 32) (k0_hw348 : k0_chk348 v6860), ∀ a, (k0_off633 v6860) a + S64x128.size a ≤ S4096x128.size a := fun v6860 k0_hw348 => k0_hw348

def k0_off634 (v6830 : BitVec 32) : Fin 2 → Nat :=
  let c63_i32_4486 : BitVec 32 := 63#32
  let c0_i32_4485 : BitVec 32 := 0#32
  let v6831 : BitVec 32 := Scalar.maxsi c0_i32_4485 v6830
  let v6832 : BitVec 32 := Scalar.minsi c63_i32_4486 v6831
  let c64_i32_4490 : BitVec 32 := 64#32
  let v6835 : BitVec 32 := Scalar.muli v6832 c64_i32_4490
  let v6920 : Index := Scalar.indexCast v6835
  let c0_4549 : Index := 0#32
  ![v6920.toNat, 0]

def k0_chk343 (v6830 : BitVec 32) : Prop :=
  (∀ a, (k0_off628 v6830) a + S64x128.size a ≤ S4096x128.size a) ∧
  (∀ a, (k0_off634 v6830) a + S64x128.size a ≤ S4096x128.size a)
theorem k0_off628_inb : ∀ (v6830 : BitVec 32) (k0_hw343 : k0_chk343 v6830), ∀ a, (k0_off628 v6830) a + S64x128.size a ≤ S4096x128.size a := fun v6830 k0_hw343 => k0_hw343.1
theorem k0_off634_inb : ∀ (v6830 : BitVec 32) (k0_hw343 : k0_chk343 v6830), ∀ a, (k0_off634 v6830) a + S64x128.size a ≤ S4096x128.size a := fun v6830 k0_hw343 => k0_hw343.2

def k0_off635 (v6836 : BitVec 32) : Fin 2 → Nat :=
  let c63_i32_4494 : BitVec 32 := 63#32
  let c0_i32_4493 : BitVec 32 := 0#32
  let v6837 : BitVec 32 := Scalar.maxsi c0_i32_4493 v6836
  let v6838 : BitVec 32 := Scalar.minsi c63_i32_4494 v6837
  let c64_i32_4498 : BitVec 32 := 64#32
  let v6841 : BitVec 32 := Scalar.muli v6838 c64_i32_4498
  let v6922 : Index := Scalar.indexCast v6841
  let c0_4550 : Index := 0#32
  ![v6922.toNat, 0]

def k0_chk344 (v6836 : BitVec 32) : Prop :=
  (∀ a, (k0_off629 v6836) a + S64x128.size a ≤ S4096x128.size a) ∧
  (∀ a, (k0_off635 v6836) a + S64x128.size a ≤ S4096x128.size a)
theorem k0_off629_inb : ∀ (v6836 : BitVec 32) (k0_hw344 : k0_chk344 v6836), ∀ a, (k0_off629 v6836) a + S64x128.size a ≤ S4096x128.size a := fun v6836 k0_hw344 => k0_hw344.1
theorem k0_off635_inb : ∀ (v6836 : BitVec 32) (k0_hw344 : k0_chk344 v6836), ∀ a, (k0_off635 v6836) a + S64x128.size a ≤ S4096x128.size a := fun v6836 k0_hw344 => k0_hw344.2

def k0_off636 (v6842 : BitVec 32) : Fin 2 → Nat :=
  let c63_i32_4502 : BitVec 32 := 63#32
  let c0_i32_4501 : BitVec 32 := 0#32
  let v6843 : BitVec 32 := Scalar.maxsi c0_i32_4501 v6842
  let v6844 : BitVec 32 := Scalar.minsi c63_i32_4502 v6843
  let c64_i32_4506 : BitVec 32 := 64#32
  let v6847 : BitVec 32 := Scalar.muli v6844 c64_i32_4506
  let v6928 : Index := Scalar.indexCast v6847
  let c0_4552 : Index := 0#32
  ![v6928.toNat, 0]

def k0_chk345 (v6842 : BitVec 32) : Prop :=
  (∀ a, (k0_off630 v6842) a + S64x128.size a ≤ S4096x128.size a) ∧
  (∀ a, (k0_off636 v6842) a + S64x128.size a ≤ S4096x128.size a)
theorem k0_off630_inb : ∀ (v6842 : BitVec 32) (k0_hw345 : k0_chk345 v6842), ∀ a, (k0_off630 v6842) a + S64x128.size a ≤ S4096x128.size a := fun v6842 k0_hw345 => k0_hw345.1
theorem k0_off636_inb : ∀ (v6842 : BitVec 32) (k0_hw345 : k0_chk345 v6842), ∀ a, (k0_off636 v6842) a + S64x128.size a ≤ S4096x128.size a := fun v6842 k0_hw345 => k0_hw345.2

def k0_off637 (v6848 : BitVec 32) : Fin 2 → Nat :=
  let c63_i32_4510 : BitVec 32 := 63#32
  let c0_i32_4509 : BitVec 32 := 0#32
  let v6849 : BitVec 32 := Scalar.maxsi c0_i32_4509 v6848
  let v6850 : BitVec 32 := Scalar.minsi c63_i32_4510 v6849
  let c64_i32_4514 : BitVec 32 := 64#32
  let v6853 : BitVec 32 := Scalar.muli v6850 c64_i32_4514
  let v6930 : Index := Scalar.indexCast v6853
  let c0_4553 : Index := 0#32
  ![v6930.toNat, 0]

def k0_chk346 (v6848 : BitVec 32) : Prop :=
  (∀ a, (k0_off631 v6848) a + S64x128.size a ≤ S4096x128.size a) ∧
  (∀ a, (k0_off637 v6848) a + S64x128.size a ≤ S4096x128.size a)
theorem k0_off631_inb : ∀ (v6848 : BitVec 32) (k0_hw346 : k0_chk346 v6848), ∀ a, (k0_off631 v6848) a + S64x128.size a ≤ S4096x128.size a := fun v6848 k0_hw346 => k0_hw346.1
theorem k0_off637_inb : ∀ (v6848 : BitVec 32) (k0_hw346 : k0_chk346 v6848), ∀ a, (k0_off637 v6848) a + S64x128.size a ≤ S4096x128.size a := fun v6848 k0_hw346 => k0_hw346.2

def k0_off638 (v6854 : BitVec 32) : Fin 2 → Nat :=
  let c63_i32_4518 : BitVec 32 := 63#32
  let c0_i32_4517 : BitVec 32 := 0#32
  let v6855 : BitVec 32 := Scalar.maxsi c0_i32_4517 v6854
  let v6856 : BitVec 32 := Scalar.minsi c63_i32_4518 v6855
  let c64_i32_4522 : BitVec 32 := 64#32
  let v6859 : BitVec 32 := Scalar.muli v6856 c64_i32_4522
  let v6936 : Index := Scalar.indexCast v6859
  let c0_4555 : Index := 0#32
  ![v6936.toNat, 0]

def k0_chk347 (v6854 : BitVec 32) : Prop :=
  (∀ a, (k0_off632 v6854) a + S64x128.size a ≤ S4096x128.size a) ∧
  (∀ a, (k0_off638 v6854) a + S64x128.size a ≤ S4096x128.size a)
theorem k0_off632_inb : ∀ (v6854 : BitVec 32) (k0_hw347 : k0_chk347 v6854), ∀ a, (k0_off632 v6854) a + S64x128.size a ≤ S4096x128.size a := fun v6854 k0_hw347 => k0_hw347.1
theorem k0_off638_inb : ∀ (v6854 : BitVec 32) (k0_hw347 : k0_chk347 v6854), ∀ a, (k0_off638 v6854) a + S64x128.size a ≤ S4096x128.size a := fun v6854 k0_hw347 => k0_hw347.2

def k0_off639 (v6949 : BitVec 32) : Fin 2 → Nat :=
  let c63_i32_4564 : BitVec 32 := 63#32
  let c0_i32_4563 : BitVec 32 := 0#32
  let v6950 : BitVec 32 := Scalar.maxsi c0_i32_4563 v6949
  let v6951 : BitVec 32 := Scalar.minsi c63_i32_4564 v6950
  let c64_i32_4568 : BitVec 32 := 64#32
  let v6954 : BitVec 32 := Scalar.muli v6951 c64_i32_4568
  let v6986 : Index := Scalar.indexCast v6954
  let c0_4610 : Index := 0#32
  ![v6986.toNat, 0]

def k0_off640 (v6955 : BitVec 32) : Fin 2 → Nat :=
  let c63_i32_4572 : BitVec 32 := 63#32
  let c0_i32_4571 : BitVec 32 := 0#32
  let v6956 : BitVec 32 := Scalar.maxsi c0_i32_4571 v6955
  let v6957 : BitVec 32 := Scalar.minsi c63_i32_4572 v6956
  let c64_i32_4576 : BitVec 32 := 64#32
  let v6960 : BitVec 32 := Scalar.muli v6957 c64_i32_4576
  let v6988 : Index := Scalar.indexCast v6960
  let c0_4611 : Index := 0#32
  ![v6988.toNat, 0]

def k0_off641 (v6961 : BitVec 32) : Fin 2 → Nat :=
  let c63_i32_4580 : BitVec 32 := 63#32
  let c0_i32_4579 : BitVec 32 := 0#32
  let v6962 : BitVec 32 := Scalar.maxsi c0_i32_4579 v6961
  let v6963 : BitVec 32 := Scalar.minsi c63_i32_4580 v6962
  let c64_i32_4584 : BitVec 32 := 64#32
  let v6966 : BitVec 32 := Scalar.muli v6963 c64_i32_4584
  let v6998 : Index := Scalar.indexCast v6966
  let c0_4613 : Index := 0#32
  ![v6998.toNat, 0]

def k0_off642 (v6967 : BitVec 32) : Fin 2 → Nat :=
  let c63_i32_4588 : BitVec 32 := 63#32
  let c0_i32_4587 : BitVec 32 := 0#32
  let v6968 : BitVec 32 := Scalar.maxsi c0_i32_4587 v6967
  let v6969 : BitVec 32 := Scalar.minsi c63_i32_4588 v6968
  let c64_i32_4592 : BitVec 32 := 64#32
  let v6972 : BitVec 32 := Scalar.muli v6969 c64_i32_4592
  let v7000 : Index := Scalar.indexCast v6972
  let c0_4614 : Index := 0#32
  ![v7000.toNat, 0]

def k0_off643 (v6973 : BitVec 32) : Fin 2 → Nat :=
  let c63_i32_4596 : BitVec 32 := 63#32
  let c0_i32_4595 : BitVec 32 := 0#32
  let v6974 : BitVec 32 := Scalar.maxsi c0_i32_4595 v6973
  let v6975 : BitVec 32 := Scalar.minsi c63_i32_4596 v6974
  let c64_i32_4600 : BitVec 32 := 64#32
  let v6978 : BitVec 32 := Scalar.muli v6975 c64_i32_4600
  let v7010 : Index := Scalar.indexCast v6978
  let c0_4616 : Index := 0#32
  ![v7010.toNat, 0]

def k0_off644 (v6979 : BitVec 32) : Fin 2 → Nat :=
  let c63_i32_4604 : BitVec 32 := 63#32
  let c0_i32_4603 : BitVec 32 := 0#32
  let v6980 : BitVec 32 := Scalar.maxsi c0_i32_4603 v6979
  let v6981 : BitVec 32 := Scalar.minsi c63_i32_4604 v6980
  let c64_i32_4608 : BitVec 32 := 64#32
  let v6984 : BitVec 32 := Scalar.muli v6981 c64_i32_4608
  let v7012 : Index := Scalar.indexCast v6984
  let c0_4617 : Index := 0#32
  ![v7012.toNat, 0]

def k0_chk354 (v6979 : BitVec 32) : Prop :=
  (∀ a, (k0_off644 v6979) a + S64x128.size a ≤ S4096x128.size a)
theorem k0_off644_inb : ∀ (v6979 : BitVec 32) (k0_hw354 : k0_chk354 v6979), ∀ a, (k0_off644 v6979) a + S64x128.size a ≤ S4096x128.size a := fun v6979 k0_hw354 => k0_hw354

def k0_off645 (v6949 : BitVec 32) : Fin 2 → Nat :=
  let c63_i32_4564 : BitVec 32 := 63#32
  let c0_i32_4563 : BitVec 32 := 0#32
  let v6950 : BitVec 32 := Scalar.maxsi c0_i32_4563 v6949
  let v6951 : BitVec 32 := Scalar.minsi c63_i32_4564 v6950
  let c64_i32_4568 : BitVec 32 := 64#32
  let v6954 : BitVec 32 := Scalar.muli v6951 c64_i32_4568
  let v7039 : Index := Scalar.indexCast v6954
  let c0_4627 : Index := 0#32
  ![v7039.toNat, 0]

def k0_chk349 (v6949 : BitVec 32) : Prop :=
  (∀ a, (k0_off639 v6949) a + S64x128.size a ≤ S4096x128.size a) ∧
  (∀ a, (k0_off645 v6949) a + S64x128.size a ≤ S4096x128.size a)
theorem k0_off639_inb : ∀ (v6949 : BitVec 32) (k0_hw349 : k0_chk349 v6949), ∀ a, (k0_off639 v6949) a + S64x128.size a ≤ S4096x128.size a := fun v6949 k0_hw349 => k0_hw349.1
theorem k0_off645_inb : ∀ (v6949 : BitVec 32) (k0_hw349 : k0_chk349 v6949), ∀ a, (k0_off645 v6949) a + S64x128.size a ≤ S4096x128.size a := fun v6949 k0_hw349 => k0_hw349.2

def k0_off646 (v6955 : BitVec 32) : Fin 2 → Nat :=
  let c63_i32_4572 : BitVec 32 := 63#32
  let c0_i32_4571 : BitVec 32 := 0#32
  let v6956 : BitVec 32 := Scalar.maxsi c0_i32_4571 v6955
  let v6957 : BitVec 32 := Scalar.minsi c63_i32_4572 v6956
  let c64_i32_4576 : BitVec 32 := 64#32
  let v6960 : BitVec 32 := Scalar.muli v6957 c64_i32_4576
  let v7041 : Index := Scalar.indexCast v6960
  let c0_4628 : Index := 0#32
  ![v7041.toNat, 0]

def k0_chk350 (v6955 : BitVec 32) : Prop :=
  (∀ a, (k0_off640 v6955) a + S64x128.size a ≤ S4096x128.size a) ∧
  (∀ a, (k0_off646 v6955) a + S64x128.size a ≤ S4096x128.size a)
theorem k0_off640_inb : ∀ (v6955 : BitVec 32) (k0_hw350 : k0_chk350 v6955), ∀ a, (k0_off640 v6955) a + S64x128.size a ≤ S4096x128.size a := fun v6955 k0_hw350 => k0_hw350.1
theorem k0_off646_inb : ∀ (v6955 : BitVec 32) (k0_hw350 : k0_chk350 v6955), ∀ a, (k0_off646 v6955) a + S64x128.size a ≤ S4096x128.size a := fun v6955 k0_hw350 => k0_hw350.2

def k0_off647 (v6961 : BitVec 32) : Fin 2 → Nat :=
  let c63_i32_4580 : BitVec 32 := 63#32
  let c0_i32_4579 : BitVec 32 := 0#32
  let v6962 : BitVec 32 := Scalar.maxsi c0_i32_4579 v6961
  let v6963 : BitVec 32 := Scalar.minsi c63_i32_4580 v6962
  let c64_i32_4584 : BitVec 32 := 64#32
  let v6966 : BitVec 32 := Scalar.muli v6963 c64_i32_4584
  let v7047 : Index := Scalar.indexCast v6966
  let c0_4630 : Index := 0#32
  ![v7047.toNat, 0]

def k0_chk351 (v6961 : BitVec 32) : Prop :=
  (∀ a, (k0_off641 v6961) a + S64x128.size a ≤ S4096x128.size a) ∧
  (∀ a, (k0_off647 v6961) a + S64x128.size a ≤ S4096x128.size a)
theorem k0_off641_inb : ∀ (v6961 : BitVec 32) (k0_hw351 : k0_chk351 v6961), ∀ a, (k0_off641 v6961) a + S64x128.size a ≤ S4096x128.size a := fun v6961 k0_hw351 => k0_hw351.1
theorem k0_off647_inb : ∀ (v6961 : BitVec 32) (k0_hw351 : k0_chk351 v6961), ∀ a, (k0_off647 v6961) a + S64x128.size a ≤ S4096x128.size a := fun v6961 k0_hw351 => k0_hw351.2

def k0_off648 (v6967 : BitVec 32) : Fin 2 → Nat :=
  let c63_i32_4588 : BitVec 32 := 63#32
  let c0_i32_4587 : BitVec 32 := 0#32
  let v6968 : BitVec 32 := Scalar.maxsi c0_i32_4587 v6967
  let v6969 : BitVec 32 := Scalar.minsi c63_i32_4588 v6968
  let c64_i32_4592 : BitVec 32 := 64#32
  let v6972 : BitVec 32 := Scalar.muli v6969 c64_i32_4592
  let v7049 : Index := Scalar.indexCast v6972
  let c0_4631 : Index := 0#32
  ![v7049.toNat, 0]

def k0_chk352 (v6967 : BitVec 32) : Prop :=
  (∀ a, (k0_off642 v6967) a + S64x128.size a ≤ S4096x128.size a) ∧
  (∀ a, (k0_off648 v6967) a + S64x128.size a ≤ S4096x128.size a)
theorem k0_off642_inb : ∀ (v6967 : BitVec 32) (k0_hw352 : k0_chk352 v6967), ∀ a, (k0_off642 v6967) a + S64x128.size a ≤ S4096x128.size a := fun v6967 k0_hw352 => k0_hw352.1
theorem k0_off648_inb : ∀ (v6967 : BitVec 32) (k0_hw352 : k0_chk352 v6967), ∀ a, (k0_off648 v6967) a + S64x128.size a ≤ S4096x128.size a := fun v6967 k0_hw352 => k0_hw352.2

def k0_off649 (v6973 : BitVec 32) : Fin 2 → Nat :=
  let c63_i32_4596 : BitVec 32 := 63#32
  let c0_i32_4595 : BitVec 32 := 0#32
  let v6974 : BitVec 32 := Scalar.maxsi c0_i32_4595 v6973
  let v6975 : BitVec 32 := Scalar.minsi c63_i32_4596 v6974
  let c64_i32_4600 : BitVec 32 := 64#32
  let v6978 : BitVec 32 := Scalar.muli v6975 c64_i32_4600
  let v7055 : Index := Scalar.indexCast v6978
  let c0_4633 : Index := 0#32
  ![v7055.toNat, 0]

def k0_chk353 (v6973 : BitVec 32) : Prop :=
  (∀ a, (k0_off643 v6973) a + S64x128.size a ≤ S4096x128.size a) ∧
  (∀ a, (k0_off649 v6973) a + S64x128.size a ≤ S4096x128.size a)
theorem k0_off643_inb : ∀ (v6973 : BitVec 32) (k0_hw353 : k0_chk353 v6973), ∀ a, (k0_off643 v6973) a + S64x128.size a ≤ S4096x128.size a := fun v6973 k0_hw353 => k0_hw353.1
theorem k0_off649_inb : ∀ (v6973 : BitVec 32) (k0_hw353 : k0_chk353 v6973), ∀ a, (k0_off649 v6973) a + S64x128.size a ≤ S4096x128.size a := fun v6973 k0_hw353 => k0_hw353.2

def k0_off650 (v7068 : BitVec 32) : Fin 2 → Nat :=
  let c63_i32_4642 : BitVec 32 := 63#32
  let c0_i32_4641 : BitVec 32 := 0#32
  let v7069 : BitVec 32 := Scalar.maxsi c0_i32_4641 v7068
  let v7070 : BitVec 32 := Scalar.minsi c63_i32_4642 v7069
  let c64_i32_4646 : BitVec 32 := 64#32
  let v7073 : BitVec 32 := Scalar.muli v7070 c64_i32_4646
  let v7105 : Index := Scalar.indexCast v7073
  let c0_4688 : Index := 0#32
  ![v7105.toNat, 0]

def k0_off651 (v7074 : BitVec 32) : Fin 2 → Nat :=
  let c63_i32_4650 : BitVec 32 := 63#32
  let c0_i32_4649 : BitVec 32 := 0#32
  let v7075 : BitVec 32 := Scalar.maxsi c0_i32_4649 v7074
  let v7076 : BitVec 32 := Scalar.minsi c63_i32_4650 v7075
  let c64_i32_4654 : BitVec 32 := 64#32
  let v7079 : BitVec 32 := Scalar.muli v7076 c64_i32_4654
  let v7107 : Index := Scalar.indexCast v7079
  let c0_4689 : Index := 0#32
  ![v7107.toNat, 0]

def k0_off652 (v7080 : BitVec 32) : Fin 2 → Nat :=
  let c63_i32_4658 : BitVec 32 := 63#32
  let c0_i32_4657 : BitVec 32 := 0#32
  let v7081 : BitVec 32 := Scalar.maxsi c0_i32_4657 v7080
  let v7082 : BitVec 32 := Scalar.minsi c63_i32_4658 v7081
  let c64_i32_4662 : BitVec 32 := 64#32
  let v7085 : BitVec 32 := Scalar.muli v7082 c64_i32_4662
  let v7117 : Index := Scalar.indexCast v7085
  let c0_4691 : Index := 0#32
  ![v7117.toNat, 0]

def k0_off653 (v7086 : BitVec 32) : Fin 2 → Nat :=
  let c63_i32_4666 : BitVec 32 := 63#32
  let c0_i32_4665 : BitVec 32 := 0#32
  let v7087 : BitVec 32 := Scalar.maxsi c0_i32_4665 v7086
  let v7088 : BitVec 32 := Scalar.minsi c63_i32_4666 v7087
  let c64_i32_4670 : BitVec 32 := 64#32
  let v7091 : BitVec 32 := Scalar.muli v7088 c64_i32_4670
  let v7119 : Index := Scalar.indexCast v7091
  let c0_4692 : Index := 0#32
  ![v7119.toNat, 0]

def k0_off654 (v7092 : BitVec 32) : Fin 2 → Nat :=
  let c63_i32_4674 : BitVec 32 := 63#32
  let c0_i32_4673 : BitVec 32 := 0#32
  let v7093 : BitVec 32 := Scalar.maxsi c0_i32_4673 v7092
  let v7094 : BitVec 32 := Scalar.minsi c63_i32_4674 v7093
  let c64_i32_4678 : BitVec 32 := 64#32
  let v7097 : BitVec 32 := Scalar.muli v7094 c64_i32_4678
  let v7129 : Index := Scalar.indexCast v7097
  let c0_4694 : Index := 0#32
  ![v7129.toNat, 0]

def k0_off655 (v7098 : BitVec 32) : Fin 2 → Nat :=
  let c63_i32_4682 : BitVec 32 := 63#32
  let c0_i32_4681 : BitVec 32 := 0#32
  let v7099 : BitVec 32 := Scalar.maxsi c0_i32_4681 v7098
  let v7100 : BitVec 32 := Scalar.minsi c63_i32_4682 v7099
  let c64_i32_4686 : BitVec 32 := 64#32
  let v7103 : BitVec 32 := Scalar.muli v7100 c64_i32_4686
  let v7131 : Index := Scalar.indexCast v7103
  let c0_4695 : Index := 0#32
  ![v7131.toNat, 0]

def k0_chk360 (v7098 : BitVec 32) : Prop :=
  (∀ a, (k0_off655 v7098) a + S64x128.size a ≤ S4096x128.size a)
theorem k0_off655_inb : ∀ (v7098 : BitVec 32) (k0_hw360 : k0_chk360 v7098), ∀ a, (k0_off655 v7098) a + S64x128.size a ≤ S4096x128.size a := fun v7098 k0_hw360 => k0_hw360

def k0_off656 (v7068 : BitVec 32) : Fin 2 → Nat :=
  let c63_i32_4642 : BitVec 32 := 63#32
  let c0_i32_4641 : BitVec 32 := 0#32
  let v7069 : BitVec 32 := Scalar.maxsi c0_i32_4641 v7068
  let v7070 : BitVec 32 := Scalar.minsi c63_i32_4642 v7069
  let c64_i32_4646 : BitVec 32 := 64#32
  let v7073 : BitVec 32 := Scalar.muli v7070 c64_i32_4646
  let v7158 : Index := Scalar.indexCast v7073
  let c0_4705 : Index := 0#32
  ![v7158.toNat, 0]

def k0_chk355 (v7068 : BitVec 32) : Prop :=
  (∀ a, (k0_off650 v7068) a + S64x128.size a ≤ S4096x128.size a) ∧
  (∀ a, (k0_off656 v7068) a + S64x128.size a ≤ S4096x128.size a)
theorem k0_off650_inb : ∀ (v7068 : BitVec 32) (k0_hw355 : k0_chk355 v7068), ∀ a, (k0_off650 v7068) a + S64x128.size a ≤ S4096x128.size a := fun v7068 k0_hw355 => k0_hw355.1
theorem k0_off656_inb : ∀ (v7068 : BitVec 32) (k0_hw355 : k0_chk355 v7068), ∀ a, (k0_off656 v7068) a + S64x128.size a ≤ S4096x128.size a := fun v7068 k0_hw355 => k0_hw355.2

def k0_off657 (v7074 : BitVec 32) : Fin 2 → Nat :=
  let c63_i32_4650 : BitVec 32 := 63#32
  let c0_i32_4649 : BitVec 32 := 0#32
  let v7075 : BitVec 32 := Scalar.maxsi c0_i32_4649 v7074
  let v7076 : BitVec 32 := Scalar.minsi c63_i32_4650 v7075
  let c64_i32_4654 : BitVec 32 := 64#32
  let v7079 : BitVec 32 := Scalar.muli v7076 c64_i32_4654
  let v7160 : Index := Scalar.indexCast v7079
  let c0_4706 : Index := 0#32
  ![v7160.toNat, 0]

def k0_chk356 (v7074 : BitVec 32) : Prop :=
  (∀ a, (k0_off651 v7074) a + S64x128.size a ≤ S4096x128.size a) ∧
  (∀ a, (k0_off657 v7074) a + S64x128.size a ≤ S4096x128.size a)
theorem k0_off651_inb : ∀ (v7074 : BitVec 32) (k0_hw356 : k0_chk356 v7074), ∀ a, (k0_off651 v7074) a + S64x128.size a ≤ S4096x128.size a := fun v7074 k0_hw356 => k0_hw356.1
theorem k0_off657_inb : ∀ (v7074 : BitVec 32) (k0_hw356 : k0_chk356 v7074), ∀ a, (k0_off657 v7074) a + S64x128.size a ≤ S4096x128.size a := fun v7074 k0_hw356 => k0_hw356.2

def k0_off658 (v7080 : BitVec 32) : Fin 2 → Nat :=
  let c63_i32_4658 : BitVec 32 := 63#32
  let c0_i32_4657 : BitVec 32 := 0#32
  let v7081 : BitVec 32 := Scalar.maxsi c0_i32_4657 v7080
  let v7082 : BitVec 32 := Scalar.minsi c63_i32_4658 v7081
  let c64_i32_4662 : BitVec 32 := 64#32
  let v7085 : BitVec 32 := Scalar.muli v7082 c64_i32_4662
  let v7166 : Index := Scalar.indexCast v7085
  let c0_4708 : Index := 0#32
  ![v7166.toNat, 0]

def k0_chk357 (v7080 : BitVec 32) : Prop :=
  (∀ a, (k0_off652 v7080) a + S64x128.size a ≤ S4096x128.size a) ∧
  (∀ a, (k0_off658 v7080) a + S64x128.size a ≤ S4096x128.size a)
theorem k0_off652_inb : ∀ (v7080 : BitVec 32) (k0_hw357 : k0_chk357 v7080), ∀ a, (k0_off652 v7080) a + S64x128.size a ≤ S4096x128.size a := fun v7080 k0_hw357 => k0_hw357.1
theorem k0_off658_inb : ∀ (v7080 : BitVec 32) (k0_hw357 : k0_chk357 v7080), ∀ a, (k0_off658 v7080) a + S64x128.size a ≤ S4096x128.size a := fun v7080 k0_hw357 => k0_hw357.2

def k0_off659 (v7086 : BitVec 32) : Fin 2 → Nat :=
  let c63_i32_4666 : BitVec 32 := 63#32
  let c0_i32_4665 : BitVec 32 := 0#32
  let v7087 : BitVec 32 := Scalar.maxsi c0_i32_4665 v7086
  let v7088 : BitVec 32 := Scalar.minsi c63_i32_4666 v7087
  let c64_i32_4670 : BitVec 32 := 64#32
  let v7091 : BitVec 32 := Scalar.muli v7088 c64_i32_4670
  let v7168 : Index := Scalar.indexCast v7091
  let c0_4709 : Index := 0#32
  ![v7168.toNat, 0]

def k0_chk358 (v7086 : BitVec 32) : Prop :=
  (∀ a, (k0_off653 v7086) a + S64x128.size a ≤ S4096x128.size a) ∧
  (∀ a, (k0_off659 v7086) a + S64x128.size a ≤ S4096x128.size a)
theorem k0_off653_inb : ∀ (v7086 : BitVec 32) (k0_hw358 : k0_chk358 v7086), ∀ a, (k0_off653 v7086) a + S64x128.size a ≤ S4096x128.size a := fun v7086 k0_hw358 => k0_hw358.1
theorem k0_off659_inb : ∀ (v7086 : BitVec 32) (k0_hw358 : k0_chk358 v7086), ∀ a, (k0_off659 v7086) a + S64x128.size a ≤ S4096x128.size a := fun v7086 k0_hw358 => k0_hw358.2

def k0_off660 (v7092 : BitVec 32) : Fin 2 → Nat :=
  let c63_i32_4674 : BitVec 32 := 63#32
  let c0_i32_4673 : BitVec 32 := 0#32
  let v7093 : BitVec 32 := Scalar.maxsi c0_i32_4673 v7092
  let v7094 : BitVec 32 := Scalar.minsi c63_i32_4674 v7093
  let c64_i32_4678 : BitVec 32 := 64#32
  let v7097 : BitVec 32 := Scalar.muli v7094 c64_i32_4678
  let v7174 : Index := Scalar.indexCast v7097
  let c0_4711 : Index := 0#32
  ![v7174.toNat, 0]

def k0_chk359 (v7092 : BitVec 32) : Prop :=
  (∀ a, (k0_off654 v7092) a + S64x128.size a ≤ S4096x128.size a) ∧
  (∀ a, (k0_off660 v7092) a + S64x128.size a ≤ S4096x128.size a)
theorem k0_off654_inb : ∀ (v7092 : BitVec 32) (k0_hw359 : k0_chk359 v7092), ∀ a, (k0_off654 v7092) a + S64x128.size a ≤ S4096x128.size a := fun v7092 k0_hw359 => k0_hw359.1
theorem k0_off660_inb : ∀ (v7092 : BitVec 32) (k0_hw359 : k0_chk359 v7092), ∀ a, (k0_off660 v7092) a + S64x128.size a ≤ S4096x128.size a := fun v7092 k0_hw359 => k0_hw359.2

def k0_off661 (v7187 : BitVec 32) : Fin 2 → Nat :=
  let c63_i32_4720 : BitVec 32 := 63#32
  let c0_i32_4719 : BitVec 32 := 0#32
  let v7188 : BitVec 32 := Scalar.maxsi c0_i32_4719 v7187
  let v7189 : BitVec 32 := Scalar.minsi c63_i32_4720 v7188
  let c64_i32_4724 : BitVec 32 := 64#32
  let v7192 : BitVec 32 := Scalar.muli v7189 c64_i32_4724
  let v7224 : Index := Scalar.indexCast v7192
  let c0_4766 : Index := 0#32
  ![v7224.toNat, 0]

def k0_off662 (v7193 : BitVec 32) : Fin 2 → Nat :=
  let c63_i32_4728 : BitVec 32 := 63#32
  let c0_i32_4727 : BitVec 32 := 0#32
  let v7194 : BitVec 32 := Scalar.maxsi c0_i32_4727 v7193
  let v7195 : BitVec 32 := Scalar.minsi c63_i32_4728 v7194
  let c64_i32_4732 : BitVec 32 := 64#32
  let v7198 : BitVec 32 := Scalar.muli v7195 c64_i32_4732
  let v7226 : Index := Scalar.indexCast v7198
  let c0_4767 : Index := 0#32
  ![v7226.toNat, 0]

def k0_off663 (v7199 : BitVec 32) : Fin 2 → Nat :=
  let c63_i32_4736 : BitVec 32 := 63#32
  let c0_i32_4735 : BitVec 32 := 0#32
  let v7200 : BitVec 32 := Scalar.maxsi c0_i32_4735 v7199
  let v7201 : BitVec 32 := Scalar.minsi c63_i32_4736 v7200
  let c64_i32_4740 : BitVec 32 := 64#32
  let v7204 : BitVec 32 := Scalar.muli v7201 c64_i32_4740
  let v7236 : Index := Scalar.indexCast v7204
  let c0_4769 : Index := 0#32
  ![v7236.toNat, 0]

def k0_off664 (v7205 : BitVec 32) : Fin 2 → Nat :=
  let c63_i32_4744 : BitVec 32 := 63#32
  let c0_i32_4743 : BitVec 32 := 0#32
  let v7206 : BitVec 32 := Scalar.maxsi c0_i32_4743 v7205
  let v7207 : BitVec 32 := Scalar.minsi c63_i32_4744 v7206
  let c64_i32_4748 : BitVec 32 := 64#32
  let v7210 : BitVec 32 := Scalar.muli v7207 c64_i32_4748
  let v7238 : Index := Scalar.indexCast v7210
  let c0_4770 : Index := 0#32
  ![v7238.toNat, 0]

def k0_off665 (v7211 : BitVec 32) : Fin 2 → Nat :=
  let c63_i32_4752 : BitVec 32 := 63#32
  let c0_i32_4751 : BitVec 32 := 0#32
  let v7212 : BitVec 32 := Scalar.maxsi c0_i32_4751 v7211
  let v7213 : BitVec 32 := Scalar.minsi c63_i32_4752 v7212
  let c64_i32_4756 : BitVec 32 := 64#32
  let v7216 : BitVec 32 := Scalar.muli v7213 c64_i32_4756
  let v7248 : Index := Scalar.indexCast v7216
  let c0_4772 : Index := 0#32
  ![v7248.toNat, 0]

def k0_off666 (v7217 : BitVec 32) : Fin 2 → Nat :=
  let c63_i32_4760 : BitVec 32 := 63#32
  let c0_i32_4759 : BitVec 32 := 0#32
  let v7218 : BitVec 32 := Scalar.maxsi c0_i32_4759 v7217
  let v7219 : BitVec 32 := Scalar.minsi c63_i32_4760 v7218
  let c64_i32_4764 : BitVec 32 := 64#32
  let v7222 : BitVec 32 := Scalar.muli v7219 c64_i32_4764
  let v7250 : Index := Scalar.indexCast v7222
  let c0_4773 : Index := 0#32
  ![v7250.toNat, 0]

def k0_chk366 (v7217 : BitVec 32) : Prop :=
  (∀ a, (k0_off666 v7217) a + S64x128.size a ≤ S4096x128.size a)
theorem k0_off666_inb : ∀ (v7217 : BitVec 32) (k0_hw366 : k0_chk366 v7217), ∀ a, (k0_off666 v7217) a + S64x128.size a ≤ S4096x128.size a := fun v7217 k0_hw366 => k0_hw366

def k0_off667 (v7187 : BitVec 32) : Fin 2 → Nat :=
  let c63_i32_4720 : BitVec 32 := 63#32
  let c0_i32_4719 : BitVec 32 := 0#32
  let v7188 : BitVec 32 := Scalar.maxsi c0_i32_4719 v7187
  let v7189 : BitVec 32 := Scalar.minsi c63_i32_4720 v7188
  let c64_i32_4724 : BitVec 32 := 64#32
  let v7192 : BitVec 32 := Scalar.muli v7189 c64_i32_4724
  let v7277 : Index := Scalar.indexCast v7192
  let c0_4783 : Index := 0#32
  ![v7277.toNat, 0]

def k0_chk361 (v7187 : BitVec 32) : Prop :=
  (∀ a, (k0_off661 v7187) a + S64x128.size a ≤ S4096x128.size a) ∧
  (∀ a, (k0_off667 v7187) a + S64x128.size a ≤ S4096x128.size a)
theorem k0_off661_inb : ∀ (v7187 : BitVec 32) (k0_hw361 : k0_chk361 v7187), ∀ a, (k0_off661 v7187) a + S64x128.size a ≤ S4096x128.size a := fun v7187 k0_hw361 => k0_hw361.1
theorem k0_off667_inb : ∀ (v7187 : BitVec 32) (k0_hw361 : k0_chk361 v7187), ∀ a, (k0_off667 v7187) a + S64x128.size a ≤ S4096x128.size a := fun v7187 k0_hw361 => k0_hw361.2

def k0_off668 (v7193 : BitVec 32) : Fin 2 → Nat :=
  let c63_i32_4728 : BitVec 32 := 63#32
  let c0_i32_4727 : BitVec 32 := 0#32
  let v7194 : BitVec 32 := Scalar.maxsi c0_i32_4727 v7193
  let v7195 : BitVec 32 := Scalar.minsi c63_i32_4728 v7194
  let c64_i32_4732 : BitVec 32 := 64#32
  let v7198 : BitVec 32 := Scalar.muli v7195 c64_i32_4732
  let v7279 : Index := Scalar.indexCast v7198
  let c0_4784 : Index := 0#32
  ![v7279.toNat, 0]

def k0_chk362 (v7193 : BitVec 32) : Prop :=
  (∀ a, (k0_off662 v7193) a + S64x128.size a ≤ S4096x128.size a) ∧
  (∀ a, (k0_off668 v7193) a + S64x128.size a ≤ S4096x128.size a)
theorem k0_off662_inb : ∀ (v7193 : BitVec 32) (k0_hw362 : k0_chk362 v7193), ∀ a, (k0_off662 v7193) a + S64x128.size a ≤ S4096x128.size a := fun v7193 k0_hw362 => k0_hw362.1
theorem k0_off668_inb : ∀ (v7193 : BitVec 32) (k0_hw362 : k0_chk362 v7193), ∀ a, (k0_off668 v7193) a + S64x128.size a ≤ S4096x128.size a := fun v7193 k0_hw362 => k0_hw362.2

def k0_off669 (v7199 : BitVec 32) : Fin 2 → Nat :=
  let c63_i32_4736 : BitVec 32 := 63#32
  let c0_i32_4735 : BitVec 32 := 0#32
  let v7200 : BitVec 32 := Scalar.maxsi c0_i32_4735 v7199
  let v7201 : BitVec 32 := Scalar.minsi c63_i32_4736 v7200
  let c64_i32_4740 : BitVec 32 := 64#32
  let v7204 : BitVec 32 := Scalar.muli v7201 c64_i32_4740
  let v7285 : Index := Scalar.indexCast v7204
  let c0_4786 : Index := 0#32
  ![v7285.toNat, 0]

def k0_chk363 (v7199 : BitVec 32) : Prop :=
  (∀ a, (k0_off663 v7199) a + S64x128.size a ≤ S4096x128.size a) ∧
  (∀ a, (k0_off669 v7199) a + S64x128.size a ≤ S4096x128.size a)
theorem k0_off663_inb : ∀ (v7199 : BitVec 32) (k0_hw363 : k0_chk363 v7199), ∀ a, (k0_off663 v7199) a + S64x128.size a ≤ S4096x128.size a := fun v7199 k0_hw363 => k0_hw363.1
theorem k0_off669_inb : ∀ (v7199 : BitVec 32) (k0_hw363 : k0_chk363 v7199), ∀ a, (k0_off669 v7199) a + S64x128.size a ≤ S4096x128.size a := fun v7199 k0_hw363 => k0_hw363.2

def k0_off670 (v7205 : BitVec 32) : Fin 2 → Nat :=
  let c63_i32_4744 : BitVec 32 := 63#32
  let c0_i32_4743 : BitVec 32 := 0#32
  let v7206 : BitVec 32 := Scalar.maxsi c0_i32_4743 v7205
  let v7207 : BitVec 32 := Scalar.minsi c63_i32_4744 v7206
  let c64_i32_4748 : BitVec 32 := 64#32
  let v7210 : BitVec 32 := Scalar.muli v7207 c64_i32_4748
  let v7287 : Index := Scalar.indexCast v7210
  let c0_4787 : Index := 0#32
  ![v7287.toNat, 0]

def k0_chk364 (v7205 : BitVec 32) : Prop :=
  (∀ a, (k0_off664 v7205) a + S64x128.size a ≤ S4096x128.size a) ∧
  (∀ a, (k0_off670 v7205) a + S64x128.size a ≤ S4096x128.size a)
theorem k0_off664_inb : ∀ (v7205 : BitVec 32) (k0_hw364 : k0_chk364 v7205), ∀ a, (k0_off664 v7205) a + S64x128.size a ≤ S4096x128.size a := fun v7205 k0_hw364 => k0_hw364.1
theorem k0_off670_inb : ∀ (v7205 : BitVec 32) (k0_hw364 : k0_chk364 v7205), ∀ a, (k0_off670 v7205) a + S64x128.size a ≤ S4096x128.size a := fun v7205 k0_hw364 => k0_hw364.2

def k0_off671 (v7211 : BitVec 32) : Fin 2 → Nat :=
  let c63_i32_4752 : BitVec 32 := 63#32
  let c0_i32_4751 : BitVec 32 := 0#32
  let v7212 : BitVec 32 := Scalar.maxsi c0_i32_4751 v7211
  let v7213 : BitVec 32 := Scalar.minsi c63_i32_4752 v7212
  let c64_i32_4756 : BitVec 32 := 64#32
  let v7216 : BitVec 32 := Scalar.muli v7213 c64_i32_4756
  let v7293 : Index := Scalar.indexCast v7216
  let c0_4789 : Index := 0#32
  ![v7293.toNat, 0]

def k0_chk365 (v7211 : BitVec 32) : Prop :=
  (∀ a, (k0_off665 v7211) a + S64x128.size a ≤ S4096x128.size a) ∧
  (∀ a, (k0_off671 v7211) a + S64x128.size a ≤ S4096x128.size a)
theorem k0_off665_inb : ∀ (v7211 : BitVec 32) (k0_hw365 : k0_chk365 v7211), ∀ a, (k0_off665 v7211) a + S64x128.size a ≤ S4096x128.size a := fun v7211 k0_hw365 => k0_hw365.1
theorem k0_off671_inb : ∀ (v7211 : BitVec 32) (k0_hw365 : k0_chk365 v7211), ∀ a, (k0_off671 v7211) a + S64x128.size a ≤ S4096x128.size a := fun v7211 k0_hw365 => k0_hw365.2

def k0_off672 (v7306 : BitVec 32) : Fin 2 → Nat :=
  let c63_i32_4798 : BitVec 32 := 63#32
  let c0_i32_4797 : BitVec 32 := 0#32
  let v7307 : BitVec 32 := Scalar.maxsi c0_i32_4797 v7306
  let v7308 : BitVec 32 := Scalar.minsi c63_i32_4798 v7307
  let c64_i32_4802 : BitVec 32 := 64#32
  let v7311 : BitVec 32 := Scalar.muli v7308 c64_i32_4802
  let v7343 : Index := Scalar.indexCast v7311
  let c0_4844 : Index := 0#32
  ![v7343.toNat, 0]

def k0_off673 (v7312 : BitVec 32) : Fin 2 → Nat :=
  let c63_i32_4806 : BitVec 32 := 63#32
  let c0_i32_4805 : BitVec 32 := 0#32
  let v7313 : BitVec 32 := Scalar.maxsi c0_i32_4805 v7312
  let v7314 : BitVec 32 := Scalar.minsi c63_i32_4806 v7313
  let c64_i32_4810 : BitVec 32 := 64#32
  let v7317 : BitVec 32 := Scalar.muli v7314 c64_i32_4810
  let v7345 : Index := Scalar.indexCast v7317
  let c0_4845 : Index := 0#32
  ![v7345.toNat, 0]

def k0_off674 (v7318 : BitVec 32) : Fin 2 → Nat :=
  let c63_i32_4814 : BitVec 32 := 63#32
  let c0_i32_4813 : BitVec 32 := 0#32
  let v7319 : BitVec 32 := Scalar.maxsi c0_i32_4813 v7318
  let v7320 : BitVec 32 := Scalar.minsi c63_i32_4814 v7319
  let c64_i32_4818 : BitVec 32 := 64#32
  let v7323 : BitVec 32 := Scalar.muli v7320 c64_i32_4818
  let v7355 : Index := Scalar.indexCast v7323
  let c0_4847 : Index := 0#32
  ![v7355.toNat, 0]

def k0_off675 (v7324 : BitVec 32) : Fin 2 → Nat :=
  let c63_i32_4822 : BitVec 32 := 63#32
  let c0_i32_4821 : BitVec 32 := 0#32
  let v7325 : BitVec 32 := Scalar.maxsi c0_i32_4821 v7324
  let v7326 : BitVec 32 := Scalar.minsi c63_i32_4822 v7325
  let c64_i32_4826 : BitVec 32 := 64#32
  let v7329 : BitVec 32 := Scalar.muli v7326 c64_i32_4826
  let v7357 : Index := Scalar.indexCast v7329
  let c0_4848 : Index := 0#32
  ![v7357.toNat, 0]

def k0_off676 (v7330 : BitVec 32) : Fin 2 → Nat :=
  let c63_i32_4830 : BitVec 32 := 63#32
  let c0_i32_4829 : BitVec 32 := 0#32
  let v7331 : BitVec 32 := Scalar.maxsi c0_i32_4829 v7330
  let v7332 : BitVec 32 := Scalar.minsi c63_i32_4830 v7331
  let c64_i32_4834 : BitVec 32 := 64#32
  let v7335 : BitVec 32 := Scalar.muli v7332 c64_i32_4834
  let v7367 : Index := Scalar.indexCast v7335
  let c0_4850 : Index := 0#32
  ![v7367.toNat, 0]

def k0_off677 (v7336 : BitVec 32) : Fin 2 → Nat :=
  let c63_i32_4838 : BitVec 32 := 63#32
  let c0_i32_4837 : BitVec 32 := 0#32
  let v7337 : BitVec 32 := Scalar.maxsi c0_i32_4837 v7336
  let v7338 : BitVec 32 := Scalar.minsi c63_i32_4838 v7337
  let c64_i32_4842 : BitVec 32 := 64#32
  let v7341 : BitVec 32 := Scalar.muli v7338 c64_i32_4842
  let v7369 : Index := Scalar.indexCast v7341
  let c0_4851 : Index := 0#32
  ![v7369.toNat, 0]

def k0_chk372 (v7336 : BitVec 32) : Prop :=
  (∀ a, (k0_off677 v7336) a + S64x128.size a ≤ S4096x128.size a)
theorem k0_off677_inb : ∀ (v7336 : BitVec 32) (k0_hw372 : k0_chk372 v7336), ∀ a, (k0_off677 v7336) a + S64x128.size a ≤ S4096x128.size a := fun v7336 k0_hw372 => k0_hw372

def k0_off678 (v7306 : BitVec 32) : Fin 2 → Nat :=
  let c63_i32_4798 : BitVec 32 := 63#32
  let c0_i32_4797 : BitVec 32 := 0#32
  let v7307 : BitVec 32 := Scalar.maxsi c0_i32_4797 v7306
  let v7308 : BitVec 32 := Scalar.minsi c63_i32_4798 v7307
  let c64_i32_4802 : BitVec 32 := 64#32
  let v7311 : BitVec 32 := Scalar.muli v7308 c64_i32_4802
  let v7396 : Index := Scalar.indexCast v7311
  let c0_4861 : Index := 0#32
  ![v7396.toNat, 0]

def k0_chk367 (v7306 : BitVec 32) : Prop :=
  (∀ a, (k0_off672 v7306) a + S64x128.size a ≤ S4096x128.size a) ∧
  (∀ a, (k0_off678 v7306) a + S64x128.size a ≤ S4096x128.size a)
theorem k0_off672_inb : ∀ (v7306 : BitVec 32) (k0_hw367 : k0_chk367 v7306), ∀ a, (k0_off672 v7306) a + S64x128.size a ≤ S4096x128.size a := fun v7306 k0_hw367 => k0_hw367.1
theorem k0_off678_inb : ∀ (v7306 : BitVec 32) (k0_hw367 : k0_chk367 v7306), ∀ a, (k0_off678 v7306) a + S64x128.size a ≤ S4096x128.size a := fun v7306 k0_hw367 => k0_hw367.2

def k0_off679 (v7312 : BitVec 32) : Fin 2 → Nat :=
  let c63_i32_4806 : BitVec 32 := 63#32
  let c0_i32_4805 : BitVec 32 := 0#32
  let v7313 : BitVec 32 := Scalar.maxsi c0_i32_4805 v7312
  let v7314 : BitVec 32 := Scalar.minsi c63_i32_4806 v7313
  let c64_i32_4810 : BitVec 32 := 64#32
  let v7317 : BitVec 32 := Scalar.muli v7314 c64_i32_4810
  let v7398 : Index := Scalar.indexCast v7317
  let c0_4862 : Index := 0#32
  ![v7398.toNat, 0]

def k0_chk368 (v7312 : BitVec 32) : Prop :=
  (∀ a, (k0_off673 v7312) a + S64x128.size a ≤ S4096x128.size a) ∧
  (∀ a, (k0_off679 v7312) a + S64x128.size a ≤ S4096x128.size a)
theorem k0_off673_inb : ∀ (v7312 : BitVec 32) (k0_hw368 : k0_chk368 v7312), ∀ a, (k0_off673 v7312) a + S64x128.size a ≤ S4096x128.size a := fun v7312 k0_hw368 => k0_hw368.1
theorem k0_off679_inb : ∀ (v7312 : BitVec 32) (k0_hw368 : k0_chk368 v7312), ∀ a, (k0_off679 v7312) a + S64x128.size a ≤ S4096x128.size a := fun v7312 k0_hw368 => k0_hw368.2

def k0_off680 (v7318 : BitVec 32) : Fin 2 → Nat :=
  let c63_i32_4814 : BitVec 32 := 63#32
  let c0_i32_4813 : BitVec 32 := 0#32
  let v7319 : BitVec 32 := Scalar.maxsi c0_i32_4813 v7318
  let v7320 : BitVec 32 := Scalar.minsi c63_i32_4814 v7319
  let c64_i32_4818 : BitVec 32 := 64#32
  let v7323 : BitVec 32 := Scalar.muli v7320 c64_i32_4818
  let v7404 : Index := Scalar.indexCast v7323
  let c0_4864 : Index := 0#32
  ![v7404.toNat, 0]

def k0_chk369 (v7318 : BitVec 32) : Prop :=
  (∀ a, (k0_off674 v7318) a + S64x128.size a ≤ S4096x128.size a) ∧
  (∀ a, (k0_off680 v7318) a + S64x128.size a ≤ S4096x128.size a)
theorem k0_off674_inb : ∀ (v7318 : BitVec 32) (k0_hw369 : k0_chk369 v7318), ∀ a, (k0_off674 v7318) a + S64x128.size a ≤ S4096x128.size a := fun v7318 k0_hw369 => k0_hw369.1
theorem k0_off680_inb : ∀ (v7318 : BitVec 32) (k0_hw369 : k0_chk369 v7318), ∀ a, (k0_off680 v7318) a + S64x128.size a ≤ S4096x128.size a := fun v7318 k0_hw369 => k0_hw369.2

def k0_off681 (v7324 : BitVec 32) : Fin 2 → Nat :=
  let c63_i32_4822 : BitVec 32 := 63#32
  let c0_i32_4821 : BitVec 32 := 0#32
  let v7325 : BitVec 32 := Scalar.maxsi c0_i32_4821 v7324
  let v7326 : BitVec 32 := Scalar.minsi c63_i32_4822 v7325
  let c64_i32_4826 : BitVec 32 := 64#32
  let v7329 : BitVec 32 := Scalar.muli v7326 c64_i32_4826
  let v7406 : Index := Scalar.indexCast v7329
  let c0_4865 : Index := 0#32
  ![v7406.toNat, 0]

def k0_chk370 (v7324 : BitVec 32) : Prop :=
  (∀ a, (k0_off675 v7324) a + S64x128.size a ≤ S4096x128.size a) ∧
  (∀ a, (k0_off681 v7324) a + S64x128.size a ≤ S4096x128.size a)
theorem k0_off675_inb : ∀ (v7324 : BitVec 32) (k0_hw370 : k0_chk370 v7324), ∀ a, (k0_off675 v7324) a + S64x128.size a ≤ S4096x128.size a := fun v7324 k0_hw370 => k0_hw370.1
theorem k0_off681_inb : ∀ (v7324 : BitVec 32) (k0_hw370 : k0_chk370 v7324), ∀ a, (k0_off681 v7324) a + S64x128.size a ≤ S4096x128.size a := fun v7324 k0_hw370 => k0_hw370.2

def k0_off682 (v7330 : BitVec 32) : Fin 2 → Nat :=
  let c63_i32_4830 : BitVec 32 := 63#32
  let c0_i32_4829 : BitVec 32 := 0#32
  let v7331 : BitVec 32 := Scalar.maxsi c0_i32_4829 v7330
  let v7332 : BitVec 32 := Scalar.minsi c63_i32_4830 v7331
  let c64_i32_4834 : BitVec 32 := 64#32
  let v7335 : BitVec 32 := Scalar.muli v7332 c64_i32_4834
  let v7412 : Index := Scalar.indexCast v7335
  let c0_4867 : Index := 0#32
  ![v7412.toNat, 0]

def k0_chk371 (v7330 : BitVec 32) : Prop :=
  (∀ a, (k0_off676 v7330) a + S64x128.size a ≤ S4096x128.size a) ∧
  (∀ a, (k0_off682 v7330) a + S64x128.size a ≤ S4096x128.size a)
theorem k0_off676_inb : ∀ (v7330 : BitVec 32) (k0_hw371 : k0_chk371 v7330), ∀ a, (k0_off676 v7330) a + S64x128.size a ≤ S4096x128.size a := fun v7330 k0_hw371 => k0_hw371.1
theorem k0_off682_inb : ∀ (v7330 : BitVec 32) (k0_hw371 : k0_chk371 v7330), ∀ a, (k0_off682 v7330) a + S64x128.size a ≤ S4096x128.size a := fun v7330 k0_hw371 => k0_hw371.2

def k0_off683 (v7425 : BitVec 32) : Fin 2 → Nat :=
  let c63_i32_4876 : BitVec 32 := 63#32
  let c0_i32_4875 : BitVec 32 := 0#32
  let v7426 : BitVec 32 := Scalar.maxsi c0_i32_4875 v7425
  let v7427 : BitVec 32 := Scalar.minsi c63_i32_4876 v7426
  let c64_i32_4880 : BitVec 32 := 64#32
  let v7430 : BitVec 32 := Scalar.muli v7427 c64_i32_4880
  let v7462 : Index := Scalar.indexCast v7430
  let c0_4922 : Index := 0#32
  ![v7462.toNat, 0]

def k0_off684 (v7431 : BitVec 32) : Fin 2 → Nat :=
  let c63_i32_4884 : BitVec 32 := 63#32
  let c0_i32_4883 : BitVec 32 := 0#32
  let v7432 : BitVec 32 := Scalar.maxsi c0_i32_4883 v7431
  let v7433 : BitVec 32 := Scalar.minsi c63_i32_4884 v7432
  let c64_i32_4888 : BitVec 32 := 64#32
  let v7436 : BitVec 32 := Scalar.muli v7433 c64_i32_4888
  let v7464 : Index := Scalar.indexCast v7436
  let c0_4923 : Index := 0#32
  ![v7464.toNat, 0]

def k0_off685 (v7437 : BitVec 32) : Fin 2 → Nat :=
  let c63_i32_4892 : BitVec 32 := 63#32
  let c0_i32_4891 : BitVec 32 := 0#32
  let v7438 : BitVec 32 := Scalar.maxsi c0_i32_4891 v7437
  let v7439 : BitVec 32 := Scalar.minsi c63_i32_4892 v7438
  let c64_i32_4896 : BitVec 32 := 64#32
  let v7442 : BitVec 32 := Scalar.muli v7439 c64_i32_4896
  let v7474 : Index := Scalar.indexCast v7442
  let c0_4925 : Index := 0#32
  ![v7474.toNat, 0]

def k0_off686 (v7443 : BitVec 32) : Fin 2 → Nat :=
  let c63_i32_4900 : BitVec 32 := 63#32
  let c0_i32_4899 : BitVec 32 := 0#32
  let v7444 : BitVec 32 := Scalar.maxsi c0_i32_4899 v7443
  let v7445 : BitVec 32 := Scalar.minsi c63_i32_4900 v7444
  let c64_i32_4904 : BitVec 32 := 64#32
  let v7448 : BitVec 32 := Scalar.muli v7445 c64_i32_4904
  let v7476 : Index := Scalar.indexCast v7448
  let c0_4926 : Index := 0#32
  ![v7476.toNat, 0]

def k0_off687 (v7449 : BitVec 32) : Fin 2 → Nat :=
  let c63_i32_4908 : BitVec 32 := 63#32
  let c0_i32_4907 : BitVec 32 := 0#32
  let v7450 : BitVec 32 := Scalar.maxsi c0_i32_4907 v7449
  let v7451 : BitVec 32 := Scalar.minsi c63_i32_4908 v7450
  let c64_i32_4912 : BitVec 32 := 64#32
  let v7454 : BitVec 32 := Scalar.muli v7451 c64_i32_4912
  let v7486 : Index := Scalar.indexCast v7454
  let c0_4928 : Index := 0#32
  ![v7486.toNat, 0]

def k0_off688 (v7455 : BitVec 32) : Fin 2 → Nat :=
  let c63_i32_4916 : BitVec 32 := 63#32
  let c0_i32_4915 : BitVec 32 := 0#32
  let v7456 : BitVec 32 := Scalar.maxsi c0_i32_4915 v7455
  let v7457 : BitVec 32 := Scalar.minsi c63_i32_4916 v7456
  let c64_i32_4920 : BitVec 32 := 64#32
  let v7460 : BitVec 32 := Scalar.muli v7457 c64_i32_4920
  let v7488 : Index := Scalar.indexCast v7460
  let c0_4929 : Index := 0#32
  ![v7488.toNat, 0]

def k0_chk378 (v7455 : BitVec 32) : Prop :=
  (∀ a, (k0_off688 v7455) a + S64x128.size a ≤ S4096x128.size a)
theorem k0_off688_inb : ∀ (v7455 : BitVec 32) (k0_hw378 : k0_chk378 v7455), ∀ a, (k0_off688 v7455) a + S64x128.size a ≤ S4096x128.size a := fun v7455 k0_hw378 => k0_hw378

def k0_off689 (v7425 : BitVec 32) : Fin 2 → Nat :=
  let c63_i32_4876 : BitVec 32 := 63#32
  let c0_i32_4875 : BitVec 32 := 0#32
  let v7426 : BitVec 32 := Scalar.maxsi c0_i32_4875 v7425
  let v7427 : BitVec 32 := Scalar.minsi c63_i32_4876 v7426
  let c64_i32_4880 : BitVec 32 := 64#32
  let v7430 : BitVec 32 := Scalar.muli v7427 c64_i32_4880
  let v7515 : Index := Scalar.indexCast v7430
  let c0_4939 : Index := 0#32
  ![v7515.toNat, 0]

def k0_chk373 (v7425 : BitVec 32) : Prop :=
  (∀ a, (k0_off683 v7425) a + S64x128.size a ≤ S4096x128.size a) ∧
  (∀ a, (k0_off689 v7425) a + S64x128.size a ≤ S4096x128.size a)
theorem k0_off683_inb : ∀ (v7425 : BitVec 32) (k0_hw373 : k0_chk373 v7425), ∀ a, (k0_off683 v7425) a + S64x128.size a ≤ S4096x128.size a := fun v7425 k0_hw373 => k0_hw373.1
theorem k0_off689_inb : ∀ (v7425 : BitVec 32) (k0_hw373 : k0_chk373 v7425), ∀ a, (k0_off689 v7425) a + S64x128.size a ≤ S4096x128.size a := fun v7425 k0_hw373 => k0_hw373.2

def k0_off690 (v7431 : BitVec 32) : Fin 2 → Nat :=
  let c63_i32_4884 : BitVec 32 := 63#32
  let c0_i32_4883 : BitVec 32 := 0#32
  let v7432 : BitVec 32 := Scalar.maxsi c0_i32_4883 v7431
  let v7433 : BitVec 32 := Scalar.minsi c63_i32_4884 v7432
  let c64_i32_4888 : BitVec 32 := 64#32
  let v7436 : BitVec 32 := Scalar.muli v7433 c64_i32_4888
  let v7517 : Index := Scalar.indexCast v7436
  let c0_4940 : Index := 0#32
  ![v7517.toNat, 0]

def k0_chk374 (v7431 : BitVec 32) : Prop :=
  (∀ a, (k0_off684 v7431) a + S64x128.size a ≤ S4096x128.size a) ∧
  (∀ a, (k0_off690 v7431) a + S64x128.size a ≤ S4096x128.size a)
theorem k0_off684_inb : ∀ (v7431 : BitVec 32) (k0_hw374 : k0_chk374 v7431), ∀ a, (k0_off684 v7431) a + S64x128.size a ≤ S4096x128.size a := fun v7431 k0_hw374 => k0_hw374.1
theorem k0_off690_inb : ∀ (v7431 : BitVec 32) (k0_hw374 : k0_chk374 v7431), ∀ a, (k0_off690 v7431) a + S64x128.size a ≤ S4096x128.size a := fun v7431 k0_hw374 => k0_hw374.2

def k0_off691 (v7437 : BitVec 32) : Fin 2 → Nat :=
  let c63_i32_4892 : BitVec 32 := 63#32
  let c0_i32_4891 : BitVec 32 := 0#32
  let v7438 : BitVec 32 := Scalar.maxsi c0_i32_4891 v7437
  let v7439 : BitVec 32 := Scalar.minsi c63_i32_4892 v7438
  let c64_i32_4896 : BitVec 32 := 64#32
  let v7442 : BitVec 32 := Scalar.muli v7439 c64_i32_4896
  let v7523 : Index := Scalar.indexCast v7442
  let c0_4942 : Index := 0#32
  ![v7523.toNat, 0]

def k0_chk375 (v7437 : BitVec 32) : Prop :=
  (∀ a, (k0_off685 v7437) a + S64x128.size a ≤ S4096x128.size a) ∧
  (∀ a, (k0_off691 v7437) a + S64x128.size a ≤ S4096x128.size a)
theorem k0_off685_inb : ∀ (v7437 : BitVec 32) (k0_hw375 : k0_chk375 v7437), ∀ a, (k0_off685 v7437) a + S64x128.size a ≤ S4096x128.size a := fun v7437 k0_hw375 => k0_hw375.1
theorem k0_off691_inb : ∀ (v7437 : BitVec 32) (k0_hw375 : k0_chk375 v7437), ∀ a, (k0_off691 v7437) a + S64x128.size a ≤ S4096x128.size a := fun v7437 k0_hw375 => k0_hw375.2

def k0_off692 (v7443 : BitVec 32) : Fin 2 → Nat :=
  let c63_i32_4900 : BitVec 32 := 63#32
  let c0_i32_4899 : BitVec 32 := 0#32
  let v7444 : BitVec 32 := Scalar.maxsi c0_i32_4899 v7443
  let v7445 : BitVec 32 := Scalar.minsi c63_i32_4900 v7444
  let c64_i32_4904 : BitVec 32 := 64#32
  let v7448 : BitVec 32 := Scalar.muli v7445 c64_i32_4904
  let v7525 : Index := Scalar.indexCast v7448
  let c0_4943 : Index := 0#32
  ![v7525.toNat, 0]

def k0_chk376 (v7443 : BitVec 32) : Prop :=
  (∀ a, (k0_off686 v7443) a + S64x128.size a ≤ S4096x128.size a) ∧
  (∀ a, (k0_off692 v7443) a + S64x128.size a ≤ S4096x128.size a)
theorem k0_off686_inb : ∀ (v7443 : BitVec 32) (k0_hw376 : k0_chk376 v7443), ∀ a, (k0_off686 v7443) a + S64x128.size a ≤ S4096x128.size a := fun v7443 k0_hw376 => k0_hw376.1
theorem k0_off692_inb : ∀ (v7443 : BitVec 32) (k0_hw376 : k0_chk376 v7443), ∀ a, (k0_off692 v7443) a + S64x128.size a ≤ S4096x128.size a := fun v7443 k0_hw376 => k0_hw376.2

def k0_off693 (v7449 : BitVec 32) : Fin 2 → Nat :=
  let c63_i32_4908 : BitVec 32 := 63#32
  let c0_i32_4907 : BitVec 32 := 0#32
  let v7450 : BitVec 32 := Scalar.maxsi c0_i32_4907 v7449
  let v7451 : BitVec 32 := Scalar.minsi c63_i32_4908 v7450
  let c64_i32_4912 : BitVec 32 := 64#32
  let v7454 : BitVec 32 := Scalar.muli v7451 c64_i32_4912
  let v7531 : Index := Scalar.indexCast v7454
  let c0_4945 : Index := 0#32
  ![v7531.toNat, 0]

def k0_chk377 (v7449 : BitVec 32) : Prop :=
  (∀ a, (k0_off687 v7449) a + S64x128.size a ≤ S4096x128.size a) ∧
  (∀ a, (k0_off693 v7449) a + S64x128.size a ≤ S4096x128.size a)
theorem k0_off687_inb : ∀ (v7449 : BitVec 32) (k0_hw377 : k0_chk377 v7449), ∀ a, (k0_off687 v7449) a + S64x128.size a ≤ S4096x128.size a := fun v7449 k0_hw377 => k0_hw377.1
theorem k0_off693_inb : ∀ (v7449 : BitVec 32) (k0_hw377 : k0_chk377 v7449), ∀ a, (k0_off693 v7449) a + S64x128.size a ≤ S4096x128.size a := fun v7449 k0_hw377 => k0_hw377.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S64x6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S1x16x4096x128 : Shape := ⟨4, ![1, 16, 4096, 128]⟩
abbrev S64x6 : Shape := ⟨2, ![64, 6]⟩
abbrev S_ : Shape := ⟨0, ![]⟩
abbrev S1x16x64x128 : Shape := ⟨4, ![1, 16, 64, 128]⟩
abbrev S1x16x64x4096 : Shape := ⟨4, ![1, 16, 64, 4096]⟩
abbrev S1x16x64 : Shape := ⟨3, ![1, 16, 64]⟩
abbrev S1x16x64x1 : Shape := ⟨4, ![1, 16, 64, 1]⟩
abbrev S63x6 : Shape := ⟨2, ![63, 6]⟩
abbrev S1x16x64x64x128 : Shape := ⟨5, ![1, 16, 64, 64, 128]⟩
abbrev S378 : Shape := ⟨1, ![378]⟩
abbrev S378x1 : Shape := ⟨2, ![378, 1]⟩
abbrev S1 : Shape := ⟨1, ![1]⟩
abbrev S1x1 : Shape := ⟨2, ![1, 1]⟩
abbrev S1x16x378x64x128 : Shape := ⟨5, ![1, 16, 378, 64, 128]⟩
abbrev S1x16x63x384x128 : Shape := ⟨5, ![1, 16, 63, 384, 128]⟩
abbrev S63x6x1 : Shape := ⟨3, ![63, 6, 1]⟩
abbrev S64 : Shape := ⟨1, ![64]⟩
abbrev S1x1x64 : Shape := ⟨3, ![1, 1, 64]⟩
abbrev S63x6x64 : Shape := ⟨3, ![63, 6, 64]⟩
abbrev S63x384 : Shape := ⟨2, ![63, 384]⟩
abbrev S1x16x4032x128 : Shape := ⟨4, ![1, 16, 4032, 128]⟩
abbrev S1x16x63x64x128 : Shape := ⟨5, ![1, 16, 63, 64, 128]⟩
abbrev S1x16x63x64x64 : Shape := ⟨5, ![1, 16, 63, 64, 64]⟩
abbrev S1x16x63x64x384 : Shape := ⟨5, ![1, 16, 63, 64, 384]⟩
abbrev S1x1x63x1x384 : Shape := ⟨5, ![1, 1, 63, 1, 384]⟩
abbrev S1x16x63x64x448 : Shape := ⟨5, ![1, 16, 63, 64, 448]⟩
abbrev S1x16x63x64 : Shape := ⟨4, ![1, 16, 63, 64]⟩
abbrev S1x16x63x64x1 : Shape := ⟨5, ![1, 16, 63, 64, 1]⟩

abbrev nBuf : Space → Nat
  | .hbm => 147
  | .vmem => 0
  | .smem => 0
  | _ => 0

abbrev hbmTy0_0 (i : Nat) : BufTy := match i % 128 with
  | 0 => ⟨S1x16x4096x128, .f32⟩
  | 1 => ⟨S1x16x4096x128, .f32⟩
  | 2 => ⟨S1x16x4096x128, .f32⟩
  | 3 => ⟨S64x6, .i32⟩
  | 4 => ⟨S_, .f32⟩
  | 5 => ⟨S_, .f32⟩
  | 6 => ⟨S1x16x64x128, .f32⟩
  | 7 => ⟨S1x16x64x128, .f32⟩
  | 8 => ⟨S1x16x64x128, .f32⟩
  | 9 => ⟨S1x16x64x4096, .f32⟩
  | 10 => ⟨S1x16x64x4096, .f32⟩
  | 11 => ⟨S1x16x64x4096, .f32⟩
  | 12 => ⟨S_, .f32⟩
  | 13 => ⟨S1x16x64, .f32⟩
  | 14 => ⟨S_, .f32⟩
  | 15 => ⟨S1x16x64, .f32⟩
  | 16 => ⟨S1x16x64, .f32⟩
  | 17 => ⟨S1x16x64x1, .f32⟩
  | 18 => ⟨S1x16x64x4096, .f32⟩
  | 19 => ⟨S1x16x64x4096, .f32⟩
  | 20 => ⟨S1x16x64x4096, .f32⟩
  | 21 => ⟨S_, .f32⟩
  | 22 => ⟨S1x16x64, .f32⟩
  | 23 => ⟨S1x16x64x1, .f32⟩
  | 24 => ⟨S1x16x64x4096, .f32⟩
  | 25 => ⟨S1x16x64x4096, .f32⟩
  | 26 => ⟨S1x16x64x128, .f32⟩
  | 27 => ⟨S63x6, .i32⟩
  | 28 => ⟨S_, .i32⟩
  | 29 => ⟨S_, .i32⟩
  | 30 => ⟨S_, .i32⟩
  | 31 => ⟨S63x6, .i32⟩
  | 32 => ⟨S63x6, .i32⟩
  | 33 => ⟨S_, .i32⟩
  | 34 => ⟨S63x6, .i32⟩
  | 35 => ⟨S63x6, .i32⟩
  | 36 => ⟨S1x16x64x64x128, .f32⟩
  | 37 => ⟨S1x16x64x64x128, .f32⟩
  | 38 => ⟨S378, .i32⟩
  | 39 => ⟨S_, .i32⟩
  | 40 => ⟨S378, .i32⟩
  | 41 => ⟨S378, .i1⟩
  | 42 => ⟨S_, .i32⟩
  | 43 => ⟨S378, .i32⟩
  | 44 => ⟨S378, .i32⟩
  | 45 => ⟨S378, .i32⟩
  | 46 => ⟨S378x1, .i32⟩
  | 47 => ⟨S1, .i32⟩
  | 48 => ⟨S_, .i32⟩
  | 49 => ⟨S378x1, .i32⟩
  | 50 => ⟨S378x1, .i1⟩
  | 51 => ⟨S1x1, .i32⟩
  | 52 => ⟨S378x1, .i32⟩
  | 53 => ⟨S378x1, .i1⟩
  | 54 => ⟨S378x1, .i1⟩
  | 55 => ⟨S_, .i1⟩
  | 56 => ⟨S378, .i1⟩
  | 57 => ⟨S1x16x378x64x128, .f32⟩
  | 58 => ⟨S1x16x378x64x128, .i1⟩
  | 59 => ⟨S_, .f32⟩
  | 60 => ⟨S1x16x378x64x128, .f32⟩
  | 61 => ⟨S1x16x378x64x128, .f32⟩
  | 62 => ⟨S1x16x63x384x128, .f32⟩
  | 63 => ⟨S378, .i32⟩
  | 64 => ⟨S_, .i32⟩
  | 65 => ⟨S378, .i32⟩
  | 66 => ⟨S378, .i1⟩
  | 67 => ⟨S_, .i32⟩
  | 68 => ⟨S378, .i32⟩
  | 69 => ⟨S378, .i32⟩
  | 70 => ⟨S378, .i32⟩
  | 71 => ⟨S378x1, .i32⟩
  | 72 => ⟨S1, .i32⟩
  | 73 => ⟨S_, .i32⟩
  | 74 => ⟨S378x1, .i32⟩
  | 75 => ⟨S378x1, .i1⟩
  | 76 => ⟨S1x1, .i32⟩
  | 77 => ⟨S378x1, .i32⟩
  | 78 => ⟨S378x1, .i1⟩
  | 79 => ⟨S378x1, .i1⟩
  | 80 => ⟨S_, .i1⟩
  | 81 => ⟨S378, .i1⟩
  | 82 => ⟨S1x16x378x64x128, .f32⟩
  | 83 => ⟨S1x16x378x64x128, .i1⟩
  | 84 => ⟨S_, .f32⟩
  | 85 => ⟨S1x16x378x64x128, .f32⟩
  | 86 => ⟨S1x16x378x64x128, .f32⟩
  | 87 => ⟨S1x16x63x384x128, .f32⟩
  | 88 => ⟨S63x6x1, .i32⟩
  | 89 => ⟨S_, .i32⟩
  | 90 => ⟨S63x6x1, .i32⟩
  | 91 => ⟨S63x6x1, .i32⟩
  | 92 => ⟨S64, .i32⟩
  | 93 => ⟨S1x1x64, .i32⟩
  | 94 => ⟨S63x6x64, .i32⟩
  | 95 => ⟨S63x6x64, .i32⟩
  | 96 => ⟨S63x6x64, .i32⟩
  | 97 => ⟨S63x6x1, .i32⟩
  | 98 => ⟨S_, .i32⟩
  | 99 => ⟨S63x6x1, .i32⟩
  | 100 => ⟨S63x6x1, .i1⟩
  | 101 => ⟨S_, .i32⟩
  | 102 => ⟨S63x6x64, .i32⟩
  | 103 => ⟨S63x6x64, .i1⟩
  | 104 => ⟨S63x6x64, .i1⟩
  | 105 => ⟨S63x6x64, .i1⟩
  | 106 => ⟨S_, .i32⟩
  | 107 => ⟨S63x6x64, .i32⟩
  | 108 => ⟨S63x6x64, .i1⟩
  | 109 => ⟨S63x6x64, .i1⟩
  | 110 => ⟨S63x384, .i1⟩
  | 111 => ⟨S1x16x4032x128, .f32⟩
  | 112 => ⟨S1x16x63x64x128, .f32⟩
  | 113 => ⟨S1x16x63x64x64, .f32⟩
  | 114 => ⟨S1x16x63x64x64, .f32⟩
  | 115 => ⟨S1x16x63x64x64, .f32⟩
  | 116 => ⟨S1x16x63x64x384, .f32⟩
  | 117 => ⟨S1x16x63x64x384, .f32⟩
  | 118 => ⟨S1x16x63x64x384, .f32⟩
  | 119 => ⟨S1x1x63x1x384, .i1⟩
  | 120 => ⟨S_, .f32⟩
  | 121 => ⟨S_, .f32⟩
  | 122 => ⟨S1x16x63x64x384, .i1⟩
  | 123 => ⟨S1x16x63x64x384, .f32⟩
  | 124 => ⟨S1x16x63x64x384, .f32⟩
  | 125 => ⟨S1x16x63x64x448, .f32⟩
  | 126 => ⟨S_, .f32⟩
  | 127 => ⟨S1x16x63x64, .f32⟩
  | _ => ⟨S1x16x4096x128, .f32⟩

abbrev hbmTy0_1 (i : Nat) : BufTy := match i % 128 with
  | 0 => ⟨S_, .f32⟩
  | 1 => ⟨S1x16x63x64, .f32⟩
  | 2 => ⟨S1x16x63x64, .f32⟩
  | 3 => ⟨S1x16x63x64x1, .f32⟩
  | 4 => ⟨S1x16x63x64x448, .f32⟩
  | 5 => ⟨S1x16x63x64x448, .f32⟩
  | 6 => ⟨S1x16x63x64x448, .f32⟩
  | 7 => ⟨S_, .f32⟩
  | 8 => ⟨S1x16x63x64, .f32⟩
  | 9 => ⟨S1x16x63x64x1, .f32⟩
  | 10 => ⟨S1x16x63x64x448, .f32⟩
  | 11 => ⟨S1x16x63x64x448, .f32⟩
  | 12 => ⟨S1x16x63x64x64, .f32⟩
  | 13 => ⟨S1x16x63x64x384, .f32⟩
  | 14 => ⟨S1x16x63x64x128, .f32⟩
  | 15 => ⟨S1x16x63x64x128, .f32⟩
  | 16 => ⟨S1x16x63x64x128, .f32⟩
  | 17 => ⟨S1x16x4032x128, .f32⟩
  | 18 => ⟨S1x16x4096x128, .f32⟩
  | _ => ⟨S1x16x4096x128, .f32⟩

abbrev hbmTy (i : Nat) : BufTy := match i / 128 with
  | 0 => hbmTy0_0 i
  | 1 => hbmTy0_1 i
  | _ => ⟨S1x16x4096x128, .f32⟩

abbrev bufTy : (tb : Table) → Fin (tcTables nBuf tb) → BufTy
  | .hbm, ⟨i, _⟩ => hbmTy i
  | _, _ => ⟨S1x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_c_4 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_c_5 : Ref sig .tc := ⟨.hbm, 98, rfl⟩
abbrev main_v38 : Ref sig .tc := ⟨.hbm, 99, rfl⟩
abbrev main_v39 : Ref sig .tc := ⟨.hbm, 100, rfl⟩
abbrev main_c_6 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_c_7 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_8 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v57 : Ref sig .tc := ⟨.hbm, 124, rfl⟩
abbrev main_v58 : Ref sig .tc := ⟨.hbm, 125, rfl⟩
abbrev main_cst_9 : Ref sig .tc := ⟨.hbm, 126, rfl⟩
abbrev main_v59 : Ref sig .tc := ⟨.hbm, 127, rfl⟩
abbrev main_cst_10 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_cst_11 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩

abbrev nD : Nat := 1
abbrev τ : Topo := Topo.v7x

variable {F : FTy → Type} [FloatOps F]
-- ==== Proof.KernelBlock.lean ====
module

public import proofs.«01_k».proof.Proof.Gen.KernelIdeal.Frame

/-! What the kernel's body stores into its output block, written once for every block of 64 query rows:
`globalBlock` for the first block, `selectedBlock` for each of the other 63. -/

@[expose] public section

noncomputable section

namespace Cert.Attn

open Idealize.ShloMosaic Idealize.ShloMosaic.TcCoe
open Cert.KernelIdeal Cert.KernelIdeal.Gen

variable {F : FTy → Type} [FloatOps F] [Named F]

/-! ## The arrays the body keeps in scratch -/

/-- The scaled and cast queries. -/
def keptQueries (x : Vec F S1x1x4096x128 .f32) : FVec F S4096x128 .bf16 :=
  shapeCast S4096x128 (truncf .bf16 (mulf (shapeCast S4096x128 x shapeCasts_S1x1x4096x128_S4096x128)
    (broadcast S4096x128 (Named.named κ "s" 0x3DB504F3#32))) bitsLt_bf16_f32)
    shapeCasts_S4096x128_S4096x128

/-- The cast keys, and the cast values. -/
def keptRows (x : Vec F S1x1x4096x128 .f32) : FVec F S4096x128 .bf16 :=
  shapeCast S4096x128 (truncf .bf16 (shapeCast S4096x128 x shapeCasts_S1x1x4096x128_S4096x128)
    bitsLt_bf16_f32) shapeCasts_S4096x128_S4096x128

/-- The exponentials of all queries against the first 64 keys. -/
def globalExp (q : FVec F S4096x128 .bf16) (k : FVec F S64x128 .bf16) : FVec F S4096x64 .bf16 :=
  truncf .bf16 (exp (matmul dot_S4096x128_S64x128_S4096x64_1_1_0_0_n_n none q k
    (constant S4096x64 .f32 0x00000000#32))) bitsLt_bf16_f32

/-- The first 64 values weighted by those exponentials. -/
def globalAcc (e : FVec F S4096x64 .bf16) (v : FVec F S64x128 .bf16) : FVec F S4096x128 .f32 :=
  shapeCast S4096x128 (matmul dot_S4096x64_S64x128_S4096x128_1_0_0_1_n_n none e v
    (constant S4096x128 .f32 0x00000000#32)) shapeCasts_S4096x128_S4096x128

/-! ## The output blocks -/

/-- The output of the first 64 queries, which see every key. -/
def globalBlock (q : FVec F S64x128 .bf16) (k v : FVec F S4096x128 .bf16) : FVec F S1x1x64x128 .f32 :=
  have e : FVec F S64x4096 .f32 := exp (matmul dot_S64x128_S4096x128_S64x4096_1_1_0_0_n_n none q k
    (constant S64x4096 .f32 0x00000000#32))
  shapeCast S1x1x64x128 (divf
    (matmul dot_S64x4096_S4096x128_S64x128_1_0_0_1_n_n none (truncf .bf16 e bitsLt_bf16_f32) v
      (constant S64x128 .f32 0x00000000#32))
    (broadcastTo S64x128 (shapeCast S64x1
      (multiReduction .add [1] S64 e 0x00000000#32 reduces_S64x4096_S64 (.inl rfl) rfl)
      shapeCasts_S64_S64x1) broadcasts_S64x1_S64x128)) shapeCasts_S64x128_S1x1x64x128

/-- What an index word adds to the scores of its block. -/
def wordBias (w : BitVec 32) : F .f32 :=
  Scalar.select (Scalar.cmpi .sge w 1#32) (FloatOps.ofBits .f32 0x00000000#32)
    (Named.named κ "mask" 0xF149F2CA#32)

/-- The exponentials of 64 queries against a pair of selected blocks. -/
def pairExp (q k k' : FVec F S64x128 .bf16) (w w' : BitVec 32) : FVec F S64x128 .f32 :=
  exp (addf
    (matmul dot_S64x128_S128x128_S64x128_1_1_0_0_n_n none q
      (concatenate S128x128 0 [⟨S64x128, k⟩, ⟨S64x128, k'⟩] concatenates_S64x128_S64x128_S128x128_d0)
      (constant S64x128 .f32 0x00000000#32))
    (broadcastTo S64x128 (shapeCast S1x128
      (concatenate S128 0 [⟨S64, broadcast S64 (wordBias (F := F) w)⟩,
        ⟨S64, broadcast S64 (wordBias (F := F) w')⟩] concatenates_S64_S64_S128_d0)
      shapeCasts_S128_S1x128) broadcasts_S1x128_S64x128))

/-- The values of a pair of selected blocks weighted by those exponentials. -/
def pairAcc (e : FVec F S64x128 .f32) (v v' : FVec F S64x128 .bf16) : FVec F S64x128 .f32 :=
  matmul dot_S64x128_S128x128_S64x128_1_0_0_1_n_n none (truncf .bf16 e bitsLt_bf16_f32)
    (concatenate S128x128 0 [⟨S64x128, v⟩, ⟨S64x128, v'⟩] concatenates_S64x128_S64x128_S128x128_d0)
    (constant S64x128 .f32 0x00000000#32)

/-- The row sums of a pair's exponentials. -/
def pairSum (e : FVec F S64x128 .f32) : FVec F S64x1 .f32 :=
  shapeCast S64x1 (multiReduction .add [1] S64 e 0x00000000#32 reduces_S64x128_S64 (.inl rfl) rfl)
    shapeCasts_S64_S64x1

/-- The output of 64 queries that see the first 64 keys and six selected blocks: `eg` and `acc` are the
    exponentials and the weighted values for the first 64 keys, `k j`, `v j` the keys and values of the
    block the word `w j` selects. -/
def selectedBlock (q : FVec F S64x128 .bf16) (eg : FVec F S64x64 .bf16) (acc : FVec F S64x128 .f32)
    (k v : Fin 6 → FVec F S64x128 .bf16) (w : Fin 6 → BitVec 32) : FVec F S1x1x64x128 .f32 :=
  have e₀ : FVec F S64x128 .f32 := pairExp q (k 0) (k 1) (w 0) (w 1)
  have e₁ : FVec F S64x128 .f32 := pairExp q (k 2) (k 3) (w 2) (w 3)
  have e₂ : FVec F S64x128 .f32 := pairExp q (k 4) (k 5) (w 4) (w 5)
  shapeCast S1x1x64x128 (divf
    (addf (addf (addf acc (pairAcc e₀ (v 0) (v 1))) (pairAcc e₁ (v 2) (v 3))) (pairAcc e₂ (v 4) (v 5)))
    (broadcastTo S64x128 (addf (addf (addf
      (shapeCast S64x1 (multiReduction .add [1] S64 (extf .f32 eg bitsLt_bf16_f32) 0x00000000#32
        reduces_S64x64_S64 (.inl rfl) rfl) shapeCasts_S64_S64x1)
      (pairSum e₀)) (pairSum e₁)) (pairSum e₂)) broadcasts_S64x1_S64x128))
    shapeCasts_S64x128_S1x1x64x128

/-- Where the block a word selects starts. -/
def wordRow (w : BitVec 32) : Fin 2 → Nat :=
  ![(Scalar.indexCast (Scalar.muli (Scalar.minsi 63#32 (Scalar.maxsi 0#32 w)) 64#32)).toNat, 0]

/-! ## The stores -/

/-- A rectangle read from a buffer into which `P` has been stored whole. -/
def loaded {s : Shape} {e : EltTy} (A : Memref sig .tc .vmem s e) {o : Fin s.rank → Nat}
    (ho : ∀ a, o a + s.size a ≤ s.size a) (P : Vec F s e) (off size : Fin s.rank → Nat)
    (h : ∀ a, off a + size a ≤ s.size a) : (⟨s.rank, size⟩ : Shape).Idx → Elt F e :=
  A.view.readAt (Elt F) (Rect.unit off size h).toLoadRect
    (A.view.writes (Elt F) A.view.junk [⟨Rect.unit o s.size ho, P⟩])

/-- An input block read whole. -/
def whole (A : Memref sig .tc .vmem S1x1x4096x128 .f32) (hA : A.IsWhole)
    (x : Vec F S1x1x4096x128 .f32) : Vec F S1x1x4096x128 .f32 :=
  A.view.readAt (Elt F) (Rect.unit (s := S1x1x4096x128) ![0, 0, 0, 0] S1x1x4096x128.size
    inb_S1x1x4096x128_S1x1x4096x128_0_0_0_0).toLoadRect (hA.unread x)

/-- One index word read. -/
def wordAt (A : Memref sig .tc .smem S64x6 .i32) (hA : A.IsWhole) (x : Vec F S64x6 .i32) (n j : Nat)
    (h : ∀ a, (![n, j] : Fin 2 → Nat) a + S1x1.size a ≤ S64x6.size a) : BitVec 32 :=
  A.view.readAt (Elt F) (Rect.unit (s := S64x6) ![n, j] S1x1.size h).toLoadRect (hA.unread x)
    (Shape.Idx.first (by decide : 0 < S1x1.numel))

/-- Block `n` of 64 rows is inside an array of 4096 rows. -/
theorem rows_inb {m k : Nat} (n : Nat) (hn : n < 64) (hm : m = 64) :
    ∀ a, (![64 * n, 0] : Fin 2 → Nat) a + (![m, k] : Fin 2 → Nat) a ≤ (![4096, k] : Fin 2 → Nat) a := by
  subst hm
  intro a
  match a with
  | ⟨0, _⟩ => show 64 * n + 64 ≤ 4096; omega
  | ⟨1, _⟩ => show 0 + k ≤ k; omega

/-- Block `n` of 64 rows is inside the output block. -/
theorem out_inb (n : Nat) (hn : n < 64) :
    ∀ a, (![0, 0, 64 * n, 0] : Fin 4 → Nat) a + S1x1x64x128.size a ≤ S1x1x4096x128.size a := by
  intro a
  match a with
  | ⟨0, _⟩ => show 0 + 1 ≤ 1; omega
  | ⟨1, _⟩ => show 0 + 1 ≤ 1; omega
  | ⟨2, _⟩ => show 64 * n + 64 ≤ 4096; omega
  | ⟨3, _⟩ => show 0 + 128 ≤ 128; omega

/-- Word `j` of row `n` is inside the table. -/
theorem word_inb (n : Nat) (hn : n < 64) (j : Fin 6) :
    ∀ a, (![n, j.1] : Fin 2 → Nat) a + S1x1.size a ≤ S64x6.size a := by
  intro a
  match a with
  | ⟨0, _⟩ => show n + 1 ≤ 64; omega
  | ⟨1, _⟩ => show j.1 + 1 ≤ 6; omega

/-- The row a word selects, as a signed number. -/
theorem wordRow_eq (w : BitVec 32) :
    wordRow w = ![64 * (min 63 (max 0 w.toInt)).toNat, 0] := by
  have h : Affine.IsInt (Scalar.muli (Scalar.minsi 63#32 (Scalar.maxsi 0#32 w)) 64#32)
      (min 63 (max 0 w.toInt) * 64) := by
    refine Affine.muli (Affine.minsi (Affine.ofNat 63 ⟨rfl, by decide⟩)
      (Affine.maxsi (Affine.ofNat 0 ⟨rfl, by decide⟩) (Affine.word w) rfl) rfl)
      (Affine.ofNat 64 ⟨rfl, by decide⟩) ⟨?_, ?_, ?_⟩
    · rfl
    all_goals push_cast; omega
  have h' := Affine.nat_eq h (64 * (min 63 (max 0 w.toInt)).toNat) (by omega)
  show ![_, 0] = _
  rw [← h']; rfl

/-- The block a word selects is inside an array of 4096 rows. -/
theorem wordRow_inb (w : BitVec 32) : ∀ a, wordRow w a + S64x128.size a ≤ S4096x128.size a := by
  rw [wordRow_eq]
  exact rows_inb _ (by omega) rfl

end Cert.Attn
-- ==== Proof.Soft.lean ====
module

public import Idealize.ShloMosaic.PureOps.Ideal.Laws
public import Mathlib.Algebra.BigOperators.Fin
public import Mathlib.Data.Finset.Lattice.Fold
public import Mathlib.Data.Finset.Fold

/-! The mathematics of one attention row: a softmax average does not depend on the number taken
off every score, the scale may be put on the query or on the score, and a sum over the 448
positions of a sparse row falls into a part of 64 and three tiles of 128. -/

@[expose] public section

noncomputable section

namespace Cert.Attn

open Idealize.ShloMosaic

/-- An extended real that is a real number. -/
def Fin1 (x : EReal) : Prop := ∃ r : ℝ, x = (r : EReal)

theorem Fin1.coe (r : ℝ) : Fin1 (r : EReal) := ⟨r, rfl⟩

theorem Fin1.ne_top {x : EReal} (h : Fin1 x) : x ≠ ⊤ := by
  obtain ⟨r, rfl⟩ := h; exact EReal.coe_ne_top r

theorem Fin1.ne_bot {x : EReal} (h : Fin1 x) : x ≠ ⊥ := by
  obtain ⟨r, rfl⟩ := h; exact EReal.coe_ne_bot r

/-- A number whose absolute value lies below +∞ is real. -/
theorem Fin1.of_abs_lt {x : EReal} (h : max x (-x) < ⊤) : Fin1 x := by
  induction x with
  | bot => simp at h
  | top => simp at h
  | coe r => exact ⟨r, rfl⟩

/-- The weight of a score: its exponential as a real number, 0 for a masked score. -/
def wt (x : EReal) : ℝ := (Ideal.exp x).toReal

theorem exp_eq_wt {x : EReal} (h : x ≠ ⊤) : Ideal.exp x = (wt x : EReal) := by
  induction x with
  | bot => simp [wt]
  | top => exact absurd rfl h
  | coe r => simp [wt]

theorem wt_nonneg (x : EReal) : 0 ≤ wt x := by
  induction x with
  | bot => simp [wt]
  | top => simp [wt]
  | coe r => simpa [wt] using (Real.exp_pos r).le

theorem wt_pos {x : EReal} (h : Fin1 x) : 0 < wt x := by
  obtain ⟨r, rfl⟩ := h; simpa [wt] using Real.exp_pos r

/-- Taking a real `m` off a score multiplies its weight by `exp (-m)`. -/
theorem exp_sub {x : EReal} (h : x ≠ ⊤) (m : ℝ) :
    Ideal.exp (x - (m : EReal)) = ((wt x * Real.exp (-m) : ℝ) : EReal) := by
  induction x with
  | bot => simp [wt, EReal.bot_sub]
  | top => exact absurd rfl h
  | coe r =>
    rw [← EReal.coe_sub, Ideal.exp_coe]
    simp only [wt, Ideal.exp_coe, EReal.toReal_coe]
    rw [← Real.exp_add, sub_eq_add_neg]

/-- A finite sum of real numbers, read in the extended reals. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable {ι : Type} [Fintype ι]

/-- The greatest of a row's scores is real when no score is +∞ and one of them is real. -/
theorem fin1_fold_max (s : ι → EReal) (ht : ∀ i, s i ≠ ⊤) {i₀ : ι} (h₀ : Fin1 (s i₀)) :
    Fin1 (max ⊥ ((Finset.univ : Finset ι).fold max ⊥ s)) := by
  have hlt : (Finset.univ : Finset ι).fold max ⊥ s < ⊤ :=
    (Finset.fold_max_lt ⊤).mpr ⟨bot_lt_top, fun i _ => lt_of_le_of_ne le_top (ht i)⟩
  have hge : s i₀ ≤ (Finset.univ : Finset ι).fold max ⊥ s :=
    (Finset.le_fold_max (s i₀)).mpr (Or.inr ⟨i₀, Finset.mem_univ _, le_rfl⟩)
  rw [max_eq_right bot_le]
  generalize (Finset.univ : Finset ι).fold max ⊥ s = M at *
  induction M with
  | bot => exact absurd (le_bot_iff.mp hge) h₀.ne_bot
  | top => exact absurd hlt (lt_irrefl _)
  | coe r => exact ⟨r, rfl⟩

/-- The softmax average without any shift: the weighted sum over the sum of the weights. -/
def average (s v : ι → EReal) : EReal :=
  Ideal.div (∑ i, Ideal.exp (s i) * v i) (∑ i, Ideal.exp (s i))

/-- A nonnegative real factor goes into a sum, whatever the terms. -/
theorem coe_mul_sum {c : ℝ} (hc : 0 ≤ c) (f : ι → EReal) : (c : EReal) * ∑ i, f i = ∑ i, (c : EReal) * f i := by
  classical
  induction (Finset.univ : Finset ι) using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- The softmax weights with a real `m` taken off every score average to the same number, whatever the values. -/
theorem sum_shifted_eq_average (s v : ι → EReal) (m : EReal) (hm : Fin1 m) (ht : ∀ i, s i ≠ ⊤)
    {i₀ : ι} (h₀ : Fin1 (s i₀)) :
    ∑ i, Ideal.div (Ideal.exp (s i - m)) (∑ j, Ideal.exp (s j - m)) * v i = average s v := by
  obtain ⟨m, rfl⟩ := hm
  have hpos : 0 < ∑ i, wt (s i) :=
    Finset.sum_pos' (fun i _ => wt_nonneg _) ⟨i₀, Finset.mem_univ _, wt_pos h₀⟩
  have hc : 0 < Real.exp (-m) := Real.exp_pos _
  have hden : ∑ j, Ideal.exp (s j - (m : EReal)) = ((∑ j, wt (s j)) * Real.exp (-m) : ℝ) := by
    rw [Finset.sum_mul, ← coe_sum]
    exact Finset.sum_congr rfl fun j _ => exp_sub (ht j) m
  have hden' : ∑ j, Ideal.exp (s j) = ((∑ j, wt (s j) : ℝ) : EReal) := by
    rw [← coe_sum]
    exact Finset.sum_congr rfl fun j _ => exp_eq_wt (ht j)
  unfold average
  rw [hden, hden', Ideal.div_coe hpos.ne', mul_comm (∑ i, _ * v i), coe_mul_sum (one_div_pos.mpr hpos).le]
  refine Finset.sum_congr rfl fun i _ => ?_
  rw [exp_sub (ht i) m, Ideal.div_coe (mul_pos hpos hc).ne', exp_eq_wt (ht i), ← mul_assoc, ← EReal.coe_mul,
    ← EReal.coe_mul]
  congr 2
  field_simp

/-- A dot product of real vectors is real. -/
theorem fin1_dot {q k : ι → EReal} (hq : ∀ d, Fin1 (q d)) (hk : ∀ d, Fin1 (k d)) :
    Fin1 (∑ d, q d * k d) := by
  choose q' hq' using hq
  choose k' hk' using hk
  exact ⟨∑ d, q' d * k' d, by
    rw [← coe_sum]; exact Finset.sum_congr rfl fun d _ => by rw [hq', hk', EReal.coe_mul]⟩

/-- Scaling the query by `1/√128` is dividing the score by `√128`. -/
theorem dot_scaled {q k : ι → EReal} (hq : ∀ d, Fin1 (q d)) (hk : ∀ d, Fin1 (k d)) :
    ∑ d, (q d * (((Real.sqrt 128)⁻¹ : ℝ) : EReal)) * k d
      = Ideal.div (∑ d, q d * k d) (Ideal.sqrt ((128 : ℝ) : EReal)) := by
  choose q' hq' using hq
  choose k' hk' using hk
  have h128 : Real.sqrt 128 ≠ 0 := (Real.sqrt_pos.mpr (by norm_num)).ne'
  rw [Ideal.sqrt_coe, if_neg (by norm_num), Ideal.div_coe h128,
    show ∑ d, q d * k d = ((∑ d, q' d * k' d : ℝ) : EReal) from by
      rw [← coe_sum]; exact Finset.sum_congr rfl fun d _ => by rw [hq', hk', EReal.coe_mul],
    ← EReal.coe_mul, Finset.sum_mul, ← coe_sum]
  refine Finset.sum_congr rfl fun d _ => ?_
  rw [hq', hk', ← EReal.coe_mul, ← EReal.coe_mul]
  congr 1
  rw [one_div]; ring

/-- A scaled score is real. -/
theorem fin1_dot_scaled {q k : ι → EReal} (hq : ∀ d, Fin1 (q d)) (hk : ∀ d, Fin1 (k d)) :
    Fin1 (∑ d, (q d * (((Real.sqrt 128)⁻¹ : ℝ) : EReal)) * k d) :=
  fin1_dot (fun d => by obtain ⟨r, h⟩ := hq d; exact ⟨r * (Real.sqrt 128)⁻¹, by rw [h, EReal.coe_mul]⟩) hk

/-- The 448 positions of a sparse row are 64 global ones and 384 selected ones. -/
theorem sum_448 (f : Fin 448 → EReal) :
    ∑ i, f i = ∑ i : Fin 64, f ⟨i.1, by omega⟩ + ∑ i : Fin 384, f ⟨64 + i.1, by omega⟩ :=
  Fin.sum_univ_add (a := 64) (b := 384) f

/-- The 384 selected positions of a sparse row are three tiles of 128. -/
theorem sum_384 (f : Fin 384 → EReal) :
    ∑ i, f i = ∑ i : Fin 128, f ⟨i.1, by omega⟩ + ∑ i : Fin 128, f ⟨128 + i.1, by omega⟩
      + ∑ i : Fin 128, f ⟨256 + i.1, by omega⟩ := by
  rw [Fin.sum_univ_add (a := 256) (b := 128) f, Fin.sum_univ_add (a := 128) (b := 128)]
  rfl

end Cert.Attn
-- ==== Proof.Spec.lean ====
module

public import proofs.«01_k».proof.Proof.Soft
public import Idealize.ShloMosaic.Lib.ValueIdx
public import Idealize.ShloMosaic.Lib.Pipeline.Value

/-! What both programs compute, one head at a time: the 64 global query rows average over all
4096 keys; every other row averages over the 64 global keys and the 384 keys of the six blocks
its row of index words selects, where a word below 1 is masked. -/

@[expose] public section

noncomputable section

namespace Cert.Attn

open Idealize.ShloMosaic Idealize.ShloMosaic.ValueIdx

/-- One head of an array, as rows of 128 numbers. -/
abbrev Head := Fin 4096 → Fin 128 → EReal

/-- Head `h` of a `[1, 16, 4096, 128]` array. -/
def headOf (X : (⟨4, ![1, 16, 4096, 128]⟩ : Shape).Idx → EReal) (h : Fin 16) : Head :=
  fun r d => X (ix4 0 h r d)

/-- An array is read at an index through the head, row and column of the index. -/
theorem eq_headOf (X : (⟨4, ![1, 16, 4096, 128]⟩ : Shape).Idx → EReal)
    (i : (⟨4, ![1, 16, 4096, 128]⟩ : Shape).Idx) {h : Fin 16} {r : Fin 4096} {d : Fin 128}
    (h1 : (i 1).val = h.val) (h2 : (i 2).val = r.val) (h3 : (i 3).val = d.val) :
    X i = headOf X h r d := by
  unfold headOf
  congr 1
  funext a
  match a with
  | ⟨0, _⟩ => exact Fin.ext (by have : (i 0).val < 1 := (i 0).isLt; show (i 0).val = 0; omega)
  | ⟨1, _⟩ => exact Fin.ext h1
  | ⟨2, _⟩ => exact Fin.ext h2
  | ⟨3, _⟩ => exact Fin.ext h3

/-- The block an index word selects: the word clipped into 0 … 63. -/
def blockOf (w : BitVec 32) : Fin 64 := ⟨min w.toInt.toNat 63, by omega⟩

/-- An index word selects a block that counts when it is at least 1. -/
def Live (w : BitVec 32) : Prop := 1 ≤ w.toInt

instance (w : BitVec 32) : Decidable (Live w) := inferInstanceAs (Decidable (1 ≤ w.toInt))

/-- The key row at position `n` of the 384 selected ones. -/
def keyRow (b : Fin 6 → BitVec 32) (n : Fin 384) : Fin 4096 :=
  ⟨64 * (blockOf (b ⟨n.1 / 64, by omega⟩)).1 + n.1 % 64, by
    have := (blockOf (b ⟨n.1 / 64, by omega⟩)).2; omega⟩

/-- The score of query row `r` against key row `n`: the query scaled by `1/√128`. -/
def score (q k : Head) (r n : Fin 4096) : EReal :=
  ∑ d, (q r d * (((Real.sqrt 128)⁻¹ : ℝ) : EReal)) * k n d

/-- The score at a selected position: −∞ where the index word does not count. -/
def selScore (q k : Head) (b : Fin 6 → BitVec 32) (r : Fin 4096) (n : Fin 384) : EReal :=
  if Live (b ⟨n.1 / 64, by omega⟩) then score q k r (keyRow b n) else ⊥

/-- The 448 scores of a sparse row. -/
def rowScore (q k : Head) (b : Fin 6 → BitVec 32) (r : Fin 4096) (n : Fin 448) : EReal :=
  if h : n.1 < 64 then score q k r ⟨n.1, by omega⟩ else selScore q k b r ⟨n.1 - 64, by omega⟩

/-- The 448 values of a sparse row, in one column. -/
def rowValue (v : Head) (b : Fin 6 → BitVec 32) (e : Fin 128) (n : Fin 448) : EReal :=
  if h : n.1 < 64 then v ⟨n.1, by omega⟩ e else v (keyRow b ⟨n.1 - 64, by omega⟩) e

/-- The attention output of one head at row `r` and column `e`. -/
def attn (q k v : Head) (bi : Fin 64 → Fin 6 → BitVec 32) (r : Fin 4096) (e : Fin 128) : EReal :=
  if r.1 < 64 then average (fun n => score q k r n) (fun n => v n e)
  else average (rowScore q k (bi ⟨r.1 / 64, by omega⟩) r) (rowValue v (bi ⟨r.1 / 64, by omega⟩) e)

/-- Every entry of a head is a real number. -/
def Head.Real (q : Head) : Prop := ∀ r d, Fin1 (q r d)

variable {q k v : Head}

theorem fin1_score (hq : q.Real) (hk : k.Real) (r n : Fin 4096) : Fin1 (score q k r n) :=
  fin1_dot_scaled (hq r) (hk n)

/-- The score as the plain dot product divided by `√128`. -/
theorem score_eq_div (hq : q.Real) (hk : k.Real) (r n : Fin 4096) :
    score q k r n = Ideal.div (∑ d, q r d * k n d) (Ideal.sqrt ((128 : ℝ) : EReal)) :=
  dot_scaled (hq r) (hk n)

theorem rowScore_ne_top (hq : q.Real) (hk : k.Real) (b : Fin 6 → BitVec 32) (r : Fin 4096) (n : Fin 448) :
    rowScore q k b r n ≠ ⊤ := by
  unfold rowScore selScore
  split_ifs
  · exact (fin1_score hq hk _ _).ne_top
  · exact (fin1_score hq hk _ _).ne_top
  · exact bot_ne_top

theorem fin1_rowScore_zero (hq : q.Real) (hk : k.Real) (b : Fin 6 → BitVec 32) (r : Fin 4096) :
    Fin1 (rowScore q k b r 0) := by
  unfold rowScore
  rw [dif_pos (by decide)]
  exact fin1_score hq hk _ _

theorem rowScore_left (b : Fin 6 → BitVec 32) (r : Fin 4096) (n : Fin 64) :
    rowScore q k b r ⟨n.1, by omega⟩ = score q k r ⟨n.1, by omega⟩ := by
  unfold rowScore; rw [dif_pos n.2]

theorem rowScore_right (b : Fin 6 → BitVec 32) (r : Fin 4096) (n : Fin 384) :
    rowScore q k b r ⟨64 + n.1, by omega⟩ = selScore q k b r n := by
  unfold rowScore; rw [dif_neg (by simp)]; congr 1; exact Fin.ext (Nat.add_sub_cancel_left ..)

theorem rowValue_left (b : Fin 6 → BitVec 32) (e : Fin 128) (n : Fin 64) :
    rowValue v b e ⟨n.1, by omega⟩ = v ⟨n.1, by omega⟩ e := by
  unfold rowValue; rw [dif_pos n.2]

theorem rowValue_right (b : Fin 6 → BitVec 32) (e : Fin 128) (n : Fin 384) :
    rowValue v b e ⟨64 + n.1, by omega⟩ = v (keyRow b n) e := by
  unfold rowValue; rw [dif_neg (by simp)]; congr 2; exact Fin.ext (Nat.add_sub_cancel_left ..)

end Cert.Attn
-- ==== Proof.KernelEval.lean ====
module

public import proofs.«01_k».proof.Proof.KernelBlock
public import proofs.«01_k».proof.Proof.Spec
public import Idealize.ShloMosaic.Lib.MatmulPlain

/-! The kernel's two block expressions read entry by entry over the extended reals. -/

@[expose] public section

noncomputable section

namespace Cert.Attn

open Idealize.ShloMosaic Idealize.ShloMosaic.ValueIdx
open Cert.KernelIdeal Cert.KernelIdeal.Gen

/-! ## The products, sums and casts the blocks use -/

/-- A product with the rows of `b`, from 0. -/
theorem dot_rows {M K N : ℕ} {φ₁ φ₂ : FTy} (D : DotDims ⟨2, ![M, K]⟩ ⟨2, ![N, K]⟩ ⟨2, ![M, N]⟩)
    (hD : D = DotDims.transposedRhs M K N) (a : FVec Ideal ⟨2, ![M, K]⟩ φ₁) (b : FVec Ideal ⟨2, ![N, K]⟩ φ₂)
    (r : Fin M) (c : Fin N) :
    matmul D none a b (constant ⟨2, ![M, N]⟩ .f32 0x00000000#32) (ix2 r c)
      = ∑ k : Fin K, a (ix2 r k) * b (ix2 c k) := by
  subst hD
  refine (Ideal.matmul_transposedRhs_apply none a b _ r c).trans ?_
  rw [constant_apply, Ideal.ofBits_zero_f32, zero_add]

/-- A product with the columns of `b`, from 0. -/
theorem dot_cols {M K N : ℕ} {φ₁ φ₂ : FTy} (D : DotDims ⟨2, ![M, K]⟩ ⟨2, ![K, N]⟩ ⟨2, ![M, N]⟩)
    (hD : D = DotDims.plain M K N) (a : FVec Ideal ⟨2, ![M, K]⟩ φ₁) (b : FVec Ideal ⟨2, ![K, N]⟩ φ₂)
    (r : Fin M) (c : Fin N) :
    matmul D none a b (constant ⟨2, ![M, N]⟩ .f32 0x00000000#32) (ix2 r c)
      = ∑ k : Fin K, a (ix2 r k) * b (ix2 k c) := by
  subst hD
  refine (Ideal.matmul_plain_apply none a b _ r c).trans ?_
  rw [constant_apply, Ideal.ofBits_zero_f32, zero_add]

/-- The sum of each row, as a column. -/
theorem row_sum {N : ℕ} (x : FVec Ideal ⟨2, ![64, N]⟩ .f32)
    (h : (⟨2, ![64, N]⟩ : Shape).Reduces [1] S64) (h' : S64.ShapeCasts S64x1)
    (hφ : FKind.Formats .f32) (ha : (0x00000000#32 : BitVec 32) = FKind.add.neutral .f32 hφ) (r : Fin 64) :
    shapeCast S64x1 (multiReduction .add [1] S64 x 0x00000000#32 h hφ ha) h' (ix2 r 0)
      = ∑ k : Fin N, x (ix2 r k) := by
  rw [shapeCast_apply _ h' (ix2 r 0) (ix1 r)
    ((Shape.rowMajor_val_one _).trans (by rw [Shape.rowMajor_val_two]; show r.1 = r.1 * 1 + 0; omega)),
    Ideal.multiReduction_add_single]
  refine Finset.sum_congr rfl fun k _ => congrArg x ?_
  funext a
  match a with
  | ⟨0, _⟩ => rfl
  | ⟨1, _⟩ => rfl

/-- A column repeated along the rows. -/
theorem column_apply (x : FVec Ideal S64x1 .f32) (r : Fin 64) (e : Fin 128) :
    broadcastTo S64x128 x broadcasts_S64x1_S64x128 (ix2 r e) = x (ix2 r 0) :=
  broadcastTo_apply _ _ _ _ fun a => match a with | ⟨0, _⟩ => rfl | ⟨1, _⟩ => rfl

/-- A block of 64 rows stored as a `[1, 1, 64, 128]` block. -/
theorem block_apply (x : FVec Ideal S64x128 .f32) (r : Fin 64) (e : Fin 128) :
    shapeCast S1x1x64x128 x shapeCasts_S64x128_S1x1x64x128 (ix4 0 0 r e) = x (ix2 r e) :=
  shapeCast_apply _ _ _ _ ((Shape.rowMajor_val_two _).trans (by
    rw [Shape.rowMajor_val_four]; show r.1 * 128 + e.1 = ((0 * 1 + 0) * 64 + r.1) * 128 + e.1; omega))

/-- A head stored as a `[1, 1, 4096, 128]` block, read as rows. -/
theorem head_apply (x : FVec Ideal S1x1x4096x128 .f32) (r : Fin 4096) (d : Fin 128) :
    shapeCast S4096x128 x shapeCasts_S1x1x4096x128_S4096x128 (ix2 r d) = x (ix4 0 0 r d) :=
  shapeCast_apply _ _ _ _ ((Shape.rowMajor_val_four _).trans (by
    rw [Shape.rowMajor_val_two]; show ((0 * 1 + 0) * 4096 + r.1) * 128 + d.1 = r.1 * 128 + d.1; omega))

/-! ## The arrays in scratch -/

theorem keptQueries_apply (x : FVec Ideal S1x1x4096x128 .f32) (r : Fin 4096) (d : Fin 128) :
    keptQueries (F := Ideal) x (ix2 r d) = x (ix4 0 0 r d) * (((Real.sqrt 128)⁻¹ : ℝ) : EReal) := by
  unfold keptQueries
  rw [shapeCast_self, truncf_apply, mulf_apply, head_apply]
  rfl

theorem keptRows_apply (x : FVec Ideal S1x1x4096x128 .f32) (r : Fin 4096) (d : Fin 128) :
    keptRows (F := Ideal) x (ix2 r d) = x (ix4 0 0 r d) := by
  unfold keptRows
  rw [shapeCast_self, truncf_apply, head_apply]

theorem globalExp_apply (q : FVec Ideal S4096x128 .bf16) (k : FVec Ideal S64x128 .bf16)
    (r : Fin 4096) (n : Fin 64) :
    globalExp (F := Ideal) q k (ix2 r n) = Ideal.exp (∑ d : Fin 128, q (ix2 r d) * k (ix2 n d)) :=
  congrArg Ideal.exp (dot_rows _ rfl q k r n)

theorem globalAcc_apply (e : FVec Ideal S4096x64 .bf16) (v : FVec Ideal S64x128 .bf16)
    (r : Fin 4096) (d : Fin 128) :
    globalAcc (F := Ideal) e v (ix2 r d) = ∑ n : Fin 64, e (ix2 r n) * v (ix2 n d) := by
  unfold globalAcc
  rw [shapeCast_self]
  exact dot_cols _ rfl e v r d

/-! ## The blocks -/

/-- The first block's output is a softmax average over all keys. -/
theorem globalBlock_apply (q : FVec Ideal S64x128 .bf16) (k v : FVec Ideal S4096x128 .bf16)
    (r : Fin 64) (e : Fin 128) :
    globalBlock (F := Ideal) q k v (ix4 0 0 r e)
      = average (fun n : Fin 4096 => ∑ d : Fin 128, q (ix2 r d) * k (ix2 n d)) (fun n => v (ix2 n e)) := by
  have he (n : Fin 4096) : exp (F := Ideal) (matmul dot_S64x128_S4096x128_S64x4096_1_1_0_0_n_n none q k
      (constant S64x4096 .f32 0x00000000#32)) (ix2 r n)
      = Ideal.exp (∑ d : Fin 128, q (ix2 r d) * k (ix2 n d)) :=
    congrArg Ideal.exp (dot_rows _ rfl q k r n)
  unfold globalBlock average
  dsimp only
  rw [block_apply, divf_apply, column_apply]
  exact congrArg₂ Ideal.div
    ((dot_cols _ rfl _ v r e).trans (Finset.sum_congr rfl fun n _ => congrArg (· * v (ix2 n e)) (he n)))
    ((row_sum _ _ _ _ _ r).trans (Finset.sum_congr rfl fun n _ => he n))

/-- An index word adds 0 where it counts and −∞ where it does not. -/
theorem wordBias_eq (w : BitVec 32) : wordBias (F := Ideal) w = if Live w then 0 else ⊥ := by
  have h : Scalar.cmpi .sge w 1#32 = 1#1 ↔ Live w := IntOp.cmpi_sge
  show (if Scalar.cmpi .sge w 1#32 = 1#1 then Ideal.ofBits .f32 0x00000000#32 else ⊥) = _
  rw [Ideal.ofBits_zero_f32]
  by_cases hw : Live w
  · rw [if_pos (h.mpr hw), if_pos hw]
  · rw [if_neg (fun hc => hw (h.mp hc)), if_neg hw]

/-- Row `c` of a pair of blocks. -/
def pairRow (k k' : FVec Ideal S64x128 .bf16) (c : Fin 128) (d : Fin 128) : EReal :=
  if h : c.1 < 64 then k (ix2 ⟨c.1, h⟩ d) else k' (ix2 ⟨c.1 - 64, by omega⟩ d)

/-- The word that governs row `c` of a pair of blocks. -/
def pairWord (w w' : BitVec 32) (c : Fin 128) : BitVec 32 := if c.1 < 64 then w else w'

theorem pairRow_apply (k k' : FVec Ideal S64x128 .bf16) (c : Fin 128) (d : Fin 128) :
    concatenate S128x128 0 [⟨S64x128, k⟩, ⟨S64x128, k'⟩] concatenates_S64x128_S64x128_S128x128_d0 (ix2 c d)
      = pairRow k k' c d := by
  unfold pairRow
  split_ifs with h
  · exact concatenate_pair_apply_left (s₁ := S64x128) (s₂ := S64x128) (t := S128x128) 0 k k' _ (ix2 c d) rfl
      (ix2 ⟨c.1, h⟩ d)
      fun b => match b with | ⟨0, _⟩ => rfl | ⟨1, _⟩ => rfl
  · exact concatenate_pair_apply_right (s₁ := S64x128) (s₂ := S64x128) (t := S128x128) 0 k k' _ (ix2 c d) rfl rfl
      (ix2 ⟨c.1 - 64, by omega⟩ d)
      (fun b => match b with | ⟨0, _⟩ => fun hb => absurd rfl hb | ⟨1, _⟩ => fun _ => rfl)
      (by show c.1 - 64 + 64 = c.1; omega)

theorem pairBias_apply (w w' : BitVec 32) (r : Fin 64) (c : Fin 128) :
    broadcastTo S64x128 (shapeCast S1x128
      (concatenate S128 0 [⟨S64, broadcast S64 (wordBias (F := Ideal) w)⟩,
        ⟨S64, broadcast S64 (wordBias (F := Ideal) w')⟩] concatenates_S64_S64_S128_d0)
      shapeCasts_S128_S1x128) broadcasts_S1x128_S64x128 (ix2 r c)
      = if Live (pairWord w w' c) then 0 else ⊥ := by
  rw [← wordBias_eq]
  refine (broadcastTo_apply _ _ (ix2 r c) (ix2 (0 : Fin 1) c)
    (fun a => match a with | ⟨0, _⟩ => rfl | ⟨1, _⟩ => rfl)).trans ?_
  refine (shapeCast_apply _ _ (ix2 (0 : Fin 1) c) (ix1 c)
    ((Shape.rowMajor_val_one _).trans (by
      rw [Shape.rowMajor_val_two]; show c.1 = 0 * 128 + c.1; omega))).trans ?_
  unfold pairWord
  split_ifs with h
  · exact concatenate_pair_apply_left (s₁ := S64) (s₂ := S64) (t := S128) 0 _ _ _ (ix1 c) rfl (ix1 ⟨c.1, h⟩)
      fun b => match b with | ⟨0, _⟩ => rfl
  · exact concatenate_pair_apply_right (s₁ := S64) (s₂ := S64) (t := S128) 0 _ _ _ (ix1 c) rfl rfl
      (ix1 ⟨c.1 - 64, by omega⟩)
      (fun b => match b with | ⟨0, _⟩ => fun hb => absurd rfl hb)
      (by show c.1 - 64 + 64 = c.1; omega)

/-- The exponentials of a pair. -/
theorem pairExp_apply (q k k' : FVec Ideal S64x128 .bf16) (w w' : BitVec 32) (r : Fin 64) (c : Fin 128) :
    pairExp (F := Ideal) q k k' w w' (ix2 r c)
      = Ideal.exp (if Live (pairWord w w' c) then ∑ d : Fin 128, q (ix2 r d) * pairRow k k' c d else ⊥) := by
  refine congrArg Ideal.exp ?_
  refine (congrArg₂ (· + ·) ((dot_rows _ rfl q _ r c).trans
    (Finset.sum_congr rfl fun d _ => congrArg (q (ix2 r d) * ·) (pairRow_apply k k' c d)))
    (pairBias_apply w w' r c)).trans ?_
  split_ifs
  · exact add_zero _
  · exact EReal.add_bot _

/-- The weighted values of a pair. -/
theorem pairAcc_apply (x : FVec Ideal S64x128 .f32) (v v' : FVec Ideal S64x128 .bf16) (r : Fin 64) (e : Fin 128) :
    pairAcc (F := Ideal) x v v' (ix2 r e) = ∑ c : Fin 128, x (ix2 r c) * pairRow v v' c e := by
  exact (dot_cols _ rfl _ _ r e).trans
    (Finset.sum_congr rfl fun c _ => congrArg (x (ix2 r c) * ·) (pairRow_apply v v' c e))

/-- The row sum of a pair. -/
theorem pairSum_apply (x : FVec Ideal S64x128 .f32) (r : Fin 64) :
    pairSum (F := Ideal) x (ix2 r 0) = ∑ c : Fin 128, x (ix2 r c) :=
  row_sum x _ _ _ _ r

/-- A later block's output is a quotient of sums over the first 64 keys and three pairs of blocks. -/
theorem selectedBlock_apply (q : FVec Ideal S64x128 .bf16) (eg : FVec Ideal S64x64 .bf16)
    (acc : FVec Ideal S64x128 .f32) (k v : Fin 6 → FVec Ideal S64x128 .bf16) (w : Fin 6 → BitVec 32)
    (r : Fin 64) (e : Fin 128) :
    selectedBlock (F := Ideal) q eg acc k v w (ix4 0 0 r e)
      = Ideal.div
          (acc (ix2 r e)
            + ∑ c : Fin 128, pairExp (F := Ideal) q (k 0) (k 1) (w 0) (w 1) (ix2 r c) * pairRow (v 0) (v 1) c e
            + ∑ c : Fin 128, pairExp (F := Ideal) q (k 2) (k 3) (w 2) (w 3) (ix2 r c) * pairRow (v 2) (v 3) c e
            + ∑ c : Fin 128, pairExp (F := Ideal) q (k 4) (k 5) (w 4) (w 5) (ix2 r c) * pairRow (v 4) (v 5) c e)
          (∑ n : Fin 64, eg (ix2 r n)
            + ∑ c : Fin 128, pairExp (F := Ideal) q (k 0) (k 1) (w 0) (w 1) (ix2 r c)
            + ∑ c : Fin 128, pairExp (F := Ideal) q (k 2) (k 3) (w 2) (w 3) (ix2 r c)
            + ∑ c : Fin 128, pairExp (F := Ideal) q (k 4) (k 5) (w 4) (w 5) (ix2 r c)) := by
  unfold selectedBlock
  dsimp only
  rw [block_apply, divf_apply, column_apply]
  refine congrArg₂ Ideal.div ?_ ?_
  · simp only [addf_apply, pairAcc_apply]
  · simp only [addf_apply, pairSum_apply]
    refine congrArg (fun z => z + _ + _ + _) ((row_sum _ _ _ _ _ r).trans ?_)
    rfl

end Cert.Attn
-- ==== Proof.KernelPieces.lean ====
module

public import proofs.«01_k».proof.Proof.KernelBlock

/-! The list of stores the kernel's body makes into its output block: one for every block of 64 rows, each
the same expression in the number of the block. -/

@[expose] public section

noncomputable section

namespace Cert.Attn

open Idealize.ShloMosaic Idealize.ShloMosaic.TcCoe Idealize.ShloMosaic.Tactic
open Cert.KernelIdeal Cert.KernelIdeal.Gen

variable {F : FTy → Type} [FloatOps F] [Named F]

section
variable (arg2 : Memref sig .tc .smem S64x6 .i32) (harg2 : arg2.IsWhole)
  (arg3 : Memref sig .tc .vmem S1x1x4096x128 .f32) (harg3 : arg3.IsWhole)
  (arg4 : Memref sig .tc .vmem S1x1x4096x128 .f32) (harg4 : arg4.IsWhole)
  (arg5 : Memref sig .tc .vmem S1x1x4096x128 .f32) (harg5 : arg5.IsWhole)
  (arg7 arg8 arg9 : Memref sig .tc .vmem S4096x128 .bf16)
  (arg10 : Memref sig .tc .vmem S4096x64 .bf16) (arg11 : Memref sig .tc .vmem S4096x128 .f32)
  (x0 : Vec F S64x6 .i32) (x1 x2 x3 : Vec F S1x1x4096x128 .f32)

/-- The queries in scratch, at a rectangle. -/
def loadedQ (off size : Fin 2 → Nat) (h : ∀ a, off a + size a ≤ S4096x128.size a) :
    (⟨2, size⟩ : Shape).Idx → Elt F .bf16 :=
  loaded arg7 inb_S4096x128_S4096x128_0_0 (keptQueries (whole arg3 harg3 x1)) off size h

/-- The keys or the values in scratch, at a rectangle. -/
def loadedRows (A : Memref sig .tc .vmem S4096x128 .bf16) (B : Memref sig .tc .vmem S1x1x4096x128 .f32)
    (hB : B.IsWhole) (x : Vec F S1x1x4096x128 .f32) (off size : Fin 2 → Nat)
    (h : ∀ a, off a + size a ≤ S4096x128.size a) : (⟨2, size⟩ : Shape).Idx → Elt F .bf16 :=
  loaded A inb_S4096x128_S4096x128_0_0 (keptRows (whole B hB x)) off size h

/-- The exponentials for the first 64 keys. -/
def firstExp : FVec F S4096x64 .bf16 :=
  globalExp (loadedQ arg3 harg3 arg7 x1 ![0, 0] S4096x128.size inb_S4096x128_S4096x128_0_0)
    (loadedRows arg8 arg4 harg4 x2 ![0, 0] S64x128.size inb_S4096x128_S64x128_0_0)

/-- The store into the first block of rows. -/
def firstPiece : View.Piece (Elt F) S1x1x4096x128 .f32 :=
  ⟨Rect.unit ![0, 0, 0, 0] S1x1x64x128.size (out_inb 0 (by omega)),
    globalBlock (loadedQ arg3 harg3 arg7 x1 ![0, 0] S64x128.size inb_S4096x128_S64x128_0_0)
      (loadedRows arg8 arg4 harg4 x2 ![0, 0] S4096x128.size inb_S4096x128_S4096x128_0_0)
      (loadedRows arg9 arg5 harg5 x3 ![0, 0] S4096x128.size inb_S4096x128_S4096x128_0_0)⟩

/-- The store into block `n` of rows, `n ≥ 1`. -/
def laterPiece (n : Nat) (hn : n < 64) : View.Piece (Elt F) S1x1x4096x128 .f32 :=
  ⟨Rect.unit ![0, 0, 64 * n, 0] S1x1x64x128.size (out_inb n hn),
    selectedBlock (loadedQ arg3 harg3 arg7 x1 ![64 * n, 0] S64x128.size (rows_inb n hn rfl))
      (loaded arg10 inb_S4096x64_S4096x64_0_0
        (shapeCast S4096x64 (firstExp arg3 harg3 arg4 harg4 arg7 arg8 x1 x2) shapeCasts_S4096x64_S4096x64)
        ![64 * n, 0] S64x64.size (rows_inb n hn rfl))
      (loaded arg11 inb_S4096x128_S4096x128_0_0
        (globalAcc (firstExp arg3 harg3 arg4 harg4 arg7 arg8 x1 x2)
          (loadedRows arg9 arg5 harg5 x3 ![0, 0] S64x128.size inb_S4096x128_S64x128_0_0))
        ![64 * n, 0] S64x128.size (rows_inb n hn rfl))
      (fun j => loadedRows arg8 arg4 harg4 x2 (wordRow (wordAt arg2 harg2 x0 n j.1 (word_inb n hn j)))
        S64x128.size (wordRow_inb _))
      (fun j => loadedRows arg9 arg5 harg5 x3 (wordRow (wordAt arg2 harg2 x0 n j.1 (word_inb n hn j)))
        S64x128.size (wordRow_inb _))
      (fun j => wordAt arg2 harg2 x0 n j.1 (word_inb n hn j))⟩

/-- The stores up to block `n`, the last one first. -/
def piecesTo : (n : Nat) → n < 64 → List (View.Piece (Elt F) S1x1x4096x128 .f32)
  | 0, _ => [firstPiece arg3 harg3 arg4 harg4 arg5 harg5 arg7 arg8 arg9 x1 x2 x3]
  | n + 1, h =>
    laterPiece arg2 harg2 arg3 harg3 arg4 harg4 arg5 harg5 arg7 arg8 arg9 arg10 arg11 x0 x1 x2 x3 (n + 1) h
      :: piecesTo n (by omega)

end

/-- The body's stores are those of `piecesTo` for all 64 blocks. -/
theorem run_pieces (c : Dev nD) (i : grid0.Coords)
    (arg2 : Memref sig .tc .smem S64x6 .i32) (harg2 : arg2.IsWhole)
    (arg3 : Memref sig .tc .vmem S1x1x4096x128 .f32) (harg3 : arg3.IsWhole)
    (arg4 : Memref sig .tc .vmem S1x1x4096x128 .f32) (harg4 : arg4.IsWhole)
    (arg5 : Memref sig .tc .vmem S1x1x4096x128 .f32) (harg5 : arg5.IsWhole)
    (arg6 : Memref sig .tc .vmem S1x1x4096x128 .f32) (harg6 : arg6.IsWhole)
    (arg7 : Memref sig .tc .vmem S4096x128 .bf16) (harg7 : arg7.IsWhole)
    (arg8 : Memref sig .tc .vmem S4096x128 .bf16) (harg8 : arg8.IsWhole)
    (arg9 : Memref sig .tc .vmem S4096x128 .bf16) (harg9 : arg9.IsWhole)
    (arg10 : Memref sig .tc .vmem S4096x64 .bf16) (harg10 : arg10.IsWhole)
    (arg11 : Memref sig .tc .vmem S4096x128 .f32) (harg11 : arg11.IsWhole)
    (x0 : Vec F S64x6 .i32) (x1 x2 x3 : Vec F S1x1x4096x128 .f32) :
    (kernelRun0_A c i arg2 harg2 arg3 harg3 arg4 harg4 arg5 harg5 arg6 harg6 arg7 harg7 arg8 harg8 arg9
      harg9 arg10 harg10 arg11 harg11 x0 x1 x2 x3).1
      = piecesTo arg2 harg2 arg3 harg3 arg4 harg4 arg5 harg5 arg7 arg8 arg9 arg10 arg11 x0 x1 x2 x3 63
          (by omega) := by
  sl_kernel_rfl

end Cert.Attn
-- ==== Proof.KernelRows.lean ====
module

public import proofs.«01_k».proof.Proof.KernelEval
public import proofs.«01_k».proof.Proof.KernelPieces
public import Idealize.ShloMosaic.Lib.VecWindow
public import Idealize.ShloMosaic.Lib.Pipeline.ValueKit.Tiles

/-! Every store of the kernel's body puts the attention output of its rows into them. -/

@[expose] public section

noncomputable section

namespace Cert.Attn

open Idealize.ShloMosaic Idealize.ShloMosaic.TcCoe Idealize.ShloMosaic.ValueIdx
open Cert.KernelIdeal Cert.KernelIdeal.Gen

/-! ## Three pairs of blocks are the 384 selected rows -/

/-- Row `c` of pair `p` of the selected blocks is selected row `128 p + c`. -/
theorem pairRow_eq (K : Head) (w : Fin 6 → BitVec 32) (k : Fin 6 → FVec Ideal S64x128 .bf16)
    (hk : ∀ (j : Fin 6) (n : Fin 64) (d : Fin 128),
      k j (ix2 n d) = K ⟨64 * (blockOf (w j)).1 + n.1, by have := (blockOf (w j)).2; omega⟩ d)
    (p : Nat) (j j' : Fin 6) (hj : j.1 = 2 * p) (hj' : j'.1 = 2 * p + 1)
    (c : Fin 128) (n : Fin 384) (hn : n.1 = 128 * p + c.1) (d : Fin 128) :
    pairRow (k j) (k j') c d = K (keyRow w n) d := by
  unfold pairRow
  split_ifs with h
  · have e : j = ⟨n.1 / 64, by omega⟩ := Fin.ext (by show j.1 = n.1 / 64; omega)
    rw [hk]
    exact congrArg (K · d) (Fin.ext (by
      show 64 * (blockOf (w j)).1 + c.1 = 64 * (blockOf (w ⟨n.1 / 64, _⟩)).1 + n.1 % 64
      rw [← e]; omega))
  · have e : j' = ⟨n.1 / 64, by omega⟩ := Fin.ext (by show j'.1 = n.1 / 64; omega)
    rw [hk]
    exact congrArg (K · d) (Fin.ext (by
      show 64 * (blockOf (w j')).1 + (c.1 - 64) = 64 * (blockOf (w ⟨n.1 / 64, _⟩)).1 + n.1 % 64
      rw [← e]; omega))

/-- The word that governs it. -/
theorem pairWord_eq (w : Fin 6 → BitVec 32) (p : Nat) (j j' : Fin 6) (hj : j.1 = 2 * p)
    (hj' : j'.1 = 2 * p + 1) (c : Fin 128) (n : Fin 384) (hn : n.1 = 128 * p + c.1) :
    pairWord (w j) (w j') c = w ⟨n.1 / 64, by omega⟩ := by
  unfold pairWord
  split_ifs with h
  · exact congrArg w (Fin.ext (by show j.1 = n.1 / 64; omega))
  · exact congrArg w (Fin.ext (by show j'.1 = n.1 / 64; omega))

/-- The exponential at row `c` of pair `p` is that of the score at selected row `128 p + c`. -/
theorem pairExp_eq (Q K : Head) (w : Fin 6 → BitVec 32) (q : FVec Ideal S64x128 .bf16)
    (k : Fin 6 → FVec Ideal S64x128 .bf16) (r : Fin 64) (R : Fin 4096)
    (hq : ∀ d : Fin 128, q (ix2 r d) = Q R d * (((Real.sqrt 128)⁻¹ : ℝ) : EReal))
    (hk : ∀ (j : Fin 6) (n : Fin 64) (d : Fin 128),
      k j (ix2 n d) = K ⟨64 * (blockOf (w j)).1 + n.1, by have := (blockOf (w j)).2; omega⟩ d)
    (p : Nat) (j j' : Fin 6) (hj : j.1 = 2 * p) (hj' : j'.1 = 2 * p + 1)
    (c : Fin 128) (n : Fin 384) (hn : n.1 = 128 * p + c.1) :
    pairExp (F := Ideal) q (k j) (k j') (w j) (w j') (ix2 r c) = Ideal.exp (selScore Q K w R n) := by
  rw [pairExp_apply, pairWord_eq w p j j' hj hj' c n hn]
  unfold selScore score
  simp only [hq, pairRow_eq K w k hk p j j' hj hj' c n hn]

/-! ## The block of rows `n ≥ 1` -/

/-- A later block's output is the softmax average over the 448 positions of its row. -/
theorem selectedBlock_eq (Q K V : Head) (w : Fin 6 → BitVec 32) (q : FVec Ideal S64x128 .bf16)
    (eg : FVec Ideal S64x64 .bf16) (acc : FVec Ideal S64x128 .f32)
    (k v : Fin 6 → FVec Ideal S64x128 .bf16) (r : Fin 64) (R : Fin 4096) (e : Fin 128)
    (hq : ∀ d : Fin 128, q (ix2 r d) = Q R d * (((Real.sqrt 128)⁻¹ : ℝ) : EReal))
    (hk : ∀ (j : Fin 6) (n : Fin 64) (d : Fin 128),
      k j (ix2 n d) = K ⟨64 * (blockOf (w j)).1 + n.1, by have := (blockOf (w j)).2; omega⟩ d)
    (hv : ∀ (j : Fin 6) (n : Fin 64) (d : Fin 128),
      v j (ix2 n d) = V ⟨64 * (blockOf (w j)).1 + n.1, by have := (blockOf (w j)).2; omega⟩ d)
    (heg : ∀ n : Fin 64, eg (ix2 r n) = Ideal.exp (score Q K R ⟨n.1, by omega⟩))
    (hacc : acc (ix2 r e) = ∑ n : Fin 64, Ideal.exp (score Q K R ⟨n.1, by omega⟩) * V ⟨n.1, by omega⟩ e) :
    selectedBlock (F := Ideal) q eg acc k v w (ix4 0 0 r e)
      = average (rowScore Q K w R) (rowValue V w e) := by
  rw [selectedBlock_apply, hacc]
  unfold average
  rw [sum_448, sum_448]
  simp only [rowScore_left, rowScore_right, rowValue_left, rowValue_right]
  rw [sum_384, sum_384, ← add_assoc, ← add_assoc, ← add_assoc, ← add_assoc]
  simp only [heg]
  have E (p : Nat) (j j' : Fin 6) (hj : j.1 = 2 * p) (hj' : j'.1 = 2 * p + 1) (c : Fin 128) (n : Fin 384)
      (hn : n.1 = 128 * p + c.1) := pairExp_eq Q K w q k r R hq hk p j j' hj hj' c n hn
  have W (p : Nat) (j j' : Fin 6) (hj : j.1 = 2 * p) (hj' : j'.1 = 2 * p + 1) (c : Fin 128) (n : Fin 384)
      (hn : n.1 = 128 * p + c.1) := pairRow_eq V w v hv p j j' hj hj' c n hn e
  congr 1
  · refine congrArg₂ (· + ·) (congrArg₂ (· + ·) (congrArg₂ (· + ·) rfl ?_) ?_) ?_ <;>
      refine Finset.sum_congr rfl fun c _ => congrArg₂ (· * ·) ?_ ?_
    · exact E 0 0 1 rfl rfl c ⟨c.1, by omega⟩ (by simp)
    · exact W 0 0 1 rfl rfl c ⟨c.1, by omega⟩ (by simp)
    · exact E 1 2 3 rfl rfl c ⟨128 + c.1, by omega⟩ rfl
    · exact W 1 2 3 rfl rfl c ⟨128 + c.1, by omega⟩ rfl
    · exact E 2 4 5 rfl rfl c ⟨256 + c.1, by omega⟩ rfl
    · exact W 2 4 5 rfl rfl c ⟨256 + c.1, by omega⟩ rfl
  · refine congrArg₂ (· + ·) (congrArg₂ (· + ·) (congrArg₂ (· + ·) rfl ?_) ?_) ?_ <;>
      refine Finset.sum_congr rfl fun c _ => ?_
    · exact E 0 0 1 rfl rfl c ⟨c.1, by omega⟩ (by simp)
    · exact E 1 2 3 rfl rfl c ⟨128 + c.1, by omega⟩ rfl
    · exact E 2 4 5 rfl rfl c ⟨256 + c.1, by omega⟩ rfl

/-- The attention output at a row of block `n ≥ 1`, with the block's words given by `w`. -/
theorem attn_of_later (Q K V : Head) (bi : Fin 64 → Fin 6 → BitVec 32) (n : Fin 64) (h0 : 0 < n.1)
    (r : Fin 64) (e : Fin 128) (w : Fin 6 → BitVec 32) (hw : ∀ j, w j = bi n j) (R : Fin 4096)
    (hR : R.1 = 64 * n.1 + r.1) :
    attn Q K V bi R e = average (rowScore Q K w R) (rowValue V w e) := by
  have hrow : (⟨R.1 / 64, by omega⟩ : Fin 64) = n := Fin.ext (by show R.1 / 64 = n.1; omega)
  obtain rfl : w = bi n := funext hw
  unfold attn
  rw [if_neg (by omega), hrow]

/-! ## What the loads read -/

/-- A rectangle of a buffer stored whole reads what was stored. -/
theorem loaded_apply {s : Shape} {e : EltTy} (A : Memref sig .tc .vmem s e) {o : Fin s.rank → Nat}
    (ho : ∀ a, o a + s.size a ≤ s.size a) (P : Vec Ideal s e) (off size : Fin s.rank → Nat)
    (h : ∀ a, off a + size a ≤ s.size a) (i : (⟨s.rank, size⟩ : Shape).Idx) (k : s.Idx)
    (hk : ∀ a, (k a).val = off a + (i a).val) : loaded (F := Ideal) A ho P off size h i = P k := by
  unfold loaded
  rw [View.readAt_eq_ld, View.read_writes_full]
  exact View.ld_unit_apply_of P off size h i k hk

/-- An input block read whole is the block. -/
theorem whole_eq (A : Memref sig .tc .vmem S1x1x4096x128 .f32) (hA : A.IsWhole)
    (x : Vec Ideal S1x1x4096x128 .f32) : whole (F := Ideal) A hA x = x := by
  unfold whole
  rw [View.readAt_eq_ld, hA.read_unread]
  exact View.ld_unit_zero (funext fun a => match a with
    | ⟨0, _⟩ => rfl | ⟨1, _⟩ => rfl | ⟨2, _⟩ => rfl | ⟨3, _⟩ => rfl) _ x

/-- An index word read is the table's. -/
theorem wordAt_eq (A : Memref sig .tc .smem S64x6 .i32) (hA : A.IsWhole) (x : Vec Ideal S64x6 .i32)
    (n : Nat) (hn : n < 64) (j : Fin 6) (h : ∀ a, (![n, j.1] : Fin 2 → Nat) a + S1x1.size a ≤ S64x6.size a) :
    wordAt (F := Ideal) A hA x n j.1 h = x (ix2 ⟨n, hn⟩ j) := by
  unfold wordAt
  rw [View.readAt_eq_ld, hA.read_unread]
  exact View.ld_unit_apply_of x _ _ h _ (ix2 ⟨n, hn⟩ j) fun a => match a with | ⟨0, _⟩ => rfl | ⟨1, _⟩ => rfl

/-- One head of a `[1, 1, 4096, 128]` block. -/
def blockHead (x : S1x1x4096x128.Idx → EReal) : Head := fun r d => x (ix4 0 0 r d)

section
variable (arg2 : Memref sig .tc .smem S64x6 .i32) (harg2 : arg2.IsWhole)
  (arg3 : Memref sig .tc .vmem S1x1x4096x128 .f32) (harg3 : arg3.IsWhole)
  (arg4 : Memref sig .tc .vmem S1x1x4096x128 .f32) (harg4 : arg4.IsWhole)
  (arg5 : Memref sig .tc .vmem S1x1x4096x128 .f32) (harg5 : arg5.IsWhole)
  (arg7 arg8 arg9 : Memref sig .tc .vmem S4096x128 .bf16)
  (arg10 : Memref sig .tc .vmem S4096x64 .bf16) (arg11 : Memref sig .tc .vmem S4096x128 .f32)
  (x0 : Vec Ideal S64x6 .i32) (x1 x2 x3 : Vec Ideal S1x1x4096x128 .f32)

theorem loadedQ_apply (m o : Nat) (h : ∀ a, (![o, 0] : Fin 2 → Nat) a + (![m, 128] : Fin 2 → Nat) a ≤ S4096x128.size a)
    (r : Fin m) (d : Fin 128) (R : Fin 4096) (hR : R.1 = o + r.1) :
    loadedQ (F := Ideal) arg3 harg3 arg7 x1 ![o, 0] ![m, 128] h (ix2 r d)
      = blockHead x1 R d * (((Real.sqrt 128)⁻¹ : ℝ) : EReal) := by
  unfold loadedQ
  rw [whole_eq]
  refine (loaded_apply arg7 _ _ _ _ h _ (ix2 R d) fun a => ?_).trans (keptQueries_apply x1 R d)
  match a with
  | ⟨0, _⟩ => exact hR
  | ⟨1, _⟩ => exact (Nat.zero_add d.1).symm

theorem loadedRows_apply (A : Memref sig .tc .vmem S4096x128 .bf16) (B : Memref sig .tc .vmem S1x1x4096x128 .f32)
    (hB : B.IsWhole) (x : Vec Ideal S1x1x4096x128 .f32) (m o : Nat) (off : Fin 2 → Nat) (ho : off = ![o, 0])
    (h : ∀ a, off a + (![m, 128] : Fin 2 → Nat) a ≤ S4096x128.size a)
    (r : Fin m) (d : Fin 128) (R : Fin 4096) (hR : R.1 = o + r.1) :
    loadedRows (F := Ideal) A B hB x off ![m, 128] h (ix2 r d) = blockHead x R d := by
  subst ho
  unfold loadedRows
  rw [whole_eq]
  refine (loaded_apply A _ _ _ _ h _ (ix2 R d) fun a => ?_).trans (keptRows_apply x R d)
  match a with
  | ⟨0, _⟩ => exact hR
  | ⟨1, _⟩ => exact (Nat.zero_add d.1).symm

theorem firstExp_apply (R : Fin 4096) (n : Fin 64) :
    firstExp (F := Ideal) arg3 harg3 arg4 harg4 arg7 arg8 x1 x2 (ix2 R n)
      = Ideal.exp (score (blockHead x1) (blockHead x2) R ⟨n.1, by omega⟩) := by
  unfold firstExp score
  rw [globalExp_apply]
  refine congrArg Ideal.exp (Finset.sum_congr rfl fun d _ => congrArg₂ (· * ·) ?_ ?_)
  · exact loadedQ_apply arg3 harg3 arg7 x1 4096 0 _ R d R (Nat.zero_add _).symm
  · exact loadedRows_apply arg8 arg4 harg4 x2 64 0 _ rfl _ n d _ (Nat.zero_add _).symm

/-- The block a word selects, at an entry. -/
theorem loadedRows_word (A : Memref sig .tc .vmem S4096x128 .bf16) (B : Memref sig .tc .vmem S1x1x4096x128 .f32)
    (hB : B.IsWhole) (x : Vec Ideal S1x1x4096x128 .f32) (w : BitVec 32) (n : Fin 64) (d : Fin 128) :
    loadedRows (F := Ideal) A B hB x (wordRow w) S64x128.size (wordRow_inb w) (ix2 n d)
      = blockHead x ⟨64 * (blockOf w).1 + n.1, by have := (blockOf w).2; omega⟩ d :=
  loadedRows_apply A B hB x 64 _ _ (wordRow_eq w) _ n d _ (by
    show 64 * min w.toInt.toNat 63 + n.1 = 64 * (min 63 (max 0 w.toInt)).toNat + n.1
    omega)

/-- What the output block holds: the attention output of the head. -/
def blockOut : S1x1x4096x128.Idx → EReal := fun i =>
  attn (blockHead x1) (blockHead x2) (blockHead x3) (fun a j => x0 (ix2 a j)) (i 2) (i 3)

theorem firstPiece_apply (x : S1x1x64x128.Idx) :
    (firstPiece (F := Ideal) arg3 harg3 arg4 harg4 arg5 harg5 arg7 arg8 arg9 x1 x2 x3).2 x
      = blockOut x0 x1 x2 x3
        ((firstPiece (F := Ideal) arg3 harg3 arg4 harg4 arg5 harg5 arg7 arg8 arg9 x1 x2 x3).1.emb x) := by
  obtain ⟨r, e, rfl⟩ : ∃ (r : Fin 64) (e : Fin 128), x = ix4 0 0 r e := ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  have hr : ((firstPiece (F := Ideal) arg3 harg3 arg4 harg4 arg5 harg5 arg7 arg8 arg9 x1 x2 x3).1.emb
      (ix4 0 0 r e)) 2 = (⟨r.1, by omega⟩ : Fin 4096) := Fin.ext (by
    show 0 + 1 * r.1 = r.1; omega)
  have he : ((firstPiece (F := Ideal) arg3 harg3 arg4 harg4 arg5 harg5 arg7 arg8 arg9 x1 x2 x3).1.emb
      (ix4 0 0 r e)) 3 = e := Fin.ext (by show 0 + 1 * e.1 = e.1; omega)
  unfold blockOut
  rw [hr, he]
  unfold attn
  rw [if_pos r.2]
  refine (globalBlock_apply _ _ _ r e).trans ?_
  congr 1
  · funext n
    refine Finset.sum_congr rfl fun d _ => congrArg₂ (· * ·) ?_ ?_
    · exact loadedQ_apply arg3 harg3 arg7 x1 64 0 _ r d _ (Nat.zero_add _).symm
    · exact loadedRows_apply arg8 arg4 harg4 x2 4096 0 _ rfl _ n d n (Nat.zero_add _).symm
  · funext n
    exact loadedRows_apply arg9 arg5 harg5 x3 4096 0 _ rfl _ n e n (Nat.zero_add _).symm

/-- The row sums kept from block 0, at an entry. -/
theorem loadedExp_apply (n : Nat) (hn : n < 64) (r m : Fin 64) (R : Fin 4096) (hR : R.1 = 64 * n + r.1) :
    loaded (F := Ideal) arg10 inb_S4096x64_S4096x64_0_0
        (shapeCast S4096x64 (firstExp arg3 harg3 arg4 harg4 arg7 arg8 x1 x2) shapeCasts_S4096x64_S4096x64)
        ![64 * n, 0] S64x64.size (rows_inb n hn rfl) (ix2 r m)
      = Ideal.exp (score (blockHead x1) (blockHead x2) R ⟨m.1, by omega⟩) := by
  refine (loaded_apply arg10 _ _ _ _ _ _ (ix2 R m) fun a => ?_).trans ?_
  · match a with
    | ⟨0, _⟩ => exact hR
    | ⟨1, _⟩ => exact (Nat.zero_add m.1).symm
  · rw [shapeCast_self]
    exact firstExp_apply arg3 harg3 arg4 harg4 arg7 arg8 x1 x2 _ m

/-- The weighted sums kept from block 0, at an entry. -/
theorem loadedAcc_apply (n : Nat) (hn : n < 64) (r : Fin 64) (e : Fin 128) (R : Fin 4096)
    (hR : R.1 = 64 * n + r.1) :
    loaded (F := Ideal) arg11 inb_S4096x128_S4096x128_0_0
        (globalAcc (firstExp arg3 harg3 arg4 harg4 arg7 arg8 x1 x2)
          (loadedRows arg9 arg5 harg5 x3 ![0, 0] S64x128.size inb_S4096x128_S64x128_0_0))
        ![64 * n, 0] S64x128.size (rows_inb n hn rfl) (ix2 r e)
      = ∑ m : Fin 64, Ideal.exp (score (blockHead x1) (blockHead x2) R ⟨m.1, by omega⟩)
          * blockHead x3 ⟨m.1, by omega⟩ e := by
  refine (loaded_apply arg11 _ _ _ _ _ _ (ix2 R e) fun a => ?_).trans
    ((globalAcc_apply _ _ _ e).trans (Finset.sum_congr rfl fun m _ => congrArg₂ (· * ·)
      (firstExp_apply arg3 harg3 arg4 harg4 arg7 arg8 x1 x2 _ m)
      (loadedRows_apply arg9 arg5 harg5 x3 64 0 _ rfl _ m e _ (Nat.zero_add _).symm)))
  match a with
  | ⟨0, _⟩ => exact hR
  | ⟨1, _⟩ => exact (Nat.zero_add e.1).symm

/-- The payload of a later store, at an entry. -/
theorem laterPiece_value (n : Nat) (hn : n < 64) (r : Fin 64) (e : Fin 128) (R : Fin 4096)
    (hR : R.1 = 64 * n + r.1) :
    (laterPiece (F := Ideal) arg2 harg2 arg3 harg3 arg4 harg4 arg5 harg5 arg7 arg8 arg9 arg10 arg11 x0 x1
      x2 x3 n hn).2 (ix4 0 0 r e)
      = average
          (rowScore (blockHead x1) (blockHead x2)
            (fun j => wordAt (F := Ideal) arg2 harg2 x0 n j.1 (word_inb n hn j)) R)
          (rowValue (blockHead x3)
            (fun j => wordAt (F := Ideal) arg2 harg2 x0 n j.1 (word_inb n hn j)) e) := by
  have hq : ∀ d : Fin 128,
      loadedQ (F := Ideal) arg3 harg3 arg7 x1 ![64 * n, 0] S64x128.size (rows_inb n hn rfl) (ix2 r d)
        = blockHead x1 R d * (((Real.sqrt 128)⁻¹ : ℝ) : EReal) :=
    fun d => loadedQ_apply arg3 harg3 arg7 x1 64 (64 * n) _ r d R hR
  have hk := fun (j : Fin 6) m d => loadedRows_word arg8 arg4 harg4 x2
    (wordAt (F := Ideal) arg2 harg2 x0 n j.1 (word_inb n hn j)) m d
  have hv := fun (j : Fin 6) m d => loadedRows_word arg9 arg5 harg5 x3
    (wordAt (F := Ideal) arg2 harg2 x0 n j.1 (word_inb n hn j)) m d
  have h := selectedBlock_eq (blockHead x1) (blockHead x2) (blockHead x3)
    (fun j => wordAt (F := Ideal) arg2 harg2 x0 n j.1 (word_inb n hn j)) _ _ _ _ _ r R e hq hk hv
    (fun m => loadedExp_apply arg3 harg3 arg4 harg4 arg7 arg8 arg10 x1 x2 n hn r m R hR)
    (loadedAcc_apply arg3 harg3 arg4 harg4 arg5 harg5 arg7 arg8 arg9 arg11 x1 x2 x3 n hn r e R hR)
  exact h

theorem laterPiece_apply (n : Nat) (hn : n < 64) (h0 : 0 < n) (x : S1x1x64x128.Idx) :
    (laterPiece (F := Ideal) arg2 harg2 arg3 harg3 arg4 harg4 arg5 harg5 arg7 arg8 arg9 arg10 arg11 x0 x1
      x2 x3 n hn).2 x
      = blockOut x0 x1 x2 x3 ((laterPiece (F := Ideal) arg2 harg2 arg3 harg3 arg4 harg4 arg5 harg5 arg7 arg8 arg9 arg10 arg11 x0 x1
      x2 x3 n hn).1.emb x) := by
  obtain ⟨r, e, rfl⟩ : ∃ (r : Fin 64) (e : Fin 128), x = ix4 0 0 r e := ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  have hR : 64 * n + r.1 < 4096 := by omega
  refine (laterPiece_value arg2 harg2 arg3 harg3 arg4 harg4 arg5 harg5 arg7 arg8 arg9 arg10 arg11 x0 x1 x2 x3 n hn
    r e ⟨64 * n + r.1, hR⟩ rfl).trans ?_
  refine (attn_of_later (blockHead x1) (blockHead x2) (blockHead x3) (fun a j => x0 (ix2 a j)) ⟨n, hn⟩ h0 r e
    _ (fun j => wordAt_eq arg2 harg2 x0 n hn j _) ⟨64 * n + r.1, hR⟩ rfl).symm.trans ?_
  refine congrArg₂ (attn (blockHead x1) (blockHead x2) (blockHead x3) fun a j => x0 (ix2 a j)) ?_ ?_
  · exact Fin.ext (by show 64 * n + r.1 = 64 * n + 1 * r.1; omega)
  · exact Fin.ext (by show e.1 = 0 + 1 * e.1; omega)

/-- Every store puts the attention output of its rows into them. -/
theorem pieces_apply (n : Nat) (hn : n < 64) :
    ∀ p ∈ piecesTo (F := Ideal) arg2 harg2 arg3 harg3 arg4 harg4 arg5 harg5 arg7 arg8 arg9 arg10 arg11 x0 x1 x2
      x3 n hn, ∀ x, p.2 x = blockOut x0 x1 x2 x3 (p.1.emb x) := by
  induction n with
  | zero =>
    intro p hp
    rw [piecesTo, List.mem_singleton] at hp
    subst hp
    exact firstPiece_apply arg3 harg3 arg4 harg4 arg5 harg5 arg7 arg8 arg9 x0 x1 x2 x3
  | succ n ih =>
    intro p hp
    rw [piecesTo, List.mem_cons] at hp
    rcases hp with rfl | hp
    · exact laterPiece_apply arg2 harg2 arg3 harg3 arg4 harg4 arg5 harg5 arg7 arg8 arg9 arg10 arg11 x0 x1 x2 x3
        (n + 1) hn (by omega)
    · exact ih (by omega) p hp

end

end Cert.Attn
-- ==== Proof.KernelArray.lean ====
module

public import proofs.«01_k».proof.Proof.KernelRows
public import proofs.«01_k».proof.Proof.Gen.KernelIdeal.Value

/-! What the kernel's result array holds after the run: the attention output of every head. -/

@[expose] public section

noncomputable section

namespace Cert.Attn

open Idealize.ShloMosaic Idealize.ShloMosaic.TcCoe Idealize.ShloMosaic.ValueIdx
open Cert.KernelIdeal Cert.KernelIdeal.Gen

/-- The stores cover the output block, and each holds its rows' output, so the block is the head's output. -/
theorem block_eq (c : Dev nD) (i : grid0.Coords) (arg2 : Memref sig .tc .smem S64x6 .i32) (harg2 : arg2.IsWhole)
    (arg3 : Memref sig .tc .vmem S1x1x4096x128 .f32) (harg3 : arg3.IsWhole)
    (arg4 : Memref sig .tc .vmem S1x1x4096x128 .f32) (harg4 : arg4.IsWhole)
    (arg5 : Memref sig .tc .vmem S1x1x4096x128 .f32) (harg5 : arg5.IsWhole)
    (arg6 : Memref sig .tc .vmem S1x1x4096x128 .f32) (harg6 : arg6.IsWhole)
    (arg7 : Memref sig .tc .vmem S4096x128 .bf16) (harg7 : arg7.IsWhole)
    (arg8 : Memref sig .tc .vmem S4096x128 .bf16) (harg8 : arg8.IsWhole)
    (arg9 : Memref sig .tc .vmem S4096x128 .bf16) (harg9 : arg9.IsWhole)
    (arg10 : Memref sig .tc .vmem S4096x64 .bf16) (harg10 : arg10.IsWhole)
    (arg11 : Memref sig .tc .vmem S4096x128 .f32) (harg11 : arg11.IsWhole)
    (x0 : Vec Ideal S64x6 .i32) (x1 x2 x3 : Vec Ideal S1x1x4096x128 .f32) (y : S1x1x4096x128.Idx) :
    out0_A_4 (F := Ideal) c i arg2 harg2 arg3 harg3 arg4 harg4 arg5 harg5 arg6 harg6 arg7 harg7 arg8 harg8 arg9
        harg9 arg10 harg10 arg11 harg11 x0 x1 x2 x3 y
      = blockOut x0 x1 x2 x3 y := by
  have hcov := cover0_A_4 (F := Ideal) c i arg2 harg2 arg3 harg3 arg4 harg4 arg5 harg5 arg6 harg6 arg7 harg7 arg8
    harg8 arg9 harg9 arg10 harg10 arg11 harg11 x0 x1 x2 x3
  unfold out0_A_4
  rw [View.read_writes_eq_canon _ _ _ hcov]
  refine View.canon_apply_of_pieces (blockOut x0 x1 x2 x3) _ ?_ y (hcov y)
  rw [run_pieces]
  exact pieces_apply arg2 harg2 arg3 harg3 arg4 harg4 arg5 harg5 arg7 arg8 arg9 arg10 arg11 x0 x1 x2 x3 63 _

/-- Every window takes head `t` at grid point `t`; the table's window is the whole table. -/
theorem index_facts : ∀ t : Fin cfg0.N,
    (win0_0.index t (0 : Fin 2) = 0 ∧ win0_0.index t (1 : Fin 2) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = t.val ∧ win0_2.index t (2 : Fin 4) = 0 ∧ win0_2.index t (3 : Fin 4) = 0)
    ∧ (win0_3.index t (0 : Fin 4) = 0 ∧ win0_3.index t (1 : Fin 4) = t.val ∧ win0_3.index t (2 : Fin 4) = 0 ∧ win0_3.index t (3 : Fin 4) = 0)
    ∧ (win0_4.index t (0 : Fin 4) = 0 ∧ win0_4.index t (1 : Fin 4) = t.val ∧ win0_4.index t (2 : Fin 4) = 0 ∧ win0_4.index t (3 : Fin 4) = 0) :=
  (by decide +kernel : ∀ t : Fin grid0.N, _)

section
variable (m : (ℓ : Loc nD τ sig) → Buf (Elt Ideal) ℓ) (c : Dev nD) (h : Fin 16)

/-- The grid point of head `h`. -/
abbrev point : Fin cfg0.N := ⟨h.1, by rw [show cfg0.N = 16 from N_0]; exact h.2⟩

theorem iblk0_apply (y : S64x6.Idx) : iblk m c 0 (point h) y = m ((c : Thread nD τ).loc main_arg3) y := by
  obtain ⟨⟨e0, e1⟩, -⟩ := index_facts (point h)
  show V m c main_arg3 (((cfg0.win 0).blk (point h)).view.emb y) = _
  refine congrArg (m ((c : Thread nD τ).loc main_arg3)) (funext fun a => Fin.ext ?_)
  match a with
  | ⟨0, _⟩ => show win0_0.index (point h) (0 : Fin 2) * 64 + 1 * (y 0).val = (y 0).val; omega
  | ⟨1, _⟩ => show win0_0.index (point h) (1 : Fin 2) * 6 + 1 * (y 1).val = (y 1).val; omega

theorem iblk1_apply (r : Fin 4096) (d : Fin 128) :
    iblk m c 1 (point h) (ix4 0 0 r d : S1x1x4096x128.Idx) = m ((c : Thread nD τ).loc main_arg0) (ix4 0 h r d) := by
  obtain ⟨-, ⟨e0, e1, e2, e3⟩, -⟩ := index_facts (point h)
  show V m c main_arg0 (((cfg0.win 1).blk (point h)).view.emb (ix4 0 0 r d : S1x1x4096x128.Idx)) = _
  refine congrArg (m ((c : Thread nD τ).loc main_arg0)) (funext fun a => Fin.ext ?_)
  match a with
  | ⟨0, _⟩ => show win0_1.index (point h) (0 : Fin 4) * 1 + 1 * 0 = 0; omega
  | ⟨1, _⟩ => show win0_1.index (point h) (1 : Fin 4) * 1 + 1 * 0 = h.1; rw [e1]; show h.1 * 1 + 1 * 0 = h.1; omega
  | ⟨2, _⟩ => show win0_1.index (point h) (2 : Fin 4) * 4096 + 1 * r.1 = r.1; omega
  | ⟨3, _⟩ => show win0_1.index (point h) (3 : Fin 4) * 128 + 1 * d.1 = d.1; omega

theorem iblk2_apply (r : Fin 4096) (d : Fin 128) :
    iblk m c 2 (point h) (ix4 0 0 r d : S1x1x4096x128.Idx) = m ((c : Thread nD τ).loc main_arg1) (ix4 0 h r d) := by
  obtain ⟨-, -, ⟨e0, e1, e2, e3⟩, -⟩ := index_facts (point h)
  show V m c main_arg1 (((cfg0.win 2).blk (point h)).view.emb (ix4 0 0 r d : S1x1x4096x128.Idx)) = _
  refine congrArg (m ((c : Thread nD τ).loc main_arg1)) (funext fun a => Fin.ext ?_)
  match a with
  | ⟨0, _⟩ => show win0_2.index (point h) (0 : Fin 4) * 1 + 1 * 0 = 0; omega
  | ⟨1, _⟩ => show win0_2.index (point h) (1 : Fin 4) * 1 + 1 * 0 = h.1; rw [e1]; show h.1 * 1 + 1 * 0 = h.1; omega
  | ⟨2, _⟩ => show win0_2.index (point h) (2 : Fin 4) * 4096 + 1 * r.1 = r.1; omega
  | ⟨3, _⟩ => show win0_2.index (point h) (3 : Fin 4) * 128 + 1 * d.1 = d.1; omega

theorem iblk3_apply (r : Fin 4096) (d : Fin 128) :
    iblk m c 3 (point h) (ix4 0 0 r d : S1x1x4096x128.Idx) = m ((c : Thread nD τ).loc main_arg2) (ix4 0 h r d) := by
  obtain ⟨-, -, -, ⟨e0, e1, e2, e3⟩, -⟩ := index_facts (point h)
  show V m c main_arg2 (((cfg0.win 3).blk (point h)).view.emb (ix4 0 0 r d : S1x1x4096x128.Idx)) = _
  refine congrArg (m ((c : Thread nD τ).loc main_arg2)) (funext fun a => Fin.ext ?_)
  match a with
  | ⟨0, _⟩ => show win0_3.index (point h) (0 : Fin 4) * 1 + 1 * 0 = 0; omega
  | ⟨1, _⟩ => show win0_3.index (point h) (1 : Fin 4) * 1 + 1 * 0 = h.1; rw [e1]; show h.1 * 1 + 1 * 0 = h.1; omega
  | ⟨2, _⟩ => show win0_3.index (point h) (2 : Fin 4) * 4096 + 1 * r.1 = r.1; omega
  | ⟨3, _⟩ => show win0_3.index (point h) (3 : Fin 4) * 128 + 1 * d.1 = d.1; omega

theorem emb_out (r : Fin 4096) (e : Fin 128) :
    ((cfg0.win 4).blk (point h)).view.emb (ix4 0 0 r e : S1x1x4096x128.Idx) = (ix4 0 h r e : S1x16x4096x128.Idx) := by
  obtain ⟨-, -, -, -, ⟨e0, e1, e2, e3⟩⟩ := index_facts (point h)
  funext a
  apply Fin.ext
  match a with
  | ⟨0, _⟩ => show win0_4.index (point h) (0 : Fin 4) * 1 + 1 * 0 = 0; omega
  | ⟨1, _⟩ => show win0_4.index (point h) (1 : Fin 4) * 1 + 1 * 0 = h.1; rw [e1]; show h.1 * 1 + 1 * 0 = h.1; omega
  | ⟨2, _⟩ => show win0_4.index (point h) (2 : Fin 4) * 4096 + 1 * r.1 = r.1; omega
  | ⟨3, _⟩ => show win0_4.index (point h) (3 : Fin 4) * 128 + 1 * e.1 = e.1; omega

/-- The kernel's result array, at head `h`, row `r` and feature `e`. -/
theorem kernel_array (r : Fin 4096) (e : Fin 128) :
    (dats m 0 c).arrAt 4 cfg0.N (ix4 0 h r e : S1x16x4096x128.Idx)
      = attn (headOf (m ((c : Thread nD τ).loc main_arg0)) h) (headOf (m ((c : Thread nD τ).loc main_arg1)) h)
          (headOf (m ((c : Thread nD τ).loc main_arg2)) h)
          (fun a j => m ((c : Thread nD τ).loc main_arg3) (ix2 a j)) r e := by
  have b := congrFun (Cert.KernelIdeal.Value.blocks4 m c (point h) (flush0_4 _)) (ix4 0 0 r e : S1x1x4096x128.Idx)
  rw [Cert.KernelIdeal.Value.flushed4_A] at b
  have b' : (dats m 0 c).arrAt 4 cfg0.N (((cfg0.win 4).blk (point h)).view.emb (ix4 0 0 r e : S1x1x4096x128.Idx)) = _ := b
  rw [emb_out] at b'
  refine b'.trans ((block_eq c _ _ _ _ _ _ _ _ _ _ _ _ _ _ _ _ _ _ _ _ _ (iblk m c 0 (point h)) (iblk m c 1 (point h))
    (iblk m c 2 (point h)) (iblk m c 3 (point h)) (ix4 0 0 r e)).trans ?_)
  have h1 : blockHead (iblk m c 1 (point h)) = headOf (m ((c : Thread nD τ).loc main_arg0)) h :=
    funext fun r => funext fun d => iblk1_apply m c h r d
  have h2 : blockHead (iblk m c 2 (point h)) = headOf (m ((c : Thread nD τ).loc main_arg1)) h :=
    funext fun r => funext fun d => iblk2_apply m c h r d
  have h3 : blockHead (iblk m c 3 (point h)) = headOf (m ((c : Thread nD τ).loc main_arg2)) h :=
    funext fun r => funext fun d => iblk3_apply m c h r d
  have h0 : (fun (a : Fin 64) (j : Fin 6) => iblk m c 0 (point h) (ix2 a j : S64x6.Idx))
      = fun a j => m ((c : Thread nD τ).loc main_arg3) (ix2 a j) :=
    funext fun a => funext fun j => iblk0_apply m c h (ix2 a j)
  show attn (blockHead (iblk m c 1 (point h))) (blockHead (iblk m c 2 (point h))) (blockHead (iblk m c 3 (point h)))
    (fun (a : Fin 64) (j : Fin 6) => iblk m c 0 (point h) (ix2 a j : S64x6.Idx)) r e = _
  rw [h1, h2, h3, h0]

end

end Cert.Attn
-- ==== Proof.RefGlobal.lean ====
module

public import proofs.«01_k».proof.Proof.Spec
public import proofs.«01_k».proof.Proof.Gen.ReferenceIdeal.Read

/-! The reference's global rows: rows 0 … 63 of each head are the attention output of the head. -/

@[expose] public section

noncomputable section

namespace Cert.Attn

open Idealize.ShloMosaic Idealize.ShloMosaic.ValueIdx
open Cert.ReferenceIdeal Cert.ReferenceIdeal.Gen Cert.ReferenceIdeal.Read

/-- The word `0x43000000` is 128. -/
theorem ofBits_128 : Ideal.ofBits .f32 0x43000000#32 = ((128 : ℝ) : EReal) := by
  simp [Ideal.ofBits, Ideal.ieee]; rw [← EReal.coe_mul]; norm_num

/-- The word `0xFF800000` is −∞. -/
theorem ofBits_neg_inf : Ideal.ofBits .f32 0xFF800000#32 = ⊥ := by
  simp [Ideal.ofBits, Ideal.ieee]

/-- A maximum along the last axis taken by the host from −∞ is the fold of `max` over that axis. -/
theorem host_max {s t u : Shape} {a : Fin s.rank} (x : s.Idx → EReal) (init : u.Idx → EReal)
    (h' : s.ReducesTo [a] t) (h : s.Reduces [a] t) (hu : 0 < u.numel) (j : t.Idx)
    (hi : init (Shape.Idx.first hu) = ⊥) (f : Fin (s.size a) → EReal) (hf : ∀ n, x (h.lift j n) = f n) :
    Host.reduce (FloatOps.maximumf (F := Ideal) (φ := .f32)) x init h' hu j
      = (Finset.univ : Finset (Fin (s.size a))).fold max ⊥ f := by
  rw [Host.reduce_eq_fold_single _ x init h' h hu j, hi]
  exact congrArg (fun g => Finset.fold max ⊥ g Finset.univ) (funext hf)

variable (x0 x1 x2 : S1x16x4096x128.Idx → EReal) (h : Fin 16)

/-- The value the reference divides every score by. -/
theorem root_at (i : S_.Idx) : val_main_v0 (F := Ideal) i = Ideal.sqrt ((128 : ℝ) : EReal) := by
  rw [val_main_v0_apply, val_main_cst_apply, ← ofBits_128]; rfl

section
variable (hq : (headOf x0 h).Real) (hk : (headOf x1 h).Real)
include hq hk

/-- The global rows' scores. -/
theorem global_score (r : Fin 64) (n : Fin 4096) :
    val_main_v6 (F := Ideal) x0 x1 (ix4 0 h r n)
      = score (headOf x0 h) (headOf x1 h) ⟨r.1, by omega⟩ n := by
  rw [score_eq_div hq hk, val_main_v6_apply, val_main_v5_apply, root_at, val_main_v4_apply]
  refine congrArg (fun z => Ideal.div z _) (Finset.sum_congr rfl fun d _ => ?_)
  rw [val_main_v3_apply, eq_headOf x0 _ (h := h) (r := ⟨r.1, by omega⟩) (d := d) rfl rfl rfl,
    eq_headOf x1 _ (h := h) (r := n) (d := d) rfl rfl rfl]

/-- The number the reference takes off a global row's scores is real. -/
theorem fin1_global_max (r : Fin 64) : Fin1 (val_main_v9 (F := Ideal) x0 x1 (ix3 0 h r)) := by
  rw [val_main_v9_apply, val_main_v8_apply, val_main_cst_1_apply, Ideal.maximumf_def]
  unfold val_main_v7
  rw [host_max (s := S1x16x64x4096) (t := S1x16x64) (a := 3) (val_main_v6 (F := Ideal) x0 x1) _ _
    (by decide) _ (ix3 0 h r) ofBits_neg_inf (fun n : Fin 4096 => score (headOf x0 h) (headOf x1 h) ⟨r.1, by omega⟩ n) (fun n => by
      rw [← global_score x0 x1 h hq hk r n]
      congr 1; funext a
      match a with | ⟨0, _⟩ => rfl | ⟨1, _⟩ => rfl | ⟨2, _⟩ => rfl | ⟨3, _⟩ => rfl)]
  show Fin1 (max (Ideal.ofBits .f32 0xFF800000#32) _)
  rw [ofBits_neg_inf]
  exact fin1_fold_max _ (fun n => (fin1_score hq hk _ n).ne_top) (i₀ := (0 : Fin 4096)) (fin1_score hq hk _ _)

/-- The exponentials of a global row. -/
theorem global_exp (r : Fin 64) (n : Fin 4096) :
    val_main_v13 (F := Ideal) x0 x1 (ix4 0 h r n)
      = Ideal.exp (score (headOf x0 h) (headOf x1 h) ⟨r.1, by omega⟩ n
          - val_main_v9 (F := Ideal) x0 x1 (ix3 0 h r)) := by
  rw [val_main_v13_apply, val_main_v12_apply, global_score x0 x1 h hq hk, val_main_v11_apply,
    val_main_v10_apply]
  have e : idx_main_v10 (idx_main_v11 (ix4 0 h r n)) = ix3 0 h r := by
    funext a; match a with | ⟨0, _⟩ => rfl | ⟨1, _⟩ => rfl | ⟨2, _⟩ => rfl
  rw [e]; rfl

/-- The softmax weights of a global row. -/
theorem global_prob (r : Fin 64) (n : Fin 4096) :
    val_main_v17 (F := Ideal) x0 x1 (ix4 0 h r n)
      = Ideal.div (Ideal.exp (score (headOf x0 h) (headOf x1 h) ⟨r.1, by omega⟩ n
          - val_main_v9 (F := Ideal) x0 x1 (ix3 0 h r)))
        (∑ j, Ideal.exp (score (headOf x0 h) (headOf x1 h) ⟨r.1, by omega⟩ j
          - val_main_v9 (F := Ideal) x0 x1 (ix3 0 h r))) := by
  rw [val_main_v17_apply, global_exp x0 x1 h hq hk, val_main_v16_apply, val_main_v15_apply, val_main_v14_apply,
    val_main_cst_2_apply]
  refine congrArg (Ideal.div _) ?_
  show Ideal.ofBits .f32 0x00000000#32 + _ = _
  rw [Ideal.ofBits_zero_f32, zero_add]
  refine Finset.sum_congr rfl fun j _ => ?_
  rw [← global_exp x0 x1 h hq hk]
  congr 1; funext a
  match a with | ⟨0, _⟩ => rfl | ⟨1, _⟩ => rfl | ⟨2, _⟩ => rfl | ⟨3, _⟩ => rfl

/-- The reference's global rows average over all keys. -/
theorem global_out (r : Fin 64) (e : Fin 128) :
    val_main_v18 (F := Ideal) x0 x1 x2 (ix4 0 h r e)
      = average (fun n => score (headOf x0 h) (headOf x1 h) ⟨r.1, by omega⟩ n)
          (fun n => headOf x2 h n e) := by
  rw [val_main_v18_apply, ← sum_shifted_eq_average _ _ _ (fin1_global_max x0 x1 h hq hk r)
    (fun n => (fin1_score hq hk _ n).ne_top) (i₀ := (0 : Fin 4096)) (fin1_score hq hk _ _)]
  refine Finset.sum_congr rfl fun n _ => ?_
  rw [← global_prob x0 x1 h hq hk]
  refine congrArg₂ (· * ·) (congrArg _ ?_) (eq_headOf x2 _ rfl rfl rfl)
  funext a
  match a with | ⟨0, _⟩ => rfl | ⟨1, _⟩ => rfl | ⟨2, _⟩ => rfl | ⟨3, _⟩ => rfl

end

end Cert.Attn
-- ==== Proof.RefSelect.lean ====
module

public import proofs.«01_k».proof.Proof.RefGlobal
public import Idealize.ShloMosaic.Lib.ReduceAll
public import Idealize.ShloMosaic.Lib.Affine

/-! Which key and value rows the reference's index words select, and where its mask keeps a score. -/

@[expose] public section

noncomputable section

namespace Cert.Attn

open Idealize.ShloMosaic Idealize.ShloMosaic.ValueIdx
open Cert.ReferenceIdeal Cert.ReferenceIdeal.Gen Cert.ReferenceIdeal.Read

/-! ## Words -/

/-- A word clipped into 0 … 63 is the number of the block it selects. -/
theorem clip_eq (w : BitVec 32) :
    IntOp.minsi 63#32 (IntOp.maxsi 0#32 w) = BitVec.ofNat 32 (blockOf w).1 := by
  have h : Affine.IsInt (Scalar.minsi 63#32 (Scalar.maxsi 0#32 w)) (min 63 (max 0 w.toInt)) :=
    Affine.minsi (Affine.ofNat 63 ⟨rfl, by decide⟩)
      (Affine.maxsi (Affine.ofNat 0 ⟨rfl, by decide⟩) (Affine.word w) rfl) rfl
  have hn := Affine.nat_eq h (blockOf w).1 (by
    show min 63 (max 0 w.toInt) = ((min w.toInt.toNat 63 : Nat) : Int); omega)
  refine BitVec.eq_of_toNat_eq (Eq.trans hn ?_)
  rw [BitVec.toNat_ofNat, Nat.mod_eq_of_lt (by have := (blockOf w).2; omega)]

/-- A block's number, as a word, is not negative and at most 63. -/
theorem block_word : ∀ b : Fin 64,
    IntOp.cmpi .slt (BitVec.ofNat 32 b.1) 0#32 = 0#1 ∧ IntOp.cmpi .sge (BitVec.ofNat 32 b.1) 0#32 = 1#1
      ∧ IntOp.cmpi .sle (BitVec.ofNat 32 b.1) 63#32 = 1#1 ∧ (BitVec.ofNat 32 b.1).toInt.toNat = b.1 := by
  decide +kernel

/-- The position of row `n` of block `b` is at least 64 when the block is not block 0, and below 4096. -/
theorem position_word : ∀ b n : Fin 64,
    (IntOp.cmpi .sge (IntOp.addi (IntOp.muli (BitVec.ofNat 32 b.1) 64#32) (BitVec.ofNat 32 n.1)) 64#32 = 1#1 ↔ 1 ≤ b.1)
      ∧ IntOp.cmpi .slt (IntOp.addi (IntOp.muli (BitVec.ofNat 32 b.1) 64#32) (BitVec.ofNat 32 n.1)) 4096#32 = 1#1 := by
  decide +kernel

variable (x0 x1 x2 : S1x16x4096x128.Idx → EReal) (x3 : S64x6.Idx → BitVec 32) (h : Fin 16)

/-- The reference's clipped index words. -/
theorem clipped_apply (a : Fin 63) (j : Fin 6) :
    val_main_v20 (F := Ideal) x3 (ix2 a j) = BitVec.ofNat 32 (blockOf (x3 (ix2 ⟨1 + a.1, by omega⟩ j))).1 := by
  rw [val_main_v20_apply, val_main_call0_v2_apply, val_main_v19_apply, ← clip_eq]
  have e : idx_main_v19 (ix2 a j) = ix2 ⟨1 + a.1, by omega⟩ j := by
    funext b; match b with | ⟨0, _⟩ => rfl | ⟨1, _⟩ => rfl
  rw [e, val_main_call0_v4_apply, val_main_call0_v1_apply]
  rfl

/-! ## The mask -/

/-- The reference's mask keeps a selected position when its index word counts. -/
theorem mask_iff (a : Fin 63) (n : Fin 384) :
    val_main_v47 (F := Ideal) x3 (ix2 a n) = 1#1
      ↔ Live (x3 (ix2 ⟨1 + a.1, by omega⟩ ⟨n.1 / 64, by omega⟩)) := by
  have e : idx_main_v47 (ix2 a n) = ix3 a ⟨n.1 / 64, by omega⟩ ⟨n.1 % 64, by omega⟩ := by
    funext b
    apply Fin.ext
    match b with
    | ⟨0, _⟩ => show (a.1 * 384 + n.1) / 384 = a.1; omega
    | ⟨1, _⟩ => show (a.1 * 384 + n.1) / 64 % 6 = n.1 / 64; omega
    | ⟨2, _⟩ => show (a.1 * 384 + n.1) % 64 = n.1 % 64; omega
  generalize hw : x3 (ix2 ⟨1 + a.1, by omega⟩ ⟨n.1 / 64, by omega⟩) = w
  have hpos : val_main_v36 (F := Ideal) x3 (ix3 a ⟨n.1 / 64, by omega⟩ ⟨n.1 % 64, by omega⟩)
      = IntOp.addi (IntOp.muli (BitVec.ofNat 32 (blockOf w).1) 64#32) (BitVec.ofNat 32 (n.1 % 64)) := by
    rw [val_main_v36_apply, val_main_v34_apply, val_main_v31_apply, val_main_v29_apply, val_main_v35_apply,
      val_main_v33_apply, val_main_v32_apply, val_main_v30_apply, val_main_c_4_apply, ← hw]
    have e' : idx_main_v29 (idx_main_v34 (ix3 a ⟨n.1 / 64, by omega⟩ ⟨n.1 % 64, by omega⟩))
        = ix2 a ⟨n.1 / 64, by omega⟩ := by
      funext b; match b with | ⟨0, _⟩ => rfl | ⟨1, _⟩ => rfl
    rw [e', clipped_apply]
  have hword : val_main_v42 (F := Ideal) x3 (ix3 a ⟨n.1 / 64, by omega⟩ ⟨n.1 % 64, by omega⟩)
      = IntOp.cmpi .sge w 0#32 := by
    rw [val_main_v42_apply, val_main_v39_apply, val_main_v37_apply, val_main_v38_apply, val_main_c_5_apply,
      val_main_v19_apply, ← hw]
    refine congrArg (IntOp.cmpi .sge · 0#32) (congrArg x3 ?_)
    funext b; match b with | ⟨0, _⟩ => rfl | ⟨1, _⟩ => rfl
  obtain ⟨p1, p2⟩ := position_word (blockOf w) ⟨n.1 % 64, by omega⟩
  rw [val_main_v47_apply, e, val_main_v46_apply, val_main_v43_apply, val_main_v41_apply, val_main_v45_apply, hpos,
    hword, val_main_v40_apply, val_main_v44_apply, val_main_c_6_apply, val_main_c_7_apply, IntOp.andi_eq_one,
    IntOp.andi_eq_one, p1, p2, IntOp.cmpi_sge]
  simp only [Live, blockOf, BitVec.toInt_zero, and_true]
  omega

/-! ## The selected rows -/

/-- The start word of the gather, for block `t` of the 378 selected ones. -/
theorem start_word (t : Fin 378) :
    val_main_call1_v5 (F := Ideal) x3 (ix2 t 0)
      = BitVec.ofNat 32 (blockOf (x3 (ix2 ⟨1 + t.1 / 6, by omega⟩ ⟨t.1 % 6, by omega⟩))).1 := by
  have e : idx_main_v23 (idx_main_call1_v5 (ix2 t 0)) = ix2 ⟨t.1 / 6, by omega⟩ ⟨t.1 % 6, by omega⟩ := by
    funext b; match b with | ⟨0, _⟩ => rfl | ⟨1, _⟩ => rfl
  rw [val_main_call1_v5_apply, val_main_call1_v4_apply, val_main_call1_v1_apply, val_main_v23_apply, e, clipped_apply,
    val_main_call1_v0_apply, val_main_call1_c_apply, (block_word _).1]
  rfl

/-- Every start word is in range. -/
theorem in_range (t : Fin 378) : val_main_call1_v12 (F := Ideal) x3 (ix1 t) = 1#1 := by
  unfold val_main_call1_v12
  refine Host.reduce_andi_one _ _ _ _ _ rfl fun i => ?_
  obtain ⟨t', rfl⟩ : ∃ t' : Fin 378, i = ix2 t' 0 := ⟨i 0, by
    funext b
    match b with
    | ⟨0, _⟩ => rfl
    | ⟨1, _⟩ => exact Subsingleton.elim (α := Fin 1) _ _⟩
  rw [val_main_call1_v11_apply, val_main_call1_v7_apply, val_main_call1_v10_apply, start_word,
    val_main_call1_v6_apply, val_main_call1_c_2_apply, val_main_call1_v9_apply, val_main_call1_v8_apply,
    val_main_call1_c_1_apply, (block_word _).2.1, (block_word _).2.2.1]
  rfl

/-- The gather reads the block its start word names. -/
theorem gathered (t : Fin 378) (r : Fin 64) (d : Fin 128) (b : Fin 64)
    (hb : val_main_call1_v5 (F := Ideal) x3 (ix2 t 0) = BitVec.ofNat 32 b.1) :
    val_main_call1_v13 (F := Ideal) x1 x3 (ix5 0 h t r d) = headOf x1 h ⟨64 * b.1 + r.1, by omega⟩ d := by
  have hi : gather_S1x16x64x64x128_S378x1_S1x16x378x64x128_0134_2_n_n_2_1_116164128.operandIdx
      (ix5 0 h t r d) (val_main_call1_v5 (F := Ideal) x3) = ix5 0 h b r d := by
    funext a
    apply Fin.ext
    show GatherDims.start _ _ _ a + GatherDims.batchCoord _ _ a + GatherDims.offCoord _ _ a = _
    match a with
    | ⟨0, _⟩ => rfl
    | ⟨1, _⟩ => show 0 + 0 + h.1 = h.1; omega
    | ⟨2, _⟩ =>
      have hs : gather_S1x16x64x64x128_S378x1_S1x16x378x64x128_0134_2_n_n_2_1_116164128.siIdx (ix5 0 h t r d)
          ⟨0, by decide⟩ = ix2 t 0 := by
        funext c
        match c with
        | ⟨0, _⟩ => rfl
        | ⟨1, _⟩ => rfl
      show min (val_main_call1_v5 (F := Ideal) x3
          (gather_S1x16x64x64x128_S378x1_S1x16x378x64x128_0134_2_n_n_2_1_116164128.siIdx (ix5 0 h t r d)
            ⟨0, _⟩)).toInt.toNat 63 + 0 + 0 = b.1
      rw [hs, hb, (block_word b).2.2.2]
      omega
    | ⟨3, _⟩ => show 0 + 0 + r.1 = r.1; omega
    | ⟨4, _⟩ => show 0 + 0 + d.1 = d.1; omega
  unfold val_main_call1_v13 Host.gather
  rw [hi, val_main_v21_apply]
  refine eq_headOf x1 _ ?_ ?_ ?_
  · show ((((0 * 16 + h.1) * 64 + b.1) * 64 + r.1) * 128 + d.1) / 524288 % 16 = h.1; omega
  · show ((((0 * 16 + h.1) * 64 + b.1) * 64 + r.1) * 128 + d.1) / 128 % 4096 = 64 * b.1 + r.1; omega
  · show ((((0 * 16 + h.1) * 64 + b.1) * 64 + r.1) * 128 + d.1) % 128 = d.1; omega

/-- The reference's selected key rows. -/
theorem selected_apply (a : Fin 63) (n : Fin 384) (d : Fin 128) :
    val_main_v25 (F := Ideal) x1 x3 (ix5 0 h a n d)
      = headOf x1 h (keyRow (fun j => x3 (ix2 ⟨1 + a.1, by omega⟩ j)) n) d := by
  have e : idx_main_v25 (ix5 0 h a n d) = ix5 0 h ⟨6 * a.1 + n.1 / 64, by omega⟩ ⟨n.1 % 64, by omega⟩ d := by
    funext b
    apply Fin.ext
    match b with
    | ⟨0, _⟩ => rfl
    | ⟨1, _⟩ => show ((((0 * 16 + h.1) * 63 + a.1) * 384 + n.1) * 128 + d.1) / 3096576 % 16 = h.1; omega
    | ⟨2, _⟩ => show ((((0 * 16 + h.1) * 63 + a.1) * 384 + n.1) * 128 + d.1) / 8192 % 378 = 6 * a.1 + n.1 / 64; omega
    | ⟨3, _⟩ => show ((((0 * 16 + h.1) * 63 + a.1) * 384 + n.1) * 128 + d.1) / 128 % 64 = n.1 % 64; omega
    | ⟨4, _⟩ => show ((((0 * 16 + h.1) * 63 + a.1) * 384 + n.1) * 128 + d.1) % 128 = d.1; omega
  have e' : idx_main_call1_v14 (ix5 0 h ⟨6 * a.1 + n.1 / 64, by omega⟩ ⟨n.1 % 64, by omega⟩ d)
      = ix1 ⟨6 * a.1 + n.1 / 64, by omega⟩ := by
    funext b; match b with | ⟨0, _⟩ => rfl
  have hw : x3 (ix2 ⟨1 + (6 * a.1 + n.1 / 64) / 6, by omega⟩ ⟨(6 * a.1 + n.1 / 64) % 6, by omega⟩)
      = x3 (ix2 ⟨1 + a.1, by omega⟩ ⟨n.1 / 64, by omega⟩) := by
    congr 2 <;> apply Fin.ext <;> dsimp only <;> omega
  rw [val_main_v25_apply, e, val_main_v24_apply, val_main_call1_v14_apply, e', in_range]
  refine (gathered x1 x3 h _ _ d (blockOf (x3 (ix2 ⟨1 + a.1, by omega⟩ ⟨n.1 / 64, by omega⟩))) ?_).trans rfl
  rw [start_word, ← hw]

/-- The selected value rows are the same selection of the value array. -/
theorem selected_values : val_main_v28 (F := Ideal) x2 x3 = val_main_v25 (F := Ideal) x2 x3 := rfl

end Cert.Attn
-- ==== Proof.RefSparse.lean ====
module

public import proofs.«01_k».proof.Proof.RefSelect

/-! The reference's sparse rows, and with them its whole result: every head's attention output. -/

@[expose] public section

noncomputable section

namespace Cert.Attn

open Idealize.ShloMosaic Idealize.ShloMosaic.ValueIdx
open Cert.ReferenceIdeal Cert.ReferenceIdeal.Gen Cert.ReferenceIdeal.Read

variable (x0 x1 x2 : S1x16x4096x128.Idx → EReal) (x3 : S64x6.Idx → BitVec 32) (h : Fin 16)

/-- Row `r` of sparse block `a`, among the 4096 rows. -/
abbrev sparseRow (a : Fin 63) (r : Fin 64) : Fin 4096 := ⟨64 * (1 + a.1) + r.1, by omega⟩

/-- The six words of sparse block `a`. -/
abbrev sparseWords (a : Fin 63) : Fin 6 → BitVec 32 := fun j => x3 (ix2 ⟨1 + a.1, by omega⟩ j)

/-- The query rows of the sparse blocks. -/
theorem sparse_query (a : Fin 63) (r : Fin 64) (d : Fin 128) :
    val_main_v49 (F := Ideal) x0 (ix5 0 h a r d) = headOf x0 h (sparseRow a r) d := by
  rw [val_main_v49_apply, val_main_v48_apply]
  refine eq_headOf x0 _ ?_ ?_ ?_
  · show ((((0 * 16 + h.1) * 63 + a.1) * 64 + r.1) * 128 + d.1) / 516096 % 16 = h.1; omega
  · show 64 + ((((0 * 16 + h.1) * 63 + a.1) * 64 + r.1) * 128 + d.1) / 128 % 4032 = 64 * (1 + a.1) + r.1; omega
  · show ((((0 * 16 + h.1) * 63 + a.1) * 64 + r.1) * 128 + d.1) % 128 = d.1; omega

section
variable (hq : (headOf x0 h).Real) (hk : (headOf x1 h).Real)
include hq hk

/-- The scores against the global keys. -/
theorem sparse_global_score (a : Fin 63) (r n : Fin 64) :
    val_main_v52 (F := Ideal) x0 x1 (ix5 0 h a r n)
      = score (headOf x0 h) (headOf x1 h) (sparseRow a r) ⟨n.1, by omega⟩ := by
  rw [score_eq_div hq hk, val_main_v52_apply, val_main_v51_apply, root_at, val_main_v50_apply]
  refine congrArg (fun z => Ideal.div z _) (Finset.sum_congr rfl fun d _ => congrArg₂ (· * ·) ?_ ?_)
  · rw [← sparse_query]
    congr 1; funext b
    match b with | ⟨0, _⟩ => rfl | ⟨1, _⟩ => rfl | ⟨2, _⟩ => rfl | ⟨3, _⟩ => rfl | ⟨4, _⟩ => rfl
  · rw [val_main_v1_apply]
    exact eq_headOf x1 _ rfl rfl rfl

/-- The masked scores against the selected keys. -/
theorem sparse_selected_score (a : Fin 63) (r : Fin 64) (n : Fin 384) :
    val_main_v57 (F := Ideal) x0 x1 x3 (ix5 0 h a r n)
      = selScore (headOf x0 h) (headOf x1 h) (sparseWords x3 a) (sparseRow a r) n := by
  have hmask : idx_main_v56 (idx_main_call3_v1 (ix5 0 h a r n)) = ix2 a n := by
    funext b; match b with | ⟨0, _⟩ => rfl | ⟨1, _⟩ => rfl
  have hscore : val_main_v55 (F := Ideal) x0 x1 x3 (ix5 0 h a r n)
      = score (headOf x0 h) (headOf x1 h) (sparseRow a r) (keyRow (sparseWords x3 a) n) := by
    rw [score_eq_div hq hk, val_main_v55_apply, val_main_v54_apply, root_at, val_main_v53_apply]
    refine congrArg (fun z => Ideal.div z _) (Finset.sum_congr rfl fun d _ => congrArg₂ (· * ·) ?_ ?_)
    · rw [← sparse_query]
      congr 1; funext b
      match b with | ⟨0, _⟩ => rfl | ⟨1, _⟩ => rfl | ⟨2, _⟩ => rfl | ⟨3, _⟩ => rfl | ⟨4, _⟩ => rfl
    · rw [← selected_apply]
      congr 1; funext b
      match b with | ⟨0, _⟩ => rfl | ⟨1, _⟩ => rfl | ⟨2, _⟩ => rfl | ⟨3, _⟩ => rfl | ⟨4, _⟩ => rfl
  rw [val_main_v57_apply, hscore, val_main_call3_v1_apply, val_main_v56_apply, hmask, val_main_call3_v2_apply]
  unfold selScore Scalar.select
  by_cases hl : Live (sparseWords x3 a ⟨n.1 / 64, by omega⟩)
  · rw [if_pos hl]
    exact if_pos ((mask_iff x3 a n).mpr hl)
  · rw [if_neg hl]
    exact (if_neg fun hc => hl ((mask_iff x3 a n).mp hc)).trans ofBits_neg_inf

/-- The 448 scores of a sparse row. -/
theorem sparse_score (a : Fin 63) (r : Fin 64) (n : Fin 448) :
    val_main_v58 (F := Ideal) x0 x1 x3 (ix5 0 h a r n)
      = rowScore (headOf x0 h) (headOf x1 h) (sparseWords x3 a) (sparseRow a r) n := by
  unfold val_main_v58 rowScore
  split_ifs with hn
  · rw [← sparse_global_score x0 x1 h hq hk a r ⟨n.1, hn⟩]
    exact concatenate_pair_apply_left (s₁ := S1x16x63x64x64) (s₂ := S1x16x63x64x384) (t := S1x16x63x64x448) 4 _ _ _
      (ix5 0 h a r n) rfl (ix5 0 h a r ⟨n.1, hn⟩)
      fun b => match b with | ⟨0, _⟩ => rfl | ⟨1, _⟩ => rfl | ⟨2, _⟩ => rfl | ⟨3, _⟩ => rfl | ⟨4, _⟩ => rfl
  · rw [← sparse_selected_score x0 x1 x3 h hq hk a r ⟨n.1 - 64, by omega⟩]
    exact concatenate_pair_apply_right (s₁ := S1x16x63x64x64) (s₂ := S1x16x63x64x384) (t := S1x16x63x64x448) 4 _ _ _
      (ix5 0 h a r n) rfl rfl (ix5 0 h a r ⟨n.1 - 64, by omega⟩)
      (fun b => match b with
        | ⟨0, _⟩ => fun _ => rfl | ⟨1, _⟩ => fun _ => rfl | ⟨2, _⟩ => fun _ => rfl | ⟨3, _⟩ => fun _ => rfl
        | ⟨4, _⟩ => fun hb => absurd rfl hb)
      (by show n.1 - 64 + 64 = n.1; omega)

/-- The number the reference takes off a sparse row's scores is real. -/
theorem fin1_sparse_max (a : Fin 63) (r : Fin 64) :
    Fin1 (val_main_v61 (F := Ideal) x0 x1 x3 (ix4 0 h a r)) := by
  rw [val_main_v61_apply, val_main_v60_apply, val_main_cst_10_apply, Ideal.maximumf_def]
  unfold val_main_v59
  rw [host_max (s := S1x16x63x64x448) (t := S1x16x63x64) (a := 4) (val_main_v58 (F := Ideal) x0 x1 x3) _ _
    (by decide) _ (ix4 0 h a r) ofBits_neg_inf
    (fun n : Fin 448 => rowScore (headOf x0 h) (headOf x1 h) (sparseWords x3 a) (sparseRow a r) n) (fun n => by
      rw [← sparse_score x0 x1 x3 h hq hk a r n]
      congr 1; funext b
      match b with | ⟨0, _⟩ => rfl | ⟨1, _⟩ => rfl | ⟨2, _⟩ => rfl | ⟨3, _⟩ => rfl | ⟨4, _⟩ => rfl)]
  show Fin1 (max (Ideal.ofBits .f32 0xFF800000#32) _)
  rw [ofBits_neg_inf]
  exact fin1_fold_max _ (rowScore_ne_top hq hk _ _) (i₀ := (0 : Fin 448)) (fin1_rowScore_zero hq hk _ _)

/-- The exponentials of a sparse row. -/
theorem sparse_exp (a : Fin 63) (r : Fin 64) (n : Fin 448) :
    val_main_v65 (F := Ideal) x0 x1 x3 (ix5 0 h a r n)
      = Ideal.exp (rowScore (headOf x0 h) (headOf x1 h) (sparseWords x3 a) (sparseRow a r) n
          - val_main_v61 (F := Ideal) x0 x1 x3 (ix4 0 h a r)) := by
  rw [val_main_v65_apply, val_main_v64_apply, sparse_score x0 x1 x3 h hq hk, val_main_v63_apply, val_main_v62_apply]
  have e : idx_main_v62 (idx_main_v63 (ix5 0 h a r n)) = ix4 0 h a r := by
    funext b; match b with | ⟨0, _⟩ => rfl | ⟨1, _⟩ => rfl | ⟨2, _⟩ => rfl | ⟨3, _⟩ => rfl
  rw [e]; rfl

/-- The softmax weights of a sparse row. -/
theorem sparse_prob (a : Fin 63) (r : Fin 64) (n : Fin 448) :
    val_main_v69 (F := Ideal) x0 x1 x3 (ix5 0 h a r n)
      = Ideal.div (Ideal.exp (rowScore (headOf x0 h) (headOf x1 h) (sparseWords x3 a) (sparseRow a r) n
          - val_main_v61 (F := Ideal) x0 x1 x3 (ix4 0 h a r)))
        (∑ j, Ideal.exp (rowScore (headOf x0 h) (headOf x1 h) (sparseWords x3 a) (sparseRow a r) j
          - val_main_v61 (F := Ideal) x0 x1 x3 (ix4 0 h a r))) := by
  rw [val_main_v69_apply, sparse_exp x0 x1 x3 h hq hk, val_main_v68_apply, val_main_v67_apply, val_main_v66_apply,
    val_main_cst_11_apply]
  refine congrArg (Ideal.div _) ?_
  show Ideal.ofBits .f32 0x00000000#32 + _ = _
  rw [Ideal.ofBits_zero_f32, zero_add]
  refine Finset.sum_congr rfl fun j _ => ?_
  rw [← sparse_exp x0 x1 x3 h hq hk]
  congr 1; funext b
  match b with | ⟨0, _⟩ => rfl | ⟨1, _⟩ => rfl | ⟨2, _⟩ => rfl | ⟨3, _⟩ => rfl | ⟨4, _⟩ => rfl

/-- The reference's sparse rows average over the row's 448 positions. -/
theorem sparse_out (a : Fin 63) (r : Fin 64) (e : Fin 128) :
    val_main_v74 (F := Ideal) x0 x1 x2 x3 (ix5 0 h a r e)
      = average (rowScore (headOf x0 h) (headOf x1 h) (sparseWords x3 a) (sparseRow a r))
          (rowValue (headOf x2 h) (sparseWords x3 a) e) := by
  rw [← sum_shifted_eq_average _ _ _ (fin1_sparse_max x0 x1 x3 h hq hk a r) (rowScore_ne_top hq hk _ _)
    (i₀ := (0 : Fin 448)) (fin1_rowScore_zero hq hk _ _), sum_448, val_main_v74_apply,
    val_main_v72_apply, val_main_v73_apply]
  refine congrArg₂ (· + ·) (Finset.sum_congr rfl fun n _ => congrArg₂ (· * ·) ?_ ?_)
    (Finset.sum_congr rfl fun n _ => congrArg₂ (· * ·) ?_ ?_)
  · rw [← sparse_prob x0 x1 x3 h hq hk, val_main_v70_apply]
    congr 1; funext b
    match b with | ⟨0, _⟩ => rfl | ⟨1, _⟩ => rfl | ⟨2, _⟩ => rfl | ⟨3, _⟩ => rfl | ⟨4, _⟩ => rfl
  · rw [rowValue_left, val_main_v2_apply]
    exact eq_headOf x2 _ rfl rfl rfl
  · rw [← sparse_prob x0 x1 x3 h hq hk, val_main_v71_apply]
    congr 1; funext b
    match b with | ⟨0, _⟩ => rfl | ⟨1, _⟩ => rfl | ⟨2, _⟩ => rfl | ⟨3, _⟩ => rfl | ⟨4, _⟩ => rfl
  · rw [rowValue_right, selected_values, ← selected_apply]
    congr 1; funext b
    match b with | ⟨0, _⟩ => rfl | ⟨1, _⟩ => rfl | ⟨2, _⟩ => rfl | ⟨3, _⟩ => rfl | ⟨4, _⟩ => rfl

/-- The reference's result at head `h`, row `r` and feature `e`. -/
theorem reference_array (r : Fin 4096) (e : Fin 128) :
    val_main_v76 (F := Ideal) x0 x1 x2 x3 (ix4 0 h r e)
      = attn (headOf x0 h) (headOf x1 h) (headOf x2 h) (fun a j => x3 (ix2 a j)) r e := by
  unfold val_main_v76 attn
  split_ifs with hr
  · rw [← global_out x0 x1 x2 h hq hk ⟨r.1, hr⟩ e]
    exact concatenate_pair_apply_left (s₁ := S1x16x64x128) (s₂ := S1x16x4032x128) (t := S1x16x4096x128) 2 _ _ _
      (ix4 0 h r e) rfl (ix4 0 h ⟨r.1, hr⟩ e)
      fun b => match b with | ⟨0, _⟩ => rfl | ⟨1, _⟩ => rfl | ⟨2, _⟩ => rfl | ⟨3, _⟩ => rfl
  · have hrow : sparseRow ⟨r.1 / 64 - 1, by omega⟩ ⟨r.1 % 64, by omega⟩ = r := Fin.ext (by
      show 64 * (1 + (r.1 / 64 - 1)) + r.1 % 64 = r.1; omega)
    have hwords : sparseWords x3 ⟨r.1 / 64 - 1, by omega⟩ = fun j => x3 (ix2 ⟨r.1 / 64, by omega⟩ j) := by
      funext j
      refine congrArg (fun a => x3 (ix2 a j)) (Fin.ext ?_)
      show 1 + (r.1 / 64 - 1) = r.1 / 64; omega
    have hidx : idx_main_v75 (ix4 0 h ⟨r.1 - 64, by omega⟩ e)
        = ix5 0 h ⟨r.1 / 64 - 1, by omega⟩ ⟨r.1 % 64, by omega⟩ e := by
      funext b
      apply Fin.ext
      match b with
      | ⟨0, _⟩ => rfl
      | ⟨1, _⟩ => show (((0 * 16 + h.1) * 4032 + (r.1 - 64)) * 128 + e.1) / 516096 % 16 = h.1; omega
      | ⟨2, _⟩ => show (((0 * 16 + h.1) * 4032 + (r.1 - 64)) * 128 + e.1) / 8192 % 63 = r.1 / 64 - 1; omega
      | ⟨3, _⟩ => show (((0 * 16 + h.1) * 4032 + (r.1 - 64)) * 128 + e.1) / 128 % 64 = r.1 % 64; omega
      | ⟨4, _⟩ => show (((0 * 16 + h.1) * 4032 + (r.1 - 64)) * 128 + e.1) % 128 = e.1; omega
    have hs := sparse_out x0 x1 x2 x3 h hq hk ⟨r.1 / 64 - 1, by omega⟩ ⟨r.1 % 64, by omega⟩ e
    rw [hrow, hwords, ← hidx, ← val_main_v75_apply] at hs
    refine Eq.trans ?_ hs
    exact concatenate_pair_apply_right (s₁ := S1x16x64x128) (s₂ := S1x16x4032x128) (t := S1x16x4096x128) 2 _ _ _
      (ix4 0 h r e) rfl rfl (ix4 0 h ⟨r.1 - 64, by omega⟩ e)
      (fun b => match b with
        | ⟨0, _⟩ => fun _ => rfl | ⟨1, _⟩ => fun _ => rfl | ⟨2, _⟩ => fun hb => absurd rfl hb
        | ⟨3, _⟩ => fun _ => rfl)
      (by show r.1 - 64 + 64 = r.1; omega)

end

end Cert.Attn
-- ==== Proof.Finite.lean ====
module

public import proofs.«01_k».proof.Proof.Spec
public import proofs.«01_k».proof.Proof.Gen.Pre_finite
public import Idealize.ShloMosaic.Lib.ReduceAll
public import Idealize.ShloMosaic.Lib.Affine

/-! What the precondition says: every entry of the queries and the keys is a real number. -/

@[expose] public section

noncomputable section

namespace Cert.Attn

open Idealize.ShloMosaic Idealize.ShloMosaic.ValueIdx Cert.Pre_finite

/-- The word the test compares a magnitude with is +∞. -/
theorem ofBits_pos_inf : Ideal.ofBits .f32 0x7F800000#32 = ⊤ := by
  simp [Ideal.ofBits, Ideal.ieee]

/-- An entry whose magnitude tests below +∞ is a real number. -/
theorem fin1_of_test {x : EReal} (h : Ideal.cmp .olt (max x (-x)) (Ideal.ofBits .f32 0x7F800000#32) = 1#1) : Fin1 x := by
  rw [ofBits_pos_inf] at h
  by_contra hx
  have hn : ¬ max x (-x) < ⊤ := fun hl => hx (Fin1.of_abs_lt hl)
  simp [Ideal.cmp, hn] at h

/-- An array whose every entry passes the test has real heads. -/
theorem real_of_test (X : FVec Ideal S1x16x4096x128 .f32)
    (e : Host.reduce IntOp.andi
      (cmpf .olt (Host.absf X) (broadcastInDim S1x16x4096x128 ![] Facts.bcast_S_S1x16x4096x128
        (constant (F := Ideal) S_ .f32 0x7F800000#32)))
      (constantI S_ 1 1#1) Facts.reducesTo_S1x16x4096x128_S_d0_1_2_3 Facts.h_S_ ix0 = 1#1) (h : Fin 16) :
    (headOf X h).Real := fun r d =>
  have : Subsingleton S_.Idx := ⟨fun a b => funext fun i => i.elim0⟩
  fin1_of_test (Host.reduce_andi_all _ _ _ _ _ e (ix4 0 h r d))

/-- The precondition makes every head of the queries and of the keys real. -/
theorem real_of_finite (q k v : FVec Ideal S1x16x4096x128 .f32) (b : IVec S64x6 32)
    (e : fn (F := Ideal) q k v b = fun _ => 1#1) (h : Fin 16) : (headOf q h).Real ∧ (headOf k h).Real := by
  obtain ⟨hq, hk⟩ := IntOp.andi_eq_one.mp (congrFun e ix0)
  exact ⟨real_of_test q hq h, real_of_test k hk h⟩

end Cert.Attn
-- ==== Proof.Value.lean ====
module

public import proofs.«01_k».proof.Defs
public import proofs.«01_k».proof.Proof.KernelArray
public import proofs.«01_k».proof.Proof.RefSparse
public import proofs.«01_k».proof.Proof.Finite
public import proofs.«01_k».proof.Proof.Gen.ReferenceIdeal.Run

/-! The kernel and the reference end with the same array: the attention output, at every index. -/

@[expose] public section

noncomputable section

namespace Cert.Attn

open Idealize.ShloMosaic Idealize.ShloMosaic.TcCoe Idealize.ShloMosaic.ValueIdx Idealize.SL.Sem

/-- The attention output of the arrays `q`, `k` and `v` and the table `b`, as one array. -/
def attnArray (q k v : (⟨4, ![1, 16, 4096, 128]⟩ : Shape).Idx → EReal) (b : (⟨2, ![64, 6]⟩ : Shape).Idx → BitVec 32) :
    (⟨4, ![1, 16, 4096, 128]⟩ : Shape).Idx → EReal :=
  fun j => attn (headOf q (j 1)) (headOf k (j 1)) (headOf v (j 1)) (fun a i => b (ix2 a i)) (j 2) (j 3)

/-- An array that holds the attention output at every head, row and feature is the attention output. -/
theorem eq_attnArray {X q k v : (⟨4, ![1, 16, 4096, 128]⟩ : Shape).Idx → EReal}
    {b : (⟨2, ![64, 6]⟩ : Shape).Idx → BitVec 32}
    (e : ∀ h r d, X (ix4 0 h r d) = attn (headOf q h) (headOf k h) (headOf v h) (fun a i => b (ix2 a i)) r d) :
    X = attnArray q k v b := by
  funext j
  have hj : j = ix4 0 (j 1) (j 2) (j 3) := by
    funext a
    match a with
    | ⟨0, _⟩ => exact Subsingleton.elim (α := Fin 1) _ _
    | ⟨1, _⟩ => rfl
    | ⟨2, _⟩ => rfl
    | ⟨3, _⟩ => rfl
  exact (congrArg X hj).trans (e (j 1) (j 2) (j 3))

/-- The kernel's result array is the attention output of its arguments, whatever they hold. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 4 Cert.KernelIdeal.cfg0.N
      = attnArray (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) :=
  eq_attnArray fun h r d => kernel_array m c h r d

/-- The reference's result is the attention output of its arguments when the queries and keys are real. -/
theorem reference_result (q k v : FVec Ideal Cert.ReferenceIdeal.S1x16x4096x128 .f32) (b : IVec Cert.ReferenceIdeal.S64x6 32)
    (e : Cert.Pre_finite.fn (F := Ideal) q k v b = fun _ => 1#1) :
    Cert.ReferenceIdeal.Read.val_main_v76 (F := Ideal) q k v b = attnArray q k v b :=
  eq_attnArray fun h r d =>
    have hr := real_of_finite q k v b e h
    reference_array q k v b h hr.1 hr.2 r d

/-- From memories that agree on the arguments, the kernel and the reference both run and end with the attention
output of those arguments as their result, the arguments unchanged. -/
theorem same_result : Cert.algebraic_KernelIdeal_ReferenceIdeal_pre_finite := by
  intro m g m' g' hpre hargs
  refine ⟨fun c => attnArray (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono (fun r hr c => ⟨(hr c).1.trans (kernel_result m c), (hr c).2⟩)
      (Cert.KernelIdeal.Value.run_blocks m g)
  · refine (θ_run Cert.ReferenceIdeal.defs _ _).mono (fun r hr c => ⟨(hr c).1.trans ?_, (hr c).2⟩)
      (Cert.ReferenceIdeal.Value.run m' g')
    obtain ⟨e0, e1, e2, e3⟩ := hargs c
    rw [Cert.ReferenceIdeal.Read.val_main_v76_eq, e0, e1, e2, e3]
    exact reference_result _ _ _ _ (hpre c)

end Cert.Attn
-- ==== Proof.lean ====
module

public import proofs.«01_k».proof.Defs
public import proofs.«01_k».proof.Proof.Gen.Kernel
public import proofs.«01_k».proof.Proof.Gen.Kernel.Frame
public import proofs.«01_k».proof.Proof.Value

@[expose] public section

noncomputable section

namespace Cert.Proof

open Idealize.ShloMosaic Idealize.SL.Sem

/-- The kernel over machine floats runs, keeps its arguments and leaves every semaphore at zero. -/
theorem kernel_frame : Cert.quiescent_Kernel := fun m g _ => Cert.Kernel.Gen.frame m g

/-- So does the kernel over the extended reals. -/
theorem ideal_frame : Cert.quiescent_KernelIdeal := fun m g _ => Cert.KernelIdeal.Gen.frame m g

/-- So does the reference over the extended reals, which uses no semaphore. -/
theorem reference_frame : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run m g)

/-- The two named constants stand for the two words the kernel was printed with. -/
theorem named_constants : Cert.preserves_Kernel_KernelIdeal :=
  ⟨IdealRules.named_const.statement Cert.KernelIdeal.κ "s" .f32 0x3DB504F3#32 _ rfl,
    IdealRules.named_const.statement Cert.KernelIdeal.κ "mask" .f32 0xF149F2CA#32 _ rfl⟩

/-- Every claim of the certificate. The frames under the precondition are the frames without it. -/
theorem claim : Cert.Claim :=
  ⟨Cert.Kernel.Gen.facts, Cert.KernelIdeal.Gen.facts, Cert.ReferenceIdeal.Gen.facts, Cert.Pre_finite.Gen.facts,
    kernel_frame, ideal_frame, fun m g _ => ideal_frame m g trivial, reference_frame,
    fun m g _ => reference_frame m g trivial, named_constants, Cert.Attn.same_result⟩

end Cert.Proof

end
